-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_Gains (m : (ℓ : Loc Cert.Gains.nD Cert.Gains.τ Cert.Gains.sig) → Buf (Elt Bits) ℓ) : Prop :=
  True

def Pre_GainsIdeal (m : (ℓ : Loc Cert.GainsIdeal.nD Cert.GainsIdeal.τ Cert.GainsIdeal.sig) → Buf (Elt Ideal) ℓ) : Prop :=
  True

def Pre_GainsRefIdeal (m : (ℓ : Loc Cert.GainsRefIdeal.nD Cert.GainsRefIdeal.τ Cert.GainsRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_State (m : (ℓ : Loc Cert.State.nD Cert.State.τ Cert.State.sig) → Buf (Elt Bits) ℓ) : Prop :=
  True

def Pre_StateIdeal (m : (ℓ : Loc Cert.StateIdeal.nD Cert.StateIdeal.τ Cert.StateIdeal.sig) → Buf (Elt Ideal) ℓ) : Prop :=
  True

def Pre_StateRefIdeal (m : (ℓ : Loc Cert.StateRefIdeal.nD Cert.StateRefIdeal.τ Cert.StateRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5)
      ∧ r.2.mem ((c.tc : Thread Cert.Norm.nD Cert.Norm.τ).loc Cert.Norm.main_arg6) = m ((c.tc : Thread Cert.Norm.nD Cert.Norm.τ).loc Cert.Norm.main_arg6))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1)
      ∧ r.2.mem ((c.tc : Thread Cert.Rope.nD Cert.Rope.τ).loc Cert.Rope.main_arg2) = m ((c.tc : Thread Cert.Rope.nD Cert.Rope.τ).loc Cert.Rope.main_arg2)
      ∧ r.2.mem ((c.tc : Thread Cert.Rope.nD Cert.Rope.τ).loc Cert.Rope.main_arg3) = m ((c.tc : Thread Cert.Rope.nD Cert.Rope.τ).loc Cert.Rope.main_arg3))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
      ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
      ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0)
      ∧ r.2.mem ((c.tc : Thread Cert.RopeRefIdeal.nD Cert.RopeRefIdeal.τ).loc Cert.RopeRefIdeal.main_arg1) = m ((c.tc : Thread Cert.RopeRefIdeal.nD Cert.RopeRefIdeal.τ).loc Cert.RopeRefIdeal.main_arg1)
      ∧ r.2.mem ((c.tc : Thread Cert.RopeRefIdeal.nD Cert.RopeRefIdeal.τ).loc Cert.RopeRefIdeal.main_arg2) = m ((c.tc : Thread Cert.RopeRefIdeal.nD Cert.RopeRefIdeal.τ).loc Cert.RopeRefIdeal.main_arg2)
      ∧ r.2.mem ((c.tc : Thread Cert.RopeRefIdeal.nD Cert.RopeRefIdeal.τ).loc Cert.RopeRefIdeal.main_arg3) = m ((c.tc : Thread Cert.RopeRefIdeal.nD Cert.RopeRefIdeal.τ).loc Cert.RopeRefIdeal.main_arg3))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8))
      ∧ r.2.sem = fun _ => 0)

def quiescent_Gains [hGains : Cert.Gains.Facts] : Prop :=
  ∀ (m : (ℓ : Loc Cert.Gains.nD Cert.Gains.τ Cert.Gains.sig) → Buf (Elt Bits) ℓ) (g : Dev Cert.Gains.nD → PrngReg), Pre_Gains m →
    θ_run (Cert.Gains.defs (F := Bits)) (onTc (τ := Cert.Gains.τ) (Cert.Gains.main (F := Bits))) ⟨m, fun _ => 0, g⟩ (fun r => (∀ c : Dev Cert.Gains.nD,
      r.2.mem ((c.tc : Thread Cert.Gains.nD Cert.Gains.τ).loc Cert.Gains.main_arg0) = m ((c.tc : Thread Cert.Gains.nD Cert.Gains.τ).loc Cert.Gains.main_arg0)
      ∧ r.2.mem ((c.tc : Thread Cert.Gains.nD Cert.Gains.τ).loc Cert.Gains.main_arg1) = m ((c.tc : Thread Cert.Gains.nD Cert.Gains.τ).loc Cert.Gains.main_arg1)
      ∧ r.2.mem ((c.tc : Thread Cert.Gains.nD Cert.Gains.τ).loc Cert.Gains.main_arg2) = m ((c.tc : Thread Cert.Gains.nD Cert.Gains.τ).loc Cert.Gains.main_arg2)
      ∧ r.2.mem ((c.tc : Thread Cert.Gains.nD Cert.Gains.τ).loc Cert.Gains.main_arg3) = m ((c.tc : Thread Cert.Gains.nD Cert.Gains.τ).loc Cert.Gains.main_arg3)
      ∧ r.2.mem ((c.tc : Thread Cert.Gains.nD Cert.Gains.τ).loc Cert.Gains.main_arg4) = m ((c.tc : Thread Cert.Gains.nD Cert.Gains.τ).loc Cert.Gains.main_arg4)
      ∧ r.2.mem ((c.tc : Thread Cert.Gains.nD Cert.Gains.τ).loc Cert.Gains.main_arg5) = m ((c.tc : Thread Cert.Gains.nD Cert.Gains.τ).loc Cert.Gains.main_arg5)
      ∧ r.2.mem ((c.tc : Thread Cert.Gains.nD Cert.Gains.τ).loc Cert.Gains.main_arg6) = m ((c.tc : Thread Cert.Gains.nD Cert.Gains.τ).loc Cert.Gains.main_arg6)
      ∧ r.2.mem ((c.tc : Thread Cert.Gains.nD Cert.Gains.τ).loc Cert.Gains.main_arg7) = m ((c.tc : Thread Cert.Gains.nD Cert.Gains.τ).loc Cert.Gains.main_arg7)
      ∧ r.2.mem ((c.tc : Thread Cert.Gains.nD Cert.Gains.τ).loc Cert.Gains.main_arg8) = m ((c.tc : Thread Cert.Gains.nD Cert.Gains.τ).loc Cert.Gains.main_arg8)
      ∧ r.2.mem ((c.tc : Thread Cert.Gains.nD Cert.Gains.τ).loc Cert.Gains.main_arg9) = m ((c.tc : Thread Cert.Gains.nD Cert.Gains.τ).loc Cert.Gains.main_arg9))
      ∧ r.2.sem = fun _ => 0)

def quiescent_GainsIdeal [hGainsIdeal : Cert.GainsIdeal.Facts] : Prop :=
  ∀ (m : (ℓ : Loc Cert.GainsIdeal.nD Cert.GainsIdeal.τ Cert.GainsIdeal.sig) → Buf (Elt Ideal) ℓ) (g : Dev Cert.GainsIdeal.nD → PrngReg), Pre_GainsIdeal m →
    θ_run (Cert.GainsIdeal.defs (F := Ideal)) (onTc (τ := Cert.GainsIdeal.τ) (Cert.GainsIdeal.main (F := Ideal))) ⟨m, fun _ => 0, g⟩ (fun r => (∀ c : Dev Cert.GainsIdeal.nD,
      r.2.mem ((c.tc : Thread Cert.GainsIdeal.nD Cert.GainsIdeal.τ).loc Cert.GainsIdeal.main_arg0) = m ((c.tc : Thread Cert.GainsIdeal.nD Cert.GainsIdeal.τ).loc Cert.GainsIdeal.main_arg0)
      ∧ r.2.mem ((c.tc : Thread Cert.GainsIdeal.nD Cert.GainsIdeal.τ).loc Cert.GainsIdeal.main_arg1) = m ((c.tc : Thread Cert.GainsIdeal.nD Cert.GainsIdeal.τ).loc Cert.GainsIdeal.main_arg1)
      ∧ r.2.mem ((c.tc : Thread Cert.GainsIdeal.nD Cert.GainsIdeal.τ).loc Cert.GainsIdeal.main_arg2) = m ((c.tc : Thread Cert.GainsIdeal.nD Cert.GainsIdeal.τ).loc Cert.GainsIdeal.main_arg2)
      ∧ r.2.mem ((c.tc : Thread Cert.GainsIdeal.nD Cert.GainsIdeal.τ).loc Cert.GainsIdeal.main_arg3) = m ((c.tc : Thread Cert.GainsIdeal.nD Cert.GainsIdeal.τ).loc Cert.GainsIdeal.main_arg3)
      ∧ r.2.mem ((c.tc : Thread Cert.GainsIdeal.nD Cert.GainsIdeal.τ).loc Cert.GainsIdeal.main_arg4) = m ((c.tc : Thread Cert.GainsIdeal.nD Cert.GainsIdeal.τ).loc Cert.GainsIdeal.main_arg4)
      ∧ r.2.mem ((c.tc : Thread Cert.GainsIdeal.nD Cert.GainsIdeal.τ).loc Cert.GainsIdeal.main_arg5) = m ((c.tc : Thread Cert.GainsIdeal.nD Cert.GainsIdeal.τ).loc Cert.GainsIdeal.main_arg5)
      ∧ r.2.mem ((c.tc : Thread Cert.GainsIdeal.nD Cert.GainsIdeal.τ).loc Cert.GainsIdeal.main_arg6) = m ((c.tc : Thread Cert.GainsIdeal.nD Cert.GainsIdeal.τ).loc Cert.GainsIdeal.main_arg6)
      ∧ r.2.mem ((c.tc : Thread Cert.GainsIdeal.nD Cert.GainsIdeal.τ).loc Cert.GainsIdeal.main_arg7) = m ((c.tc : Thread Cert.GainsIdeal.nD Cert.GainsIdeal.τ).loc Cert.GainsIdeal.main_arg7)
      ∧ r.2.mem ((c.tc : Thread Cert.GainsIdeal.nD Cert.GainsIdeal.τ).loc Cert.GainsIdeal.main_arg8) = m ((c.tc : Thread Cert.GainsIdeal.nD Cert.GainsIdeal.τ).loc Cert.GainsIdeal.main_arg8)
      ∧ r.2.mem ((c.tc : Thread Cert.GainsIdeal.nD Cert.GainsIdeal.τ).loc Cert.GainsIdeal.main_arg9) = m ((c.tc : Thread Cert.GainsIdeal.nD Cert.GainsIdeal.τ).loc Cert.GainsIdeal.main_arg9))
      ∧ r.2.sem = fun _ => 0)

def quiescent_GainsRefIdeal [hGainsRefIdeal : Cert.GainsRefIdeal.Facts] : Prop :=
  ∀ (m : (ℓ : Loc Cert.GainsRefIdeal.nD Cert.GainsRefIdeal.τ Cert.GainsRefIdeal.sig) → Buf (Elt Ideal) ℓ) (g : Dev Cert.GainsRefIdeal.nD → PrngReg), Pre_GainsRefIdeal m →
    θ_run (Cert.GainsRefIdeal.defs (F := Ideal)) (onTc (τ := Cert.GainsRefIdeal.τ) (Cert.GainsRefIdeal.main (F := Ideal))) ⟨m, fun _ => 0, g⟩ (fun r => (∀ c : Dev Cert.GainsRefIdeal.nD,
      r.2.mem ((c.tc : Thread Cert.GainsRefIdeal.nD Cert.GainsRefIdeal.τ).loc Cert.GainsRefIdeal.main_arg0) = m ((c.tc : Thread Cert.GainsRefIdeal.nD Cert.GainsRefIdeal.τ).loc Cert.GainsRefIdeal.main_arg0)
      ∧ r.2.mem ((c.tc : Thread Cert.GainsRefIdeal.nD Cert.GainsRefIdeal.τ).loc Cert.GainsRefIdeal.main_arg1) = m ((c.tc : Thread Cert.GainsRefIdeal.nD Cert.GainsRefIdeal.τ).loc Cert.GainsRefIdeal.main_arg1)
      ∧ r.2.mem ((c.tc : Thread Cert.GainsRefIdeal.nD Cert.GainsRefIdeal.τ).loc Cert.GainsRefIdeal.main_arg2) = m ((c.tc : Thread Cert.GainsRefIdeal.nD Cert.GainsRefIdeal.τ).loc Cert.GainsRefIdeal.main_arg2)
      ∧ r.2.mem ((c.tc : Thread Cert.GainsRefIdeal.nD Cert.GainsRefIdeal.τ).loc Cert.GainsRefIdeal.main_arg3) = m ((c.tc : Thread Cert.GainsRefIdeal.nD Cert.GainsRefIdeal.τ).loc Cert.GainsRefIdeal.main_arg3)
      ∧ r.2.mem ((c.tc : Thread Cert.GainsRefIdeal.nD Cert.GainsRefIdeal.τ).loc Cert.GainsRefIdeal.main_arg4) = m ((c.tc : Thread Cert.GainsRefIdeal.nD Cert.GainsRefIdeal.τ).loc Cert.GainsRefIdeal.main_arg4)
      ∧ r.2.mem ((c.tc : Thread Cert.GainsRefIdeal.nD Cert.GainsRefIdeal.τ).loc Cert.GainsRefIdeal.main_arg5) = m ((c.tc : Thread Cert.GainsRefIdeal.nD Cert.GainsRefIdeal.τ).loc Cert.GainsRefIdeal.main_arg5)
      ∧ r.2.mem ((c.tc : Thread Cert.GainsRefIdeal.nD Cert.GainsRefIdeal.τ).loc Cert.GainsRefIdeal.main_arg6) = m ((c.tc : Thread Cert.GainsRefIdeal.nD Cert.GainsRefIdeal.τ).loc Cert.GainsRefIdeal.main_arg6)
      ∧ r.2.mem ((c.tc : Thread Cert.GainsRefIdeal.nD Cert.GainsRefIdeal.τ).loc Cert.GainsRefIdeal.main_arg7) = m ((c.tc : Thread Cert.GainsRefIdeal.nD Cert.GainsRefIdeal.τ).loc Cert.GainsRefIdeal.main_arg7)
      ∧ r.2.mem ((c.tc : Thread Cert.GainsRefIdeal.nD Cert.GainsRefIdeal.τ).loc Cert.GainsRefIdeal.main_arg8) = m ((c.tc : Thread Cert.GainsRefIdeal.nD Cert.GainsRefIdeal.τ).loc Cert.GainsRefIdeal.main_arg8)
      ∧ r.2.mem ((c.tc : Thread Cert.GainsRefIdeal.nD Cert.GainsRefIdeal.τ).loc Cert.GainsRefIdeal.main_arg9) = m ((c.tc : Thread Cert.GainsRefIdeal.nD Cert.GainsRefIdeal.τ).loc Cert.GainsRefIdeal.main_arg9))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3)
      ∧ r.2.mem ((c.tc : Thread Cert.Adam.nD Cert.Adam.τ).loc Cert.Adam.main_arg4) = m ((c.tc : Thread Cert.Adam.nD Cert.Adam.τ).loc Cert.Adam.main_arg4)
      ∧ r.2.mem ((c.tc : Thread Cert.Adam.nD Cert.Adam.τ).loc Cert.Adam.main_arg5) = m ((c.tc : Thread Cert.Adam.nD Cert.Adam.τ).loc Cert.Adam.main_arg5)
      ∧ r.2.mem ((c.tc : Thread Cert.Adam.nD Cert.Adam.τ).loc Cert.Adam.main_arg6) = m ((c.tc : Thread Cert.Adam.nD Cert.Adam.τ).loc Cert.Adam.main_arg6)
      ∧ r.2.mem ((c.tc : Thread Cert.Adam.nD Cert.Adam.τ).loc Cert.Adam.main_arg7) = m ((c.tc : Thread Cert.Adam.nD Cert.Adam.τ).loc Cert.Adam.main_arg7)
      ∧ r.2.mem ((c.tc : Thread Cert.Adam.nD Cert.Adam.τ).loc Cert.Adam.main_arg8) = m ((c.tc : Thread Cert.Adam.nD Cert.Adam.τ).loc Cert.Adam.main_arg8)
      ∧ r.2.mem ((c.tc : Thread Cert.Adam.nD Cert.Adam.τ).loc Cert.Adam.main_arg9) = m ((c.tc : Thread Cert.Adam.nD Cert.Adam.τ).loc Cert.Adam.main_arg9)
      ∧ r.2.mem ((c.tc : Thread Cert.Adam.nD Cert.Adam.τ).loc Cert.Adam.main_arg10) = m ((c.tc : Thread Cert.Adam.nD Cert.Adam.τ).loc Cert.Adam.main_arg10)
      ∧ r.2.mem ((c.tc : Thread Cert.Adam.nD Cert.Adam.τ).loc Cert.Adam.main_arg11) = m ((c.tc : Thread Cert.Adam.nD Cert.Adam.τ).loc Cert.Adam.main_arg11)
      ∧ r.2.mem ((c.tc : Thread Cert.Adam.nD Cert.Adam.τ).loc Cert.Adam.main_arg12) = m ((c.tc : Thread Cert.Adam.nD Cert.Adam.τ).loc Cert.Adam.main_arg12)
      ∧ r.2.mem ((c.tc : Thread Cert.Adam.nD Cert.Adam.τ).loc Cert.Adam.main_arg13) = m ((c.tc : Thread Cert.Adam.nD Cert.Adam.τ).loc Cert.Adam.main_arg13)
      ∧ r.2.mem ((c.tc : Thread Cert.Adam.nD Cert.Adam.τ).loc Cert.Adam.main_arg14) = m ((c.tc : Thread Cert.Adam.nD Cert.Adam.τ).loc Cert.Adam.main_arg14)
      ∧ r.2.mem ((c.tc : Thread Cert.Adam.nD Cert.Adam.τ).loc Cert.Adam.main_arg15) = m ((c.tc : Thread Cert.Adam.nD Cert.Adam.τ).loc Cert.Adam.main_arg15)
      ∧ r.2.mem ((c.tc : Thread Cert.Adam.nD Cert.Adam.τ).loc Cert.Adam.main_arg16) = m ((c.tc : Thread Cert.Adam.nD Cert.Adam.τ).loc Cert.Adam.main_arg16)
      ∧ r.2.mem ((c.tc : Thread Cert.Adam.nD Cert.Adam.τ).loc Cert.Adam.main_arg17) = m ((c.tc : Thread Cert.Adam.nD Cert.Adam.τ).loc Cert.Adam.main_arg17)
      ∧ r.2.mem ((c.tc : Thread Cert.Adam.nD Cert.Adam.τ).loc Cert.Adam.main_arg18) = m ((c.tc : Thread Cert.Adam.nD Cert.Adam.τ).loc Cert.Adam.main_arg18)
      ∧ r.2.mem ((c.tc : Thread Cert.Adam.nD Cert.Adam.τ).loc Cert.Adam.main_arg19) = m ((c.tc : Thread Cert.Adam.nD Cert.Adam.τ).loc Cert.Adam.main_arg19)
      ∧ r.2.mem ((c.tc : Thread Cert.Adam.nD Cert.Adam.τ).loc Cert.Adam.main_arg20) = m ((c.tc : Thread Cert.Adam.nD Cert.Adam.τ).loc Cert.Adam.main_arg20)
      ∧ r.2.mem ((c.tc : Thread Cert.Adam.nD Cert.Adam.τ).loc Cert.Adam.main_arg21) = m ((c.tc : Thread Cert.Adam.nD Cert.Adam.τ).loc Cert.Adam.main_arg21)
      ∧ r.2.mem ((c.tc : Thread Cert.Adam.nD Cert.Adam.τ).loc Cert.Adam.main_arg22) = m ((c.tc : Thread Cert.Adam.nD Cert.Adam.τ).loc Cert.Adam.main_arg22)
      ∧ r.2.mem ((c.tc : Thread Cert.Adam.nD Cert.Adam.τ).loc Cert.Adam.main_arg23) = m ((c.tc : Thread Cert.Adam.nD Cert.Adam.τ).loc Cert.Adam.main_arg23)
      ∧ r.2.mem ((c.tc : Thread Cert.Adam.nD Cert.Adam.τ).loc Cert.Adam.main_arg24) = m ((c.tc : Thread Cert.Adam.nD Cert.Adam.τ).loc Cert.Adam.main_arg24)
      ∧ r.2.mem ((c.tc : Thread Cert.Adam.nD Cert.Adam.τ).loc Cert.Adam.main_arg25) = m ((c.tc : Thread Cert.Adam.nD Cert.Adam.τ).loc Cert.Adam.main_arg25)
      ∧ r.2.mem ((c.tc : Thread Cert.Adam.nD Cert.Adam.τ).loc Cert.Adam.main_arg26) = m ((c.tc : Thread Cert.Adam.nD Cert.Adam.τ).loc Cert.Adam.main_arg26)
      ∧ r.2.mem ((c.tc : Thread Cert.Adam.nD Cert.Adam.τ).loc Cert.Adam.main_arg27) = m ((c.tc : Thread Cert.Adam.nD Cert.Adam.τ).loc Cert.Adam.main_arg27))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
      ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
      ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5)
      ∧ r.2.mem ((c.tc : Thread Cert.AdamIdeal.nD Cert.AdamIdeal.τ).loc Cert.AdamIdeal.main_arg6) = m ((c.tc : Thread Cert.AdamIdeal.nD Cert.AdamIdeal.τ).loc Cert.AdamIdeal.main_arg6)
      ∧ r.2.mem ((c.tc : Thread Cert.AdamIdeal.nD Cert.AdamIdeal.τ).loc Cert.AdamIdeal.main_arg7) = m ((c.tc : Thread Cert.AdamIdeal.nD Cert.AdamIdeal.τ).loc Cert.AdamIdeal.main_arg7)
      ∧ r.2.mem ((c.tc : Thread Cert.AdamIdeal.nD Cert.AdamIdeal.τ).loc Cert.AdamIdeal.main_arg8) = m ((c.tc : Thread Cert.AdamIdeal.nD Cert.AdamIdeal.τ).loc Cert.AdamIdeal.main_arg8)
      ∧ r.2.mem ((c.tc : Thread Cert.AdamIdeal.nD Cert.AdamIdeal.τ).loc Cert.AdamIdeal.main_arg9) = m ((c.tc : Thread Cert.AdamIdeal.nD Cert.AdamIdeal.τ).loc Cert.AdamIdeal.main_arg9)
      ∧ r.2.mem ((c.tc : Thread Cert.AdamIdeal.nD Cert.AdamIdeal.τ).loc Cert.AdamIdeal.main_arg10) = m ((c.tc : Thread Cert.AdamIdeal.nD Cert.AdamIdeal.τ).loc Cert.AdamIdeal.main_arg10)
      ∧ r.2.mem ((c.tc : Thread Cert.AdamIdeal.nD Cert.AdamIdeal.τ).loc Cert.AdamIdeal.main_arg11) = m ((c.tc : Thread Cert.AdamIdeal.nD Cert.AdamIdeal.τ).loc Cert.AdamIdeal.main_arg11)
      ∧ r.2.mem ((c.tc : Thread Cert.AdamIdeal.nD Cert.AdamIdeal.τ).loc Cert.AdamIdeal.main_arg12) = m ((c.tc : Thread Cert.AdamIdeal.nD Cert.AdamIdeal.τ).loc Cert.AdamIdeal.main_arg12)
      ∧ r.2.mem ((c.tc : Thread Cert.AdamIdeal.nD Cert.AdamIdeal.τ).loc Cert.AdamIdeal.main_arg13) = m ((c.tc : Thread Cert.AdamIdeal.nD Cert.AdamIdeal.τ).loc Cert.AdamIdeal.main_arg13)
      ∧ r.2.mem ((c.tc : Thread Cert.AdamIdeal.nD Cert.AdamIdeal.τ).loc Cert.AdamIdeal.main_arg14) = m ((c.tc : Thread Cert.AdamIdeal.nD Cert.AdamIdeal.τ).loc Cert.AdamIdeal.main_arg14)
      ∧ r.2.mem ((c.tc : Thread Cert.AdamIdeal.nD Cert.AdamIdeal.τ).loc Cert.AdamIdeal.main_arg15) = m ((c.tc : Thread Cert.AdamIdeal.nD Cert.AdamIdeal.τ).loc Cert.AdamIdeal.main_arg15)
      ∧ r.2.mem ((c.tc : Thread Cert.AdamIdeal.nD Cert.AdamIdeal.τ).loc Cert.AdamIdeal.main_arg16) = m ((c.tc : Thread Cert.AdamIdeal.nD Cert.AdamIdeal.τ).loc Cert.AdamIdeal.main_arg16)
      ∧ r.2.mem ((c.tc : Thread Cert.AdamIdeal.nD Cert.AdamIdeal.τ).loc Cert.AdamIdeal.main_arg17) = m ((c.tc : Thread Cert.AdamIdeal.nD Cert.AdamIdeal.τ).loc Cert.AdamIdeal.main_arg17)
      ∧ r.2.mem ((c.tc : Thread Cert.AdamIdeal.nD Cert.AdamIdeal.τ).loc Cert.AdamIdeal.main_arg18) = m ((c.tc : Thread Cert.AdamIdeal.nD Cert.AdamIdeal.τ).loc Cert.AdamIdeal.main_arg18)
      ∧ r.2.mem ((c.tc : Thread Cert.AdamIdeal.nD Cert.AdamIdeal.τ).loc Cert.AdamIdeal.main_arg19) = m ((c.tc : Thread Cert.AdamIdeal.nD Cert.AdamIdeal.τ).loc Cert.AdamIdeal.main_arg19)
      ∧ r.2.mem ((c.tc : Thread Cert.AdamIdeal.nD Cert.AdamIdeal.τ).loc Cert.AdamIdeal.main_arg20) = m ((c.tc : Thread Cert.AdamIdeal.nD Cert.AdamIdeal.τ).loc Cert.AdamIdeal.main_arg20)
      ∧ r.2.mem ((c.tc : Thread Cert.AdamIdeal.nD Cert.AdamIdeal.τ).loc Cert.AdamIdeal.main_arg21) = m ((c.tc : Thread Cert.AdamIdeal.nD Cert.AdamIdeal.τ).loc Cert.AdamIdeal.main_arg21)
      ∧ r.2.mem ((c.tc : Thread Cert.AdamIdeal.nD Cert.AdamIdeal.τ).loc Cert.AdamIdeal.main_arg22) = m ((c.tc : Thread Cert.AdamIdeal.nD Cert.AdamIdeal.τ).loc Cert.AdamIdeal.main_arg22)
      ∧ r.2.mem ((c.tc : Thread Cert.AdamIdeal.nD Cert.AdamIdeal.τ).loc Cert.AdamIdeal.main_arg23) = m ((c.tc : Thread Cert.AdamIdeal.nD Cert.AdamIdeal.τ).loc Cert.AdamIdeal.main_arg23)
      ∧ r.2.mem ((c.tc : Thread Cert.AdamIdeal.nD Cert.AdamIdeal.τ).loc Cert.AdamIdeal.main_arg24) = m ((c.tc : Thread Cert.AdamIdeal.nD Cert.AdamIdeal.τ).loc Cert.AdamIdeal.main_arg24)
      ∧ r.2.mem ((c.tc : Thread Cert.AdamIdeal.nD Cert.AdamIdeal.τ).loc Cert.AdamIdeal.main_arg25) = m ((c.tc : Thread Cert.AdamIdeal.nD Cert.AdamIdeal.τ).loc Cert.AdamIdeal.main_arg25)
      ∧ r.2.mem ((c.tc : Thread Cert.AdamIdeal.nD Cert.AdamIdeal.τ).loc Cert.AdamIdeal.main_arg26) = m ((c.tc : Thread Cert.AdamIdeal.nD Cert.AdamIdeal.τ).loc Cert.AdamIdeal.main_arg26)
      ∧ r.2.mem ((c.tc : Thread Cert.AdamIdeal.nD Cert.AdamIdeal.τ).loc Cert.AdamIdeal.main_arg27) = m ((c.tc : Thread Cert.AdamIdeal.nD Cert.AdamIdeal.τ).loc Cert.AdamIdeal.main_arg27))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3)
      ∧ r.2.mem ((c.tc : Thread Cert.AdamRefIdeal.nD Cert.AdamRefIdeal.τ).loc Cert.AdamRefIdeal.main_arg4) = m ((c.tc : Thread Cert.AdamRefIdeal.nD Cert.AdamRefIdeal.τ).loc Cert.AdamRefIdeal.main_arg4)
      ∧ r.2.mem ((c.tc : Thread Cert.AdamRefIdeal.nD Cert.AdamRefIdeal.τ).loc Cert.AdamRefIdeal.main_arg5) = m ((c.tc : Thread Cert.AdamRefIdeal.nD Cert.AdamRefIdeal.τ).loc Cert.AdamRefIdeal.main_arg5)
      ∧ r.2.mem ((c.tc : Thread Cert.AdamRefIdeal.nD Cert.AdamRefIdeal.τ).loc Cert.AdamRefIdeal.main_arg6) = m ((c.tc : Thread Cert.AdamRefIdeal.nD Cert.AdamRefIdeal.τ).loc Cert.AdamRefIdeal.main_arg6)
      ∧ r.2.mem ((c.tc : Thread Cert.AdamRefIdeal.nD Cert.AdamRefIdeal.τ).loc Cert.AdamRefIdeal.main_arg7) = m ((c.tc : Thread Cert.AdamRefIdeal.nD Cert.AdamRefIdeal.τ).loc Cert.AdamRefIdeal.main_arg7)
      ∧ r.2.mem ((c.tc : Thread Cert.AdamRefIdeal.nD Cert.AdamRefIdeal.τ).loc Cert.AdamRefIdeal.main_arg8) = m ((c.tc : Thread Cert.AdamRefIdeal.nD Cert.AdamRefIdeal.τ).loc Cert.AdamRefIdeal.main_arg8)
      ∧ r.2.mem ((c.tc : Thread Cert.AdamRefIdeal.nD Cert.AdamRefIdeal.τ).loc Cert.AdamRefIdeal.main_arg9) = m ((c.tc : Thread Cert.AdamRefIdeal.nD Cert.AdamRefIdeal.τ).loc Cert.AdamRefIdeal.main_arg9)
      ∧ r.2.mem ((c.tc : Thread Cert.AdamRefIdeal.nD Cert.AdamRefIdeal.τ).loc Cert.AdamRefIdeal.main_arg10) = m ((c.tc : Thread Cert.AdamRefIdeal.nD Cert.AdamRefIdeal.τ).loc Cert.AdamRefIdeal.main_arg10)
      ∧ r.2.mem ((c.tc : Thread Cert.AdamRefIdeal.nD Cert.AdamRefIdeal.τ).loc Cert.AdamRefIdeal.main_arg11) = m ((c.tc : Thread Cert.AdamRefIdeal.nD Cert.AdamRefIdeal.τ).loc Cert.AdamRefIdeal.main_arg11)
      ∧ r.2.mem ((c.tc : Thread Cert.AdamRefIdeal.nD Cert.AdamRefIdeal.τ).loc Cert.AdamRefIdeal.main_arg12) = m ((c.tc : Thread Cert.AdamRefIdeal.nD Cert.AdamRefIdeal.τ).loc Cert.AdamRefIdeal.main_arg12)
      ∧ r.2.mem ((c.tc : Thread Cert.AdamRefIdeal.nD Cert.AdamRefIdeal.τ).loc Cert.AdamRefIdeal.main_arg13) = m ((c.tc : Thread Cert.AdamRefIdeal.nD Cert.AdamRefIdeal.τ).loc Cert.AdamRefIdeal.main_arg13)
      ∧ r.2.mem ((c.tc : Thread Cert.AdamRefIdeal.nD Cert.AdamRefIdeal.τ).loc Cert.AdamRefIdeal.main_arg14) = m ((c.tc : Thread Cert.AdamRefIdeal.nD Cert.AdamRefIdeal.τ).loc Cert.AdamRefIdeal.main_arg14)
      ∧ r.2.mem ((c.tc : Thread Cert.AdamRefIdeal.nD Cert.AdamRefIdeal.τ).loc Cert.AdamRefIdeal.main_arg15) = m ((c.tc : Thread Cert.AdamRefIdeal.nD Cert.AdamRefIdeal.τ).loc Cert.AdamRefIdeal.main_arg15)
      ∧ r.2.mem ((c.tc : Thread Cert.AdamRefIdeal.nD Cert.AdamRefIdeal.τ).loc Cert.AdamRefIdeal.main_arg16) = m ((c.tc : Thread Cert.AdamRefIdeal.nD Cert.AdamRefIdeal.τ).loc Cert.AdamRefIdeal.main_arg16)
      ∧ r.2.mem ((c.tc : Thread Cert.AdamRefIdeal.nD Cert.AdamRefIdeal.τ).loc Cert.AdamRefIdeal.main_arg17) = m ((c.tc : Thread Cert.AdamRefIdeal.nD Cert.AdamRefIdeal.τ).loc Cert.AdamRefIdeal.main_arg17)
      ∧ r.2.mem ((c.tc : Thread Cert.AdamRefIdeal.nD Cert.AdamRefIdeal.τ).loc Cert.AdamRefIdeal.main_arg18) = m ((c.tc : Thread Cert.AdamRefIdeal.nD Cert.AdamRefIdeal.τ).loc Cert.AdamRefIdeal.main_arg18)
      ∧ r.2.mem ((c.tc : Thread Cert.AdamRefIdeal.nD Cert.AdamRefIdeal.τ).loc Cert.AdamRefIdeal.main_arg19) = m ((c.tc : Thread Cert.AdamRefIdeal.nD Cert.AdamRefIdeal.τ).loc Cert.AdamRefIdeal.main_arg19)
      ∧ r.2.mem ((c.tc : Thread Cert.AdamRefIdeal.nD Cert.AdamRefIdeal.τ).loc Cert.AdamRefIdeal.main_arg20) = m ((c.tc : Thread Cert.AdamRefIdeal.nD Cert.AdamRefIdeal.τ).loc Cert.AdamRefIdeal.main_arg20)
      ∧ r.2.mem ((c.tc : Thread Cert.AdamRefIdeal.nD Cert.AdamRefIdeal.τ).loc Cert.AdamRefIdeal.main_arg21) = m ((c.tc : Thread Cert.AdamRefIdeal.nD Cert.AdamRefIdeal.τ).loc Cert.AdamRefIdeal.main_arg21)
      ∧ r.2.mem ((c.tc : Thread Cert.AdamRefIdeal.nD Cert.AdamRefIdeal.τ).loc Cert.AdamRefIdeal.main_arg22) = m ((c.tc : Thread Cert.AdamRefIdeal.nD Cert.AdamRefIdeal.τ).loc Cert.AdamRefIdeal.main_arg22)
      ∧ r.2.mem ((c.tc : Thread Cert.AdamRefIdeal.nD Cert.AdamRefIdeal.τ).loc Cert.AdamRefIdeal.main_arg23) = m ((c.tc : Thread Cert.AdamRefIdeal.nD Cert.AdamRefIdeal.τ).loc Cert.AdamRefIdeal.main_arg23)
      ∧ r.2.mem ((c.tc : Thread Cert.AdamRefIdeal.nD Cert.AdamRefIdeal.τ).loc Cert.AdamRefIdeal.main_arg24) = m ((c.tc : Thread Cert.AdamRefIdeal.nD Cert.AdamRefIdeal.τ).loc Cert.AdamRefIdeal.main_arg24)
      ∧ r.2.mem ((c.tc : Thread Cert.AdamRefIdeal.nD Cert.AdamRefIdeal.τ).loc Cert.AdamRefIdeal.main_arg25) = m ((c.tc : Thread Cert.AdamRefIdeal.nD Cert.AdamRefIdeal.τ).loc Cert.AdamRefIdeal.main_arg25)
      ∧ r.2.mem ((c.tc : Thread Cert.AdamRefIdeal.nD Cert.AdamRefIdeal.τ).loc Cert.AdamRefIdeal.main_arg26) = m ((c.tc : Thread Cert.AdamRefIdeal.nD Cert.AdamRefIdeal.τ).loc Cert.AdamRefIdeal.main_arg26)
      ∧ r.2.mem ((c.tc : Thread Cert.AdamRefIdeal.nD Cert.AdamRefIdeal.τ).loc Cert.AdamRefIdeal.main_arg27) = m ((c.tc : Thread Cert.AdamRefIdeal.nD Cert.AdamRefIdeal.τ).loc Cert.AdamRefIdeal.main_arg27))
      ∧ r.2.sem = fun _ => 0)

def quiescent_State [hState : Cert.State.Facts] : Prop :=
  ∀ (m : (ℓ : Loc Cert.State.nD Cert.State.τ Cert.State.sig) → Buf (Elt Bits) ℓ) (g : Dev Cert.State.nD → PrngReg), Pre_State m →
    θ_run (Cert.State.defs (F := Bits)) (onTc (τ := Cert.State.τ) (Cert.State.main (F := Bits))) ⟨m, fun _ => 0, g⟩ (fun r => (∀ c : Dev Cert.State.nD,
      r.2.mem ((c.tc : Thread Cert.State.nD Cert.State.τ).loc Cert.State.main_arg0) = m ((c.tc : Thread Cert.State.nD Cert.State.τ).loc Cert.State.main_arg0)
      ∧ r.2.mem ((c.tc : Thread Cert.State.nD Cert.State.τ).loc Cert.State.main_arg1) = m ((c.tc : Thread Cert.State.nD Cert.State.τ).loc Cert.State.main_arg1)
      ∧ r.2.mem ((c.tc : Thread Cert.State.nD Cert.State.τ).loc Cert.State.main_arg2) = m ((c.tc : Thread Cert.State.nD Cert.State.τ).loc Cert.State.main_arg2)
      ∧ r.2.mem ((c.tc : Thread Cert.State.nD Cert.State.τ).loc Cert.State.main_arg3) = m ((c.tc : Thread Cert.State.nD Cert.State.τ).loc Cert.State.main_arg3)
      ∧ r.2.mem ((c.tc : Thread Cert.State.nD Cert.State.τ).loc Cert.State.main_arg4) = m ((c.tc : Thread Cert.State.nD Cert.State.τ).loc Cert.State.main_arg4)
      ∧ r.2.mem ((c.tc : Thread Cert.State.nD Cert.State.τ).loc Cert.State.main_arg5) = m ((c.tc : Thread Cert.State.nD Cert.State.τ).loc Cert.State.main_arg5)
      ∧ r.2.mem ((c.tc : Thread Cert.State.nD Cert.State.τ).loc Cert.State.main_arg6) = m ((c.tc : Thread Cert.State.nD Cert.State.τ).loc Cert.State.main_arg6)
      ∧ r.2.mem ((c.tc : Thread Cert.State.nD Cert.State.τ).loc Cert.State.main_arg7) = m ((c.tc : Thread Cert.State.nD Cert.State.τ).loc Cert.State.main_arg7)
      ∧ r.2.mem ((c.tc : Thread Cert.State.nD Cert.State.τ).loc Cert.State.main_arg8) = m ((c.tc : Thread Cert.State.nD Cert.State.τ).loc Cert.State.main_arg8)
      ∧ r.2.mem ((c.tc : Thread Cert.State.nD Cert.State.τ).loc Cert.State.main_arg9) = m ((c.tc : Thread Cert.State.nD Cert.State.τ).loc Cert.State.main_arg9)
      ∧ r.2.mem ((c.tc : Thread Cert.State.nD Cert.State.τ).loc Cert.State.main_arg10) = m ((c.tc : Thread Cert.State.nD Cert.State.τ).loc Cert.State.main_arg10)
      ∧ r.2.mem ((c.tc : Thread Cert.State.nD Cert.State.τ).loc Cert.State.main_arg11) = m ((c.tc : Thread Cert.State.nD Cert.State.τ).loc Cert.State.main_arg11)
      ∧ r.2.mem ((c.tc : Thread Cert.State.nD Cert.State.τ).loc Cert.State.main_arg12) = m ((c.tc : Thread Cert.State.nD Cert.State.τ).loc Cert.State.main_arg12)
      ∧ r.2.mem ((c.tc : Thread Cert.State.nD Cert.State.τ).loc Cert.State.main_arg13) = m ((c.tc : Thread Cert.State.nD Cert.State.τ).loc Cert.State.main_arg13)
      ∧ r.2.mem ((c.tc : Thread Cert.State.nD Cert.State.τ).loc Cert.State.main_arg14) = m ((c.tc : Thread Cert.State.nD Cert.State.τ).loc Cert.State.main_arg14)
      ∧ r.2.mem ((c.tc : Thread Cert.State.nD Cert.State.τ).loc Cert.State.main_arg15) = m ((c.tc : Thread Cert.State.nD Cert.State.τ).loc Cert.State.main_arg15)
      ∧ r.2.mem ((c.tc : Thread Cert.State.nD Cert.State.τ).loc Cert.State.main_arg16) = m ((c.tc : Thread Cert.State.nD Cert.State.τ).loc Cert.State.main_arg16)
      ∧ r.2.mem ((c.tc : Thread Cert.State.nD Cert.State.τ).loc Cert.State.main_arg17) = m ((c.tc : Thread Cert.State.nD Cert.State.τ).loc Cert.State.main_arg17)
      ∧ r.2.mem ((c.tc : Thread Cert.State.nD Cert.State.τ).loc Cert.State.main_arg18) = m ((c.tc : Thread Cert.State.nD Cert.State.τ).loc Cert.State.main_arg18)
      ∧ r.2.mem ((c.tc : Thread Cert.State.nD Cert.State.τ).loc Cert.State.main_arg19) = m ((c.tc : Thread Cert.State.nD Cert.State.τ).loc Cert.State.main_arg19)
      ∧ r.2.mem ((c.tc : Thread Cert.State.nD Cert.State.τ).loc Cert.State.main_arg20) = m ((c.tc : Thread Cert.State.nD Cert.State.τ).loc Cert.State.main_arg20)
      ∧ r.2.mem ((c.tc : Thread Cert.State.nD Cert.State.τ).loc Cert.State.main_arg21) = m ((c.tc : Thread Cert.State.nD Cert.State.τ).loc Cert.State.main_arg21)
      ∧ r.2.mem ((c.tc : Thread Cert.State.nD Cert.State.τ).loc Cert.State.main_arg22) = m ((c.tc : Thread Cert.State.nD Cert.State.τ).loc Cert.State.main_arg22)
      ∧ r.2.mem ((c.tc : Thread Cert.State.nD Cert.State.τ).loc Cert.State.main_arg23) = m ((c.tc : Thread Cert.State.nD Cert.State.τ).loc Cert.State.main_arg23)
      ∧ r.2.mem ((c.tc : Thread Cert.State.nD Cert.State.τ).loc Cert.State.main_arg24) = m ((c.tc : Thread Cert.State.nD Cert.State.τ).loc Cert.State.main_arg24)
      ∧ r.2.mem ((c.tc : Thread Cert.State.nD Cert.State.τ).loc Cert.State.main_arg25) = m ((c.tc : Thread Cert.State.nD Cert.State.τ).loc Cert.State.main_arg25)
      ∧ r.2.mem ((c.tc : Thread Cert.State.nD Cert.State.τ).loc Cert.State.main_arg26) = m ((c.tc : Thread Cert.State.nD Cert.State.τ).loc Cert.State.main_arg26)
      ∧ r.2.mem ((c.tc : Thread Cert.State.nD Cert.State.τ).loc Cert.State.main_arg27) = m ((c.tc : Thread Cert.State.nD Cert.State.τ).loc Cert.State.main_arg27)
      ∧ r.2.mem ((c.tc : Thread Cert.State.nD Cert.State.τ).loc Cert.State.main_arg28) = m ((c.tc : Thread Cert.State.nD Cert.State.τ).loc Cert.State.main_arg28)
      ∧ r.2.mem ((c.tc : Thread Cert.State.nD Cert.State.τ).loc Cert.State.main_arg29) = m ((c.tc : Thread Cert.State.nD Cert.State.τ).loc Cert.State.main_arg29)
      ∧ r.2.mem ((c.tc : Thread Cert.State.nD Cert.State.τ).loc Cert.State.main_arg30) = m ((c.tc : Thread Cert.State.nD Cert.State.τ).loc Cert.State.main_arg30)
      ∧ r.2.mem ((c.tc : Thread Cert.State.nD Cert.State.τ).loc Cert.State.main_arg31) = m ((c.tc : Thread Cert.State.nD Cert.State.τ).loc Cert.State.main_arg31))
      ∧ r.2.sem = fun _ => 0)

def quiescent_StateIdeal [hStateIdeal : Cert.StateIdeal.Facts] : Prop :=
  ∀ (m : (ℓ : Loc Cert.StateIdeal.nD Cert.StateIdeal.τ Cert.StateIdeal.sig) → Buf (Elt Ideal) ℓ) (g : Dev Cert.StateIdeal.nD → PrngReg), Pre_StateIdeal m →
    θ_run (Cert.StateIdeal.defs (F := Ideal)) (onTc (τ := Cert.StateIdeal.τ) (Cert.StateIdeal.main (F := Ideal))) ⟨m, fun _ => 0, g⟩ (fun r => (∀ c : Dev Cert.StateIdeal.nD,
      r.2.mem ((c.tc : Thread Cert.StateIdeal.nD Cert.StateIdeal.τ).loc Cert.StateIdeal.main_arg0) = m ((c.tc : Thread Cert.StateIdeal.nD Cert.StateIdeal.τ).loc Cert.StateIdeal.main_arg0)
      ∧ r.2.mem ((c.tc : Thread Cert.StateIdeal.nD Cert.StateIdeal.τ).loc Cert.StateIdeal.main_arg1) = m ((c.tc : Thread Cert.StateIdeal.nD Cert.StateIdeal.τ).loc Cert.StateIdeal.main_arg1)
      ∧ r.2.mem ((c.tc : Thread Cert.StateIdeal.nD Cert.StateIdeal.τ).loc Cert.StateIdeal.main_arg2) = m ((c.tc : Thread Cert.StateIdeal.nD Cert.StateIdeal.τ).loc Cert.StateIdeal.main_arg2)
      ∧ r.2.mem ((c.tc : Thread Cert.StateIdeal.nD Cert.StateIdeal.τ).loc Cert.StateIdeal.main_arg3) = m ((c.tc : Thread Cert.StateIdeal.nD Cert.StateIdeal.τ).loc Cert.StateIdeal.main_arg3)
      ∧ r.2.mem ((c.tc : Thread Cert.StateIdeal.nD Cert.StateIdeal.τ).loc Cert.StateIdeal.main_arg4) = m ((c.tc : Thread Cert.StateIdeal.nD Cert.StateIdeal.τ).loc Cert.StateIdeal.main_arg4)
      ∧ r.2.mem ((c.tc : Thread Cert.StateIdeal.nD Cert.StateIdeal.τ).loc Cert.StateIdeal.main_arg5) = m ((c.tc : Thread Cert.StateIdeal.nD Cert.StateIdeal.τ).loc Cert.StateIdeal.main_arg5)
      ∧ r.2.mem ((c.tc : Thread Cert.StateIdeal.nD Cert.StateIdeal.τ).loc Cert.StateIdeal.main_arg6) = m ((c.tc : Thread Cert.StateIdeal.nD Cert.StateIdeal.τ).loc Cert.StateIdeal.main_arg6)
      ∧ r.2.mem ((c.tc : Thread Cert.StateIdeal.nD Cert.StateIdeal.τ).loc Cert.StateIdeal.main_arg7) = m ((c.tc : Thread Cert.StateIdeal.nD Cert.StateIdeal.τ).loc Cert.StateIdeal.main_arg7)
      ∧ r.2.mem ((c.tc : Thread Cert.StateIdeal.nD Cert.StateIdeal.τ).loc Cert.StateIdeal.main_arg8) = m ((c.tc : Thread Cert.StateIdeal.nD Cert.StateIdeal.τ).loc Cert.StateIdeal.main_arg8)
      ∧ r.2.mem ((c.tc : Thread Cert.StateIdeal.nD Cert.StateIdeal.τ).loc Cert.StateIdeal.main_arg9) = m ((c.tc : Thread Cert.StateIdeal.nD Cert.StateIdeal.τ).loc Cert.StateIdeal.main_arg9)
      ∧ r.2.mem ((c.tc : Thread Cert.StateIdeal.nD Cert.StateIdeal.τ).loc Cert.StateIdeal.main_arg10) = m ((c.tc : Thread Cert.StateIdeal.nD Cert.StateIdeal.τ).loc Cert.StateIdeal.main_arg10)
      ∧ r.2.mem ((c.tc : Thread Cert.StateIdeal.nD Cert.StateIdeal.τ).loc Cert.StateIdeal.main_arg11) = m ((c.tc : Thread Cert.StateIdeal.nD Cert.StateIdeal.τ).loc Cert.StateIdeal.main_arg11)
      ∧ r.2.mem ((c.tc : Thread Cert.StateIdeal.nD Cert.StateIdeal.τ).loc Cert.StateIdeal.main_arg12) = m ((c.tc : Thread Cert.StateIdeal.nD Cert.StateIdeal.τ).loc Cert.StateIdeal.main_arg12)
      ∧ r.2.mem ((c.tc : Thread Cert.StateIdeal.nD Cert.StateIdeal.τ).loc Cert.StateIdeal.main_arg13) = m ((c.tc : Thread Cert.StateIdeal.nD Cert.StateIdeal.τ).loc Cert.StateIdeal.main_arg13)
      ∧ r.2.mem ((c.tc : Thread Cert.StateIdeal.nD Cert.StateIdeal.τ).loc Cert.StateIdeal.main_arg14) = m ((c.tc : Thread Cert.StateIdeal.nD Cert.StateIdeal.τ).loc Cert.StateIdeal.main_arg14)
      ∧ r.2.mem ((c.tc : Thread Cert.StateIdeal.nD Cert.StateIdeal.τ).loc Cert.StateIdeal.main_arg15) = m ((c.tc : Thread Cert.StateIdeal.nD Cert.StateIdeal.τ).loc Cert.StateIdeal.main_arg15)
      ∧ r.2.mem ((c.tc : Thread Cert.StateIdeal.nD Cert.StateIdeal.τ).loc Cert.StateIdeal.main_arg16) = m ((c.tc : Thread Cert.StateIdeal.nD Cert.StateIdeal.τ).loc Cert.StateIdeal.main_arg16)
      ∧ r.2.mem ((c.tc : Thread Cert.StateIdeal.nD Cert.StateIdeal.τ).loc Cert.StateIdeal.main_arg17) = m ((c.tc : Thread Cert.StateIdeal.nD Cert.StateIdeal.τ).loc Cert.StateIdeal.main_arg17)
      ∧ r.2.mem ((c.tc : Thread Cert.StateIdeal.nD Cert.StateIdeal.τ).loc Cert.StateIdeal.main_arg18) = m ((c.tc : Thread Cert.StateIdeal.nD Cert.StateIdeal.τ).loc Cert.StateIdeal.main_arg18)
      ∧ r.2.mem ((c.tc : Thread Cert.StateIdeal.nD Cert.StateIdeal.τ).loc Cert.StateIdeal.main_arg19) = m ((c.tc : Thread Cert.StateIdeal.nD Cert.StateIdeal.τ).loc Cert.StateIdeal.main_arg19)
      ∧ r.2.mem ((c.tc : Thread Cert.StateIdeal.nD Cert.StateIdeal.τ).loc Cert.StateIdeal.main_arg20) = m ((c.tc : Thread Cert.StateIdeal.nD Cert.StateIdeal.τ).loc Cert.StateIdeal.main_arg20)
      ∧ r.2.mem ((c.tc : Thread Cert.StateIdeal.nD Cert.StateIdeal.τ).loc Cert.StateIdeal.main_arg21) = m ((c.tc : Thread Cert.StateIdeal.nD Cert.StateIdeal.τ).loc Cert.StateIdeal.main_arg21)
      ∧ r.2.mem ((c.tc : Thread Cert.StateIdeal.nD Cert.StateIdeal.τ).loc Cert.StateIdeal.main_arg22) = m ((c.tc : Thread Cert.StateIdeal.nD Cert.StateIdeal.τ).loc Cert.StateIdeal.main_arg22)
      ∧ r.2.mem ((c.tc : Thread Cert.StateIdeal.nD Cert.StateIdeal.τ).loc Cert.StateIdeal.main_arg23) = m ((c.tc : Thread Cert.StateIdeal.nD Cert.StateIdeal.τ).loc Cert.StateIdeal.main_arg23)
      ∧ r.2.mem ((c.tc : Thread Cert.StateIdeal.nD Cert.StateIdeal.τ).loc Cert.StateIdeal.main_arg24) = m ((c.tc : Thread Cert.StateIdeal.nD Cert.StateIdeal.τ).loc Cert.StateIdeal.main_arg24)
      ∧ r.2.mem ((c.tc : Thread Cert.StateIdeal.nD Cert.StateIdeal.τ).loc Cert.StateIdeal.main_arg25) = m ((c.tc : Thread Cert.StateIdeal.nD Cert.StateIdeal.τ).loc Cert.StateIdeal.main_arg25)
      ∧ r.2.mem ((c.tc : Thread Cert.StateIdeal.nD Cert.StateIdeal.τ).loc Cert.StateIdeal.main_arg26) = m ((c.tc : Thread Cert.StateIdeal.nD Cert.StateIdeal.τ).loc Cert.StateIdeal.main_arg26)
      ∧ r.2.mem ((c.tc : Thread Cert.StateIdeal.nD Cert.StateIdeal.τ).loc Cert.StateIdeal.main_arg27) = m ((c.tc : Thread Cert.StateIdeal.nD Cert.StateIdeal.τ).loc Cert.StateIdeal.main_arg27)
      ∧ r.2.mem ((c.tc : Thread Cert.StateIdeal.nD Cert.StateIdeal.τ).loc Cert.StateIdeal.main_arg28) = m ((c.tc : Thread Cert.StateIdeal.nD Cert.StateIdeal.τ).loc Cert.StateIdeal.main_arg28)
      ∧ r.2.mem ((c.tc : Thread Cert.StateIdeal.nD Cert.StateIdeal.τ).loc Cert.StateIdeal.main_arg29) = m ((c.tc : Thread Cert.StateIdeal.nD Cert.StateIdeal.τ).loc Cert.StateIdeal.main_arg29)
      ∧ r.2.mem ((c.tc : Thread Cert.StateIdeal.nD Cert.StateIdeal.τ).loc Cert.StateIdeal.main_arg30) = m ((c.tc : Thread Cert.StateIdeal.nD Cert.StateIdeal.τ).loc Cert.StateIdeal.main_arg30)
      ∧ r.2.mem ((c.tc : Thread Cert.StateIdeal.nD Cert.StateIdeal.τ).loc Cert.StateIdeal.main_arg31) = m ((c.tc : Thread Cert.StateIdeal.nD Cert.StateIdeal.τ).loc Cert.StateIdeal.main_arg31))
      ∧ r.2.sem = fun _ => 0)

def quiescent_StateRefIdeal [hStateRefIdeal : Cert.StateRefIdeal.Facts] : Prop :=
  ∀ (m : (ℓ : Loc Cert.StateRefIdeal.nD Cert.StateRefIdeal.τ Cert.StateRefIdeal.sig) → Buf (Elt Ideal) ℓ) (g : Dev Cert.StateRefIdeal.nD → PrngReg), Pre_StateRefIdeal m →
    θ_run (Cert.StateRefIdeal.defs (F := Ideal)) (onTc (τ := Cert.StateRefIdeal.τ) (Cert.StateRefIdeal.main (F := Ideal))) ⟨m, fun _ => 0, g⟩ (fun r => (∀ c : Dev Cert.StateRefIdeal.nD,
      r.2.mem ((c.tc : Thread Cert.StateRefIdeal.nD Cert.StateRefIdeal.τ).loc Cert.StateRefIdeal.main_arg0) = m ((c.tc : Thread Cert.StateRefIdeal.nD Cert.StateRefIdeal.τ).loc Cert.StateRefIdeal.main_arg0)
      ∧ r.2.mem ((c.tc : Thread Cert.StateRefIdeal.nD Cert.StateRefIdeal.τ).loc Cert.StateRefIdeal.main_arg1) = m ((c.tc : Thread Cert.StateRefIdeal.nD Cert.StateRefIdeal.τ).loc Cert.StateRefIdeal.main_arg1)
      ∧ r.2.mem ((c.tc : Thread Cert.StateRefIdeal.nD Cert.StateRefIdeal.τ).loc Cert.StateRefIdeal.main_arg2) = m ((c.tc : Thread Cert.StateRefIdeal.nD Cert.StateRefIdeal.τ).loc Cert.StateRefIdeal.main_arg2)
      ∧ r.2.mem ((c.tc : Thread Cert.StateRefIdeal.nD Cert.StateRefIdeal.τ).loc Cert.StateRefIdeal.main_arg3) = m ((c.tc : Thread Cert.StateRefIdeal.nD Cert.StateRefIdeal.τ).loc Cert.StateRefIdeal.main_arg3)
      ∧ r.2.mem ((c.tc : Thread Cert.StateRefIdeal.nD Cert.StateRefIdeal.τ).loc Cert.StateRefIdeal.main_arg4) = m ((c.tc : Thread Cert.StateRefIdeal.nD Cert.StateRefIdeal.τ).loc Cert.StateRefIdeal.main_arg4)
      ∧ r.2.mem ((c.tc : Thread Cert.StateRefIdeal.nD Cert.StateRefIdeal.τ).loc Cert.StateRefIdeal.main_arg5) = m ((c.tc : Thread Cert.StateRefIdeal.nD Cert.StateRefIdeal.τ).loc Cert.StateRefIdeal.main_arg5)
      ∧ r.2.mem ((c.tc : Thread Cert.StateRefIdeal.nD Cert.StateRefIdeal.τ).loc Cert.StateRefIdeal.main_arg6) = m ((c.tc : Thread Cert.StateRefIdeal.nD Cert.StateRefIdeal.τ).loc Cert.StateRefIdeal.main_arg6)
      ∧ r.2.mem ((c.tc : Thread Cert.StateRefIdeal.nD Cert.StateRefIdeal.τ).loc Cert.StateRefIdeal.main_arg7) = m ((c.tc : Thread Cert.StateRefIdeal.nD Cert.StateRefIdeal.τ).loc Cert.StateRefIdeal.main_arg7)
      ∧ r.2.mem ((c.tc : Thread Cert.StateRefIdeal.nD Cert.StateRefIdeal.τ).loc Cert.StateRefIdeal.main_arg8) = m ((c.tc : Thread Cert.StateRefIdeal.nD Cert.StateRefIdeal.τ).loc Cert.StateRefIdeal.main_arg8)
      ∧ r.2.mem ((c.tc : Thread Cert.StateRefIdeal.nD Cert.StateRefIdeal.τ).loc Cert.StateRefIdeal.main_arg9) = m ((c.tc : Thread Cert.StateRefIdeal.nD Cert.StateRefIdeal.τ).loc Cert.StateRefIdeal.main_arg9)
      ∧ r.2.mem ((c.tc : Thread Cert.StateRefIdeal.nD Cert.StateRefIdeal.τ).loc Cert.StateRefIdeal.main_arg10) = m ((c.tc : Thread Cert.StateRefIdeal.nD Cert.StateRefIdeal.τ).loc Cert.StateRefIdeal.main_arg10)
      ∧ r.2.mem ((c.tc : Thread Cert.StateRefIdeal.nD Cert.StateRefIdeal.τ).loc Cert.StateRefIdeal.main_arg11) = m ((c.tc : Thread Cert.StateRefIdeal.nD Cert.StateRefIdeal.τ).loc Cert.StateRefIdeal.main_arg11)
      ∧ r.2.mem ((c.tc : Thread Cert.StateRefIdeal.nD Cert.StateRefIdeal.τ).loc Cert.StateRefIdeal.main_arg12) = m ((c.tc : Thread Cert.StateRefIdeal.nD Cert.StateRefIdeal.τ).loc Cert.StateRefIdeal.main_arg12)
      ∧ r.2.mem ((c.tc : Thread Cert.StateRefIdeal.nD Cert.StateRefIdeal.τ).loc Cert.StateRefIdeal.main_arg13) = m ((c.tc : Thread Cert.StateRefIdeal.nD Cert.StateRefIdeal.τ).loc Cert.StateRefIdeal.main_arg13)
      ∧ r.2.mem ((c.tc : Thread Cert.StateRefIdeal.nD Cert.StateRefIdeal.τ).loc Cert.StateRefIdeal.main_arg14) = m ((c.tc : Thread Cert.StateRefIdeal.nD Cert.StateRefIdeal.τ).loc Cert.StateRefIdeal.main_arg14)
      ∧ r.2.mem ((c.tc : Thread Cert.StateRefIdeal.nD Cert.StateRefIdeal.τ).loc Cert.StateRefIdeal.main_arg15) = m ((c.tc : Thread Cert.StateRefIdeal.nD Cert.StateRefIdeal.τ).loc Cert.StateRefIdeal.main_arg15)
      ∧ r.2.mem ((c.tc : Thread Cert.StateRefIdeal.nD Cert.StateRefIdeal.τ).loc Cert.StateRefIdeal.main_arg16) = m ((c.tc : Thread Cert.StateRefIdeal.nD Cert.StateRefIdeal.τ).loc Cert.StateRefIdeal.main_arg16)
      ∧ r.2.mem ((c.tc : Thread Cert.StateRefIdeal.nD Cert.StateRefIdeal.τ).loc Cert.StateRefIdeal.main_arg17) = m ((c.tc : Thread Cert.StateRefIdeal.nD Cert.StateRefIdeal.τ).loc Cert.StateRefIdeal.main_arg17)
      ∧ r.2.mem ((c.tc : Thread Cert.StateRefIdeal.nD Cert.StateRefIdeal.τ).loc Cert.StateRefIdeal.main_arg18) = m ((c.tc : Thread Cert.StateRefIdeal.nD Cert.StateRefIdeal.τ).loc Cert.StateRefIdeal.main_arg18)
      ∧ r.2.mem ((c.tc : Thread Cert.StateRefIdeal.nD Cert.StateRefIdeal.τ).loc Cert.StateRefIdeal.main_arg19) = m ((c.tc : Thread Cert.StateRefIdeal.nD Cert.StateRefIdeal.τ).loc Cert.StateRefIdeal.main_arg19)
      ∧ r.2.mem ((c.tc : Thread Cert.StateRefIdeal.nD Cert.StateRefIdeal.τ).loc Cert.StateRefIdeal.main_arg20) = m ((c.tc : Thread Cert.StateRefIdeal.nD Cert.StateRefIdeal.τ).loc Cert.StateRefIdeal.main_arg20)
      ∧ r.2.mem ((c.tc : Thread Cert.StateRefIdeal.nD Cert.StateRefIdeal.τ).loc Cert.StateRefIdeal.main_arg21) = m ((c.tc : Thread Cert.StateRefIdeal.nD Cert.StateRefIdeal.τ).loc Cert.StateRefIdeal.main_arg21)
      ∧ r.2.mem ((c.tc : Thread Cert.StateRefIdeal.nD Cert.StateRefIdeal.τ).loc Cert.StateRefIdeal.main_arg22) = m ((c.tc : Thread Cert.StateRefIdeal.nD Cert.StateRefIdeal.τ).loc Cert.StateRefIdeal.main_arg22)
      ∧ r.2.mem ((c.tc : Thread Cert.StateRefIdeal.nD Cert.StateRefIdeal.τ).loc Cert.StateRefIdeal.main_arg23) = m ((c.tc : Thread Cert.StateRefIdeal.nD Cert.StateRefIdeal.τ).loc Cert.StateRefIdeal.main_arg23)
      ∧ r.2.mem ((c.tc : Thread Cert.StateRefIdeal.nD Cert.StateRefIdeal.τ).loc Cert.StateRefIdeal.main_arg24) = m ((c.tc : Thread Cert.StateRefIdeal.nD Cert.StateRefIdeal.τ).loc Cert.StateRefIdeal.main_arg24)
      ∧ r.2.mem ((c.tc : Thread Cert.StateRefIdeal.nD Cert.StateRefIdeal.τ).loc Cert.StateRefIdeal.main_arg25) = m ((c.tc : Thread Cert.StateRefIdeal.nD Cert.StateRefIdeal.τ).loc Cert.StateRefIdeal.main_arg25)
      ∧ r.2.mem ((c.tc : Thread Cert.StateRefIdeal.nD Cert.StateRefIdeal.τ).loc Cert.StateRefIdeal.main_arg26) = m ((c.tc : Thread Cert.StateRefIdeal.nD Cert.StateRefIdeal.τ).loc Cert.StateRefIdeal.main_arg26)
      ∧ r.2.mem ((c.tc : Thread Cert.StateRefIdeal.nD Cert.StateRefIdeal.τ).loc Cert.StateRefIdeal.main_arg27) = m ((c.tc : Thread Cert.StateRefIdeal.nD Cert.StateRefIdeal.τ).loc Cert.StateRefIdeal.main_arg27)
      ∧ r.2.mem ((c.tc : Thread Cert.StateRefIdeal.nD Cert.StateRefIdeal.τ).loc Cert.StateRefIdeal.main_arg28) = m ((c.tc : Thread Cert.StateRefIdeal.nD Cert.StateRefIdeal.τ).loc Cert.StateRefIdeal.main_arg28)
      ∧ r.2.mem ((c.tc : Thread Cert.StateRefIdeal.nD Cert.StateRefIdeal.τ).loc Cert.StateRefIdeal.main_arg29) = m ((c.tc : Thread Cert.StateRefIdeal.nD Cert.StateRefIdeal.τ).loc Cert.StateRefIdeal.main_arg29)
      ∧ r.2.mem ((c.tc : Thread Cert.StateRefIdeal.nD Cert.StateRefIdeal.τ).loc Cert.StateRefIdeal.main_arg30) = m ((c.tc : Thread Cert.StateRefIdeal.nD Cert.StateRefIdeal.τ).loc Cert.StateRefIdeal.main_arg30)
      ∧ r.2.mem ((c.tc : Thread Cert.StateRefIdeal.nD Cert.StateRefIdeal.τ).loc Cert.StateRefIdeal.main_arg31) = m ((c.tc : Thread Cert.StateRefIdeal.nD Cert.StateRefIdeal.τ).loc Cert.StateRefIdeal.main_arg31))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v13)) (v4 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v13) = v3 c
          ∧ r.2.mem ((c.tc : Thread Cert.KernelIdeal.nD Cert.KernelIdeal.τ).loc Cert.KernelIdeal.main_v8) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v14) = v2 c
          ∧ r.2.mem ((c.tc : Thread Cert.ReferenceIdeal.nD Cert.ReferenceIdeal.τ).loc Cert.ReferenceIdeal.main_v12) = v3 c
          ∧ r.2.mem ((c.tc : Thread Cert.ReferenceIdeal.nD Cert.ReferenceIdeal.τ).loc Cert.ReferenceIdeal.main_v6) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)
      ∧ m' ((c.tc : Thread Cert.NormRefIdeal.nD Cert.NormRefIdeal.τ).loc Cert.NormRefIdeal.main_arg6) = m ((c.tc : Thread Cert.NormIdeal.nD Cert.NormIdeal.τ).loc Cert.NormIdeal.main_arg6)) →
    ∃ (v0 : (c : Dev Cert.NormIdeal.nD) → Buf (Elt Ideal) ((c.tc : Thread Cert.NormIdeal.nD Cert.NormIdeal.τ).loc Cert.NormIdeal.main_v4_0)) (v1 : (c : Dev Cert.NormIdeal.nD) → Buf (Elt Ideal) ((c.tc : Thread Cert.NormIdeal.nD Cert.NormIdeal.τ).loc Cert.NormIdeal.main_v4_1)) (v2 : (c : Dev Cert.NormIdeal.nD) → Buf (Elt Ideal) ((c.tc : Thread Cert.NormIdeal.nD Cert.NormIdeal.τ).loc Cert.NormIdeal.main_v4_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v4_0) = v0 c
          ∧ r.2.mem ((c.tc : Thread Cert.NormIdeal.nD Cert.NormIdeal.τ).loc Cert.NormIdeal.main_v4_1) = v1 c
          ∧ r.2.mem ((c.tc : Thread Cert.NormIdeal.nD Cert.NormIdeal.τ).loc Cert.NormIdeal.main_v4_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
          ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v41) = v0 c
          ∧ r.2.mem ((c.tc : Thread Cert.NormRefIdeal.nD Cert.NormRefIdeal.τ).loc Cert.NormRefIdeal.main_v42) = v1 c
          ∧ r.2.mem ((c.tc : Thread Cert.NormRefIdeal.nD Cert.NormRefIdeal.τ).loc Cert.NormRefIdeal.main_v24) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5)
          ∧ r.2.mem ((c.tc : Thread Cert.NormRefIdeal.nD Cert.NormRefIdeal.τ).loc Cert.NormRefIdeal.main_arg6) = m' ((c.tc : Thread Cert.NormRefIdeal.nD Cert.NormRefIdeal.τ).loc Cert.NormRefIdeal.main_arg6))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)) (v3 : (c : Dev Cert.LossIdeal.nD) → Buf (Elt Ideal) ((c.tc : Thread Cert.LossIdeal.nD Cert.LossIdeal.τ).loc Cert.LossIdeal.main_v1_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_v1_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v51) = v0 c
          ∧ r.2.mem ((c.tc : Thread Cert.LossRefIdeal.nD Cert.LossRefIdeal.τ).loc Cert.LossRefIdeal.main_v52) = v1 c
          ∧ r.2.mem ((c.tc : Thread Cert.LossRefIdeal.nD Cert.LossRefIdeal.τ).loc Cert.LossRefIdeal.main_v35) = v2 c
          ∧ r.2.mem ((c.tc : Thread Cert.LossRefIdeal.nD Cert.LossRefIdeal.τ).loc Cert.LossRefIdeal.main_v53) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v4_1)) (v1 : (c : Dev Cert.MergeIdeal.nD) → Buf (Elt Ideal) ((c.tc : Thread Cert.MergeIdeal.nD Cert.MergeIdeal.τ).loc Cert.MergeIdeal.main_v4_2)) (v2 : (c : Dev Cert.MergeIdeal.nD) → Buf (Elt Ideal) ((c.tc : Thread Cert.MergeIdeal.nD Cert.MergeIdeal.τ).loc Cert.MergeIdeal.main_v6_0)) (v3 : (c : Dev Cert.MergeIdeal.nD) → Buf (Elt Ideal) ((c.tc : Thread Cert.MergeIdeal.nD Cert.MergeIdeal.τ).loc Cert.MergeIdeal.main_v6_3)) (v4 : (c : Dev Cert.MergeIdeal.nD) → Buf (Elt Ideal) ((c.tc : Thread Cert.MergeIdeal.nD Cert.MergeIdeal.τ).loc Cert.MergeIdeal.main_v6_4)) (v5 : (c : Dev Cert.MergeIdeal.nD) → Buf (Elt Ideal) ((c.tc : Thread Cert.MergeIdeal.nD Cert.MergeIdeal.τ).loc Cert.MergeIdeal.main_v5)) (v6 : (c : Dev Cert.MergeIdeal.nD) → Buf (Elt Ideal) ((c.tc : Thread Cert.MergeIdeal.nD Cert.MergeIdeal.τ).loc Cert.MergeIdeal.main_v7)) (v7 : (c : Dev Cert.MergeIdeal.nD) → Buf (Elt Ideal) ((c.tc : Thread Cert.MergeIdeal.nD Cert.MergeIdeal.τ).loc Cert.MergeIdeal.main_v8)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4_1) = v0 c
          ∧ r.2.mem ((c.tc : Thread Cert.MergeIdeal.nD Cert.MergeIdeal.τ).loc Cert.MergeIdeal.main_v4_2) = v1 c
          ∧ r.2.mem ((c.tc : Thread Cert.MergeIdeal.nD Cert.MergeIdeal.τ).loc Cert.MergeIdeal.main_v6_0) = v2 c
          ∧ r.2.mem ((c.tc : Thread Cert.MergeIdeal.nD Cert.MergeIdeal.τ).loc Cert.MergeIdeal.main_v6_3) = v3 c
          ∧ r.2.mem ((c.tc : Thread Cert.MergeIdeal.nD Cert.MergeIdeal.τ).loc Cert.MergeIdeal.main_v6_4) = v4 c
          ∧ r.2.mem ((c.tc : Thread Cert.MergeIdeal.nD Cert.MergeIdeal.τ).loc Cert.MergeIdeal.main_v5) = v5 c
          ∧ r.2.mem ((c.tc : Thread Cert.MergeIdeal.nD Cert.MergeIdeal.τ).loc Cert.MergeIdeal.main_v7) = v6 c
          ∧ r.2.mem ((c.tc : Thread Cert.MergeIdeal.nD Cert.MergeIdeal.τ).loc Cert.MergeIdeal.main_v8) = v7 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v41) = v0 c
          ∧ r.2.mem ((c.tc : Thread Cert.MergeRefIdeal.nD Cert.MergeRefIdeal.τ).loc Cert.MergeRefIdeal.main_v73) = v1 c
          ∧ r.2.mem ((c.tc : Thread Cert.MergeRefIdeal.nD Cert.MergeRefIdeal.τ).loc Cert.MergeRefIdeal.main_v75) = v2 c
          ∧ r.2.mem ((c.tc : Thread Cert.MergeRefIdeal.nD Cert.MergeRefIdeal.τ).loc Cert.MergeRefIdeal.main_v56) = v3 c
          ∧ r.2.mem ((c.tc : Thread Cert.MergeRefIdeal.nD Cert.MergeRefIdeal.τ).loc Cert.MergeRefIdeal.main_v60) = v4 c
          ∧ r.2.mem ((c.tc : Thread Cert.MergeRefIdeal.nD Cert.MergeRefIdeal.τ).loc Cert.MergeRefIdeal.main_v43) = v5 c
          ∧ r.2.mem ((c.tc : Thread Cert.MergeRefIdeal.nD Cert.MergeRefIdeal.τ).loc Cert.MergeRefIdeal.main_v77) = v6 c
          ∧ r.2.mem ((c.tc : Thread Cert.MergeRefIdeal.nD Cert.MergeRefIdeal.τ).loc Cert.MergeRefIdeal.main_v79) = v7 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)) →
    ∃ (v0 : (c : Dev Cert.MixIdeal.nD) → Buf (Elt Ideal) ((c.tc : Thread Cert.MixIdeal.nD Cert.MixIdeal.τ).loc Cert.MixIdeal.main_v4_0)) (v1 : (c : Dev Cert.MixIdeal.nD) → Buf (Elt Ideal) ((c.tc : Thread Cert.MixIdeal.nD Cert.MixIdeal.τ).loc Cert.MixIdeal.main_v4_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v4_0) = v0 c
          ∧ r.2.mem ((c.tc : Thread Cert.MixIdeal.nD Cert.MixIdeal.τ).loc Cert.MixIdeal.main_v4_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v42) = v0 c
          ∧ r.2.mem ((c.tc : Thread Cert.MixRefIdeal.nD Cert.MixRefIdeal.τ).loc Cert.MixRefIdeal.main_v25) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v9)) (v1 : (c : Dev Cert.ProjIdeal.nD) → Buf (Elt Ideal) ((c.tc : Thread Cert.ProjIdeal.nD Cert.ProjIdeal.τ).loc Cert.ProjIdeal.main_v10)) (v2 : (c : Dev Cert.ProjIdeal.nD) → Buf (Elt Ideal) ((c.tc : Thread Cert.ProjIdeal.nD Cert.ProjIdeal.τ).loc Cert.ProjIdeal.main_v17)) (v3 : (c : Dev Cert.ProjIdeal.nD) → Buf (Elt Ideal) ((c.tc : Thread Cert.ProjIdeal.nD Cert.ProjIdeal.τ).loc Cert.ProjIdeal.main_v12)) (v4 : (c : Dev Cert.ProjIdeal.nD) → Buf (Elt Ideal) ((c.tc : Thread Cert.ProjIdeal.nD Cert.ProjIdeal.τ).loc Cert.ProjIdeal.main_v13)) (v5 : (c : Dev Cert.ProjIdeal.nD) → Buf (Elt Ideal) ((c.tc : Thread Cert.ProjIdeal.nD Cert.ProjIdeal.τ).loc Cert.ProjIdeal.main_v14)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v9) = v0 c
          ∧ r.2.mem ((c.tc : Thread Cert.ProjIdeal.nD Cert.ProjIdeal.τ).loc Cert.ProjIdeal.main_v10) = v1 c
          ∧ r.2.mem ((c.tc : Thread Cert.ProjIdeal.nD Cert.ProjIdeal.τ).loc Cert.ProjIdeal.main_v17) = v2 c
          ∧ r.2.mem ((c.tc : Thread Cert.ProjIdeal.nD Cert.ProjIdeal.τ).loc Cert.ProjIdeal.main_v12) = v3 c
          ∧ r.2.mem ((c.tc : Thread Cert.ProjIdeal.nD Cert.ProjIdeal.τ).loc Cert.ProjIdeal.main_v13) = v4 c
          ∧ r.2.mem ((c.tc : Thread Cert.ProjIdeal.nD Cert.ProjIdeal.τ).loc Cert.ProjIdeal.main_v14) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v5) = v0 c
          ∧ r.2.mem ((c.tc : Thread Cert.ProjRefIdeal.nD Cert.ProjRefIdeal.τ).loc Cert.ProjRefIdeal.main_v14) = v1 c
          ∧ r.2.mem ((c.tc : Thread Cert.ProjRefIdeal.nD Cert.ProjRefIdeal.τ).loc Cert.ProjRefIdeal.main_v15) = v2 c
          ∧ r.2.mem ((c.tc : Thread Cert.ProjRefIdeal.nD Cert.ProjRefIdeal.τ).loc Cert.ProjRefIdeal.main_v19) = v3 c
          ∧ r.2.mem ((c.tc : Thread Cert.ProjRefIdeal.nD Cert.ProjRefIdeal.τ).loc Cert.ProjRefIdeal.main_v23) = v4 c
          ∧ r.2.mem ((c.tc : Thread Cert.ProjRefIdeal.nD Cert.ProjRefIdeal.τ).loc Cert.ProjRefIdeal.main_v13) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)
      ∧ m' ((c.tc : Thread Cert.RopeRefIdeal.nD Cert.RopeRefIdeal.τ).loc Cert.RopeRefIdeal.main_arg1) = m ((c.tc : Thread Cert.RopeIdeal.nD Cert.RopeIdeal.τ).loc Cert.RopeIdeal.main_arg1)
      ∧ m' ((c.tc : Thread Cert.RopeRefIdeal.nD Cert.RopeRefIdeal.τ).loc Cert.RopeRefIdeal.main_arg2) = m ((c.tc : Thread Cert.RopeIdeal.nD Cert.RopeIdeal.τ).loc Cert.RopeIdeal.main_arg2)
      ∧ m' ((c.tc : Thread Cert.RopeRefIdeal.nD Cert.RopeRefIdeal.τ).loc Cert.RopeRefIdeal.main_arg3) = m ((c.tc : Thread Cert.RopeIdeal.nD Cert.RopeIdeal.τ).loc Cert.RopeIdeal.main_arg3)) →
    ∃ (v0 : (c : Dev Cert.RopeIdeal.nD) → Buf (Elt Ideal) ((c.tc : Thread Cert.RopeIdeal.nD Cert.RopeIdeal.τ).loc Cert.RopeIdeal.main_v22)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v22) = v0 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
          ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
          ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v51) = v0 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0)
          ∧ r.2.mem ((c.tc : Thread Cert.RopeRefIdeal.nD Cert.RopeRefIdeal.τ).loc Cert.RopeRefIdeal.main_arg1) = m' ((c.tc : Thread Cert.RopeRefIdeal.nD Cert.RopeRefIdeal.τ).loc Cert.RopeRefIdeal.main_arg1)
          ∧ r.2.mem ((c.tc : Thread Cert.RopeRefIdeal.nD Cert.RopeRefIdeal.τ).loc Cert.RopeRefIdeal.main_arg2) = m' ((c.tc : Thread Cert.RopeRefIdeal.nD Cert.RopeRefIdeal.τ).loc Cert.RopeRefIdeal.main_arg2)
          ∧ r.2.mem ((c.tc : Thread Cert.RopeRefIdeal.nD Cert.RopeRefIdeal.τ).loc Cert.RopeRefIdeal.main_arg3) = m' ((c.tc : Thread Cert.RopeRefIdeal.nD Cert.RopeRefIdeal.τ).loc Cert.RopeRefIdeal.main_arg3))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)
      ∧ m' ((c.tc : Thread Cert.PrepRefIdeal.nD Cert.PrepRefIdeal.τ).loc Cert.PrepRefIdeal.main_arg8) = m ((c.tc : Thread Cert.PrepIdeal.nD Cert.PrepIdeal.τ).loc Cert.PrepIdeal.main_arg8)) →
    ∃ (v0 : (c : Dev Cert.PrepIdeal.nD) → Buf (Elt Ideal) ((c.tc : Thread Cert.PrepIdeal.nD Cert.PrepIdeal.τ).loc Cert.PrepIdeal.main_v4_0)) (v1 : (c : Dev Cert.PrepIdeal.nD) → Buf (Elt Ideal) ((c.tc : Thread Cert.PrepIdeal.nD Cert.PrepIdeal.τ).loc Cert.PrepIdeal.main_v4_1)) (v2 : (c : Dev Cert.PrepIdeal.nD) → Buf (Elt Ideal) ((c.tc : Thread Cert.PrepIdeal.nD Cert.PrepIdeal.τ).loc Cert.PrepIdeal.main_v4_2)) (v3 : (c : Dev Cert.PrepIdeal.nD) → Buf (Elt Ideal) ((c.tc : Thread Cert.PrepIdeal.nD Cert.PrepIdeal.τ).loc Cert.PrepIdeal.main_v4_3)) (v4 : (c : Dev Cert.PrepIdeal.nD) → Buf (Elt Ideal) ((c.tc : Thread Cert.PrepIdeal.nD Cert.PrepIdeal.τ).loc Cert.PrepIdeal.main_v3_0)) (v5 : (c : Dev Cert.PrepIdeal.nD) → Buf (Elt Ideal) ((c.tc : Thread Cert.PrepIdeal.nD Cert.PrepIdeal.τ).loc Cert.PrepIdeal.main_v3_1)) (v6 : (c : Dev Cert.PrepIdeal.nD) → Buf (Elt Ideal) ((c.tc : Thread Cert.PrepIdeal.nD Cert.PrepIdeal.τ).loc Cert.PrepIdeal.main_v3_2)) (v7 : (c : Dev Cert.PrepIdeal.nD) → Buf (Elt Ideal) ((c.tc : Thread Cert.PrepIdeal.nD Cert.PrepIdeal.τ).loc Cert.PrepIdeal.main_v3_3)) (v8 : (c : Dev Cert.PrepIdeal.nD) → Buf (Elt Ideal) ((c.tc : Thread Cert.PrepIdeal.nD Cert.PrepIdeal.τ).loc Cert.PrepIdeal.main_v3_4)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v4_0) = v0 c
          ∧ r.2.mem ((c.tc : Thread Cert.PrepIdeal.nD Cert.PrepIdeal.τ).loc Cert.PrepIdeal.main_v4_1) = v1 c
          ∧ r.2.mem ((c.tc : Thread Cert.PrepIdeal.nD Cert.PrepIdeal.τ).loc Cert.PrepIdeal.main_v4_2) = v2 c
          ∧ r.2.mem ((c.tc : Thread Cert.PrepIdeal.nD Cert.PrepIdeal.τ).loc Cert.PrepIdeal.main_v4_3) = v3 c
          ∧ r.2.mem ((c.tc : Thread Cert.PrepIdeal.nD Cert.PrepIdeal.τ).loc Cert.PrepIdeal.main_v3_0) = v4 c
          ∧ r.2.mem ((c.tc : Thread Cert.PrepIdeal.nD Cert.PrepIdeal.τ).loc Cert.PrepIdeal.main_v3_1) = v5 c
          ∧ r.2.mem ((c.tc : Thread Cert.PrepIdeal.nD Cert.PrepIdeal.τ).loc Cert.PrepIdeal.main_v3_2) = v6 c
          ∧ r.2.mem ((c.tc : Thread Cert.PrepIdeal.nD Cert.PrepIdeal.τ).loc Cert.PrepIdeal.main_v3_3) = v7 c
          ∧ r.2.mem ((c.tc : Thread Cert.PrepIdeal.nD Cert.PrepIdeal.τ).loc Cert.PrepIdeal.main_v3_4) = v8 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v9) = v0 c
          ∧ r.2.mem ((c.tc : Thread Cert.PrepRefIdeal.nD Cert.PrepRefIdeal.τ).loc Cert.PrepRefIdeal.main_v14) = v1 c
          ∧ r.2.mem ((c.tc : Thread Cert.PrepRefIdeal.nD Cert.PrepRefIdeal.τ).loc Cert.PrepRefIdeal.main_v142) = v2 c
          ∧ r.2.mem ((c.tc : Thread Cert.PrepRefIdeal.nD Cert.PrepRefIdeal.τ).loc Cert.PrepRefIdeal.main_v143) = v3 c
          ∧ r.2.mem ((c.tc : Thread Cert.PrepRefIdeal.nD Cert.PrepRefIdeal.τ).loc Cert.PrepRefIdeal.main_v139) = v4 c
          ∧ r.2.mem ((c.tc : Thread Cert.PrepRefIdeal.nD Cert.PrepRefIdeal.τ).loc Cert.PrepRefIdeal.main_v131) = v5 c
          ∧ r.2.mem ((c.tc : Thread Cert.PrepRefIdeal.nD Cert.PrepRefIdeal.τ).loc Cert.PrepRefIdeal.main_v144) = v6 c
          ∧ r.2.mem ((c.tc : Thread Cert.PrepRefIdeal.nD Cert.PrepRefIdeal.τ).loc Cert.PrepRefIdeal.main_v145) = v7 c
          ∧ r.2.mem ((c.tc : Thread Cert.PrepRefIdeal.nD Cert.PrepRefIdeal.τ).loc Cert.PrepRefIdeal.main_v146) = v8 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7)
          ∧ r.2.mem ((c.tc : Thread Cert.PrepRefIdeal.nD Cert.PrepRefIdeal.τ).loc Cert.PrepRefIdeal.main_arg8) = m' ((c.tc : Thread Cert.PrepRefIdeal.nD Cert.PrepRefIdeal.τ).loc Cert.PrepRefIdeal.main_arg8))

def preserves_Gains_GainsIdeal : Prop :=
  True

def algebraic_GainsIdeal_GainsRefIdeal [hGainsIdeal : Cert.GainsIdeal.Facts] [hGainsRefIdeal : Cert.GainsRefIdeal.Facts] : Prop :=
  ∀ (m : (ℓ : Loc Cert.GainsIdeal.nD Cert.GainsIdeal.τ Cert.GainsIdeal.sig) → Buf (Elt Ideal) ℓ) (g : Dev Cert.GainsIdeal.nD → PrngReg)
    (m' : (ℓ : Loc Cert.GainsRefIdeal.nD Cert.GainsRefIdeal.τ Cert.GainsRefIdeal.sig) → Buf (Elt Ideal) ℓ) (g' : Dev Cert.GainsRefIdeal.nD → PrngReg), Pre_GainsIdeal m →
    (∀ c : Dev Cert.GainsIdeal.nD,
      m' ((c.tc : Thread Cert.GainsRefIdeal.nD Cert.GainsRefIdeal.τ).loc Cert.GainsRefIdeal.main_arg0) = m ((c.tc : Thread Cert.GainsIdeal.nD Cert.GainsIdeal.τ).loc Cert.GainsIdeal.main_arg0)
      ∧ m' ((c.tc : Thread Cert.GainsRefIdeal.nD Cert.GainsRefIdeal.τ).loc Cert.GainsRefIdeal.main_arg1) = m ((c.tc : Thread Cert.GainsIdeal.nD Cert.GainsIdeal.τ).loc Cert.GainsIdeal.main_arg1)
      ∧ m' ((c.tc : Thread Cert.GainsRefIdeal.nD Cert.GainsRefIdeal.τ).loc Cert.GainsRefIdeal.main_arg2) = m ((c.tc : Thread Cert.GainsIdeal.nD Cert.GainsIdeal.τ).loc Cert.GainsIdeal.main_arg2)
      ∧ m' ((c.tc : Thread Cert.GainsRefIdeal.nD Cert.GainsRefIdeal.τ).loc Cert.GainsRefIdeal.main_arg3) = m ((c.tc : Thread Cert.GainsIdeal.nD Cert.GainsIdeal.τ).loc Cert.GainsIdeal.main_arg3)
      ∧ m' ((c.tc : Thread Cert.GainsRefIdeal.nD Cert.GainsRefIdeal.τ).loc Cert.GainsRefIdeal.main_arg4) = m ((c.tc : Thread Cert.GainsIdeal.nD Cert.GainsIdeal.τ).loc Cert.GainsIdeal.main_arg4)
      ∧ m' ((c.tc : Thread Cert.GainsRefIdeal.nD Cert.GainsRefIdeal.τ).loc Cert.GainsRefIdeal.main_arg5) = m ((c.tc : Thread Cert.GainsIdeal.nD Cert.GainsIdeal.τ).loc Cert.GainsIdeal.main_arg5)
      ∧ m' ((c.tc : Thread Cert.GainsRefIdeal.nD Cert.GainsRefIdeal.τ).loc Cert.GainsRefIdeal.main_arg6) = m ((c.tc : Thread Cert.GainsIdeal.nD Cert.GainsIdeal.τ).loc Cert.GainsIdeal.main_arg6)
      ∧ m' ((c.tc : Thread Cert.GainsRefIdeal.nD Cert.GainsRefIdeal.τ).loc Cert.GainsRefIdeal.main_arg7) = m ((c.tc : Thread Cert.GainsIdeal.nD Cert.GainsIdeal.τ).loc Cert.GainsIdeal.main_arg7)
      ∧ m' ((c.tc : Thread Cert.GainsRefIdeal.nD Cert.GainsRefIdeal.τ).loc Cert.GainsRefIdeal.main_arg8) = m ((c.tc : Thread Cert.GainsIdeal.nD Cert.GainsIdeal.τ).loc Cert.GainsIdeal.main_arg8)
      ∧ m' ((c.tc : Thread Cert.GainsRefIdeal.nD Cert.GainsRefIdeal.τ).loc Cert.GainsRefIdeal.main_arg9) = m ((c.tc : Thread Cert.GainsIdeal.nD Cert.GainsIdeal.τ).loc Cert.GainsIdeal.main_arg9)) →
    ∃ (v0 : (c : Dev Cert.GainsIdeal.nD) → Buf (Elt Ideal) ((c.tc : Thread Cert.GainsIdeal.nD Cert.GainsIdeal.τ).loc Cert.GainsIdeal.main_v48)) (v1 : (c : Dev Cert.GainsIdeal.nD) → Buf (Elt Ideal) ((c.tc : Thread Cert.GainsIdeal.nD Cert.GainsIdeal.τ).loc Cert.GainsIdeal.main_v18)) (v2 : (c : Dev Cert.GainsIdeal.nD) → Buf (Elt Ideal) ((c.tc : Thread Cert.GainsIdeal.nD Cert.GainsIdeal.τ).loc Cert.GainsIdeal.main_v20)) (v3 : (c : Dev Cert.GainsIdeal.nD) → Buf (Elt Ideal) ((c.tc : Thread Cert.GainsIdeal.nD Cert.GainsIdeal.τ).loc Cert.GainsIdeal.main_v21)) (v4 : (c : Dev Cert.GainsIdeal.nD) → Buf (Elt Ideal) ((c.tc : Thread Cert.GainsIdeal.nD Cert.GainsIdeal.τ).loc Cert.GainsIdeal.main_v26)) (v5 : (c : Dev Cert.GainsIdeal.nD) → Buf (Elt Ideal) ((c.tc : Thread Cert.GainsIdeal.nD Cert.GainsIdeal.τ).loc Cert.GainsIdeal.main_v28)) (v6 : (c : Dev Cert.GainsIdeal.nD) → Buf (Elt Ideal) ((c.tc : Thread Cert.GainsIdeal.nD Cert.GainsIdeal.τ).loc Cert.GainsIdeal.main_v29)) (v7 : (c : Dev Cert.GainsIdeal.nD) → Buf (Elt Ideal) ((c.tc : Thread Cert.GainsIdeal.nD Cert.GainsIdeal.τ).loc Cert.GainsIdeal.main_v34)) (v8 : (c : Dev Cert.GainsIdeal.nD) → Buf (Elt Ideal) ((c.tc : Thread Cert.GainsIdeal.nD Cert.GainsIdeal.τ).loc Cert.GainsIdeal.main_v36)) (v9 : (c : Dev Cert.GainsIdeal.nD) → Buf (Elt Ideal) ((c.tc : Thread Cert.GainsIdeal.nD Cert.GainsIdeal.τ).loc Cert.GainsIdeal.main_v37)) (v10 : (c : Dev Cert.GainsIdeal.nD) → Buf (Elt Ideal) ((c.tc : Thread Cert.GainsIdeal.nD Cert.GainsIdeal.τ).loc Cert.GainsIdeal.main_v42)) (v11 : (c : Dev Cert.GainsIdeal.nD) → Buf (Elt Ideal) ((c.tc : Thread Cert.GainsIdeal.nD Cert.GainsIdeal.τ).loc Cert.GainsIdeal.main_v44)) (v12 : (c : Dev Cert.GainsIdeal.nD) → Buf (Elt Ideal) ((c.tc : Thread Cert.GainsIdeal.nD Cert.GainsIdeal.τ).loc Cert.GainsIdeal.main_v45)),
      θ_run (Cert.GainsIdeal.defs (F := Ideal)) (onTc (τ := Cert.GainsIdeal.τ) (Cert.GainsIdeal.main (F := Ideal))) ⟨m, fun _ => 0, g⟩ (fun r => ∀ c : Dev Cert.GainsIdeal.nD,
          r.2.mem ((c.tc : Thread Cert.GainsIdeal.nD Cert.GainsIdeal.τ).loc Cert.GainsIdeal.main_v48) = v0 c
          ∧ r.2.mem ((c.tc : Thread Cert.GainsIdeal.nD Cert.GainsIdeal.τ).loc Cert.GainsIdeal.main_v18) = v1 c
          ∧ r.2.mem ((c.tc : Thread Cert.GainsIdeal.nD Cert.GainsIdeal.τ).loc Cert.GainsIdeal.main_v20) = v2 c
          ∧ r.2.mem ((c.tc : Thread Cert.GainsIdeal.nD Cert.GainsIdeal.τ).loc Cert.GainsIdeal.main_v21) = v3 c
          ∧ r.2.mem ((c.tc : Thread Cert.GainsIdeal.nD Cert.GainsIdeal.τ).loc Cert.GainsIdeal.main_v26) = v4 c
          ∧ r.2.mem ((c.tc : Thread Cert.GainsIdeal.nD Cert.GainsIdeal.τ).loc Cert.GainsIdeal.main_v28) = v5 c
          ∧ r.2.mem ((c.tc : Thread Cert.GainsIdeal.nD Cert.GainsIdeal.τ).loc Cert.GainsIdeal.main_v29) = v6 c
          ∧ r.2.mem ((c.tc : Thread Cert.GainsIdeal.nD Cert.GainsIdeal.τ).loc Cert.GainsIdeal.main_v34) = v7 c
          ∧ r.2.mem ((c.tc : Thread Cert.GainsIdeal.nD Cert.GainsIdeal.τ).loc Cert.GainsIdeal.main_v36) = v8 c
          ∧ r.2.mem ((c.tc : Thread Cert.GainsIdeal.nD Cert.GainsIdeal.τ).loc Cert.GainsIdeal.main_v37) = v9 c
          ∧ r.2.mem ((c.tc : Thread Cert.GainsIdeal.nD Cert.GainsIdeal.τ).loc Cert.GainsIdeal.main_v42) = v10 c
          ∧ r.2.mem ((c.tc : Thread Cert.GainsIdeal.nD Cert.GainsIdeal.τ).loc Cert.GainsIdeal.main_v44) = v11 c
          ∧ r.2.mem ((c.tc : Thread Cert.GainsIdeal.nD Cert.GainsIdeal.τ).loc Cert.GainsIdeal.main_v45) = v12 c
          ∧ r.2.mem ((c.tc : Thread Cert.GainsIdeal.nD Cert.GainsIdeal.τ).loc Cert.GainsIdeal.main_arg0) = m ((c.tc : Thread Cert.GainsIdeal.nD Cert.GainsIdeal.τ).loc Cert.GainsIdeal.main_arg0)
          ∧ r.2.mem ((c.tc : Thread Cert.GainsIdeal.nD Cert.GainsIdeal.τ).loc Cert.GainsIdeal.main_arg1) = m ((c.tc : Thread Cert.GainsIdeal.nD Cert.GainsIdeal.τ).loc Cert.GainsIdeal.main_arg1)
          ∧ r.2.mem ((c.tc : Thread Cert.GainsIdeal.nD Cert.GainsIdeal.τ).loc Cert.GainsIdeal.main_arg2) = m ((c.tc : Thread Cert.GainsIdeal.nD Cert.GainsIdeal.τ).loc Cert.GainsIdeal.main_arg2)
          ∧ r.2.mem ((c.tc : Thread Cert.GainsIdeal.nD Cert.GainsIdeal.τ).loc Cert.GainsIdeal.main_arg3) = m ((c.tc : Thread Cert.GainsIdeal.nD Cert.GainsIdeal.τ).loc Cert.GainsIdeal.main_arg3)
          ∧ r.2.mem ((c.tc : Thread Cert.GainsIdeal.nD Cert.GainsIdeal.τ).loc Cert.GainsIdeal.main_arg4) = m ((c.tc : Thread Cert.GainsIdeal.nD Cert.GainsIdeal.τ).loc Cert.GainsIdeal.main_arg4)
          ∧ r.2.mem ((c.tc : Thread Cert.GainsIdeal.nD Cert.GainsIdeal.τ).loc Cert.GainsIdeal.main_arg5) = m ((c.tc : Thread Cert.GainsIdeal.nD Cert.GainsIdeal.τ).loc Cert.GainsIdeal.main_arg5)
          ∧ r.2.mem ((c.tc : Thread Cert.GainsIdeal.nD Cert.GainsIdeal.τ).loc Cert.GainsIdeal.main_arg6) = m ((c.tc : Thread Cert.GainsIdeal.nD Cert.GainsIdeal.τ).loc Cert.GainsIdeal.main_arg6)
          ∧ r.2.mem ((c.tc : Thread Cert.GainsIdeal.nD Cert.GainsIdeal.τ).loc Cert.GainsIdeal.main_arg7) = m ((c.tc : Thread Cert.GainsIdeal.nD Cert.GainsIdeal.τ).loc Cert.GainsIdeal.main_arg7)
          ∧ r.2.mem ((c.tc : Thread Cert.GainsIdeal.nD Cert.GainsIdeal.τ).loc Cert.GainsIdeal.main_arg8) = m ((c.tc : Thread Cert.GainsIdeal.nD Cert.GainsIdeal.τ).loc Cert.GainsIdeal.main_arg8)
          ∧ r.2.mem ((c.tc : Thread Cert.GainsIdeal.nD Cert.GainsIdeal.τ).loc Cert.GainsIdeal.main_arg9) = m ((c.tc : Thread Cert.GainsIdeal.nD Cert.GainsIdeal.τ).loc Cert.GainsIdeal.main_arg9))
      ∧ θ_run (Cert.GainsRefIdeal.defs (F := Ideal)) (onTc (τ := Cert.GainsRefIdeal.τ) (Cert.GainsRefIdeal.main (F := Ideal))) ⟨m', fun _ => 0, g'⟩ (fun r => ∀ c : Dev Cert.GainsRefIdeal.nD,
          r.2.mem ((c.tc : Thread Cert.GainsRefIdeal.nD Cert.GainsRefIdeal.τ).loc Cert.GainsRefIdeal.main_v79) = v0 c
          ∧ r.2.mem ((c.tc : Thread Cert.GainsRefIdeal.nD Cert.GainsRefIdeal.τ).loc Cert.GainsRefIdeal.main_v3) = v1 c
          ∧ r.2.mem ((c.tc : Thread Cert.GainsRefIdeal.nD Cert.GainsRefIdeal.τ).loc Cert.GainsRefIdeal.main_v5) = v2 c
          ∧ r.2.mem ((c.tc : Thread Cert.GainsRefIdeal.nD Cert.GainsRefIdeal.τ).loc Cert.GainsRefIdeal.main_v6) = v3 c
          ∧ r.2.mem ((c.tc : Thread Cert.GainsRefIdeal.nD Cert.GainsRefIdeal.τ).loc Cert.GainsRefIdeal.main_v30) = v4 c
          ∧ r.2.mem ((c.tc : Thread Cert.GainsRefIdeal.nD Cert.GainsRefIdeal.τ).loc Cert.GainsRefIdeal.main_v54) = v5 c
          ∧ r.2.mem ((c.tc : Thread Cert.GainsRefIdeal.nD Cert.GainsRefIdeal.τ).loc Cert.GainsRefIdeal.main_v78) = v6 c
          ∧ r.2.mem ((c.tc : Thread Cert.GainsRefIdeal.nD Cert.GainsRefIdeal.τ).loc Cert.GainsRefIdeal.main_v11) = v7 c
          ∧ r.2.mem ((c.tc : Thread Cert.GainsRefIdeal.nD Cert.GainsRefIdeal.τ).loc Cert.GainsRefIdeal.main_v35) = v8 c
          ∧ r.2.mem ((c.tc : Thread Cert.GainsRefIdeal.nD Cert.GainsRefIdeal.τ).loc Cert.GainsRefIdeal.main_v59) = v9 c
          ∧ r.2.mem ((c.tc : Thread Cert.GainsRefIdeal.nD Cert.GainsRefIdeal.τ).loc Cert.GainsRefIdeal.main_v17) = v10 c
          ∧ r.2.mem ((c.tc : Thread Cert.GainsRefIdeal.nD Cert.GainsRefIdeal.τ).loc Cert.GainsRefIdeal.main_v41) = v11 c
          ∧ r.2.mem ((c.tc : Thread Cert.GainsRefIdeal.nD Cert.GainsRefIdeal.τ).loc Cert.GainsRefIdeal.main_v65) = v12 c
          ∧ r.2.mem ((c.tc : Thread Cert.GainsRefIdeal.nD Cert.GainsRefIdeal.τ).loc Cert.GainsRefIdeal.main_arg0) = m' ((c.tc : Thread Cert.GainsRefIdeal.nD Cert.GainsRefIdeal.τ).loc Cert.GainsRefIdeal.main_arg0)
          ∧ r.2.mem ((c.tc : Thread Cert.GainsRefIdeal.nD Cert.GainsRefIdeal.τ).loc Cert.GainsRefIdeal.main_arg1) = m' ((c.tc : Thread Cert.GainsRefIdeal.nD Cert.GainsRefIdeal.τ).loc Cert.GainsRefIdeal.main_arg1)
          ∧ r.2.mem ((c.tc : Thread Cert.GainsRefIdeal.nD Cert.GainsRefIdeal.τ).loc Cert.GainsRefIdeal.main_arg2) = m' ((c.tc : Thread Cert.GainsRefIdeal.nD Cert.GainsRefIdeal.τ).loc Cert.GainsRefIdeal.main_arg2)
          ∧ r.2.mem ((c.tc : Thread Cert.GainsRefIdeal.nD Cert.GainsRefIdeal.τ).loc Cert.GainsRefIdeal.main_arg3) = m' ((c.tc : Thread Cert.GainsRefIdeal.nD Cert.GainsRefIdeal.τ).loc Cert.GainsRefIdeal.main_arg3)
          ∧ r.2.mem ((c.tc : Thread Cert.GainsRefIdeal.nD Cert.GainsRefIdeal.τ).loc Cert.GainsRefIdeal.main_arg4) = m' ((c.tc : Thread Cert.GainsRefIdeal.nD Cert.GainsRefIdeal.τ).loc Cert.GainsRefIdeal.main_arg4)
          ∧ r.2.mem ((c.tc : Thread Cert.GainsRefIdeal.nD Cert.GainsRefIdeal.τ).loc Cert.GainsRefIdeal.main_arg5) = m' ((c.tc : Thread Cert.GainsRefIdeal.nD Cert.GainsRefIdeal.τ).loc Cert.GainsRefIdeal.main_arg5)
          ∧ r.2.mem ((c.tc : Thread Cert.GainsRefIdeal.nD Cert.GainsRefIdeal.τ).loc Cert.GainsRefIdeal.main_arg6) = m' ((c.tc : Thread Cert.GainsRefIdeal.nD Cert.GainsRefIdeal.τ).loc Cert.GainsRefIdeal.main_arg6)
          ∧ r.2.mem ((c.tc : Thread Cert.GainsRefIdeal.nD Cert.GainsRefIdeal.τ).loc Cert.GainsRefIdeal.main_arg7) = m' ((c.tc : Thread Cert.GainsRefIdeal.nD Cert.GainsRefIdeal.τ).loc Cert.GainsRefIdeal.main_arg7)
          ∧ r.2.mem ((c.tc : Thread Cert.GainsRefIdeal.nD Cert.GainsRefIdeal.τ).loc Cert.GainsRefIdeal.main_arg8) = m' ((c.tc : Thread Cert.GainsRefIdeal.nD Cert.GainsRefIdeal.τ).loc Cert.GainsRefIdeal.main_arg8)
          ∧ r.2.mem ((c.tc : Thread Cert.GainsRefIdeal.nD Cert.GainsRefIdeal.τ).loc Cert.GainsRefIdeal.main_arg9) = m' ((c.tc : Thread Cert.GainsRefIdeal.nD Cert.GainsRefIdeal.τ).loc Cert.GainsRefIdeal.main_arg9))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)
      ∧ m' ((c.tc : Thread Cert.AdamRefIdeal.nD Cert.AdamRefIdeal.τ).loc Cert.AdamRefIdeal.main_arg4) = m ((c.tc : Thread Cert.AdamIdeal.nD Cert.AdamIdeal.τ).loc Cert.AdamIdeal.main_arg4)
      ∧ m' ((c.tc : Thread Cert.AdamRefIdeal.nD Cert.AdamRefIdeal.τ).loc Cert.AdamRefIdeal.main_arg5) = m ((c.tc : Thread Cert.AdamIdeal.nD Cert.AdamIdeal.τ).loc Cert.AdamIdeal.main_arg5)
      ∧ m' ((c.tc : Thread Cert.AdamRefIdeal.nD Cert.AdamRefIdeal.τ).loc Cert.AdamRefIdeal.main_arg6) = m ((c.tc : Thread Cert.AdamIdeal.nD Cert.AdamIdeal.τ).loc Cert.AdamIdeal.main_arg6)
      ∧ m' ((c.tc : Thread Cert.AdamRefIdeal.nD Cert.AdamRefIdeal.τ).loc Cert.AdamRefIdeal.main_arg7) = m ((c.tc : Thread Cert.AdamIdeal.nD Cert.AdamIdeal.τ).loc Cert.AdamIdeal.main_arg7)
      ∧ m' ((c.tc : Thread Cert.AdamRefIdeal.nD Cert.AdamRefIdeal.τ).loc Cert.AdamRefIdeal.main_arg8) = m ((c.tc : Thread Cert.AdamIdeal.nD Cert.AdamIdeal.τ).loc Cert.AdamIdeal.main_arg8)
      ∧ m' ((c.tc : Thread Cert.AdamRefIdeal.nD Cert.AdamRefIdeal.τ).loc Cert.AdamRefIdeal.main_arg9) = m ((c.tc : Thread Cert.AdamIdeal.nD Cert.AdamIdeal.τ).loc Cert.AdamIdeal.main_arg9)
      ∧ m' ((c.tc : Thread Cert.AdamRefIdeal.nD Cert.AdamRefIdeal.τ).loc Cert.AdamRefIdeal.main_arg10) = m ((c.tc : Thread Cert.AdamIdeal.nD Cert.AdamIdeal.τ).loc Cert.AdamIdeal.main_arg10)
      ∧ m' ((c.tc : Thread Cert.AdamRefIdeal.nD Cert.AdamRefIdeal.τ).loc Cert.AdamRefIdeal.main_arg11) = m ((c.tc : Thread Cert.AdamIdeal.nD Cert.AdamIdeal.τ).loc Cert.AdamIdeal.main_arg11)
      ∧ m' ((c.tc : Thread Cert.AdamRefIdeal.nD Cert.AdamRefIdeal.τ).loc Cert.AdamRefIdeal.main_arg12) = m ((c.tc : Thread Cert.AdamIdeal.nD Cert.AdamIdeal.τ).loc Cert.AdamIdeal.main_arg12)
      ∧ m' ((c.tc : Thread Cert.AdamRefIdeal.nD Cert.AdamRefIdeal.τ).loc Cert.AdamRefIdeal.main_arg13) = m ((c.tc : Thread Cert.AdamIdeal.nD Cert.AdamIdeal.τ).loc Cert.AdamIdeal.main_arg13)
      ∧ m' ((c.tc : Thread Cert.AdamRefIdeal.nD Cert.AdamRefIdeal.τ).loc Cert.AdamRefIdeal.main_arg14) = m ((c.tc : Thread Cert.AdamIdeal.nD Cert.AdamIdeal.τ).loc Cert.AdamIdeal.main_arg14)
      ∧ m' ((c.tc : Thread Cert.AdamRefIdeal.nD Cert.AdamRefIdeal.τ).loc Cert.AdamRefIdeal.main_arg15) = m ((c.tc : Thread Cert.AdamIdeal.nD Cert.AdamIdeal.τ).loc Cert.AdamIdeal.main_arg15)
      ∧ m' ((c.tc : Thread Cert.AdamRefIdeal.nD Cert.AdamRefIdeal.τ).loc Cert.AdamRefIdeal.main_arg16) = m ((c.tc : Thread Cert.AdamIdeal.nD Cert.AdamIdeal.τ).loc Cert.AdamIdeal.main_arg16)
      ∧ m' ((c.tc : Thread Cert.AdamRefIdeal.nD Cert.AdamRefIdeal.τ).loc Cert.AdamRefIdeal.main_arg17) = m ((c.tc : Thread Cert.AdamIdeal.nD Cert.AdamIdeal.τ).loc Cert.AdamIdeal.main_arg17)
      ∧ m' ((c.tc : Thread Cert.AdamRefIdeal.nD Cert.AdamRefIdeal.τ).loc Cert.AdamRefIdeal.main_arg18) = m ((c.tc : Thread Cert.AdamIdeal.nD Cert.AdamIdeal.τ).loc Cert.AdamIdeal.main_arg18)
      ∧ m' ((c.tc : Thread Cert.AdamRefIdeal.nD Cert.AdamRefIdeal.τ).loc Cert.AdamRefIdeal.main_arg19) = m ((c.tc : Thread Cert.AdamIdeal.nD Cert.AdamIdeal.τ).loc Cert.AdamIdeal.main_arg19)
      ∧ m' ((c.tc : Thread Cert.AdamRefIdeal.nD Cert.AdamRefIdeal.τ).loc Cert.AdamRefIdeal.main_arg20) = m ((c.tc : Thread Cert.AdamIdeal.nD Cert.AdamIdeal.τ).loc Cert.AdamIdeal.main_arg20)
      ∧ m' ((c.tc : Thread Cert.AdamRefIdeal.nD Cert.AdamRefIdeal.τ).loc Cert.AdamRefIdeal.main_arg21) = m ((c.tc : Thread Cert.AdamIdeal.nD Cert.AdamIdeal.τ).loc Cert.AdamIdeal.main_arg21)
      ∧ m' ((c.tc : Thread Cert.AdamRefIdeal.nD Cert.AdamRefIdeal.τ).loc Cert.AdamRefIdeal.main_arg22) = m ((c.tc : Thread Cert.AdamIdeal.nD Cert.AdamIdeal.τ).loc Cert.AdamIdeal.main_arg22)
      ∧ m' ((c.tc : Thread Cert.AdamRefIdeal.nD Cert.AdamRefIdeal.τ).loc Cert.AdamRefIdeal.main_arg23) = m ((c.tc : Thread Cert.AdamIdeal.nD Cert.AdamIdeal.τ).loc Cert.AdamIdeal.main_arg23)
      ∧ m' ((c.tc : Thread Cert.AdamRefIdeal.nD Cert.AdamRefIdeal.τ).loc Cert.AdamRefIdeal.main_arg24) = m ((c.tc : Thread Cert.AdamIdeal.nD Cert.AdamIdeal.τ).loc Cert.AdamIdeal.main_arg24)
      ∧ m' ((c.tc : Thread Cert.AdamRefIdeal.nD Cert.AdamRefIdeal.τ).loc Cert.AdamRefIdeal.main_arg25) = m ((c.tc : Thread Cert.AdamIdeal.nD Cert.AdamIdeal.τ).loc Cert.AdamIdeal.main_arg25)
      ∧ m' ((c.tc : Thread Cert.AdamRefIdeal.nD Cert.AdamRefIdeal.τ).loc Cert.AdamRefIdeal.main_arg26) = m ((c.tc : Thread Cert.AdamIdeal.nD Cert.AdamIdeal.τ).loc Cert.AdamIdeal.main_arg26)
      ∧ m' ((c.tc : Thread Cert.AdamRefIdeal.nD Cert.AdamRefIdeal.τ).loc Cert.AdamRefIdeal.main_arg27) = m ((c.tc : Thread Cert.AdamIdeal.nD Cert.AdamIdeal.τ).loc Cert.AdamIdeal.main_arg27)) →
    ∃ (v0 : (c : Dev Cert.AdamIdeal.nD) → Buf (Elt Ideal) ((c.tc : Thread Cert.AdamIdeal.nD Cert.AdamIdeal.τ).loc Cert.AdamIdeal.main_v4)) (v1 : (c : Dev Cert.AdamIdeal.nD) → Buf (Elt Ideal) ((c.tc : Thread Cert.AdamIdeal.nD Cert.AdamIdeal.τ).loc Cert.AdamIdeal.main_v5)) (v2 : (c : Dev Cert.AdamIdeal.nD) → Buf (Elt Ideal) ((c.tc : Thread Cert.AdamIdeal.nD Cert.AdamIdeal.τ).loc Cert.AdamIdeal.main_v6)) (v3 : (c : Dev Cert.AdamIdeal.nD) → Buf (Elt Ideal) ((c.tc : Thread Cert.AdamIdeal.nD Cert.AdamIdeal.τ).loc Cert.AdamIdeal.main_v7)) (v4 : (c : Dev Cert.AdamIdeal.nD) → Buf (Elt Ideal) ((c.tc : Thread Cert.AdamIdeal.nD Cert.AdamIdeal.τ).loc Cert.AdamIdeal.main_v8_0)) (v5 : (c : Dev Cert.AdamIdeal.nD) → Buf (Elt Ideal) ((c.tc : Thread Cert.AdamIdeal.nD Cert.AdamIdeal.τ).loc Cert.AdamIdeal.main_v8_1)) (v6 : (c : Dev Cert.AdamIdeal.nD) → Buf (Elt Ideal) ((c.tc : Thread Cert.AdamIdeal.nD Cert.AdamIdeal.τ).loc Cert.AdamIdeal.main_v8_2)) (v7 : (c : Dev Cert.AdamIdeal.nD) → Buf (Elt Ideal) ((c.tc : Thread Cert.AdamIdeal.nD Cert.AdamIdeal.τ).loc Cert.AdamIdeal.main_v8_3)) (v8 : (c : Dev Cert.AdamIdeal.nD) → Buf (Elt Ideal) ((c.tc : Thread Cert.AdamIdeal.nD Cert.AdamIdeal.τ).loc Cert.AdamIdeal.main_v9_0)) (v9 : (c : Dev Cert.AdamIdeal.nD) → Buf (Elt Ideal) ((c.tc : Thread Cert.AdamIdeal.nD Cert.AdamIdeal.τ).loc Cert.AdamIdeal.main_v9_1)) (v10 : (c : Dev Cert.AdamIdeal.nD) → Buf (Elt Ideal) ((c.tc : Thread Cert.AdamIdeal.nD Cert.AdamIdeal.τ).loc Cert.AdamIdeal.main_v9_2)) (v11 : (c : Dev Cert.AdamIdeal.nD) → Buf (Elt Ideal) ((c.tc : Thread Cert.AdamIdeal.nD Cert.AdamIdeal.τ).loc Cert.AdamIdeal.main_v9_3)) (v12 : (c : Dev Cert.AdamIdeal.nD) → Buf (Elt Ideal) ((c.tc : Thread Cert.AdamIdeal.nD Cert.AdamIdeal.τ).loc Cert.AdamIdeal.main_v10_0)) (v13 : (c : Dev Cert.AdamIdeal.nD) → Buf (Elt Ideal) ((c.tc : Thread Cert.AdamIdeal.nD Cert.AdamIdeal.τ).loc Cert.AdamIdeal.main_v10_1)) (v14 : (c : Dev Cert.AdamIdeal.nD) → Buf (Elt Ideal) ((c.tc : Thread Cert.AdamIdeal.nD Cert.AdamIdeal.τ).loc Cert.AdamIdeal.main_v10_2)) (v15 : (c : Dev Cert.AdamIdeal.nD) → Buf (Elt Ideal) ((c.tc : Thread Cert.AdamIdeal.nD Cert.AdamIdeal.τ).loc Cert.AdamIdeal.main_v10_3)) (v16 : (c : Dev Cert.AdamIdeal.nD) → Buf (Elt Ideal) ((c.tc : Thread Cert.AdamIdeal.nD Cert.AdamIdeal.τ).loc Cert.AdamIdeal.main_v15)) (v17 : (c : Dev Cert.AdamIdeal.nD) → Buf (Elt Ideal) ((c.tc : Thread Cert.AdamIdeal.nD Cert.AdamIdeal.τ).loc Cert.AdamIdeal.main_v16)) (v18 : (c : Dev Cert.AdamIdeal.nD) → Buf (Elt Ideal) ((c.tc : Thread Cert.AdamIdeal.nD Cert.AdamIdeal.τ).loc Cert.AdamIdeal.main_v17)) (v19 : (c : Dev Cert.AdamIdeal.nD) → Buf (Elt Ideal) ((c.tc : Thread Cert.AdamIdeal.nD Cert.AdamIdeal.τ).loc Cert.AdamIdeal.main_v18)) (v20 : (c : Dev Cert.AdamIdeal.nD) → Buf (Elt Ideal) ((c.tc : Thread Cert.AdamIdeal.nD Cert.AdamIdeal.τ).loc Cert.AdamIdeal.main_v23)) (v21 : (c : Dev Cert.AdamIdeal.nD) → Buf (Elt Ideal) ((c.tc : Thread Cert.AdamIdeal.nD Cert.AdamIdeal.τ).loc Cert.AdamIdeal.main_v24)) (v22 : (c : Dev Cert.AdamIdeal.nD) → Buf (Elt Ideal) ((c.tc : Thread Cert.AdamIdeal.nD Cert.AdamIdeal.τ).loc Cert.AdamIdeal.main_v25)) (v23 : (c : Dev Cert.AdamIdeal.nD) → Buf (Elt Ideal) ((c.tc : Thread Cert.AdamIdeal.nD Cert.AdamIdeal.τ).loc Cert.AdamIdeal.main_v26)) (v24 : (c : Dev Cert.AdamIdeal.nD) → Buf (Elt Ideal) ((c.tc : Thread Cert.AdamIdeal.nD Cert.AdamIdeal.τ).loc Cert.AdamIdeal.main_v27_0)) (v25 : (c : Dev Cert.AdamIdeal.nD) → Buf (Elt Ideal) ((c.tc : Thread Cert.AdamIdeal.nD Cert.AdamIdeal.τ).loc Cert.AdamIdeal.main_v27_1)) (v26 : (c : Dev Cert.AdamIdeal.nD) → Buf (Elt Ideal) ((c.tc : Thread Cert.AdamIdeal.nD Cert.AdamIdeal.τ).loc Cert.AdamIdeal.main_v27_2)) (v27 : (c : Dev Cert.AdamIdeal.nD) → Buf (Elt Ideal) ((c.tc : Thread Cert.AdamIdeal.nD Cert.AdamIdeal.τ).loc Cert.AdamIdeal.main_v27_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v4) = v0 c
          ∧ r.2.mem ((c.tc : Thread Cert.AdamIdeal.nD Cert.AdamIdeal.τ).loc Cert.AdamIdeal.main_v5) = v1 c
          ∧ r.2.mem ((c.tc : Thread Cert.AdamIdeal.nD Cert.AdamIdeal.τ).loc Cert.AdamIdeal.main_v6) = v2 c
          ∧ r.2.mem ((c.tc : Thread Cert.AdamIdeal.nD Cert.AdamIdeal.τ).loc Cert.AdamIdeal.main_v7) = v3 c
          ∧ r.2.mem ((c.tc : Thread Cert.AdamIdeal.nD Cert.AdamIdeal.τ).loc Cert.AdamIdeal.main_v8_0) = v4 c
          ∧ r.2.mem ((c.tc : Thread Cert.AdamIdeal.nD Cert.AdamIdeal.τ).loc Cert.AdamIdeal.main_v8_1) = v5 c
          ∧ r.2.mem ((c.tc : Thread Cert.AdamIdeal.nD Cert.AdamIdeal.τ).loc Cert.AdamIdeal.main_v8_2) = v6 c
          ∧ r.2.mem ((c.tc : Thread Cert.AdamIdeal.nD Cert.AdamIdeal.τ).loc Cert.AdamIdeal.main_v8_3) = v7 c
          ∧ r.2.mem ((c.tc : Thread Cert.AdamIdeal.nD Cert.AdamIdeal.τ).loc Cert.AdamIdeal.main_v9_0) = v8 c
          ∧ r.2.mem ((c.tc : Thread Cert.AdamIdeal.nD Cert.AdamIdeal.τ).loc Cert.AdamIdeal.main_v9_1) = v9 c
          ∧ r.2.mem ((c.tc : Thread Cert.AdamIdeal.nD Cert.AdamIdeal.τ).loc Cert.AdamIdeal.main_v9_2) = v10 c
          ∧ r.2.mem ((c.tc : Thread Cert.AdamIdeal.nD Cert.AdamIdeal.τ).loc Cert.AdamIdeal.main_v9_3) = v11 c
          ∧ r.2.mem ((c.tc : Thread Cert.AdamIdeal.nD Cert.AdamIdeal.τ).loc Cert.AdamIdeal.main_v10_0) = v12 c
          ∧ r.2.mem ((c.tc : Thread Cert.AdamIdeal.nD Cert.AdamIdeal.τ).loc Cert.AdamIdeal.main_v10_1) = v13 c
          ∧ r.2.mem ((c.tc : Thread Cert.AdamIdeal.nD Cert.AdamIdeal.τ).loc Cert.AdamIdeal.main_v10_2) = v14 c
          ∧ r.2.mem ((c.tc : Thread Cert.AdamIdeal.nD Cert.AdamIdeal.τ).loc Cert.AdamIdeal.main_v10_3) = v15 c
          ∧ r.2.mem ((c.tc : Thread Cert.AdamIdeal.nD Cert.AdamIdeal.τ).loc Cert.AdamIdeal.main_v15) = v16 c
          ∧ r.2.mem ((c.tc : Thread Cert.AdamIdeal.nD Cert.AdamIdeal.τ).loc Cert.AdamIdeal.main_v16) = v17 c
          ∧ r.2.mem ((c.tc : Thread Cert.AdamIdeal.nD Cert.AdamIdeal.τ).loc Cert.AdamIdeal.main_v17) = v18 c
          ∧ r.2.mem ((c.tc : Thread Cert.AdamIdeal.nD Cert.AdamIdeal.τ).loc Cert.AdamIdeal.main_v18) = v19 c
          ∧ r.2.mem ((c.tc : Thread Cert.AdamIdeal.nD Cert.AdamIdeal.τ).loc Cert.AdamIdeal.main_v23) = v20 c
          ∧ r.2.mem ((c.tc : Thread Cert.AdamIdeal.nD Cert.AdamIdeal.τ).loc Cert.AdamIdeal.main_v24) = v21 c
          ∧ r.2.mem ((c.tc : Thread Cert.AdamIdeal.nD Cert.AdamIdeal.τ).loc Cert.AdamIdeal.main_v25) = v22 c
          ∧ r.2.mem ((c.tc : Thread Cert.AdamIdeal.nD Cert.AdamIdeal.τ).loc Cert.AdamIdeal.main_v26) = v23 c
          ∧ r.2.mem ((c.tc : Thread Cert.AdamIdeal.nD Cert.AdamIdeal.τ).loc Cert.AdamIdeal.main_v27_0) = v24 c
          ∧ r.2.mem ((c.tc : Thread Cert.AdamIdeal.nD Cert.AdamIdeal.τ).loc Cert.AdamIdeal.main_v27_1) = v25 c
          ∧ r.2.mem ((c.tc : Thread Cert.AdamIdeal.nD Cert.AdamIdeal.τ).loc Cert.AdamIdeal.main_v27_2) = v26 c
          ∧ r.2.mem ((c.tc : Thread Cert.AdamIdeal.nD Cert.AdamIdeal.τ).loc Cert.AdamIdeal.main_v27_3) = v27 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
          ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
          ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5)
          ∧ r.2.mem ((c.tc : Thread Cert.AdamIdeal.nD Cert.AdamIdeal.τ).loc Cert.AdamIdeal.main_arg6) = m ((c.tc : Thread Cert.AdamIdeal.nD Cert.AdamIdeal.τ).loc Cert.AdamIdeal.main_arg6)
          ∧ r.2.mem ((c.tc : Thread Cert.AdamIdeal.nD Cert.AdamIdeal.τ).loc Cert.AdamIdeal.main_arg7) = m ((c.tc : Thread Cert.AdamIdeal.nD Cert.AdamIdeal.τ).loc Cert.AdamIdeal.main_arg7)
          ∧ r.2.mem ((c.tc : Thread Cert.AdamIdeal.nD Cert.AdamIdeal.τ).loc Cert.AdamIdeal.main_arg8) = m ((c.tc : Thread Cert.AdamIdeal.nD Cert.AdamIdeal.τ).loc Cert.AdamIdeal.main_arg8)
          ∧ r.2.mem ((c.tc : Thread Cert.AdamIdeal.nD Cert.AdamIdeal.τ).loc Cert.AdamIdeal.main_arg9) = m ((c.tc : Thread Cert.AdamIdeal.nD Cert.AdamIdeal.τ).loc Cert.AdamIdeal.main_arg9)
          ∧ r.2.mem ((c.tc : Thread Cert.AdamIdeal.nD Cert.AdamIdeal.τ).loc Cert.AdamIdeal.main_arg10) = m ((c.tc : Thread Cert.AdamIdeal.nD Cert.AdamIdeal.τ).loc Cert.AdamIdeal.main_arg10)
          ∧ r.2.mem ((c.tc : Thread Cert.AdamIdeal.nD Cert.AdamIdeal.τ).loc Cert.AdamIdeal.main_arg11) = m ((c.tc : Thread Cert.AdamIdeal.nD Cert.AdamIdeal.τ).loc Cert.AdamIdeal.main_arg11)
          ∧ r.2.mem ((c.tc : Thread Cert.AdamIdeal.nD Cert.AdamIdeal.τ).loc Cert.AdamIdeal.main_arg12) = m ((c.tc : Thread Cert.AdamIdeal.nD Cert.AdamIdeal.τ).loc Cert.AdamIdeal.main_arg12)
          ∧ r.2.mem ((c.tc : Thread Cert.AdamIdeal.nD Cert.AdamIdeal.τ).loc Cert.AdamIdeal.main_arg13) = m ((c.tc : Thread Cert.AdamIdeal.nD Cert.AdamIdeal.τ).loc Cert.AdamIdeal.main_arg13)
          ∧ r.2.mem ((c.tc : Thread Cert.AdamIdeal.nD Cert.AdamIdeal.τ).loc Cert.AdamIdeal.main_arg14) = m ((c.tc : Thread Cert.AdamIdeal.nD Cert.AdamIdeal.τ).loc Cert.AdamIdeal.main_arg14)
          ∧ r.2.mem ((c.tc : Thread Cert.AdamIdeal.nD Cert.AdamIdeal.τ).loc Cert.AdamIdeal.main_arg15) = m ((c.tc : Thread Cert.AdamIdeal.nD Cert.AdamIdeal.τ).loc Cert.AdamIdeal.main_arg15)
          ∧ r.2.mem ((c.tc : Thread Cert.AdamIdeal.nD Cert.AdamIdeal.τ).loc Cert.AdamIdeal.main_arg16) = m ((c.tc : Thread Cert.AdamIdeal.nD Cert.AdamIdeal.τ).loc Cert.AdamIdeal.main_arg16)
          ∧ r.2.mem ((c.tc : Thread Cert.AdamIdeal.nD Cert.AdamIdeal.τ).loc Cert.AdamIdeal.main_arg17) = m ((c.tc : Thread Cert.AdamIdeal.nD Cert.AdamIdeal.τ).loc Cert.AdamIdeal.main_arg17)
          ∧ r.2.mem ((c.tc : Thread Cert.AdamIdeal.nD Cert.AdamIdeal.τ).loc Cert.AdamIdeal.main_arg18) = m ((c.tc : Thread Cert.AdamIdeal.nD Cert.AdamIdeal.τ).loc Cert.AdamIdeal.main_arg18)
          ∧ r.2.mem ((c.tc : Thread Cert.AdamIdeal.nD Cert.AdamIdeal.τ).loc Cert.AdamIdeal.main_arg19) = m ((c.tc : Thread Cert.AdamIdeal.nD Cert.AdamIdeal.τ).loc Cert.AdamIdeal.main_arg19)
          ∧ r.2.mem ((c.tc : Thread Cert.AdamIdeal.nD Cert.AdamIdeal.τ).loc Cert.AdamIdeal.main_arg20) = m ((c.tc : Thread Cert.AdamIdeal.nD Cert.AdamIdeal.τ).loc Cert.AdamIdeal.main_arg20)
          ∧ r.2.mem ((c.tc : Thread Cert.AdamIdeal.nD Cert.AdamIdeal.τ).loc Cert.AdamIdeal.main_arg21) = m ((c.tc : Thread Cert.AdamIdeal.nD Cert.AdamIdeal.τ).loc Cert.AdamIdeal.main_arg21)
          ∧ r.2.mem ((c.tc : Thread Cert.AdamIdeal.nD Cert.AdamIdeal.τ).loc Cert.AdamIdeal.main_arg22) = m ((c.tc : Thread Cert.AdamIdeal.nD Cert.AdamIdeal.τ).loc Cert.AdamIdeal.main_arg22)
          ∧ r.2.mem ((c.tc : Thread Cert.AdamIdeal.nD Cert.AdamIdeal.τ).loc Cert.AdamIdeal.main_arg23) = m ((c.tc : Thread Cert.AdamIdeal.nD Cert.AdamIdeal.τ).loc Cert.AdamIdeal.main_arg23)
          ∧ r.2.mem ((c.tc : Thread Cert.AdamIdeal.nD Cert.AdamIdeal.τ).loc Cert.AdamIdeal.main_arg24) = m ((c.tc : Thread Cert.AdamIdeal.nD Cert.AdamIdeal.τ).loc Cert.AdamIdeal.main_arg24)
          ∧ r.2.mem ((c.tc : Thread Cert.AdamIdeal.nD Cert.AdamIdeal.τ).loc Cert.AdamIdeal.main_arg25) = m ((c.tc : Thread Cert.AdamIdeal.nD Cert.AdamIdeal.τ).loc Cert.AdamIdeal.main_arg25)
          ∧ r.2.mem ((c.tc : Thread Cert.AdamIdeal.nD Cert.AdamIdeal.τ).loc Cert.AdamIdeal.main_arg26) = m ((c.tc : Thread Cert.AdamIdeal.nD Cert.AdamIdeal.τ).loc Cert.AdamIdeal.main_arg26)
          ∧ r.2.mem ((c.tc : Thread Cert.AdamIdeal.nD Cert.AdamIdeal.τ).loc Cert.AdamIdeal.main_arg27) = m ((c.tc : Thread Cert.AdamIdeal.nD Cert.AdamIdeal.τ).loc Cert.AdamIdeal.main_arg27))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v2) = v0 c
          ∧ r.2.mem ((c.tc : Thread Cert.AdamRefIdeal.nD Cert.AdamRefIdeal.τ).loc Cert.AdamRefIdeal.main_v26) = v1 c
          ∧ r.2.mem ((c.tc : Thread Cert.AdamRefIdeal.nD Cert.AdamRefIdeal.τ).loc Cert.AdamRefIdeal.main_v7) = v2 c
          ∧ r.2.mem ((c.tc : Thread Cert.AdamRefIdeal.nD Cert.AdamRefIdeal.τ).loc Cert.AdamRefIdeal.main_v13) = v3 c
          ∧ r.2.mem ((c.tc : Thread Cert.AdamRefIdeal.nD Cert.AdamRefIdeal.τ).loc Cert.AdamRefIdeal.main_v28) = v4 c
          ∧ r.2.mem ((c.tc : Thread Cert.AdamRefIdeal.nD Cert.AdamRefIdeal.τ).loc Cert.AdamRefIdeal.main_v52) = v5 c
          ∧ r.2.mem ((c.tc : Thread Cert.AdamRefIdeal.nD Cert.AdamRefIdeal.τ).loc Cert.AdamRefIdeal.main_v33) = v6 c
          ∧ r.2.mem ((c.tc : Thread Cert.AdamRefIdeal.nD Cert.AdamRefIdeal.τ).loc Cert.AdamRefIdeal.main_v39) = v7 c
          ∧ r.2.mem ((c.tc : Thread Cert.AdamRefIdeal.nD Cert.AdamRefIdeal.τ).loc Cert.AdamRefIdeal.main_v54) = v8 c
          ∧ r.2.mem ((c.tc : Thread Cert.AdamRefIdeal.nD Cert.AdamRefIdeal.τ).loc Cert.AdamRefIdeal.main_v78) = v9 c
          ∧ r.2.mem ((c.tc : Thread Cert.AdamRefIdeal.nD Cert.AdamRefIdeal.τ).loc Cert.AdamRefIdeal.main_v59) = v10 c
          ∧ r.2.mem ((c.tc : Thread Cert.AdamRefIdeal.nD Cert.AdamRefIdeal.τ).loc Cert.AdamRefIdeal.main_v65) = v11 c
          ∧ r.2.mem ((c.tc : Thread Cert.AdamRefIdeal.nD Cert.AdamRefIdeal.τ).loc Cert.AdamRefIdeal.main_v80) = v12 c
          ∧ r.2.mem ((c.tc : Thread Cert.AdamRefIdeal.nD Cert.AdamRefIdeal.τ).loc Cert.AdamRefIdeal.main_v104) = v13 c
          ∧ r.2.mem ((c.tc : Thread Cert.AdamRefIdeal.nD Cert.AdamRefIdeal.τ).loc Cert.AdamRefIdeal.main_v85) = v14 c
          ∧ r.2.mem ((c.tc : Thread Cert.AdamRefIdeal.nD Cert.AdamRefIdeal.τ).loc Cert.AdamRefIdeal.main_v91) = v15 c
          ∧ r.2.mem ((c.tc : Thread Cert.AdamRefIdeal.nD Cert.AdamRefIdeal.τ).loc Cert.AdamRefIdeal.main_v107) = v16 c
          ∧ r.2.mem ((c.tc : Thread Cert.AdamRefIdeal.nD Cert.AdamRefIdeal.τ).loc Cert.AdamRefIdeal.main_v131) = v17 c
          ∧ r.2.mem ((c.tc : Thread Cert.AdamRefIdeal.nD Cert.AdamRefIdeal.τ).loc Cert.AdamRefIdeal.main_v112) = v18 c
          ∧ r.2.mem ((c.tc : Thread Cert.AdamRefIdeal.nD Cert.AdamRefIdeal.τ).loc Cert.AdamRefIdeal.main_v118) = v19 c
          ∧ r.2.mem ((c.tc : Thread Cert.AdamRefIdeal.nD Cert.AdamRefIdeal.τ).loc Cert.AdamRefIdeal.main_v134) = v20 c
          ∧ r.2.mem ((c.tc : Thread Cert.AdamRefIdeal.nD Cert.AdamRefIdeal.τ).loc Cert.AdamRefIdeal.main_v158) = v21 c
          ∧ r.2.mem ((c.tc : Thread Cert.AdamRefIdeal.nD Cert.AdamRefIdeal.τ).loc Cert.AdamRefIdeal.main_v139) = v22 c
          ∧ r.2.mem ((c.tc : Thread Cert.AdamRefIdeal.nD Cert.AdamRefIdeal.τ).loc Cert.AdamRefIdeal.main_v145) = v23 c
          ∧ r.2.mem ((c.tc : Thread Cert.AdamRefIdeal.nD Cert.AdamRefIdeal.τ).loc Cert.AdamRefIdeal.main_v160) = v24 c
          ∧ r.2.mem ((c.tc : Thread Cert.AdamRefIdeal.nD Cert.AdamRefIdeal.τ).loc Cert.AdamRefIdeal.main_v184) = v25 c
          ∧ r.2.mem ((c.tc : Thread Cert.AdamRefIdeal.nD Cert.AdamRefIdeal.τ).loc Cert.AdamRefIdeal.main_v165) = v26 c
          ∧ r.2.mem ((c.tc : Thread Cert.AdamRefIdeal.nD Cert.AdamRefIdeal.τ).loc Cert.AdamRefIdeal.main_v171) = v27 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3)
          ∧ r.2.mem ((c.tc : Thread Cert.AdamRefIdeal.nD Cert.AdamRefIdeal.τ).loc Cert.AdamRefIdeal.main_arg4) = m' ((c.tc : Thread Cert.AdamRefIdeal.nD Cert.AdamRefIdeal.τ).loc Cert.AdamRefIdeal.main_arg4)
          ∧ r.2.mem ((c.tc : Thread Cert.AdamRefIdeal.nD Cert.AdamRefIdeal.τ).loc Cert.AdamRefIdeal.main_arg5) = m' ((c.tc : Thread Cert.AdamRefIdeal.nD Cert.AdamRefIdeal.τ).loc Cert.AdamRefIdeal.main_arg5)
          ∧ r.2.mem ((c.tc : Thread Cert.AdamRefIdeal.nD Cert.AdamRefIdeal.τ).loc Cert.AdamRefIdeal.main_arg6) = m' ((c.tc : Thread Cert.AdamRefIdeal.nD Cert.AdamRefIdeal.τ).loc Cert.AdamRefIdeal.main_arg6)
          ∧ r.2.mem ((c.tc : Thread Cert.AdamRefIdeal.nD Cert.AdamRefIdeal.τ).loc Cert.AdamRefIdeal.main_arg7) = m' ((c.tc : Thread Cert.AdamRefIdeal.nD Cert.AdamRefIdeal.τ).loc Cert.AdamRefIdeal.main_arg7)
          ∧ r.2.mem ((c.tc : Thread Cert.AdamRefIdeal.nD Cert.AdamRefIdeal.τ).loc Cert.AdamRefIdeal.main_arg8) = m' ((c.tc : Thread Cert.AdamRefIdeal.nD Cert.AdamRefIdeal.τ).loc Cert.AdamRefIdeal.main_arg8)
          ∧ r.2.mem ((c.tc : Thread Cert.AdamRefIdeal.nD Cert.AdamRefIdeal.τ).loc Cert.AdamRefIdeal.main_arg9) = m' ((c.tc : Thread Cert.AdamRefIdeal.nD Cert.AdamRefIdeal.τ).loc Cert.AdamRefIdeal.main_arg9)
          ∧ r.2.mem ((c.tc : Thread Cert.AdamRefIdeal.nD Cert.AdamRefIdeal.τ).loc Cert.AdamRefIdeal.main_arg10) = m' ((c.tc : Thread Cert.AdamRefIdeal.nD Cert.AdamRefIdeal.τ).loc Cert.AdamRefIdeal.main_arg10)
          ∧ r.2.mem ((c.tc : Thread Cert.AdamRefIdeal.nD Cert.AdamRefIdeal.τ).loc Cert.AdamRefIdeal.main_arg11) = m' ((c.tc : Thread Cert.AdamRefIdeal.nD Cert.AdamRefIdeal.τ).loc Cert.AdamRefIdeal.main_arg11)
          ∧ r.2.mem ((c.tc : Thread Cert.AdamRefIdeal.nD Cert.AdamRefIdeal.τ).loc Cert.AdamRefIdeal.main_arg12) = m' ((c.tc : Thread Cert.AdamRefIdeal.nD Cert.AdamRefIdeal.τ).loc Cert.AdamRefIdeal.main_arg12)
          ∧ r.2.mem ((c.tc : Thread Cert.AdamRefIdeal.nD Cert.AdamRefIdeal.τ).loc Cert.AdamRefIdeal.main_arg13) = m' ((c.tc : Thread Cert.AdamRefIdeal.nD Cert.AdamRefIdeal.τ).loc Cert.AdamRefIdeal.main_arg13)
          ∧ r.2.mem ((c.tc : Thread Cert.AdamRefIdeal.nD Cert.AdamRefIdeal.τ).loc Cert.AdamRefIdeal.main_arg14) = m' ((c.tc : Thread Cert.AdamRefIdeal.nD Cert.AdamRefIdeal.τ).loc Cert.AdamRefIdeal.main_arg14)
          ∧ r.2.mem ((c.tc : Thread Cert.AdamRefIdeal.nD Cert.AdamRefIdeal.τ).loc Cert.AdamRefIdeal.main_arg15) = m' ((c.tc : Thread Cert.AdamRefIdeal.nD Cert.AdamRefIdeal.τ).loc Cert.AdamRefIdeal.main_arg15)
          ∧ r.2.mem ((c.tc : Thread Cert.AdamRefIdeal.nD Cert.AdamRefIdeal.τ).loc Cert.AdamRefIdeal.main_arg16) = m' ((c.tc : Thread Cert.AdamRefIdeal.nD Cert.AdamRefIdeal.τ).loc Cert.AdamRefIdeal.main_arg16)
          ∧ r.2.mem ((c.tc : Thread Cert.AdamRefIdeal.nD Cert.AdamRefIdeal.τ).loc Cert.AdamRefIdeal.main_arg17) = m' ((c.tc : Thread Cert.AdamRefIdeal.nD Cert.AdamRefIdeal.τ).loc Cert.AdamRefIdeal.main_arg17)
          ∧ r.2.mem ((c.tc : Thread Cert.AdamRefIdeal.nD Cert.AdamRefIdeal.τ).loc Cert.AdamRefIdeal.main_arg18) = m' ((c.tc : Thread Cert.AdamRefIdeal.nD Cert.AdamRefIdeal.τ).loc Cert.AdamRefIdeal.main_arg18)
          ∧ r.2.mem ((c.tc : Thread Cert.AdamRefIdeal.nD Cert.AdamRefIdeal.τ).loc Cert.AdamRefIdeal.main_arg19) = m' ((c.tc : Thread Cert.AdamRefIdeal.nD Cert.AdamRefIdeal.τ).loc Cert.AdamRefIdeal.main_arg19)
          ∧ r.2.mem ((c.tc : Thread Cert.AdamRefIdeal.nD Cert.AdamRefIdeal.τ).loc Cert.AdamRefIdeal.main_arg20) = m' ((c.tc : Thread Cert.AdamRefIdeal.nD Cert.AdamRefIdeal.τ).loc Cert.AdamRefIdeal.main_arg20)
          ∧ r.2.mem ((c.tc : Thread Cert.AdamRefIdeal.nD Cert.AdamRefIdeal.τ).loc Cert.AdamRefIdeal.main_arg21) = m' ((c.tc : Thread Cert.AdamRefIdeal.nD Cert.AdamRefIdeal.τ).loc Cert.AdamRefIdeal.main_arg21)
          ∧ r.2.mem ((c.tc : Thread Cert.AdamRefIdeal.nD Cert.AdamRefIdeal.τ).loc Cert.AdamRefIdeal.main_arg22) = m' ((c.tc : Thread Cert.AdamRefIdeal.nD Cert.AdamRefIdeal.τ).loc Cert.AdamRefIdeal.main_arg22)
          ∧ r.2.mem ((c.tc : Thread Cert.AdamRefIdeal.nD Cert.AdamRefIdeal.τ).loc Cert.AdamRefIdeal.main_arg23) = m' ((c.tc : Thread Cert.AdamRefIdeal.nD Cert.AdamRefIdeal.τ).loc Cert.AdamRefIdeal.main_arg23)
          ∧ r.2.mem ((c.tc : Thread Cert.AdamRefIdeal.nD Cert.AdamRefIdeal.τ).loc Cert.AdamRefIdeal.main_arg24) = m' ((c.tc : Thread Cert.AdamRefIdeal.nD Cert.AdamRefIdeal.τ).loc Cert.AdamRefIdeal.main_arg24)
          ∧ r.2.mem ((c.tc : Thread Cert.AdamRefIdeal.nD Cert.AdamRefIdeal.τ).loc Cert.AdamRefIdeal.main_arg25) = m' ((c.tc : Thread Cert.AdamRefIdeal.nD Cert.AdamRefIdeal.τ).loc Cert.AdamRefIdeal.main_arg25)
          ∧ r.2.mem ((c.tc : Thread Cert.AdamRefIdeal.nD Cert.AdamRefIdeal.τ).loc Cert.AdamRefIdeal.main_arg26) = m' ((c.tc : Thread Cert.AdamRefIdeal.nD Cert.AdamRefIdeal.τ).loc Cert.AdamRefIdeal.main_arg26)
          ∧ r.2.mem ((c.tc : Thread Cert.AdamRefIdeal.nD Cert.AdamRefIdeal.τ).loc Cert.AdamRefIdeal.main_arg27) = m' ((c.tc : Thread Cert.AdamRefIdeal.nD Cert.AdamRefIdeal.τ).loc Cert.AdamRefIdeal.main_arg27))

def preserves_State_StateIdeal : Prop :=
  True

def algebraic_StateIdeal_StateRefIdeal [hStateIdeal : Cert.StateIdeal.Facts] [hStateRefIdeal : Cert.StateRefIdeal.Facts] : Prop :=
  ∀ (m : (ℓ : Loc Cert.StateIdeal.nD Cert.StateIdeal.τ Cert.StateIdeal.sig) → Buf (Elt Ideal) ℓ) (g : Dev Cert.StateIdeal.nD → PrngReg)
    (m' : (ℓ : Loc Cert.StateRefIdeal.nD Cert.StateRefIdeal.τ Cert.StateRefIdeal.sig) → Buf (Elt Ideal) ℓ) (g' : Dev Cert.StateRefIdeal.nD → PrngReg), Pre_StateIdeal m →
    (∀ c : Dev Cert.StateIdeal.nD,
      m' ((c.tc : Thread Cert.StateRefIdeal.nD Cert.StateRefIdeal.τ).loc Cert.StateRefIdeal.main_arg0) = m ((c.tc : Thread Cert.StateIdeal.nD Cert.StateIdeal.τ).loc Cert.StateIdeal.main_arg0)
      ∧ m' ((c.tc : Thread Cert.StateRefIdeal.nD Cert.StateRefIdeal.τ).loc Cert.StateRefIdeal.main_arg1) = m ((c.tc : Thread Cert.StateIdeal.nD Cert.StateIdeal.τ).loc Cert.StateIdeal.main_arg1)
      ∧ m' ((c.tc : Thread Cert.StateRefIdeal.nD Cert.StateRefIdeal.τ).loc Cert.StateRefIdeal.main_arg2) = m ((c.tc : Thread Cert.StateIdeal.nD Cert.StateIdeal.τ).loc Cert.StateIdeal.main_arg2)
      ∧ m' ((c.tc : Thread Cert.StateRefIdeal.nD Cert.StateRefIdeal.τ).loc Cert.StateRefIdeal.main_arg3) = m ((c.tc : Thread Cert.StateIdeal.nD Cert.StateIdeal.τ).loc Cert.StateIdeal.main_arg3)
      ∧ m' ((c.tc : Thread Cert.StateRefIdeal.nD Cert.StateRefIdeal.τ).loc Cert.StateRefIdeal.main_arg4) = m ((c.tc : Thread Cert.StateIdeal.nD Cert.StateIdeal.τ).loc Cert.StateIdeal.main_arg4)
      ∧ m' ((c.tc : Thread Cert.StateRefIdeal.nD Cert.StateRefIdeal.τ).loc Cert.StateRefIdeal.main_arg5) = m ((c.tc : Thread Cert.StateIdeal.nD Cert.StateIdeal.τ).loc Cert.StateIdeal.main_arg5)
      ∧ m' ((c.tc : Thread Cert.StateRefIdeal.nD Cert.StateRefIdeal.τ).loc Cert.StateRefIdeal.main_arg6) = m ((c.tc : Thread Cert.StateIdeal.nD Cert.StateIdeal.τ).loc Cert.StateIdeal.main_arg6)
      ∧ m' ((c.tc : Thread Cert.StateRefIdeal.nD Cert.StateRefIdeal.τ).loc Cert.StateRefIdeal.main_arg7) = m ((c.tc : Thread Cert.StateIdeal.nD Cert.StateIdeal.τ).loc Cert.StateIdeal.main_arg7)
      ∧ m' ((c.tc : Thread Cert.StateRefIdeal.nD Cert.StateRefIdeal.τ).loc Cert.StateRefIdeal.main_arg8) = m ((c.tc : Thread Cert.StateIdeal.nD Cert.StateIdeal.τ).loc Cert.StateIdeal.main_arg8)
      ∧ m' ((c.tc : Thread Cert.StateRefIdeal.nD Cert.StateRefIdeal.τ).loc Cert.StateRefIdeal.main_arg9) = m ((c.tc : Thread Cert.StateIdeal.nD Cert.StateIdeal.τ).loc Cert.StateIdeal.main_arg9)
      ∧ m' ((c.tc : Thread Cert.StateRefIdeal.nD Cert.StateRefIdeal.τ).loc Cert.StateRefIdeal.main_arg10) = m ((c.tc : Thread Cert.StateIdeal.nD Cert.StateIdeal.τ).loc Cert.StateIdeal.main_arg10)
      ∧ m' ((c.tc : Thread Cert.StateRefIdeal.nD Cert.StateRefIdeal.τ).loc Cert.StateRefIdeal.main_arg11) = m ((c.tc : Thread Cert.StateIdeal.nD Cert.StateIdeal.τ).loc Cert.StateIdeal.main_arg11)
      ∧ m' ((c.tc : Thread Cert.StateRefIdeal.nD Cert.StateRefIdeal.τ).loc Cert.StateRefIdeal.main_arg12) = m ((c.tc : Thread Cert.StateIdeal.nD Cert.StateIdeal.τ).loc Cert.StateIdeal.main_arg12)
      ∧ m' ((c.tc : Thread Cert.StateRefIdeal.nD Cert.StateRefIdeal.τ).loc Cert.StateRefIdeal.main_arg13) = m ((c.tc : Thread Cert.StateIdeal.nD Cert.StateIdeal.τ).loc Cert.StateIdeal.main_arg13)
      ∧ m' ((c.tc : Thread Cert.StateRefIdeal.nD Cert.StateRefIdeal.τ).loc Cert.StateRefIdeal.main_arg14) = m ((c.tc : Thread Cert.StateIdeal.nD Cert.StateIdeal.τ).loc Cert.StateIdeal.main_arg14)
      ∧ m' ((c.tc : Thread Cert.StateRefIdeal.nD Cert.StateRefIdeal.τ).loc Cert.StateRefIdeal.main_arg15) = m ((c.tc : Thread Cert.StateIdeal.nD Cert.StateIdeal.τ).loc Cert.StateIdeal.main_arg15)
      ∧ m' ((c.tc : Thread Cert.StateRefIdeal.nD Cert.StateRefIdeal.τ).loc Cert.StateRefIdeal.main_arg16) = m ((c.tc : Thread Cert.StateIdeal.nD Cert.StateIdeal.τ).loc Cert.StateIdeal.main_arg16)
      ∧ m' ((c.tc : Thread Cert.StateRefIdeal.nD Cert.StateRefIdeal.τ).loc Cert.StateRefIdeal.main_arg17) = m ((c.tc : Thread Cert.StateIdeal.nD Cert.StateIdeal.τ).loc Cert.StateIdeal.main_arg17)
      ∧ m' ((c.tc : Thread Cert.StateRefIdeal.nD Cert.StateRefIdeal.τ).loc Cert.StateRefIdeal.main_arg18) = m ((c.tc : Thread Cert.StateIdeal.nD Cert.StateIdeal.τ).loc Cert.StateIdeal.main_arg18)
      ∧ m' ((c.tc : Thread Cert.StateRefIdeal.nD Cert.StateRefIdeal.τ).loc Cert.StateRefIdeal.main_arg19) = m ((c.tc : Thread Cert.StateIdeal.nD Cert.StateIdeal.τ).loc Cert.StateIdeal.main_arg19)
      ∧ m' ((c.tc : Thread Cert.StateRefIdeal.nD Cert.StateRefIdeal.τ).loc Cert.StateRefIdeal.main_arg20) = m ((c.tc : Thread Cert.StateIdeal.nD Cert.StateIdeal.τ).loc Cert.StateIdeal.main_arg20)
      ∧ m' ((c.tc : Thread Cert.StateRefIdeal.nD Cert.StateRefIdeal.τ).loc Cert.StateRefIdeal.main_arg21) = m ((c.tc : Thread Cert.StateIdeal.nD Cert.StateIdeal.τ).loc Cert.StateIdeal.main_arg21)
      ∧ m' ((c.tc : Thread Cert.StateRefIdeal.nD Cert.StateRefIdeal.τ).loc Cert.StateRefIdeal.main_arg22) = m ((c.tc : Thread Cert.StateIdeal.nD Cert.StateIdeal.τ).loc Cert.StateIdeal.main_arg22)
      ∧ m' ((c.tc : Thread Cert.StateRefIdeal.nD Cert.StateRefIdeal.τ).loc Cert.StateRefIdeal.main_arg23) = m ((c.tc : Thread Cert.StateIdeal.nD Cert.StateIdeal.τ).loc Cert.StateIdeal.main_arg23)
      ∧ m' ((c.tc : Thread Cert.StateRefIdeal.nD Cert.StateRefIdeal.τ).loc Cert.StateRefIdeal.main_arg24) = m ((c.tc : Thread Cert.StateIdeal.nD Cert.StateIdeal.τ).loc Cert.StateIdeal.main_arg24)
      ∧ m' ((c.tc : Thread Cert.StateRefIdeal.nD Cert.StateRefIdeal.τ).loc Cert.StateRefIdeal.main_arg25) = m ((c.tc : Thread Cert.StateIdeal.nD Cert.StateIdeal.τ).loc Cert.StateIdeal.main_arg25)
      ∧ m' ((c.tc : Thread Cert.StateRefIdeal.nD Cert.StateRefIdeal.τ).loc Cert.StateRefIdeal.main_arg26) = m ((c.tc : Thread Cert.StateIdeal.nD Cert.StateIdeal.τ).loc Cert.StateIdeal.main_arg26)
      ∧ m' ((c.tc : Thread Cert.StateRefIdeal.nD Cert.StateRefIdeal.τ).loc Cert.StateRefIdeal.main_arg27) = m ((c.tc : Thread Cert.StateIdeal.nD Cert.StateIdeal.τ).loc Cert.StateIdeal.main_arg27)
      ∧ m' ((c.tc : Thread Cert.StateRefIdeal.nD Cert.StateRefIdeal.τ).loc Cert.StateRefIdeal.main_arg28) = m ((c.tc : Thread Cert.StateIdeal.nD Cert.StateIdeal.τ).loc Cert.StateIdeal.main_arg28)
      ∧ m' ((c.tc : Thread Cert.StateRefIdeal.nD Cert.StateRefIdeal.τ).loc Cert.StateRefIdeal.main_arg29) = m ((c.tc : Thread Cert.StateIdeal.nD Cert.StateIdeal.τ).loc Cert.StateIdeal.main_arg29)
      ∧ m' ((c.tc : Thread Cert.StateRefIdeal.nD Cert.StateRefIdeal.τ).loc Cert.StateRefIdeal.main_arg30) = m ((c.tc : Thread Cert.StateIdeal.nD Cert.StateIdeal.τ).loc Cert.StateIdeal.main_arg30)
      ∧ m' ((c.tc : Thread Cert.StateRefIdeal.nD Cert.StateRefIdeal.τ).loc Cert.StateRefIdeal.main_arg31) = m ((c.tc : Thread Cert.StateIdeal.nD Cert.StateIdeal.τ).loc Cert.StateIdeal.main_arg31)) →
    ∃ (v0 : (c : Dev Cert.StateIdeal.nD) → Buf (Elt Ideal) ((c.tc : Thread Cert.StateIdeal.nD Cert.StateIdeal.τ).loc Cert.StateIdeal.main_v21_0)) (v1 : (c : Dev Cert.StateIdeal.nD) → Buf (Elt Ideal) ((c.tc : Thread Cert.StateIdeal.nD Cert.StateIdeal.τ).loc Cert.StateIdeal.main_v21_1)) (v2 : (c : Dev Cert.StateIdeal.nD) → Buf (Elt Ideal) ((c.tc : Thread Cert.StateIdeal.nD Cert.StateIdeal.τ).loc Cert.StateIdeal.main_v21_2)) (v3 : (c : Dev Cert.StateIdeal.nD) → Buf (Elt Ideal) ((c.tc : Thread Cert.StateIdeal.nD Cert.StateIdeal.τ).loc Cert.StateIdeal.main_v21_3)) (v4 : (c : Dev Cert.StateIdeal.nD) → Buf (Elt Ideal) ((c.tc : Thread Cert.StateIdeal.nD Cert.StateIdeal.τ).loc Cert.StateIdeal.main_v21_4)) (v5 : (c : Dev Cert.StateIdeal.nD) → Buf (Elt Ideal) ((c.tc : Thread Cert.StateIdeal.nD Cert.StateIdeal.τ).loc Cert.StateIdeal.main_v21_5)) (v6 : (c : Dev Cert.StateIdeal.nD) → Buf (Elt Ideal) ((c.tc : Thread Cert.StateIdeal.nD Cert.StateIdeal.τ).loc Cert.StateIdeal.main_v21_6)) (v7 : (c : Dev Cert.StateIdeal.nD) → Buf (Elt Ideal) ((c.tc : Thread Cert.StateIdeal.nD Cert.StateIdeal.τ).loc Cert.StateIdeal.main_v21_7)) (v8 : (c : Dev Cert.StateIdeal.nD) → Buf (Elt Ideal) ((c.tc : Thread Cert.StateIdeal.nD Cert.StateIdeal.τ).loc Cert.StateIdeal.main_v22_0)) (v9 : (c : Dev Cert.StateIdeal.nD) → Buf (Elt Ideal) ((c.tc : Thread Cert.StateIdeal.nD Cert.StateIdeal.τ).loc Cert.StateIdeal.main_v22_1)) (v10 : (c : Dev Cert.StateIdeal.nD) → Buf (Elt Ideal) ((c.tc : Thread Cert.StateIdeal.nD Cert.StateIdeal.τ).loc Cert.StateIdeal.main_v22_2)) (v11 : (c : Dev Cert.StateIdeal.nD) → Buf (Elt Ideal) ((c.tc : Thread Cert.StateIdeal.nD Cert.StateIdeal.τ).loc Cert.StateIdeal.main_v22_3)) (v12 : (c : Dev Cert.StateIdeal.nD) → Buf (Elt Ideal) ((c.tc : Thread Cert.StateIdeal.nD Cert.StateIdeal.τ).loc Cert.StateIdeal.main_v26)) (v13 : (c : Dev Cert.StateIdeal.nD) → Buf (Elt Ideal) ((c.tc : Thread Cert.StateIdeal.nD Cert.StateIdeal.τ).loc Cert.StateIdeal.main_v28)) (v14 : (c : Dev Cert.StateIdeal.nD) → Buf (Elt Ideal) ((c.tc : Thread Cert.StateIdeal.nD Cert.StateIdeal.τ).loc Cert.StateIdeal.main_v30)) (v15 : (c : Dev Cert.StateIdeal.nD) → Buf (Elt Ideal) ((c.tc : Thread Cert.StateIdeal.nD Cert.StateIdeal.τ).loc Cert.StateIdeal.main_v32)) (v16 : (c : Dev Cert.StateIdeal.nD) → Buf (Elt Ideal) ((c.tc : Thread Cert.StateIdeal.nD Cert.StateIdeal.τ).loc Cert.StateIdeal.main_v34)) (v17 : (c : Dev Cert.StateIdeal.nD) → Buf (Elt Ideal) ((c.tc : Thread Cert.StateIdeal.nD Cert.StateIdeal.τ).loc Cert.StateIdeal.main_v36)) (v18 : (c : Dev Cert.StateIdeal.nD) → Buf (Elt Ideal) ((c.tc : Thread Cert.StateIdeal.nD Cert.StateIdeal.τ).loc Cert.StateIdeal.main_v38)) (v19 : (c : Dev Cert.StateIdeal.nD) → Buf (Elt Ideal) ((c.tc : Thread Cert.StateIdeal.nD Cert.StateIdeal.τ).loc Cert.StateIdeal.main_v40)) (v20 : (c : Dev Cert.StateIdeal.nD) → Buf (Elt Ideal) ((c.tc : Thread Cert.StateIdeal.nD Cert.StateIdeal.τ).loc Cert.StateIdeal.main_v41)) (v21 : (c : Dev Cert.StateIdeal.nD) → Buf (Elt Ideal) ((c.tc : Thread Cert.StateIdeal.nD Cert.StateIdeal.τ).loc Cert.StateIdeal.main_v42)) (v22 : (c : Dev Cert.StateIdeal.nD) → Buf (Elt Ideal) ((c.tc : Thread Cert.StateIdeal.nD Cert.StateIdeal.τ).loc Cert.StateIdeal.main_v43)) (v23 : (c : Dev Cert.StateIdeal.nD) → Buf (Elt Ideal) ((c.tc : Thread Cert.StateIdeal.nD Cert.StateIdeal.τ).loc Cert.StateIdeal.main_v44)) (v24 : (c : Dev Cert.StateIdeal.nD) → Buf (Elt Ideal) ((c.tc : Thread Cert.StateIdeal.nD Cert.StateIdeal.τ).loc Cert.StateIdeal.main_v45)) (v25 : (c : Dev Cert.StateIdeal.nD) → Buf (Elt Ideal) ((c.tc : Thread Cert.StateIdeal.nD Cert.StateIdeal.τ).loc Cert.StateIdeal.main_v46)) (v26 : (c : Dev Cert.StateIdeal.nD) → Buf (Elt Ideal) ((c.tc : Thread Cert.StateIdeal.nD Cert.StateIdeal.τ).loc Cert.StateIdeal.main_v47)) (v27 : (c : Dev Cert.StateIdeal.nD) → Buf (Elt Ideal) ((c.tc : Thread Cert.StateIdeal.nD Cert.StateIdeal.τ).loc Cert.StateIdeal.main_v48)) (v28 : (c : Dev Cert.StateIdeal.nD) → Buf (Elt Ideal) ((c.tc : Thread Cert.StateIdeal.nD Cert.StateIdeal.τ).loc Cert.StateIdeal.main_v49)) (v29 : (c : Dev Cert.StateIdeal.nD) → Buf (Elt Ideal) ((c.tc : Thread Cert.StateIdeal.nD Cert.StateIdeal.τ).loc Cert.StateIdeal.main_v50)) (v30 : (c : Dev Cert.StateIdeal.nD) → Buf (Elt Ideal) ((c.tc : Thread Cert.StateIdeal.nD Cert.StateIdeal.τ).loc Cert.StateIdeal.main_v51)) (v31 : (c : Dev Cert.StateIdeal.nD) → Buf (Elt Ideal) ((c.tc : Thread Cert.StateIdeal.nD Cert.StateIdeal.τ).loc Cert.StateIdeal.main_v52)),
      θ_run (Cert.StateIdeal.defs (F := Ideal)) (onTc (τ := Cert.StateIdeal.τ) (Cert.StateIdeal.main (F := Ideal))) ⟨m, fun _ => 0, g⟩ (fun r => ∀ c : Dev Cert.StateIdeal.nD,
          r.2.mem ((c.tc : Thread Cert.StateIdeal.nD Cert.StateIdeal.τ).loc Cert.StateIdeal.main_v21_0) = v0 c
          ∧ r.2.mem ((c.tc : Thread Cert.StateIdeal.nD Cert.StateIdeal.τ).loc Cert.StateIdeal.main_v21_1) = v1 c
          ∧ r.2.mem ((c.tc : Thread Cert.StateIdeal.nD Cert.StateIdeal.τ).loc Cert.StateIdeal.main_v21_2) = v2 c
          ∧ r.2.mem ((c.tc : Thread Cert.StateIdeal.nD Cert.StateIdeal.τ).loc Cert.StateIdeal.main_v21_3) = v3 c
          ∧ r.2.mem ((c.tc : Thread Cert.StateIdeal.nD Cert.StateIdeal.τ).loc Cert.StateIdeal.main_v21_4) = v4 c
          ∧ r.2.mem ((c.tc : Thread Cert.StateIdeal.nD Cert.StateIdeal.τ).loc Cert.StateIdeal.main_v21_5) = v5 c
          ∧ r.2.mem ((c.tc : Thread Cert.StateIdeal.nD Cert.StateIdeal.τ).loc Cert.StateIdeal.main_v21_6) = v6 c
          ∧ r.2.mem ((c.tc : Thread Cert.StateIdeal.nD Cert.StateIdeal.τ).loc Cert.StateIdeal.main_v21_7) = v7 c
          ∧ r.2.mem ((c.tc : Thread Cert.StateIdeal.nD Cert.StateIdeal.τ).loc Cert.StateIdeal.main_v22_0) = v8 c
          ∧ r.2.mem ((c.tc : Thread Cert.StateIdeal.nD Cert.StateIdeal.τ).loc Cert.StateIdeal.main_v22_1) = v9 c
          ∧ r.2.mem ((c.tc : Thread Cert.StateIdeal.nD Cert.StateIdeal.τ).loc Cert.StateIdeal.main_v22_2) = v10 c
          ∧ r.2.mem ((c.tc : Thread Cert.StateIdeal.nD Cert.StateIdeal.τ).loc Cert.StateIdeal.main_v22_3) = v11 c
          ∧ r.2.mem ((c.tc : Thread Cert.StateIdeal.nD Cert.StateIdeal.τ).loc Cert.StateIdeal.main_v26) = v12 c
          ∧ r.2.mem ((c.tc : Thread Cert.StateIdeal.nD Cert.StateIdeal.τ).loc Cert.StateIdeal.main_v28) = v13 c
          ∧ r.2.mem ((c.tc : Thread Cert.StateIdeal.nD Cert.StateIdeal.τ).loc Cert.StateIdeal.main_v30) = v14 c
          ∧ r.2.mem ((c.tc : Thread Cert.StateIdeal.nD Cert.StateIdeal.τ).loc Cert.StateIdeal.main_v32) = v15 c
          ∧ r.2.mem ((c.tc : Thread Cert.StateIdeal.nD Cert.StateIdeal.τ).loc Cert.StateIdeal.main_v34) = v16 c
          ∧ r.2.mem ((c.tc : Thread Cert.StateIdeal.nD Cert.StateIdeal.τ).loc Cert.StateIdeal.main_v36) = v17 c
          ∧ r.2.mem ((c.tc : Thread Cert.StateIdeal.nD Cert.StateIdeal.τ).loc Cert.StateIdeal.main_v38) = v18 c
          ∧ r.2.mem ((c.tc : Thread Cert.StateIdeal.nD Cert.StateIdeal.τ).loc Cert.StateIdeal.main_v40) = v19 c
          ∧ r.2.mem ((c.tc : Thread Cert.StateIdeal.nD Cert.StateIdeal.τ).loc Cert.StateIdeal.main_v41) = v20 c
          ∧ r.2.mem ((c.tc : Thread Cert.StateIdeal.nD Cert.StateIdeal.τ).loc Cert.StateIdeal.main_v42) = v21 c
          ∧ r.2.mem ((c.tc : Thread Cert.StateIdeal.nD Cert.StateIdeal.τ).loc Cert.StateIdeal.main_v43) = v22 c
          ∧ r.2.mem ((c.tc : Thread Cert.StateIdeal.nD Cert.StateIdeal.τ).loc Cert.StateIdeal.main_v44) = v23 c
          ∧ r.2.mem ((c.tc : Thread Cert.StateIdeal.nD Cert.StateIdeal.τ).loc Cert.StateIdeal.main_v45) = v24 c
          ∧ r.2.mem ((c.tc : Thread Cert.StateIdeal.nD Cert.StateIdeal.τ).loc Cert.StateIdeal.main_v46) = v25 c
          ∧ r.2.mem ((c.tc : Thread Cert.StateIdeal.nD Cert.StateIdeal.τ).loc Cert.StateIdeal.main_v47) = v26 c
          ∧ r.2.mem ((c.tc : Thread Cert.StateIdeal.nD Cert.StateIdeal.τ).loc Cert.StateIdeal.main_v48) = v27 c
          ∧ r.2.mem ((c.tc : Thread Cert.StateIdeal.nD Cert.StateIdeal.τ).loc Cert.StateIdeal.main_v49) = v28 c
          ∧ r.2.mem ((c.tc : Thread Cert.StateIdeal.nD Cert.StateIdeal.τ).loc Cert.StateIdeal.main_v50) = v29 c
          ∧ r.2.mem ((c.tc : Thread Cert.StateIdeal.nD Cert.StateIdeal.τ).loc Cert.StateIdeal.main_v51) = v30 c
          ∧ r.2.mem ((c.tc : Thread Cert.StateIdeal.nD Cert.StateIdeal.τ).loc Cert.StateIdeal.main_v52) = v31 c
          ∧ r.2.mem ((c.tc : Thread Cert.StateIdeal.nD Cert.StateIdeal.τ).loc Cert.StateIdeal.main_arg0) = m ((c.tc : Thread Cert.StateIdeal.nD Cert.StateIdeal.τ).loc Cert.StateIdeal.main_arg0)
          ∧ r.2.mem ((c.tc : Thread Cert.StateIdeal.nD Cert.StateIdeal.τ).loc Cert.StateIdeal.main_arg1) = m ((c.tc : Thread Cert.StateIdeal.nD Cert.StateIdeal.τ).loc Cert.StateIdeal.main_arg1)
          ∧ r.2.mem ((c.tc : Thread Cert.StateIdeal.nD Cert.StateIdeal.τ).loc Cert.StateIdeal.main_arg2) = m ((c.tc : Thread Cert.StateIdeal.nD Cert.StateIdeal.τ).loc Cert.StateIdeal.main_arg2)
          ∧ r.2.mem ((c.tc : Thread Cert.StateIdeal.nD Cert.StateIdeal.τ).loc Cert.StateIdeal.main_arg3) = m ((c.tc : Thread Cert.StateIdeal.nD Cert.StateIdeal.τ).loc Cert.StateIdeal.main_arg3)
          ∧ r.2.mem ((c.tc : Thread Cert.StateIdeal.nD Cert.StateIdeal.τ).loc Cert.StateIdeal.main_arg4) = m ((c.tc : Thread Cert.StateIdeal.nD Cert.StateIdeal.τ).loc Cert.StateIdeal.main_arg4)
          ∧ r.2.mem ((c.tc : Thread Cert.StateIdeal.nD Cert.StateIdeal.τ).loc Cert.StateIdeal.main_arg5) = m ((c.tc : Thread Cert.StateIdeal.nD Cert.StateIdeal.τ).loc Cert.StateIdeal.main_arg5)
          ∧ r.2.mem ((c.tc : Thread Cert.StateIdeal.nD Cert.StateIdeal.τ).loc Cert.StateIdeal.main_arg6) = m ((c.tc : Thread Cert.StateIdeal.nD Cert.StateIdeal.τ).loc Cert.StateIdeal.main_arg6)
          ∧ r.2.mem ((c.tc : Thread Cert.StateIdeal.nD Cert.StateIdeal.τ).loc Cert.StateIdeal.main_arg7) = m ((c.tc : Thread Cert.StateIdeal.nD Cert.StateIdeal.τ).loc Cert.StateIdeal.main_arg7)
          ∧ r.2.mem ((c.tc : Thread Cert.StateIdeal.nD Cert.StateIdeal.τ).loc Cert.StateIdeal.main_arg8) = m ((c.tc : Thread Cert.StateIdeal.nD Cert.StateIdeal.τ).loc Cert.StateIdeal.main_arg8)
          ∧ r.2.mem ((c.tc : Thread Cert.StateIdeal.nD Cert.StateIdeal.τ).loc Cert.StateIdeal.main_arg9) = m ((c.tc : Thread Cert.StateIdeal.nD Cert.StateIdeal.τ).loc Cert.StateIdeal.main_arg9)
          ∧ r.2.mem ((c.tc : Thread Cert.StateIdeal.nD Cert.StateIdeal.τ).loc Cert.StateIdeal.main_arg10) = m ((c.tc : Thread Cert.StateIdeal.nD Cert.StateIdeal.τ).loc Cert.StateIdeal.main_arg10)
          ∧ r.2.mem ((c.tc : Thread Cert.StateIdeal.nD Cert.StateIdeal.τ).loc Cert.StateIdeal.main_arg11) = m ((c.tc : Thread Cert.StateIdeal.nD Cert.StateIdeal.τ).loc Cert.StateIdeal.main_arg11)
          ∧ r.2.mem ((c.tc : Thread Cert.StateIdeal.nD Cert.StateIdeal.τ).loc Cert.StateIdeal.main_arg12) = m ((c.tc : Thread Cert.StateIdeal.nD Cert.StateIdeal.τ).loc Cert.StateIdeal.main_arg12)
          ∧ r.2.mem ((c.tc : Thread Cert.StateIdeal.nD Cert.StateIdeal.τ).loc Cert.StateIdeal.main_arg13) = m ((c.tc : Thread Cert.StateIdeal.nD Cert.StateIdeal.τ).loc Cert.StateIdeal.main_arg13)
          ∧ r.2.mem ((c.tc : Thread Cert.StateIdeal.nD Cert.StateIdeal.τ).loc Cert.StateIdeal.main_arg14) = m ((c.tc : Thread Cert.StateIdeal.nD Cert.StateIdeal.τ).loc Cert.StateIdeal.main_arg14)
          ∧ r.2.mem ((c.tc : Thread Cert.StateIdeal.nD Cert.StateIdeal.τ).loc Cert.StateIdeal.main_arg15) = m ((c.tc : Thread Cert.StateIdeal.nD Cert.StateIdeal.τ).loc Cert.StateIdeal.main_arg15)
          ∧ r.2.mem ((c.tc : Thread Cert.StateIdeal.nD Cert.StateIdeal.τ).loc Cert.StateIdeal.main_arg16) = m ((c.tc : Thread Cert.StateIdeal.nD Cert.StateIdeal.τ).loc Cert.StateIdeal.main_arg16)
          ∧ r.2.mem ((c.tc : Thread Cert.StateIdeal.nD Cert.StateIdeal.τ).loc Cert.StateIdeal.main_arg17) = m ((c.tc : Thread Cert.StateIdeal.nD Cert.StateIdeal.τ).loc Cert.StateIdeal.main_arg17)
          ∧ r.2.mem ((c.tc : Thread Cert.StateIdeal.nD Cert.StateIdeal.τ).loc Cert.StateIdeal.main_arg18) = m ((c.tc : Thread Cert.StateIdeal.nD Cert.StateIdeal.τ).loc Cert.StateIdeal.main_arg18)
          ∧ r.2.mem ((c.tc : Thread Cert.StateIdeal.nD Cert.StateIdeal.τ).loc Cert.StateIdeal.main_arg19) = m ((c.tc : Thread Cert.StateIdeal.nD Cert.StateIdeal.τ).loc Cert.StateIdeal.main_arg19)
          ∧ r.2.mem ((c.tc : Thread Cert.StateIdeal.nD Cert.StateIdeal.τ).loc Cert.StateIdeal.main_arg20) = m ((c.tc : Thread Cert.StateIdeal.nD Cert.StateIdeal.τ).loc Cert.StateIdeal.main_arg20)
          ∧ r.2.mem ((c.tc : Thread Cert.StateIdeal.nD Cert.StateIdeal.τ).loc Cert.StateIdeal.main_arg21) = m ((c.tc : Thread Cert.StateIdeal.nD Cert.StateIdeal.τ).loc Cert.StateIdeal.main_arg21)
          ∧ r.2.mem ((c.tc : Thread Cert.StateIdeal.nD Cert.StateIdeal.τ).loc Cert.StateIdeal.main_arg22) = m ((c.tc : Thread Cert.StateIdeal.nD Cert.StateIdeal.τ).loc Cert.StateIdeal.main_arg22)
          ∧ r.2.mem ((c.tc : Thread Cert.StateIdeal.nD Cert.StateIdeal.τ).loc Cert.StateIdeal.main_arg23) = m ((c.tc : Thread Cert.StateIdeal.nD Cert.StateIdeal.τ).loc Cert.StateIdeal.main_arg23)
          ∧ r.2.mem ((c.tc : Thread Cert.StateIdeal.nD Cert.StateIdeal.τ).loc Cert.StateIdeal.main_arg24) = m ((c.tc : Thread Cert.StateIdeal.nD Cert.StateIdeal.τ).loc Cert.StateIdeal.main_arg24)
          ∧ r.2.mem ((c.tc : Thread Cert.StateIdeal.nD Cert.StateIdeal.τ).loc Cert.StateIdeal.main_arg25) = m ((c.tc : Thread Cert.StateIdeal.nD Cert.StateIdeal.τ).loc Cert.StateIdeal.main_arg25)
          ∧ r.2.mem ((c.tc : Thread Cert.StateIdeal.nD Cert.StateIdeal.τ).loc Cert.StateIdeal.main_arg26) = m ((c.tc : Thread Cert.StateIdeal.nD Cert.StateIdeal.τ).loc Cert.StateIdeal.main_arg26)
          ∧ r.2.mem ((c.tc : Thread Cert.StateIdeal.nD Cert.StateIdeal.τ).loc Cert.StateIdeal.main_arg27) = m ((c.tc : Thread Cert.StateIdeal.nD Cert.StateIdeal.τ).loc Cert.StateIdeal.main_arg27)
          ∧ r.2.mem ((c.tc : Thread Cert.StateIdeal.nD Cert.StateIdeal.τ).loc Cert.StateIdeal.main_arg28) = m ((c.tc : Thread Cert.StateIdeal.nD Cert.StateIdeal.τ).loc Cert.StateIdeal.main_arg28)
          ∧ r.2.mem ((c.tc : Thread Cert.StateIdeal.nD Cert.StateIdeal.τ).loc Cert.StateIdeal.main_arg29) = m ((c.tc : Thread Cert.StateIdeal.nD Cert.StateIdeal.τ).loc Cert.StateIdeal.main_arg29)
          ∧ r.2.mem ((c.tc : Thread Cert.StateIdeal.nD Cert.StateIdeal.τ).loc Cert.StateIdeal.main_arg30) = m ((c.tc : Thread Cert.StateIdeal.nD Cert.StateIdeal.τ).loc Cert.StateIdeal.main_arg30)
          ∧ r.2.mem ((c.tc : Thread Cert.StateIdeal.nD Cert.StateIdeal.τ).loc Cert.StateIdeal.main_arg31) = m ((c.tc : Thread Cert.StateIdeal.nD Cert.StateIdeal.τ).loc Cert.StateIdeal.main_arg31))
      ∧ θ_run (Cert.StateRefIdeal.defs (F := Ideal)) (onTc (τ := Cert.StateRefIdeal.τ) (Cert.StateRefIdeal.main (F := Ideal))) ⟨m', fun _ => 0, g'⟩ (fun r => ∀ c : Dev Cert.StateRefIdeal.nD,
          r.2.mem ((c.tc : Thread Cert.StateRefIdeal.nD Cert.StateRefIdeal.τ).loc Cert.StateRefIdeal.main_v0) = v0 c
          ∧ r.2.mem ((c.tc : Thread Cert.StateRefIdeal.nD Cert.StateRefIdeal.τ).loc Cert.StateRefIdeal.main_v24) = v1 c
          ∧ r.2.mem ((c.tc : Thread Cert.StateRefIdeal.nD Cert.StateRefIdeal.τ).loc Cert.StateRefIdeal.main_v5) = v2 c
          ∧ r.2.mem ((c.tc : Thread Cert.StateRefIdeal.nD Cert.StateRefIdeal.τ).loc Cert.StateRefIdeal.main_v11) = v3 c
          ∧ r.2.mem ((c.tc : Thread Cert.StateRefIdeal.nD Cert.StateRefIdeal.τ).loc Cert.StateRefIdeal.main_v25) = v4 c
          ∧ r.2.mem ((c.tc : Thread Cert.StateRefIdeal.nD Cert.StateRefIdeal.τ).loc Cert.StateRefIdeal.main_v49) = v5 c
          ∧ r.2.mem ((c.tc : Thread Cert.StateRefIdeal.nD Cert.StateRefIdeal.τ).loc Cert.StateRefIdeal.main_v30) = v6 c
          ∧ r.2.mem ((c.tc : Thread Cert.StateRefIdeal.nD Cert.StateRefIdeal.τ).loc Cert.StateRefIdeal.main_v36) = v7 c
          ∧ r.2.mem ((c.tc : Thread Cert.StateRefIdeal.nD Cert.StateRefIdeal.τ).loc Cert.StateRefIdeal.main_v50) = v8 c
          ∧ r.2.mem ((c.tc : Thread Cert.StateRefIdeal.nD Cert.StateRefIdeal.τ).loc Cert.StateRefIdeal.main_v74) = v9 c
          ∧ r.2.mem ((c.tc : Thread Cert.StateRefIdeal.nD Cert.StateRefIdeal.τ).loc Cert.StateRefIdeal.main_v55) = v10 c
          ∧ r.2.mem ((c.tc : Thread Cert.StateRefIdeal.nD Cert.StateRefIdeal.τ).loc Cert.StateRefIdeal.main_v61) = v11 c
          ∧ r.2.mem ((c.tc : Thread Cert.StateRefIdeal.nD Cert.StateRefIdeal.τ).loc Cert.StateRefIdeal.main_v77) = v12 c
          ∧ r.2.mem ((c.tc : Thread Cert.StateRefIdeal.nD Cert.StateRefIdeal.τ).loc Cert.StateRefIdeal.main_v101) = v13 c
          ∧ r.2.mem ((c.tc : Thread Cert.StateRefIdeal.nD Cert.StateRefIdeal.τ).loc Cert.StateRefIdeal.main_v82) = v14 c
          ∧ r.2.mem ((c.tc : Thread Cert.StateRefIdeal.nD Cert.StateRefIdeal.τ).loc Cert.StateRefIdeal.main_v88) = v15 c
          ∧ r.2.mem ((c.tc : Thread Cert.StateRefIdeal.nD Cert.StateRefIdeal.τ).loc Cert.StateRefIdeal.main_v104) = v16 c
          ∧ r.2.mem ((c.tc : Thread Cert.StateRefIdeal.nD Cert.StateRefIdeal.τ).loc Cert.StateRefIdeal.main_v128) = v17 c
          ∧ r.2.mem ((c.tc : Thread Cert.StateRefIdeal.nD Cert.StateRefIdeal.τ).loc Cert.StateRefIdeal.main_v109) = v18 c
          ∧ r.2.mem ((c.tc : Thread Cert.StateRefIdeal.nD Cert.StateRefIdeal.τ).loc Cert.StateRefIdeal.main_v115) = v19 c
          ∧ r.2.mem ((c.tc : Thread Cert.StateRefIdeal.nD Cert.StateRefIdeal.τ).loc Cert.StateRefIdeal.main_v130) = v20 c
          ∧ r.2.mem ((c.tc : Thread Cert.StateRefIdeal.nD Cert.StateRefIdeal.τ).loc Cert.StateRefIdeal.main_v154) = v21 c
          ∧ r.2.mem ((c.tc : Thread Cert.StateRefIdeal.nD Cert.StateRefIdeal.τ).loc Cert.StateRefIdeal.main_v135) = v22 c
          ∧ r.2.mem ((c.tc : Thread Cert.StateRefIdeal.nD Cert.StateRefIdeal.τ).loc Cert.StateRefIdeal.main_v141) = v23 c
          ∧ r.2.mem ((c.tc : Thread Cert.StateRefIdeal.nD Cert.StateRefIdeal.τ).loc Cert.StateRefIdeal.main_v156) = v24 c
          ∧ r.2.mem ((c.tc : Thread Cert.StateRefIdeal.nD Cert.StateRefIdeal.τ).loc Cert.StateRefIdeal.main_v180) = v25 c
          ∧ r.2.mem ((c.tc : Thread Cert.StateRefIdeal.nD Cert.StateRefIdeal.τ).loc Cert.StateRefIdeal.main_v161) = v26 c
          ∧ r.2.mem ((c.tc : Thread Cert.StateRefIdeal.nD Cert.StateRefIdeal.τ).loc Cert.StateRefIdeal.main_v167) = v27 c
          ∧ r.2.mem ((c.tc : Thread Cert.StateRefIdeal.nD Cert.StateRefIdeal.τ).loc Cert.StateRefIdeal.main_v182) = v28 c
          ∧ r.2.mem ((c.tc : Thread Cert.StateRefIdeal.nD Cert.StateRefIdeal.τ).loc Cert.StateRefIdeal.main_v206) = v29 c
          ∧ r.2.mem ((c.tc : Thread Cert.StateRefIdeal.nD Cert.StateRefIdeal.τ).loc Cert.StateRefIdeal.main_v187) = v30 c
          ∧ r.2.mem ((c.tc : Thread Cert.StateRefIdeal.nD Cert.StateRefIdeal.τ).loc Cert.StateRefIdeal.main_v193) = v31 c
          ∧ r.2.mem ((c.tc : Thread Cert.StateRefIdeal.nD Cert.StateRefIdeal.τ).loc Cert.StateRefIdeal.main_arg0) = m' ((c.tc : Thread Cert.StateRefIdeal.nD Cert.StateRefIdeal.τ).loc Cert.StateRefIdeal.main_arg0)
          ∧ r.2.mem ((c.tc : Thread Cert.StateRefIdeal.nD Cert.StateRefIdeal.τ).loc Cert.StateRefIdeal.main_arg1) = m' ((c.tc : Thread Cert.StateRefIdeal.nD Cert.StateRefIdeal.τ).loc Cert.StateRefIdeal.main_arg1)
          ∧ r.2.mem ((c.tc : Thread Cert.StateRefIdeal.nD Cert.StateRefIdeal.τ).loc Cert.StateRefIdeal.main_arg2) = m' ((c.tc : Thread Cert.StateRefIdeal.nD Cert.StateRefIdeal.τ).loc Cert.StateRefIdeal.main_arg2)
          ∧ r.2.mem ((c.tc : Thread Cert.StateRefIdeal.nD Cert.StateRefIdeal.τ).loc Cert.StateRefIdeal.main_arg3) = m' ((c.tc : Thread Cert.StateRefIdeal.nD Cert.StateRefIdeal.τ).loc Cert.StateRefIdeal.main_arg3)
          ∧ r.2.mem ((c.tc : Thread Cert.StateRefIdeal.nD Cert.StateRefIdeal.τ).loc Cert.StateRefIdeal.main_arg4) = m' ((c.tc : Thread Cert.StateRefIdeal.nD Cert.StateRefIdeal.τ).loc Cert.StateRefIdeal.main_arg4)
          ∧ r.2.mem ((c.tc : Thread Cert.StateRefIdeal.nD Cert.StateRefIdeal.τ).loc Cert.StateRefIdeal.main_arg5) = m' ((c.tc : Thread Cert.StateRefIdeal.nD Cert.StateRefIdeal.τ).loc Cert.StateRefIdeal.main_arg5)
          ∧ r.2.mem ((c.tc : Thread Cert.StateRefIdeal.nD Cert.StateRefIdeal.τ).loc Cert.StateRefIdeal.main_arg6) = m' ((c.tc : Thread Cert.StateRefIdeal.nD Cert.StateRefIdeal.τ).loc Cert.StateRefIdeal.main_arg6)
          ∧ r.2.mem ((c.tc : Thread Cert.StateRefIdeal.nD Cert.StateRefIdeal.τ).loc Cert.StateRefIdeal.main_arg7) = m' ((c.tc : Thread Cert.StateRefIdeal.nD Cert.StateRefIdeal.τ).loc Cert.StateRefIdeal.main_arg7)
          ∧ r.2.mem ((c.tc : Thread Cert.StateRefIdeal.nD Cert.StateRefIdeal.τ).loc Cert.StateRefIdeal.main_arg8) = m' ((c.tc : Thread Cert.StateRefIdeal.nD Cert.StateRefIdeal.τ).loc Cert.StateRefIdeal.main_arg8)
          ∧ r.2.mem ((c.tc : Thread Cert.StateRefIdeal.nD Cert.StateRefIdeal.τ).loc Cert.StateRefIdeal.main_arg9) = m' ((c.tc : Thread Cert.StateRefIdeal.nD Cert.StateRefIdeal.τ).loc Cert.StateRefIdeal.main_arg9)
          ∧ r.2.mem ((c.tc : Thread Cert.StateRefIdeal.nD Cert.StateRefIdeal.τ).loc Cert.StateRefIdeal.main_arg10) = m' ((c.tc : Thread Cert.StateRefIdeal.nD Cert.StateRefIdeal.τ).loc Cert.StateRefIdeal.main_arg10)
          ∧ r.2.mem ((c.tc : Thread Cert.StateRefIdeal.nD Cert.StateRefIdeal.τ).loc Cert.StateRefIdeal.main_arg11) = m' ((c.tc : Thread Cert.StateRefIdeal.nD Cert.StateRefIdeal.τ).loc Cert.StateRefIdeal.main_arg11)
          ∧ r.2.mem ((c.tc : Thread Cert.StateRefIdeal.nD Cert.StateRefIdeal.τ).loc Cert.StateRefIdeal.main_arg12) = m' ((c.tc : Thread Cert.StateRefIdeal.nD Cert.StateRefIdeal.τ).loc Cert.StateRefIdeal.main_arg12)
          ∧ r.2.mem ((c.tc : Thread Cert.StateRefIdeal.nD Cert.StateRefIdeal.τ).loc Cert.StateRefIdeal.main_arg13) = m' ((c.tc : Thread Cert.StateRefIdeal.nD Cert.StateRefIdeal.τ).loc Cert.StateRefIdeal.main_arg13)
          ∧ r.2.mem ((c.tc : Thread Cert.StateRefIdeal.nD Cert.StateRefIdeal.τ).loc Cert.StateRefIdeal.main_arg14) = m' ((c.tc : Thread Cert.StateRefIdeal.nD Cert.StateRefIdeal.τ).loc Cert.StateRefIdeal.main_arg14)
          ∧ r.2.mem ((c.tc : Thread Cert.StateRefIdeal.nD Cert.StateRefIdeal.τ).loc Cert.StateRefIdeal.main_arg15) = m' ((c.tc : Thread Cert.StateRefIdeal.nD Cert.StateRefIdeal.τ).loc Cert.StateRefIdeal.main_arg15)
          ∧ r.2.mem ((c.tc : Thread Cert.StateRefIdeal.nD Cert.StateRefIdeal.τ).loc Cert.StateRefIdeal.main_arg16) = m' ((c.tc : Thread Cert.StateRefIdeal.nD Cert.StateRefIdeal.τ).loc Cert.StateRefIdeal.main_arg16)
          ∧ r.2.mem ((c.tc : Thread Cert.StateRefIdeal.nD Cert.StateRefIdeal.τ).loc Cert.StateRefIdeal.main_arg17) = m' ((c.tc : Thread Cert.StateRefIdeal.nD Cert.StateRefIdeal.τ).loc Cert.StateRefIdeal.main_arg17)
          ∧ r.2.mem ((c.tc : Thread Cert.StateRefIdeal.nD Cert.StateRefIdeal.τ).loc Cert.StateRefIdeal.main_arg18) = m' ((c.tc : Thread Cert.StateRefIdeal.nD Cert.StateRefIdeal.τ).loc Cert.StateRefIdeal.main_arg18)
          ∧ r.2.mem ((c.tc : Thread Cert.StateRefIdeal.nD Cert.StateRefIdeal.τ).loc Cert.StateRefIdeal.main_arg19) = m' ((c.tc : Thread Cert.StateRefIdeal.nD Cert.StateRefIdeal.τ).loc Cert.StateRefIdeal.main_arg19)
          ∧ r.2.mem ((c.tc : Thread Cert.StateRefIdeal.nD Cert.StateRefIdeal.τ).loc Cert.StateRefIdeal.main_arg20) = m' ((c.tc : Thread Cert.StateRefIdeal.nD Cert.StateRefIdeal.τ).loc Cert.StateRefIdeal.main_arg20)
          ∧ r.2.mem ((c.tc : Thread Cert.StateRefIdeal.nD Cert.StateRefIdeal.τ).loc Cert.StateRefIdeal.main_arg21) = m' ((c.tc : Thread Cert.StateRefIdeal.nD Cert.StateRefIdeal.τ).loc Cert.StateRefIdeal.main_arg21)
          ∧ r.2.mem ((c.tc : Thread Cert.StateRefIdeal.nD Cert.StateRefIdeal.τ).loc Cert.StateRefIdeal.main_arg22) = m' ((c.tc : Thread Cert.StateRefIdeal.nD Cert.StateRefIdeal.τ).loc Cert.StateRefIdeal.main_arg22)
          ∧ r.2.mem ((c.tc : Thread Cert.StateRefIdeal.nD Cert.StateRefIdeal.τ).loc Cert.StateRefIdeal.main_arg23) = m' ((c.tc : Thread Cert.StateRefIdeal.nD Cert.StateRefIdeal.τ).loc Cert.StateRefIdeal.main_arg23)
          ∧ r.2.mem ((c.tc : Thread Cert.StateRefIdeal.nD Cert.StateRefIdeal.τ).loc Cert.StateRefIdeal.main_arg24) = m' ((c.tc : Thread Cert.StateRefIdeal.nD Cert.StateRefIdeal.τ).loc Cert.StateRefIdeal.main_arg24)
          ∧ r.2.mem ((c.tc : Thread Cert.StateRefIdeal.nD Cert.StateRefIdeal.τ).loc Cert.StateRefIdeal.main_arg25) = m' ((c.tc : Thread Cert.StateRefIdeal.nD Cert.StateRefIdeal.τ).loc Cert.StateRefIdeal.main_arg25)
          ∧ r.2.mem ((c.tc : Thread Cert.StateRefIdeal.nD Cert.StateRefIdeal.τ).loc Cert.StateRefIdeal.main_arg26) = m' ((c.tc : Thread Cert.StateRefIdeal.nD Cert.StateRefIdeal.τ).loc Cert.StateRefIdeal.main_arg26)
          ∧ r.2.mem ((c.tc : Thread Cert.StateRefIdeal.nD Cert.StateRefIdeal.τ).loc Cert.StateRefIdeal.main_arg27) = m' ((c.tc : Thread Cert.StateRefIdeal.nD Cert.StateRefIdeal.τ).loc Cert.StateRefIdeal.main_arg27)
          ∧ r.2.mem ((c.tc : Thread Cert.StateRefIdeal.nD Cert.StateRefIdeal.τ).loc Cert.StateRefIdeal.main_arg28) = m' ((c.tc : Thread Cert.StateRefIdeal.nD Cert.StateRefIdeal.τ).loc Cert.StateRefIdeal.main_arg28)
          ∧ r.2.mem ((c.tc : Thread Cert.StateRefIdeal.nD Cert.StateRefIdeal.τ).loc Cert.StateRefIdeal.main_arg29) = m' ((c.tc : Thread Cert.StateRefIdeal.nD Cert.StateRefIdeal.τ).loc Cert.StateRefIdeal.main_arg29)
          ∧ r.2.mem ((c.tc : Thread Cert.StateRefIdeal.nD Cert.StateRefIdeal.τ).loc Cert.StateRefIdeal.main_arg30) = m' ((c.tc : Thread Cert.StateRefIdeal.nD Cert.StateRefIdeal.τ).loc Cert.StateRefIdeal.main_arg30)
          ∧ r.2.mem ((c.tc : Thread Cert.StateRefIdeal.nD Cert.StateRefIdeal.τ).loc Cert.StateRefIdeal.main_arg31) = m' ((c.tc : Thread Cert.StateRefIdeal.nD Cert.StateRefIdeal.τ).loc Cert.StateRefIdeal.main_arg31))

def Claim : Prop :=
  ∃ (hKernel : Cert.Kernel.Facts) (hKernelIdeal : Cert.KernelIdeal.Facts) (hReferenceIdeal : Cert.ReferenceIdeal.Facts) (hNorm : Cert.Norm.Facts) (hNormIdeal : Cert.NormIdeal.Facts) (hNormRefIdeal : Cert.NormRefIdeal.Facts) (hLoss : Cert.Loss.Facts) (hLossIdeal : Cert.LossIdeal.Facts) (hLossRefIdeal : Cert.LossRefIdeal.Facts) (hMerge : Cert.Merge.Facts) (hMergeIdeal : Cert.MergeIdeal.Facts) (hMergeRefIdeal : Cert.MergeRefIdeal.Facts) (hMix : Cert.Mix.Facts) (hMixIdeal : Cert.MixIdeal.Facts) (hMixRefIdeal : Cert.MixRefIdeal.Facts) (hProj : Cert.Proj.Facts) (hProjIdeal : Cert.ProjIdeal.Facts) (hProjRefIdeal : Cert.ProjRefIdeal.Facts) (hRope : Cert.Rope.Facts) (hRopeIdeal : Cert.RopeIdeal.Facts) (hRopeRefIdeal : Cert.RopeRefIdeal.Facts) (hPrep : Cert.Prep.Facts) (hPrepIdeal : Cert.PrepIdeal.Facts) (hPrepRefIdeal : Cert.PrepRefIdeal.Facts) (hGains : Cert.Gains.Facts) (hGainsIdeal : Cert.GainsIdeal.Facts) (hGainsRefIdeal : Cert.GainsRefIdeal.Facts) (hAdam : Cert.Adam.Facts) (hAdamIdeal : Cert.AdamIdeal.Facts) (hAdamRefIdeal : Cert.AdamRefIdeal.Facts) (hState : Cert.State.Facts) (hStateIdeal : Cert.StateIdeal.Facts) (hStateRefIdeal : Cert.StateRefIdeal.Facts) (hPre_all_finite : Cert.Pre_all_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_Norm (hNorm := hNorm)
    ∧ quiescent_NormIdeal (hNormIdeal := hNormIdeal)
    ∧ quiescent_NormRefIdeal (hNormRefIdeal := hNormRefIdeal)
    ∧ quiescent_Loss (hLoss := hLoss)
    ∧ quiescent_LossIdeal (hLossIdeal := hLossIdeal)
    ∧ quiescent_LossRefIdeal (hLossRefIdeal := hLossRefIdeal)
    ∧ quiescent_Merge (hMerge := hMerge)
    ∧ quiescent_MergeIdeal (hMergeIdeal := hMergeIdeal)
    ∧ quiescent_MergeRefIdeal (hMergeRefIdeal := hMergeRefIdeal)
    ∧ quiescent_Mix (hMix := hMix)
    ∧ quiescent_MixIdeal (hMixIdeal := hMixIdeal)
    ∧ quiescent_MixRefIdeal (hMixRefIdeal := hMixRefIdeal)
    ∧ quiescent_Proj (hProj := hProj)
    ∧ quiescent_ProjIdeal (hProjIdeal := hProjIdeal)
    ∧ quiescent_ProjRefIdeal (hProjRefIdeal := hProjRefIdeal)
    ∧ quiescent_Rope (hRope := hRope)
    ∧ quiescent_RopeIdeal (hRopeIdeal := hRopeIdeal)
    ∧ quiescent_RopeRefIdeal (hRopeRefIdeal := hRopeRefIdeal)
    ∧ quiescent_Prep (hPrep := hPrep)
    ∧ quiescent_PrepIdeal (hPrepIdeal := hPrepIdeal)
    ∧ quiescent_PrepRefIdeal (hPrepRefIdeal := hPrepRefIdeal)
    ∧ quiescent_Gains (hGains := hGains)
    ∧ quiescent_GainsIdeal (hGainsIdeal := hGainsIdeal)
    ∧ quiescent_GainsRefIdeal (hGainsRefIdeal := hGainsRefIdeal)
    ∧ quiescent_Adam (hAdam := hAdam)
    ∧ quiescent_AdamIdeal (hAdamIdeal := hAdamIdeal)
    ∧ quiescent_AdamRefIdeal (hAdamRefIdeal := hAdamRefIdeal)
    ∧ quiescent_State (hState := hState)
    ∧ quiescent_StateIdeal (hStateIdeal := hStateIdeal)
    ∧ quiescent_StateRefIdeal (hStateRefIdeal := hStateRefIdeal)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_Norm_NormIdeal
    ∧ algebraic_NormIdeal_NormRefIdeal (hNormIdeal := hNormIdeal) (hNormRefIdeal := hNormRefIdeal)
    ∧ preserves_Loss_LossIdeal
    ∧ algebraic_LossIdeal_LossRefIdeal (hLossIdeal := hLossIdeal) (hLossRefIdeal := hLossRefIdeal)
    ∧ preserves_Merge_MergeIdeal
    ∧ algebraic_MergeIdeal_MergeRefIdeal (hMergeIdeal := hMergeIdeal) (hMergeRefIdeal := hMergeRefIdeal)
    ∧ preserves_Mix_MixIdeal
    ∧ algebraic_MixIdeal_MixRefIdeal (hMixIdeal := hMixIdeal) (hMixRefIdeal := hMixRefIdeal)
    ∧ preserves_Proj_ProjIdeal
    ∧ algebraic_ProjIdeal_ProjRefIdeal (hProjIdeal := hProjIdeal) (hProjRefIdeal := hProjRefIdeal)
    ∧ preserves_Rope_RopeIdeal
    ∧ algebraic_RopeIdeal_RopeRefIdeal (hRopeIdeal := hRopeIdeal) (hRopeRefIdeal := hRopeRefIdeal)
    ∧ preserves_Prep_PrepIdeal
    ∧ algebraic_PrepIdeal_PrepRefIdeal (hPrepIdeal := hPrepIdeal) (hPrepRefIdeal := hPrepRefIdeal)
    ∧ preserves_Gains_GainsIdeal
    ∧ algebraic_GainsIdeal_GainsRefIdeal (hGainsIdeal := hGainsIdeal) (hGainsRefIdeal := hGainsRefIdeal)
    ∧ preserves_Adam_AdamIdeal
    ∧ algebraic_AdamIdeal_AdamRefIdeal (hAdamIdeal := hAdamIdeal) (hAdamRefIdeal := hAdamRefIdeal)
    ∧ preserves_State_StateIdeal
    ∧ algebraic_StateIdeal_StateRefIdeal (hStateIdeal := hStateIdeal) (hStateRefIdeal := hStateRefIdeal)
-- ==== Pre_all_finite.lean ====
abbrev S4096x1024 : Shape := ⟨2, ![4096, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S4096x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x1024 .f32) (main_arg1 : FVec F S1024x2816 .f32) (main_arg2 : FVec F S1024x2816 .f32) (main_arg3 : FVec F S2816x1024 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x2816 .f32 := Host.absf main_arg1
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_v13 main_v16
-- ==== Kernel.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩
abbrev S4096x1408 : Shape := ⟨2, ![4096, 1408]⟩
abbrev S4096x512 : Shape := ⟨2, ![4096, 512]⟩
abbrev S1408x512 : Shape := ⟨2, ![1408, 512]⟩
abbrev S8x128 : Shape := ⟨2, ![8, 128]⟩

abbrev nBuf : Space → Nat
  | .hbm => 22
  | .vmem => 45
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x1024, .bf16⟩
  | .hbm, ⟨6, _⟩ => ⟨S2816x1024, .f32⟩
  | .hbm, ⟨7, _⟩ => ⟨S2816x1024, .bf16⟩
  | .hbm, ⟨8, _⟩ => ⟨S2816x1024, .f32⟩
  | .hbm, ⟨9, _⟩ => ⟨S2816x1024, .bf16⟩
  | .hbm, ⟨10, _⟩ => ⟨S2816x1024, .bf16⟩
  | .hbm, ⟨11, _⟩ => ⟨S4096x1024, .bf16⟩
  | .hbm, ⟨12, _⟩ => ⟨S4096x2816, .bf16⟩
  | .hbm, ⟨13, _⟩ => ⟨S4096x2816, .bf16⟩
  | .hbm, ⟨14, _⟩ => ⟨S4096x2816, .bf16⟩
  | .hbm, ⟨15, _⟩ => ⟨S2816x1024, .f32⟩
  | .hbm, ⟨16, _⟩ => ⟨S4096x2816, .bf16⟩
  | .hbm, ⟨17, _⟩ => ⟨S4096x2816, .bf16⟩
  | .hbm, ⟨18, _⟩ => ⟨S2816x1024, .f32⟩
  | .hbm, ⟨19, _⟩ => ⟨S2816x1024, .f32⟩
  | .hbm, ⟨20, _⟩ => ⟨S1024x2816, .f32⟩
  | .hbm, ⟨21, _⟩ => ⟨S1024x2816, .f32⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S4096x1408, .bf16⟩
  | .local _ .vmem, ⟨13, _⟩ => ⟨S4096x1408, .bf16⟩
  | .local _ .vmem, ⟨14, _⟩ => ⟨S4096x512, .bf16⟩
  | .local _ .vmem, ⟨15, _⟩ => ⟨S4096x512, .bf16⟩
  | .local _ .vmem, ⟨16, _⟩ => ⟨S1408x512, .f32⟩
  | .local _ .vmem, ⟨17, _⟩ => ⟨S1408x512, .f32⟩
  | .local _ .vmem, ⟨18, _⟩ => ⟨S8x128, .f32⟩
  | .local _ .vmem, ⟨19, _⟩ => ⟨S512x1024, .bf16⟩
  | .local _ .vmem, ⟨20, _⟩ => ⟨S512x1024, .bf16⟩
  | .local _ .vmem, ⟨21, _⟩ => ⟨S1408x1024, .bf16⟩
  | .local _ .vmem, ⟨22, _⟩ => ⟨S1408x1024, .bf16⟩
  | .local _ .vmem, ⟨23, _⟩ => ⟨S512x1408, .bf16⟩
  | .local _ .vmem, ⟨24, _⟩ => ⟨S512x1408, .bf16⟩
  | .local _ .vmem, ⟨25, _⟩ => ⟨S512x1408, .bf16⟩
  | .local _ .vmem, ⟨26, _⟩ => ⟨S512x1408, .bf16⟩
  | .local _ .vmem, ⟨27, _⟩ => ⟨S512x1408, .bf16⟩
  | .local _ .vmem, ⟨28, _⟩ => ⟨S512x1408, .bf16⟩
  | .local _ .vmem, ⟨29, _⟩ => ⟨S512x1408, .bf16⟩
  | .local _ .vmem, ⟨30, _⟩ => ⟨S512x1408, .bf16⟩
  | .local _ .vmem, ⟨31, _⟩ => ⟨S4096x1408, .bf16⟩
  | .local _ .vmem, ⟨32, _⟩ => ⟨S4096x1408, .bf16⟩
  | .local _ .vmem, ⟨33, _⟩ => ⟨S4096x512, .bf16⟩
  | .local _ .vmem, ⟨34, _⟩ => ⟨S4096x512, .bf16⟩
  | .local _ .vmem, ⟨35, _⟩ => ⟨S1408x512, .f32⟩
  | .local _ .vmem, ⟨36, _⟩ => ⟨S1408x512, .f32⟩
  | .local _ .vmem, ⟨37, _⟩ => ⟨S8x128, .f32⟩
  | .local _ .vmem, ⟨38, _⟩ => ⟨S4096x1408, .bf16⟩
  | .local _ .vmem, ⟨39, _⟩ => ⟨S4096x1408, .bf16⟩
  | .local _ .vmem, ⟨40, _⟩ => ⟨S4096x512, .bf16⟩
  | .local _ .vmem, ⟨41, _⟩ => ⟨S4096x512, .bf16⟩
  | .local _ .vmem, ⟨42, _⟩ => ⟨S1408x512, .f32⟩
  | .local _ .vmem, ⟨43, _⟩ => ⟨S1408x512, .f32⟩
  | .local _ .vmem, ⟨44, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_scratch0 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc2_stg5_0 : Ref sig .tc := ⟨.vmem, 29, rfl⟩
abbrev cc2_stg5_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg2_1 : Ref sig .tc := ⟨.vmem, 36, rfl⟩
abbrev cc3_scratch0 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg2_1 : Ref sig .tc := ⟨.vmem, 43, rfl⟩
abbrev cc4_scratch0 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![2, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S4096x1408 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1408x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨2, ![8, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1408x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x1408 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S512x1408 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S512x1408 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S512x1408 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨3, ![2, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S4096x1408 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S4096x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1408x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S4096x1408 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S4096x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1408x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== ReferenceIdeal.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S1024x2816, .f32⟩
  | .hbm, ⟨23, _⟩ => ⟨S2816x1024, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S2816x1024, .f32⟩
  | .hbm, ⟨32, _⟩ => ⟨S1024x2816, .f32⟩
  | .hbm, ⟨33, _⟩ => ⟨S2816x1024, .f32⟩
  | .hbm, ⟨34, _⟩ => ⟨S1024x2816, .f32⟩
  | .hbm, ⟨35, _⟩ => ⟨S4096x2816, .bf16⟩
  | .hbm, ⟨36, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩

abbrev nD : Nat := 1
abbrev τ : Topo := Topo.v7x

variable {F : FTy → Type} [FloatOps F]
-- ==== Norm.lean ====
abbrev S4096x2816 : Shape := ⟨2, ![4096, 2816]⟩
abbrev S1024x2816 : Shape := ⟨2, ![1024, 2816]⟩
abbrev S4096x1024 : Shape := ⟨2, ![4096, 1024]⟩
abbrev S1x1024 : Shape := ⟨2, ![1, 1024]⟩
abbrev S2816x1024 : Shape := ⟨2, ![2816, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 14
  | .vmem => 16
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S4096x1024, .f32⟩
  | .hbm, ⟨12, _⟩ => ⟨S4096x1024, .bf16⟩
  | .hbm, ⟨13, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S2816x1024, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v49 : BitVec 1 := Scalar.cmpi .eq arg0 c0_i32
  let v50 : BitVec 32 := Scalar.extui v49
  let c0_i32_26 : BitVec 32 := 0#32
  let v51 : BitVec 1 := Scalar.cmpi .ne v50 c0_i32_26
  v51

def k0_cond2 (i : grid0.Coords) : BitVec 1 :=
  let arg0 : BitVec 32 := BitVec.ofNat 32 (i 0).val
  let c0_i32 : BitVec 32 := 0#32
  let v49 : BitVec 1 := Scalar.cmpi .eq arg0 c0_i32
  let v_true : BitVec 1 := 1#1
  let v52 : BitVec 1 := Scalar.xori v49 v_true
  let v53 : BitVec 32 := Scalar.extui v52
  let c0_i32_27 : BitVec 32 := 0#32
  let v54 : BitVec 1 := Scalar.cmpi .ne v53 c0_i32_27
  v54

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormRefIdeal.lean ====
abbrev S4096x2816 : Shape := ⟨2, ![4096, 2816]⟩
abbrev S1024x2816 : Shape := ⟨2, ![1024, 2816]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Loss.lean ====
abbrev S4096x2816 : Shape := ⟨2, ![4096, 2816]⟩
abbrev S2816x1024 : Shape := ⟨2, ![2816, 1024]⟩
abbrev S1x1024 : Shape := ⟨2, ![1, 1024]⟩
abbrev S4096x1024 : Shape := ⟨2, ![4096, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1 : Shape := ⟨1, ![1]⟩
abbrev S1x1 : Shape := ⟨2, ![1, 1]⟩

abbrev nBuf : Space → Nat
  | .hbm => 10
  | .vmem => 14
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S2816x1024, .bf16⟩
  | .hbm, ⟨6, _⟩ => ⟨S4096x1024, .f32⟩
  | .hbm, ⟨7, _⟩ => ⟨S4096x1024, .bf16⟩
  | .hbm, ⟨8, _⟩ => ⟨S1x1024, .f32⟩
  | .hbm, ⟨9, _⟩ => ⟨S1x128, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x128, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v60 : BitVec 1 := Scalar.cmpi .eq arg0 c0_i32
  let v61 : BitVec 32 := Scalar.extui v60
  let c0_i32_26 : BitVec 32 := 0#32
  let v62 : BitVec 1 := Scalar.cmpi .ne v61 c0_i32_26
  v62

def k0_cond2 (i : grid0.Coords) : BitVec 1 :=
  let arg0 : BitVec 32 := BitVec.ofNat 32 (i 0).val
  let c0_i32 : BitVec 32 := 0#32
  let v60 : BitVec 1 := Scalar.cmpi .eq arg0 c0_i32
  let v_true : BitVec 1 := 1#1
  let v63 : BitVec 1 := Scalar.xori v60 v_true
  let v64 : BitVec 32 := Scalar.extui v63
  let c0_i32_27 : BitVec 32 := 0#32
  let v65 : BitVec 1 := Scalar.cmpi .ne v64 c0_i32_27
  v65

def k0_cond3 (i : grid0.Coords) : BitVec 1 :=
  let arg0 : BitVec 32 := BitVec.ofNat 32 (i 0).val
  let c0_i32 : BitVec 32 := 0#32
  let v60 : BitVec 1 := Scalar.cmpi .eq arg0 c0_i32
  let v66 : BitVec 32 := Scalar.extui v60
  let c0_i32_28 : BitVec 32 := 0#32
  let v67 : BitVec 1 := Scalar.cmpi .ne v66 c0_i32_28
  v67

def k0_cond4 (i : grid0.Coords) : BitVec 1 :=
  let arg0 : BitVec 32 := BitVec.ofNat 32 (i 0).val
  let c0_i32 : BitVec 32 := 0#32
  let v60 : BitVec 1 := Scalar.cmpi .eq arg0 c0_i32
  let true_29 : BitVec 1 := 1#1
  let v68 : BitVec 1 := Scalar.xori v60 true_29
  let v69 : BitVec 32 := Scalar.extui v68
  let c0_i32_30 : BitVec 32 := 0#32
  let v70 : BitVec 1 := Scalar.cmpi .ne v69 c0_i32_30
  v70

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossRefIdeal.lean ====
abbrev S4096x2816 : Shape := ⟨2, ![4096, 2816]⟩
abbrev S2816x1024 : Shape := ⟨2, ![2816, 1024]⟩
abbrev S1x1024 : Shape := ⟨2, ![1, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S4096x2816, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .bf16⟩
  | .hbm, ⟨74, _⟩ => ⟨S1x128, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== Merge.lean ====
abbrev S4096x2048 : Shape := ⟨2, ![4096, 2048]⟩
abbrev S4096x256 : Shape := ⟨2, ![4096, 256]⟩
abbrev S4096x512 : Shape := ⟨2, ![4096, 512]⟩
abbrev S256x1024 : Shape := ⟨2, ![256, 1024]⟩
abbrev S512x2048 : Shape := ⟨2, ![512, 2048]⟩
abbrev S1024x1024 : Shape := ⟨2, ![1024, 1024]⟩
abbrev S4096x1024 : Shape := ⟨2, ![4096, 1024]⟩
abbrev S1x1024 : Shape := ⟨2, ![1, 1024]⟩
abbrev S512x1024 : Shape := ⟨2, ![512, 1024]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S1024x512 : Shape := ⟨2, ![1024, 512]⟩
abbrev S8x128 : Shape := ⟨2, ![8, 128]⟩
abbrev S4x256x256 : Shape := ⟨3, ![4, 256, 256]⟩
abbrev S1x256x256 : Shape := ⟨3, ![1, 256, 256]⟩
abbrev S256x256 : Shape := ⟨2, ![256, 256]⟩
abbrev S4x512x512 : Shape := ⟨3, ![4, 512, 512]⟩
abbrev S1x512x512 : Shape := ⟨3, ![1, 512, 512]⟩

abbrev nBuf : Space → Nat
  | .hbm => 24
  | .vmem => 61
  | .smem => 0
  | _ => 0

abbrev bufTy : (tb : Table) → Fin (tcTables nBuf tb) → BufTy
  | .hbm, ⟨0, _⟩ => ⟨S4096x2048, .bf16⟩
  | .hbm, ⟨1, _⟩ => ⟨S4096x256, .bf16⟩
  | .hbm, ⟨2, _⟩ => ⟨S4096x512, .bf16⟩
  | .hbm, ⟨3, _⟩ => ⟨S256x1024, .f32⟩
  | .hbm, ⟨4, _⟩ => ⟨S512x2048, .f32⟩
  | .hbm, ⟨5, _⟩ => ⟨S1024x1024, .f32⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S256x1024, .bf16⟩
  | .hbm, ⟨10, _⟩ => ⟨S512x2048, .bf16⟩
  | .hbm, ⟨11, _⟩ => ⟨S1024x1024, .bf16⟩
  | .hbm, ⟨12, _⟩ => ⟨S4096x1024, .bf16⟩
  | .hbm, ⟨13, _⟩ => ⟨S4096x1024, .bf16⟩
  | .hbm, ⟨14, _⟩ => ⟨S4096x1024, .f32⟩
  | .hbm, ⟨15, _⟩ => ⟨S4096x1024, .bf16⟩
  | .hbm, ⟨16, _⟩ => ⟨S1024x1024, .f32⟩
  | .hbm, ⟨17, _⟩ => ⟨S4096x2048, .bf16⟩
  | .hbm, ⟨18, _⟩ => ⟨S4096x1024, .bf16⟩
  | .hbm, ⟨19, _⟩ => ⟨S4096x2048, .bf16⟩
  | .hbm, ⟨20, _⟩ => ⟨S4096x256, .f32⟩
  | .hbm, ⟨21, _⟩ => ⟨S4096x512, .f32⟩
  | .hbm, ⟨22, _⟩ => ⟨S4x256x256, .f32⟩
  | .hbm, ⟨23, _⟩ => ⟨S4x512x512, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x256, .bf16⟩
  | .local _ .vmem, ⟨5, _⟩ => ⟨S512x256, .bf16⟩
  | .local _ .vmem, ⟨6, _⟩ => ⟨S256x1024, .bf16⟩
  | .local _ .vmem, ⟨7, _⟩ => ⟨S512x512, .bf16⟩
  | .local _ .vmem, ⟨8, _⟩ => ⟨S512x512, .bf16⟩
  | .local _ .vmem, ⟨9, _⟩ => ⟨S512x2048, .bf16⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S4096x1024, .bf16⟩
  | .local _ .vmem, ⟨21, _⟩ => ⟨S4096x512, .bf16⟩
  | .local _ .vmem, ⟨22, _⟩ => ⟨S4096x512, .bf16⟩
  | .local _ .vmem, ⟨23, _⟩ => ⟨S1024x512, .f32⟩
  | .local _ .vmem, ⟨24, _⟩ => ⟨S1024x512, .f32⟩
  | .local _ .vmem, ⟨25, _⟩ => ⟨S8x128, .f32⟩
  | .local _ .vmem, ⟨26, _⟩ => ⟨S512x1024, .bf16⟩
  | .local _ .vmem, ⟨27, _⟩ => ⟨S512x1024, .bf16⟩
  | .local _ .vmem, ⟨28, _⟩ => ⟨S1024x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S512x256, .bf16⟩
  | .local _ .vmem, ⟨34, _⟩ => ⟨S512x256, .bf16⟩
  | .local _ .vmem, ⟨35, _⟩ => ⟨S256x1024, .bf16⟩
  | .local _ .vmem, ⟨36, _⟩ => ⟨S512x512, .bf16⟩
  | .local _ .vmem, ⟨37, _⟩ => ⟨S512x512, .bf16⟩
  | .local _ .vmem, ⟨38, _⟩ => ⟨S512x2048, .bf16⟩
  | .local _ .vmem, ⟨39, _⟩ => ⟨S512x2048, .bf16⟩
  | .local _ .vmem, ⟨40, _⟩ => ⟨S512x2048, .bf16⟩
  | .local _ .vmem, ⟨41, _⟩ => ⟨S512x1024, .bf16⟩
  | .local _ .vmem, ⟨42, _⟩ => ⟨S512x1024, .bf16⟩
  | .local _ .vmem, ⟨43, _⟩ => ⟨S512x2048, .bf16⟩
  | .local _ .vmem, ⟨44, _⟩ => ⟨S512x2048, .bf16⟩
  | .local _ .vmem, ⟨45, _⟩ => ⟨S512x256, .f32⟩
  | .local _ .vmem, ⟨46, _⟩ => ⟨S512x256, .f32⟩
  | .local _ .vmem, ⟨47, _⟩ => ⟨S512x512, .f32⟩
  | .local _ .vmem, ⟨48, _⟩ => ⟨S512x512, .f32⟩
  | .local _ .vmem, ⟨49, _⟩ => ⟨S4096x256, .bf16⟩
  | .local _ .vmem, ⟨50, _⟩ => ⟨S4096x256, .bf16⟩
  | .local _ .vmem, ⟨51, _⟩ => ⟨S4096x256, .bf16⟩
  | .local _ .vmem, ⟨52, _⟩ => ⟨S1x256x256, .f32⟩
  | .local _ .vmem, ⟨53, _⟩ => ⟨S1x256x256, .f32⟩
  | .local _ .vmem, ⟨54, _⟩ => ⟨S8x128, .f32⟩
  | .local _ .vmem, ⟨55, _⟩ => ⟨S4096x512, .bf16⟩
  | .local _ .vmem, ⟨56, _⟩ => ⟨S4096x512, .bf16⟩
  | .local _ .vmem, ⟨57, _⟩ => ⟨S4096x512, .bf16⟩
  | .local _ .vmem, ⟨58, _⟩ => ⟨S1x512x512, .f32⟩
  | .local _ .vmem, ⟨59, _⟩ => ⟨S1x512x512, .f32⟩
  | .local _ .vmem, ⟨60, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v6_3 : Ref sig .tc := ⟨.hbm, 20, rfl⟩
abbrev main_v6_4 : Ref sig .tc := ⟨.hbm, 21, rfl⟩
abbrev main_v7 : Ref sig .tc := ⟨.hbm, 22, rfl⟩
abbrev main_v8 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc1_stg0_0 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_scratch0 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg2_1 : Ref sig .tc := ⟨.vmem, 30, rfl⟩
abbrev cc2_stg3_0 : Ref sig .tc := ⟨.vmem, 31, rfl⟩
abbrev cc2_stg3_1 : Ref sig .tc := ⟨.vmem, 32, rfl⟩
abbrev cc2_stg4_0 : Ref sig .tc := ⟨.vmem, 33, rfl⟩
abbrev cc2_stg4_1 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg6_1 : Ref sig .tc := ⟨.vmem, 37, rfl⟩
abbrev cc2_stg7_0 : Ref sig .tc := ⟨.vmem, 38, rfl⟩
abbrev cc2_stg8_0 : Ref sig .tc := ⟨.vmem, 39, rfl⟩
abbrev cc2_stg8_1 : Ref sig .tc := ⟨.vmem, 40, rfl⟩
abbrev cc2_stg9_0 : Ref sig .tc := ⟨.vmem, 41, rfl⟩
abbrev cc2_stg9_1 : Ref sig .tc := ⟨.vmem, 42, rfl⟩
abbrev cc2_stg10_0 : Ref sig .tc := ⟨.vmem, 43, rfl⟩
abbrev cc2_stg10_1 : Ref sig .tc := ⟨.vmem, 44, rfl⟩
abbrev cc2_stg11_0 : Ref sig .tc := ⟨.vmem, 45, rfl⟩
abbrev cc2_stg11_1 : Ref sig .tc := ⟨.vmem, 46, rfl⟩
abbrev cc2_stg12_0 : Ref sig .tc := ⟨.vmem, 47, rfl⟩
abbrev cc2_stg12_1 : Ref sig .tc := ⟨.vmem, 48, rfl⟩
abbrev cc3_stg0_0 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_scratch0 : Ref sig .tc := ⟨.vmem, 54, rfl⟩
abbrev cc4_stg0_0 : Ref sig .tc := ⟨.vmem, 55, rfl⟩
abbrev cc4_stg1_0 : Ref sig .tc := ⟨.vmem, 56, rfl⟩
abbrev cc4_stg1_1 : Ref sig .tc := ⟨.vmem, 57, rfl⟩
abbrev cc4_stg2_0 : Ref sig .tc := ⟨.vmem, 58, rfl⟩
abbrev cc4_stg2_1 : Ref sig .tc := ⟨.vmem, 59, rfl⟩
abbrev cc4_scratch0 : Ref sig .tc := ⟨.vmem, 60, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc1_sem0_0 : DmaSem sig := 20
abbrev cc1_sem1_0 : DmaSem sig := 21
abbrev cc1_sem1_1 : DmaSem sig := 22
abbrev cc1_sem2_0 : DmaSem sig := 23
abbrev cc1_sem2_1 : DmaSem sig := 24
abbrev cc2_sem0_0 : DmaSem sig := 25
abbrev cc2_sem0_1 : DmaSem sig := 26
abbrev cc2_sem1_0 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem4_1 : DmaSem sig := 33
abbrev cc2_sem5_0 : DmaSem sig := 34
abbrev cc2_sem6_0 : DmaSem sig := 35
abbrev cc2_sem6_1 : DmaSem sig := 36
abbrev cc2_sem7_0 : DmaSem sig := 37
abbrev cc2_sem8_0 : DmaSem sig := 38
abbrev cc2_sem8_1 : DmaSem sig := 39
abbrev cc2_sem9_0 : DmaSem sig := 40
abbrev cc2_sem9_1 : DmaSem sig := 41
abbrev cc2_sem10_0 : DmaSem sig := 42
abbrev cc2_sem10_1 : DmaSem sig := 43
abbrev cc2_sem11_0 : DmaSem sig := 44
abbrev cc2_sem11_1 : DmaSem sig := 45
abbrev cc2_sem12_0 : DmaSem sig := 46
abbrev cc2_sem12_1 : DmaSem sig := 47
abbrev cc3_sem0_0 : DmaSem sig := 48
abbrev cc3_sem1_0 : DmaSem sig := 49
abbrev cc3_sem1_1 : DmaSem sig := 50
abbrev cc3_sem2_0 : DmaSem sig := 51
abbrev cc3_sem2_1 : DmaSem sig := 52
abbrev cc4_sem0_0 : DmaSem sig := 53
abbrev cc4_sem1_0 : DmaSem sig := 54
abbrev cc4_sem1_1 : DmaSem sig := 55
abbrev cc4_sem2_0 : DmaSem sig := 56
abbrev cc4_sem2_1 : DmaSem sig := 57

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨3, ![1, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S4096x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c1_i32 : BitVec 32 := 1#32
  let c0_i32 : BitVec 32 := 0#32
  ![arg0.toNat, c1_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S256x1024 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512x512 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S512x2048 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S512x2048 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S512x1024 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S512x2048 .bf16 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S512x256 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S512x512 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev grid3 : Pipeline.Grid := ⟨3, ![1, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c1_i32_0 : BitVec 32 := 1#32
  let v1 : BitVec 32 := Scalar.remsi arg1 c1_i32_0
  let c0_i32 : BitVec 32 := 0#32
  ![v0.toNat, arg0.toNat, v1.toNat]

abbrev stage3_0 : Fin 1 → Memref sig .tc .vmem S4096x256 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S4096x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1x256x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![1, 4, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c1_i32_0 : BitVec 32 := 1#32
  let v1 : BitVec 32 := Scalar.remsi arg1 c1_i32_0
  let c0_i32 : BitVec 32 := 0#32
  ![v0.toNat, arg0.toNat, v1.toNat]

abbrev stage4_0 : Fin 1 → Memref sig .tc .vmem S4096x512 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 2 → Memref sig .tc .vmem S4096x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1x512x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== MergeRefIdeal.lean ====
abbrev S4096x2048 : Shape := ⟨2, ![4096, 2048]⟩
abbrev S4096x256 : Shape := ⟨2, ![4096, 256]⟩
abbrev S4096x512 : Shape := ⟨2, ![4096, 512]⟩
abbrev S256x1024 : Shape := ⟨2, ![256, 1024]⟩
abbrev S512x2048 : Shape := ⟨2, ![512, 2048]⟩
abbrev S1024x1024 : Shape := ⟨2, ![1024, 1024]⟩
abbrev S4096x1024 : Shape := ⟨2, ![4096, 1024]⟩
abbrev S1x1024 : Shape := ⟨2, ![1, 1024]⟩
abbrev S_ : Shape := ⟨0, ![]⟩
abbrev S1024x256 : Shape := ⟨2, ![1024, 256]⟩
abbrev S2048x512 : Shape := ⟨2, ![2048, 512]⟩
abbrev S4096 : Shape := ⟨1, ![4096]⟩
abbrev S4096x1 : Shape := ⟨2, ![4096, 1]⟩
abbrev S256x4x256 : Shape := ⟨3, ![256, 4, 256]⟩
abbrev S4x256x256 : Shape := ⟨3, ![4, 256, 256]⟩
abbrev S512x4x512 : Shape := ⟨3, ![512, 4, 512]⟩
abbrev S4x512x512 : Shape := ⟨3, ![4, 512, 512]⟩

abbrev nBuf : Space → Nat
  | .hbm => 101
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x256, .bf16⟩
  | .hbm, ⟨2, _⟩ => ⟨S4096x512, .bf16⟩
  | .hbm, ⟨3, _⟩ => ⟨S256x1024, .f32⟩
  | .hbm, ⟨4, _⟩ => ⟨S512x2048, .f32⟩
  | .hbm, ⟨5, _⟩ => ⟨S1024x1024, .f32⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S4096x2048, .f32⟩
  | .hbm, ⟨10, _⟩ => ⟨S4096x256, .f32⟩
  | .hbm, ⟨11, _⟩ => ⟨S4096x512, .f32⟩
  | .hbm, ⟨12, _⟩ => ⟨S4096x1024, .f32⟩
  | .hbm, ⟨13, _⟩ => ⟨S4096x2048, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S1024x1024, .f32⟩
  | .hbm, ⟨61, _⟩ => ⟨S1024x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S1024x256, .f32⟩
  | .hbm, ⟨73, _⟩ => ⟨S256x1024, .f32⟩
  | .hbm, ⟨74, _⟩ => ⟨S4096x256, .f32⟩
  | .hbm, ⟨75, _⟩ => ⟨S4096x2048, .f32⟩
  | .hbm, ⟨76, _⟩ => ⟨S2048x512, .f32⟩
  | .hbm, ⟨77, _⟩ => ⟨S512x2048, .f32⟩
  | .hbm, ⟨78, _⟩ => ⟨S4096x512, .f32⟩
  | .hbm, ⟨79, _⟩ => ⟨S4096x1024, .f32⟩
  | .hbm, ⟨80, _⟩ => ⟨S_, .f32⟩
  | .hbm, ⟨81, _⟩ => ⟨S4096, .f32⟩
  | .hbm, ⟨82, _⟩ => ⟨S4096x1, .f32⟩
  | .hbm, ⟨83, _⟩ => ⟨S_, .f32⟩
  | .hbm, ⟨84, _⟩ => ⟨S4096x1, .f32⟩
  | .hbm, ⟨85, _⟩ => ⟨S4096x1, .f32⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S4096x1, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .bf16⟩
  | .hbm, ⟨95, _⟩ => ⟨S4096x2048, .f32⟩
  | .hbm, ⟨96, _⟩ => ⟨S4096x2048, .bf16⟩
  | .hbm, ⟨97, _⟩ => ⟨S256x4x256, .f32⟩
  | .hbm, ⟨98, _⟩ => ⟨S4x256x256, .f32⟩
  | .hbm, ⟨99, _⟩ => ⟨S512x4x512, .f32⟩
  | .hbm, ⟨100, _⟩ => ⟨S4x512x512, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_8 : Ref sig .tc := ⟨.hbm, 80, rfl⟩
abbrev main_v62 : Ref sig .tc := ⟨.hbm, 81, rfl⟩
abbrev main_v63 : Ref sig .tc := ⟨.hbm, 82, rfl⟩
abbrev main_cst_9 : Ref sig .tc := ⟨.hbm, 83, rfl⟩
abbrev main_v64 : Ref sig .tc := ⟨.hbm, 84, rfl⟩
abbrev main_v65 : Ref sig .tc := ⟨.hbm, 85, rfl⟩
abbrev main_cst_10 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩

abbrev nD : Nat := 1
abbrev τ : Topo := Topo.v7x

variable {F : FTy → Type} [FloatOps F]
-- ==== Mix.lean ====
abbrev S4096x512 : Shape := ⟨2, ![4096, 512]⟩
abbrev S4096x2048 : Shape := ⟨2, ![4096, 2048]⟩
abbrev S1024x512 : Shape := ⟨2, ![1024, 512]⟩
abbrev S1024x2048 : Shape := ⟨2, ![1024, 2048]⟩
abbrev S4096x1024 : Shape := ⟨2, ![4096, 1024]⟩
abbrev S1x1024 : Shape := ⟨2, ![1, 1024]⟩
abbrev S512x1024 : Shape := ⟨2, ![512, 1024]⟩
abbrev S2048x1024 : Shape := ⟨2, ![2048, 1024]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩
abbrev S1024 : Shape := ⟨1, ![1024]⟩

abbrev nBuf : Space → Nat
  | .hbm => 14
  | .vmem => 16
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S1024x512, .f32⟩
  | .hbm, ⟨3, _⟩ => ⟨S1024x2048, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S512x1024, .f32⟩
  | .hbm, ⟨9, _⟩ => ⟨S512x1024, .bf16⟩
  | .hbm, ⟨10, _⟩ => ⟨S2048x1024, .f32⟩
  | .hbm, ⟨11, _⟩ => ⟨S2048x1024, .bf16⟩
  | .hbm, ⟨12, _⟩ => ⟨S4096x1024, .f32⟩
  | .hbm, ⟨13, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S2048x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v49 : BitVec 1 := Scalar.cmpi .eq arg0 c0_i32
  let v50 : BitVec 32 := Scalar.extui v49
  let c0_i32_26 : BitVec 32 := 0#32
  let v51 : BitVec 1 := Scalar.cmpi .ne v50 c0_i32_26
  v51

def k0_cond2 (i : grid0.Coords) : BitVec 1 :=
  let arg0 : BitVec 32 := BitVec.ofNat 32 (i 0).val
  let c0_i32 : BitVec 32 := 0#32
  let v49 : BitVec 1 := Scalar.cmpi .eq arg0 c0_i32
  let v_true : BitVec 1 := 1#1
  let v52 : BitVec 1 := Scalar.xori v49 v_true
  let v53 : BitVec 32 := Scalar.extui v52
  let c0_i32_27 : BitVec 32 := 0#32
  let v54 : BitVec 1 := Scalar.cmpi .ne v53 c0_i32_27
  v54

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MixRefIdeal.lean ====
abbrev S4096x512 : Shape := ⟨2, ![4096, 512]⟩
abbrev S4096x2048 : Shape := ⟨2, ![4096, 2048]⟩
abbrev S1024x512 : Shape := ⟨2, ![1024, 512]⟩
abbrev S1024x2048 : Shape := ⟨2, ![1024, 2048]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 59
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S1024x512, .f32⟩
  | .hbm, ⟨3, _⟩ => ⟨S1024x2048, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x512, .f32⟩
  | .hbm, ⟨28, _⟩ => ⟨S4096x2048, .f32⟩
  | .hbm, ⟨29, _⟩ => ⟨S4096x512, .f32⟩
  | .hbm, ⟨30, _⟩ => ⟨S4096x2048, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Proj.lean ====
abbrev S4096x1024 : Shape := ⟨2, ![4096, 1024]⟩
abbrev S1024x2304 : Shape := ⟨2, ![1024, 2304]⟩
abbrev S1024x512 : Shape := ⟨2, ![1024, 512]⟩
abbrev S1024x2048 : Shape := ⟨2, ![1024, 2048]⟩
abbrev S4096x2304 : Shape := ⟨2, ![4096, 2304]⟩
abbrev S4096x512 : Shape := ⟨2, ![4096, 512]⟩
abbrev S4096x2048 : Shape := ⟨2, ![4096, 2048]⟩
abbrev S2304x1024 : Shape := ⟨2, ![2304, 1024]⟩
abbrev S3x3x2x128x1024 : Shape := ⟨5, ![3, 3, 2, 128, 1024]⟩
abbrev S2x3x3x128x1024 : Shape := ⟨5, ![2, 3, 3, 128, 1024]⟩
abbrev S512x1024 : Shape := ⟨2, ![512, 1024]⟩
abbrev S2048x1024 : Shape := ⟨2, ![2048, 1024]⟩
abbrev S1024x1024 : Shape := ⟨2, ![1024, 1024]⟩
abbrev S8x128 : Shape := ⟨2, ![8, 128]⟩
abbrev S4096x1152 : Shape := ⟨2, ![4096, 1152]⟩
abbrev S1152x512 : Shape := ⟨2, ![1152, 512]⟩
abbrev S512x512 : Shape := ⟨2, ![512, 512]⟩

abbrev nBuf : Space → Nat
  | .hbm => 25
  | .vmem => 39
  | .smem => 0
  | _ => 0

abbrev bufTy : (tb : Table) → Fin (tcTables nBuf tb) → BufTy
  | .hbm, ⟨0, _⟩ => ⟨S4096x1024, .bf16⟩
  | .hbm, ⟨1, _⟩ => ⟨S1024x2304, .f32⟩
  | .hbm, ⟨2, _⟩ => ⟨S1024x512, .f32⟩
  | .hbm, ⟨3, _⟩ => ⟨S1024x2048, .f32⟩
  | .hbm, ⟨4, _⟩ => ⟨S4096x2304, .bf16⟩
  | .hbm, ⟨5, _⟩ => ⟨S4096x512, .bf16⟩
  | .hbm, ⟨6, _⟩ => ⟨S4096x2048, .bf16⟩
  | .hbm, ⟨7, _⟩ => ⟨S2304x1024, .f32⟩
  | .hbm, ⟨8, _⟩ => ⟨S2304x1024, .bf16⟩
  | .hbm, ⟨9, _⟩ => ⟨S3x3x2x128x1024, .bf16⟩
  | .hbm, ⟨10, _⟩ => ⟨S2x3x3x128x1024, .bf16⟩
  | .hbm, ⟨11, _⟩ => ⟨S2304x1024, .bf16⟩
  | .hbm, ⟨12, _⟩ => ⟨S512x1024, .f32⟩
  | .hbm, ⟨13, _⟩ => ⟨S512x1024, .bf16⟩
  | .hbm, ⟨14, _⟩ => ⟨S2048x1024, .f32⟩
  | .hbm, ⟨15, _⟩ => ⟨S2048x1024, .bf16⟩
  | .hbm, ⟨16, _⟩ => ⟨S4096x512, .f32⟩
  | .hbm, ⟨17, _⟩ => ⟨S4096x2048, .bf16⟩
  | .hbm, ⟨18, _⟩ => ⟨S2304x1024, .f32⟩
  | .hbm, ⟨19, _⟩ => ⟨S512x1024, .f32⟩
  | .hbm, ⟨20, _⟩ => ⟨S2048x1024, .f32⟩
  | .hbm, ⟨21, _⟩ => ⟨S4096x1024, .f32⟩
  | .hbm, ⟨22, _⟩ => ⟨S2x3x3x128x1024, .f32⟩
  | .hbm, ⟨23, _⟩ => ⟨S3x3x2x128x1024, .f32⟩
  | .hbm, ⟨24, _⟩ => ⟨S2304x1024, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | .local _ .vmem, ⟨5, _⟩ => ⟨S8x128, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S8x128, .f32⟩
  | .local _ .vmem, ⟨13, _⟩ => ⟨S4096x1152, .bf16⟩
  | .local _ .vmem, ⟨14, _⟩ => ⟨S4096x1152, .bf16⟩
  | .local _ .vmem, ⟨15, _⟩ => ⟨S4096x512, .bf16⟩
  | .local _ .vmem, ⟨16, _⟩ => ⟨S4096x512, .bf16⟩
  | .local _ .vmem, ⟨17, _⟩ => ⟨S1152x512, .f32⟩
  | .local _ .vmem, ⟨18, _⟩ => ⟨S1152x512, .f32⟩
  | .local _ .vmem, ⟨19, _⟩ => ⟨S8x128, .f32⟩
  | .local _ .vmem, ⟨20, _⟩ => ⟨S4096x512, .bf16⟩
  | .local _ .vmem, ⟨21, _⟩ => ⟨S4096x512, .bf16⟩
  | .local _ .vmem, ⟨22, _⟩ => ⟨S4096x512, .bf16⟩
  | .local _ .vmem, ⟨23, _⟩ => ⟨S512x512, .f32⟩
  | .local _ .vmem, ⟨24, _⟩ => ⟨S512x512, .f32⟩
  | .local _ .vmem, ⟨25, _⟩ => ⟨S8x128, .f32⟩
  | .local _ .vmem, ⟨26, _⟩ => ⟨S4096x1024, .bf16⟩
  | .local _ .vmem, ⟨27, _⟩ => ⟨S4096x1024, .bf16⟩
  | .local _ .vmem, ⟨28, _⟩ => ⟨S4096x512, .bf16⟩
  | .local _ .vmem, ⟨29, _⟩ => ⟨S4096x512, .bf16⟩
  | .local _ .vmem, ⟨30, _⟩ => ⟨S1024x512, .f32⟩
  | .local _ .vmem, ⟨31, _⟩ => ⟨S1024x512, .f32⟩
  | .local _ .vmem, ⟨32, _⟩ => ⟨S8x128, .f32⟩
  | .local _ .vmem, ⟨33, _⟩ => ⟨S1024x2304, .bf16⟩
  | .local _ .vmem, ⟨34, _⟩ => ⟨S1024x2304, .bf16⟩
  | .local _ .vmem, ⟨35, _⟩ => ⟨S2304x1024, .bf16⟩
  | .local _ .vmem, ⟨36, _⟩ => ⟨S1024x1024, .f32⟩
  | .local _ .vmem, ⟨37, _⟩ => ⟨S1024x1024, .f32⟩
  | .local _ .vmem, ⟨38, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_scratch0 : Ref sig .tc := ⟨.vmem, 19, rfl⟩
abbrev cc3_stg0_0 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_scratch0 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc4_scratch0 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg2_1 : Ref sig .tc := ⟨.vmem, 37, rfl⟩
abbrev cc5_scratch0 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem2_1 : DmaSem sig := 32

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S4096x1152 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1152x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S4096x512 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S4096x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S512x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S4096x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S4096x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![4, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x2304 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S2304x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== ProjRefIdeal.lean ====
abbrev S4096x1024 : Shape := ⟨2, ![4096, 1024]⟩
abbrev S1024x2304 : Shape := ⟨2, ![1024, 2304]⟩
abbrev S1024x512 : Shape := ⟨2, ![1024, 512]⟩
abbrev S1024x2048 : Shape := ⟨2, ![1024, 2048]⟩
abbrev S4096x2304 : Shape := ⟨2, ![4096, 2304]⟩
abbrev S4096x512 : Shape := ⟨2, ![4096, 512]⟩
abbrev S4096x2048 : Shape := ⟨2, ![4096, 2048]⟩
abbrev S4096x3x3x2x128 : Shape := ⟨5, ![4096, 3, 3, 2, 128]⟩
abbrev S4096x2x3x3x128 : Shape := ⟨5, ![4096, 2, 3, 3, 128]⟩
abbrev S2304x1024 : Shape := ⟨2, ![2304, 1024]⟩
abbrev S512x1024 : Shape := ⟨2, ![512, 1024]⟩
abbrev S2048x1024 : Shape := ⟨2, ![2048, 1024]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2304, .f32⟩
  | .hbm, ⟨2, _⟩ => ⟨S1024x512, .f32⟩
  | .hbm, ⟨3, _⟩ => ⟨S1024x2048, .f32⟩
  | .hbm, ⟨4, _⟩ => ⟨S4096x2304, .bf16⟩
  | .hbm, ⟨5, _⟩ => ⟨S4096x512, .bf16⟩
  | .hbm, ⟨6, _⟩ => ⟨S4096x2048, .bf16⟩
  | .hbm, ⟨7, _⟩ => ⟨S4096x1024, .f32⟩
  | .hbm, ⟨8, _⟩ => ⟨S4096x2304, .f32⟩
  | .hbm, ⟨9, _⟩ => ⟨S4096x3x3x2x128, .f32⟩
  | .hbm, ⟨10, _⟩ => ⟨S4096x2x3x3x128, .f32⟩
  | .hbm, ⟨11, _⟩ => ⟨S4096x2304, .f32⟩
  | .hbm, ⟨12, _⟩ => ⟨S4096x512, .f32⟩
  | .hbm, ⟨13, _⟩ => ⟨S4096x2048, .f32⟩
  | .hbm, ⟨14, _⟩ => ⟨S4096x2304, .f32⟩
  | .hbm, ⟨15, _⟩ => ⟨S4096x2x3x3x128, .f32⟩
  | .hbm, ⟨16, _⟩ => ⟨S4096x3x3x2x128, .f32⟩
  | .hbm, ⟨17, _⟩ => ⟨S4096x2304, .f32⟩
  | .hbm, ⟨18, _⟩ => ⟨S2304x1024, .f32⟩
  | .hbm, ⟨19, _⟩ => ⟨S1024x2304, .f32⟩
  | .hbm, ⟨20, _⟩ => ⟨S4096x1024, .f32⟩
  | .hbm, ⟨21, _⟩ => ⟨S4096x2048, .bf16⟩
  | .hbm, ⟨22, _⟩ => ⟨S2304x1024, .f32⟩
  | .hbm, ⟨23, _⟩ => ⟨S4096x512, .f32⟩
  | .hbm, ⟨24, _⟩ => ⟨S512x1024, .f32⟩
  | .hbm, ⟨25, _⟩ => ⟨S1024x512, .f32⟩
  | .hbm, ⟨26, _⟩ => ⟨S512x1024, .f32⟩
  | .hbm, ⟨27, _⟩ => ⟨S4096x2048, .f32⟩
  | .hbm, ⟨28, _⟩ => ⟨S2048x1024, .f32⟩
  | .hbm, ⟨29, _⟩ => ⟨S1024x2048, .f32⟩
  | .hbm, ⟨30, _⟩ => ⟨S2048x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Rope.lean ====
abbrev S4096x1024 : Shape := ⟨2, ![4096, 1024]⟩
abbrev S1024x2304 : Shape := ⟨2, ![1024, 2304]⟩
abbrev S2048x8 : Shape := ⟨2, ![2048, 8]⟩
abbrev S2304x1024 : Shape := ⟨2, ![2304, 1024]⟩
abbrev S3x3x2x128x1024 : Shape := ⟨5, ![3, 3, 2, 128, 1024]⟩
abbrev S2x3x3x128x1024 : Shape := ⟨5, ![2, 3, 3, 128, 1024]⟩
abbrev S_ : Shape := ⟨0, ![]⟩
abbrev S2048x48 : Shape := ⟨2, ![2048, 48]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S4096x2304 : Shape := ⟨2, ![4096, 2304]⟩
abbrev S1024x1024 : Shape := ⟨2, ![1024, 1024]⟩
abbrev S1152x1024 : Shape := ⟨2, ![1152, 1024]⟩
abbrev S1024x128 : Shape := ⟨2, ![1024, 128]⟩
abbrev S1024x1152 : Shape := ⟨2, ![1024, 1152]⟩

abbrev nBuf : Space → Nat
  | .hbm => 30
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S1024x2304, .f32⟩
  | .hbm, ⟨2, _⟩ => ⟨S2048x8, .f32⟩
  | .hbm, ⟨3, _⟩ => ⟨S2048x8, .f32⟩
  | .hbm, ⟨4, _⟩ => ⟨S2304x1024, .f32⟩
  | .hbm, ⟨5, _⟩ => ⟨S2304x1024, .bf16⟩
  | .hbm, ⟨6, _⟩ => ⟨S3x3x2x128x1024, .bf16⟩
  | .hbm, ⟨7, _⟩ => ⟨S2x3x3x128x1024, .bf16⟩
  | .hbm, ⟨8, _⟩ => ⟨S2304x1024, .bf16⟩
  | .hbm, ⟨9, _⟩ => ⟨S_, .f32⟩
  | .hbm, ⟨10, _⟩ => ⟨S2048x48, .f32⟩
  | .hbm, ⟨11, _⟩ => ⟨S_, .f32⟩
  | .hbm, ⟨12, _⟩ => ⟨S2048x8, .f32⟩
  | .hbm, ⟨13, _⟩ => ⟨S_, .f32⟩
  | .hbm, ⟨14, _⟩ => ⟨S2048x48, .f32⟩
  | .hbm, ⟨15, _⟩ => ⟨S2048x48, .f32⟩
  | .hbm, ⟨16, _⟩ => ⟨S2048x64, .f32⟩
  | .hbm, ⟨17, _⟩ => ⟨S2048x8, .f32⟩
  | .hbm, ⟨18, _⟩ => ⟨S2048x64, .f32⟩
  | .hbm, ⟨19, _⟩ => ⟨S2048x64, .f32⟩
  | .hbm, ⟨20, _⟩ => ⟨S1x2048x1x64, .f32⟩
  | .hbm, ⟨21, _⟩ => ⟨S1x2048x2x64, .f32⟩
  | .hbm, ⟨22, _⟩ => ⟨S2048x128, .f32⟩
  | .hbm, ⟨23, _⟩ => ⟨S1x2048x1x64, .f32⟩
  | .hbm, ⟨24, _⟩ => ⟨S1x2048x2x64, .f32⟩
  | .hbm, ⟨25, _⟩ => ⟨S2048x128, .f32⟩
  | .hbm, ⟨26, _⟩ => ⟨S1x2048x1x64, .f32⟩
  | .hbm, ⟨27, _⟩ => ⟨S1x2048x2x64, .f32⟩
  | .hbm, ⟨28, _⟩ => ⟨S2048x128, .f32⟩
  | .hbm, ⟨29, _⟩ => ⟨S4096x2304, .f32⟩
  | .local _ .vmem, ⟨0, _⟩ => ⟨S1024x1024, .bf16⟩
  | .local _ .vmem, ⟨1, _⟩ => ⟨S1024x1024, .bf16⟩
  | .local _ .vmem, ⟨2, _⟩ => ⟨S1152x1024, .bf16⟩
  | .local _ .vmem, ⟨3, _⟩ => ⟨S1152x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x1152, .f32⟩
  | .local _ .vmem, ⟨11, _⟩ => ⟨S1024x1152, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RopeRefIdeal.lean ====
abbrev S4096x1024 : Shape := ⟨2, ![4096, 1024]⟩
abbrev S1024x2304 : Shape := ⟨2, ![1024, 2304]⟩
abbrev S2048x8 : Shape := ⟨2, ![2048, 8]⟩
abbrev S4096x2304 : Shape := ⟨2, ![4096, 2304]⟩
abbrev S2x2048x3x12x64 : Shape := ⟨5, ![2, 2048, 3, 12, 64]⟩
abbrev S2x2048x1x12x64 : Shape := ⟨5, ![2, 2048, 1, 12, 64]⟩
abbrev S2x2048x12x64 : Shape := ⟨4, ![2, 2048, 12, 64]⟩
abbrev S1x2048x1x8 : Shape := ⟨4, ![1, 2048, 1, 8]⟩
abbrev S2x2048x12x8 : Shape := ⟨4, ![2, 2048, 12, 8]⟩
abbrev S2x2048x12x16 : Shape := ⟨4, ![2, 2048, 12, 16]⟩
abbrev S2x2048x12x48 : Shape := ⟨4, ![2, 2048, 12, 48]⟩
abbrev S_ : Shape := ⟨0, ![]⟩
abbrev S4096x3x3x2x128 : Shape := ⟨5, ![4096, 3, 3, 2, 128]⟩
abbrev S4096x2x3x3x128 : Shape := ⟨5, ![4096, 2, 3, 3, 128]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2304, .f32⟩
  | .hbm, ⟨2, _⟩ => ⟨S2048x8, .f32⟩
  | .hbm, ⟨3, _⟩ => ⟨S2048x8, .f32⟩
  | .hbm, ⟨4, _⟩ => ⟨S4096x1024, .f32⟩
  | .hbm, ⟨5, _⟩ => ⟨S4096x2304, .f32⟩
  | .hbm, ⟨6, _⟩ => ⟨S2x2048x3x12x64, .f32⟩
  | .hbm, ⟨7, _⟩ => ⟨S2x2048x1x12x64, .f32⟩
  | .hbm, ⟨8, _⟩ => ⟨S2x2048x12x64, .f32⟩
  | .hbm, ⟨9, _⟩ => ⟨S1x2048x1x8, .f32⟩
  | .hbm, ⟨10, _⟩ => ⟨S1x2048x1x8, .f32⟩
  | .hbm, ⟨11, _⟩ => ⟨S2x2048x12x8, .f32⟩
  | .hbm, ⟨12, _⟩ => ⟨S2x2048x12x8, .f32⟩
  | .hbm, ⟨13, _⟩ => ⟨S2x2048x12x8, .f32⟩
  | .hbm, ⟨14, _⟩ => ⟨S2x2048x12x8, .f32⟩
  | .hbm, ⟨15, _⟩ => ⟨S2x2048x12x8, .f32⟩
  | .hbm, ⟨16, _⟩ => ⟨S2x2048x12x8, .f32⟩
  | .hbm, ⟨17, _⟩ => ⟨S2x2048x12x8, .f32⟩
  | .hbm, ⟨18, _⟩ => ⟨S2x2048x12x8, .f32⟩
  | .hbm, ⟨19, _⟩ => ⟨S2x2048x12x8, .f32⟩
  | .hbm, ⟨20, _⟩ => ⟨S2x2048x12x8, .f32⟩
  | .hbm, ⟨21, _⟩ => ⟨S2x2048x12x8, .f32⟩
  | .hbm, ⟨22, _⟩ => ⟨S2x2048x12x8, .f32⟩
  | .hbm, ⟨23, _⟩ => ⟨S2x2048x12x16, .f32⟩
  | .hbm, ⟨24, _⟩ => ⟨S2x2048x12x48, .f32⟩
  | .hbm, ⟨25, _⟩ => ⟨S2x2048x12x64, .f32⟩
  | .hbm, ⟨26, _⟩ => ⟨S_, .f32⟩
  | .hbm, ⟨27, _⟩ => ⟨S2x2048x12x64, .f32⟩
  | .hbm, ⟨28, _⟩ => ⟨S2x2048x12x64, .f32⟩
  | .hbm, ⟨29, _⟩ => ⟨S2x2048x1x12x64, .f32⟩
  | .hbm, ⟨30, _⟩ => ⟨S2x2048x12x64, .f32⟩
  | .hbm, ⟨31, _⟩ => ⟨S1x2048x1x8, .f32⟩
  | .hbm, ⟨32, _⟩ => ⟨S1x2048x1x8, .f32⟩
  | .hbm, ⟨33, _⟩ => ⟨S2x2048x12x8, .f32⟩
  | .hbm, ⟨34, _⟩ => ⟨S2x2048x12x8, .f32⟩
  | .hbm, ⟨35, _⟩ => ⟨S2x2048x12x8, .f32⟩
  | .hbm, ⟨36, _⟩ => ⟨S2x2048x12x8, .f32⟩
  | .hbm, ⟨37, _⟩ => ⟨S2x2048x12x8, .f32⟩
  | .hbm, ⟨38, _⟩ => ⟨S2x2048x12x8, .f32⟩
  | .hbm, ⟨39, _⟩ => ⟨S2x2048x12x8, .f32⟩
  | .hbm, ⟨40, _⟩ => ⟨S2x2048x12x8, .f32⟩
  | .hbm, ⟨41, _⟩ => ⟨S2x2048x12x8, .f32⟩
  | .hbm, ⟨42, _⟩ => ⟨S2x2048x12x8, .f32⟩
  | .hbm, ⟨43, _⟩ => ⟨S2x2048x12x8, .f32⟩
  | .hbm, ⟨44, _⟩ => ⟨S2x2048x12x8, .f32⟩
  | .hbm, ⟨45, _⟩ => ⟨S2x2048x12x16, .f32⟩
  | .hbm, ⟨46, _⟩ => ⟨S2x2048x12x48, .f32⟩
  | .hbm, ⟨47, _⟩ => ⟨S2x2048x12x64, .f32⟩
  | .hbm, ⟨48, _⟩ => ⟨S2x2048x1x12x64, .f32⟩
  | .hbm, ⟨49, _⟩ => ⟨S2x2048x12x64, .f32⟩
  | .hbm, ⟨50, _⟩ => ⟨S2x2048x1x12x64, .f32⟩
  | .hbm, ⟨51, _⟩ => ⟨S2x2048x1x12x64, .f32⟩
  | .hbm, ⟨52, _⟩ => ⟨S2x2048x1x12x64, .f32⟩
  | .hbm, ⟨53, _⟩ => ⟨S2x2048x3x12x64, .f32⟩
  | .hbm, ⟨54, _⟩ => ⟨S4096x3x3x2x128, .f32⟩
  | .hbm, ⟨55, _⟩ => ⟨S4096x2x3x3x128, .f32⟩
  | .hbm, ⟨56, _⟩ => ⟨S4096x2304, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩

abbrev nD : Nat := 1
abbrev τ : Topo := Topo.v7x

variable {F : FTy → Type} [FloatOps F]
-- ==== Prep.lean ====
abbrev S32x64 : Shape := ⟨2, ![32, 64]⟩
abbrev S32 : Shape := ⟨1, ![32]⟩
abbrev S32x64x16 : Shape := ⟨3, ![32, 64, 16]⟩
abbrev S16x32x64 : Shape := ⟨3, ![16, 32, 64]⟩
abbrev S32x1 : Shape := ⟨2, ![32, 1]⟩
abbrev S1x32x64 : Shape := ⟨3, ![1, 32, 64]⟩

abbrev nBuf : Space → Nat
  | .hbm => 21
  | .vmem => 23
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32x64, .f32⟩
  | .hbm, ⟨6, _⟩ => ⟨S32x64, .f32⟩
  | .hbm, ⟨7, _⟩ => ⟨S16x32x64, .f32⟩
  | .hbm, ⟨8, _⟩ => ⟨S16x32x64, .f32⟩
  | .hbm, ⟨9, _⟩ => ⟨S16x32x64, .f32⟩
  | .hbm, ⟨10, _⟩ => ⟨S16x32x64, .f32⟩
  | .hbm, ⟨11, _⟩ => ⟨S32x1, .f32⟩
  | .hbm, ⟨12, _⟩ => ⟨S32x64, .f32⟩
  | .hbm, ⟨13, _⟩ => ⟨S32x64, .f32⟩
  | .hbm, ⟨14, _⟩ => ⟨S32x1, .f32⟩
  | .hbm, ⟨15, _⟩ => ⟨S16x32x64, .f32⟩
  | .hbm, ⟨16, _⟩ => ⟨S16x32x64, .f32⟩
  | .hbm, ⟨17, _⟩ => ⟨S32x64, .f32⟩
  | .hbm, ⟨18, _⟩ => ⟨S32x64, .f32⟩
  | .hbm, ⟨19, _⟩ => ⟨S16x32x64, .f32⟩
  | .hbm, ⟨20, _⟩ => ⟨S16x32x64, .f32⟩
  | .local _ .vmem, ⟨0, _⟩ => ⟨S32x64, .f32⟩
  | .local _ .vmem, ⟨1, _⟩ => ⟨S32x64, .f32⟩
  | .local _ .vmem, ⟨2, _⟩ => ⟨S32x1, .f32⟩
  | .local _ .vmem, ⟨3, _⟩ => ⟨S16x32x64, .f32⟩
  | .local _ .vmem, ⟨4, _⟩ => ⟨S16x32x64, .f32⟩
  | .local _ .vmem, ⟨5, _⟩ => ⟨S32x64, .f32⟩
  | .local _ .vmem, ⟨6, _⟩ => ⟨S32x64, .f32⟩
  | .local _ .vmem, ⟨7, _⟩ => ⟨S16x32x64, .f32⟩
  | .local _ .vmem, ⟨8, _⟩ => ⟨S16x32x64, .f32⟩
  | .local _ .vmem, ⟨9, _⟩ => ⟨S32x64, .f32⟩
  | .local _ .vmem, ⟨10, _⟩ => ⟨S32x64, .f32⟩
  | .local _ .vmem, ⟨11, _⟩ => ⟨S32x1, .f32⟩
  | .local _ .vmem, ⟨12, _⟩ => ⟨S16x32x64, .f32⟩
  | .local _ .vmem, ⟨13, _⟩ => ⟨S16x32x64, .f32⟩
  | .local _ .vmem, ⟨14, _⟩ => ⟨S32x64, .f32⟩
  | .local _ .vmem, ⟨15, _⟩ => ⟨S32x64, .f32⟩
  | .local _ .vmem, ⟨16, _⟩ => ⟨S32x1, .f32⟩
  | .local _ .vmem, ⟨17, _⟩ => ⟨S16x32x64, .f32⟩
  | .local _ .vmem, ⟨18, _⟩ => ⟨S16x32x64, .f32⟩
  | .local _ .vmem, ⟨19, _⟩ => ⟨S32x64, .f32⟩
  | .local _ .vmem, ⟨20, _⟩ => ⟨S32x64, .f32⟩
  | .local _ .vmem, ⟨21, _⟩ => ⟨S16x32x64, .f32⟩
  | .local _ .vmem, ⟨22, _⟩ => ⟨S16x32x64, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_v3_4 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev main_v4_3 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc1_sem0_0 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22

abbrev nD : Nat := 1
abbrev τ : Topo := Topo.v7x

variable {F : FTy → Type} [FloatOps F]

abbrev grid0 : Pipeline.Grid := .none

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x32x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x32x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16x32x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16x32x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev grid1 : Pipeline.Grid := .none

abbrev stage1_0 : Fin 1 → Memref sig .tc .vmem S32x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S32x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S16x32x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S16x32x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S32x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S32x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S16x32x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S16x32x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
-- ==== PrepRefIdeal.lean ====
abbrev S32x64 : Shape := ⟨2, ![32, 64]⟩
abbrev S32 : Shape := ⟨1, ![32]⟩
abbrev S32x64x16 : Shape := ⟨3, ![32, 64, 16]⟩
abbrev S16x32x64 : Shape := ⟨3, ![16, 32, 64]⟩
abbrev S32x1 : Shape := ⟨2, ![32, 1]⟩
abbrev S_ : Shape := ⟨0, ![]⟩
abbrev S32x64x1 : Shape := ⟨3, ![32, 64, 1]⟩

abbrev nBuf : Space → Nat
  | .hbm => 171
  | .vmem => 0
  | .smem => 0
  | _ => 0

abbrev hbmTy0_0 (i : Nat) : BufTy := match i % 128 with
  | 0 => ⟨S32x64, .f32⟩
  | 1 => ⟨S32x64, .f32⟩
  | 2 => ⟨S32, .f32⟩
  | 3 => ⟨S32x64x16, .f32⟩
  | 4 => ⟨S32x64x16, .f32⟩
  | 5 => ⟨S32x64, .f32⟩
  | 6 => ⟨S32x64, .f32⟩
  | 7 => ⟨S16x32x64, .f32⟩
  | 8 => ⟨S16x32x64, .f32⟩
  | 9 => ⟨S32, .f32⟩
  | 10 => ⟨S32x1, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S_, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S_, .f32⟩
  | 36 => ⟨S32x64, .f32⟩
  | 37 => ⟨S32x64, .f32⟩
  | 38 => ⟨S32x64, .f32⟩
  | 39 => ⟨S32x64, .f32⟩
  | 40 => ⟨S32x64, .f32⟩
  | 41 => ⟨S32x64, .f32⟩
  | 42 => ⟨S32x64, .f32⟩
  | 43 => ⟨S_, .f32⟩
  | 44 => ⟨S32x64, .f32⟩
  | 45 => ⟨S32x64, .f32⟩
  | 46 => ⟨S32x64x1, .f32⟩
  | 47 => ⟨S32x64x16, .f32⟩
  | 48 => ⟨S32x64x16, .f32⟩
  | 49 => ⟨S32x64x1, .f32⟩
  | 50 => ⟨S32x64x16, .f32⟩
  | 51 => ⟨S32x64x16, .f32⟩
  | 52 => ⟨S32x64x16, .f32⟩
  | 53 => ⟨S32x64x1, .f32⟩
  | 54 => ⟨S32x64x16, .f32⟩
  | 55 => ⟨S32x64x16, .f32⟩
  | 56 => ⟨S32x64x1, .f32⟩
  | 57 => ⟨S32x64x16, .f32⟩
  | 58 => ⟨S32x64x16, .f32⟩
  | 59 => ⟨S32x64x16, .f32⟩
  | 60 => ⟨S32x64x16, .f32⟩
  | 61 => ⟨S32x64x16, .f32⟩
  | 62 => ⟨S32x64x16, .f32⟩
  | 63 => ⟨S32x64x16, .f32⟩
  | 64 => ⟨S32x64x16, .f32⟩
  | 65 => ⟨S_, .f32⟩
  | 66 => ⟨S32x64, .f32⟩
  | 67 => ⟨S32x64x1, .f32⟩
  | 68 => ⟨S_, .f32⟩
  | 69 => ⟨S32x64, .f32⟩
  | 70 => ⟨S32x64x16, .f32⟩
  | 71 => ⟨S32x64x16, .f32⟩
  | 72 => ⟨S32x64x16, .f32⟩
  | 73 => ⟨S_, .f32⟩
  | 74 => ⟨S32x64, .f32⟩
  | 75 => ⟨S32x64x1, .f32⟩
  | 76 => ⟨S_, .f32⟩
  | 77 => ⟨S32x64, .f32⟩
  | 78 => ⟨S32x64x16, .f32⟩
  | 79 => ⟨S32x64x16, .f32⟩
  | 80 => ⟨S32x64x16, .f32⟩
  | 81 => ⟨S32x64x16, .f32⟩
  | 82 => ⟨S32x64x16, .f32⟩
  | 83 => ⟨S_, .f32⟩
  | 84 => ⟨S32x64, .f32⟩
  | 85 => ⟨S32x64x1, .f32⟩
  | 86 => ⟨S_, .f32⟩
  | 87 => ⟨S32x64, .f32⟩
  | 88 => ⟨S32x64, .f32⟩
  | 89 => ⟨S32x64x16, .f32⟩
  | 90 => ⟨S32x64x16, .f32⟩
  | 91 => ⟨S32x64x16, .f32⟩
  | 92 => ⟨S32x64x16, .f32⟩
  | 93 => ⟨S_, .f32⟩
  | 94 => ⟨S32x64, .f32⟩
  | 95 => ⟨S32x64x1, .f32⟩
  | 96 => ⟨S_, .f32⟩
  | 97 => ⟨S32x64, .f32⟩
  | 98 => ⟨S32x64, .f32⟩
  | 99 => ⟨S32x64, .f32⟩
  | 100 => ⟨S32x64, .f32⟩
  | 101 => ⟨S32x64, .f32⟩
  | 102 => ⟨S32x64, .f32⟩
  | 103 => ⟨S32x64, .f32⟩
  | 104 => ⟨S32x64, .f32⟩
  | 105 => ⟨S32x64, .f32⟩
  | 106 => ⟨S32x64, .f32⟩
  | 107 => ⟨S32x64, .f32⟩
  | 108 => ⟨S32x64, .f32⟩
  | 109 => ⟨S32x64, .f32⟩
  | 110 => ⟨S32x64, .f32⟩
  | 111 => ⟨S32x64, .f32⟩
  | 112 => ⟨S32x64, .f32⟩
  | 113 => ⟨S32x64, .f32⟩
  | 114 => ⟨S32x64, .f32⟩
  | 115 => ⟨S32x64, .f32⟩
  | 116 => ⟨S32x64, .f32⟩
  | 117 => ⟨S32x64, .f32⟩
  | 118 => ⟨S32x64, .f32⟩
  | 119 => ⟨S32x64, .f32⟩
  | 120 => ⟨S32x64, .f32⟩
  | 121 => ⟨S32x64, .f32⟩
  | 122 => ⟨S32x64, .f32⟩
  | 123 => ⟨S32x64, .f32⟩
  | 124 => ⟨S32x64, .f32⟩
  | 125 => ⟨S32x64, .f32⟩
  | 126 => ⟨S32x64, .f32⟩
  | 127 => ⟨S32x64, .f32⟩
  | _ => ⟨S32x64, .f32⟩

abbrev hbmTy0_1 (i : Nat) : BufTy := match i % 128 with
  | 0 => ⟨S32x64, .f32⟩
  | 1 => ⟨S32x64, .f32⟩
  | 2 => ⟨S32x64, .f32⟩
  | 3 => ⟨S32x64, .f32⟩
  | 4 => ⟨S32x64, .f32⟩
  | 5 => ⟨S32x64, .f32⟩
  | 6 => ⟨S32x64, .f32⟩
  | 7 => ⟨S_, .f32⟩
  | 8 => ⟨S32, .f32⟩
  | 9 => ⟨S32x1, .f32⟩
  | 10 => ⟨S32x64, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S_, .f32⟩
  | 20 => ⟨S32, .f32⟩
  | 21 => ⟨S32x1, .f32⟩
  | 22 => ⟨S32x1, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S_, .f32⟩
  | 29 => ⟨S32, .f32⟩
  | 30 => ⟨S32x1, .f32⟩
  | 31 => ⟨S32x1, .f32⟩
  | 32 => ⟨S32x64, .f32⟩
  | 33 => ⟨S32x64, .f32⟩
  | 34 => ⟨S32x64, .f32⟩
  | 35 => ⟨S_, .f32⟩
  | 36 => ⟨S32, .f32⟩
  | 37 => ⟨S32, .f32⟩
  | 38 => ⟨S16x32x64, .f32⟩
  | 39 => ⟨S16x32x64, .f32⟩
  | 40 => ⟨S32x1, .f32⟩
  | 41 => ⟨S16x32x64, .f32⟩
  | 42 => ⟨S16x32x64, .f32⟩
  | _ => ⟨S32x64, .f32⟩

abbrev hbmTy (i : Nat) : BufTy := match i / 128 with
  | 0 => hbmTy0_0 i
  | 1 => hbmTy0_1 i
  | _ => ⟨S32x64, .f32⟩

abbrev bufTy : (tb : Table) → Fin (tcTables nBuf tb) → BufTy
  | .hbm, ⟨i, _⟩ => hbmTy i
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_1 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_2 : Ref sig .tc := ⟨.hbm, 65, rfl⟩
abbrev main_v53 : Ref sig .tc := ⟨.hbm, 66, rfl⟩
abbrev main_v54 : Ref sig .tc := ⟨.hbm, 67, rfl⟩
abbrev main_cst_3 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_4 : Ref sig .tc := ⟨.hbm, 73, rfl⟩
abbrev main_v59 : Ref sig .tc := ⟨.hbm, 74, rfl⟩
abbrev main_v60 : Ref sig .tc := ⟨.hbm, 75, rfl⟩
abbrev main_cst_5 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_6 : Ref sig .tc := ⟨.hbm, 83, rfl⟩
abbrev main_v67 : Ref sig .tc := ⟨.hbm, 84, rfl⟩
abbrev main_v68 : Ref sig .tc := ⟨.hbm, 85, rfl⟩
abbrev main_cst_7 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_8 : Ref sig .tc := ⟨.hbm, 93, rfl⟩
abbrev main_v75 : Ref sig .tc := ⟨.hbm, 94, rfl⟩
abbrev main_v76 : Ref sig .tc := ⟨.hbm, 95, rfl⟩
abbrev main_cst_9 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_cst_10 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_cst_11 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_cst_12 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_cst_13 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩

abbrev nD : Nat := 1
abbrev τ : Topo := Topo.v7x

variable {F : FTy → Type} [FloatOps F]
-- ==== Gains.lean ====
abbrev S8x32x128 : Shape := ⟨3, ![8, 32, 128]⟩
abbrev S1x1024 : Shape := ⟨2, ![1, 1024]⟩
abbrev S1024 : Shape := ⟨1, ![1024]⟩
abbrev S3072 : Shape := ⟨1, ![3072]⟩
abbrev S_ : Shape := ⟨0, ![]⟩
abbrev S4096 : Shape := ⟨1, ![4096]⟩
abbrev S32x128 : Shape := ⟨2, ![32, 128]⟩
abbrev S1x32x128 : Shape := ⟨3, ![1, 32, 128]⟩
abbrev S1 : Shape := ⟨1, ![1]⟩

abbrev nBuf : Space → Nat
  | .hbm => 68
  | .vmem => 8
  | .smem => 0
  | _ => 0

abbrev bufTy : (tb : Table) → Fin (tcTables nBuf tb) → BufTy
  | .hbm, ⟨0, _⟩ => ⟨S8x32x128, .f32⟩
  | .hbm, ⟨1, _⟩ => ⟨S1x1024, .f32⟩
  | .hbm, ⟨2, _⟩ => ⟨S1x1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S3072, .f32⟩
  | .hbm, ⟨13, _⟩ => ⟨S_, .i32⟩
  | .hbm, ⟨14, _⟩ => ⟨S_, .f32⟩
  | .hbm, ⟨15, _⟩ => ⟨S4096, .f32⟩
  | .hbm, ⟨16, _⟩ => ⟨S32x128, .f32⟩
  | .hbm, ⟨17, _⟩ => ⟨S1024, .f32⟩
  | .hbm, ⟨18, _⟩ => ⟨S1024, .f32⟩
  | .hbm, ⟨19, _⟩ => ⟨S3072, .f32⟩
  | .hbm, ⟨20, _⟩ => ⟨S_, .i32⟩
  | .hbm, ⟨21, _⟩ => ⟨S_, .f32⟩
  | .hbm, ⟨22, _⟩ => ⟨S4096, .f32⟩
  | .hbm, ⟨23, _⟩ => ⟨S32x128, .f32⟩
  | .hbm, ⟨24, _⟩ => ⟨S1024, .f32⟩
  | .hbm, ⟨25, _⟩ => ⟨S1024, .f32⟩
  | .hbm, ⟨26, _⟩ => ⟨S3072, .f32⟩
  | .hbm, ⟨27, _⟩ => ⟨S_, .i32⟩
  | .hbm, ⟨28, _⟩ => ⟨S_, .f32⟩
  | .hbm, ⟨29, _⟩ => ⟨S4096, .f32⟩
  | .hbm, ⟨30, _⟩ => ⟨S32x128, .f32⟩
  | .hbm, ⟨31, _⟩ => ⟨S32x128, .f32⟩
  | .hbm, ⟨32, _⟩ => ⟨S32x128, .f32⟩
  | .hbm, ⟨33, _⟩ => ⟨S32x128, .f32⟩
  | .hbm, ⟨34, _⟩ => ⟨S32x128, .f32⟩
  | .hbm, ⟨35, _⟩ => ⟨S4096, .f32⟩
  | .hbm, ⟨36, _⟩ => ⟨S1024, .f32⟩
  | .hbm, ⟨37, _⟩ => ⟨S1x1024, .f32⟩
  | .hbm, ⟨38, _⟩ => ⟨S1024, .f32⟩
  | .hbm, ⟨39, _⟩ => ⟨S1x1024, .f32⟩
  | .hbm, ⟨40, _⟩ => ⟨S1024, .f32⟩
  | .hbm, ⟨41, _⟩ => ⟨S1, .f32⟩
  | .hbm, ⟨42, _⟩ => ⟨S_, .f32⟩
  | .hbm, ⟨43, _⟩ => ⟨S4096, .f32⟩
  | .hbm, ⟨44, _⟩ => ⟨S1024, .f32⟩
  | .hbm, ⟨45, _⟩ => ⟨S1x1024, .f32⟩
  | .hbm, ⟨46, _⟩ => ⟨S1024, .f32⟩
  | .hbm, ⟨47, _⟩ => ⟨S1x1024, .f32⟩
  | .hbm, ⟨48, _⟩ => ⟨S1024, .f32⟩
  | .hbm, ⟨49, _⟩ => ⟨S1, .f32⟩
  | .hbm, ⟨50, _⟩ => ⟨S_, .f32⟩
  | .hbm, ⟨51, _⟩ => ⟨S4096, .f32⟩
  | .hbm, ⟨52, _⟩ => ⟨S1024, .f32⟩
  | .hbm, ⟨53, _⟩ => ⟨S1x1024, .f32⟩
  | .hbm, ⟨54, _⟩ => ⟨S1024, .f32⟩
  | .hbm, ⟨55, _⟩ => ⟨S1x1024, .f32⟩
  | .hbm, ⟨56, _⟩ => ⟨S1024, .f32⟩
  | .hbm, ⟨57, _⟩ => ⟨S1, .f32⟩
  | .hbm, ⟨58, _⟩ => ⟨S_, .f32⟩
  | .hbm, ⟨59, _⟩ => ⟨S4096, .f32⟩
  | .hbm, ⟨60, _⟩ => ⟨S1024, .f32⟩
  | .hbm, ⟨61, _⟩ => ⟨S1x1024, .f32⟩
  | .hbm, ⟨62, _⟩ => ⟨S1024, .f32⟩
  | .hbm, ⟨63, _⟩ => ⟨S1x1024, .f32⟩
  | .hbm, ⟨64, _⟩ => ⟨S1024, .f32⟩
  | .hbm, ⟨65, _⟩ => ⟨S1, .f32⟩
  | .hbm, ⟨66, _⟩ => ⟨S_, .f32⟩
  | .hbm, ⟨67, _⟩ => ⟨S1, .f32⟩
  | .local _ .vmem, ⟨0, _⟩ => ⟨S8x32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | _, _ => ⟨S8x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_call1_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_1 : Ref sig .tc := ⟨.hbm, 27, rfl⟩
abbrev main_call2_v0 : Ref sig .tc := ⟨.hbm, 28, rfl⟩
abbrev main_v13 : Ref sig .tc := ⟨.hbm, 29, rfl⟩
abbrev main_v14 : Ref sig .tc := ⟨.hbm, 30, rfl⟩
abbrev main_v15_0 : Ref sig .tc := ⟨.hbm, 31, rfl⟩
abbrev main_v15_1 : Ref sig .tc := ⟨.hbm, 32, rfl⟩
abbrev main_v15_2 : Ref sig .tc := ⟨.hbm, 33, rfl⟩
abbrev main_v15_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== GainsRefIdeal.lean ====
abbrev S8x32x128 : Shape := ⟨3, ![8, 32, 128]⟩
abbrev S1x1024 : Shape := ⟨2, ![1, 1024]⟩
abbrev S1024 : Shape := ⟨1, ![1024]⟩
abbrev S_ : Shape := ⟨0, ![]⟩
abbrev S32x128 : Shape := ⟨2, ![32, 128]⟩
abbrev S4096 : Shape := ⟨1, ![4096]⟩
abbrev S1 : Shape := ⟨1, ![1]⟩

abbrev nBuf : Space → Nat
  | .hbm => 118
  | .vmem => 0
  | .smem => 0
  | _ => 0

abbrev bufTy : (tb : Table) → Fin (tcTables nBuf tb) → BufTy
  | .hbm, ⟨0, _⟩ => ⟨S8x32x128, .f32⟩
  | .hbm, ⟨1, _⟩ => ⟨S1x1024, .f32⟩
  | .hbm, ⟨2, _⟩ => ⟨S1x1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S1024, .f32⟩
  | .hbm, ⟨10, _⟩ => ⟨S_, .f32⟩
  | .hbm, ⟨11, _⟩ => ⟨S32x128, .f32⟩
  | .hbm, ⟨12, _⟩ => ⟨S4096, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S_, .f32⟩
  | .hbm, ⟨19, _⟩ => ⟨S1x1024, .f32⟩
  | .hbm, ⟨20, _⟩ => ⟨S1x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S_, .f32⟩
  | .hbm, ⟨34, _⟩ => ⟨S1x1024, .f32⟩
  | .hbm, ⟨35, _⟩ => ⟨S1x1024, .f32⟩
  | .hbm, ⟨36, _⟩ => ⟨S_, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S_, .f32⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S_, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S_, .f32⟩
  | .hbm, ⟨49, _⟩ => ⟨S1x1024, .f32⟩
  | .hbm, ⟨50, _⟩ => ⟨S1x1024, .f32⟩
  | .hbm, ⟨51, _⟩ => ⟨S_, .f32⟩
  | .hbm, ⟨52, _⟩ => ⟨S1x1024, .f32⟩
  | .hbm, ⟨53, _⟩ => ⟨S1x1024, .f32⟩
  | .hbm, ⟨54, _⟩ => ⟨S_, .f32⟩
  | .hbm, ⟨55, _⟩ => ⟨S1x1024, .f32⟩
  | .hbm, ⟨56, _⟩ => ⟨S1x1024, .f32⟩
  | .hbm, ⟨57, _⟩ => ⟨S1x1024, .f32⟩
  | .hbm, ⟨58, _⟩ => ⟨S_, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S_, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S_, .f32⟩
  | .hbm, ⟨67, _⟩ => ⟨S1x1024, .f32⟩
  | .hbm, ⟨68, _⟩ => ⟨S1x1024, .f32⟩
  | .hbm, ⟨69, _⟩ => ⟨S_, .f32⟩
  | .hbm, ⟨70, _⟩ => ⟨S1x1024, .f32⟩
  | .hbm, ⟨71, _⟩ => ⟨S1x1024, .f32⟩
  | .hbm, ⟨72, _⟩ => ⟨S1x1024, .f32⟩
  | .hbm, ⟨73, _⟩ => ⟨S_, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S_, .f32⟩
  | .hbm, ⟨78, _⟩ => ⟨S1x1024, .f32⟩
  | .hbm, ⟨79, _⟩ => ⟨S1x1024, .f32⟩
  | .hbm, ⟨80, _⟩ => ⟨S1x1024, .f32⟩
  | .hbm, ⟨81, _⟩ => ⟨S_, .f32⟩
  | .hbm, ⟨82, _⟩ => ⟨S1x1024, .f32⟩
  | .hbm, ⟨83, _⟩ => ⟨S1x1024, .f32⟩
  | .hbm, ⟨84, _⟩ => ⟨S_, .f32⟩
  | .hbm, ⟨85, _⟩ => ⟨S1024, .f32⟩
  | .hbm, ⟨86, _⟩ => ⟨S1024, .f32⟩
  | .hbm, ⟨87, _⟩ => ⟨S_, .f32⟩
  | .hbm, ⟨88, _⟩ => ⟨S1024, .f32⟩
  | .hbm, ⟨89, _⟩ => ⟨S1024, .f32⟩
  | .hbm, ⟨90, _⟩ => ⟨S1024, .f32⟩
  | .hbm, ⟨91, _⟩ => ⟨S_, .f32⟩
  | .hbm, ⟨92, _⟩ => ⟨S1024, .f32⟩
  | .hbm, ⟨93, _⟩ => ⟨S1024, .f32⟩
  | .hbm, ⟨94, _⟩ => ⟨S1024, .f32⟩
  | .hbm, ⟨95, _⟩ => ⟨S_, .f32⟩
  | .hbm, ⟨96, _⟩ => ⟨S1024, .f32⟩
  | .hbm, ⟨97, _⟩ => ⟨S1024, .f32⟩
  | .hbm, ⟨98, _⟩ => ⟨S1024, .f32⟩
  | .hbm, ⟨99, _⟩ => ⟨S_, .f32⟩
  | .hbm, ⟨100, _⟩ => ⟨S1024, .f32⟩
  | .hbm, ⟨101, _⟩ => ⟨S1024, .f32⟩
  | .hbm, ⟨102, _⟩ => ⟨S_, .f32⟩
  | .hbm, ⟨103, _⟩ => ⟨S1024, .f32⟩
  | .hbm, ⟨104, _⟩ => ⟨S1024, .f32⟩
  | .hbm, ⟨105, _⟩ => ⟨S1024, .f32⟩
  | .hbm, ⟨106, _⟩ => ⟨S_, .f32⟩
  | .hbm, ⟨107, _⟩ => ⟨S1024, .f32⟩
  | .hbm, ⟨108, _⟩ => ⟨S1024, .f32⟩
  | .hbm, ⟨109, _⟩ => ⟨S1024, .f32⟩
  | .hbm, ⟨110, _⟩ => ⟨S_, .f32⟩
  | .hbm, ⟨111, _⟩ => ⟨S1024, .f32⟩
  | .hbm, ⟨112, _⟩ => ⟨S1024, .f32⟩
  | .hbm, ⟨113, _⟩ => ⟨S1024, .f32⟩
  | .hbm, ⟨114, _⟩ => ⟨S_, .f32⟩
  | .hbm, ⟨115, _⟩ => ⟨S1024, .f32⟩
  | .hbm, ⟨116, _⟩ => ⟨S1024, .f32⟩
  | .hbm, ⟨117, _⟩ => ⟨S1, .f32⟩
  | _, _ => ⟨S8x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_8 : Ref sig .tc := ⟨.hbm, 48, rfl⟩
abbrev main_v29 : Ref sig .tc := ⟨.hbm, 49, rfl⟩
abbrev main_v30 : Ref sig .tc := ⟨.hbm, 50, rfl⟩
abbrev main_cst_9 : Ref sig .tc := ⟨.hbm, 51, rfl⟩
abbrev main_v31 : Ref sig .tc := ⟨.hbm, 52, rfl⟩
abbrev main_v32 : Ref sig .tc := ⟨.hbm, 53, rfl⟩
abbrev main_cst_10 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_11 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_12 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_13 : Ref sig .tc := ⟨.hbm, 66, rfl⟩
abbrev main_v42 : Ref sig .tc := ⟨.hbm, 67, rfl⟩
abbrev main_v43 : Ref sig .tc := ⟨.hbm, 68, rfl⟩
abbrev main_cst_14 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_15 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_16 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_17 : Ref sig .tc := ⟨.hbm, 81, rfl⟩
abbrev main_v53 : Ref sig .tc := ⟨.hbm, 82, rfl⟩
abbrev main_v54 : Ref sig .tc := ⟨.hbm, 83, rfl⟩
abbrev main_cst_18 : Ref sig .tc := ⟨.hbm, 84, rfl⟩
abbrev main_v55 : Ref sig .tc := ⟨.hbm, 85, rfl⟩
abbrev main_v56 : Ref sig .tc := ⟨.hbm, 86, rfl⟩
abbrev main_cst_19 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_20 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_21 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_22 : Ref sig .tc := ⟨.hbm, 99, rfl⟩
abbrev main_v66 : Ref sig .tc := ⟨.hbm, 100, rfl⟩
abbrev main_v67 : Ref sig .tc := ⟨.hbm, 101, rfl⟩
abbrev main_cst_23 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_24 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_25 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_26 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩

abbrev nD : Nat := 1
abbrev τ : Topo := Topo.v7x

variable {F : FTy → Type} [FloatOps F]
-- ==== Adam.lean ====
abbrev S4x1216x1024 : Shape := ⟨3, ![4, 1216, 1024]⟩
abbrev S4x512x512 : Shape := ⟨3, ![4, 512, 512]⟩
abbrev S4x256x256 : Shape := ⟨3, ![4, 256, 256]⟩
abbrev S4x256x1024 : Shape := ⟨3, ![4, 256, 1024]⟩
abbrev S4x704x1024 : Shape := ⟨3, ![4, 704, 1024]⟩
abbrev S1024x1216 : Shape := ⟨2, ![1024, 1216]⟩
abbrev S512x512 : Shape := ⟨2, ![512, 512]⟩
abbrev S256x256 : Shape := ⟨2, ![256, 256]⟩
abbrev S256x1024 : Shape := ⟨2, ![256, 1024]⟩
abbrev S1024x704 : Shape := ⟨2, ![1024, 704]⟩
abbrev S704x1024 : Shape := ⟨2, ![704, 1024]⟩
abbrev S1216x1024 : Shape := ⟨2, ![1216, 1024]⟩
abbrev S1x304x1024 : Shape := ⟨3, ![1, 304, 1024]⟩
abbrev S304x1024 : Shape := ⟨2, ![304, 1024]⟩
abbrev S1x256x512 : Shape := ⟨3, ![1, 256, 512]⟩
abbrev S256x512 : Shape := ⟨2, ![256, 512]⟩
abbrev S1x256x256 : Shape := ⟨3, ![1, 256, 256]⟩
abbrev S1x256x1024 : Shape := ⟨3, ![1, 256, 1024]⟩
abbrev S1x352x1024 : Shape := ⟨3, ![1, 352, 1024]⟩
abbrev S352x1024 : Shape := ⟨2, ![352, 1024]⟩

abbrev nBuf : Space → Nat
  | .hbm => 77
  | .vmem => 132
  | .smem => 0
  | _ => 0

abbrev vmemTy0_0 (i : Nat) : BufTy := match i % 128 with
  | 0 => ⟨S1x304x1024, .bf16⟩
  | 1 => ⟨S1x304x1024, .bf16⟩
  | 2 => ⟨S1x304x1024, .bf16⟩
  | 3 => ⟨S1x304x1024, .bf16⟩
  | 4 => ⟨S1x304x1024, .bf16⟩
  | 5 => ⟨S1x304x1024, .bf16⟩
  | 6 => ⟨S1x304x1024, .bf16⟩
  | 7 => ⟨S1x304x1024, .bf16⟩
  | 8 => ⟨S304x1024, .f32⟩
  | 9 => ⟨S304x1024, .f32⟩
  | 10 => ⟨S304x1024, .f32⟩
  | 11 => ⟨S304x1024, .f32⟩
  | 12 => ⟨S304x1024, .f32⟩
  | 13 => ⟨S304x1024, .f32⟩
  | 14 => ⟨S304x1024, .f32⟩
  | 15 => ⟨S304x1024, .f32⟩
  | 16 => ⟨S304x1024, .f32⟩
  | 17 => ⟨S304x1024, .f32⟩
  | 18 => ⟨S304x1024, .f32⟩
  | 19 => ⟨S304x1024, .f32⟩
  | 20 => ⟨S304x1024, .f32⟩
  | 21 => ⟨S304x1024, .f32⟩
  | 22 => ⟨S1x256x512, .bf16⟩
  | 23 => ⟨S1x256x512, .bf16⟩
  | 24 => ⟨S1x256x512, .bf16⟩
  | 25 => ⟨S1x256x512, .bf16⟩
  | 26 => ⟨S1x256x512, .bf16⟩
  | 27 => ⟨S1x256x512, .bf16⟩
  | 28 => ⟨S1x256x512, .bf16⟩
  | 29 => ⟨S1x256x512, .bf16⟩
  | 30 => ⟨S256x512, .f32⟩
  | 31 => ⟨S256x512, .f32⟩
  | 32 => ⟨S256x512, .f32⟩
  | 33 => ⟨S256x512, .f32⟩
  | 34 => ⟨S256x512, .f32⟩
  | 35 => ⟨S256x512, .f32⟩
  | 36 => ⟨S256x512, .f32⟩
  | 37 => ⟨S256x512, .f32⟩
  | 38 => ⟨S256x512, .f32⟩
  | 39 => ⟨S256x512, .f32⟩
  | 40 => ⟨S256x512, .f32⟩
  | 41 => ⟨S256x512, .f32⟩
  | 42 => ⟨S256x512, .f32⟩
  | 43 => ⟨S256x512, .f32⟩
  | 44 => ⟨S1x256x256, .bf16⟩
  | 45 => ⟨S1x256x256, .bf16⟩
  | 46 => ⟨S1x256x256, .bf16⟩
  | 47 => ⟨S1x256x256, .bf16⟩
  | 48 => ⟨S256x256, .f32⟩
  | 49 => ⟨S256x256, .f32⟩
  | 50 => ⟨S256x256, .f32⟩
  | 51 => ⟨S256x256, .f32⟩
  | 52 => ⟨S256x256, .f32⟩
  | 53 => ⟨S256x256, .f32⟩
  | 54 => ⟨S256x256, .f32⟩
  | 55 => ⟨S1x256x1024, .bf16⟩
  | 56 => ⟨S1x256x1024, .bf16⟩
  | 57 => ⟨S1x256x1024, .bf16⟩
  | 58 => ⟨S1x256x1024, .bf16⟩
  | 59 => ⟨S256x1024, .f32⟩
  | 60 => ⟨S256x1024, .f32⟩
  | 61 => ⟨S256x1024, .f32⟩
  | 62 => ⟨S256x1024, .f32⟩
  | 63 => ⟨S256x1024, .f32⟩
  | 64 => ⟨S256x1024, .f32⟩
  | 65 => ⟨S256x1024, .f32⟩
  | 66 => ⟨S1x352x1024, .bf16⟩
  | 67 => ⟨S1x352x1024, .bf16⟩
  | 68 => ⟨S1x352x1024, .bf16⟩
  | 69 => ⟨S1x352x1024, .bf16⟩
  | 70 => ⟨S1x352x1024, .bf16⟩
  | 71 => ⟨S1x352x1024, .bf16⟩
  | 72 => ⟨S1x352x1024, .bf16⟩
  | 73 => ⟨S1x352x1024, .bf16⟩
  | 74 => ⟨S352x1024, .f32⟩
  | 75 => ⟨S352x1024, .f32⟩
  | 76 => ⟨S352x1024, .f32⟩
  | 77 => ⟨S352x1024, .f32⟩
  | 78 => ⟨S352x1024, .f32⟩
  | 79 => ⟨S352x1024, .f32⟩
  | 80 => ⟨S352x1024, .f32⟩
  | 81 => ⟨S352x1024, .f32⟩
  | 82 => ⟨S352x1024, .f32⟩
  | 83 => ⟨S352x1024, .f32⟩
  | 84 => ⟨S352x1024, .f32⟩
  | 85 => ⟨S352x1024, .f32⟩
  | 86 => ⟨S352x1024, .f32⟩
  | 87 => ⟨S352x1024, .f32⟩
  | 88 => ⟨S1x352x1024, .bf16⟩
  | 89 => ⟨S1x352x1024, .bf16⟩
  | 90 => ⟨S1x352x1024, .bf16⟩
  | 91 => ⟨S1x352x1024, .bf16⟩
  | 92 => ⟨S1x352x1024, .bf16⟩
  | 93 => ⟨S1x352x1024, .bf16⟩
  | 94 => ⟨S1x352x1024, .bf16⟩
  | 95 => ⟨S1x352x1024, .bf16⟩
  | 96 => ⟨S352x1024, .f32⟩
  | 97 => ⟨S352x1024, .f32⟩
  | 98 => ⟨S352x1024, .f32⟩
  | 99 => ⟨S352x1024, .f32⟩
  | 100 => ⟨S352x1024, .f32⟩
  | 101 => ⟨S352x1024, .f32⟩
  | 102 => ⟨S352x1024, .f32⟩
  | 103 => ⟨S352x1024, .f32⟩
  | 104 => ⟨S352x1024, .f32⟩
  | 105 => ⟨S352x1024, .f32⟩
  | 106 => ⟨S352x1024, .f32⟩
  | 107 => ⟨S352x1024, .f32⟩
  | 108 => ⟨S352x1024, .f32⟩
  | 109 => ⟨S352x1024, .f32⟩
  | 110 => ⟨S1x352x1024, .bf16⟩
  | 111 => ⟨S1x352x1024, .bf16⟩
  | 112 => ⟨S1x352x1024, .bf16⟩
  | 113 => ⟨S1x352x1024, .bf16⟩
  | 114 => ⟨S1x352x1024, .bf16⟩
  | 115 => ⟨S1x352x1024, .bf16⟩
  | 116 => ⟨S1x352x1024, .bf16⟩
  | 117 => ⟨S1x352x1024, .bf16⟩
  | 118 => ⟨S352x1024, .f32⟩
  | 119 => ⟨S352x1024, .f32⟩
  | 120 => ⟨S352x1024, .f32⟩
  | 121 => ⟨S352x1024, .f32⟩
  | 122 => ⟨S352x1024, .f32⟩
  | 123 => ⟨S352x1024, .f32⟩
  | 124 => ⟨S352x1024, .f32⟩
  | 125 => ⟨S352x1024, .f32⟩
  | 126 => ⟨S352x1024, .f32⟩
  | 127 => ⟨S352x1024, .f32⟩
  | _ => ⟨S4x1216x1024, .bf16⟩

abbrev vmemTy0_1 (i : Nat) : BufTy := match i % 128 with
  | 0 => ⟨S352x1024, .f32⟩
  | 1 => ⟨S352x1024, .f32⟩
  | 2 => ⟨S352x1024, .f32⟩
  | 3 => ⟨S352x1024, .f32⟩
  | _ => ⟨S4x1216x1024, .bf16⟩

abbrev vmemTy (i : Nat) : BufTy := match i / 128 with
  | 0 => vmemTy0_0 i
  | 1 => vmemTy0_1 i
  | _ => ⟨S4x1216x1024, .bf16⟩

abbrev bufTy : (tb : Table) → Fin (tcTables nBuf tb) → BufTy
  | .hbm, ⟨0, _⟩ => ⟨S4x1216x1024, .bf16⟩
  | .hbm, ⟨1, _⟩ => ⟨S4x512x512, .bf16⟩
  | .hbm, ⟨2, _⟩ => ⟨S4x256x256, .bf16⟩
  | .hbm, ⟨3, _⟩ => ⟨S4x256x1024, .bf16⟩
  | .hbm, ⟨4, _⟩ => ⟨S4x704x1024, .bf16⟩
  | .hbm, ⟨5, _⟩ => ⟨S4x704x1024, .bf16⟩
  | .hbm, ⟨6, _⟩ => ⟨S4x704x1024, .bf16⟩
  | .hbm, ⟨7, _⟩ => ⟨S1024x1216, .f32⟩
  | .hbm, ⟨8, _⟩ => ⟨S512x512, .f32⟩
  | .hbm, ⟨9, _⟩ => ⟨S256x256, .f32⟩
  | .hbm, ⟨10, _⟩ => ⟨S256x1024, .f32⟩
  | .hbm, ⟨11, _⟩ => ⟨S1024x704, .f32⟩
  | .hbm, ⟨12, _⟩ => ⟨S1024x704, .f32⟩
  | .hbm, ⟨13, _⟩ => ⟨S704x1024, .f32⟩
  | .hbm, ⟨14, _⟩ => ⟨S1024x1216, .f32⟩
  | .hbm, ⟨15, _⟩ => ⟨S512x512, .f32⟩
  | .hbm, ⟨16, _⟩ => ⟨S256x256, .f32⟩
  | .hbm, ⟨17, _⟩ => ⟨S256x1024, .f32⟩
  | .hbm, ⟨18, _⟩ => ⟨S1024x704, .f32⟩
  | .hbm, ⟨19, _⟩ => ⟨S1024x704, .f32⟩
  | .hbm, ⟨20, _⟩ => ⟨S704x1024, .f32⟩
  | .hbm, ⟨21, _⟩ => ⟨S1024x1216, .f32⟩
  | .hbm, ⟨22, _⟩ => ⟨S512x512, .f32⟩
  | .hbm, ⟨23, _⟩ => ⟨S256x256, .f32⟩
  | .hbm, ⟨24, _⟩ => ⟨S256x1024, .f32⟩
  | .hbm, ⟨25, _⟩ => ⟨S1024x704, .f32⟩
  | .hbm, ⟨26, _⟩ => ⟨S1024x704, .f32⟩
  | .hbm, ⟨27, _⟩ => ⟨S704x1024, .f32⟩
  | .hbm, ⟨28, _⟩ => ⟨S1216x1024, .f32⟩
  | .hbm, ⟨29, _⟩ => ⟨S1216x1024, .f32⟩
  | .hbm, ⟨30, _⟩ => ⟨S1216x1024, .f32⟩
  | .hbm, ⟨31, _⟩ => ⟨S1216x1024, .f32⟩
  | .hbm, ⟨32, _⟩ => ⟨S1216x1024, .f32⟩
  | .hbm, ⟨33, _⟩ => ⟨S1216x1024, .f32⟩
  | .hbm, ⟨34, _⟩ => ⟨S1216x1024, .f32⟩
  | .hbm, ⟨35, _⟩ => ⟨S1024x1216, .f32⟩
  | .hbm, ⟨36, _⟩ => ⟨S1024x1216, .f32⟩
  | .hbm, ⟨37, _⟩ => ⟨S1024x1216, .f32⟩
  | .hbm, ⟨38, _⟩ => ⟨S1024x1216, .f32⟩
  | .hbm, ⟨39, _⟩ => ⟨S512x512, .f32⟩
  | .hbm, ⟨40, _⟩ => ⟨S512x512, .f32⟩
  | .hbm, ⟨41, _⟩ => ⟨S512x512, .f32⟩
  | .hbm, ⟨42, _⟩ => ⟨S512x512, .f32⟩
  | .hbm, ⟨43, _⟩ => ⟨S256x256, .f32⟩
  | .hbm, ⟨44, _⟩ => ⟨S256x256, .f32⟩
  | .hbm, ⟨45, _⟩ => ⟨S256x256, .f32⟩
  | .hbm, ⟨46, _⟩ => ⟨S256x256, .f32⟩
  | .hbm, ⟨47, _⟩ => ⟨S256x1024, .f32⟩
  | .hbm, ⟨48, _⟩ => ⟨S256x1024, .f32⟩
  | .hbm, ⟨49, _⟩ => ⟨S256x1024, .f32⟩
  | .hbm, ⟨50, _⟩ => ⟨S256x1024, .f32⟩
  | .hbm, ⟨51, _⟩ => ⟨S704x1024, .f32⟩
  | .hbm, ⟨52, _⟩ => ⟨S704x1024, .f32⟩
  | .hbm, ⟨53, _⟩ => ⟨S704x1024, .f32⟩
  | .hbm, ⟨54, _⟩ => ⟨S704x1024, .f32⟩
  | .hbm, ⟨55, _⟩ => ⟨S704x1024, .f32⟩
  | .hbm, ⟨56, _⟩ => ⟨S704x1024, .f32⟩
  | .hbm, ⟨57, _⟩ => ⟨S704x1024, .f32⟩
  | .hbm, ⟨58, _⟩ => ⟨S1024x704, .f32⟩
  | .hbm, ⟨59, _⟩ => ⟨S1024x704, .f32⟩
  | .hbm, ⟨60, _⟩ => ⟨S1024x704, .f32⟩
  | .hbm, ⟨61, _⟩ => ⟨S1024x704, .f32⟩
  | .hbm, ⟨62, _⟩ => ⟨S704x1024, .f32⟩
  | .hbm, ⟨63, _⟩ => ⟨S704x1024, .f32⟩
  | .hbm, ⟨64, _⟩ => ⟨S704x1024, .f32⟩
  | .hbm, ⟨65, _⟩ => ⟨S704x1024, .f32⟩
  | .hbm, ⟨66, _⟩ => ⟨S704x1024, .f32⟩
  | .hbm, ⟨67, _⟩ => ⟨S704x1024, .f32⟩
  | .hbm, ⟨68, _⟩ => ⟨S704x1024, .f32⟩
  | .hbm, ⟨69, _⟩ => ⟨S1024x704, .f32⟩
  | .hbm, ⟨70, _⟩ => ⟨S1024x704, .f32⟩
  | .hbm, ⟨71, _⟩ => ⟨S1024x704, .f32⟩
  | .hbm, ⟨72, _⟩ => ⟨S1024x704, .f32⟩
  | .hbm, ⟨73, _⟩ => ⟨S704x1024, .f32⟩
  | .hbm, ⟨74, _⟩ => ⟨S704x1024, .f32⟩
  | .hbm, ⟨75, _⟩ => ⟨S704x1024, .f32⟩
  | .hbm, ⟨76, _⟩ => ⟨S704x1024, .f32⟩
  | .local _ .vmem, ⟨i, _⟩ => vmemTy i
  | _, _ => ⟨S4x1216x1024, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 132 → Bool
  | ⟨i, _⟩ => dmaSemScopedAt i

abbrev sig : RefSig :=
  ofTc nBuf bufTy 0 132 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3_0 : Ref sig .tc := ⟨.hbm, 31, rfl⟩
abbrev main_v3_1 : Ref sig .tc := ⟨.hbm, 32, rfl⟩
abbrev main_v3_2 : Ref sig .tc := ⟨.hbm, 33, rfl⟩
abbrev main_v3_3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8_0 : Ref sig .tc := ⟨.hbm, 39, rfl⟩
abbrev main_v8_1 : Ref sig .tc := ⟨.hbm, 40, rfl⟩
abbrev main_v8_2 : Ref sig .tc := ⟨.hbm, 41, rfl⟩
abbrev main_v8_3 : Ref sig .tc := ⟨.hbm, 42, rfl⟩
abbrev main_v9_0 : Ref sig .tc := ⟨.hbm, 43, rfl⟩
abbrev main_v9_1 : Ref sig .tc := ⟨.hbm, 44, rfl⟩
abbrev main_v9_2 : Ref sig .tc := ⟨.hbm, 45, rfl⟩
abbrev main_v9_3 : Ref sig .tc := ⟨.hbm, 46, rfl⟩
abbrev main_v10_0 : Ref sig .tc := ⟨.hbm, 47, rfl⟩
abbrev main_v10_1 : Ref sig .tc := ⟨.hbm, 48, rfl⟩
abbrev main_v10_2 : Ref sig .tc := ⟨.hbm, 49, rfl⟩
abbrev main_v10_3 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14_0 : Ref sig .tc := ⟨.hbm, 54, rfl⟩
abbrev main_v14_1 : Ref sig .tc := ⟨.hbm, 55, rfl⟩
abbrev main_v14_2 : Ref sig .tc := ⟨.hbm, 56, rfl⟩
abbrev main_v14_3 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22_0 : Ref sig .tc := ⟨.hbm, 65, rfl⟩
abbrev main_v22_1 : Ref sig .tc := ⟨.hbm, 66, rfl⟩
abbrev main_v22_2 : Ref sig .tc := ⟨.hbm, 67, rfl⟩
abbrev main_v22_3 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27_0 : Ref sig .tc := ⟨.hbm, 73, rfl⟩
abbrev main_v27_1 : Ref sig .tc := ⟨.hbm, 74, rfl⟩
abbrev main_v27_2 : Ref sig .tc := ⟨.hbm, 75, rfl⟩
abbrev main_v27_3 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc1_stg5_0 : Ref sig .tc := ⟨.vmem, 32, rfl⟩
abbrev cc1_stg5_1 : Ref sig .tc := ⟨.vmem, 33, rfl⟩
abbrev cc1_stg6_0 : Ref sig .tc := ⟨.vmem, 34, rfl⟩
abbrev cc1_stg6_1 : Ref sig .tc := ⟨.vmem, 35, rfl⟩
abbrev cc1_stg7_0 : Ref sig .tc := ⟨.vmem, 36, rfl⟩
abbrev cc1_stg7_1 : Ref sig .tc := ⟨.vmem, 37, rfl⟩
abbrev cc1_stg8_0 : Ref sig .tc := ⟨.vmem, 38, rfl⟩
abbrev cc1_stg8_1 : Ref sig .tc := ⟨.vmem, 39, rfl⟩
abbrev cc1_stg9_0 : Ref sig .tc := ⟨.vmem, 40, rfl⟩
abbrev cc1_stg9_1 : Ref sig .tc := ⟨.vmem, 41, rfl⟩
abbrev cc1_stg10_0 : Ref sig .tc := ⟨.vmem, 42, rfl⟩
abbrev cc1_stg10_1 : Ref sig .tc := ⟨.vmem, 43, rfl⟩
abbrev cc2_stg0_0 : Ref sig .tc := ⟨.vmem, 44, rfl⟩
abbrev cc2_stg1_0 : Ref sig .tc := ⟨.vmem, 45, rfl⟩
abbrev cc2_stg2_0 : Ref sig .tc := ⟨.vmem, 46, rfl⟩
abbrev cc2_stg3_0 : Ref sig .tc := ⟨.vmem, 47, rfl⟩
abbrev cc2_stg4_0 : Ref sig .tc := ⟨.vmem, 48, rfl⟩
abbrev cc2_stg5_0 : Ref sig .tc := ⟨.vmem, 49, rfl⟩
abbrev cc2_stg6_0 : Ref sig .tc := ⟨.vmem, 50, rfl⟩
abbrev cc2_stg7_0 : Ref sig .tc := ⟨.vmem, 51, rfl⟩
abbrev cc2_stg8_0 : Ref sig .tc := ⟨.vmem, 52, rfl⟩
abbrev cc2_stg9_0 : Ref sig .tc := ⟨.vmem, 53, rfl⟩
abbrev cc2_stg10_0 : Ref sig .tc := ⟨.vmem, 54, rfl⟩
abbrev cc3_stg0_0 : Ref sig .tc := ⟨.vmem, 55, rfl⟩
abbrev cc3_stg1_0 : Ref sig .tc := ⟨.vmem, 56, rfl⟩
abbrev cc3_stg2_0 : Ref sig .tc := ⟨.vmem, 57, rfl⟩
abbrev cc3_stg3_0 : Ref sig .tc := ⟨.vmem, 58, rfl⟩
abbrev cc3_stg4_0 : Ref sig .tc := ⟨.vmem, 59, rfl⟩
abbrev cc3_stg5_0 : Ref sig .tc := ⟨.vmem, 60, rfl⟩
abbrev cc3_stg6_0 : Ref sig .tc := ⟨.vmem, 61, rfl⟩
abbrev cc3_stg7_0 : Ref sig .tc := ⟨.vmem, 62, rfl⟩
abbrev cc3_stg8_0 : Ref sig .tc := ⟨.vmem, 63, rfl⟩
abbrev cc3_stg9_0 : Ref sig .tc := ⟨.vmem, 64, rfl⟩
abbrev cc3_stg10_0 : Ref sig .tc := ⟨.vmem, 65, rfl⟩
abbrev cc4_stg0_0 : Ref sig .tc := ⟨.vmem, 66, rfl⟩
abbrev cc4_stg0_1 : Ref sig .tc := ⟨.vmem, 67, rfl⟩
abbrev cc4_stg1_0 : Ref sig .tc := ⟨.vmem, 68, rfl⟩
abbrev cc4_stg1_1 : Ref sig .tc := ⟨.vmem, 69, rfl⟩
abbrev cc4_stg2_0 : Ref sig .tc := ⟨.vmem, 70, rfl⟩
abbrev cc4_stg2_1 : Ref sig .tc := ⟨.vmem, 71, rfl⟩
abbrev cc4_stg3_0 : Ref sig .tc := ⟨.vmem, 72, rfl⟩
abbrev cc4_stg3_1 : Ref sig .tc := ⟨.vmem, 73, rfl⟩
abbrev cc4_stg4_0 : Ref sig .tc := ⟨.vmem, 74, rfl⟩
abbrev cc4_stg4_1 : Ref sig .tc := ⟨.vmem, 75, rfl⟩
abbrev cc4_stg5_0 : Ref sig .tc := ⟨.vmem, 76, rfl⟩
abbrev cc4_stg5_1 : Ref sig .tc := ⟨.vmem, 77, rfl⟩
abbrev cc4_stg6_0 : Ref sig .tc := ⟨.vmem, 78, rfl⟩
abbrev cc4_stg6_1 : Ref sig .tc := ⟨.vmem, 79, rfl⟩
abbrev cc4_stg7_0 : Ref sig .tc := ⟨.vmem, 80, rfl⟩
abbrev cc4_stg7_1 : Ref sig .tc := ⟨.vmem, 81, rfl⟩
abbrev cc4_stg8_0 : Ref sig .tc := ⟨.vmem, 82, rfl⟩
abbrev cc4_stg8_1 : Ref sig .tc := ⟨.vmem, 83, rfl⟩
abbrev cc4_stg9_0 : Ref sig .tc := ⟨.vmem, 84, rfl⟩
abbrev cc4_stg9_1 : Ref sig .tc := ⟨.vmem, 85, rfl⟩
abbrev cc4_stg10_0 : Ref sig .tc := ⟨.vmem, 86, rfl⟩
abbrev cc4_stg10_1 : Ref sig .tc := ⟨.vmem, 87, rfl⟩
abbrev cc5_stg0_0 : Ref sig .tc := ⟨.vmem, 88, rfl⟩
abbrev cc5_stg0_1 : Ref sig .tc := ⟨.vmem, 89, rfl⟩
abbrev cc5_stg1_0 : Ref sig .tc := ⟨.vmem, 90, rfl⟩
abbrev cc5_stg1_1 : Ref sig .tc := ⟨.vmem, 91, rfl⟩
abbrev cc5_stg2_0 : Ref sig .tc := ⟨.vmem, 92, rfl⟩
abbrev cc5_stg2_1 : Ref sig .tc := ⟨.vmem, 93, rfl⟩
abbrev cc5_stg3_0 : Ref sig .tc := ⟨.vmem, 94, rfl⟩
abbrev cc5_stg3_1 : Ref sig .tc := ⟨.vmem, 95, rfl⟩
abbrev cc5_stg4_0 : Ref sig .tc := ⟨.vmem, 96, rfl⟩
abbrev cc5_stg4_1 : Ref sig .tc := ⟨.vmem, 97, rfl⟩
abbrev cc5_stg5_0 : Ref sig .tc := ⟨.vmem, 98, rfl⟩
abbrev cc5_stg5_1 : Ref sig .tc := ⟨.vmem, 99, rfl⟩
abbrev cc5_stg6_0 : Ref sig .tc := ⟨.vmem, 100, rfl⟩
abbrev cc5_stg6_1 : Ref sig .tc := ⟨.vmem, 101, rfl⟩
abbrev cc5_stg7_0 : Ref sig .tc := ⟨.vmem, 102, rfl⟩
abbrev cc5_stg7_1 : Ref sig .tc := ⟨.vmem, 103, rfl⟩
abbrev cc5_stg8_0 : Ref sig .tc := ⟨.vmem, 104, rfl⟩
abbrev cc5_stg8_1 : Ref sig .tc := ⟨.vmem, 105, rfl⟩
abbrev cc5_stg9_0 : Ref sig .tc := ⟨.vmem, 106, rfl⟩
abbrev cc5_stg9_1 : Ref sig .tc := ⟨.vmem, 107, rfl⟩
abbrev cc5_stg10_0 : Ref sig .tc := ⟨.vmem, 108, rfl⟩
abbrev cc5_stg10_1 : Ref sig .tc := ⟨.vmem, 109, rfl⟩
abbrev cc6_stg0_0 : Ref sig .tc := ⟨.vmem, 110, rfl⟩
abbrev cc6_stg0_1 : Ref sig .tc := ⟨.vmem, 111, rfl⟩
abbrev cc6_stg1_0 : Ref sig .tc := ⟨.vmem, 112, rfl⟩
abbrev cc6_stg1_1 : Ref sig .tc := ⟨.vmem, 113, rfl⟩
abbrev cc6_stg2_0 : Ref sig .tc := ⟨.vmem, 114, rfl⟩
abbrev cc6_stg2_1 : Ref sig .tc := ⟨.vmem, 115, rfl⟩
abbrev cc6_stg3_0 : Ref sig .tc := ⟨.vmem, 116, rfl⟩
abbrev cc6_stg3_1 : Ref sig .tc := ⟨.vmem, 117, rfl⟩
abbrev cc6_stg4_0 : Ref sig .tc := ⟨.vmem, 118, rfl⟩
abbrev cc6_stg4_1 : Ref sig .tc := ⟨.vmem, 119, rfl⟩
abbrev cc6_stg5_0 : Ref sig .tc := ⟨.vmem, 120, rfl⟩
abbrev cc6_stg5_1 : Ref sig .tc := ⟨.vmem, 121, rfl⟩
abbrev cc6_stg6_0 : Ref sig .tc := ⟨.vmem, 122, rfl⟩
abbrev cc6_stg6_1 : Ref sig .tc := ⟨.vmem, 123, rfl⟩
abbrev cc6_stg7_0 : Ref sig .tc := ⟨.vmem, 124, rfl⟩
abbrev cc6_stg7_1 : Ref sig .tc := ⟨.vmem, 125, rfl⟩
abbrev cc6_stg8_0 : Ref sig .tc := ⟨.vmem, 126, rfl⟩
abbrev cc6_stg8_1 : Ref sig .tc := ⟨.vmem, 127, rfl⟩
abbrev cc6_stg9_0 : Ref sig .tc := ⟨.vmem, 128, rfl⟩
abbrev cc6_stg9_1 : Ref sig .tc := ⟨.vmem, 129, rfl⟩
abbrev cc6_stg10_0 : Ref sig .tc := ⟨.vmem, 130, rfl⟩
abbrev cc6_stg10_1 : Ref sig .tc := ⟨.vmem, 131, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem4_1 : DmaSem sig := 31
abbrev cc1_sem5_0 : DmaSem sig := 32
abbrev cc1_sem5_1 : DmaSem sig := 33
abbrev cc1_sem6_0 : DmaSem sig := 34
abbrev cc1_sem6_1 : DmaSem sig := 35
abbrev cc1_sem7_0 : DmaSem sig := 36
abbrev cc1_sem7_1 : DmaSem sig := 37
abbrev cc1_sem8_0 : DmaSem sig := 38
abbrev cc1_sem8_1 : DmaSem sig := 39
abbrev cc1_sem9_0 : DmaSem sig := 40
abbrev cc1_sem9_1 : DmaSem sig := 41
abbrev cc1_sem10_0 : DmaSem sig := 42
abbrev cc1_sem10_1 : DmaSem sig := 43
abbrev cc2_sem0_0 : DmaSem sig := 44
abbrev cc2_sem1_0 : DmaSem sig := 45
abbrev cc2_sem2_0 : DmaSem sig := 46
abbrev cc2_sem3_0 : DmaSem sig := 47
abbrev cc2_sem4_0 : DmaSem sig := 48
abbrev cc2_sem5_0 : DmaSem sig := 49
abbrev cc2_sem6_0 : DmaSem sig := 50
abbrev cc2_sem7_0 : DmaSem sig := 51
abbrev cc2_sem8_0 : DmaSem sig := 52
abbrev cc2_sem9_0 : DmaSem sig := 53
abbrev cc2_sem10_0 : DmaSem sig := 54
abbrev cc3_sem0_0 : DmaSem sig := 55
abbrev cc3_sem1_0 : DmaSem sig := 56
abbrev cc3_sem2_0 : DmaSem sig := 57
abbrev cc3_sem3_0 : DmaSem sig := 58
abbrev cc3_sem4_0 : DmaSem sig := 59
abbrev cc3_sem5_0 : DmaSem sig := 60
abbrev cc3_sem6_0 : DmaSem sig := 61
abbrev cc3_sem7_0 : DmaSem sig := 62
abbrev cc3_sem8_0 : DmaSem sig := 63
abbrev cc3_sem9_0 : DmaSem sig := 64
abbrev cc3_sem10_0 : DmaSem sig := 65
abbrev cc4_sem0_0 : DmaSem sig := 66
abbrev cc4_sem0_1 : DmaSem sig := 67
abbrev cc4_sem1_0 : DmaSem sig := 68
abbrev cc4_sem1_1 : DmaSem sig := 69
abbrev cc4_sem2_0 : DmaSem sig := 70
abbrev cc4_sem2_1 : DmaSem sig := 71
abbrev cc4_sem3_0 : DmaSem sig := 72
abbrev cc4_sem3_1 : DmaSem sig := 73
abbrev cc4_sem4_0 : DmaSem sig := 74
abbrev cc4_sem4_1 : DmaSem sig := 75
abbrev cc4_sem5_0 : DmaSem sig := 76
abbrev cc4_sem5_1 : DmaSem sig := 77
abbrev cc4_sem6_0 : DmaSem sig := 78
abbrev cc4_sem6_1 : DmaSem sig := 79
abbrev cc4_sem7_0 : DmaSem sig := 80
abbrev cc4_sem7_1 : DmaSem sig := 81
abbrev cc4_sem8_0 : DmaSem sig := 82
abbrev cc4_sem8_1 : DmaSem sig := 83
abbrev cc4_sem9_0 : DmaSem sig := 84
abbrev cc4_sem9_1 : DmaSem sig := 85
abbrev cc4_sem10_0 : DmaSem sig := 86
abbrev cc4_sem10_1 : DmaSem sig := 87
abbrev cc5_sem0_0 : DmaSem sig := 88
abbrev cc5_sem0_1 : DmaSem sig := 89
abbrev cc5_sem1_0 : DmaSem sig := 90
abbrev cc5_sem1_1 : DmaSem sig := 91
abbrev cc5_sem2_0 : DmaSem sig := 92
abbrev cc5_sem2_1 : DmaSem sig := 93
abbrev cc5_sem3_0 : DmaSem sig := 94
abbrev cc5_sem3_1 : DmaSem sig := 95
abbrev cc5_sem4_0 : DmaSem sig := 96
abbrev cc5_sem4_1 : DmaSem sig := 97
abbrev cc5_sem5_0 : DmaSem sig := 98
abbrev cc5_sem5_1 : DmaSem sig := 99
abbrev cc5_sem6_0 : DmaSem sig := 100
abbrev cc5_sem6_1 : DmaSem sig := 101
abbrev cc5_sem7_0 : DmaSem sig := 102
abbrev cc5_sem7_1 : DmaSem sig := 103
abbrev cc5_sem8_0 : DmaSem sig := 104
abbrev cc5_sem8_1 : DmaSem sig := 105
abbrev cc5_sem9_0 : DmaSem sig := 106
abbrev cc5_sem9_1 : DmaSem sig := 107
abbrev cc5_sem10_0 : DmaSem sig := 108
abbrev cc5_sem10_1 : DmaSem sig := 109
abbrev cc6_sem0_0 : DmaSem sig := 110
abbrev cc6_sem0_1 : DmaSem sig := 111
abbrev cc6_sem1_0 : DmaSem sig := 112
abbrev cc6_sem1_1 : DmaSem sig := 113
abbrev cc6_sem2_0 : DmaSem sig := 114
abbrev cc6_sem2_1 : DmaSem sig := 115
abbrev cc6_sem3_0 : DmaSem sig := 116
abbrev cc6_sem3_1 : DmaSem sig := 117
abbrev cc6_sem4_0 : DmaSem sig := 118
abbrev cc6_sem4_1 : DmaSem sig := 119
abbrev cc6_sem5_0 : DmaSem sig := 120
abbrev cc6_sem5_1 : DmaSem sig := 121
abbrev cc6_sem6_0 : DmaSem sig := 122
abbrev cc6_sem6_1 : DmaSem sig := 123
abbrev cc6_sem7_0 : DmaSem sig := 124
abbrev cc6_sem7_1 : DmaSem sig := 125
abbrev cc6_sem8_0 : DmaSem sig := 126
abbrev cc6_sem8_1 : DmaSem sig := 127
abbrev cc6_sem9_0 : DmaSem sig := 128
abbrev cc6_sem9_1 : DmaSem sig := 129
abbrev cc6_sem10_0 : DmaSem sig := 130
abbrev cc6_sem10_1 : DmaSem sig := 131

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x304x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x304x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S304x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S304x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S304x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S304x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S304x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S304x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S304x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1x256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![1], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_2 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc2_transform_3 (i : grid2.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S1x256x256 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S1x256x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S1x256x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S1x256x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true]

abbrev stage2_5 : Fin 1 → Memref sig .tc .vmem S256x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

abbrev stage2_6 : Fin 1 → Memref sig .tc .vmem S256x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true]

abbrev stage2_7 : Fin 1 → Memref sig .tc .vmem S256x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![true]

abbrev stage2_8 : Fin 1 → Memref sig .tc .vmem S256x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![true]

abbrev stage2_9 : Fin 1 → Memref sig .tc .vmem S256x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![true]

abbrev stage2_10 : Fin 1 → Memref sig .tc .vmem S256x256 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![true]

abbrev grid3 : Pipeline.Grid := ⟨1, ![1], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc3_transform_2 (i : grid3.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc3_transform_3 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S1x256x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S1x256x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S1x256x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev stage3_3 : Fin 1 → Memref sig .tc .vmem S1x256x1024 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev stage3_4 : Fin 1 → Memref sig .tc .vmem S256x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true]

abbrev stage3_5 : Fin 1 → Memref sig .tc .vmem S256x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true]

abbrev stage3_6 : Fin 1 → Memref sig .tc .vmem S256x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true]

abbrev stage3_7 : Fin 1 → Memref sig .tc .vmem S256x1024 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![true]

abbrev stage3_8 : Fin 1 → Memref sig .tc .vmem S256x1024 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![true]

abbrev stage3_9 : Fin 1 → Memref sig .tc .vmem S256x1024 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![true]

abbrev stage3_10 : Fin 1 → Memref sig .tc .vmem S256x1024 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![true]

abbrev grid4 : Pipeline.Grid := ⟨1, ![2], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_1 (i : grid4.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc4_transform_2 (i : grid4.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc4_transform_3 (i : grid4.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1x352x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x352x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x352x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1x352x1024 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S352x1024 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S352x1024 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S352x1024 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S352x1024 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S352x1024 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 2 → Memref sig .tc .vmem S352x1024 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev stage4_10 : Fin 2 → Memref sig .tc .vmem S352x1024 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev grid5 : Pipeline.Grid := ⟨1, ![2], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_1 (i : grid5.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc5_transform_2 (i : grid5.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc5_transform_3 (i : grid5.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_10 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1x352x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x352x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1x352x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S1x352x1024 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S352x1024 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S352x1024 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S352x1024 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S352x1024 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 2 → Memref sig .tc .vmem S352x1024 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev stage5_9 : Fin 2 → Memref sig .tc .vmem S352x1024 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev stage5_10 : Fin 2 → Memref sig .tc .vmem S352x1024 .f32 := fun | 0 => Memref.whole cc5_stg10_0 | 1 => Memref.whole cc5_stg10_1 | ⟨_ + 2, h⟩ => absurd h (Nat.not_lt.2 (Nat.le_add_left _ _))
abbrev sem5_10 : Fin 2 → DmaSem sig := fun | 0 => cc5_sem10_0 | 1 => cc5_sem10_1 | ⟨_ + 2, h⟩ => absurd h (Nat.not_lt.2 (Nat.le_add_left _ _))
abbrev reads5_10 : Fin grid5.rank → Bool := ![true]

abbrev grid6 : Pipeline.Grid := ⟨1, ![2], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc6_transform_1 (i : grid6.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc6_transform_2 (i : grid6.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc6_transform_3 (i : grid6.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_10 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1x352x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x352x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S1x352x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S1x352x1024 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S352x1024 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S352x1024 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S352x1024 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S352x1024 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 2 → Memref sig .tc .vmem S352x1024 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev stage6_9 : Fin 2 → Memref sig .tc .vmem S352x1024 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

abbrev stage6_10 : Fin 2 → Memref sig .tc .vmem S352x1024 .f32 := fun | 0 => Memref.whole cc6_stg10_0 | 1 => Memref.whole cc6_stg10_1 | ⟨_ + 2, h⟩ => absurd h (Nat.not_lt.2 (Nat.le_add_left _ _))
abbrev sem6_10 : Fin 2 → DmaSem sig := fun | 0 => cc6_sem10_0 | 1 => cc6_sem10_1 | ⟨_ + 2, h⟩ => absurd h (Nat.not_lt.2 (Nat.le_add_left _ _))
abbrev reads6_10 : Fin grid6.rank → Bool := ![true]
-- ==== AdamRefIdeal.lean ====
abbrev S4x1216x1024 : Shape := ⟨3, ![4, 1216, 1024]⟩
abbrev S4x512x512 : Shape := ⟨3, ![4, 512, 512]⟩
abbrev S4x256x256 : Shape := ⟨3, ![4, 256, 256]⟩
abbrev S4x256x1024 : Shape := ⟨3, ![4, 256, 1024]⟩
abbrev S4x704x1024 : Shape := ⟨3, ![4, 704, 1024]⟩
abbrev S1024x1216 : Shape := ⟨2, ![1024, 1216]⟩
abbrev S512x512 : Shape := ⟨2, ![512, 512]⟩
abbrev S256x256 : Shape := ⟨2, ![256, 256]⟩
abbrev S256x1024 : Shape := ⟨2, ![256, 1024]⟩
abbrev S1024x704 : Shape := ⟨2, ![1024, 704]⟩
abbrev S704x1024 : Shape := ⟨2, ![704, 1024]⟩
abbrev S_ : Shape := ⟨0, ![]⟩
abbrev S1216x1024 : Shape := ⟨2, ![1216, 1024]⟩

abbrev nBuf : Space → Nat
  | .hbm => 283
  | .vmem => 0
  | .smem => 0
  | _ => 0

abbrev hbmTy0_0 (i : Nat) : BufTy := match i % 128 with
  | 0 => ⟨S4x1216x1024, .bf16⟩
  | 1 => ⟨S4x512x512, .bf16⟩
  | 2 => ⟨S4x256x256, .bf16⟩
  | 3 => ⟨S4x256x1024, .bf16⟩
  | 4 => ⟨S4x704x1024, .bf16⟩
  | 5 => ⟨S4x704x1024, .bf16⟩
  | 6 => ⟨S4x704x1024, .bf16⟩
  | 7 => ⟨S1024x1216, .f32⟩
  | 8 => ⟨S512x512, .f32⟩
  | 9 => ⟨S256x256, .f32⟩
  | 10 => ⟨S256x1024, .f32⟩
  | 11 => ⟨S1024x704, .f32⟩
  | 12 => ⟨S1024x704, .f32⟩
  | 13 => ⟨S704x1024, .f32⟩
  | 14 => ⟨S1024x1216, .f32⟩
  | 15 => ⟨S512x512, .f32⟩
  | 16 => ⟨S256x256, .f32⟩
  | 17 => ⟨S256x1024, .f32⟩
  | 18 => ⟨S1024x704, .f32⟩
  | 19 => ⟨S1024x704, .f32⟩
  | 20 => ⟨S704x1024, .f32⟩
  | 21 => ⟨S1024x1216, .f32⟩
  | 22 => ⟨S512x512, .f32⟩
  | 23 => ⟨S256x256, .f32⟩
  | 24 => ⟨S256x1024, .f32⟩
  | 25 => ⟨S1024x704, .f32⟩
  | 26 => ⟨S1024x704, .f32⟩
  | 27 => ⟨S704x1024, .f32⟩
  | 28 => ⟨S4x1216x1024, .f32⟩
  | 29 => ⟨S_, .f32⟩
  | 30 => ⟨S1216x1024, .f32⟩
  | 31 => ⟨S1024x1216, .f32⟩
  | 32 => ⟨S_, .f32⟩
  | 33 => ⟨S1024x1216, .f32⟩
  | 34 => ⟨S1024x1216, .f32⟩
  | 35 => ⟨S_, .f32⟩
  | 36 => ⟨S1024x1216, .f32⟩
  | 37 => ⟨S1024x1216, .f32⟩
  | 38 => ⟨S1024x1216, .f32⟩
  | 39 => ⟨S_, .f32⟩
  | 40 => ⟨S1024x1216, .f32⟩
  | 41 => ⟨S1024x1216, .f32⟩
  | 42 => ⟨S1024x1216, .f32⟩
  | 43 => ⟨S_, .f32⟩
  | 44 => ⟨S1024x1216, .f32⟩
  | 45 => ⟨S1024x1216, .f32⟩
  | 46 => ⟨S1024x1216, .f32⟩
  | 47 => ⟨S_, .f32⟩
  | 48 => ⟨S1024x1216, .f32⟩
  | 49 => ⟨S1024x1216, .f32⟩
  | 50 => ⟨S_, .f32⟩
  | 51 => ⟨S1024x1216, .f32⟩
  | 52 => ⟨S1024x1216, .f32⟩
  | 53 => ⟨S1024x1216, .f32⟩
  | 54 => ⟨S_, .f32⟩
  | 55 => ⟨S1024x1216, .f32⟩
  | 56 => ⟨S1024x1216, .f32⟩
  | 57 => ⟨S1024x1216, .f32⟩
  | 58 => ⟨S_, .f32⟩
  | 59 => ⟨S1024x1216, .f32⟩
  | 60 => ⟨S1024x1216, .f32⟩
  | 61 => ⟨S1024x1216, .f32⟩
  | 62 => ⟨S_, .f32⟩
  | 63 => ⟨S1024x1216, .f32⟩
  | 64 => ⟨S1024x1216, .f32⟩
  | 65 => ⟨S4x512x512, .f32⟩
  | 66 => ⟨S_, .f32⟩
  | 67 => ⟨S512x512, .f32⟩
  | 68 => ⟨S_, .f32⟩
  | 69 => ⟨S512x512, .f32⟩
  | 70 => ⟨S512x512, .f32⟩
  | 71 => ⟨S_, .f32⟩
  | 72 => ⟨S512x512, .f32⟩
  | 73 => ⟨S512x512, .f32⟩
  | 74 => ⟨S512x512, .f32⟩
  | 75 => ⟨S_, .f32⟩
  | 76 => ⟨S512x512, .f32⟩
  | 77 => ⟨S512x512, .f32⟩
  | 78 => ⟨S512x512, .f32⟩
  | 79 => ⟨S_, .f32⟩
  | 80 => ⟨S512x512, .f32⟩
  | 81 => ⟨S512x512, .f32⟩
  | 82 => ⟨S512x512, .f32⟩
  | 83 => ⟨S_, .f32⟩
  | 84 => ⟨S512x512, .f32⟩
  | 85 => ⟨S512x512, .f32⟩
  | 86 => ⟨S_, .f32⟩
  | 87 => ⟨S512x512, .f32⟩
  | 88 => ⟨S512x512, .f32⟩
  | 89 => ⟨S512x512, .f32⟩
  | 90 => ⟨S_, .f32⟩
  | 91 => ⟨S512x512, .f32⟩
  | 92 => ⟨S512x512, .f32⟩
  | 93 => ⟨S512x512, .f32⟩
  | 94 => ⟨S_, .f32⟩
  | 95 => ⟨S512x512, .f32⟩
  | 96 => ⟨S512x512, .f32⟩
  | 97 => ⟨S512x512, .f32⟩
  | 98 => ⟨S_, .f32⟩
  | 99 => ⟨S512x512, .f32⟩
  | 100 => ⟨S512x512, .f32⟩
  | 101 => ⟨S4x256x256, .f32⟩
  | 102 => ⟨S_, .f32⟩
  | 103 => ⟨S256x256, .f32⟩
  | 104 => ⟨S_, .f32⟩
  | 105 => ⟨S256x256, .f32⟩
  | 106 => ⟨S256x256, .f32⟩
  | 107 => ⟨S_, .f32⟩
  | 108 => ⟨S256x256, .f32⟩
  | 109 => ⟨S256x256, .f32⟩
  | 110 => ⟨S256x256, .f32⟩
  | 111 => ⟨S_, .f32⟩
  | 112 => ⟨S256x256, .f32⟩
  | 113 => ⟨S256x256, .f32⟩
  | 114 => ⟨S256x256, .f32⟩
  | 115 => ⟨S_, .f32⟩
  | 116 => ⟨S256x256, .f32⟩
  | 117 => ⟨S256x256, .f32⟩
  | 118 => ⟨S256x256, .f32⟩
  | 119 => ⟨S_, .f32⟩
  | 120 => ⟨S256x256, .f32⟩
  | 121 => ⟨S256x256, .f32⟩
  | 122 => ⟨S_, .f32⟩
  | 123 => ⟨S256x256, .f32⟩
  | 124 => ⟨S256x256, .f32⟩
  | 125 => ⟨S256x256, .f32⟩
  | 126 => ⟨S_, .f32⟩
  | 127 => ⟨S256x256, .f32⟩
  | _ => ⟨S4x1216x1024, .bf16⟩

abbrev hbmTy0_1 (i : Nat) : BufTy := match i % 128 with
  | 0 => ⟨S256x256, .f32⟩
  | 1 => ⟨S256x256, .f32⟩
  | 2 => ⟨S_, .f32⟩
  | 3 => ⟨S256x256, .f32⟩
  | 4 => ⟨S256x256, .f32⟩
  | 5 => ⟨S256x256, .f32⟩
  | 6 => ⟨S_, .f32⟩
  | 7 => ⟨S256x256, .f32⟩
  | 8 => ⟨S256x256, .f32⟩
  | 9 => ⟨S4x256x1024, .f32⟩
  | 10 => ⟨S_, .f32⟩
  | 11 => ⟨S256x1024, .f32⟩
  | 12 => ⟨S_, .f32⟩
  | 13 => ⟨S256x1024, .f32⟩
  | 14 => ⟨S256x1024, .f32⟩
  | 15 => ⟨S_, .f32⟩
  | 16 => ⟨S256x1024, .f32⟩
  | 17 => ⟨S256x1024, .f32⟩
  | 18 => ⟨S256x1024, .f32⟩
  | 19 => ⟨S_, .f32⟩
  | 20 => ⟨S256x1024, .f32⟩
  | 21 => ⟨S256x1024, .f32⟩
  | 22 => ⟨S256x1024, .f32⟩
  | 23 => ⟨S_, .f32⟩
  | 24 => ⟨S256x1024, .f32⟩
  | 25 => ⟨S256x1024, .f32⟩
  | 26 => ⟨S256x1024, .f32⟩
  | 27 => ⟨S_, .f32⟩
  | 28 => ⟨S256x1024, .f32⟩
  | 29 => ⟨S256x1024, .f32⟩
  | 30 => ⟨S_, .f32⟩
  | 31 => ⟨S256x1024, .f32⟩
  | 32 => ⟨S256x1024, .f32⟩
  | 33 => ⟨S256x1024, .f32⟩
  | 34 => ⟨S_, .f32⟩
  | 35 => ⟨S256x1024, .f32⟩
  | 36 => ⟨S256x1024, .f32⟩
  | 37 => ⟨S256x1024, .f32⟩
  | 38 => ⟨S_, .f32⟩
  | 39 => ⟨S256x1024, .f32⟩
  | 40 => ⟨S256x1024, .f32⟩
  | 41 => ⟨S256x1024, .f32⟩
  | 42 => ⟨S_, .f32⟩
  | 43 => ⟨S256x1024, .f32⟩
  | 44 => ⟨S256x1024, .f32⟩
  | 45 => ⟨S4x704x1024, .f32⟩
  | 46 => ⟨S_, .f32⟩
  | 47 => ⟨S704x1024, .f32⟩
  | 48 => ⟨S1024x704, .f32⟩
  | 49 => ⟨S_, .f32⟩
  | 50 => ⟨S1024x704, .f32⟩
  | 51 => ⟨S1024x704, .f32⟩
  | 52 => ⟨S_, .f32⟩
  | 53 => ⟨S1024x704, .f32⟩
  | 54 => ⟨S1024x704, .f32⟩
  | 55 => ⟨S1024x704, .f32⟩
  | 56 => ⟨S_, .f32⟩
  | 57 => ⟨S1024x704, .f32⟩
  | 58 => ⟨S1024x704, .f32⟩
  | 59 => ⟨S1024x704, .f32⟩
  | 60 => ⟨S_, .f32⟩
  | 61 => ⟨S1024x704, .f32⟩
  | 62 => ⟨S1024x704, .f32⟩
  | 63 => ⟨S1024x704, .f32⟩
  | 64 => ⟨S_, .f32⟩
  | 65 => ⟨S1024x704, .f32⟩
  | 66 => ⟨S1024x704, .f32⟩
  | 67 => ⟨S_, .f32⟩
  | 68 => ⟨S1024x704, .f32⟩
  | 69 => ⟨S1024x704, .f32⟩
  | 70 => ⟨S1024x704, .f32⟩
  | 71 => ⟨S_, .f32⟩
  | 72 => ⟨S1024x704, .f32⟩
  | 73 => ⟨S1024x704, .f32⟩
  | 74 => ⟨S1024x704, .f32⟩
  | 75 => ⟨S_, .f32⟩
  | 76 => ⟨S1024x704, .f32⟩
  | 77 => ⟨S1024x704, .f32⟩
  | 78 => ⟨S1024x704, .f32⟩
  | 79 => ⟨S_, .f32⟩
  | 80 => ⟨S1024x704, .f32⟩
  | 81 => ⟨S1024x704, .f32⟩
  | 82 => ⟨S4x704x1024, .f32⟩
  | 83 => ⟨S_, .f32⟩
  | 84 => ⟨S704x1024, .f32⟩
  | 85 => ⟨S1024x704, .f32⟩
  | 86 => ⟨S_, .f32⟩
  | 87 => ⟨S1024x704, .f32⟩
  | 88 => ⟨S1024x704, .f32⟩
  | 89 => ⟨S_, .f32⟩
  | 90 => ⟨S1024x704, .f32⟩
  | 91 => ⟨S1024x704, .f32⟩
  | 92 => ⟨S1024x704, .f32⟩
  | 93 => ⟨S_, .f32⟩
  | 94 => ⟨S1024x704, .f32⟩
  | 95 => ⟨S1024x704, .f32⟩
  | 96 => ⟨S1024x704, .f32⟩
  | 97 => ⟨S_, .f32⟩
  | 98 => ⟨S1024x704, .f32⟩
  | 99 => ⟨S1024x704, .f32⟩
  | 100 => ⟨S1024x704, .f32⟩
  | 101 => ⟨S_, .f32⟩
  | 102 => ⟨S1024x704, .f32⟩
  | 103 => ⟨S1024x704, .f32⟩
  | 104 => ⟨S_, .f32⟩
  | 105 => ⟨S1024x704, .f32⟩
  | 106 => ⟨S1024x704, .f32⟩
  | 107 => ⟨S1024x704, .f32⟩
  | 108 => ⟨S_, .f32⟩
  | 109 => ⟨S1024x704, .f32⟩
  | 110 => ⟨S1024x704, .f32⟩
  | 111 => ⟨S1024x704, .f32⟩
  | 112 => ⟨S_, .f32⟩
  | 113 => ⟨S1024x704, .f32⟩
  | 114 => ⟨S1024x704, .f32⟩
  | 115 => ⟨S1024x704, .f32⟩
  | 116 => ⟨S_, .f32⟩
  | 117 => ⟨S1024x704, .f32⟩
  | 118 => ⟨S1024x704, .f32⟩
  | 119 => ⟨S4x704x1024, .f32⟩
  | 120 => ⟨S_, .f32⟩
  | 121 => ⟨S704x1024, .f32⟩
  | 122 => ⟨S_, .f32⟩
  | 123 => ⟨S704x1024, .f32⟩
  | 124 => ⟨S704x1024, .f32⟩
  | 125 => ⟨S_, .f32⟩
  | 126 => ⟨S704x1024, .f32⟩
  | 127 => ⟨S704x1024, .f32⟩
  | _ => ⟨S4x1216x1024, .bf16⟩

abbrev hbmTy0_2 (i : Nat) : BufTy := match i % 128 with
  | 0 => ⟨S704x1024, .f32⟩
  | 1 => ⟨S_, .f32⟩
  | 2 => ⟨S704x1024, .f32⟩
  | 3 => ⟨S704x1024, .f32⟩
  | 4 => ⟨S704x1024, .f32⟩
  | 5 => ⟨S_, .f32⟩
  | 6 => ⟨S704x1024, .f32⟩
  | 7 => ⟨S704x1024, .f32⟩
  | 8 => ⟨S704x1024, .f32⟩
  | 9 => ⟨S_, .f32⟩
  | 10 => ⟨S704x1024, .f32⟩
  | 11 => ⟨S704x1024, .f32⟩
  | 12 => ⟨S_, .f32⟩
  | 13 => ⟨S704x1024, .f32⟩
  | 14 => ⟨S704x1024, .f32⟩
  | 15 => ⟨S704x1024, .f32⟩
  | 16 => ⟨S_, .f32⟩
  | 17 => ⟨S704x1024, .f32⟩
  | 18 => ⟨S704x1024, .f32⟩
  | 19 => ⟨S704x1024, .f32⟩
  | 20 => ⟨S_, .f32⟩
  | 21 => ⟨S704x1024, .f32⟩
  | 22 => ⟨S704x1024, .f32⟩
  | 23 => ⟨S704x1024, .f32⟩
  | 24 => ⟨S_, .f32⟩
  | 25 => ⟨S704x1024, .f32⟩
  | 26 => ⟨S704x1024, .f32⟩
  | _ => ⟨S4x1216x1024, .bf16⟩

abbrev hbmTy (i : Nat) : BufTy := match i / 128 with
  | 0 => hbmTy0_0 i
  | 1 => hbmTy0_1 i
  | 2 => hbmTy0_2 i
  | _ => ⟨S4x1216x1024, .bf16⟩

abbrev bufTy : (tb : Table) → Fin (tcTables nBuf tb) → BufTy
  | .hbm, ⟨i, _⟩ => hbmTy i
  | _, _ => ⟨S4x1216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_cst : Ref sig .tc := ⟨.hbm, 29, rfl⟩
abbrev main_v1 : Ref sig .tc := ⟨.hbm, 30, rfl⟩
abbrev main_v2 : Ref sig .tc := ⟨.hbm, 31, rfl⟩
abbrev main_cst_0 : Ref sig .tc := ⟨.hbm, 32, rfl⟩
abbrev main_v3 : Ref sig .tc := ⟨.hbm, 33, rfl⟩
abbrev main_v4 : Ref sig .tc := ⟨.hbm, 34, rfl⟩
abbrev main_cst_1 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_2 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_3 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_cst_4 : Ref sig .tc := ⟨.hbm, 47, rfl⟩
abbrev main_v14 : Ref sig .tc := ⟨.hbm, 48, rfl⟩
abbrev main_v15 : Ref sig .tc := ⟨.hbm, 49, rfl⟩
abbrev main_cst_5 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_cst_6 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_7 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_cst_8 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_cst_9 : Ref sig .tc := ⟨.hbm, 66, rfl⟩
abbrev main_v28 : Ref sig .tc := ⟨.hbm, 67, rfl⟩
abbrev main_cst_10 : Ref sig .tc := ⟨.hbm, 68, rfl⟩
abbrev main_v29 : Ref sig .tc := ⟨.hbm, 69, rfl⟩
abbrev main_v30 : Ref sig .tc := ⟨.hbm, 70, rfl⟩
abbrev main_cst_11 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_cst_12 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_cst_13 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_14 : Ref sig .tc := ⟨.hbm, 83, rfl⟩
abbrev main_v40 : Ref sig .tc := ⟨.hbm, 84, rfl⟩
abbrev main_v41 : Ref sig .tc := ⟨.hbm, 85, rfl⟩
abbrev main_cst_15 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_cst_16 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_cst_17 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_cst_18 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_cst_19 : Ref sig .tc := ⟨.hbm, 102, rfl⟩
abbrev main_v54 : Ref sig .tc := ⟨.hbm, 103, rfl⟩
abbrev main_cst_20 : Ref sig .tc := ⟨.hbm, 104, rfl⟩
abbrev main_v55 : Ref sig .tc := ⟨.hbm, 105, rfl⟩
abbrev main_v56 : Ref sig .tc := ⟨.hbm, 106, rfl⟩
abbrev main_cst_21 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_cst_22 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_cst_23 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_cst_24 : Ref sig .tc := ⟨.hbm, 119, rfl⟩
abbrev main_v66 : Ref sig .tc := ⟨.hbm, 120, rfl⟩
abbrev main_v67 : Ref sig .tc := ⟨.hbm, 121, rfl⟩
abbrev main_cst_25 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_cst_26 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_cst_27 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_cst_28 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_cst_29 : Ref sig .tc := ⟨.hbm, 138, rfl⟩
abbrev main_v80 : Ref sig .tc := ⟨.hbm, 139, rfl⟩
abbrev main_cst_30 : Ref sig .tc := ⟨.hbm, 140, rfl⟩
abbrev main_v81 : Ref sig .tc := ⟨.hbm, 141, rfl⟩
abbrev main_v82 : Ref sig .tc := ⟨.hbm, 142, rfl⟩
abbrev main_cst_31 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_cst_32 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_cst_33 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_cst_34 : Ref sig .tc := ⟨.hbm, 155, rfl⟩
abbrev main_v92 : Ref sig .tc := ⟨.hbm, 156, rfl⟩
abbrev main_v93 : Ref sig .tc := ⟨.hbm, 157, rfl⟩
abbrev main_cst_35 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_cst_36 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_cst_37 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_cst_38 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_cst_39 : Ref sig .tc := ⟨.hbm, 174, rfl⟩
abbrev main_v106 : Ref sig .tc := ⟨.hbm, 175, rfl⟩
abbrev main_v107 : Ref sig .tc := ⟨.hbm, 176, rfl⟩
abbrev main_cst_40 : Ref sig .tc := ⟨.hbm, 177, rfl⟩
abbrev main_v108 : Ref sig .tc := ⟨.hbm, 178, rfl⟩
abbrev main_v109 : Ref sig .tc := ⟨.hbm, 179, rfl⟩
abbrev main_cst_41 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_cst_42 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_cst_43 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_cst_44 : Ref sig .tc := ⟨.hbm, 192, rfl⟩
abbrev main_v119 : Ref sig .tc := ⟨.hbm, 193, rfl⟩
abbrev main_v120 : Ref sig .tc := ⟨.hbm, 194, rfl⟩
abbrev main_cst_45 : Ref sig .tc := ⟨.hbm, 195, rfl⟩
abbrev main_v121 : Ref sig .tc := ⟨.hbm, 196, rfl⟩
abbrev main_v122 : Ref sig .tc := ⟨.hbm, 197, rfl⟩
abbrev main_v123 : Ref sig .tc := ⟨.hbm, 198, rfl⟩
abbrev main_cst_46 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_cst_47 : Ref sig .tc := ⟨.hbm, 203, rfl⟩
abbrev main_v127 : Ref sig .tc := ⟨.hbm, 204, rfl⟩
abbrev main_v128 : Ref sig .tc := ⟨.hbm, 205, rfl⟩
abbrev main_v129 : Ref sig .tc := ⟨.hbm, 206, rfl⟩
abbrev main_cst_48 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_cst_49 : Ref sig .tc := ⟨.hbm, 211, rfl⟩
abbrev main_v133 : Ref sig .tc := ⟨.hbm, 212, rfl⟩
abbrev main_v134 : Ref sig .tc := ⟨.hbm, 213, rfl⟩
abbrev main_cst_50 : Ref sig .tc := ⟨.hbm, 214, rfl⟩
abbrev main_v135 : Ref sig .tc := ⟨.hbm, 215, rfl⟩
abbrev main_v136 : Ref sig .tc := ⟨.hbm, 216, rfl⟩
abbrev main_cst_51 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_cst_52 : Ref sig .tc := ⟨.hbm, 221, rfl⟩
abbrev main_v140 : Ref sig .tc := ⟨.hbm, 222, rfl⟩
abbrev main_v141 : Ref sig .tc := ⟨.hbm, 223, rfl⟩
abbrev main_v142 : Ref sig .tc := ⟨.hbm, 224, rfl⟩
abbrev main_cst_53 : Ref sig .tc := ⟨.hbm, 225, rfl⟩
abbrev main_v143 : Ref sig .tc := ⟨.hbm, 226, rfl⟩
abbrev main_v144 : Ref sig .tc := ⟨.hbm, 227, rfl⟩
abbrev main_v145 : Ref sig .tc := ⟨.hbm, 228, rfl⟩
abbrev main_cst_54 : Ref sig .tc := ⟨.hbm, 229, rfl⟩
abbrev main_v146 : Ref sig .tc := ⟨.hbm, 230, rfl⟩
abbrev main_v147 : Ref sig .tc := ⟨.hbm, 231, rfl⟩
abbrev main_cst_55 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_cst_56 : Ref sig .tc := ⟨.hbm, 236, rfl⟩
abbrev main_v151 : Ref sig .tc := ⟨.hbm, 237, rfl⟩
abbrev main_v152 : Ref sig .tc := ⟨.hbm, 238, rfl⟩
abbrev main_v153 : Ref sig .tc := ⟨.hbm, 239, rfl⟩
abbrev main_cst_57 : Ref sig .tc := ⟨.hbm, 240, rfl⟩
abbrev main_v154 : Ref sig .tc := ⟨.hbm, 241, rfl⟩
abbrev main_v155 : Ref sig .tc := ⟨.hbm, 242, rfl⟩
abbrev main_v156 : Ref sig .tc := ⟨.hbm, 243, rfl⟩
abbrev main_cst_58 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_cst_59 : Ref sig .tc := ⟨.hbm, 248, rfl⟩
abbrev main_v160 : Ref sig .tc := ⟨.hbm, 249, rfl⟩
abbrev main_cst_60 : Ref sig .tc := ⟨.hbm, 250, rfl⟩
abbrev main_v161 : Ref sig .tc := ⟨.hbm, 251, rfl⟩
abbrev main_v162 : Ref sig .tc := ⟨.hbm, 252, rfl⟩
abbrev main_cst_61 : Ref sig .tc := ⟨.hbm, 253, rfl⟩
abbrev main_v163 : Ref sig .tc := ⟨.hbm, 254, rfl⟩
abbrev main_v164 : Ref sig .tc := ⟨.hbm, 255, rfl⟩
abbrev main_v165 : Ref sig .tc := ⟨.hbm, 256, rfl⟩
abbrev main_cst_62 : Ref sig .tc := ⟨.hbm, 257, rfl⟩
abbrev main_v166 : Ref sig .tc := ⟨.hbm, 258, rfl⟩
abbrev main_v167 : Ref sig .tc := ⟨.hbm, 259, rfl⟩
abbrev main_v168 : Ref sig .tc := ⟨.hbm, 260, rfl⟩
abbrev main_cst_63 : Ref sig .tc := ⟨.hbm, 261, rfl⟩
abbrev main_v169 : Ref sig .tc := ⟨.hbm, 262, rfl⟩
abbrev main_v170 : Ref sig .tc := ⟨.hbm, 263, rfl⟩
abbrev main_v171 : Ref sig .tc := ⟨.hbm, 264, rfl⟩
abbrev main_cst_64 : Ref sig .tc := ⟨.hbm, 265, rfl⟩
abbrev main_v172 : Ref sig .tc := ⟨.hbm, 266, rfl⟩
abbrev main_v173 : Ref sig .tc := ⟨.hbm, 267, rfl⟩
abbrev main_cst_65 : Ref sig .tc := ⟨.hbm, 268, rfl⟩
abbrev main_v174 : Ref sig .tc := ⟨.hbm, 269, rfl⟩
abbrev main_v175 : Ref sig .tc := ⟨.hbm, 270, rfl⟩
abbrev main_v176 : Ref sig .tc := ⟨.hbm, 271, rfl⟩
abbrev main_cst_66 : Ref sig .tc := ⟨.hbm, 272, rfl⟩
abbrev main_v177 : Ref sig .tc := ⟨.hbm, 273, rfl⟩
abbrev main_v178 : Ref sig .tc := ⟨.hbm, 274, rfl⟩
abbrev main_v179 : Ref sig .tc := ⟨.hbm, 275, rfl⟩
abbrev main_cst_67 : Ref sig .tc := ⟨.hbm, 276, rfl⟩
abbrev main_v180 : Ref sig .tc := ⟨.hbm, 277, rfl⟩
abbrev main_v181 : Ref sig .tc := ⟨.hbm, 278, rfl⟩
abbrev main_v182 : Ref sig .tc := ⟨.hbm, 279, rfl⟩
abbrev main_cst_68 : Ref sig .tc := ⟨.hbm, 280, rfl⟩
abbrev main_v183 : Ref sig .tc := ⟨.hbm, 281, rfl⟩
abbrev main_v184 : Ref sig .tc := ⟨.hbm, 282, rfl⟩

abbrev nD : Nat := 1
abbrev τ : Topo := Topo.v7x

variable {F : FTy → Type} [FloatOps F]
-- ==== State.lean ====
abbrev S8x32x64 : Shape := ⟨3, ![8, 32, 64]⟩
abbrev S8x1x32 : Shape := ⟨3, ![8, 1, 32]⟩
abbrev S8x512x64 : Shape := ⟨3, ![8, 512, 64]⟩
abbrev S8x16x32 : Shape := ⟨3, ![8, 16, 32]⟩
abbrev S32x64 : Shape := ⟨2, ![32, 64]⟩
abbrev S1x32 : Shape := ⟨2, ![1, 32]⟩
abbrev S32x64x16 : Shape := ⟨3, ![32, 64, 16]⟩
abbrev S32x16x64 : Shape := ⟨3, ![32, 16, 64]⟩
abbrev S32x16 : Shape := ⟨2, ![32, 16]⟩
abbrev S512x64 : Shape := ⟨2, ![512, 64]⟩
abbrev S16x32 : Shape := ⟨2, ![16, 32]⟩
abbrev S1x32x64 : Shape := ⟨3, ![1, 32, 64]⟩
abbrev S1x1x32 : Shape := ⟨3, ![1, 1, 32]⟩
abbrev S1x512x64 : Shape := ⟨3, ![1, 512, 64]⟩
abbrev S1x16x32 : Shape := ⟨3, ![1, 16, 32]⟩

abbrev nBuf : Space → Nat
  | .hbm => 113
  | .vmem => 64
  | .smem => 0
  | _ => 0

abbrev bufTy : (tb : Table) → Fin (tcTables nBuf tb) → BufTy
  | .hbm, ⟨0, _⟩ => ⟨S8x32x64, .f32⟩
  | .hbm, ⟨1, _⟩ => ⟨S8x32x64, .f32⟩
  | .hbm, ⟨2, _⟩ => ⟨S8x1x32, .f32⟩
  | .hbm, ⟨3, _⟩ => ⟨S8x512x64, .f32⟩
  | .hbm, ⟨4, _⟩ => ⟨S8x512x64, .f32⟩
  | .hbm, ⟨5, _⟩ => ⟨S8x512x64, .f32⟩
  | .hbm, ⟨6, _⟩ => ⟨S8x512x64, .f32⟩
  | .hbm, ⟨7, _⟩ => ⟨S8x16x32, .f32⟩
  | .hbm, ⟨8, _⟩ => ⟨S32x64, .f32⟩
  | .hbm, ⟨9, _⟩ => ⟨S32x64, .f32⟩
  | .hbm, ⟨10, _⟩ => ⟨S1x32, .f32⟩
  | .hbm, ⟨11, _⟩ => ⟨S32x64x16, .f32⟩
  | .hbm, ⟨12, _⟩ => ⟨S32x64x16, .f32⟩
  | .hbm, ⟨13, _⟩ => ⟨S32x16x64, .f32⟩
  | .hbm, ⟨14, _⟩ => ⟨S32x16x64, .f32⟩
  | .hbm, ⟨15, _⟩ => ⟨S32x16, .f32⟩
  | .hbm, ⟨16, _⟩ => ⟨S32x64, .f32⟩
  | .hbm, ⟨17, _⟩ => ⟨S32x64, .f32⟩
  | .hbm, ⟨18, _⟩ => ⟨S1x32, .f32⟩
  | .hbm, ⟨19, _⟩ => ⟨S32x64x16, .f32⟩
  | .hbm, ⟨20, _⟩ => ⟨S32x64x16, .f32⟩
  | .hbm, ⟨21, _⟩ => ⟨S32x16x64, .f32⟩
  | .hbm, ⟨22, _⟩ => ⟨S32x16x64, .f32⟩
  | .hbm, ⟨23, _⟩ => ⟨S32x16, .f32⟩
  | .hbm, ⟨24, _⟩ => ⟨S32x64, .f32⟩
  | .hbm, ⟨25, _⟩ => ⟨S32x64, .f32⟩
  | .hbm, ⟨26, _⟩ => ⟨S1x32, .f32⟩
  | .hbm, ⟨27, _⟩ => ⟨S32x64x16, .f32⟩
  | .hbm, ⟨28, _⟩ => ⟨S32x64x16, .f32⟩
  | .hbm, ⟨29, _⟩ => ⟨S32x16x64, .f32⟩
  | .hbm, ⟨30, _⟩ => ⟨S32x16x64, .f32⟩
  | .hbm, ⟨31, _⟩ => ⟨S32x16, .f32⟩
  | .hbm, ⟨32, _⟩ => ⟨S32x16x64, .f32⟩
  | .hbm, ⟨33, _⟩ => ⟨S512x64, .f32⟩
  | .hbm, ⟨34, _⟩ => ⟨S32x16x64, .f32⟩
  | .hbm, ⟨35, _⟩ => ⟨S512x64, .f32⟩
  | .hbm, ⟨36, _⟩ => ⟨S512x64, .f32⟩
  | .hbm, ⟨37, _⟩ => ⟨S512x64, .f32⟩
  | .hbm, ⟨38, _⟩ => ⟨S16x32, .f32⟩
  | .hbm, ⟨39, _⟩ => ⟨S32x16x64, .f32⟩
  | .hbm, ⟨40, _⟩ => ⟨S512x64, .f32⟩
  | .hbm, ⟨41, _⟩ => ⟨S32x16x64, .f32⟩
  | .hbm, ⟨42, _⟩ => ⟨S512x64, .f32⟩
  | .hbm, ⟨43, _⟩ => ⟨S512x64, .f32⟩
  | .hbm, ⟨44, _⟩ => ⟨S512x64, .f32⟩
  | .hbm, ⟨45, _⟩ => ⟨S16x32, .f32⟩
  | .hbm, ⟨46, _⟩ => ⟨S32x16x64, .f32⟩
  | .hbm, ⟨47, _⟩ => ⟨S512x64, .f32⟩
  | .hbm, ⟨48, _⟩ => ⟨S32x16x64, .f32⟩
  | .hbm, ⟨49, _⟩ => ⟨S512x64, .f32⟩
  | .hbm, ⟨50, _⟩ => ⟨S512x64, .f32⟩
  | .hbm, ⟨51, _⟩ => ⟨S512x64, .f32⟩
  | .hbm, ⟨52, _⟩ => ⟨S16x32, .f32⟩
  | .hbm, ⟨53, _⟩ => ⟨S32x64, .f32⟩
  | .hbm, ⟨54, _⟩ => ⟨S32x64, .f32⟩
  | .hbm, ⟨55, _⟩ => ⟨S32x64, .f32⟩
  | .hbm, ⟨56, _⟩ => ⟨S32x64, .f32⟩
  | .hbm, ⟨57, _⟩ => ⟨S32x64, .f32⟩
  | .hbm, ⟨58, _⟩ => ⟨S32x64, .f32⟩
  | .hbm, ⟨59, _⟩ => ⟨S32x64, .f32⟩
  | .hbm, ⟨60, _⟩ => ⟨S32x64, .f32⟩
  | .hbm, ⟨61, _⟩ => ⟨S1x32, .f32⟩
  | .hbm, ⟨62, _⟩ => ⟨S1x32, .f32⟩
  | .hbm, ⟨63, _⟩ => ⟨S1x32, .f32⟩
  | .hbm, ⟨64, _⟩ => ⟨S1x32, .f32⟩
  | .hbm, ⟨65, _⟩ => ⟨S512x64, .f32⟩
  | .hbm, ⟨66, _⟩ => ⟨S512x64, .f32⟩
  | .hbm, ⟨67, _⟩ => ⟨S512x64, .f32⟩
  | .hbm, ⟨68, _⟩ => ⟨S512x64, .f32⟩
  | .hbm, ⟨69, _⟩ => ⟨S512x64, .f32⟩
  | .hbm, ⟨70, _⟩ => ⟨S512x64, .f32⟩
  | .hbm, ⟨71, _⟩ => ⟨S512x64, .f32⟩
  | .hbm, ⟨72, _⟩ => ⟨S512x64, .f32⟩
  | .hbm, ⟨73, _⟩ => ⟨S512x64, .f32⟩
  | .hbm, ⟨74, _⟩ => ⟨S512x64, .f32⟩
  | .hbm, ⟨75, _⟩ => ⟨S512x64, .f32⟩
  | .hbm, ⟨76, _⟩ => ⟨S512x64, .f32⟩
  | .hbm, ⟨77, _⟩ => ⟨S512x64, .f32⟩
  | .hbm, ⟨78, _⟩ => ⟨S512x64, .f32⟩
  | .hbm, ⟨79, _⟩ => ⟨S512x64, .f32⟩
  | .hbm, ⟨80, _⟩ => ⟨S512x64, .f32⟩
  | .hbm, ⟨81, _⟩ => ⟨S16x32, .f32⟩
  | .hbm, ⟨82, _⟩ => ⟨S16x32, .f32⟩
  | .hbm, ⟨83, _⟩ => ⟨S16x32, .f32⟩
  | .hbm, ⟨84, _⟩ => ⟨S16x32, .f32⟩
  | .hbm, ⟨85, _⟩ => ⟨S32x16x64, .f32⟩
  | .hbm, ⟨86, _⟩ => ⟨S32x64x16, .f32⟩
  | .hbm, ⟨87, _⟩ => ⟨S32x16x64, .f32⟩
  | .hbm, ⟨88, _⟩ => ⟨S32x64x16, .f32⟩
  | .hbm, ⟨89, _⟩ => ⟨S32x16x64, .f32⟩
  | .hbm, ⟨90, _⟩ => ⟨S32x64x16, .f32⟩
  | .hbm, ⟨91, _⟩ => ⟨S32x16x64, .f32⟩
  | .hbm, ⟨92, _⟩ => ⟨S32x64x16, .f32⟩
  | .hbm, ⟨93, _⟩ => ⟨S32x16x64, .f32⟩
  | .hbm, ⟨94, _⟩ => ⟨S32x64x16, .f32⟩
  | .hbm, ⟨95, _⟩ => ⟨S32x16x64, .f32⟩
  | .hbm, ⟨96, _⟩ => ⟨S32x64x16, .f32⟩
  | .hbm, ⟨97, _⟩ => ⟨S32x16x64, .f32⟩
  | .hbm, ⟨98, _⟩ => ⟨S32x64x16, .f32⟩
  | .hbm, ⟨99, _⟩ => ⟨S32x16x64, .f32⟩
  | .hbm, ⟨100, _⟩ => ⟨S32x64x16, .f32⟩
  | .hbm, ⟨101, _⟩ => ⟨S32x16x64, .f32⟩
  | .hbm, ⟨102, _⟩ => ⟨S32x16x64, .f32⟩
  | .hbm, ⟨103, _⟩ => ⟨S32x16x64, .f32⟩
  | .hbm, ⟨104, _⟩ => ⟨S32x16x64, .f32⟩
  | .hbm, ⟨105, _⟩ => ⟨S32x16x64, .f32⟩
  | .hbm, ⟨106, _⟩ => ⟨S32x16x64, .f32⟩
  | .hbm, ⟨107, _⟩ => ⟨S32x16x64, .f32⟩
  | .hbm, ⟨108, _⟩ => ⟨S32x16x64, .f32⟩
  | .hbm, ⟨109, _⟩ => ⟨S32x16, .f32⟩
  | .hbm, ⟨110, _⟩ => ⟨S32x16, .f32⟩
  | .hbm, ⟨111, _⟩ => ⟨S32x16, .f32⟩
  | .hbm, ⟨112, _⟩ => ⟨S32x16, .f32⟩
  | .local _ .vmem, ⟨0, _⟩ => ⟨S8x32x64, .f32⟩
  | .local _ .vmem, ⟨1, _⟩ => ⟨S8x32x64, .f32⟩
  | .local _ .vmem, ⟨2, _⟩ => ⟨S32x64, .f32⟩
  | .local _ .vmem, ⟨3, _⟩ => ⟨S32x64, .f32⟩
  | .local _ .vmem, ⟨4, _⟩ => ⟨S32x64, .f32⟩
  | .local _ .vmem, ⟨5, _⟩ => ⟨S32x64, .f32⟩
  | .local _ .vmem, ⟨6, _⟩ => ⟨S32x64, .f32⟩
  | .local _ .vmem, ⟨7, _⟩ => ⟨S32x64, .f32⟩
  | .local _ .vmem, ⟨8, _⟩ => ⟨S32x64, .f32⟩
  | .local _ .vmem, ⟨9, _⟩ => ⟨S32x64, .f32⟩
  | .local _ .vmem, ⟨10, _⟩ => ⟨S32x64, .f32⟩
  | .local _ .vmem, ⟨11, _⟩ => ⟨S32x64, .f32⟩
  | .local _ .vmem, ⟨12, _⟩ => ⟨S32x64, .f32⟩
  | .local _ .vmem, ⟨13, _⟩ => ⟨S32x64, .f32⟩
  | .local _ .vmem, ⟨14, _⟩ => ⟨S32x64, .f32⟩
  | .local _ .vmem, ⟨15, _⟩ => ⟨S32x64, .f32⟩
  | .local _ .vmem, ⟨16, _⟩ => ⟨S8x1x32, .f32⟩
  | .local _ .vmem, ⟨17, _⟩ => ⟨S8x512x64, .f32⟩
  | .local _ .vmem, ⟨18, _⟩ => ⟨S1x32, .f32⟩
  | .local _ .vmem, ⟨19, _⟩ => ⟨S512x64, .f32⟩
  | .local _ .vmem, ⟨20, _⟩ => ⟨S1x32, .f32⟩
  | .local _ .vmem, ⟨21, _⟩ => ⟨S512x64, .f32⟩
  | .local _ .vmem, ⟨22, _⟩ => ⟨S1x32, .f32⟩
  | .local _ .vmem, ⟨23, _⟩ => ⟨S512x64, .f32⟩
  | .local _ .vmem, ⟨24, _⟩ => ⟨S1x32, .f32⟩
  | .local _ .vmem, ⟨25, _⟩ => ⟨S1x32, .f32⟩
  | .local _ .vmem, ⟨26, _⟩ => ⟨S1x32, .f32⟩
  | .local _ .vmem, ⟨27, _⟩ => ⟨S1x32, .f32⟩
  | .local _ .vmem, ⟨28, _⟩ => ⟨S512x64, .f32⟩
  | .local _ .vmem, ⟨29, _⟩ => ⟨S512x64, .f32⟩
  | .local _ .vmem, ⟨30, _⟩ => ⟨S512x64, .f32⟩
  | .local _ .vmem, ⟨31, _⟩ => ⟨S512x64, .f32⟩
  | .local _ .vmem, ⟨32, _⟩ => ⟨S8x512x64, .f32⟩
  | .local _ .vmem, ⟨33, _⟩ => ⟨S8x512x64, .f32⟩
  | .local _ .vmem, ⟨34, _⟩ => ⟨S512x64, .f32⟩
  | .local _ .vmem, ⟨35, _⟩ => ⟨S512x64, .f32⟩
  | .local _ .vmem, ⟨36, _⟩ => ⟨S512x64, .f32⟩
  | .local _ .vmem, ⟨37, _⟩ => ⟨S512x64, .f32⟩
  | .local _ .vmem, ⟨38, _⟩ => ⟨S512x64, .f32⟩
  | .local _ .vmem, ⟨39, _⟩ => ⟨S512x64, .f32⟩
  | .local _ .vmem, ⟨40, _⟩ => ⟨S512x64, .f32⟩
  | .local _ .vmem, ⟨41, _⟩ => ⟨S512x64, .f32⟩
  | .local _ .vmem, ⟨42, _⟩ => ⟨S512x64, .f32⟩
  | .local _ .vmem, ⟨43, _⟩ => ⟨S512x64, .f32⟩
  | .local _ .vmem, ⟨44, _⟩ => ⟨S512x64, .f32⟩
  | .local _ .vmem, ⟨45, _⟩ => ⟨S512x64, .f32⟩
  | .local _ .vmem, ⟨46, _⟩ => ⟨S512x64, .f32⟩
  | .local _ .vmem, ⟨47, _⟩ => ⟨S512x64, .f32⟩
  | .local _ .vmem, ⟨48, _⟩ => ⟨S8x512x64, .f32⟩
  | .local _ .vmem, ⟨49, _⟩ => ⟨S8x16x32, .f32⟩
  | .local _ .vmem, ⟨50, _⟩ => ⟨S512x64, .f32⟩
  | .local _ .vmem, ⟨51, _⟩ => ⟨S16x32, .f32⟩
  | .local _ .vmem, ⟨52, _⟩ => ⟨S512x64, .f32⟩
  | .local _ .vmem, ⟨53, _⟩ => ⟨S16x32, .f32⟩
  | .local _ .vmem, ⟨54, _⟩ => ⟨S512x64, .f32⟩
  | .local _ .vmem, ⟨55, _⟩ => ⟨S16x32, .f32⟩
  | .local _ .vmem, ⟨56, _⟩ => ⟨S512x64, .f32⟩
  | .local _ .vmem, ⟨57, _⟩ => ⟨S512x64, .f32⟩
  | .local _ .vmem, ⟨58, _⟩ => ⟨S512x64, .f32⟩
  | .local _ .vmem, ⟨59, _⟩ => ⟨S512x64, .f32⟩
  | .local _ .vmem, ⟨60, _⟩ => ⟨S16x32, .f32⟩
  | .local _ .vmem, ⟨61, _⟩ => ⟨S16x32, .f32⟩
  | .local _ .vmem, ⟨62, _⟩ => ⟨S16x32, .f32⟩
  | .local _ .vmem, ⟨63, _⟩ => ⟨S16x32, .f32⟩
  | _, _ => ⟨S8x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21_0 : Ref sig .tc := ⟨.hbm, 53, rfl⟩
abbrev main_v21_1 : Ref sig .tc := ⟨.hbm, 54, rfl⟩
abbrev main_v21_2 : Ref sig .tc := ⟨.hbm, 55, rfl⟩
abbrev main_v21_3 : Ref sig .tc := ⟨.hbm, 56, rfl⟩
abbrev main_v21_4 : Ref sig .tc := ⟨.hbm, 57, rfl⟩
abbrev main_v21_5 : Ref sig .tc := ⟨.hbm, 58, rfl⟩
abbrev main_v21_6 : Ref sig .tc := ⟨.hbm, 59, rfl⟩
abbrev main_v21_7 : Ref sig .tc := ⟨.hbm, 60, rfl⟩
abbrev main_v22_0 : Ref sig .tc := ⟨.hbm, 61, rfl⟩
abbrev main_v22_1 : Ref sig .tc := ⟨.hbm, 62, rfl⟩
abbrev main_v22_2 : Ref sig .tc := ⟨.hbm, 63, rfl⟩
abbrev main_v22_3 : Ref sig .tc := ⟨.hbm, 64, rfl⟩
abbrev main_v22_4 : Ref sig .tc := ⟨.hbm, 65, rfl⟩
abbrev main_v22_5 : Ref sig .tc := ⟨.hbm, 66, rfl⟩
abbrev main_v22_6 : Ref sig .tc := ⟨.hbm, 67, rfl⟩
abbrev main_v22_7 : Ref sig .tc := ⟨.hbm, 68, rfl⟩
abbrev main_v23_0 : Ref sig .tc := ⟨.hbm, 69, rfl⟩
abbrev main_v23_1 : Ref sig .tc := ⟨.hbm, 70, rfl⟩
abbrev main_v23_2 : Ref sig .tc := ⟨.hbm, 71, rfl⟩
abbrev main_v23_3 : Ref sig .tc := ⟨.hbm, 72, rfl⟩
abbrev main_v23_4 : Ref sig .tc := ⟨.hbm, 73, rfl⟩
abbrev main_v23_5 : Ref sig .tc := ⟨.hbm, 74, rfl⟩
abbrev main_v23_6 : Ref sig .tc := ⟨.hbm, 75, rfl⟩
abbrev main_v23_7 : Ref sig .tc := ⟨.hbm, 76, rfl⟩
abbrev main_v24_0 : Ref sig .tc := ⟨.hbm, 77, rfl⟩
abbrev main_v24_1 : Ref sig .tc := ⟨.hbm, 78, rfl⟩
abbrev main_v24_2 : Ref sig .tc := ⟨.hbm, 79, rfl⟩
abbrev main_v24_3 : Ref sig .tc := ⟨.hbm, 80, rfl⟩
abbrev main_v24_4 : Ref sig .tc := ⟨.hbm, 81, rfl⟩
abbrev main_v24_5 : Ref sig .tc := ⟨.hbm, 82, rfl⟩
abbrev main_v24_6 : Ref sig .tc := ⟨.hbm, 83, rfl⟩
abbrev main_v24_7 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg11_0 : Ref sig .tc := ⟨.vmem, 27, rfl⟩
abbrev cc1_stg12_0 : Ref sig .tc := ⟨.vmem, 28, rfl⟩
abbrev cc1_stg13_0 : Ref sig .tc := ⟨.vmem, 29, rfl⟩
abbrev cc1_stg14_0 : Ref sig .tc := ⟨.vmem, 30, rfl⟩
abbrev cc1_stg15_0 : Ref sig .tc := ⟨.vmem, 31, rfl⟩
abbrev cc2_stg0_0 : Ref sig .tc := ⟨.vmem, 32, rfl⟩
abbrev cc2_stg1_0 : Ref sig .tc := ⟨.vmem, 33, rfl⟩
abbrev cc2_stg2_0 : Ref sig .tc := ⟨.vmem, 34, rfl⟩
abbrev cc2_stg3_0 : Ref sig .tc := ⟨.vmem, 35, rfl⟩
abbrev cc2_stg4_0 : Ref sig .tc := ⟨.vmem, 36, rfl⟩
abbrev cc2_stg5_0 : Ref sig .tc := ⟨.vmem, 37, rfl⟩
abbrev cc2_stg6_0 : Ref sig .tc := ⟨.vmem, 38, rfl⟩
abbrev cc2_stg7_0 : Ref sig .tc := ⟨.vmem, 39, rfl⟩
abbrev cc2_stg8_0 : Ref sig .tc := ⟨.vmem, 40, rfl⟩
abbrev cc2_stg9_0 : Ref sig .tc := ⟨.vmem, 41, rfl⟩
abbrev cc2_stg10_0 : Ref sig .tc := ⟨.vmem, 42, rfl⟩
abbrev cc2_stg11_0 : Ref sig .tc := ⟨.vmem, 43, rfl⟩
abbrev cc2_stg12_0 : Ref sig .tc := ⟨.vmem, 44, rfl⟩
abbrev cc2_stg13_0 : Ref sig .tc := ⟨.vmem, 45, rfl⟩
abbrev cc2_stg14_0 : Ref sig .tc := ⟨.vmem, 46, rfl⟩
abbrev cc2_stg15_0 : Ref sig .tc := ⟨.vmem, 47, rfl⟩
abbrev cc3_stg0_0 : Ref sig .tc := ⟨.vmem, 48, rfl⟩
abbrev cc3_stg1_0 : Ref sig .tc := ⟨.vmem, 49, rfl⟩
abbrev cc3_stg2_0 : Ref sig .tc := ⟨.vmem, 50, rfl⟩
abbrev cc3_stg3_0 : Ref sig .tc := ⟨.vmem, 51, rfl⟩
abbrev cc3_stg4_0 : Ref sig .tc := ⟨.vmem, 52, rfl⟩
abbrev cc3_stg5_0 : Ref sig .tc := ⟨.vmem, 53, rfl⟩
abbrev cc3_stg6_0 : Ref sig .tc := ⟨.vmem, 54, rfl⟩
abbrev cc3_stg7_0 : Ref sig .tc := ⟨.vmem, 55, rfl⟩
abbrev cc3_stg8_0 : Ref sig .tc := ⟨.vmem, 56, rfl⟩
abbrev cc3_stg9_0 : Ref sig .tc := ⟨.vmem, 57, rfl⟩
abbrev cc3_stg10_0 : Ref sig .tc := ⟨.vmem, 58, rfl⟩
abbrev cc3_stg11_0 : Ref sig .tc := ⟨.vmem, 59, rfl⟩
abbrev cc3_stg12_0 : Ref sig .tc := ⟨.vmem, 60, rfl⟩
abbrev cc3_stg13_0 : Ref sig .tc := ⟨.vmem, 61, rfl⟩
abbrev cc3_stg14_0 : Ref sig .tc := ⟨.vmem, 62, rfl⟩
abbrev cc3_stg15_0 : Ref sig .tc := ⟨.vmem, 63, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc1_sem0_0 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem11_0 : DmaSem sig := 27
abbrev cc1_sem12_0 : DmaSem sig := 28
abbrev cc1_sem13_0 : DmaSem sig := 29
abbrev cc1_sem14_0 : DmaSem sig := 30
abbrev cc1_sem15_0 : DmaSem sig := 31
abbrev cc2_sem0_0 : DmaSem sig := 32
abbrev cc2_sem1_0 : DmaSem sig := 33
abbrev cc2_sem2_0 : DmaSem sig := 34
abbrev cc2_sem3_0 : DmaSem sig := 35
abbrev cc2_sem4_0 : DmaSem sig := 36
abbrev cc2_sem5_0 : DmaSem sig := 37
abbrev cc2_sem6_0 : DmaSem sig := 38
abbrev cc2_sem7_0 : DmaSem sig := 39
abbrev cc2_sem8_0 : DmaSem sig := 40
abbrev cc2_sem9_0 : DmaSem sig := 41
abbrev cc2_sem10_0 : DmaSem sig := 42
abbrev cc2_sem11_0 : DmaSem sig := 43
abbrev cc2_sem12_0 : DmaSem sig := 44
abbrev cc2_sem13_0 : DmaSem sig := 45
abbrev cc2_sem14_0 : DmaSem sig := 46
abbrev cc2_sem15_0 : DmaSem sig := 47
abbrev cc3_sem0_0 : DmaSem sig := 48
abbrev cc3_sem1_0 : DmaSem sig := 49
abbrev cc3_sem2_0 : DmaSem sig := 50
abbrev cc3_sem3_0 : DmaSem sig := 51
abbrev cc3_sem4_0 : DmaSem sig := 52
abbrev cc3_sem5_0 : DmaSem sig := 53
abbrev cc3_sem6_0 : DmaSem sig := 54
abbrev cc3_sem7_0 : DmaSem sig := 55
abbrev cc3_sem8_0 : DmaSem sig := 56
abbrev cc3_sem9_0 : DmaSem sig := 57
abbrev cc3_sem10_0 : DmaSem sig := 58
abbrev cc3_sem11_0 : DmaSem sig := 59
abbrev cc3_sem12_0 : DmaSem sig := 60
abbrev cc3_sem13_0 : DmaSem sig := 61
abbrev cc3_sem14_0 : DmaSem sig := 62
abbrev cc3_sem15_0 : DmaSem sig := 63

abbrev nD : Nat := 1
abbrev τ : Topo := Topo.v7x

variable {F : FTy → Type} [FloatOps F]

abbrev grid0 : Pipeline.Grid := .none

abbrev stage0_0 : Fin 1 → Memref sig .tc .vmem S8x32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S32x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S32x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S32x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev grid1 : Pipeline.Grid := .none

abbrev stage1_0 : Fin 1 → Memref sig .tc .vmem S8x1x32 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x512x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S512x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S512x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S512x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S1x32 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S1x32 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S1x32 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S512x64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))

abbrev stage1_13 : Fin 1 → Memref sig .tc .vmem S512x64 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))

abbrev stage1_14 : Fin 1 → Memref sig .tc .vmem S512x64 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))

abbrev stage1_15 : Fin 1 → Memref sig .tc .vmem S512x64 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))

abbrev grid2 : Pipeline.Grid := .none

abbrev stage2_0 : Fin 1 → Memref sig .tc .vmem S8x512x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S8x512x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S512x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S512x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S512x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S512x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S512x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S512x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S512x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev stage2_9 : Fin 1 → Memref sig .tc .vmem S512x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))

abbrev stage2_10 : Fin 1 → Memref sig .tc .vmem S512x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))

abbrev stage2_11 : Fin 1 → Memref sig .tc .vmem S512x64 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))

abbrev stage2_12 : Fin 1 → Memref sig .tc .vmem S512x64 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))

abbrev stage2_13 : Fin 1 → Memref sig .tc .vmem S512x64 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))

abbrev stage2_14 : Fin 1 → Memref sig .tc .vmem S512x64 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))

abbrev stage2_15 : Fin 1 → Memref sig .tc .vmem S512x64 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))

abbrev grid3 : Pipeline.Grid := .none

abbrev stage3_0 : Fin 1 → Memref sig .tc .vmem S8x512x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S8x16x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S512x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S16x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S512x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S16x32 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))

abbrev stage3_6 : Fin 1 → Memref sig .tc .vmem S512x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))

abbrev stage3_7 : Fin 1 → Memref sig .tc .vmem S16x32 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))

abbrev stage3_8 : Fin 1 → Memref sig .tc .vmem S512x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))

abbrev stage3_9 : Fin 1 → Memref sig .tc .vmem S512x64 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))

abbrev stage3_10 : Fin 1 → Memref sig .tc .vmem S512x64 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))

abbrev stage3_11 : Fin 1 → Memref sig .tc .vmem S512x64 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))

abbrev stage3_12 : Fin 1 → Memref sig .tc .vmem S16x32 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))

abbrev stage3_13 : Fin 1 → Memref sig .tc .vmem S16x32 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))

abbrev stage3_14 : Fin 1 → Memref sig .tc .vmem S16x32 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))

abbrev stage3_15 : Fin 1 → Memref sig .tc .vmem S16x32 .f32 := fun | 0 => Memref.whole cc3_stg15_0 | ⟨_ + 1, h⟩ => absurd h (Nat.not_lt.2 (Nat.le_add_left _ _))
abbrev sem3_15 : Fin 1 → DmaSem sig := fun | 0 => cc3_sem15_0 | ⟨_ + 1, h⟩ => absurd h (Nat.not_lt.2 (Nat.le_add_left _ _))
-- ==== StateRefIdeal.lean ====
abbrev S8x32x64 : Shape := ⟨3, ![8, 32, 64]⟩
abbrev S8x1x32 : Shape := ⟨3, ![8, 1, 32]⟩
abbrev S8x512x64 : Shape := ⟨3, ![8, 512, 64]⟩
abbrev S8x16x32 : Shape := ⟨3, ![8, 16, 32]⟩
abbrev S32x64 : Shape := ⟨2, ![32, 64]⟩
abbrev S1x32 : Shape := ⟨2, ![1, 32]⟩
abbrev S32x64x16 : Shape := ⟨3, ![32, 64, 16]⟩
abbrev S32x16x64 : Shape := ⟨3, ![32, 16, 64]⟩
abbrev S32x16 : Shape := ⟨2, ![32, 16]⟩
abbrev S_ : Shape := ⟨0, ![]⟩
abbrev S512x64 : Shape := ⟨2, ![512, 64]⟩
abbrev S16x32 : Shape := ⟨2, ![16, 32]⟩

abbrev nBuf : Space → Nat
  | .hbm => 319
  | .vmem => 0
  | .smem => 0
  | _ => 0

abbrev hbmTy0_0 (i : Nat) : BufTy := match i % 128 with
  | 0 => ⟨S8x32x64, .f32⟩
  | 1 => ⟨S8x32x64, .f32⟩
  | 2 => ⟨S8x1x32, .f32⟩
  | 3 => ⟨S8x512x64, .f32⟩
  | 4 => ⟨S8x512x64, .f32⟩
  | 5 => ⟨S8x512x64, .f32⟩
  | 6 => ⟨S8x512x64, .f32⟩
  | 7 => ⟨S8x16x32, .f32⟩
  | 8 => ⟨S32x64, .f32⟩
  | 9 => ⟨S32x64, .f32⟩
  | 10 => ⟨S1x32, .f32⟩
  | 11 => ⟨S32x64x16, .f32⟩
  | 12 => ⟨S32x64x16, .f32⟩
  | 13 => ⟨S32x16x64, .f32⟩
  | 14 => ⟨S32x16x64, .f32⟩
  | 15 => ⟨S32x16, .f32⟩
  | 16 => ⟨S32x64, .f32⟩
  | 17 => ⟨S32x64, .f32⟩
  | 18 => ⟨S1x32, .f32⟩
  | 19 => ⟨S32x64x16, .f32⟩
  | 20 => ⟨S32x64x16, .f32⟩
  | 21 => ⟨S32x16x64, .f32⟩
  | 22 => ⟨S32x16x64, .f32⟩
  | 23 => ⟨S32x16, .f32⟩
  | 24 => ⟨S32x64, .f32⟩
  | 25 => ⟨S32x64, .f32⟩
  | 26 => ⟨S1x32, .f32⟩
  | 27 => ⟨S32x64x16, .f32⟩
  | 28 => ⟨S32x64x16, .f32⟩
  | 29 => ⟨S32x16x64, .f32⟩
  | 30 => ⟨S32x16x64, .f32⟩
  | 31 => ⟨S32x16, .f32⟩
  | 32 => ⟨S_, .f32⟩
  | 33 => ⟨S32x64, .f32⟩
  | 34 => ⟨S_, .f32⟩
  | 35 => ⟨S32x64, .f32⟩
  | 36 => ⟨S32x64, .f32⟩
  | 37 => ⟨S_, .f32⟩
  | 38 => ⟨S32x64, .f32⟩
  | 39 => ⟨S32x64, .f32⟩
  | 40 => ⟨S32x64, .f32⟩
  | 41 => ⟨S_, .f32⟩
  | 42 => ⟨S32x64, .f32⟩
  | 43 => ⟨S32x64, .f32⟩
  | 44 => ⟨S32x64, .f32⟩
  | 45 => ⟨S_, .f32⟩
  | 46 => ⟨S32x64, .f32⟩
  | 47 => ⟨S32x64, .f32⟩
  | 48 => ⟨S32x64, .f32⟩
  | 49 => ⟨S_, .f32⟩
  | 50 => ⟨S32x64, .f32⟩
  | 51 => ⟨S32x64, .f32⟩
  | 52 => ⟨S_, .f32⟩
  | 53 => ⟨S32x64, .f32⟩
  | 54 => ⟨S32x64, .f32⟩
  | 55 => ⟨S32x64, .f32⟩
  | 56 => ⟨S_, .f32⟩
  | 57 => ⟨S32x64, .f32⟩
  | 58 => ⟨S32x64, .f32⟩
  | 59 => ⟨S32x64, .f32⟩
  | 60 => ⟨S_, .f32⟩
  | 61 => ⟨S32x64, .f32⟩
  | 62 => ⟨S32x64, .f32⟩
  | 63 => ⟨S32x64, .f32⟩
  | 64 => ⟨S_, .f32⟩
  | 65 => ⟨S32x64, .f32⟩
  | 66 => ⟨S32x64, .f32⟩
  | 67 => ⟨S_, .f32⟩
  | 68 => ⟨S32x64, .f32⟩
  | 69 => ⟨S_, .f32⟩
  | 70 => ⟨S32x64, .f32⟩
  | 71 => ⟨S32x64, .f32⟩
  | 72 => ⟨S_, .f32⟩
  | 73 => ⟨S32x64, .f32⟩
  | 74 => ⟨S32x64, .f32⟩
  | 75 => ⟨S32x64, .f32⟩
  | 76 => ⟨S_, .f32⟩
  | 77 => ⟨S32x64, .f32⟩
  | 78 => ⟨S32x64, .f32⟩
  | 79 => ⟨S32x64, .f32⟩
  | 80 => ⟨S_, .f32⟩
  | 81 => ⟨S32x64, .f32⟩
  | 82 => ⟨S32x64, .f32⟩
  | 83 => ⟨S32x64, .f32⟩
  | 84 => ⟨S_, .f32⟩
  | 85 => ⟨S32x64, .f32⟩
  | 86 => ⟨S32x64, .f32⟩
  | 87 => ⟨S_, .f32⟩
  | 88 => ⟨S32x64, .f32⟩
  | 89 => ⟨S32x64, .f32⟩
  | 90 => ⟨S32x64, .f32⟩
  | 91 => ⟨S_, .f32⟩
  | 92 => ⟨S32x64, .f32⟩
  | 93 => ⟨S32x64, .f32⟩
  | 94 => ⟨S32x64, .f32⟩
  | 95 => ⟨S_, .f32⟩
  | 96 => ⟨S32x64, .f32⟩
  | 97 => ⟨S32x64, .f32⟩
  | 98 => ⟨S32x64, .f32⟩
  | 99 => ⟨S_, .f32⟩
  | 100 => ⟨S32x64, .f32⟩
  | 101 => ⟨S32x64, .f32⟩
  | 102 => ⟨S_, .f32⟩
  | 103 => ⟨S1x32, .f32⟩
  | 104 => ⟨S_, .f32⟩
  | 105 => ⟨S1x32, .f32⟩
  | 106 => ⟨S1x32, .f32⟩
  | 107 => ⟨S_, .f32⟩
  | 108 => ⟨S1x32, .f32⟩
  | 109 => ⟨S1x32, .f32⟩
  | 110 => ⟨S1x32, .f32⟩
  | 111 => ⟨S_, .f32⟩
  | 112 => ⟨S1x32, .f32⟩
  | 113 => ⟨S1x32, .f32⟩
  | 114 => ⟨S1x32, .f32⟩
  | 115 => ⟨S_, .f32⟩
  | 116 => ⟨S1x32, .f32⟩
  | 117 => ⟨S1x32, .f32⟩
  | 118 => ⟨S1x32, .f32⟩
  | 119 => ⟨S_, .f32⟩
  | 120 => ⟨S1x32, .f32⟩
  | 121 => ⟨S1x32, .f32⟩
  | 122 => ⟨S_, .f32⟩
  | 123 => ⟨S1x32, .f32⟩
  | 124 => ⟨S1x32, .f32⟩
  | 125 => ⟨S1x32, .f32⟩
  | 126 => ⟨S_, .f32⟩
  | 127 => ⟨S1x32, .f32⟩
  | _ => ⟨S8x32x64, .f32⟩

abbrev hbmTy0_1 (i : Nat) : BufTy := match i % 128 with
  | 0 => ⟨S1x32, .f32⟩
  | 1 => ⟨S1x32, .f32⟩
  | 2 => ⟨S_, .f32⟩
  | 3 => ⟨S1x32, .f32⟩
  | 4 => ⟨S1x32, .f32⟩
  | 5 => ⟨S1x32, .f32⟩
  | 6 => ⟨S_, .f32⟩
  | 7 => ⟨S1x32, .f32⟩
  | 8 => ⟨S1x32, .f32⟩
  | 9 => ⟨S_, .f32⟩
  | 10 => ⟨S512x64, .f32⟩
  | 11 => ⟨S32x16x64, .f32⟩
  | 12 => ⟨S32x64x16, .f32⟩
  | 13 => ⟨S_, .f32⟩
  | 14 => ⟨S32x64x16, .f32⟩
  | 15 => ⟨S32x64x16, .f32⟩
  | 16 => ⟨S_, .f32⟩
  | 17 => ⟨S32x64x16, .f32⟩
  | 18 => ⟨S32x64x16, .f32⟩
  | 19 => ⟨S32x64x16, .f32⟩
  | 20 => ⟨S_, .f32⟩
  | 21 => ⟨S32x64x16, .f32⟩
  | 22 => ⟨S32x64x16, .f32⟩
  | 23 => ⟨S32x64x16, .f32⟩
  | 24 => ⟨S_, .f32⟩
  | 25 => ⟨S32x64x16, .f32⟩
  | 26 => ⟨S32x64x16, .f32⟩
  | 27 => ⟨S32x64x16, .f32⟩
  | 28 => ⟨S_, .f32⟩
  | 29 => ⟨S32x64x16, .f32⟩
  | 30 => ⟨S32x64x16, .f32⟩
  | 31 => ⟨S_, .f32⟩
  | 32 => ⟨S32x64x16, .f32⟩
  | 33 => ⟨S32x64x16, .f32⟩
  | 34 => ⟨S32x64x16, .f32⟩
  | 35 => ⟨S_, .f32⟩
  | 36 => ⟨S32x64x16, .f32⟩
  | 37 => ⟨S32x64x16, .f32⟩
  | 38 => ⟨S32x64x16, .f32⟩
  | 39 => ⟨S_, .f32⟩
  | 40 => ⟨S32x64x16, .f32⟩
  | 41 => ⟨S32x64x16, .f32⟩
  | 42 => ⟨S32x64x16, .f32⟩
  | 43 => ⟨S_, .f32⟩
  | 44 => ⟨S32x64x16, .f32⟩
  | 45 => ⟨S32x64x16, .f32⟩
  | 46 => ⟨S_, .f32⟩
  | 47 => ⟨S512x64, .f32⟩
  | 48 => ⟨S32x16x64, .f32⟩
  | 49 => ⟨S32x64x16, .f32⟩
  | 50 => ⟨S_, .f32⟩
  | 51 => ⟨S32x64x16, .f32⟩
  | 52 => ⟨S32x64x16, .f32⟩
  | 53 => ⟨S_, .f32⟩
  | 54 => ⟨S32x64x16, .f32⟩
  | 55 => ⟨S32x64x16, .f32⟩
  | 56 => ⟨S32x64x16, .f32⟩
  | 57 => ⟨S_, .f32⟩
  | 58 => ⟨S32x64x16, .f32⟩
  | 59 => ⟨S32x64x16, .f32⟩
  | 60 => ⟨S32x64x16, .f32⟩
  | 61 => ⟨S_, .f32⟩
  | 62 => ⟨S32x64x16, .f32⟩
  | 63 => ⟨S32x64x16, .f32⟩
  | 64 => ⟨S32x64x16, .f32⟩
  | 65 => ⟨S_, .f32⟩
  | 66 => ⟨S32x64x16, .f32⟩
  | 67 => ⟨S32x64x16, .f32⟩
  | 68 => ⟨S_, .f32⟩
  | 69 => ⟨S32x64x16, .f32⟩
  | 70 => ⟨S32x64x16, .f32⟩
  | 71 => ⟨S32x64x16, .f32⟩
  | 72 => ⟨S_, .f32⟩
  | 73 => ⟨S32x64x16, .f32⟩
  | 74 => ⟨S32x64x16, .f32⟩
  | 75 => ⟨S32x64x16, .f32⟩
  | 76 => ⟨S_, .f32⟩
  | 77 => ⟨S32x64x16, .f32⟩
  | 78 => ⟨S32x64x16, .f32⟩
  | 79 => ⟨S32x64x16, .f32⟩
  | 80 => ⟨S_, .f32⟩
  | 81 => ⟨S32x64x16, .f32⟩
  | 82 => ⟨S32x64x16, .f32⟩
  | 83 => ⟨S_, .f32⟩
  | 84 => ⟨S512x64, .f32⟩
  | 85 => ⟨S32x16x64, .f32⟩
  | 86 => ⟨S_, .f32⟩
  | 87 => ⟨S32x16x64, .f32⟩
  | 88 => ⟨S32x16x64, .f32⟩
  | 89 => ⟨S_, .f32⟩
  | 90 => ⟨S32x16x64, .f32⟩
  | 91 => ⟨S32x16x64, .f32⟩
  | 92 => ⟨S32x16x64, .f32⟩
  | 93 => ⟨S_, .f32⟩
  | 94 => ⟨S32x16x64, .f32⟩
  | 95 => ⟨S32x16x64, .f32⟩
  | 96 => ⟨S32x16x64, .f32⟩
  | 97 => ⟨S_, .f32⟩
  | 98 => ⟨S32x16x64, .f32⟩
  | 99 => ⟨S32x16x64, .f32⟩
  | 100 => ⟨S32x16x64, .f32⟩
  | 101 => ⟨S_, .f32⟩
  | 102 => ⟨S32x16x64, .f32⟩
  | 103 => ⟨S32x16x64, .f32⟩
  | 104 => ⟨S_, .f32⟩
  | 105 => ⟨S32x16x64, .f32⟩
  | 106 => ⟨S32x16x64, .f32⟩
  | 107 => ⟨S32x16x64, .f32⟩
  | 108 => ⟨S_, .f32⟩
  | 109 => ⟨S32x16x64, .f32⟩
  | 110 => ⟨S32x16x64, .f32⟩
  | 111 => ⟨S32x16x64, .f32⟩
  | 112 => ⟨S_, .f32⟩
  | 113 => ⟨S32x16x64, .f32⟩
  | 114 => ⟨S32x16x64, .f32⟩
  | 115 => ⟨S32x16x64, .f32⟩
  | 116 => ⟨S_, .f32⟩
  | 117 => ⟨S32x16x64, .f32⟩
  | 118 => ⟨S32x16x64, .f32⟩
  | 119 => ⟨S_, .f32⟩
  | 120 => ⟨S512x64, .f32⟩
  | 121 => ⟨S32x16x64, .f32⟩
  | 122 => ⟨S_, .f32⟩
  | 123 => ⟨S32x16x64, .f32⟩
  | 124 => ⟨S32x16x64, .f32⟩
  | 125 => ⟨S_, .f32⟩
  | 126 => ⟨S32x16x64, .f32⟩
  | 127 => ⟨S32x16x64, .f32⟩
  | _ => ⟨S8x32x64, .f32⟩

abbrev hbmTy0_2 (i : Nat) : BufTy := match i % 128 with
  | 0 => ⟨S32x16x64, .f32⟩
  | 1 => ⟨S_, .f32⟩
  | 2 => ⟨S32x16x64, .f32⟩
  | 3 => ⟨S32x16x64, .f32⟩
  | 4 => ⟨S32x16x64, .f32⟩
  | 5 => ⟨S_, .f32⟩
  | 6 => ⟨S32x16x64, .f32⟩
  | 7 => ⟨S32x16x64, .f32⟩
  | 8 => ⟨S32x16x64, .f32⟩
  | 9 => ⟨S_, .f32⟩
  | 10 => ⟨S32x16x64, .f32⟩
  | 11 => ⟨S32x16x64, .f32⟩
  | 12 => ⟨S_, .f32⟩
  | 13 => ⟨S32x16x64, .f32⟩
  | 14 => ⟨S32x16x64, .f32⟩
  | 15 => ⟨S32x16x64, .f32⟩
  | 16 => ⟨S_, .f32⟩
  | 17 => ⟨S32x16x64, .f32⟩
  | 18 => ⟨S32x16x64, .f32⟩
  | 19 => ⟨S32x16x64, .f32⟩
  | 20 => ⟨S_, .f32⟩
  | 21 => ⟨S32x16x64, .f32⟩
  | 22 => ⟨S32x16x64, .f32⟩
  | 23 => ⟨S32x16x64, .f32⟩
  | 24 => ⟨S_, .f32⟩
  | 25 => ⟨S32x16x64, .f32⟩
  | 26 => ⟨S32x16x64, .f32⟩
  | 27 => ⟨S_, .f32⟩
  | 28 => ⟨S16x32, .f32⟩
  | 29 => ⟨S32x16, .f32⟩
  | 30 => ⟨S_, .f32⟩
  | 31 => ⟨S32x16, .f32⟩
  | 32 => ⟨S32x16, .f32⟩
  | 33 => ⟨S_, .f32⟩
  | 34 => ⟨S32x16, .f32⟩
  | 35 => ⟨S32x16, .f32⟩
  | 36 => ⟨S32x16, .f32⟩
  | 37 => ⟨S_, .f32⟩
  | 38 => ⟨S32x16, .f32⟩
  | 39 => ⟨S32x16, .f32⟩
  | 40 => ⟨S32x16, .f32⟩
  | 41 => ⟨S_, .f32⟩
  | 42 => ⟨S32x16, .f32⟩
  | 43 => ⟨S32x16, .f32⟩
  | 44 => ⟨S32x16, .f32⟩
  | 45 => ⟨S_, .f32⟩
  | 46 => ⟨S32x16, .f32⟩
  | 47 => ⟨S32x16, .f32⟩
  | 48 => ⟨S_, .f32⟩
  | 49 => ⟨S32x16, .f32⟩
  | 50 => ⟨S32x16, .f32⟩
  | 51 => ⟨S32x16, .f32⟩
  | 52 => ⟨S_, .f32⟩
  | 53 => ⟨S32x16, .f32⟩
  | 54 => ⟨S32x16, .f32⟩
  | 55 => ⟨S32x16, .f32⟩
  | 56 => ⟨S_, .f32⟩
  | 57 => ⟨S32x16, .f32⟩
  | 58 => ⟨S32x16, .f32⟩
  | 59 => ⟨S32x16, .f32⟩
  | 60 => ⟨S_, .f32⟩
  | 61 => ⟨S32x16, .f32⟩
  | 62 => ⟨S32x16, .f32⟩
  | _ => ⟨S8x32x64, .f32⟩

abbrev hbmTy (i : Nat) : BufTy := match i / 128 with
  | 0 => hbmTy0_0 i
  | 1 => hbmTy0_1 i
  | 2 => hbmTy0_2 i
  | _ => ⟨S8x32x64, .f32⟩

abbrev bufTy : (tb : Table) → Fin (tcTables nBuf tb) → BufTy
  | .hbm, ⟨i, _⟩ => hbmTy i
  | _, _ => ⟨S8x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_cst : Ref sig .tc := ⟨.hbm, 32, rfl⟩
abbrev main_v0 : Ref sig .tc := ⟨.hbm, 33, rfl⟩
abbrev main_cst_0 : Ref sig .tc := ⟨.hbm, 34, rfl⟩
abbrev main_v1 : Ref sig .tc := ⟨.hbm, 35, rfl⟩
abbrev main_v2 : Ref sig .tc := ⟨.hbm, 36, rfl⟩
abbrev main_cst_1 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_cst_2 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_cst_3 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_cst_4 : Ref sig .tc := ⟨.hbm, 49, rfl⟩
abbrev main_v12 : Ref sig .tc := ⟨.hbm, 50, rfl⟩
abbrev main_v13 : Ref sig .tc := ⟨.hbm, 51, rfl⟩
abbrev main_cst_5 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_cst_6 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_cst_7 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_cst_8 : Ref sig .tc := ⟨.hbm, 64, rfl⟩
abbrev main_v23 : Ref sig .tc := ⟨.hbm, 65, rfl⟩
abbrev main_v24 : Ref sig .tc := ⟨.hbm, 66, rfl⟩
abbrev main_cst_9 : Ref sig .tc := ⟨.hbm, 67, rfl⟩
abbrev main_v25 : Ref sig .tc := ⟨.hbm, 68, rfl⟩
abbrev main_cst_10 : Ref sig .tc := ⟨.hbm, 69, rfl⟩
abbrev main_v26 : Ref sig .tc := ⟨.hbm, 70, rfl⟩
abbrev main_v27 : Ref sig .tc := ⟨.hbm, 71, rfl⟩
abbrev main_cst_11 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_cst_12 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_cst_13 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_cst_14 : Ref sig .tc := ⟨.hbm, 84, rfl⟩
abbrev main_v37 : Ref sig .tc := ⟨.hbm, 85, rfl⟩
abbrev main_v38 : Ref sig .tc := ⟨.hbm, 86, rfl⟩
abbrev main_cst_15 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_cst_16 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_cst_17 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_cst_18 : Ref sig .tc := ⟨.hbm, 99, rfl⟩
abbrev main_v48 : Ref sig .tc := ⟨.hbm, 100, rfl⟩
abbrev main_v49 : Ref sig .tc := ⟨.hbm, 101, rfl⟩
abbrev main_cst_19 : Ref sig .tc := ⟨.hbm, 102, rfl⟩
abbrev main_v50 : Ref sig .tc := ⟨.hbm, 103, rfl⟩
abbrev main_cst_20 : Ref sig .tc := ⟨.hbm, 104, rfl⟩
abbrev main_v51 : Ref sig .tc := ⟨.hbm, 105, rfl⟩
abbrev main_v52 : Ref sig .tc := ⟨.hbm, 106, rfl⟩
abbrev main_cst_21 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_cst_22 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_cst_23 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_cst_24 : Ref sig .tc := ⟨.hbm, 119, rfl⟩
abbrev main_v62 : Ref sig .tc := ⟨.hbm, 120, rfl⟩
abbrev main_v63 : Ref sig .tc := ⟨.hbm, 121, rfl⟩
abbrev main_cst_25 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_cst_26 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_cst_27 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_cst_28 : Ref sig .tc := ⟨.hbm, 134, rfl⟩
abbrev main_v73 : Ref sig .tc := ⟨.hbm, 135, rfl⟩
abbrev main_v74 : Ref sig .tc := ⟨.hbm, 136, rfl⟩
abbrev main_cst_29 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_cst_30 : Ref sig .tc := ⟨.hbm, 141, rfl⟩
abbrev main_v78 : Ref sig .tc := ⟨.hbm, 142, rfl⟩
abbrev main_v79 : Ref sig .tc := ⟨.hbm, 143, rfl⟩
abbrev main_cst_31 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_cst_32 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_cst_33 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_cst_34 : Ref sig .tc := ⟨.hbm, 156, rfl⟩
abbrev main_v89 : Ref sig .tc := ⟨.hbm, 157, rfl⟩
abbrev main_v90 : Ref sig .tc := ⟨.hbm, 158, rfl⟩
abbrev main_cst_35 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_cst_36 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_cst_37 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_cst_38 : Ref sig .tc := ⟨.hbm, 171, rfl⟩
abbrev main_v100 : Ref sig .tc := ⟨.hbm, 172, rfl⟩
abbrev main_v101 : Ref sig .tc := ⟨.hbm, 173, rfl⟩
abbrev main_cst_39 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_cst_40 : Ref sig .tc := ⟨.hbm, 178, rfl⟩
abbrev main_v105 : Ref sig .tc := ⟨.hbm, 179, rfl⟩
abbrev main_v106 : Ref sig .tc := ⟨.hbm, 180, rfl⟩
abbrev main_cst_41 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_cst_42 : Ref sig .tc := ⟨.hbm, 185, rfl⟩
abbrev main_v110 : Ref sig .tc := ⟨.hbm, 186, rfl⟩
abbrev main_v111 : Ref sig .tc := ⟨.hbm, 187, rfl⟩
abbrev main_v112 : Ref sig .tc := ⟨.hbm, 188, rfl⟩
abbrev main_cst_43 : Ref sig .tc := ⟨.hbm, 189, rfl⟩
abbrev main_v113 : Ref sig .tc := ⟨.hbm, 190, rfl⟩
abbrev main_v114 : Ref sig .tc := ⟨.hbm, 191, rfl⟩
abbrev main_v115 : Ref sig .tc := ⟨.hbm, 192, rfl⟩
abbrev main_cst_44 : Ref sig .tc := ⟨.hbm, 193, rfl⟩
abbrev main_v116 : Ref sig .tc := ⟨.hbm, 194, rfl⟩
abbrev main_v117 : Ref sig .tc := ⟨.hbm, 195, rfl⟩
abbrev main_cst_45 : Ref sig .tc := ⟨.hbm, 196, rfl⟩
abbrev main_v118 : Ref sig .tc := ⟨.hbm, 197, rfl⟩
abbrev main_v119 : Ref sig .tc := ⟨.hbm, 198, rfl⟩
abbrev main_v120 : Ref sig .tc := ⟨.hbm, 199, rfl⟩
abbrev main_cst_46 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_cst_47 : Ref sig .tc := ⟨.hbm, 204, rfl⟩
abbrev main_v124 : Ref sig .tc := ⟨.hbm, 205, rfl⟩
abbrev main_v125 : Ref sig .tc := ⟨.hbm, 206, rfl⟩
abbrev main_v126 : Ref sig .tc := ⟨.hbm, 207, rfl⟩
abbrev main_cst_48 : Ref sig .tc := ⟨.hbm, 208, rfl⟩
abbrev main_v127 : Ref sig .tc := ⟨.hbm, 209, rfl⟩
abbrev main_v128 : Ref sig .tc := ⟨.hbm, 210, rfl⟩
abbrev main_cst_49 : Ref sig .tc := ⟨.hbm, 211, rfl⟩
abbrev main_v129 : Ref sig .tc := ⟨.hbm, 212, rfl⟩
abbrev main_v130 : Ref sig .tc := ⟨.hbm, 213, rfl⟩
abbrev main_cst_50 : Ref sig .tc := ⟨.hbm, 214, rfl⟩
abbrev main_v131 : Ref sig .tc := ⟨.hbm, 215, rfl⟩
abbrev main_v132 : Ref sig .tc := ⟨.hbm, 216, rfl⟩
abbrev main_cst_51 : Ref sig .tc := ⟨.hbm, 217, rfl⟩
abbrev main_v133 : Ref sig .tc := ⟨.hbm, 218, rfl⟩
abbrev main_v134 : Ref sig .tc := ⟨.hbm, 219, rfl⟩
abbrev main_v135 : Ref sig .tc := ⟨.hbm, 220, rfl⟩
abbrev main_cst_52 : Ref sig .tc := ⟨.hbm, 221, rfl⟩
abbrev main_v136 : Ref sig .tc := ⟨.hbm, 222, rfl⟩
abbrev main_v137 : Ref sig .tc := ⟨.hbm, 223, rfl⟩
abbrev main_v138 : Ref sig .tc := ⟨.hbm, 224, rfl⟩
abbrev main_cst_53 : Ref sig .tc := ⟨.hbm, 225, rfl⟩
abbrev main_v139 : Ref sig .tc := ⟨.hbm, 226, rfl⟩
abbrev main_v140 : Ref sig .tc := ⟨.hbm, 227, rfl⟩
abbrev main_v141 : Ref sig .tc := ⟨.hbm, 228, rfl⟩
abbrev main_cst_54 : Ref sig .tc := ⟨.hbm, 229, rfl⟩
abbrev main_v142 : Ref sig .tc := ⟨.hbm, 230, rfl⟩
abbrev main_v143 : Ref sig .tc := ⟨.hbm, 231, rfl⟩
abbrev main_cst_55 : Ref sig .tc := ⟨.hbm, 232, rfl⟩
abbrev main_v144 : Ref sig .tc := ⟨.hbm, 233, rfl⟩
abbrev main_v145 : Ref sig .tc := ⟨.hbm, 234, rfl⟩
abbrev main_v146 : Ref sig .tc := ⟨.hbm, 235, rfl⟩
abbrev main_cst_56 : Ref sig .tc := ⟨.hbm, 236, rfl⟩
abbrev main_v147 : Ref sig .tc := ⟨.hbm, 237, rfl⟩
abbrev main_v148 : Ref sig .tc := ⟨.hbm, 238, rfl⟩
abbrev main_v149 : Ref sig .tc := ⟨.hbm, 239, rfl⟩
abbrev main_cst_57 : Ref sig .tc := ⟨.hbm, 240, rfl⟩
abbrev main_v150 : Ref sig .tc := ⟨.hbm, 241, rfl⟩
abbrev main_v151 : Ref sig .tc := ⟨.hbm, 242, rfl⟩
abbrev main_v152 : Ref sig .tc := ⟨.hbm, 243, rfl⟩
abbrev main_cst_58 : Ref sig .tc := ⟨.hbm, 244, rfl⟩
abbrev main_v153 : Ref sig .tc := ⟨.hbm, 245, rfl⟩
abbrev main_v154 : Ref sig .tc := ⟨.hbm, 246, rfl⟩
abbrev main_cst_59 : Ref sig .tc := ⟨.hbm, 247, rfl⟩
abbrev main_v155 : Ref sig .tc := ⟨.hbm, 248, rfl⟩
abbrev main_v156 : Ref sig .tc := ⟨.hbm, 249, rfl⟩
abbrev main_cst_60 : Ref sig .tc := ⟨.hbm, 250, rfl⟩
abbrev main_v157 : Ref sig .tc := ⟨.hbm, 251, rfl⟩
abbrev main_v158 : Ref sig .tc := ⟨.hbm, 252, rfl⟩
abbrev main_cst_61 : Ref sig .tc := ⟨.hbm, 253, rfl⟩
abbrev main_v159 : Ref sig .tc := ⟨.hbm, 254, rfl⟩
abbrev main_v160 : Ref sig .tc := ⟨.hbm, 255, rfl⟩
abbrev main_v161 : Ref sig .tc := ⟨.hbm, 256, rfl⟩
abbrev main_cst_62 : Ref sig .tc := ⟨.hbm, 257, rfl⟩
abbrev main_v162 : Ref sig .tc := ⟨.hbm, 258, rfl⟩
abbrev main_v163 : Ref sig .tc := ⟨.hbm, 259, rfl⟩
abbrev main_v164 : Ref sig .tc := ⟨.hbm, 260, rfl⟩
abbrev main_cst_63 : Ref sig .tc := ⟨.hbm, 261, rfl⟩
abbrev main_v165 : Ref sig .tc := ⟨.hbm, 262, rfl⟩
abbrev main_v166 : Ref sig .tc := ⟨.hbm, 263, rfl⟩
abbrev main_v167 : Ref sig .tc := ⟨.hbm, 264, rfl⟩
abbrev main_cst_64 : Ref sig .tc := ⟨.hbm, 265, rfl⟩
abbrev main_v168 : Ref sig .tc := ⟨.hbm, 266, rfl⟩
abbrev main_v169 : Ref sig .tc := ⟨.hbm, 267, rfl⟩
abbrev main_cst_65 : Ref sig .tc := ⟨.hbm, 268, rfl⟩
abbrev main_v170 : Ref sig .tc := ⟨.hbm, 269, rfl⟩
abbrev main_v171 : Ref sig .tc := ⟨.hbm, 270, rfl⟩
abbrev main_v172 : Ref sig .tc := ⟨.hbm, 271, rfl⟩
abbrev main_cst_66 : Ref sig .tc := ⟨.hbm, 272, rfl⟩
abbrev main_v173 : Ref sig .tc := ⟨.hbm, 273, rfl⟩
abbrev main_v174 : Ref sig .tc := ⟨.hbm, 274, rfl⟩
abbrev main_v175 : Ref sig .tc := ⟨.hbm, 275, rfl⟩
abbrev main_cst_67 : Ref sig .tc := ⟨.hbm, 276, rfl⟩
abbrev main_v176 : Ref sig .tc := ⟨.hbm, 277, rfl⟩
abbrev main_v177 : Ref sig .tc := ⟨.hbm, 278, rfl⟩
abbrev main_v178 : Ref sig .tc := ⟨.hbm, 279, rfl⟩
abbrev main_cst_68 : Ref sig .tc := ⟨.hbm, 280, rfl⟩
abbrev main_v179 : Ref sig .tc := ⟨.hbm, 281, rfl⟩
abbrev main_v180 : Ref sig .tc := ⟨.hbm, 282, rfl⟩
abbrev main_cst_69 : Ref sig .tc := ⟨.hbm, 283, rfl⟩
abbrev main_v181 : Ref sig .tc := ⟨.hbm, 284, rfl⟩
abbrev main_v182 : Ref sig .tc := ⟨.hbm, 285, rfl⟩
abbrev main_cst_70 : Ref sig .tc := ⟨.hbm, 286, rfl⟩
abbrev main_v183 : Ref sig .tc := ⟨.hbm, 287, rfl⟩
abbrev main_v184 : Ref sig .tc := ⟨.hbm, 288, rfl⟩
abbrev main_cst_71 : Ref sig .tc := ⟨.hbm, 289, rfl⟩
abbrev main_v185 : Ref sig .tc := ⟨.hbm, 290, rfl⟩
abbrev main_v186 : Ref sig .tc := ⟨.hbm, 291, rfl⟩
abbrev main_v187 : Ref sig .tc := ⟨.hbm, 292, rfl⟩
abbrev main_cst_72 : Ref sig .tc := ⟨.hbm, 293, rfl⟩
abbrev main_v188 : Ref sig .tc := ⟨.hbm, 294, rfl⟩
abbrev main_v189 : Ref sig .tc := ⟨.hbm, 295, rfl⟩
abbrev main_v190 : Ref sig .tc := ⟨.hbm, 296, rfl⟩
abbrev main_cst_73 : Ref sig .tc := ⟨.hbm, 297, rfl⟩
abbrev main_v191 : Ref sig .tc := ⟨.hbm, 298, rfl⟩
abbrev main_v192 : Ref sig .tc := ⟨.hbm, 299, rfl⟩
abbrev main_v193 : Ref sig .tc := ⟨.hbm, 300, rfl⟩
abbrev main_cst_74 : Ref sig .tc := ⟨.hbm, 301, rfl⟩
abbrev main_v194 : Ref sig .tc := ⟨.hbm, 302, rfl⟩
abbrev main_v195 : Ref sig .tc := ⟨.hbm, 303, rfl⟩
abbrev main_cst_75 : Ref sig .tc := ⟨.hbm, 304, rfl⟩
abbrev main_v196 : Ref sig .tc := ⟨.hbm, 305, rfl⟩
abbrev main_v197 : Ref sig .tc := ⟨.hbm, 306, rfl⟩
abbrev main_v198 : Ref sig .tc := ⟨.hbm, 307, rfl⟩
abbrev main_cst_76 : Ref sig .tc := ⟨.hbm, 308, rfl⟩
abbrev main_v199 : Ref sig .tc := ⟨.hbm, 309, rfl⟩
abbrev main_v200 : Ref sig .tc := ⟨.hbm, 310, rfl⟩
abbrev main_v201 : Ref sig .tc := ⟨.hbm, 311, rfl⟩
abbrev main_cst_77 : Ref sig .tc := ⟨.hbm, 312, rfl⟩
abbrev main_v202 : Ref sig .tc := ⟨.hbm, 313, rfl⟩
abbrev main_v203 : Ref sig .tc := ⟨.hbm, 314, rfl⟩
abbrev main_v204 : Ref sig .tc := ⟨.hbm, 315, rfl⟩
abbrev main_cst_78 : Ref sig .tc := ⟨.hbm, 316, rfl⟩
abbrev main_v205 : Ref sig .tc := ⟨.hbm, 317, rfl⟩
abbrev main_v206 : Ref sig .tc := ⟨.hbm, 318, rfl⟩

abbrev nD : Nat := 1
abbrev τ : Topo := Topo.v7x

variable {F : FTy → Type} [FloatOps F]
-- ==== Proof.Products.lean ====
/-
  The two dot products of the kernel bodies, read at one element of their result: rows against rows (`nt`: the forward
  products and the gradient at the activation) and columns against columns (`tn`: the weight gradients). On the
  extended reals each is one sum over the contracted axis.
-/
module

public import proofs.«01_k».proof.Proof.Gen.KernelIdeal
public import Idealize.ShloMosaic.Lib.ValueIdx
public import Idealize.ShloMosaic.PureOps.Ideal.Laws

@[expose] public section

set_option maxRecDepth 16384

noncomputable section

namespace Cert.Proof.Products

open Cert.KernelIdeal Cert.KernelIdeal.Gen Idealize.ShloMosaic Idealize.ShloMosaic.ValueIdx Idealize.ShloMosaic.Ideal

/-- Rows of `x` against rows of `w`, for any extents: `∑ k, x (i, k) · w (j, k)`. -/
def rows {n p q : Nat} (x : (⟨2, ![n, q]⟩ : Shape).Idx → EReal) (w : (⟨2, ![p, q]⟩ : Shape).Idx → EReal) :
    (⟨2, ![n, p]⟩ : Shape).Idx → EReal := fun i => ∑ k : Fin q, x (ix2 (i 0) k) * w (ix2 (i 1) k)

/-- Columns of `x` against columns of `w`, for any extents: `∑ k, x (k, i) · w (k, j)`. -/
def cols {n p q : Nat} (x : (⟨2, ![q, n]⟩ : Shape).Idx → EReal) (w : (⟨2, ![q, p]⟩ : Shape).Idx → EReal) :
    (⟨2, ![n, p]⟩ : Shape).Idx → EReal := fun i => ∑ k : Fin q, x (ix2 k (i 0)) * w (ix2 k (i 1))

/-- The body's product of a 512-row block of tokens with a 1408-row block of a weight. -/
theorem matmul_rows (x : FVec Ideal S512x1024 .bf16) (w : FVec Ideal S1408x1024 .bf16) :
    FloatOps.matmul dot_S512x1024_S1408x1024_S512x1408_1_1_0_0_n_n none x w (constant S512x1408 .f32 0x00000000#32)
      = rows x w := by
  funext j
  rw [matmul_constant_zero_apply,
    ← Equiv.sum_comp (contrEquiv1 dot_S512x1024_S1408x1024_S512x1408_1_1_0_0_n_n 1024 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

/-- The body's product over all tokens of a 1408-column block with a 512-column block. -/
theorem matmul_cols (x : FVec Ideal S4096x1408 .bf16) (w : FVec Ideal S4096x512 .bf16) :
    FloatOps.matmul dot_S4096x1408_S4096x512_S1408x512_0_0_1_1_n_n none x w (constant S1408x512 .f32 0x00000000#32)
      = cols x w := by
  funext j
  rw [matmul_constant_zero_apply,
    ← Equiv.sum_comp (contrEquiv1 dot_S4096x1408_S4096x512_S1408x512_0_0_1_1_n_n 4096 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

end Cert.Proof.Products

end
-- ==== Proof.In.lean ====
/-
  Region 0, the forward products: what its three output arrays hold when it is left, as functions of the arrays it
  finds. At point (i, j) the body multiplies block i of the tokens with block j of each weight; the blocks tile the
  arrays, so the arrays hold the whole products and the gated activation.
-/
module

public import proofs.«01_k».proof.Proof.Products
public import proofs.«01_k».proof.Proof.Gen.KernelIdeal.Frame
public import Idealize.ShloMosaic.Lib.Pipeline.Value

@[expose] public section

set_option maxRecDepth 16384

noncomputable section

namespace Cert.Proof.In

open Cert.KernelIdeal Cert.KernelIdeal.Gen Idealize.ShloMosaic Idealize.ShloMosaic.TcCoe Idealize.SL.Sem
open Idealize.ShloMosaic.ValueIdx Cert.Proof.Products
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The gated activation of two products at one element: `a · σ(a) · b`. -/
abbrev gated (a b : EReal) : EReal := a * Ideal.logistic a * b

/-! ## What the body computes from its blocks -/

theorem pay_a (x : FVec Ideal S512x1024 .bf16) (w : FVec Ideal S1408x1024 .bf16) :
    k0_pay4 (F := Ideal) x w = rows x w := by
  rw [← matmul_rows]; unfold k0_pay4 k0_pay2 k0_pay1; simp only [shapeCast_self]; rfl
theorem pay_b (x : FVec Ideal S512x1024 .bf16) (w : FVec Ideal S1408x1024 .bf16) :
    k0_pay5 (F := Ideal) x w = rows x w := by
  rw [← matmul_rows]; unfold k0_pay5 k0_pay3 k0_pay1; simp only [shapeCast_self]; rfl
theorem pay_act (x : FVec Ideal S512x1024 .bf16) (w u : FVec Ideal S1408x1024 .bf16) :
    k0_pay6 (F := Ideal) x w u = fun i => gated (rows x w i) (rows x u i) := by
  rw [← matmul_rows, ← matmul_rows]; unfold k0_pay6 k0_pay2 k0_pay3 k0_pay1; simp only [shapeCast_self]; rfl

/-! ## Where the blocks lie -/

theorem idx_in : ∀ t : Fin cfg0.N, win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = win0_3.index t (1 : Fin 2) ∧ win0_2.index t (1 : Fin 2) = 0 :=
  (by decide +kernel : ∀ t : Fin grid0.N, _)
theorem idx_out : ∀ t : Fin cfg0.N, win0_4.index t (0 : Fin 2) = win0_3.index t (0 : Fin 2)
    ∧ win0_4.index t (1 : Fin 2) = win0_3.index t (1 : Fin 2) ∧ win0_5.index t (0 : Fin 2) = win0_3.index t (0 : Fin 2)
    ∧ win0_5.index t (1 : Fin 2) = win0_3.index t (1 : Fin 2) :=
  (by decide +kernel : ∀ t : Fin grid0.N, _)
theorem idx_onto : ∀ (a : Fin 8) (b : Fin 2), ∃ t : Fin grid0.N, win0_3.index t (0 : Fin 2) = a.val ∧ win0_3.index t (1 : Fin 2) = b.val := by
  decide +kernel

/-- Every index of the arrays is in the block of some point: what `cover` asks of each output window. -/
theorem point_of (i : S4096x2816.Idx) : ∃ (t : Fin cfg0.N) (j : S512x1408.Idx),
    win0_3.index t (0 : Fin 2) * 512 + (j 0).val = (i 0).val ∧ win0_3.index t (1 : Fin 2) * 1408 + (j 1).val = (i 1).val := by
  have h0 : (i 0).val < 4096 := (i 0).isLt
  have h1 : (i 1).val < 2816 := (i 1).isLt
  obtain ⟨t, e0, e1⟩ := idx_onto ⟨(i 0).val / 512, by omega⟩ ⟨(i 1).val / 1408, by omega⟩
  refine ⟨t, ix2 ⟨(i 0).val % 512, by omega⟩ ⟨(i 1).val % 1408, by omega⟩, ?_, ?_⟩
  · show win0_3.index t (0 : Fin 2) * 512 + (i 0).val % 512 = _; rw [e0]; show (i 0).val / 512 * 512 + _ = _; omega
  · show win0_3.index t (1 : Fin 2) * 1408 + (i 1).val % 1408 = _; rw [e1]; show (i 1).val / 1408 * 1408 + _ = _; omega

/-- The token block's row of an output block's element is the array's row of that element. -/
theorem tok (c : Dev nD) (t : Fin cfg0.N) (j : S512x1408.Idx) (k : Fin 1024) (i : S4096x2816.Idx)
    (h : win0_3.index t (0 : Fin 2) * 512 + (j 0).val = (i 0).val) :
    iblk0 V c 0 t (ix2 (j 0) k) = V c main_v0 (ix2 (i 0) k) := by
  obtain ⟨e0, e1, -⟩ := idx_in t
  refine congrArg (V c main_v0) (funext fun a => Fin.ext ?_)
  match a with
  | ⟨0, _⟩ => show win0_0.index t (0 : Fin 2) * 512 + 1 * (j 0).val = (i 0).val; omega
  | ⟨1, _⟩ => show win0_0.index t (1 : Fin 2) * 1024 + 1 * k.val = k.val; omega
theorem wg (c : Dev nD) (t : Fin cfg0.N) (j : S512x1408.Idx) (k : Fin 1024) (i : S4096x2816.Idx)
    (h : win0_3.index t (1 : Fin 2) * 1408 + (j 1).val = (i 1).val) :
    iblk0 V c 1 t (ix2 (j 1) k) = V c main_v2 (ix2 (i 1) k) := by
  obtain ⟨-, -, e0, e1, -⟩ := idx_in t
  refine congrArg (V c main_v2) (funext fun a => Fin.ext ?_)
  match a with
  | ⟨0, _⟩ => show win0_1.index t (0 : Fin 2) * 1408 + 1 * (j 1).val = (i 1).val; omega
  | ⟨1, _⟩ => show win0_1.index t (1 : Fin 2) * 1024 + 1 * k.val = k.val; omega
theorem wu (c : Dev nD) (t : Fin cfg0.N) (j : S512x1408.Idx) (k : Fin 1024) (i : S4096x2816.Idx)
    (h : win0_3.index t (1 : Fin 2) * 1408 + (j 1).val = (i 1).val) :
    iblk0 V c 2 t (ix2 (j 1) k) = V c main_v4 (ix2 (i 1) k) := by
  obtain ⟨-, -, -, -, e0, e1⟩ := idx_in t
  refine congrArg (V c main_v4) (funext fun a => Fin.ext ?_)
  match a with
  | ⟨0, _⟩ => show win0_2.index t (0 : Fin 2) * 1408 + 1 * (j 1).val = (i 1).val; omega
  | ⟨1, _⟩ => show win0_2.index t (1 : Fin 2) * 1024 + 1 * k.val = k.val; omega

/-- So a block's product at an element is the arrays' product there. -/
theorem rows_a (c : Dev nD) (t : Fin cfg0.N) (j : S512x1408.Idx) (i : S4096x2816.Idx)
    (h0 : win0_3.index t (0 : Fin 2) * 512 + (j 0).val = (i 0).val)
    (h1 : win0_3.index t (1 : Fin 2) * 1408 + (j 1).val = (i 1).val) :
    rows (n := 512) (p := 1408) (q := 1024) (iblk0 V c 0 t) (iblk0 V c 1 t) j
      = rows (n := 4096) (p := 2816) (q := 1024) (V c main_v0) (V c main_v2) i :=
  Finset.sum_congr rfl fun k _ => by rw [tok V c t j k i h0, wg V c t j k i h1]
theorem rows_b (c : Dev nD) (t : Fin cfg0.N) (j : S512x1408.Idx) (i : S4096x2816.Idx)
    (h0 : win0_3.index t (0 : Fin 2) * 512 + (j 0).val = (i 0).val)
    (h1 : win0_3.index t (1 : Fin 2) * 1408 + (j 1).val = (i 1).val) :
    rows (n := 512) (p := 1408) (q := 1024) (iblk0 V c 0 t) (iblk0 V c 2 t) j
      = rows (n := 4096) (p := 2816) (q := 1024) (V c main_v0) (V c main_v4) i :=
  Finset.sum_congr rfl fun k _ => by rw [tok V c t j k i h0, wu V c t j k i h1]

/-- Where an output block's element lies in its array. -/
theorem emb3 (t : Fin cfg0.N) (j : S512x1408.Idx) (a : Fin 2) :
    (((cfg0.win 3).blk t).view.emb j a).val = win0_3.index t a * S512x1408.size a + (j a).val := by
  match a with
  | ⟨0, _⟩ => show win0_3.index t (0 : Fin 2) * 512 + 1 * (j 0).val = win0_3.index t (0 : Fin 2) * 512 + (j 0).val; omega
  | ⟨1, _⟩ => show win0_3.index t (1 : Fin 2) * 1408 + 1 * (j 1).val = win0_3.index t (1 : Fin 2) * 1408 + (j 1).val; omega
theorem emb4 (t : Fin cfg0.N) (j : S512x1408.Idx) (a : Fin 2) :
    (((cfg0.win 4).blk t).view.emb j a).val = win0_3.index t a * S512x1408.size a + (j a).val := by
  obtain ⟨e0, e1, -⟩ := idx_out t
  match a with
  | ⟨0, _⟩ => show win0_4.index t (0 : Fin 2) * 512 + 1 * (j 0).val = win0_3.index t (0 : Fin 2) * 512 + (j 0).val; omega
  | ⟨1, _⟩ => show win0_4.index t (1 : Fin 2) * 1408 + 1 * (j 1).val = win0_3.index t (1 : Fin 2) * 1408 + (j 1).val; omega
theorem emb5 (t : Fin cfg0.N) (j : S512x1408.Idx) (a : Fin 2) :
    (((cfg0.win 5).blk t).view.emb j a).val = win0_3.index t a * S512x1408.size a + (j a).val := by
  obtain ⟨-, -, e0, e1⟩ := idx_out t
  match a with
  | ⟨0, _⟩ => show win0_5.index t (0 : Fin 2) * 512 + 1 * (j 0).val = win0_3.index t (0 : Fin 2) * 512 + (j 0).val; omega
  | ⟨1, _⟩ => show win0_5.index t (1 : Fin 2) * 1408 + 1 * (j 1).val = win0_3.index t (1 : Fin 2) * 1408 + (j 1).val; omega

/-! ## The arrays when the region is left -/

/-- The gate product's array. -/
theorem arr_a (c : Dev nD) : (dat0 V c).arrAt 3 cfg0.N
    = rows (n := 4096) (p := 2816) (q := 1024) (V c main_v0) (V c main_v2) :=
  (dat0 V c).arrAt_eq_of_cover 3 (rows (n := 4096) (p := 2816) (q := 1024) (V c main_v0) (V c main_v2)) (fun t _ => by
    show (cfg0.win 3).cut (grid0.coords t) ((dat0 V c).after 3 t) = _
    rw [after0_3]; unfold out0_3
    rw [View.canon_unit_zero hz, View.ld_unit_zero hz, View.ld_unit_zero hz, pay_a]
    funext j
    exact rows_a V c t j _ (emb3 t j 0).symm (emb3 t j 1).symm)
  fun i => by
    obtain ⟨t, j, e0, e1⟩ := point_of i
    refine ⟨t, flush0_3 t, ?_⟩
    have h := ((cfg0.win 3).blk t).view.emb_mem_set j
    rwa [show ((cfg0.win 3).blk t).view.emb j = i from funext fun a => Fin.ext (by
      match a with | ⟨0, _⟩ => exact (emb3 t j 0).trans e0 | ⟨1, _⟩ => exact (emb3 t j 1).trans e1)] at h

/-- The up product's array. -/
theorem arr_b (c : Dev nD) : (dat0 V c).arrAt 4 cfg0.N
    = rows (n := 4096) (p := 2816) (q := 1024) (V c main_v0) (V c main_v4) :=
  (dat0 V c).arrAt_eq_of_cover 4 (rows (n := 4096) (p := 2816) (q := 1024) (V c main_v0) (V c main_v4)) (fun t _ => by
    show (cfg0.win 4).cut (grid0.coords t) ((dat0 V c).after 4 t) = _
    rw [after0_4]; unfold out0_4
    rw [View.canon_unit_zero hz, View.ld_unit_zero hz, View.ld_unit_zero hz, pay_b]
    funext j
    exact rows_b V c t j _ (emb4 t j 0).symm (emb4 t j 1).symm)
  fun i => by
    obtain ⟨t, j, e0, e1⟩ := point_of i
    refine ⟨t, flush0_4 t, ?_⟩
    have h := ((cfg0.win 4).blk t).view.emb_mem_set j
    rwa [show ((cfg0.win 4).blk t).view.emb j = i from funext fun a => Fin.ext (by
      match a with | ⟨0, _⟩ => exact (emb4 t j 0).trans e0 | ⟨1, _⟩ => exact (emb4 t j 1).trans e1)] at h

/-- The gated activation's array. -/
theorem arr_act (c : Dev nD) : (dat0 V c).arrAt 5 cfg0.N
    = fun i : S4096x2816.Idx => gated (rows (n := 4096) (p := 2816) (q := 1024) (V c main_v0) (V c main_v2) i)
        (rows (n := 4096) (p := 2816) (q := 1024) (V c main_v0) (V c main_v4) i) :=
  (dat0 V c).arrAt_eq_of_cover 5 (fun i : S4096x2816.Idx =>
      gated (rows (n := 4096) (p := 2816) (q := 1024) (V c main_v0) (V c main_v2) i)
        (rows (n := 4096) (p := 2816) (q := 1024) (V c main_v0) (V c main_v4) i)) (fun t _ => by
    show (cfg0.win 5).cut (grid0.coords t) ((dat0 V c).after 5 t) = _
    rw [after0_5]; unfold out0_5
    rw [View.canon_unit_zero hz, View.ld_unit_zero hz, View.ld_unit_zero hz, View.ld_unit_zero hz, pay_act]
    funext j
    exact congrArg₂ gated (rows_a V c t j _ (emb5 t j 0).symm (emb5 t j 1).symm)
      (rows_b V c t j _ (emb5 t j 0).symm (emb5 t j 1).symm))
  fun i => by
    obtain ⟨t, j, e0, e1⟩ := point_of i
    refine ⟨t, flush0_5 t, ?_⟩
    have h := ((cfg0.win 5).blk t).view.emb_mem_set j
    rwa [show ((cfg0.win 5).blk t).view.emb j = i from funext fun a => Fin.ext (by
      match a with | ⟨0, _⟩ => exact (emb5 t j 0).trans e0 | ⟨1, _⟩ => exact (emb5 t j 1).trans e1)] at h

end Cert.Proof.In

end
-- ==== Proof.Bwd.lean ====
/-
  Region 2, the gradient of the gated activation: what its two output arrays hold when it is left, as functions of the
  arrays it finds — the incoming gradient, the down weight, and the two saved products.
-/
module

public import proofs.«01_k».proof.Proof.In

@[expose] public section

set_option maxRecDepth 16384

noncomputable section

namespace Cert.Proof.Bwd

open Cert.KernelIdeal Cert.KernelIdeal.Gen Idealize.ShloMosaic Idealize.ShloMosaic.TcCoe Idealize.SL.Sem
open Idealize.ShloMosaic.ValueIdx Cert.Proof.Products Cert.Proof.In
open Idealize.ShloMosaic.Pipeline (Dat)

variable (V : (c : Dev nD) → (b : Ref sig .tc) → Buf (Elt Ideal) ((c : Thread nD τ).loc b))

/-- The gradient at the gate product, as the body writes it: `(d · b) · (σ(a) · ((1 + a) - a · σ(a)))`. -/
abbrev gateGrad (d a b : EReal) : EReal :=
  (d * b) * (Ideal.logistic a * ((Ideal.ofBits .f32 0x3F800000#32 + a) - a * Ideal.logistic a))
/-- The gradient at the up product: `d · (a · σ(a))`. -/
abbrev upGrad (d a : EReal) : EReal := d * (a * Ideal.logistic a)

/-! ## What the body computes from its blocks -/

theorem pay_da (x : FVec Ideal S512x1024 .bf16) (w : FVec Ideal S1408x1024 .bf16) (a b : FVec Ideal S512x1408 .bf16) :
    k2_pay5 (F := Ideal) x w a b = fun i => gateGrad (rows x w i) (a i) (b i) := by
  rw [← matmul_rows]; unfold k2_pay5 k2_pay4 k2_pay3 k2_pay2 k2_pay1; simp only [shapeCast_self]; rfl
theorem pay_db (x : FVec Ideal S512x1024 .bf16) (w : FVec Ideal S1408x1024 .bf16) (a : FVec Ideal S512x1408 .bf16) :
    k2_pay6 (F := Ideal) x w a = fun i => upGrad (rows x w i) (a i) := by
  rw [← matmul_rows]; unfold k2_pay6 k2_pay4 k2_pay3 k2_pay2 k2_pay1; simp only [shapeCast_self]; rfl

/-! ## Where the blocks lie -/

theorem idx_in : ∀ t : Fin cfg2.N, win2_0.index t (0 : Fin 2) = win2_4.index t (0 : Fin 2) ∧ win2_0.index t (1 : Fin 2) = 0
    ∧ win2_1.index t (0 : Fin 2) = win2_4.index t (1 : Fin 2) ∧ win2_1.index t (1 : Fin 2) = 0 :=
  (by decide +kernel : ∀ t : Fin grid2.N, _)
theorem idx_same : ∀ t : Fin cfg2.N, (win2_2.index t (0 : Fin 2) = win2_4.index t (0 : Fin 2)
      ∧ win2_2.index t (1 : Fin 2) = win2_4.index t (1 : Fin 2))
    ∧ (win2_3.index t (0 : Fin 2) = win2_4.index t (0 : Fin 2) ∧ win2_3.index t (1 : Fin 2) = win2_4.index t (1 : Fin 2))
    ∧ (win2_5.index t (0 : Fin 2) = win2_4.index t (0 : Fin 2) ∧ win2_5.index t (1 : Fin 2) = win2_4.index t (1 : Fin 2)) :=
  (by decide +kernel : ∀ t : Fin grid2.N, _)
theorem idx_onto : ∀ (a : Fin 8) (b : Fin 2), ∃ t : Fin grid2.N, win2_4.index t (0 : Fin 2) = a.val ∧ win2_4.index t (1 : Fin 2) = b.val := by
  decide +kernel

/-- Every index of the arrays is in the block of some point. -/
theorem point_of (i : S4096x2816.Idx) : ∃ (t : Fin cfg2.N) (j : S512x1408.Idx),
    win2_4.index t (0 : Fin 2) * 512 + (j 0).val = (i 0).val ∧ win2_4.index t (1 : Fin 2) * 1408 + (j 1).val = (i 1).val := by
  have h0 : (i 0).val < 4096 := (i 0).isLt
  have h1 : (i 1).val < 2816 := (i 1).isLt
  obtain ⟨t, e0, e1⟩ := idx_onto ⟨(i 0).val / 512, by omega⟩ ⟨(i 1).val / 1408, by omega⟩
  refine ⟨t, ix2 ⟨(i 0).val % 512, by omega⟩ ⟨(i 1).val % 1408, by omega⟩, ?_, ?_⟩
  · show win2_4.index t (0 : Fin 2) * 512 + (i 0).val % 512 = _; rw [e0]; show (i 0).val / 512 * 512 + _ = _; omega
  · show win2_4.index t (1 : Fin 2) * 1408 + (i 1).val % 1408 = _; rw [e1]; show (i 1).val / 1408 * 1408 + _ = _; omega

/-- A block's product at an element is the arrays' product there. -/
theorem rows_d (c : Dev nD) (t : Fin cfg2.N) (j : S512x1408.Idx) (i : S4096x2816.Idx)
    (h0 : win2_4.index t (0 : Fin 2) * 512 + (j 0).val = (i 0).val)
    (h1 : win2_4.index t (1 : Fin 2) * 1408 + (j 1).val = (i 1).val) :
    rows (n := 512) (p := 1408) (q := 1024) (iblk2 V c 0 t) (iblk2 V c 1 t) j
      = rows (n := 4096) (p := 2816) (q := 1024) (V c main_v6) (V c main_v5) i := by
  obtain ⟨e0, e1, e2, e3⟩ := idx_in t
  refine Finset.sum_congr rfl fun k _ => congrArg₂ _ (congrArg (V c main_v6) (funext fun a => Fin.ext ?_))
    (congrArg (V c main_v5) (funext fun a => Fin.ext ?_))
  · match a with
    | ⟨0, _⟩ => show win2_0.index t (0 : Fin 2) * 512 + 1 * (j 0).val = (i 0).val; omega
    | ⟨1, _⟩ => show win2_0.index t (1 : Fin 2) * 1024 + 1 * k.val = k.val; omega
  · match a with
    | ⟨0, _⟩ => show win2_1.index t (0 : Fin 2) * 1408 + 1 * (j 1).val = (i 1).val; omega
    | ⟨1, _⟩ => show win2_1.index t (1 : Fin 2) * 1024 + 1 * k.val = k.val; omega
/-- A saved product's block at an element is the array there. -/
theorem blk_a (c : Dev nD) (t : Fin cfg2.N) (j : S512x1408.Idx) (i : S4096x2816.Idx)
    (h0 : win2_4.index t (0 : Fin 2) * 512 + (j 0).val = (i 0).val)
    (h1 : win2_4.index t (1 : Fin 2) * 1408 + (j 1).val = (i 1).val) : iblk2 V c 2 t j = V c main_v7_0 i := by
  obtain ⟨⟨e0, e1⟩, -⟩ := idx_same t
  refine congrArg (V c main_v7_0) (funext fun a => Fin.ext ?_)
  match a with
  | ⟨0, _⟩ => show win2_2.index t (0 : Fin 2) * 512 + 1 * (j 0).val = (i 0).val; omega
  | ⟨1, _⟩ => show win2_2.index t (1 : Fin 2) * 1408 + 1 * (j 1).val = (i 1).val; omega
theorem blk_b (c : Dev nD) (t : Fin cfg2.N) (j : S512x1408.Idx) (i : S4096x2816.Idx)
    (h0 : win2_4.index t (0 : Fin 2) * 512 + (j 0).val = (i 0).val)
    (h1 : win2_4.index t (1 : Fin 2) * 1408 + (j 1).val = (i 1).val) : iblk2 V c 3 t j = V c main_v7_1 i := by
  obtain ⟨-, ⟨e0, e1⟩, -⟩ := idx_same t
  refine congrArg (V c main_v7_1) (funext fun a => Fin.ext ?_)
  match a with
  | ⟨0, _⟩ => show win2_3.index t (0 : Fin 2) * 512 + 1 * (j 0).val = (i 0).val; omega
  | ⟨1, _⟩ => show win2_3.index t (1 : Fin 2) * 1408 + 1 * (j 1).val = (i 1).val; omega

/-- Where an output block's element lies in its array. -/
theorem emb4 (t : Fin cfg2.N) (j : S512x1408.Idx) (a : Fin 2) :
    (((cfg2.win 4).blk t).view.emb j a).val = win2_4.index t a * S512x1408.size a + (j a).val := by
  match a with
  | ⟨0, _⟩ => show win2_4.index t (0 : Fin 2) * 512 + 1 * (j 0).val = win2_4.index t (0 : Fin 2) * 512 + (j 0).val; omega
  | ⟨1, _⟩ => show win2_4.index t (1 : Fin 2) * 1408 + 1 * (j 1).val = win2_4.index t (1 : Fin 2) * 1408 + (j 1).val; omega
theorem emb5 (t : Fin cfg2.N) (j : S512x1408.Idx) (a : Fin 2) :
    (((cfg2.win 5).blk t).view.emb j a).val = win2_4.index t a * S512x1408.size a + (j a).val := by
  obtain ⟨-, -, e0, e1⟩ := idx_same t
  match a with
  | ⟨0, _⟩ => show win2_5.index t (0 : Fin 2) * 512 + 1 * (j 0).val = win2_4.index t (0 : Fin 2) * 512 + (j 0).val; omega
  | ⟨1, _⟩ => show win2_5.index t (1 : Fin 2) * 1408 + 1 * (j 1).val = win2_4.index t (1 : Fin 2) * 1408 + (j 1).val; omega

/-! ## The arrays when the region is left -/

/-- The gate gradient's array. -/
theorem arr_da (c : Dev nD) : (dat2 V c).arrAt 4 cfg2.N
    = fun i : S4096x2816.Idx => gateGrad (rows (n := 4096) (p := 2816) (q := 1024) (V c main_v6) (V c main_v5) i)
        (V c main_v7_0 i) (V c main_v7_1 i) :=
  (dat2 V c).arrAt_eq_of_cover 4 (fun i : S4096x2816.Idx =>
      gateGrad (rows (n := 4096) (p := 2816) (q := 1024) (V c main_v6) (V c main_v5) i)
        (V c main_v7_0 i) (V c main_v7_1 i)) (fun t _ => by
    show (cfg2.win 4).cut (grid2.coords t) ((dat2 V c).after 4 t) = _
    rw [after2_4]; unfold out2_4
    rw [View.canon_unit_zero hz, View.ld_unit_zero hz, View.ld_unit_zero hz, View.ld_unit_zero hz, View.ld_unit_zero hz, pay_da]
    funext j
    have e0 := (emb4 t j 0).symm
    have e1 := (emb4 t j 1).symm
    show gateGrad _ (iblk2 V c 2 t j) (iblk2 V c 3 t j) = _
    rw [rows_d V c t j _ e0 e1, blk_a V c t j _ e0 e1, blk_b V c t j _ e0 e1]
    rfl)
  fun i => by
    obtain ⟨t, j, e0, e1⟩ := point_of i
    refine ⟨t, flush2_4 t, ?_⟩
    have h := ((cfg2.win 4).blk t).view.emb_mem_set j
    rwa [show ((cfg2.win 4).blk t).view.emb j = i from funext fun a => Fin.ext (by
      match a with | ⟨0, _⟩ => exact (emb4 t j 0).trans e0 | ⟨1, _⟩ => exact (emb4 t j 1).trans e1)] at h

/-- The up gradient's array. -/
theorem arr_db (c : Dev nD) : (dat2 V c).arrAt 5 cfg2.N
    = fun i : S4096x2816.Idx => upGrad (rows (n := 4096) (p := 2816) (q := 1024) (V c main_v6) (V c main_v5) i)
        (V c main_v7_0 i) :=
  (dat2 V c).arrAt_eq_of_cover 5 (fun i : S4096x2816.Idx =>
      upGrad (rows (n := 4096) (p := 2816) (q := 1024) (V c main_v6) (V c main_v5) i) (V c main_v7_0 i)) (fun t _ => by
    show (cfg2.win 5).cut (grid2.coords t) ((dat2 V c).after 5 t) = _
    rw [after2_5]; unfold out2_5
    rw [View.canon_unit_zero hz, View.ld_unit_zero hz, View.ld_unit_zero hz, View.ld_unit_zero hz, pay_db]
    funext j
    have e0 := (emb5 t j 0).symm
    have e1 := (emb5 t j 1).symm
    show upGrad _ (iblk2 V c 2 t j) = _
    rw [rows_d V c t j _ e0 e1, blk_a V c t j _ e0 e1]
    rfl)
  fun i => by
    obtain ⟨t, j, e0, e1⟩ := point_of i
    refine ⟨t, flush2_5 t, ?_⟩
    have h := ((cfg2.win 5).blk t).view.emb_mem_set j
    rwa [show ((cfg2.win 5).blk t).view.emb j = i from funext fun a => Fin.ext (by
      match a with | ⟨0, _⟩ => exact (emb5 t j 0).trans e0 | ⟨1, _⟩ => exact (emb5 t j 1).trans e1)] at h

end Cert.Proof.Bwd

end
-- ==== Proof.Spec.lean ====
/-
  What each result is, of the five argument arrays: the plain product `x · w` of the forward pass, the gradient `t · dᵀ`
  at the activation, then the kernel's own gradients at the two products and its three weight gradients.
-/
module

public import proofs.«01_k».proof.Proof.Products
public import proofs.«01_k».proof.Proof.Bwd
public import Idealize.ShloMosaic.Lib.ValueLayout

@[expose] public section

set_option maxRecDepth 16384

noncomputable section

namespace Cert.Proof.Spec

open Cert.KernelIdeal Idealize.ShloMosaic Idealize.ShloMosaic.ValueIdx Cert.Proof.Products Cert.Proof.In Cert.Proof.Bwd

/-- The product of `x` with `w`, at one element. -/
def plain {n p q : Nat} (x : (⟨2, ![n, q]⟩ : Shape).Idx → EReal) (w : (⟨2, ![q, p]⟩ : Shape).Idx → EReal) :
    (⟨2, ![n, p]⟩ : Shape).Idx → EReal := fun i => ∑ k : Fin q, x (ix2 (i 0) k) * w (ix2 k (i 1))

/-- Against a transposed right operand, rows against rows is the plain product. -/
theorem rows_transpose {n p q : Nat} (x : (⟨2, ![n, q]⟩ : Shape).Idx → EReal) (w : (⟨2, ![q, p]⟩ : Shape).Idx → EReal)
    (h : (⟨2, ![q, p]⟩ : Shape).Transposes [1, 0] ⟨2, ![p, q]⟩) :
    rows (n := n) (p := p) (q := q) x (transpose ⟨2, ![p, q]⟩ [1, 0] w h) = plain x w := by
  funext i
  refine Finset.sum_congr rfl fun k _ => ?_
  exact congrArg (x (ix2 (i 0) k) * ·) (transpose_ix2_apply w h (i 1) k)

/-- A transpose at a whole index. -/
theorem transpose_at {a b : Nat} (x : (⟨2, ![a, b]⟩ : Shape).Idx → EReal)
    (h : (⟨2, ![a, b]⟩ : Shape).Transposes [1, 0] ⟨2, ![b, a]⟩) (i : (⟨2, ![b, a]⟩ : Shape).Idx) :
    transpose ⟨2, ![b, a]⟩ [1, 0] x h i = x (ix2 (i 1) (i 0)) := by
  conv_lhs => rw [eq_ix2 i]
  exact transpose_ix2_apply x h (i 0) (i 1)

variable (x : S4096x1024.Idx → EReal) (g u : S1024x2816.Idx → EReal) (d : S2816x1024.Idx → EReal)
  (t : S4096x1024.Idx → EReal)

/-- The gradient at the gate product, as the kernel forms it. -/
def kda : S4096x2816.Idx → EReal := fun i =>
  gateGrad (rows (n := 4096) (p := 2816) (q := 1024) t d i) (plain x g i) (plain x u i)

/-- The gradient at the up product, as the kernel forms it. -/
def kdb : S4096x2816.Idx → EReal := fun i =>
  upGrad (rows (n := 4096) (p := 2816) (q := 1024) t d i) (plain x g i)

/-- The gated activation. -/
def act : S4096x2816.Idx → EReal := fun i => gated (plain x g i) (plain x u i)

/-- The gradient of the gate weight, token sum by token sum. -/
def kdgate : S1024x2816.Idx → EReal := fun i =>
  cols (n := 2816) (p := 1024) (q := 4096) (kda x g u d t) x (ix2 (i 1) (i 0))

/-- The gradient of the up weight. -/
def kdup : S1024x2816.Idx → EReal := fun i =>
  cols (n := 2816) (p := 1024) (q := 4096) (kdb x g d t) x (ix2 (i 1) (i 0))

/-- The gradient of the down weight. -/
def kddown : S2816x1024.Idx → EReal := cols (n := 2816) (p := 1024) (q := 4096) (act x g u) t

end Cert.Proof.Spec

end
-- ==== Proof.Weights.lean ====
/-
  Regions 1, 3 and 4, the three weight gradients: each multiplies column blocks of an activation's gradient with column
  blocks of the other factor over all tokens, in one pass (one block along the contracted axis), and its blocks tile the
  result. What each output array holds when its region is left, as a function of the arrays it finds.
-/
module

public import proofs.«01_k».proof.Proof.In

@[expose] public section

set_option maxRecDepth 16384

noncomputable section

namespace Cert.Proof.Weights

open Cert.KernelIdeal Cert.KernelIdeal.Gen Idealize.ShloMosaic Idealize.ShloMosaic.TcCoe Idealize.SL.Sem
open Idealize.ShloMosaic.ValueIdx Cert.Proof.Products Cert.Proof.In
open Idealize.ShloMosaic.Pipeline (Dat)

variable (V : (c : Dev nD) → (b : Ref sig .tc) → Buf (Elt Ideal) ((c : Thread nD τ).loc b))

/-! ## Region 1: the down weight -/

/-- What the body leaves in the output's staging buffer: the product of the two blocks, by columns. -/
theorem out1 (c : Dev nD) (i : grid1.Coords) (r0 : Memref sig .tc .vmem S4096x1408 .bf16) (h0 : r0.IsWhole)
    (r1 : Memref sig .tc .vmem S4096x512 .bf16) (h1 : r1.IsWhole) (r2 : Memref sig .tc .vmem S1408x512 .f32)
    (h2 : r2.IsWhole) (r3 : Memref sig .tc .vmem S8x128 .f32) (h3 : r3.IsWhole) (x : FVec Ideal S4096x1408 .bf16)
    (w : FVec Ideal S4096x512 .bf16) : out1_A_2 (F := Ideal) c i r0 h0 r1 h1 r2 h2 r3 h3 x w = cols x w := by
  unfold out1_A_2
  rw [View.read_writes_junk_eq_canon]
  show View.canon ([⟨Rect.unit ![0, 0] S1408x512.size inb_S1408x512_S1408x512_0_0,
      k1_pay1 (View.readAt (Elt Ideal) r0.view (Rect.unit ![0, 0] S4096x1408.size inb_S4096x1408_S4096x1408_0_0).toLoadRect (h0.unread x))
        (View.readAt (Elt Ideal) r1.view (Rect.unit ![0, 0] S4096x512.size inb_S4096x512_S4096x512_0_0).toLoadRect (h1.unread w))⟩] :
      List (View.Piece (Elt Ideal) S1408x512 .f32)) = _
  rw [View.canon_unit_zero hz, View.readAt_eq_ld, View.readAt_eq_ld, h0.read_unread, h1.read_unread,
    View.ld_unit_zero hz, View.ld_unit_zero hz, ← matmul_cols]
  unfold k1_pay1; simp only [shapeCast_self]

theorem idx1 : ∀ t : Fin cfg1.N, win1_0.index t (0 : Fin 2) = 0 ∧ win1_0.index t (1 : Fin 2) = win1_2.index t (0 : Fin 2)
    ∧ win1_1.index t (0 : Fin 2) = 0 ∧ win1_1.index t (1 : Fin 2) = win1_2.index t (1 : Fin 2) :=
  (by decide +kernel : ∀ t : Fin grid1.N, _)
theorem onto1 : ∀ (a : Fin 2) (b : Fin 2), ∃ t : Fin grid1.N, win1_2.index t (0 : Fin 2) = a.val ∧ win1_2.index t (1 : Fin 2) = b.val := by
  decide +kernel

/-- Every index of the result is in the block of some point. -/
theorem point1 (i : S2816x1024.Idx) : ∃ (t : Fin cfg1.N) (j : S1408x512.Idx),
    win1_2.index t (0 : Fin 2) * 1408 + (j 0).val = (i 0).val ∧ win1_2.index t (1 : Fin 2) * 512 + (j 1).val = (i 1).val := by
  have h0 : (i 0).val < 2816 := (i 0).isLt
  have h1 : (i 1).val < 1024 := (i 1).isLt
  obtain ⟨t, e0, e1⟩ := onto1 ⟨(i 0).val / 1408, by omega⟩ ⟨(i 1).val / 512, by omega⟩
  refine ⟨t, ix2 ⟨(i 0).val % 1408, by omega⟩ ⟨(i 1).val % 512, by omega⟩, ?_, ?_⟩
  · show win1_2.index t (0 : Fin 2) * 1408 + (i 0).val % 1408 = _; rw [e0]; show (i 0).val / 1408 * 1408 + _ = _; omega
  · show win1_2.index t (1 : Fin 2) * 512 + (i 1).val % 512 = _; rw [e1]; show (i 1).val / 512 * 512 + _ = _; omega

theorem emb1 (t : Fin cfg1.N) (j : S1408x512.Idx) (a : Fin 2) :
    (((cfg1.win 2).blk t).view.emb j a).val = win1_2.index t a * S1408x512.size a + (j a).val := by
  match a with
  | ⟨0, _⟩ => show win1_2.index t (0 : Fin 2) * 1408 + 1 * (j 0).val = win1_2.index t (0 : Fin 2) * 1408 + (j 0).val; omega
  | ⟨1, _⟩ => show win1_2.index t (1 : Fin 2) * 512 + 1 * (j 1).val = win1_2.index t (1 : Fin 2) * 512 + (j 1).val; omega

theorem cols1 (c : Dev nD) (t : Fin cfg1.N) (j : S1408x512.Idx) (i : S2816x1024.Idx)
    (h0 : win1_2.index t (0 : Fin 2) * 1408 + (j 0).val = (i 0).val)
    (h1 : win1_2.index t (1 : Fin 2) * 512 + (j 1).val = (i 1).val) :
    cols (n := 1408) (p := 512) (q := 4096) (iblk1 V c 0 t) (iblk1 V c 1 t) j
      = cols (n := 2816) (p := 1024) (q := 4096) (V c main_v7_2) (V c main_v6) i := by
  obtain ⟨e0, e1, e2, e3⟩ := idx1 t
  refine Finset.sum_congr rfl fun k _ => congrArg₂ _ (congrArg (V c main_v7_2) (funext fun a => Fin.ext ?_))
    (congrArg (V c main_v6) (funext fun a => Fin.ext ?_))
  · match a with
    | ⟨0, _⟩ => show win1_0.index t (0 : Fin 2) * 4096 + 1 * k.val = k.val; omega
    | ⟨1, _⟩ => show win1_0.index t (1 : Fin 2) * 1408 + 1 * (j 0).val = (i 0).val; omega
  · match a with
    | ⟨0, _⟩ => show win1_1.index t (0 : Fin 2) * 4096 + 1 * k.val = k.val; omega
    | ⟨1, _⟩ => show win1_1.index t (1 : Fin 2) * 512 + 1 * (j 1).val = (i 1).val; omega

/-- The result array when region 1 is left. -/
theorem arr1 (c : Dev nD) : (dat1 V c).arrAt 2 cfg1.N
    = cols (n := 2816) (p := 1024) (q := 4096) (V c main_v7_2) (V c main_v6) :=
  (dat1 V c).arrAt_eq_of_cover 2 (cols (n := 2816) (p := 1024) (q := 4096) (V c main_v7_2) (V c main_v6)) (fun t _ => by
    show (cfg1.win 2).cut (grid1.coords t) ((dat1 V c).after 2 t) = _
    rw [after1_2]; unfold outsAt1
    rw [out1]
    funext j
    exact cols1 V c t j _ (emb1 t j 0).symm (emb1 t j 1).symm)
  fun i => by
    obtain ⟨t, j, e0, e1⟩ := point1 i
    refine ⟨t, flush1_2 t, ?_⟩
    have h := ((cfg1.win 2).blk t).view.emb_mem_set j
    rwa [show ((cfg1.win 2).blk t).view.emb j = i from funext fun a => Fin.ext (by
      match a with | ⟨0, _⟩ => exact (emb1 t j 0).trans e0 | ⟨1, _⟩ => exact (emb1 t j 1).trans e1)] at h

/-! ## Region 3: the gate weight -/

/-- What the body leaves in the output's staging buffer: the product of the two blocks, by columns. -/
theorem out3 (c : Dev nD) (i : grid3.Coords) (r0 : Memref sig .tc .vmem S4096x1408 .bf16) (h0 : r0.IsWhole)
    (r1 : Memref sig .tc .vmem S4096x512 .bf16) (h1 : r1.IsWhole) (r2 : Memref sig .tc .vmem S1408x512 .f32)
    (h2 : r2.IsWhole) (r3 : Memref sig .tc .vmem S8x128 .f32) (h3 : r3.IsWhole) (x : FVec Ideal S4096x1408 .bf16)
    (w : FVec Ideal S4096x512 .bf16) : out3_A_2 (F := Ideal) c i r0 h0 r1 h1 r2 h2 r3 h3 x w = cols x w := by
  unfold out3_A_2
  rw [View.read_writes_junk_eq_canon]
  show View.canon ([⟨Rect.unit ![0, 0] S1408x512.size inb_S1408x512_S1408x512_0_0,
      k3_pay1 (View.readAt (Elt Ideal) r0.view (Rect.unit ![0, 0] S4096x1408.size inb_S4096x1408_S4096x1408_0_0).toLoadRect (h0.unread x))
        (View.readAt (Elt Ideal) r1.view (Rect.unit ![0, 0] S4096x512.size inb_S4096x512_S4096x512_0_0).toLoadRect (h1.unread w))⟩] :
      List (View.Piece (Elt Ideal) S1408x512 .f32)) = _
  rw [View.canon_unit_zero hz, View.readAt_eq_ld, View.readAt_eq_ld, h0.read_unread, h1.read_unread,
    View.ld_unit_zero hz, View.ld_unit_zero hz, ← matmul_cols]
  unfold k3_pay1; simp only [shapeCast_self]

theorem idx3 : ∀ t : Fin cfg3.N, win3_0.index t (0 : Fin 2) = 0 ∧ win3_0.index t (1 : Fin 2) = win3_2.index t (0 : Fin 2)
    ∧ win3_1.index t (0 : Fin 2) = 0 ∧ win3_1.index t (1 : Fin 2) = win3_2.index t (1 : Fin 2) :=
  (by decide +kernel : ∀ t : Fin grid3.N, _)
theorem onto3 : ∀ (a : Fin 2) (b : Fin 2), ∃ t : Fin grid3.N, win3_2.index t (0 : Fin 2) = a.val ∧ win3_2.index t (1 : Fin 2) = b.val := by
  decide +kernel

/-- Every index of the result is in the block of some point. -/
theorem point3 (i : S2816x1024.Idx) : ∃ (t : Fin cfg3.N) (j : S1408x512.Idx),
    win3_2.index t (0 : Fin 2) * 1408 + (j 0).val = (i 0).val ∧ win3_2.index t (1 : Fin 2) * 512 + (j 1).val = (i 1).val := by
  have h0 : (i 0).val < 2816 := (i 0).isLt
  have h1 : (i 1).val < 1024 := (i 1).isLt
  obtain ⟨t, e0, e1⟩ := onto3 ⟨(i 0).val / 1408, by omega⟩ ⟨(i 1).val / 512, by omega⟩
  refine ⟨t, ix2 ⟨(i 0).val % 1408, by omega⟩ ⟨(i 1).val % 512, by omega⟩, ?_, ?_⟩
  · show win3_2.index t (0 : Fin 2) * 1408 + (i 0).val % 1408 = _; rw [e0]; show (i 0).val / 1408 * 1408 + _ = _; omega
  · show win3_2.index t (1 : Fin 2) * 512 + (i 1).val % 512 = _; rw [e1]; show (i 1).val / 512 * 512 + _ = _; omega

theorem emb3 (t : Fin cfg3.N) (j : S1408x512.Idx) (a : Fin 2) :
    (((cfg3.win 2).blk t).view.emb j a).val = win3_2.index t a * S1408x512.size a + (j a).val := by
  match a with
  | ⟨0, _⟩ => show win3_2.index t (0 : Fin 2) * 1408 + 1 * (j 0).val = win3_2.index t (0 : Fin 2) * 1408 + (j 0).val; omega
  | ⟨1, _⟩ => show win3_2.index t (1 : Fin 2) * 512 + 1 * (j 1).val = win3_2.index t (1 : Fin 2) * 512 + (j 1).val; omega

theorem cols3 (c : Dev nD) (t : Fin cfg3.N) (j : S1408x512.Idx) (i : S2816x1024.Idx)
    (h0 : win3_2.index t (0 : Fin 2) * 1408 + (j 0).val = (i 0).val)
    (h1 : win3_2.index t (1 : Fin 2) * 512 + (j 1).val = (i 1).val) :
    cols (n := 1408) (p := 512) (q := 4096) (iblk3 V c 0 t) (iblk3 V c 1 t) j
      = cols (n := 2816) (p := 1024) (q := 4096) (V c main_v9_0) (V c main_v0) i := by
  obtain ⟨e0, e1, e2, e3⟩ := idx3 t
  refine Finset.sum_congr rfl fun k _ => congrArg₂ _ (congrArg (V c main_v9_0) (funext fun a => Fin.ext ?_))
    (congrArg (V c main_v0) (funext fun a => Fin.ext ?_))
  · match a with
    | ⟨0, _⟩ => show win3_0.index t (0 : Fin 2) * 4096 + 1 * k.val = k.val; omega
    | ⟨1, _⟩ => show win3_0.index t (1 : Fin 2) * 1408 + 1 * (j 0).val = (i 0).val; omega
  · match a with
    | ⟨0, _⟩ => show win3_1.index t (0 : Fin 2) * 4096 + 1 * k.val = k.val; omega
    | ⟨1, _⟩ => show win3_1.index t (1 : Fin 2) * 512 + 1 * (j 1).val = (i 1).val; omega

/-- The result array when region 3 is left. -/
theorem arr3 (c : Dev nD) : (dat3 V c).arrAt 2 cfg3.N
    = cols (n := 2816) (p := 1024) (q := 4096) (V c main_v9_0) (V c main_v0) :=
  (dat3 V c).arrAt_eq_of_cover 2 (cols (n := 2816) (p := 1024) (q := 4096) (V c main_v9_0) (V c main_v0)) (fun t _ => by
    show (cfg3.win 2).cut (grid3.coords t) ((dat3 V c).after 2 t) = _
    rw [after3_2]; unfold outsAt3
    rw [out3]
    funext j
    exact cols3 V c t j _ (emb3 t j 0).symm (emb3 t j 1).symm)
  fun i => by
    obtain ⟨t, j, e0, e1⟩ := point3 i
    refine ⟨t, flush3_2 t, ?_⟩
    have h := ((cfg3.win 2).blk t).view.emb_mem_set j
    rwa [show ((cfg3.win 2).blk t).view.emb j = i from funext fun a => Fin.ext (by
      match a with | ⟨0, _⟩ => exact (emb3 t j 0).trans e0 | ⟨1, _⟩ => exact (emb3 t j 1).trans e1)] at h

/-! ## Region 4: the up weight -/

/-- What the body leaves in the output's staging buffer: the product of the two blocks, by columns. -/
theorem out4 (c : Dev nD) (i : grid4.Coords) (r0 : Memref sig .tc .vmem S4096x1408 .bf16) (h0 : r0.IsWhole)
    (r1 : Memref sig .tc .vmem S4096x512 .bf16) (h1 : r1.IsWhole) (r2 : Memref sig .tc .vmem S1408x512 .f32)
    (h2 : r2.IsWhole) (r3 : Memref sig .tc .vmem S8x128 .f32) (h3 : r3.IsWhole) (x : FVec Ideal S4096x1408 .bf16)
    (w : FVec Ideal S4096x512 .bf16) : out4_A_2 (F := Ideal) c i r0 h0 r1 h1 r2 h2 r3 h3 x w = cols x w := by
  unfold out4_A_2
  rw [View.read_writes_junk_eq_canon]
  show View.canon ([⟨Rect.unit ![0, 0] S1408x512.size inb_S1408x512_S1408x512_0_0,
      k4_pay1 (View.readAt (Elt Ideal) r0.view (Rect.unit ![0, 0] S4096x1408.size inb_S4096x1408_S4096x1408_0_0).toLoadRect (h0.unread x))
        (View.readAt (Elt Ideal) r1.view (Rect.unit ![0, 0] S4096x512.size inb_S4096x512_S4096x512_0_0).toLoadRect (h1.unread w))⟩] :
      List (View.Piece (Elt Ideal) S1408x512 .f32)) = _
  rw [View.canon_unit_zero hz, View.readAt_eq_ld, View.readAt_eq_ld, h0.read_unread, h1.read_unread,
    View.ld_unit_zero hz, View.ld_unit_zero hz, ← matmul_cols]
  unfold k4_pay1; simp only [shapeCast_self]

theorem idx4 : ∀ t : Fin cfg4.N, win4_0.index t (0 : Fin 2) = 0 ∧ win4_0.index t (1 : Fin 2) = win4_2.index t (0 : Fin 2)
    ∧ win4_1.index t (0 : Fin 2) = 0 ∧ win4_1.index t (1 : Fin 2) = win4_2.index t (1 : Fin 2) :=
  (by decide +kernel : ∀ t : Fin grid4.N, _)
theorem onto4 : ∀ (a : Fin 2) (b : Fin 2), ∃ t : Fin grid4.N, win4_2.index t (0 : Fin 2) = a.val ∧ win4_2.index t (1 : Fin 2) = b.val := by
  decide +kernel

/-- Every index of the result is in the block of some point. -/
theorem point4 (i : S2816x1024.Idx) : ∃ (t : Fin cfg4.N) (j : S1408x512.Idx),
    win4_2.index t (0 : Fin 2) * 1408 + (j 0).val = (i 0).val ∧ win4_2.index t (1 : Fin 2) * 512 + (j 1).val = (i 1).val := by
  have h0 : (i 0).val < 2816 := (i 0).isLt
  have h1 : (i 1).val < 1024 := (i 1).isLt
  obtain ⟨t, e0, e1⟩ := onto4 ⟨(i 0).val / 1408, by omega⟩ ⟨(i 1).val / 512, by omega⟩
  refine ⟨t, ix2 ⟨(i 0).val % 1408, by omega⟩ ⟨(i 1).val % 512, by omega⟩, ?_, ?_⟩
  · show win4_2.index t (0 : Fin 2) * 1408 + (i 0).val % 1408 = _; rw [e0]; show (i 0).val / 1408 * 1408 + _ = _; omega
  · show win4_2.index t (1 : Fin 2) * 512 + (i 1).val % 512 = _; rw [e1]; show (i 1).val / 512 * 512 + _ = _; omega

theorem emb4 (t : Fin cfg4.N) (j : S1408x512.Idx) (a : Fin 2) :
    (((cfg4.win 2).blk t).view.emb j a).val = win4_2.index t a * S1408x512.size a + (j a).val := by
  match a with
  | ⟨0, _⟩ => show win4_2.index t (0 : Fin 2) * 1408 + 1 * (j 0).val = win4_2.index t (0 : Fin 2) * 1408 + (j 0).val; omega
  | ⟨1, _⟩ => show win4_2.index t (1 : Fin 2) * 512 + 1 * (j 1).val = win4_2.index t (1 : Fin 2) * 512 + (j 1).val; omega

theorem cols4 (c : Dev nD) (t : Fin cfg4.N) (j : S1408x512.Idx) (i : S2816x1024.Idx)
    (h0 : win4_2.index t (0 : Fin 2) * 1408 + (j 0).val = (i 0).val)
    (h1 : win4_2.index t (1 : Fin 2) * 512 + (j 1).val = (i 1).val) :
    cols (n := 1408) (p := 512) (q := 4096) (iblk4 V c 0 t) (iblk4 V c 1 t) j
      = cols (n := 2816) (p := 1024) (q := 4096) (V c main_v9_1) (V c main_v0) i := by
  obtain ⟨e0, e1, e2, e3⟩ := idx4 t
  refine Finset.sum_congr rfl fun k _ => congrArg₂ _ (congrArg (V c main_v9_1) (funext fun a => Fin.ext ?_))
    (congrArg (V c main_v0) (funext fun a => Fin.ext ?_))
  · match a with
    | ⟨0, _⟩ => show win4_0.index t (0 : Fin 2) * 4096 + 1 * k.val = k.val; omega
    | ⟨1, _⟩ => show win4_0.index t (1 : Fin 2) * 1408 + 1 * (j 0).val = (i 0).val; omega
  · match a with
    | ⟨0, _⟩ => show win4_1.index t (0 : Fin 2) * 4096 + 1 * k.val = k.val; omega
    | ⟨1, _⟩ => show win4_1.index t (1 : Fin 2) * 512 + 1 * (j 1).val = (i 1).val; omega

/-- The result array when region 4 is left. -/
theorem arr4 (c : Dev nD) : (dat4 V c).arrAt 2 cfg4.N
    = cols (n := 2816) (p := 1024) (q := 4096) (V c main_v9_1) (V c main_v0) :=
  (dat4 V c).arrAt_eq_of_cover 2 (cols (n := 2816) (p := 1024) (q := 4096) (V c main_v9_1) (V c main_v0)) (fun t _ => by
    show (cfg4.win 2).cut (grid4.coords t) ((dat4 V c).after 2 t) = _
    rw [after4_2]; unfold outsAt4
    rw [out4]
    funext j
    exact cols4 V c t j _ (emb4 t j 0).symm (emb4 t j 1).symm)
  fun i => by
    obtain ⟨t, j, e0, e1⟩ := point4 i
    refine ⟨t, flush4_2 t, ?_⟩
    have h := ((cfg4.win 2).blk t).view.emb_mem_set j
    rwa [show ((cfg4.win 2).blk t).view.emb j = i from funext fun a => Fin.ext (by
      match a with | ⟨0, _⟩ => exact (emb4 t j 0).trans e0 | ⟨1, _⟩ => exact (emb4 t j 1).trans e1)] at h

end Cert.Proof.Weights

end
-- ==== Proof.Run.lean ====
/-
  The kernel's run, read at every buffer: each ends at what the fold through @main leaves there. From it, each result
  array is followed back through the regions to the arguments: the forward products and the gated activation, the
  gradients at the two products, the three weight gradients.
-/
module

public import proofs.«01_k».proof.Proof.Spec
public import proofs.«01_k».proof.Proof.Weights

@[expose] public section

set_option maxRecDepth 16384

noncomputable section

namespace Cert.Proof.Run

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx Cert.Proof.Products Cert.Proof.In Cert.Proof.Bwd Cert.Proof.Weights Cert.Proof.Spec

section Any

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer of every core ends at the fold's last contents: the segments' launch, with the last thread state read
    against the final memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun _ h _ => h)

end Any

section Results

variable (m : (ℓ : Loc nD τ sig) → Buf (Elt Ideal) ℓ) (ρ : Dev nD → PrngReg)

/-! ### What the host lines before the first region leave -/

theorem W1_v0 (c : Dev nD) : W1 m ρ c (Proc.devRef .tc main_v0)
    = truncf (F := Ideal) (φ := .f32) .bf16 (m ((c : Thread nD τ).loc main_arg0)) bitsLt_bf16_f32 := by
  unfold W1 hostOps0; after_results_simp
theorem W1_v2 (c : Dev nD) : W1 m ρ c (Proc.devRef .tc main_v2)
    = truncf (F := Ideal) (φ := .f32) .bf16 (transpose S2816x1024 [1, 0] (m ((c : Thread nD τ).loc main_arg1)) transposes_S1024x2816_S2816x1024_1_0) bitsLt_bf16_f32 := by
  unfold W1 hostOps0; after_results_simp
theorem W1_v4 (c : Dev nD) : W1 m ρ c (Proc.devRef .tc main_v4)
    = truncf (F := Ideal) (φ := .f32) .bf16 (transpose S2816x1024 [1, 0] (m ((c : Thread nD τ).loc main_arg2)) transposes_S1024x2816_S2816x1024_1_0) bitsLt_bf16_f32 := by
  unfold W1 hostOps0; after_results_simp
theorem W1_v5 (c : Dev nD) : W1 m ρ c (Proc.devRef .tc main_v5)
    = truncf (F := Ideal) (φ := .f32) .bf16 (m ((c : Thread nD τ).loc main_arg3)) bitsLt_bf16_f32 := by
  unfold W1 hostOps0; after_results_simp
theorem W1_v6 (c : Dev nD) : W1 m ρ c (Proc.devRef .tc main_v6)
    = truncf (F := Ideal) (φ := .f32) .bf16 (m ((c : Thread nD τ).loc main_arg4)) bitsLt_bf16_f32 := by
  unfold W1 hostOps0; after_results_simp

/-! ### The forward region: the two products and the gated activation -/

theorem W2_a (c : Dev nD) : W2 m ρ c (Proc.devRef .tc main_v7_0)
    = plain (m ((c : Thread nD τ).loc main_arg0)) (m ((c : Thread nD τ).loc main_arg1)) := by
  refine (W2_arr m ρ c 3).trans ((arr_a _ c).trans ?_)
  show rows (n := 4096) (p := 2816) (q := 1024) (W1 m ρ c (Proc.devRef .tc main_v0)) (W1 m ρ c (Proc.devRef .tc main_v2)) = _
  rw [W1_v0, W1_v2]; exact rows_transpose _ _ _
theorem W2_b (c : Dev nD) : W2 m ρ c (Proc.devRef .tc main_v7_1)
    = plain (m ((c : Thread nD τ).loc main_arg0)) (m ((c : Thread nD τ).loc main_arg2)) := by
  refine (W2_arr m ρ c 4).trans ((arr_b _ c).trans ?_)
  show rows (n := 4096) (p := 2816) (q := 1024) (W1 m ρ c (Proc.devRef .tc main_v0)) (W1 m ρ c (Proc.devRef .tc main_v4)) = _
  rw [W1_v0, W1_v4]; exact rows_transpose _ _ _
theorem W2_act (c : Dev nD) : W2 m ρ c (Proc.devRef .tc main_v7_2)
    = act (m ((c : Thread nD τ).loc main_arg0)) (m ((c : Thread nD τ).loc main_arg1)) (m ((c : Thread nD τ).loc main_arg2)) := by
  refine (W2_arr m ρ c 5).trans ((arr_act _ c).trans ?_)
  show (fun i : S4096x2816.Idx => gated
      (rows (n := 4096) (p := 2816) (q := 1024) (W1 m ρ c (Proc.devRef .tc main_v0)) (W1 m ρ c (Proc.devRef .tc main_v2)) i)
      (rows (n := 4096) (p := 2816) (q := 1024) (W1 m ρ c (Proc.devRef .tc main_v0)) (W1 m ρ c (Proc.devRef .tc main_v4)) i)) = _
  rw [W1_v0, W1_v2, W1_v4]
  exact congrArg₂ (fun a b => fun i : S4096x2816.Idx => gated (a i) (b i)) (rows_transpose _ _ _) (rows_transpose _ _ _)

/-! ### The down weight's gradient -/

theorem W2_t (c : Dev nD) : W2 m ρ c (Proc.devRef .tc main_v6)
    = truncf (F := Ideal) (φ := .f32) .bf16 (m ((c : Thread nD τ).loc main_arg4)) bitsLt_bf16_f32 :=
  (W2_of m ρ c main_v6 (by decide)).trans (W1_v6 m ρ c)
theorem W3_ddown (c : Dev nD) : W3 m ρ c (Proc.devRef .tc main_v8)
    = kddown (m ((c : Thread nD τ).loc main_arg0)) (m ((c : Thread nD τ).loc main_arg1)) (m ((c : Thread nD τ).loc main_arg2))
        (m ((c : Thread nD τ).loc main_arg4)) := by
  refine (W3_arr m ρ c 2).trans ((arr1 _ c).trans ?_)
  show cols (n := 2816) (p := 1024) (q := 4096) (W2 m ρ c (Proc.devRef .tc main_v7_2)) (W2 m ρ c (Proc.devRef .tc main_v6)) = _
  rw [W2_act, W2_t]; rfl

/-! ### The gradients at the two products -/

theorem W3_t (c : Dev nD) : W3 m ρ c (Proc.devRef .tc main_v6)
    = truncf (F := Ideal) (φ := .f32) .bf16 (m ((c : Thread nD τ).loc main_arg4)) bitsLt_bf16_f32 :=
  (W3_of m ρ c main_v6 (by decide)).trans (W2_t m ρ c)
theorem W3_d (c : Dev nD) : W3 m ρ c (Proc.devRef .tc main_v5)
    = truncf (F := Ideal) (φ := .f32) .bf16 (m ((c : Thread nD τ).loc main_arg3)) bitsLt_bf16_f32 :=
  ((W3_of m ρ c main_v5 (by decide)).trans (W2_of m ρ c main_v5 (by decide))).trans (W1_v5 m ρ c)
theorem W3_a (c : Dev nD) : W3 m ρ c (Proc.devRef .tc main_v7_0)
    = plain (m ((c : Thread nD τ).loc main_arg0)) (m ((c : Thread nD τ).loc main_arg1)) :=
  (W3_of m ρ c main_v7_0 (by decide)).trans (W2_a m ρ c)
theorem W3_b (c : Dev nD) : W3 m ρ c (Proc.devRef .tc main_v7_1)
    = plain (m ((c : Thread nD τ).loc main_arg0)) (m ((c : Thread nD τ).loc main_arg2)) :=
  (W3_of m ρ c main_v7_1 (by decide)).trans (W2_b m ρ c)
theorem W4_da (c : Dev nD) : W4 m ρ c (Proc.devRef .tc main_v9_0)
    = kda (m ((c : Thread nD τ).loc main_arg0)) (m ((c : Thread nD τ).loc main_arg1)) (m ((c : Thread nD τ).loc main_arg2))
        (m ((c : Thread nD τ).loc main_arg3)) (m ((c : Thread nD τ).loc main_arg4)) := by
  refine (W4_arr m ρ c 4).trans ((arr_da _ c).trans ?_)
  show (fun i : S4096x2816.Idx => gateGrad
      (rows (n := 4096) (p := 2816) (q := 1024) (W3 m ρ c (Proc.devRef .tc main_v6)) (W3 m ρ c (Proc.devRef .tc main_v5)) i)
      (W3 m ρ c (Proc.devRef .tc main_v7_0) i) (W3 m ρ c (Proc.devRef .tc main_v7_1) i)) = _
  rw [W3_t, W3_d, W3_a, W3_b]; rfl
theorem W4_db (c : Dev nD) : W4 m ρ c (Proc.devRef .tc main_v9_1)
    = kdb (m ((c : Thread nD τ).loc main_arg0)) (m ((c : Thread nD τ).loc main_arg1))
        (m ((c : Thread nD τ).loc main_arg3)) (m ((c : Thread nD τ).loc main_arg4)) := by
  refine (W4_arr m ρ c 5).trans ((arr_db _ c).trans ?_)
  show (fun i : S4096x2816.Idx => upGrad
      (rows (n := 4096) (p := 2816) (q := 1024) (W3 m ρ c (Proc.devRef .tc main_v6)) (W3 m ρ c (Proc.devRef .tc main_v5)) i)
      (W3 m ρ c (Proc.devRef .tc main_v7_0) i)) = _
  rw [W3_t, W3_d, W3_a]; rfl

/-! ### The gate and the up weight's gradients -/

theorem W4_x (c : Dev nD) : W4 m ρ c (Proc.devRef .tc main_v0)
    = truncf (F := Ideal) (φ := .f32) .bf16 (m ((c : Thread nD τ).loc main_arg0)) bitsLt_bf16_f32 :=
  (((W4_of m ρ c main_v0 (by decide)).trans (W3_of m ρ c main_v0 (by decide))).trans (W2_of m ρ c main_v0 (by decide))).trans
    (W1_v0 m ρ c)
theorem W5_dgate (c : Dev nD) : W5 m ρ c (Proc.devRef .tc main_v10)
    = cols (n := 2816) (p := 1024) (q := 4096) (kda (m ((c : Thread nD τ).loc main_arg0)) (m ((c : Thread nD τ).loc main_arg1)) (m ((c : Thread nD τ).loc main_arg2))
        (m ((c : Thread nD τ).loc main_arg3)) (m ((c : Thread nD τ).loc main_arg4))) (m ((c : Thread nD τ).loc main_arg0)) := by
  refine (W5_arr m ρ c 2).trans ((arr3 _ c).trans ?_)
  show cols (n := 2816) (p := 1024) (q := 4096) (W4 m ρ c (Proc.devRef .tc main_v9_0)) (W4 m ρ c (Proc.devRef .tc main_v0)) = _
  rw [W4_da, W4_x]; rfl
theorem W6_dup (c : Dev nD) : W6 m ρ c (Proc.devRef .tc main_v11)
    = cols (n := 2816) (p := 1024) (q := 4096) (kdb (m ((c : Thread nD τ).loc main_arg0)) (m ((c : Thread nD τ).loc main_arg1))
        (m ((c : Thread nD τ).loc main_arg3)) (m ((c : Thread nD τ).loc main_arg4))) (m ((c : Thread nD τ).loc main_arg0)) := by
  refine (W6_arr m ρ c 2).trans ((arr4 _ c).trans ?_)
  show cols (n := 2816) (p := 1024) (q := 4096) (W5 m ρ c (Proc.devRef .tc main_v9_1)) (W5 m ρ c (Proc.devRef .tc main_v0)) = _
  rw [W5_of m ρ c main_v9_1 (by decide), W5_of m ρ c main_v0 (by decide), W4_db, W4_x]; rfl
theorem W7_dgate (c : Dev nD) : W7 m ρ c (Proc.devRef .tc main_v12)
    = kdgate (m ((c : Thread nD τ).loc main_arg0)) (m ((c : Thread nD τ).loc main_arg1)) (m ((c : Thread nD τ).loc main_arg2))
        (m ((c : Thread nD τ).loc main_arg3)) (m ((c : Thread nD τ).loc main_arg4)) := by
  have h : W7 m ρ c (Proc.devRef .tc main_v12) = transpose S1024x2816 [1, 0] (W6 m ρ c (Proc.devRef .tc main_v10)) transposes_S2816x1024_S1024x2816_1_0 := by
    unfold W7 hostOps5; after_results_simp
  rw [h, W6_of m ρ c main_v10 (by decide), W5_dgate]
  funext i; exact transpose_at _ _ i
theorem W7_dup (c : Dev nD) : W7 m ρ c (Proc.devRef .tc main_v13)
    = kdup (m ((c : Thread nD τ).loc main_arg0)) (m ((c : Thread nD τ).loc main_arg1))
        (m ((c : Thread nD τ).loc main_arg3)) (m ((c : Thread nD τ).loc main_arg4)) := by
  have h : W7 m ρ c (Proc.devRef .tc main_v13) = transpose S1024x2816 [1, 0] (W6 m ρ c (Proc.devRef .tc main_v11)) transposes_S2816x1024_S1024x2816_1_0 := by
    unfold W7 hostOps5; after_results_simp
  rw [h, W6_dup]
  funext i; exact transpose_at _ _ i
theorem W7_da (c : Dev nD) : W7 m ρ c (Proc.devRef .tc main_v9_0)
    = kda (m ((c : Thread nD τ).loc main_arg0)) (m ((c : Thread nD τ).loc main_arg1)) (m ((c : Thread nD τ).loc main_arg2))
        (m ((c : Thread nD τ).loc main_arg3)) (m ((c : Thread nD τ).loc main_arg4)) :=
  (((W7_of m ρ c main_v9_0 (by decide)).trans (W6_of m ρ c main_v9_0 (by decide))).trans (W5_of m ρ c main_v9_0 (by decide))).trans
    (W4_da m ρ c)
theorem W7_db (c : Dev nD) : W7 m ρ c (Proc.devRef .tc main_v9_1)
    = kdb (m ((c : Thread nD τ).loc main_arg0)) (m ((c : Thread nD τ).loc main_arg1))
        (m ((c : Thread nD τ).loc main_arg3)) (m ((c : Thread nD τ).loc main_arg4)) :=
  (((W7_of m ρ c main_v9_1 (by decide)).trans (W6_of m ρ c main_v9_1 (by decide))).trans (W5_of m ρ c main_v9_1 (by decide))).trans
    (W4_db m ρ c)
theorem W7_ddown (c : Dev nD) : W7 m ρ c (Proc.devRef .tc main_v8)
    = kddown (m ((c : Thread nD τ).loc main_arg0)) (m ((c : Thread nD τ).loc main_arg1)) (m ((c : Thread nD τ).loc main_arg2))
        (m ((c : Thread nD τ).loc main_arg4)) :=
  ((((W7_of m ρ c main_v8 (by decide)).trans (W6_of m ρ c main_v8 (by decide))).trans (W5_of m ρ c main_v8 (by decide))).trans
    (W4_of m ρ c main_v8 (by decide))).trans (W3_ddown m ρ c)

/-- The kernel's run: its five results, of the arguments it was launched with, and the arguments kept. -/
theorem results : θ_run defs (onTc (τ := τ) (main (F := Ideal))) ⟨m, fun _ => 0, ρ⟩ (fun r => ∀ c : Dev nD,
      r.2.mem ((c : Thread nD τ).loc main_v9_0) = kda (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c : Thread nD τ).loc main_v9_1) = kdb (m ((c : Thread nD τ).loc main_arg0)) (m ((c : Thread nD τ).loc main_arg1))
          (m ((c : Thread nD τ).loc main_arg3)) (m ((c : Thread nD τ).loc main_arg4))
      ∧ r.2.mem ((c : Thread nD τ).loc main_v12) = kdgate (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c : Thread nD τ).loc main_v13) = kdup (m ((c : Thread nD τ).loc main_arg0)) (m ((c : Thread nD τ).loc main_arg1))
          (m ((c : Thread nD τ).loc main_arg3)) (m ((c : Thread nD τ).loc main_arg4))
      ∧ r.2.mem ((c : Thread nD τ).loc main_v8) = kddown (m ((c : Thread nD τ).loc main_arg0)) (m ((c : Thread nD τ).loc main_arg1))
          (m ((c : Thread nD τ).loc main_arg2)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h c =>
    ⟨(h c _ (mem_uc main_v9_0 (by decide))).trans (W7_da m ρ c),
     (h c _ (mem_uc main_v9_1 (by decide))).trans (W7_db m ρ c),
     (h c _ (mem_uc main_v12 (by decide))).trans (W7_dgate m ρ c),
     (h c _ (mem_uc main_v13 (by decide))).trans (W7_dup m ρ c),
     (h c _ (mem_uc main_v8 (by decide))).trans (W7_ddown m ρ c),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c)⟩) (run_all m ρ)

end Results

end Cert.Proof.Run

end
-- ==== Proof.Ref.lean ====
/-
  The reference's host products at one element, and its results as functions of the arguments: what the derivative of the
  plain forward lines computes.
-/
module

public import proofs.«01_k».proof.Proof.Spec
public import proofs.«01_k».proof.Proof.Gen.ReferenceIdeal.Run
public import Idealize.ShloMosaic.Lib.IdealHost

@[expose] public section

set_option maxRecDepth 16384

noncomputable section

namespace Cert.Proof.Ref

open Cert.ReferenceIdeal Cert.ReferenceIdeal.Gen Idealize.ShloMosaic Idealize.ShloMosaic.ValueIdx Idealize.ShloMosaic.Ideal
open Idealize.ShloMosaic.TcCoe Idealize.SL.Sem
open Cert.Proof.Products Cert.Proof.Spec

theorem dot_plain (x : FVec Ideal S4096x1024 .f32) (w : FVec Ideal S1024x2816 .f32) :
    Host.dotGeneral (F := Ideal) dot_S4096x1024_S1024x2816_S4096x2816_1_0_0_1_n_n none x w = plain x w := by
  funext j
  simp only [Host.dotGeneral]
  rw [dotGeneral_apply,
    ← Equiv.sum_comp (contrEquiv1 dot_S4096x1024_S1024x2816_S4096x2816_1_0_0_1_n_n 1024 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

theorem dot_rows (x : FVec Ideal S4096x1024 .f32) (w : FVec Ideal S2816x1024 .f32) :
    Host.dotGeneral (F := Ideal) dot_S4096x1024_S2816x1024_S4096x2816_1_1_0_0_n_n none x w = rows x w := by
  funext j
  simp only [Host.dotGeneral]
  rw [dotGeneral_apply,
    ← Equiv.sum_comp (contrEquiv1 dot_S4096x1024_S2816x1024_S4096x2816_1_1_0_0_n_n 1024 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

theorem dot_cols (x : FVec Ideal S4096x2816 .f32) (w : FVec Ideal S4096x1024 .f32) :
    Host.dotGeneral (F := Ideal) dot_S4096x2816_S4096x1024_S2816x1024_0_0_1_1_n_n none x w = cols x w := by
  funext j
  simp only [Host.dotGeneral]
  rw [dotGeneral_apply,
    ← Equiv.sum_comp (contrEquiv1 dot_S4096x2816_S4096x1024_S2816x1024_0_0_1_1_n_n 4096 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

theorem dot_cols' (x : FVec Ideal S4096x1024 .f32) (w : FVec Ideal S4096x2816 .f32) :
    Host.dotGeneral (F := Ideal) dot_S4096x1024_S4096x2816_S1024x2816_0_0_1_1_n_n none x w = cols x w := by
  funext j
  simp only [Host.dotGeneral]
  rw [dotGeneral_apply,
    ← Equiv.sum_comp (contrEquiv1 dot_S4096x1024_S4096x2816_S1024x2816_0_0_1_1_n_n 4096 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

/-- The gradient at the gate product as the chain rule writes it: `(D·B)·σ + (A·(D·B))·(σ·(1-σ))`. -/
def chainGate (d a b : EReal) : EReal :=
  (d * b) * Ideal.logistic a + (a * (d * b)) * (Ideal.logistic a * (1 - Ideal.logistic a))

/-- The host's spelling of the logistic function. -/
def hostSigma (a : EReal) : EReal :=
  Ideal.div (Ideal.ofBits .f32 0x3F800000#32) (Ideal.ofBits .f32 0x3F800000#32 + Ideal.exp (-a))

theorem hostSigma_eq (a : EReal) : hostSigma a = Ideal.logistic a := by
  unfold hostSigma; rw [ofBits_one_f32]; rfl

theorem gate_eq (d a b : EReal) : (d * b) * hostSigma a + (a * (d * b)) * (hostSigma a * (Ideal.ofBits .f32 0x3F800000#32 - hostSigma a))
    = chainGate d a b := by
  rw [hostSigma_eq, ofBits_one_f32]; rfl
theorem up_eq (d a : EReal) : (a * hostSigma a) * d = (a * Ideal.logistic a) * d := by rw [hostSigma_eq]
theorem gated_eq (a b : EReal) : (a * hostSigma a) * b = Cert.Proof.In.gated a b := by rw [hostSigma_eq]

variable (x : S4096x1024.Idx → EReal) (g u : S1024x2816.Idx → EReal) (d : S2816x1024.Idx → EReal)
  (t : S4096x1024.Idx → EReal)

def rda : S4096x2816.Idx → EReal := fun i =>
  chainGate (rows (n := 4096) (p := 2816) (q := 1024) t d i) (plain x g i) (plain x u i)
def rdb : S4096x2816.Idx → EReal := fun i =>
  (plain x g i * Ideal.logistic (plain x g i)) * rows (n := 4096) (p := 2816) (q := 1024) t d i

/-- The reference's run: its five results in those terms, and its arguments kept. -/
theorem results (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c : Thread nD τ).loc main_v15) = rda (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c : Thread nD τ).loc main_v16) = rdb (m ((c : Thread nD τ).loc main_arg0)) (m ((c : Thread nD τ).loc main_arg1))
          (m ((c : Thread nD τ).loc main_arg3)) (m ((c : Thread nD τ).loc main_arg4))
      ∧ r.2.mem ((c : Thread nD τ).loc main_v14) = (fun i : S1024x2816.Idx => cols (n := 2816) (p := 1024) (q := 4096)
          (rda (m ((c : Thread nD τ).loc main_arg0)) (m ((c : Thread nD τ).loc main_arg1))
            (m ((c : Thread nD τ).loc main_arg2)) (m ((c : Thread nD τ).loc main_arg3)) (m ((c : Thread nD τ).loc main_arg4)))
          (m ((c : Thread nD τ).loc main_arg0)) (ix2 (i 1) (i 0)))
      ∧ r.2.mem ((c : Thread nD τ).loc main_v12) = (fun i : S1024x2816.Idx => cols (n := 2816) (p := 1024) (q := 4096)
          (rdb (m ((c : Thread nD τ).loc main_arg0)) (m ((c : Thread nD τ).loc main_arg1))
            (m ((c : Thread nD τ).loc main_arg3)) (m ((c : Thread nD τ).loc main_arg4)))
          (m ((c : Thread nD τ).loc main_arg0)) (ix2 (i 1) (i 0)))
      ∧ r.2.mem ((c : Thread nD τ).loc main_v6) = (fun i : S2816x1024.Idx => cols (n := 1024) (p := 2816) (q := 4096)
          (m ((c : Thread nD τ).loc main_arg4))
          (act (m ((c : Thread nD τ).loc main_arg0)) (m ((c : Thread nD τ).loc main_arg1)) (m ((c : Thread nD τ).loc main_arg2)))
          (ix2 (i 1) (i 0)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) := by
  refine (θ_run defs _ _).mono (fun _ h c => ?_) (Value.run (F := Ideal) m ρ)
  obtain ⟨h0, h1, h2, h3, h4, hargs⟩ := h c
  simp only [dot_plain, dot_rows, dot_cols, dot_cols'] at h0 h1 h2 h3 h4
  refine ⟨h0.trans ?_, h1.trans ?_, h2.trans ?_, h3.trans ?_, h4.trans ?_, hargs⟩
  · funext i; exact gate_eq _ _ _
  · funext i; exact up_eq _ _
  · funext i
    refine (transpose_at _ _ i).trans (congrArg (fun f => cols f _ (ix2 (i 1) (i 0))) (funext fun j => ?_))
    exact gate_eq _ _ _
  · funext i
    refine (transpose_at _ _ i).trans (congrArg (fun f => cols f _ (ix2 (i 1) (i 0))) (funext fun j => ?_))
    exact up_eq _ _
  · funext i
    refine (transpose_at _ _ i).trans (congrArg (fun f => cols _ f (ix2 (i 1) (i 0))) (funext fun j => ?_))
    exact gated_eq _ _

end Cert.Proof.Ref

end
-- ==== Proof.Finite.lean ====
/-
  Finite arguments: what the precondition says of every entry, that sums of products of real entries are real, and that
  for real values the kernel's and the chain rule's spelling of the gradient at the gate product are one number.
-/
module

public import proofs.«01_k».proof.Proof.Ref
public import proofs.«01_k».proof.Proof.Gen.Pre_all_finite
public import Idealize.ShloMosaic.Lib.ReduceAll

@[expose] public section

set_option maxRecDepth 16384

noncomputable section

namespace Cert.Proof.Finite

open Idealize.ShloMosaic Idealize.ShloMosaic.ValueIdx Idealize.ShloMosaic.Ideal
open Cert.Proof.Products Cert.Proof.Spec Cert.Proof.In Cert.Proof.Bwd Cert.Proof.Ref

/-- Every entry is a real number. -/
def Real {ι : Type} (x : ι → EReal) : Prop := ∃ r : ι → ℝ, x = fun i => (r i : EReal)

theorem inf_eq : Ideal.ofBits .f32 0x7F800000#32 = ⊤ := by simp [Ideal.ofBits, Ideal.ieee]

/-- An entry whose magnitude is below infinity is a real number. -/
theorem real_of_lt {a : EReal} (h : Ideal.cmp .olt (max a (-a)) (Ideal.ofBits .f32 0x7F800000#32) = 1#1) : ∃ r : ℝ, a = r := by
  rw [inf_eq] at h
  have h' : max a (-a) < ⊤ := by
    by_contra hn
    simp [Ideal.cmp, hn] at h
  induction a using EReal.rec with
  | bot => simp at h'
  | coe r => exact ⟨r, rfl⟩
  | top => simp at h'

section Pre

open Cert.Pre_all_finite Cert.Pre_all_finite.Gen

instance : Subsingleton S_.Idx := ⟨fun _ _ => funext fun a => a.elim0⟩

theorem andi_one {a b : BitVec 1} (h : IntOp.andi a b = 1#1) : a = 1#1 ∧ b = 1#1 := by
  revert h; revert a b; decide

/-- The precondition, read: every entry of every argument is real. -/
theorem reals (x : S4096x1024.Idx → EReal) (g u : S1024x2816.Idx → EReal) (d : S2816x1024.Idx → EReal)
    (t : S4096x1024.Idx → EReal) (h : fn (F := Ideal) x g u d t = fun _ => 1#1) : Real x ∧ Real g ∧ Real u ∧ Real d ∧ Real t := by
  have h' := congrFun h (fun a => a.elim0)
  dsimp only [fn, fn_part1] at h'
  obtain ⟨h', ht⟩ := andi_one h'
  obtain ⟨h', hd⟩ := andi_one h'
  obtain ⟨h', hu⟩ := andi_one h'
  obtain ⟨hx, hg⟩ := andi_one h'
  refine ⟨?_, ?_, ?_, ?_, ?_⟩
  · choose r hr using fun i => real_of_lt (a := x i) (Host.reduce_andi_all _ _ _ _ _ hx i)
    exact ⟨r, funext hr⟩
  · choose r hr using fun i => real_of_lt (a := g i) (Host.reduce_andi_all _ _ _ _ _ hg i)
    exact ⟨r, funext hr⟩
  · choose r hr using fun i => real_of_lt (a := u i) (Host.reduce_andi_all _ _ _ _ _ hu i)
    exact ⟨r, funext hr⟩
  · choose r hr using fun i => real_of_lt (a := d i) (Host.reduce_andi_all _ _ _ _ _ hd i)
    exact ⟨r, funext hr⟩
  · choose r hr using fun i => real_of_lt (a := t i) (Host.reduce_andi_all _ _ _ _ _ ht i)
    exact ⟨r, funext hr⟩

end Pre

/-- A finite sum of real terms is real. -/
theorem real_sum {ι : Type} (s : Finset ι) (f : ι → EReal) (h : ∀ i, ∃ r : ℝ, f i = r) : ∃ r : ℝ, ∑ i ∈ s, f i = r := by
  classical
  induction s using Finset.induction_on with
  | empty => exact ⟨0, by simp⟩
  | insert a s ha ih =>
    obtain ⟨r, hr⟩ := ih
    obtain ⟨q, hq⟩ := h a
    exact ⟨q + r, by rw [Finset.sum_insert ha, hr, hq, EReal.coe_add]⟩

theorem real_plain {n p q : Nat} {x : (⟨2, ![n, q]⟩ : Shape).Idx → EReal} {w : (⟨2, ![q, p]⟩ : Shape).Idx → EReal}
    (hx : Real x) (hw : Real w) (i : (⟨2, ![n, p]⟩ : Shape).Idx) : ∃ r : ℝ, plain x w i = r := by
  obtain ⟨rx, rfl⟩ := hx
  obtain ⟨rw', rfl⟩ := hw
  exact real_sum _ _ fun k => ⟨_, (EReal.coe_mul _ _).symm⟩

theorem real_rows {n p q : Nat} {x : (⟨2, ![n, q]⟩ : Shape).Idx → EReal} {w : (⟨2, ![p, q]⟩ : Shape).Idx → EReal}
    (hx : Real x) (hw : Real w) (i : (⟨2, ![n, p]⟩ : Shape).Idx) : ∃ r : ℝ, rows x w i = r := by
  obtain ⟨rx, rfl⟩ := hx
  obtain ⟨rw', rfl⟩ := hw
  exact real_sum _ _ fun k => ⟨_, (EReal.coe_mul _ _).symm⟩

/-- For real values the two spellings of the gradient at the gate product agree. -/
theorem gate_agree (d a b : ℝ) : gateGrad (d : EReal) a b = chainGate d a b := by
  unfold gateGrad chainGate
  rw [ofBits_one_f32, logistic_coe, ← EReal.coe_one]
  simp only [← EReal.coe_mul, ← EReal.coe_add, ← EReal.coe_sub]
  congr 1; ring

section Results

variable {x : Cert.KernelIdeal.S4096x1024.Idx → EReal} {g u : Cert.KernelIdeal.S1024x2816.Idx → EReal}
  {d : Cert.KernelIdeal.S2816x1024.Idx → EReal} {t : Cert.KernelIdeal.S4096x1024.Idx → EReal}

theorem da_agree (hx : Real x) (hg : Real g) (hu : Real u) (hd : Real d) (ht : Real t) : kda x g u d t = rda x g u d t := by
  funext i
  obtain ⟨rd, e1⟩ := real_rows (n := 4096) (p := 2816) (q := 1024) ht hd i
  obtain ⟨ra, e2⟩ := real_plain hx hg i
  obtain ⟨rb, e3⟩ := real_plain hx hu i
  unfold kda rda
  rw [e1, e2, e3]
  exact gate_agree rd ra rb

theorem db_agree : kdb x g d t = rdb x g d t := funext fun _ => mul_comm _ _

theorem ddown_agree : kddown x g u t = fun i => cols (n := 1024) (p := 2816) (q := 4096) t (act x g u) (ix2 (i 1) (i 0)) :=
  funext fun i => by unfold kddown cols; exact Finset.sum_congr rfl fun _ _ => mul_comm _ _

end Results

end Cert.Proof.Finite

end
-- ==== Proof.Agree.lean ====
/-
  The value claim of the feed-forward gradient: from finite arguments the five pipelined calls and the derivative of the
  plain lines end with the same five arrays.
-/
module

public import proofs.«01_k».proof.Defs
public import proofs.«01_k».proof.Proof.Run
public import proofs.«01_k».proof.Proof.Finite
public import Idealize.ShloMosaic.Lib.Quiescent

@[expose] public section

set_option maxRecDepth 16384

noncomputable section

namespace Cert.Proof.Agree

open Idealize.ShloMosaic Idealize.ShloMosaic.TcCoe Idealize.SL.Sem
open Cert.Proof.Spec Cert.Proof.Finite

/-- The reference terminates, keeps its arguments, and has no counter to leave. -/
theorem reference_frame : Cert.quiescent_ReferenceIdeal (hReferenceIdeal := Cert.ReferenceIdeal.Gen.facts) :=
  fun m ρ _ => (θ_run Cert.ReferenceIdeal.defs _ _).mono
    (fun r h => ⟨fun c => (h c).2.2.2.2.2, sem_eq_zero_of_no_sems (by decide) r.2⟩)
    (Cert.ReferenceIdeal.Value.run (F := Ideal) m ρ)

theorem value : Cert.algebraic_KernelIdeal_ReferenceIdeal_pre_all_finite (hKernelIdeal := Cert.KernelIdeal.Gen.facts)
    (hReferenceIdeal := Cert.ReferenceIdeal.Gen.facts) (hPre_all_finite := Cert.Pre_all_finite.Gen.facts) := by
  intro m g m' g' hpre hargs
  refine ⟨_, _, _, _, _, Run.results m g, (θ_run Cert.ReferenceIdeal.defs _ _).mono (fun r h c => ?_) (Ref.results m' g')⟩
  obtain ⟨hx, hg, hu, hd, ht⟩ := reals _ _ _ _ _ (hpre c)
  obtain ⟨e0, e1, e2, e3, e4⟩ := hargs c
  obtain ⟨h0, h1, h2, h3, h4, hkeep⟩ := h c
  rw [e0, e1, e2, e3, e4] at h0 h2
  rw [e0, e1, e3, e4] at h1 h3
  rw [e0, e1, e2, e4] at h4
  refine ⟨h0.trans (da_agree hx hg hu hd ht).symm, h1.trans db_agree.symm, h2.trans ?_, h3.trans ?_,
    h4.trans ddown_agree.symm, hkeep⟩
  · unfold kdgate; rw [da_agree hx hg hu hd ht]
  · unfold kdup; rw [db_agree]

end Cert.Proof.Agree

end
-- ==== Proof.Rows.lean ====
/-
  Row sums, column sums and broadcasts of the kernel bodies and of the host, each read as a function of the index; over
  any number of rows, so that a block and the whole array are read by the same lemmas.
-/
module

public import Idealize.ShloMosaic.Lib.ValueIdx
public import Idealize.ShloMosaic.Lib.ValueLayout
public import Idealize.ShloMosaic.Lib.ValueLayoutCasts
public import Idealize.ShloMosaic.Lib.IdealHost
public import Idealize.ShloMosaic.Lib.Pipeline.Value
public import Idealize.ShloMosaic.PureOps.Ideal.Laws

@[expose] public section

set_option maxRecDepth 16384

noncomputable section

namespace Cert.Proof.Rows

open Idealize.ShloMosaic Idealize.ShloMosaic.ValueIdx Idealize.ShloMosaic.Ideal

variable {n d : Nat}

/-- The sum along each row. -/
def rowSum (x : (⟨2, ![n, d]⟩ : Shape).Idx → EReal) (r : Fin n) : EReal := ∑ k : Fin d, x (ix2 r k)

/-- The sum down each column. -/
def colSum (x : (⟨2, ![n, d]⟩ : Shape).Idx → EReal) (c : Fin d) : EReal := ∑ k : Fin n, x (ix2 k c)

/-! ## The kernel bodies -/

theorem lane (x : FVec Ideal ⟨2, ![n, d]⟩ .f32) (h : Shape.Reduces ⟨2, ![n, d]⟩ [1] ⟨1, ![n]⟩)
    (hc : Shape.ShapeCasts ⟨1, ![n]⟩ ⟨2, ![n, 1]⟩) :
    shapeCast ⟨2, ![n, 1]⟩ (multiReduction .add [1] ⟨1, ![n]⟩ x 0x00000000#32 h (.inl rfl) rfl) hc
      = fun i => rowSum x (i 0) := by
  funext i
  conv_lhs => rw [eq_ix2 i]
  refine (shapeCast_a_a1_apply _ hc (i 0) (i 1)).trans ?_
  refine (h.sum_filter_drop_single x (ix1 (i 0))).trans (Finset.sum_congr rfl fun k _ => congrArg x ?_)
  funext a; match a with | ⟨0, _⟩ => rfl | ⟨1, _⟩ => rfl

theorem down (x : FVec Ideal ⟨2, ![n, d]⟩ .f32) (h : Shape.Reduces ⟨2, ![n, d]⟩ [0] ⟨1, ![d]⟩)
    (hc : Shape.ShapeCasts ⟨1, ![d]⟩ ⟨2, ![1, d]⟩) :
    shapeCast ⟨2, ![1, d]⟩ (multiReduction .add [0] ⟨1, ![d]⟩ x 0x00000000#32 h (.inl rfl) rfl) hc
      = fun i => colSum x (i 1) := by
  funext i
  conv_lhs => rw [eq_ix2 i]
  refine (shapeCast_a_1a_apply _ hc (i 0) (i 1)).trans ?_
  refine (h.sum_filter_drop_single x (ix1 (i 1))).trans (Finset.sum_congr rfl fun k _ => congrArg x ?_)
  funext a; match a with | ⟨0, _⟩ => rfl | ⟨1, _⟩ => rfl

theorem across (x : FVec Ideal ⟨2, ![n, 1]⟩ .f32) (h : Shape.Broadcasts ⟨2, ![n, 1]⟩ ⟨2, ![n, d]⟩) :
    broadcastTo ⟨2, ![n, d]⟩ x h = fun i => x (ix2 (i 0) 0) := by
  funext i
  refine broadcastTo_apply x h i _ fun a => ?_
  match a with
  | ⟨0, _⟩ =>
    show (i 0).val = if n = 1 then 0 else (i 0).val
    split
    · have := (i 0).isLt; simp at this; omega
    · rfl
  | ⟨1, _⟩ => rfl

theorem along (x : FVec Ideal ⟨2, ![1, d]⟩ .f32) (h : Shape.Broadcasts ⟨2, ![1, d]⟩ ⟨2, ![n, d]⟩) :
    broadcastTo ⟨2, ![n, d]⟩ x h = fun i => x (ix2 0 (i 1)) := by
  funext i
  conv_lhs => rw [eq_ix2 i]
  exact broadcastTo_1b_ab_apply x h (i 0) (i 1)

/-! ## The host -/

/-- The array that broadcasts one constant. -/
theorem splat {t : Shape} (b : BitVec 32) (h : (⟨0, ![]⟩ : Shape).BroadcastsInDim t ![]) :
    broadcastInDim t ![] h (constant (F := Ideal) ⟨0, ![]⟩ .f32 b) = fun _ => Ideal.ofBits .f32 b := by
  funext i; exact broadcastInDim_scalar_apply h _ i

theorem zero_word : Ideal.ofBits .f32 0x00000000#32 = (0 : EReal) := by simp [Ideal.ofBits, Ideal.ieee]

theorem host_row (hu : 0 < (⟨0, ![]⟩ : Shape).numel) (x : FVec Ideal ⟨2, ![n, d]⟩ .f32)
    (h : Shape.ReducesTo ⟨2, ![n, d]⟩ [1] ⟨1, ![n]⟩) :
    Host.reduceAdd x (constant ⟨0, ![]⟩ .f32 0x00000000#32) h hu = fun i : (⟨1, ![n]⟩ : Shape).Idx => rowSum x (i 0) := by
  funext i
  rw [hostReduceAdd_apply]
  refine (hostReduceAdd_single h ⟨h.1, Nat.one_pos, h.2⟩ x _ _).trans ?_
  rw [show (constant (F := Ideal) ⟨0, ![]⟩ .f32 0x00000000#32 (Shape.Idx.first hu)) = (0 : EReal) from zero_word, zero_add]
  refine Finset.sum_congr rfl fun k _ => congrArg x ?_
  funext a; match a with | ⟨0, _⟩ => rfl | ⟨1, _⟩ => rfl

theorem host_col (hu : 0 < (⟨0, ![]⟩ : Shape).numel) (x : FVec Ideal ⟨2, ![n, d]⟩ .f32)
    (h : Shape.ReducesTo ⟨2, ![n, d]⟩ [0] ⟨1, ![d]⟩) :
    Host.reduceAdd x (constant ⟨0, ![]⟩ .f32 0x00000000#32) h hu = fun i : (⟨1, ![d]⟩ : Shape).Idx => colSum x (i 0) := by
  funext i
  rw [hostReduceAdd_apply]
  refine (hostReduceAdd_single h ⟨h.1, Nat.one_pos, h.2⟩ x _ _).trans ?_
  rw [show (constant (F := Ideal) ⟨0, ![]⟩ .f32 0x00000000#32 (Shape.Idx.first hu)) = (0 : EReal) from zero_word, zero_add]
  refine Finset.sum_congr rfl fun k _ => congrArg x ?_
  funext a; match a with | ⟨0, _⟩ => rfl | ⟨1, _⟩ => rfl

/-- A vector laid out as the first axis of an array. -/
theorem spread (x : (⟨1, ![n]⟩ : Shape).Idx → EReal) (h : (⟨1, ![n]⟩ : Shape).BroadcastsInDim ⟨2, ![n, d]⟩ ![0]) :
    broadcastInDim ⟨2, ![n, d]⟩ ![0] h x = fun i => x (ix1 (i 0)) := by
  funext i
  refine broadcastInDim_apply ![0] h x i _ fun a => ?_
  match a with
  | ⟨0, _⟩ =>
    show (i 0).val = if n = 1 then 0 else (i 0).val
    split
    · have := (i 0).isLt; simp at this; omega
    · rfl

theorem stand (x : (⟨1, ![n]⟩ : Shape).Idx → EReal) (h : (⟨1, ![n]⟩ : Shape).ShapeCasts ⟨2, ![n, 1]⟩) :
    shapeCast ⟨2, ![n, 1]⟩ x h = fun i => x (ix1 (i 0)) := by
  funext i
  conv_lhs => rw [eq_ix2 i]
  exact shapeCast_a_a1_apply _ h (i 0) (i 1)

theorem lie (x : (⟨1, ![d]⟩ : Shape).Idx → EReal) (h : (⟨1, ![d]⟩ : Shape).ShapeCasts ⟨2, ![1, d]⟩) :
    shapeCast ⟨2, ![1, d]⟩ x h = fun i => x (ix1 (i 1)) := by
  funext i
  conv_lhs => rw [eq_ix2 i]
  exact shapeCast_a_1a_apply _ h (i 0) (i 1)

theorem host_across (x : (⟨2, ![n, 1]⟩ : Shape).Idx → EReal)
    (h : (⟨2, ![n, 1]⟩ : Shape).BroadcastsInDim ⟨2, ![n, d]⟩ ![0, 1]) :
    broadcastInDim ⟨2, ![n, d]⟩ ![0, 1] h x = fun i => x (ix2 (i 0) 0) := by
  funext i
  refine broadcastInDim_apply ![0, 1] h x i _ fun a => ?_
  match a with
  | ⟨0, _⟩ =>
    show (i 0).val = if n = 1 then 0 else (i 0).val
    split
    · have := (i 0).isLt; simp at this; omega
    · rfl
  | ⟨1, _⟩ => rfl

theorem host_along (x : (⟨2, ![1, d]⟩ : Shape).Idx → EReal)
    (h : (⟨2, ![1, d]⟩ : Shape).BroadcastsInDim ⟨2, ![n, d]⟩ ![0, 1]) :
    broadcastInDim ⟨2, ![n, d]⟩ ![0, 1] h x = fun i => x (ix2 0 (i 1)) := by
  funext i
  refine broadcastInDim_apply ![0, 1] h x i _ fun a => ?_
  match a with
  | ⟨0, _⟩ => rfl
  | ⟨1, _⟩ =>
    show (i 1).val = if d = 1 then 0 else (i 1).val
    split
    · have := (i 1).isLt; simp at this; omega
    · rfl

end Cert.Proof.Rows

end
-- ==== Proof.Rms.lean ====
/-
  The root-mean-square normalisation of a row, `x · r · g` with `r = 1/√(mean x² + ε)`, and its derivative, as functions of
  the rows alone: what both the kernel bodies and the derivative of the plain line compute, over any number of rows.
-/
module

public import proofs.«01_k».proof.Proof.Rows

@[expose] public section

set_option maxRecDepth 16384

noncomputable section

namespace Cert.Proof.Rms

open Idealize.ShloMosaic Idealize.ShloMosaic.ValueIdx Cert.Proof.Rows

variable {n d : Nat}

/-- A sum along a row of one element. -/
theorem rowSum_one (x : (⟨2, ![n, 1]⟩ : Shape).Idx → EReal) (r : Fin n) : rowSum x r = x (ix2 r 0) :=
  Fin.sum_univ_one fun k => x (ix2 r k)

/-- A kernel's sum along rows of one element changes nothing. -/
theorem lane_one (x : FVec Ideal ⟨2, ![n, 1]⟩ .f32) (h : Shape.Reduces ⟨2, ![n, 1]⟩ [1] ⟨1, ![n]⟩)
    (hc : Shape.ShapeCasts ⟨1, ![n]⟩ ⟨2, ![n, 1]⟩) :
    shapeCast ⟨2, ![n, 1]⟩ (multiReduction .add [1] ⟨1, ![n]⟩ x 0x00000000#32 h (.inl rfl) rfl) hc = x := by
  rw [lane]
  funext i
  refine (rowSum_one x (i 0)).trans (congrArg x ?_)
  funext a
  match a with
  | ⟨0, _⟩ => rfl
  | ⟨1, _⟩ => exact Fin.ext (by have : (i 1).val < 1 := (i 1).isLt; show 0 = (i 1).val; omega)

/-- Nor does the host's. -/
theorem host_row_one (hu : 0 < (⟨0, ![]⟩ : Shape).numel) (x : FVec Ideal ⟨2, ![n, 1]⟩ .f32)
    (h : Shape.ReducesTo ⟨2, ![n, 1]⟩ [1] ⟨1, ![n]⟩) :
    Host.reduceAdd x (constant ⟨0, ![]⟩ .f32 0x00000000#32) h hu = fun i : (⟨1, ![n]⟩ : Shape).Idx => x (ix2 (i 0) 0) := by
  rw [host_row]; funext i; exact rowSum_one x (i 0)

/-- The mean square of row `r`, and ε. -/
def msq (x : (⟨2, ![n, d]⟩ : Shape).Idx → EReal) (r : Fin n) : EReal :=
  Ideal.div (rowSum (fun i => x i * x i) r) (Ideal.ofBits .f32 0x44800000#32) + Ideal.ofBits .f32 0x358637BD#32

/-- The factor of row `r`. -/
def inv (x : (⟨2, ![n, d]⟩ : Shape).Idx → EReal) (r : Fin n) : EReal := Ideal.rsqrt (msq x r)

/-- The normalised array. -/
def normed (x : (⟨2, ![n, d]⟩ : Shape).Idx → EReal) (g : (⟨2, ![1, d]⟩ : Shape).Idx → EReal) :
    (⟨2, ![n, d]⟩ : Shape).Idx → EReal := fun i => x i * inv x (i 0) * g (ix2 0 (i 1))

/-- What the mean square passes back to each element of row `r`, under the upstream gradient `h`. -/
def pull (x : (⟨2, ![n, d]⟩ : Shape).Idx → EReal) (g : (⟨2, ![1, d]⟩ : Shape).Idx → EReal)
    (h : (⟨2, ![n, d]⟩ : Shape).Idx → EReal) (r : Fin n) : EReal :=
  Ideal.div (rowSum (fun i => x i * (h i * g (ix2 0 (i 1)))) r
    * (Ideal.ofBits .f32 0xBF000000#32 * Ideal.div (inv x r) (msq x r))) (Ideal.ofBits .f32 0x44800000#32)

/-- The gradient at the rows. -/
def dx (x : (⟨2, ![n, d]⟩ : Shape).Idx → EReal) (g : (⟨2, ![1, d]⟩ : Shape).Idx → EReal)
    (h : (⟨2, ![n, d]⟩ : Shape).Idx → EReal) : (⟨2, ![n, d]⟩ : Shape).Idx → EReal := fun i =>
  ((h i * g (ix2 0 (i 1))) * inv x (i 0) + x i * pull x g h (i 0)) + pull x g h (i 0) * x i

/-- One row's part of the gradient at the gain. -/
def dgain (x h : (⟨2, ![n, d]⟩ : Shape).Idx → EReal) : (⟨2, ![n, d]⟩ : Shape).Idx → EReal := fun i =>
  x i * inv x (i 0) * h i

/-! ## Each reads one row only -/

variable {N : Nat} {x : (⟨2, ![n, d]⟩ : Shape).Idx → EReal} {X : (⟨2, ![N, d]⟩ : Shape).Idx → EReal}
  {g G : (⟨2, ![1, d]⟩ : Shape).Idx → EReal} {h : (⟨2, ![n, d]⟩ : Shape).Idx → EReal}
  {H : (⟨2, ![N, d]⟩ : Shape).Idx → EReal} {r : Fin n} {R : Fin N}

theorem msq_congr (hx : ∀ k, x (ix2 r k) = X (ix2 R k)) : msq x r = msq X R := by
  unfold msq rowSum; simp only [hx]
theorem inv_congr (hx : ∀ k, x (ix2 r k) = X (ix2 R k)) : inv x r = inv X R := by
  unfold inv; rw [msq_congr hx]
theorem pull_congr (hx : ∀ k, x (ix2 r k) = X (ix2 R k)) (hg : ∀ k, g (ix2 0 k) = G (ix2 0 k))
    (hh : ∀ k, h (ix2 r k) = H (ix2 R k)) : pull x g h r = pull X G H R := by
  unfold pull
  rw [inv_congr hx, msq_congr hx]
  unfold rowSum
  refine congrArg (fun e => Ideal.div (e * _) _) (Finset.sum_congr rfl fun k _ => ?_)
  show x (ix2 r k) * (h (ix2 r k) * g (ix2 0 k)) = X (ix2 R k) * (H (ix2 R k) * G (ix2 0 k))
  rw [hx, hh, hg]
theorem dx_congr (hx : ∀ k, x (ix2 r k) = X (ix2 R k)) (hg : ∀ k, g (ix2 0 k) = G (ix2 0 k))
    (hh : ∀ k, h (ix2 r k) = H (ix2 R k)) (c : Fin d) : dx x g h (ix2 r c) = dx X G H (ix2 R c) := by
  show ((h (ix2 r c) * g (ix2 0 c)) * inv x r + x (ix2 r c) * pull x g h r) + pull x g h r * x (ix2 r c)
    = ((H (ix2 R c) * G (ix2 0 c)) * inv X R + X (ix2 R c) * pull X G H R) + pull X G H R * X (ix2 R c)
  rw [hx, hh, hg, inv_congr hx, pull_congr hx hg hh]
theorem dgain_congr (hx : ∀ k, x (ix2 r k) = X (ix2 R k)) (hh : ∀ k, h (ix2 r k) = H (ix2 R k)) (c : Fin d) :
    dgain x h (ix2 r c) = dgain X H (ix2 R c) := by
  show x (ix2 r c) * inv x r * h (ix2 r c) = X (ix2 R c) * inv X R * H (ix2 R c)
  rw [hx, hh, inv_congr hx]
theorem normed_congr (hx : ∀ k, x (ix2 r k) = X (ix2 R k)) (hg : ∀ k, g (ix2 0 k) = G (ix2 0 k)) (c : Fin d) :
    normed x g (ix2 r c) = normed X G (ix2 R c) := by
  show x (ix2 r c) * inv x r * g (ix2 0 c) = X (ix2 R c) * inv X R * G (ix2 0 c)
  rw [hx, hg, inv_congr hx]

end Cert.Proof.Rms

end
-- ==== Proof.HostRms.lean ====
/-
  The host's spelling of the normalisation's derivative over the 4096 rows, and that it is the derivative row by row.
-/
module

public import proofs.«01_k».proof.Proof.Rms
public import proofs.«01_k».proof.Proof.Gen.NormRefIdeal.Run

@[expose] public section

set_option maxRecDepth 16384

noncomputable section

namespace Cert.Proof.HostRms

open Cert.NormRefIdeal Cert.NormRefIdeal.Gen Idealize.ShloMosaic Idealize.ShloMosaic.ValueIdx Idealize.ShloMosaic.Ideal
open Cert.Proof.Rows Cert.Proof.Rms

variable (x h : FVec Ideal S4096x1024 .f32) (g : FVec Ideal S1x1024 .f32)

/-- The mean squares and ε, as a column. -/
def hmsq : FVec Ideal S4096x1 .f32 :=
  addf (Host.divf (broadcastInDim S4096x1 ![0] bcast_S4096_S4096x1_0 (Host.reduceAdd (mulf x x)
      (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x358637BD#32))

theorem hmsq_eq : hmsq x = fun i => msq (n := 4096) (d := 1024) x (i 0) := by
  unfold hmsq; rw [host_row, splat, splat, spread]; rfl

/-- The row factors, over the whole array. -/
def hinv : FVec Ideal S4096x1024 .f32 :=
  broadcastInDim S4096x1024 ![0, 1] bcast_S4096x1_S4096x1024_0_1 (Host.rsqrt (hmsq x))

theorem hinv_eq : hinv x = fun i => inv (n := 4096) (d := 1024) x (i 0) := by
  unfold hinv; rw [hmsq_eq, host_across]; rfl

/-- The upstream gradient times the gain. -/
def hgained : FVec Ideal S4096x1024 .f32 := mulf h (broadcastInDim S4096x1024 ![0, 1] bcast_S1x1024_S4096x1024_0_1 g)

theorem hgained_eq : hgained h g = fun i => h i * g (ix2 0 (i 1)) := by
  unfold hgained; rw [host_along]; rfl

/-- What the mean square passes back. -/
def hpull : FVec Ideal S4096x1024 .f32 :=
  broadcastInDim S4096x1024 ![0] bcast_S4096_S4096x1024_0 (Host.reduceAdd (Host.divf (mulf (shapeCast _ (Host.reduceAdd
      (mulf x (hgained h g)) (constant S_ .f32 0x00000000#32) reducesTo_S4096x1024_S4096_d1 h_S_) shapeCasts_S4096_S4096x1)
    (mulf (broadcastInDim S4096x1 ![] bcast_S_S4096x1 (constant S_ .f32 0xBF000000#32)) (Host.divf (Host.rsqrt (hmsq x)) (hmsq x))))
    (broadcastInDim S4096x1 ![] bcast_S_S4096x1 (constant S_ .f32 0x44800000#32)))
    (constant S_ .f32 0x00000000#32) reducesTo_S4096x1_S4096_d1 h_S_)

theorem hpull_eq : hpull x h g = fun i => pull (n := 4096) (d := 1024) x g h (i 0) := by
  unfold hpull; rw [hmsq_eq, hgained_eq, host_row_one, host_row, splat, splat, stand, spread]; rfl

/-- The gradient at the rows. -/
def hgrad : FVec Ideal S4096x1024 .f32 :=
  addf (addf (mulf (hgained h g) (hinv x)) (mulf x (hpull x h g))) (mulf (hpull x h g) x)

theorem hgrad_eq : hgrad x h g = dx (n := 4096) (d := 1024) x g h := by
  unfold hgrad; rw [hpull_eq, hinv_eq, hgained_eq]; rfl

/-- The gradient at the gain. -/
def hgain : FVec Ideal S1x1024 .f32 :=
  shapeCast _ (Host.reduceAdd (mulf (mulf x (hinv x)) h) (constant S_ .f32 0x00000000#32) reducesTo_S4096x1024_S1024_d0 h_S_)
    shapeCasts_S1024_S1x1024

theorem hgain_eq : hgain x h = fun i => colSum (n := 4096) (d := 1024) (dgain (n := 4096) (d := 1024) x h) (i 1) := by
  unfold hgain; rw [hinv_eq, host_col, lie]; rfl

end Cert.Proof.HostRms

end
-- ==== Proof.NormRun.lean ====
/-
  The normalisation's backward call: what its three output arrays hold when the pipeline is left, as functions of the
  arrays it finds. At point t the body takes rows 256 t … 256 t + 255: both products of the upstream gradients with the
  transposed weights, the derivative of the normalisation, and the skip; the gain's gradient is summed over the points.
-/
module

public import proofs.«01_k».proof.Proof.Rms
public import proofs.«01_k».proof.Proof.Spec
public import proofs.«01_k».proof.Proof.Gen.NormIdeal.Value
public import Idealize.ShloMosaic.Lib.Pipeline.ValueKit

@[expose] public section

set_option maxRecDepth 16384

noncomputable section

namespace Cert.Proof.NormRun

open Cert.NormIdeal Cert.NormIdeal.Gen Idealize.ShloMosaic Idealize.ShloMosaic.TcCoe Idealize.SL.Sem
open Idealize.ShloMosaic.ValueIdx Idealize.ShloMosaic.Ideal Cert.Proof.Spec Cert.Proof.Rows Cert.Proof.Rms
open Idealize.ShloMosaic.Pipeline (Dat)

/-! ## What the body computes from its blocks -/

theorem dot_block (x : FVec Ideal S256x2816 .bf16) (w : FVec Ideal S2816x1024 .bf16) :
    FloatOps.matmul dot_S256x2816_S2816x1024_S256x1024_1_0_0_1_n_n none x w (constant S256x1024 .f32 0x00000000#32)
      = plain x w := by
  funext j
  rw [matmul_constant_zero_apply,
    ← Equiv.sum_comp (contrEquiv1 dot_S256x2816_S2816x1024_S256x1024_1_0_0_1_n_n 2816 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

/-- The gradient at the normalised rows, from the two upstream gradients and the two transposed weights. -/
def up {n : Nat} (a b : (⟨2, ![n, 2816]⟩ : Shape).Idx → EReal) (wa wb : S2816x1024.Idx → EReal) :
    (⟨2, ![n, 1024]⟩ : Shape).Idx → EReal := fun i => plain a wa i + plain b wb i

theorem pay_up (a b : FVec Ideal S256x2816 .bf16) (wa wb : FVec Ideal S2816x1024 .bf16) :
    k0_pay4 (F := Ideal) a wa b wb = up (n := 256) a b wa wb := by
  unfold k0_pay4 up; rw [← dot_block, ← dot_block]; simp only [shapeCast_self]; rfl

theorem pay_msq (x : FVec Ideal S256x1024 .f32) : k0_pay5 (F := Ideal) x = fun i => msq (n := 256) (d := 1024) x (i 0) := by
  unfold k0_pay5; simp only []; rw [lane]; rfl

theorem pay_inv (x : FVec Ideal S256x1024 .f32) : k0_pay6 (F := Ideal) x = fun i => inv (n := 256) (d := 1024) x (i 0) := by
  unfold k0_pay6; rw [pay_msq]; rfl

theorem pay_gain (a b : FVec Ideal S256x2816 .bf16) (wa wb : FVec Ideal S2816x1024 .bf16) (x : FVec Ideal S256x1024 .f32) :
    k0_pay7 (F := Ideal) a wa b wb x
      = fun i => colSum (n := 256) (d := 1024) (dgain (n := 256) (d := 1024) x (up (n := 256) a b wa wb)) (i 1) := by
  unfold k0_pay7; rw [pay_inv, pay_up]; simp only [across]; rw [down]; rfl

theorem pay_dx (a b : FVec Ideal S256x2816 .bf16) (wa wb : FVec Ideal S2816x1024 .bf16) (x s : FVec Ideal S256x1024 .f32)
    (g : FVec Ideal S1x1024 .f32) :
    k0_pay1 (F := Ideal) x s (k0_pay9 a wa b wb x g) (k0_pay10 a wa b wb x g) (Scalar.ofBits .f32 0x44800000#32)
      = fun i => dx (n := 256) (d := 1024) x g (up (n := 256) a b wa wb) i + s i := by
  unfold k0_pay1 k0_pay9 k0_pay10 k0_pay8; rw [pay_inv, pay_msq, pay_up]
  simp only [along]; rw [lane_one, lane]; simp only [across]; rfl

end Cert.Proof.NormRun

end
-- ==== Proof.NormArr.lean ====
/-
  The normalisation's backward call: the blocks of the arrays, and the three output arrays when the pipeline is left.
-/
module

public import proofs.«01_k».proof.Proof.NormRun

@[expose] public section

set_option maxRecDepth 16384

noncomputable section

namespace Cert.Proof.NormArr

open Cert.NormIdeal Cert.NormIdeal.Gen Idealize.ShloMosaic.TcCoe Idealize.SL.Sem
open Idealize.ShloMosaic hiding ix1 ix2 eq_ix1 eq_ix2
open Idealize.ShloMosaic.ValueIdx Cert.Proof.Spec Cert.Proof.Rows Cert.Proof.Rms Cert.Proof.NormRun
open Idealize.ShloMosaic.Pipeline (Dat)

variable (m : (ℓ : Loc nD τ sig) → Buf (Elt Ideal) ℓ) (c : Dev nD)

/-! ## Where the blocks lie -/

theorem idx_rows : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_4.index t (0 : Fin 2) = t.val ∧ win0_4.index t (1 : Fin 2) = 0)
    ∧ (win0_6.index t (0 : Fin 2) = t.val ∧ win0_6.index t (1 : Fin 2) = 0) :=
  (by decide +kernel : ∀ t : Fin grid0.N, _)
theorem idx_whole : ∀ t : Fin cfg0.N, (win0_2.index t (0 : Fin 2) = 0 ∧ win0_2.index t (1 : Fin 2) = 0)
    ∧ (win0_3.index t (0 : Fin 2) = 0 ∧ win0_3.index t (1 : Fin 2) = 0)
    ∧ (win0_5.index t (0 : Fin 2) = 0 ∧ win0_5.index t (1 : Fin 2) = 0) :=
  (by decide +kernel : ∀ t : Fin grid0.N, _)
theorem idx_out : ∀ t : Fin cfg0.N, (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = 0 ∧ win0_9.index t (1 : Fin 2) = 0) :=
  (by decide +kernel : ∀ t : Fin grid0.N, _)

variable (t : Fin cfg0.N)

theorem blk_da (r : Fin 256) (k : Fin 2816) (R : Fin 4096) (h : t.val * 256 + r.val = R.val) :
    iblk m c 0 t (ix2 r k) = V m c main_arg0 (ix2 R k) := by
  obtain ⟨⟨e0, e1⟩, -⟩ := idx_rows t
  refine congrArg (V m c main_arg0) (funext fun a => Fin.ext ?_)
  match a with
  | ⟨0, _⟩ => show win0_0.index t (0 : Fin 2) * 256 + 1 * r.val = R.val; omega
  | ⟨1, _⟩ => show win0_0.index t (1 : Fin 2) * 2816 + 1 * k.val = k.val; omega
theorem blk_db (r : Fin 256) (k : Fin 2816) (R : Fin 4096) (h : t.val * 256 + r.val = R.val) :
    iblk m c 1 t (ix2 r k) = V m c main_arg1 (ix2 R k) := by
  obtain ⟨-, ⟨e0, e1⟩, -⟩ := idx_rows t
  refine congrArg (V m c main_arg1) (funext fun a => Fin.ext ?_)
  match a with
  | ⟨0, _⟩ => show win0_1.index t (0 : Fin 2) * 256 + 1 * r.val = R.val; omega
  | ⟨1, _⟩ => show win0_1.index t (1 : Fin 2) * 2816 + 1 * k.val = k.val; omega
theorem blk_x (r : Fin 256) (k : Fin 1024) (R : Fin 4096) (h : t.val * 256 + r.val = R.val) :
    iblk m c 4 t (ix2 r k) = V m c main_arg4 (ix2 R k) := by
  obtain ⟨-, -, ⟨e0, e1⟩, -⟩ := idx_rows t
  refine congrArg (V m c main_arg4) (funext fun a => Fin.ext ?_)
  match a with
  | ⟨0, _⟩ => show win0_4.index t (0 : Fin 2) * 256 + 1 * r.val = R.val; omega
  | ⟨1, _⟩ => show win0_4.index t (1 : Fin 2) * 1024 + 1 * k.val = k.val; omega
theorem blk_skip (r : Fin 256) (k : Fin 1024) (R : Fin 4096) (h : t.val * 256 + r.val = R.val) :
    iblk m c 6 t (ix2 r k) = V m c main_arg6 (ix2 R k) := by
  obtain ⟨-, -, -, e0, e1⟩ := idx_rows t
  refine congrArg (V m c main_arg6) (funext fun a => Fin.ext ?_)
  match a with
  | ⟨0, _⟩ => show win0_6.index t (0 : Fin 2) * 256 + 1 * r.val = R.val; omega
  | ⟨1, _⟩ => show win0_6.index t (1 : Fin 2) * 1024 + 1 * k.val = k.val; omega
theorem blk_wg : iblk m c 2 t = V m c main_v1 := by
  obtain ⟨⟨e0, e1⟩, -⟩ := idx_whole t
  refine funext fun i => congrArg (V m c main_v1) (funext fun a => Fin.ext ?_)
  match a with
  | ⟨0, _⟩ => show win0_2.index t (0 : Fin 2) * 2816 + 1 * (i 0).val = (i 0).val; omega
  | ⟨1, _⟩ => show win0_2.index t (1 : Fin 2) * 1024 + 1 * (i 1).val = (i 1).val; omega
theorem blk_wu : iblk m c 3 t = V m c main_v3 := by
  obtain ⟨-, ⟨e0, e1⟩, -⟩ := idx_whole t
  refine funext fun i => congrArg (V m c main_v3) (funext fun a => Fin.ext ?_)
  match a with
  | ⟨0, _⟩ => show win0_3.index t (0 : Fin 2) * 2816 + 1 * (i 0).val = (i 0).val; omega
  | ⟨1, _⟩ => show win0_3.index t (1 : Fin 2) * 1024 + 1 * (i 1).val = (i 1).val; omega
theorem blk_g : iblk m c 5 t = V m c main_arg5 := by
  obtain ⟨-, -, e0, e1⟩ := idx_whole t
  refine funext fun i => congrArg (V m c main_arg5) (funext fun a => Fin.ext ?_)
  match a with
  | ⟨0, _⟩ => show win0_5.index t (0 : Fin 2) * 1 + 1 * (i 0).val = (i 0).val; omega
  | ⟨1, _⟩ => show win0_5.index t (1 : Fin 2) * 1024 + 1 * (i 1).val = (i 1).val; omega

/-! ## The three arrays, of the arrays the pipeline finds -/

/-- The gradient at the normalised rows. -/
abbrev H : S4096x1024.Idx → EReal := up (n := 4096) (V m c main_arg0) (V m c main_arg1) (V m c main_v1) (V m c main_v3)
/-- The gradient at the rows, with the skip's. -/
abbrev DX : S4096x1024.Idx → EReal := fun i =>
  dx (n := 4096) (d := 1024) (V m c main_arg4) (V m c main_arg5) (H m c) i + V m c main_arg6 i
/-- The gain's gradient. -/
abbrev DG : S1x1024.Idx → EReal := fun i =>
  colSum (n := 4096) (d := 1024) (dgain (n := 4096) (d := 1024) (V m c main_arg4) (H m c)) (i 1)

theorem up_blk (r : Fin 256) (k : Fin 1024) (R : Fin 4096) (h : t.val * 256 + r.val = R.val) :
    up (n := 256) (iblk m c 0 t) (iblk m c 1 t) (iblk m c 2 t) (iblk m c 3 t) (ix2 r k) = H m c (ix2 R k) := by
  rw [blk_wg, blk_wu]
  exact congrArg₂ (· + ·) (Finset.sum_congr rfl fun q _ => congrArg (· * _) (blk_da m c t r q R h))
    (Finset.sum_congr rfl fun q _ => congrArg (· * _) (blk_db m c t r q R h))

theorem dx_blk (j : S256x1024.Idx) (i : S4096x1024.Idx) (h0 : t.val * 256 + (j 0).val = (i 0).val) (h1 : (j 1).val = (i 1).val) :
    dx (n := 256) (d := 1024) (iblk m c 4 t) (iblk m c 5 t)
        (up (n := 256) (iblk m c 0 t) (iblk m c 1 t) (iblk m c 2 t) (iblk m c 3 t)) j + iblk m c 6 t j = DX m c i := by
  have e : (j 1) = (i 1) := Fin.ext h1
  rw [eq_ix2 j, eq_ix2 i, blk_g, ← e]
  exact congrArg₂ (· + ·) (dx_congr (fun k => blk_x m c t _ k _ h0) (fun _ => rfl) (fun k => up_blk m c t _ k _ h0) (j 1))
    (blk_skip m c t _ _ _ h0)

/-- What point `t` leaves in the first two blocks. -/
theorem outs_dx : (outsAt0 m c t.val t.isLt).1 = fun j : S256x1024.Idx =>
    dx (n := 256) (d := 1024) (iblk m c 4 t) (iblk m c 5 t)
        (up (n := 256) (iblk m c 0 t) (iblk m c 1 t) (iblk m c 2 t) (iblk m c 3 t)) j + iblk m c 6 t j := by
  by_cases h : t.val % 16 = 0
  · by_cases h1 : 1 ≤ t.val
    · have := t.isLt; have e : cfg0.N = 16 := N_0; omega
    · rw [outsAt0_A m c t h h1]; frame_out; rw [pay_dx]
  · rw [outsAt0_B m c t h (by omega)]; frame_out; rw [pay_dx]
theorem outs_dx_b : (outsAt0 m c t.val t.isLt).2.1 = (outsAt0 m c t.val t.isLt).1 := by
  by_cases h : t.val % 16 = 0
  · by_cases h1 : 1 ≤ t.val
    · have := t.isLt; have e : cfg0.N = 16 := N_0; omega
    · rw [outsAt0_A m c t h h1]; frame_out; rfl
  · rw [outsAt0_B m c t h (by omega)]; frame_out; rfl

/-- Where an output block's element lies in its array. -/
theorem emb7 (j : S256x1024.Idx) (a : Fin 2) :
    (((cfg0.win 7).blk t).view.emb j a).val = (![t.val * 256 + (j 0).val, (j 1).val] : Fin 2 → Nat) a := by
  obtain ⟨⟨e0, e1⟩, -⟩ := idx_out t
  match a with
  | ⟨0, _⟩ => show win0_7.index t (0 : Fin 2) * 256 + 1 * (j 0).val = t.val * 256 + (j 0).val; omega
  | ⟨1, _⟩ => show win0_7.index t (1 : Fin 2) * 1024 + 1 * (j 1).val = (j 1).val; omega
theorem emb8 (j : S256x1024.Idx) (a : Fin 2) :
    (((cfg0.win 8).blk t).view.emb j a).val = (![t.val * 256 + (j 0).val, (j 1).val] : Fin 2 → Nat) a := by
  obtain ⟨-, ⟨e0, e1⟩, -⟩ := idx_out t
  match a with
  | ⟨0, _⟩ => show win0_8.index t (0 : Fin 2) * 256 + 1 * (j 0).val = t.val * 256 + (j 0).val; omega
  | ⟨1, _⟩ => show win0_8.index t (1 : Fin 2) * 1024 + 1 * (j 1).val = (j 1).val; omega

/-- Every index of the arrays is in the block of some point. -/
theorem point_of (i : S4096x1024.Idx) : ∃ (t : Fin cfg0.N) (j : S256x1024.Idx),
    t.val * 256 + (j 0).val = (i 0).val ∧ (j 1).val = (i 1).val := by
  have h0 : (i 0).val < 4096 := (i 0).isLt
  have h1 : (i 1).val < 1024 := (i 1).isLt
  refine ⟨⟨(i 0).val / 256, by rw [show cfg0.N = 16 from N_0]; omega⟩, ix2 ⟨(i 0).val % 256, by omega⟩ ⟨(i 1).val, h1⟩, ?_, rfl⟩
  show (i 0).val / 256 * 256 + (i 0).val % 256 = _; omega

theorem arr_dx : (dats m 0 c).arrAt 7 cfg0.N = DX m c :=
  (dats m 0 c).arrAt_eq_of_cover 7 (DX m c) (fun t _ => by
    show (cfg0.win 7).cut (grid0.coords t) ((dats m 0 c).after 7 t) = _
    rw [after0_7, outs_dx]
    funext j
    exact dx_blk m c t j _ (emb7 t j 0).symm (emb7 t j 1).symm)
  fun i => by
    obtain ⟨t, j, e0, e1⟩ := point_of i
    refine ⟨t, flush0_7 t, ?_⟩
    have h := ((cfg0.win 7).blk t).view.emb_mem_set j
    rwa [show ((cfg0.win 7).blk t).view.emb j = i from funext fun a => Fin.ext (by
      match a with | ⟨0, _⟩ => exact (emb7 t j 0).trans e0 | ⟨1, _⟩ => exact (emb7 t j 1).trans e1)] at h

theorem arr_dx_b : (dats m 0 c).arrAt 8 cfg0.N = DX m c :=
  (dats m 0 c).arrAt_eq_of_cover 8 (DX m c) (fun t _ => by
    show (cfg0.win 8).cut (grid0.coords t) ((dats m 0 c).after 8 t) = _
    rw [after0_8, outs_dx_b, outs_dx]
    funext j
    exact dx_blk m c t j _ (emb8 t j 0).symm (emb8 t j 1).symm)
  fun i => by
    obtain ⟨t, j, e0, e1⟩ := point_of i
    refine ⟨t, flush0_8 t, ?_⟩
    have h := ((cfg0.win 8).blk t).view.emb_mem_set j
    rwa [show ((cfg0.win 8).blk t).view.emb j = i from funext fun a => Fin.ext (by
      match a with | ⟨0, _⟩ => exact (emb8 t j 0).trans e0 | ⟨1, _⟩ => exact (emb8 t j 1).trans e1)] at h

/-! ## The gain's gradient, summed over the points -/

/-- What point `t` adds. -/
abbrev term (t : Fin cfg0.N) : S1x1024.Idx → EReal := fun i => colSum (n := 256) (d := 1024)
  (dgain (n := 256) (d := 1024) (iblk m c 4 t) (up (n := 256) (iblk m c 0 t) (iblk m c 1 t) (iblk m c 2 t) (iblk m c 3 t))) (i 1)

theorem outs_dg_first (h : t.val % 16 = 0) (i : S1x1024.Idx) :
    (outsAt0 m c t.val t.isLt).2.2 i = 0 + term m c t i := by
  have := t.isLt; have e : cfg0.N = 16 := N_0
  rw [outsAt0_A m c t h (by omega), zero_add]; frame_out; rw [pay_gain]
theorem outs_dg_next (h : ¬t.val % 16 = 0) (i : S1x1024.Idx) :
    (outsAt0 m c t.val t.isLt).2.2 i
      = (outsAt0 m c (t.val - 1) (Nat.lt_of_le_of_lt (Nat.sub_le _ _) t.isLt)).2.2 i + term m c t i := by
  rw [outsAt0_B m c t h (by omega)]; frame_out; unfold k0_pay3; rw [pay_gain, shapeCast_self]; rfl

/-- The last grid point. -/
abbrev tLast : Fin cfg0.N := ⟨15, by rw [show cfg0.N = 16 from N_0]; omega⟩

theorem outs_dg (i : S1x1024.Idx) : (outsAt0 m c tLast.val tLast.isLt).2.2 i = DG m c i := by
  rw [Pipeline.eq_sum_fin_of_reset_step_apply_last (fun n h => (outsAt0 m c n h).2.2) 16 (fun _ => 0) (term m c)
    (outs_dg_first m c) (outs_dg_next m c) (le_of_eq N_0) tLast N_0.symm i, zero_add]
  refine Fin.sum_mul_add_congr fun t k hl => ?_
  exact dgain_congr (fun q => blk_x m c t _ q ⟨_, hl⟩ rfl) (fun q => up_blk m c t _ q ⟨_, hl⟩ rfl) (i 1)

theorem arr_dg : (dats m 0 c).arrAt 9 cfg0.N = DG m c :=
  (dats m 0 c).arrAt_eq_of_cover 9 (DG m c) (fun t ht => by
    have e : t = tLast := by
      have h := (flush0_9 t).mp ht; have := t.isLt; have e : cfg0.N = 16 := N_0
      exact Fin.ext (by show t.val = 15; omega)
    subst e
    show (cfg0.win 9).cut (grid0.coords tLast) ((dats m 0 c).after 9 tLast) = _
    rw [after0_9]
    funext j
    refine (outs_dg m c j).trans (congrArg (DG m c) (funext fun a => Fin.ext ?_))
    obtain ⟨-, -, e0, e1⟩ := idx_out tLast
    match a with
    | ⟨0, _⟩ => show (j 0).val = win0_9.index tLast (0 : Fin 2) * 1 + 1 * (j 0).val; omega
    | ⟨1, _⟩ => show (j 1).val = win0_9.index tLast (1 : Fin 2) * 1024 + 1 * (j 1).val; omega)
  fun i => by
    refine ⟨tLast, (flush0_9 tLast).mpr rfl, ?_⟩
    have h := ((cfg0.win 9).blk tLast).view.emb_mem_set i
    obtain ⟨-, -, e0, e1⟩ := idx_out tLast
    rwa [show ((cfg0.win 9).blk tLast).view.emb i = i from funext fun a => Fin.ext (by
      match a with
      | ⟨0, _⟩ => show win0_9.index tLast (0 : Fin 2) * 1 + 1 * (i 0).val = (i 0).val; omega
      | ⟨1, _⟩ => show win0_9.index tLast (1 : Fin 2) * 1024 + 1 * (i 1).val = (i 1).val; omega)] at h

end Cert.Proof.NormArr

end
-- ==== Proof.NormRef.lean ====
/-
  The reference of the normalisation's backward call: its three results, and the agreement with the pipelined call.
-/
module

public import proofs.«01_k».proof.Defs
public import proofs.«01_k».proof.Proof.HostRms
public import proofs.«01_k».proof.Proof.NormArr
public import Idealize.ShloMosaic.Lib.Quiescent

@[expose] public section

set_option maxRecDepth 16384

noncomputable section

namespace Cert.Proof.NormRef

open Idealize.ShloMosaic Idealize.ShloMosaic.TcCoe Idealize.SL.Sem Idealize.ShloMosaic.Ideal
open Cert.Proof.Products Cert.Proof.Spec Cert.Proof.Rows Cert.Proof.Rms Cert.Proof.HostRms Cert.Proof.NormRun

section Reference

open Cert.NormRefIdeal Cert.NormRefIdeal.Gen

theorem dot_rows (x : FVec Ideal S4096x2816 .f32) (w : FVec Ideal S1024x2816 .f32) :
    Host.dotGeneral (F := Ideal) dot_S4096x2816_S1024x2816_S4096x1024_1_1_0_0_n_n none x w = rows x w := by
  funext j
  simp only [Host.dotGeneral]
  rw [dotGeneral_apply,
    ← Equiv.sum_comp (ValueIdx.contrEquiv1 dot_S4096x2816_S1024x2816_S4096x1024_1_1_0_0_n_n 2816 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

/-- The gradient at the normalised rows, as the chain rule writes it: the up branch first. -/
def upRef (a b : S4096x2816.Idx → EReal) (wg wu : S1024x2816.Idx → EReal) : S4096x1024.Idx → EReal := fun i =>
  rows (n := 4096) (p := 1024) (q := 2816) b wu i + rows (n := 4096) (p := 1024) (q := 2816) a wg i

variable (m : (ℓ : Loc nD τ sig) → Buf (Elt Ideal) ℓ) (ρ : Dev nD → PrngReg)

abbrev HR (c : Dev nD) : S4096x1024.Idx → EReal := upRef (m ((c : Thread nD τ).loc main_arg0))
  (m ((c : Thread nD τ).loc main_arg1)) (m ((c : Thread nD τ).loc main_arg2)) (m ((c : Thread nD τ).loc main_arg3))

theorem ref_dx (c : Dev nD) : Value.res_main_v41 m c = fun i => dx (n := 4096) (d := 1024)
    (m ((c : Thread nD τ).loc main_arg4)) (m ((c : Thread nD τ).loc main_arg5)) (HR m c) i + m ((c : Thread nD τ).loc main_arg6) i := by
  unfold Value.res_main_v41
  rw [dot_rows, dot_rows]
  show addf (hgrad (m ((c : Thread nD τ).loc main_arg4)) (HR m c) (m ((c : Thread nD τ).loc main_arg5)))
    (m ((c : Thread nD τ).loc main_arg6)) = _
  rw [hgrad_eq]; rfl

theorem results : θ_run defs (onTc (τ := τ) (main (F := Ideal))) ⟨m, fun _ => 0, ρ⟩ (fun r => ∀ c : Dev nD,
      r.2.mem ((c : Thread nD τ).loc main_v41) = (fun i => dx (n := 4096) (d := 1024)
        (m ((c : Thread nD τ).loc main_arg4)) (m ((c : Thread nD τ).loc main_arg5)) (HR m c) i + m ((c : Thread nD τ).loc main_arg6) i)
      ∧ r.2.mem ((c : Thread nD τ).loc main_v42) = (fun i => dx (n := 4096) (d := 1024)
        (m ((c : Thread nD τ).loc main_arg4)) (m ((c : Thread nD τ).loc main_arg5)) (HR m c) i + m ((c : Thread nD τ).loc main_arg6) i)
      ∧ r.2.mem ((c : Thread nD τ).loc main_v24) = (fun i => colSum (n := 4096) (d := 1024)
        (dgain (n := 4096) (d := 1024) (m ((c : Thread nD τ).loc main_arg4)) (HR m c)) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) := by
  refine (θ_run defs _ _).mono (fun _ h c => ?_) (Value.run (F := Ideal) m ρ)
  obtain ⟨h0, h1, h2, hargs⟩ := h c
  refine ⟨h0.trans (ref_dx m c), h1.trans (ref_dx m c), h2.trans ?_, hargs⟩
  rw [dot_rows, dot_rows]
  exact hgain_eq (m ((c : Thread nD τ).loc main_arg4)) (HR m c)

end Reference

/-- The reference terminates, keeps its arguments, and has no counter to leave. -/
theorem reference_frame : Cert.quiescent_NormRefIdeal (hNormRefIdeal := Cert.NormRefIdeal.Gen.facts) :=
  fun m ρ _ => (θ_run Cert.NormRefIdeal.defs _ _).mono
    (fun r h => ⟨fun c => (h c).2.2.2, sem_eq_zero_of_no_sems (by decide) r.2⟩)
    (Cert.NormRefIdeal.Value.run (F := Ideal) m ρ)

section Kernel

open Cert.NormIdeal Cert.NormIdeal.Gen Cert.Proof.NormArr

variable (m : (ℓ : Loc nD τ sig) → Buf (Elt Ideal) ℓ) (c : Dev nD)

theorem V_wg : V m c main_v1 = truncf (F := Ideal) (φ := .f32) .bf16 (transpose S2816x1024 [1, 0]
    (m ((c : Thread nD τ).loc main_arg2)) transposes_S1024x2816_S2816x1024_1_0) bitsLt_bf16_f32 := by
  unfold V hostOps0; after_results_simp
theorem V_wu : V m c main_v3 = truncf (F := Ideal) (φ := .f32) .bf16 (transpose S2816x1024 [1, 0]
    (m ((c : Thread nD τ).loc main_arg3)) transposes_S1024x2816_S2816x1024_1_0) bitsLt_bf16_f32 := by
  unfold V hostOps0; after_results_simp

/-- The product with a transposed weight is the product of the rows. -/
theorem plain_transpose (x : S4096x2816.Idx → EReal) (w : S1024x2816.Idx → EReal) :
    plain (n := 4096) (p := 1024) (q := 2816) x (transpose S2816x1024 [1, 0] w transposes_S1024x2816_S2816x1024_1_0)
      = rows (n := 4096) (p := 1024) (q := 2816) x w :=
  funext fun i => Finset.sum_congr rfl fun k _ => congrArg (x _ * ·) (ValueIdx.transpose_ix2_apply w _ k (i 1))

theorem H_eq : H m c = upRef (m ((c : Thread nD τ).loc main_arg0)) (m ((c : Thread nD τ).loc main_arg1))
    (m ((c : Thread nD τ).loc main_arg2)) (m ((c : Thread nD τ).loc main_arg3)) := by
  unfold H
  rw [V_wg, V_wu, V_main_arg0, V_main_arg1]
  funext i
  exact (congrArg₂ (· + ·) (congrFun (plain_transpose _ _) i) (congrFun (plain_transpose _ _) i)).trans (add_comm _ _)

end Kernel

theorem value : Cert.algebraic_NormIdeal_NormRefIdeal (hNormIdeal := Cert.NormIdeal.Gen.facts)
    (hNormRefIdeal := Cert.NormRefIdeal.Gen.facts) := by
  intro m g m' g' _ hargs
  refine ⟨_, _, _, Cert.NormIdeal.Value.run_blocks (F := Ideal) m g, (θ_run Cert.NormRefIdeal.defs _ _).mono (fun r h c => ?_) (results m' g')⟩
  obtain ⟨e0, e1, e2, e3, e4, e5, e6⟩ := hargs c
  obtain ⟨h0, h1, h2, hkeep⟩ := h c
  unfold HR at h0 h1 h2
  rw [e0, e1, e2, e3, e4, e5, e6] at h0 h1
  rw [e0, e1, e2, e3, e4] at h2
  refine ⟨h0.trans ?_, h1.trans ?_, h2.trans ?_, hkeep⟩
  · rw [NormArr.arr_dx]; unfold NormArr.DX; rw [H_eq, Cert.NormIdeal.Gen.V_main_arg4, Cert.NormIdeal.Gen.V_main_arg5, Cert.NormIdeal.Gen.V_main_arg6]
  · rw [NormArr.arr_dx_b]; unfold NormArr.DX; rw [H_eq, Cert.NormIdeal.Gen.V_main_arg4, Cert.NormIdeal.Gen.V_main_arg5, Cert.NormIdeal.Gen.V_main_arg6]
  · rw [NormArr.arr_dg]; unfold NormArr.DG; rw [H_eq, Cert.NormIdeal.Gen.V_main_arg4]; rfl

end Cert.Proof.NormRef

end
-- ==== Proof.LossRun.lean ====
/-
  The last call: the gate branch's last product and the skip, the final normalisation, the loss, and the gradients at the
  rows and at the final gain; what its four output arrays hold when the pipeline is left. At point t the body takes rows
  512 t … 512 t + 511; the gain's gradient and the loss are summed over the points.
-/
module

public import proofs.«01_k».proof.Proof.Rms
public import proofs.«01_k».proof.Proof.Spec
public import proofs.«01_k».proof.Proof.Gen.LossIdeal.Value
public import Idealize.ShloMosaic.Lib.Pipeline.ValueKit

@[expose] public section

set_option maxRecDepth 16384

noncomputable section

namespace Cert.Proof.LossRun

open Cert.LossIdeal Cert.LossIdeal.Gen Idealize.ShloMosaic.TcCoe Idealize.SL.Sem
open Idealize.ShloMosaic hiding ix1 ix2 eq_ix1 eq_ix2
open Idealize.ShloMosaic.ValueIdx Idealize.ShloMosaic.Ideal Cert.Proof.Spec Cert.Proof.Rows Cert.Proof.Rms
open Idealize.ShloMosaic.Pipeline (Dat)

/-! ## The functions of the rows -/

section Rows
variable {n : Nat}

/-- The rows the loss normalises: the product and the skip. -/
def out (a : (⟨2, ![n, 2816]⟩ : Shape).Idx → EReal) (w : S2816x1024.Idx → EReal) (s : (⟨2, ![n, 1024]⟩ : Shape).Idx → EReal) :
    (⟨2, ![n, 1024]⟩ : Shape).Idx → EReal := fun i => plain a w i + s i

/-- The normalised rows' distance to the targets. -/
def err (y : (⟨2, ![n, 1024]⟩ : Shape).Idx → EReal) (g : S1x1024.Idx → EReal) (t : (⟨2, ![n, 1024]⟩ : Shape).Idx → EReal) :
    (⟨2, ![n, 1024]⟩ : Shape).Idx → EReal := fun i => normed y g i - t i

/-- The gradient of the loss at the normalised rows. -/
def seed (y : (⟨2, ![n, 1024]⟩ : Shape).Idx → EReal) (g : S1x1024.Idx → EReal) (t : (⟨2, ![n, 1024]⟩ : Shape).Idx → EReal) :
    (⟨2, ![n, 1024]⟩ : Shape).Idx → EReal := fun i => err y g t i * Ideal.ofBits .f32 0x3A800000#32

/-- The mean squared distance of row `r`. -/
def mean (e : (⟨2, ![n, 1024]⟩ : Shape).Idx → EReal) (r : Fin n) : EReal :=
  Ideal.div (rowSum (fun i => e i * e i) r) (Ideal.ofBits .f32 0x44800000#32)

/-- Half the sum of the rows' means. -/
def half (e : (⟨2, ![n, 1024]⟩ : Shape).Idx → EReal) : EReal := Ideal.ofBits .f32 0x3F000000#32 * ∑ r : Fin n, mean e r

end Rows

/-! ## What the body computes from its blocks -/

theorem dot_down (x : FVec Ideal S512x2816 .bf16) (w : FVec Ideal S2816x1024 .bf16) :
    FloatOps.matmul dot_S512x2816_S2816x1024_S512x1024_1_0_0_1_n_n none x w (constant S512x1024 .f32 0x00000000#32)
      = plain x w := by
  funext j
  rw [matmul_constant_zero_apply,
    ← Equiv.sum_comp (contrEquiv1 dot_S512x2816_S2816x1024_S512x1024_1_0_0_1_n_n 2816 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

theorem pay_out (a : FVec Ideal S512x2816 .bf16) (w : FVec Ideal S2816x1024 .bf16) (s : FVec Ideal S512x1024 .f32) : k0_pay6 (F := Ideal) a w s = out (n := 512) a w s := by
  unfold k0_pay6 out; rw [← dot_down]; simp only [shapeCast_self]; rfl

theorem pay_msq (a : FVec Ideal S512x2816 .bf16) (w : FVec Ideal S2816x1024 .bf16) (s : FVec Ideal S512x1024 .f32) :
    k0_pay7 (F := Ideal) a w s = fun i => msq (n := 512) (d := 1024) (out (n := 512) a w s) (i 0) := by
  unfold k0_pay7; rw [pay_out]; simp only []; rw [lane]; rfl

theorem pay_inv (a : FVec Ideal S512x2816 .bf16) (w : FVec Ideal S2816x1024 .bf16) (s : FVec Ideal S512x1024 .f32) :
    k0_pay8 (F := Ideal) a w s = fun i => inv (n := 512) (d := 1024) (out (n := 512) a w s) (i 0) := by
  unfold k0_pay8; rw [pay_msq]; rfl

theorem pay_scaled (a : FVec Ideal S512x2816 .bf16) (w : FVec Ideal S2816x1024 .bf16) (s : FVec Ideal S512x1024 .f32) :
    k0_pay9 (F := Ideal) a w s = fun i => out (n := 512) a w s i * inv (n := 512) (d := 1024) (out (n := 512) a w s) (i 0) := by
  unfold k0_pay9; rw [pay_inv, pay_out]; simp only [across]; rfl

theorem pay_err (a : FVec Ideal S512x2816 .bf16) (w : FVec Ideal S2816x1024 .bf16) (s : FVec Ideal S512x1024 .f32) (g : FVec Ideal S1x1024 .f32) (t : FVec Ideal S512x1024 .f32) :
    k0_pay10 (F := Ideal) a w s g t = err (n := 512) (out (n := 512) a w s) g t := by
  unfold k0_pay10; rw [pay_scaled]; simp only [along]; rfl

theorem pay_seed (a : FVec Ideal S512x2816 .bf16) (w : FVec Ideal S2816x1024 .bf16) (s : FVec Ideal S512x1024 .f32) (g : FVec Ideal S1x1024 .f32) (t : FVec Ideal S512x1024 .f32) :
    k0_pay11 (F := Ideal) a w s g t = seed (n := 512) (out (n := 512) a w s) g t := by
  unfold k0_pay11; rw [pay_err]; rfl

theorem pay_gain (a : FVec Ideal S512x2816 .bf16) (w : FVec Ideal S2816x1024 .bf16) (s : FVec Ideal S512x1024 .f32) (g : FVec Ideal S1x1024 .f32) (t : FVec Ideal S512x1024 .f32) : k0_pay12 (F := Ideal) a w s g t
    = fun i => colSum (n := 512) (d := 1024) (dgain (n := 512) (d := 1024) (out (n := 512) a w s) (seed (n := 512) (out (n := 512) a w s) g t)) (i 1) := by
  unfold k0_pay12; rw [pay_scaled, pay_seed]; simp only []; rw [down]; rfl

theorem pay_dx (a : FVec Ideal S512x2816 .bf16) (w : FVec Ideal S2816x1024 .bf16) (s : FVec Ideal S512x1024 .f32) (g : FVec Ideal S1x1024 .f32) (t : FVec Ideal S512x1024 .f32) :
    k0_pay1 (F := Ideal) (k0_pay6 a w s) (k0_pay14 a w s g t) (k0_pay15 a w s g t)
      = dx (n := 512) (d := 1024) (out (n := 512) a w s) g (seed (n := 512) (out (n := 512) a w s) g t) := by
  unfold k0_pay1 k0_pay14 k0_pay15 k0_pay13; rw [pay_inv, pay_msq, pay_seed, pay_out]
  simp only [along]; rw [lane_one, lane]; simp only [across]; rfl

theorem pay_half (a : FVec Ideal S512x2816 .bf16) (w : FVec Ideal S2816x1024 .bf16) (s : FVec Ideal S512x1024 .f32) (g : FVec Ideal S1x1024 .f32) (t : FVec Ideal S512x1024 .f32) :
    k0_pay2 (F := Ideal) (k0_pay10 a w s g t) = fun _ => half (err (n := 512) (out (n := 512) a w s) g t) := by
  unfold k0_pay2; rw [pay_err]; simp only []; rw [lane, down, shapeCast_self, across]; rfl

variable (m : (ℓ : Loc nD τ sig) → Buf (Elt Ideal) ℓ) (c : Dev nD)

/-! ## Where the blocks lie -/

theorem idx_rows : ∀ t : Fin cfg0.N, (win0_0.index t (0 : Fin 2) = t.val ∧ win0_0.index t (1 : Fin 2) = 0)
    ∧ (win0_2.index t (0 : Fin 2) = t.val ∧ win0_2.index t (1 : Fin 2) = 0)
    ∧ (win0_4.index t (0 : Fin 2) = t.val ∧ win0_4.index t (1 : Fin 2) = 0) :=
  (by decide +kernel : ∀ t : Fin grid0.N, _)
theorem idx_whole : ∀ t : Fin cfg0.N, (win0_1.index t (0 : Fin 2) = 0 ∧ win0_1.index t (1 : Fin 2) = 0)
    ∧ (win0_3.index t (0 : Fin 2) = 0 ∧ win0_3.index t (1 : Fin 2) = 0) :=
  (by decide +kernel : ∀ t : Fin grid0.N, _)
theorem idx_out : ∀ t : Fin cfg0.N, (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

variable (t : Fin cfg0.N)

theorem blk_act (r : Fin 512) (k : Fin 2816) (R : Fin 4096) (h : t.val * 512 + r.val = R.val) :
    iblk m c 0 t (ix2 r k) = V m c main_arg0 (ix2 R k) := by
  obtain ⟨⟨e0, e1⟩, -⟩ := idx_rows t
  refine congrArg (V m c main_arg0) (funext fun a => Fin.ext ?_)
  match a with
  | ⟨0, _⟩ => show win0_0.index t (0 : Fin 2) * 512 + 1 * r.val = R.val; omega
  | ⟨1, _⟩ => show win0_0.index t (1 : Fin 2) * 2816 + 1 * k.val = k.val; omega
theorem blk_skip (r : Fin 512) (k : Fin 1024) (R : Fin 4096) (h : t.val * 512 + r.val = R.val) :
    iblk m c 2 t (ix2 r k) = V m c main_arg4 (ix2 R k) := by
  obtain ⟨-, ⟨e0, e1⟩, -⟩ := idx_rows t
  refine congrArg (V m c main_arg4) (funext fun a => Fin.ext ?_)
  match a with
  | ⟨0, _⟩ => show win0_2.index t (0 : Fin 2) * 512 + 1 * r.val = R.val; omega
  | ⟨1, _⟩ => show win0_2.index t (1 : Fin 2) * 1024 + 1 * k.val = k.val; omega
theorem blk_target (r : Fin 512) (k : Fin 1024) (R : Fin 4096) (h : t.val * 512 + r.val = R.val) :
    iblk m c 4 t (ix2 r k) = V m c main_arg3 (ix2 R k) := by
  obtain ⟨-, -, ⟨e0, e1⟩⟩ := idx_rows t
  refine congrArg (V m c main_arg3) (funext fun a => Fin.ext ?_)
  match a with
  | ⟨0, _⟩ => show win0_4.index t (0 : Fin 2) * 512 + 1 * r.val = R.val; omega
  | ⟨1, _⟩ => show win0_4.index t (1 : Fin 2) * 1024 + 1 * k.val = k.val; omega
theorem blk_w : iblk m c 1 t = V m c main_v0 := by
  obtain ⟨⟨e0, e1⟩, -⟩ := idx_whole t
  refine funext fun i => congrArg (V m c main_v0) (funext fun a => Fin.ext ?_)
  match a with
  | ⟨0, _⟩ => show win0_1.index t (0 : Fin 2) * 2816 + 1 * (i 0).val = (i 0).val; omega
  | ⟨1, _⟩ => show win0_1.index t (1 : Fin 2) * 1024 + 1 * (i 1).val = (i 1).val; omega
theorem blk_g : iblk m c 3 t = V m c main_arg2 := by
  obtain ⟨-, ⟨e0, e1⟩⟩ := idx_whole t
  refine funext fun i => congrArg (V m c main_arg2) (funext fun a => Fin.ext ?_)
  match a with
  | ⟨0, _⟩ => show win0_3.index t (0 : Fin 2) * 1 + 1 * (i 0).val = (i 0).val; omega
  | ⟨1, _⟩ => show win0_3.index t (1 : Fin 2) * 1024 + 1 * (i 1).val = (i 1).val; omega

/-! ## The four arrays, of the arrays the pipeline finds -/

/-- The rows before the last normalisation. -/
abbrev Y : S4096x1024.Idx → EReal := out (n := 4096) (V m c main_arg0) (V m c main_v0) (V m c main_arg4)
/-- Their gradient. -/
abbrev DX : S4096x1024.Idx → EReal :=
  dx (n := 4096) (d := 1024) (Y m c) (V m c main_arg2) (seed (n := 4096) (Y m c) (V m c main_arg2) (V m c main_arg3))
/-- The gain's gradient. -/
abbrev DG : S1x1024.Idx → EReal := fun i => colSum (n := 4096) (d := 1024)
  (dgain (n := 4096) (d := 1024) (Y m c) (seed (n := 4096) (Y m c) (V m c main_arg2) (V m c main_arg3))) (i 1)
/-- The loss, in every lane. -/
abbrev L : S1x128.Idx → EReal := fun _ => half (err (n := 4096) (Y m c) (V m c main_arg2) (V m c main_arg3))

theorem out_blk (r : Fin 512) (k : Fin 1024) (R : Fin 4096) (h : t.val * 512 + r.val = R.val) :
    out (n := 512) (iblk m c 0 t) (iblk m c 1 t) (iblk m c 2 t) (ix2 r k) = Y m c (ix2 R k) := by
  rw [blk_w]
  exact congrArg₂ (· + ·) (Finset.sum_congr rfl fun q _ => congrArg (· * _) (blk_act m c t r q R h)) (blk_skip m c t r k R h)

theorem err_blk (r : Fin 512) (k : Fin 1024) (R : Fin 4096) (h : t.val * 512 + r.val = R.val) :
    err (n := 512) (out (n := 512) (iblk m c 0 t) (iblk m c 1 t) (iblk m c 2 t)) (iblk m c 3 t) (iblk m c 4 t) (ix2 r k) = err (n := 4096) (Y m c) (V m c main_arg2) (V m c main_arg3) (ix2 R k) := by
  rw [blk_g]
  exact congrArg₂ (· - ·) (normed_congr (fun q => out_blk m c t r q R h) (fun _ => rfl) k) (blk_target m c t r k R h)

theorem seed_blk (r : Fin 512) (k : Fin 1024) (R : Fin 4096) (h : t.val * 512 + r.val = R.val) :
    seed (n := 512) (out (n := 512) (iblk m c 0 t) (iblk m c 1 t) (iblk m c 2 t)) (iblk m c 3 t) (iblk m c 4 t) (ix2 r k) = seed (n := 4096) (Y m c) (V m c main_arg2) (V m c main_arg3) (ix2 R k) :=
  congrArg (· * _) (err_blk m c t r k R h)

theorem dx_blk (j : S512x1024.Idx) (i : S4096x1024.Idx) (h0 : t.val * 512 + (j 0).val = (i 0).val) (h1 : (j 1).val = (i 1).val) :
    dx (n := 512) (d := 1024) (out (n := 512) (iblk m c 0 t) (iblk m c 1 t) (iblk m c 2 t)) (iblk m c 3 t) (seed (n := 512) (out (n := 512) (iblk m c 0 t) (iblk m c 1 t) (iblk m c 2 t)) (iblk m c 3 t) (iblk m c 4 t)) j = DX m c i := by
  have e : (j 1) = (i 1) := Fin.ext h1
  rw [eq_ix2 j, eq_ix2 i, ← e]
  exact dx_congr (fun k => out_blk m c t _ k _ h0) (fun k => by rw [blk_g]) (fun k => seed_blk m c t _ k _ h0) (j 1)

/-- What point `t` leaves in the first two blocks. -/
theorem outs_dx : (outsAt0 m c t.val t.isLt).1
    = dx (n := 512) (d := 1024) (out (n := 512) (iblk m c 0 t) (iblk m c 1 t) (iblk m c 2 t)) (iblk m c 3 t) (seed (n := 512) (out (n := 512) (iblk m c 0 t) (iblk m c 1 t) (iblk m c 2 t)) (iblk m c 3 t) (iblk m c 4 t)) := by
  have := t.isLt; have e : cfg0.N = 8 := N_0
  by_cases h : t.val % 8 = 0
  · rw [outsAt0_A m c t h (by omega) h (by omega)]; frame_out; rw [pay_dx]
  · rw [outsAt0_B m c t h (by omega) h (by omega)]; frame_out; rw [pay_dx]
theorem outs_dx_b : (outsAt0 m c t.val t.isLt).2.1
    = dx (n := 512) (d := 1024) (out (n := 512) (iblk m c 0 t) (iblk m c 1 t) (iblk m c 2 t)) (iblk m c 3 t) (seed (n := 512) (out (n := 512) (iblk m c 0 t) (iblk m c 1 t) (iblk m c 2 t)) (iblk m c 3 t) (iblk m c 4 t)) := by
  have := t.isLt; have e : cfg0.N = 8 := N_0
  by_cases h : t.val % 8 = 0
  · rw [outsAt0_A m c t h (by omega) h (by omega)]; frame_out; unfold k0_pay3; rw [pay_dx]; rfl
  · rw [outsAt0_B m c t h (by omega) h (by omega)]; frame_out; unfold k0_pay3; rw [pay_dx]; rfl

/-- Where an output block's element lies in its array. -/
theorem emb5 (j : S512x1024.Idx) (a : Fin 2) :
    (((cfg0.win 5).blk t).view.emb j a).val = (![t.val * 512 + (j 0).val, (j 1).val] : Fin 2 → Nat) a := by
  obtain ⟨⟨e0, e1⟩, -⟩ := idx_out t
  match a with
  | ⟨0, _⟩ => show win0_5.index t (0 : Fin 2) * 512 + 1 * (j 0).val = t.val * 512 + (j 0).val; omega
  | ⟨1, _⟩ => show win0_5.index t (1 : Fin 2) * 1024 + 1 * (j 1).val = (j 1).val; omega
theorem emb6 (j : S512x1024.Idx) (a : Fin 2) :
    (((cfg0.win 6).blk t).view.emb j a).val = (![t.val * 512 + (j 0).val, (j 1).val] : Fin 2 → Nat) a := by
  obtain ⟨-, ⟨e0, e1⟩, -⟩ := idx_out t
  match a with
  | ⟨0, _⟩ => show win0_6.index t (0 : Fin 2) * 512 + 1 * (j 0).val = t.val * 512 + (j 0).val; omega
  | ⟨1, _⟩ => show win0_6.index t (1 : Fin 2) * 1024 + 1 * (j 1).val = (j 1).val; omega

/-- Every index of the array is in the block of some point. -/
theorem point_of (i : S4096x1024.Idx) : ∃ (t : Fin cfg0.N) (j : S512x1024.Idx),
    t.val * 512 + (j 0).val = (i 0).val ∧ (j 1).val = (i 1).val := by
  have h0 : (i 0).val < 4096 := (i 0).isLt
  have h1 : (i 1).val < 1024 := (i 1).isLt
  refine ⟨⟨(i 0).val / 512, by rw [show cfg0.N = 8 from N_0]; omega⟩, ix2 ⟨(i 0).val % 512, by omega⟩ ⟨(i 1).val, h1⟩, ?_, rfl⟩
  show (i 0).val / 512 * 512 + (i 0).val % 512 = _; omega

theorem arr_dx : (dats m 0 c).arrAt 5 cfg0.N = DX m c :=
  (dats m 0 c).arrAt_eq_of_cover 5 (DX m c) (fun t _ => by
    show (cfg0.win 5).cut (grid0.coords t) ((dats m 0 c).after 5 t) = _
    rw [after0_5, outs_dx]
    funext j
    exact dx_blk m c t j _ (emb5 t j 0).symm (emb5 t j 1).symm)
  fun i => by
    obtain ⟨t, j, e0, e1⟩ := point_of i
    refine ⟨t, flush0_5 t, ?_⟩
    have h := ((cfg0.win 5).blk t).view.emb_mem_set j
    rwa [show ((cfg0.win 5).blk t).view.emb j = i from funext fun a => Fin.ext (by
      match a with | ⟨0, _⟩ => exact (emb5 t j 0).trans e0 | ⟨1, _⟩ => exact (emb5 t j 1).trans e1)] at h
theorem arr_dx_b : (dats m 0 c).arrAt 6 cfg0.N = DX m c :=
  (dats m 0 c).arrAt_eq_of_cover 6 (DX m c) (fun t _ => by
    show (cfg0.win 6).cut (grid0.coords t) ((dats m 0 c).after 6 t) = _
    rw [after0_6, outs_dx_b]
    funext j
    exact dx_blk m c t j _ (emb6 t j 0).symm (emb6 t j 1).symm)
  fun i => by
    obtain ⟨t, j, e0, e1⟩ := point_of i
    refine ⟨t, flush0_6 t, ?_⟩
    have h := ((cfg0.win 6).blk t).view.emb_mem_set j
    rwa [show ((cfg0.win 6).blk t).view.emb j = i from funext fun a => Fin.ext (by
      match a with | ⟨0, _⟩ => exact (emb6 t j 0).trans e0 | ⟨1, _⟩ => exact (emb6 t j 1).trans e1)] at h

/-! ## The gain's gradient and the loss, summed over the points -/

/-- The last grid point. -/
abbrev tLast : Fin cfg0.N := ⟨7, by rw [show cfg0.N = 8 from N_0]; omega⟩

/-- What point `t` adds to the gain's gradient. -/
abbrev term (t : Fin cfg0.N) : S1x1024.Idx → EReal := fun i => colSum (n := 512) (d := 1024)
  (dgain (n := 512) (d := 1024) (out (n := 512) (iblk m c 0 t) (iblk m c 1 t) (iblk m c 2 t))
    (seed (n := 512) (out (n := 512) (iblk m c 0 t) (iblk m c 1 t) (iblk m c 2 t)) (iblk m c 3 t) (iblk m c 4 t))) (i 1)

theorem outs_dg_first (h : t.val % 8 = 0) (i : S1x1024.Idx) :
    (outsAt0 m c t.val t.isLt).2.2.1 i = 0 + term m c t i := by
  have := t.isLt; have e : cfg0.N = 8 := N_0
  rw [outsAt0_A m c t h (by omega) h (by omega), zero_add]; frame_out; rw [pay_gain]
theorem outs_dg_next (h : ¬t.val % 8 = 0) (i : S1x1024.Idx) :
    (outsAt0 m c t.val t.isLt).2.2.1 i
      = (outsAt0 m c (t.val - 1) (Nat.lt_of_le_of_lt (Nat.sub_le _ _) t.isLt)).2.2.1 i + term m c t i := by
  rw [outsAt0_B m c t h (by omega) h (by omega)]; frame_out; unfold k0_pay4; rw [pay_gain, shapeCast_self]; rfl

theorem outs_dg (i : S1x1024.Idx) : (outsAt0 m c tLast.val tLast.isLt).2.2.1 i = DG m c i := by
  rw [Pipeline.eq_sum_fin_of_reset_step_apply_last (fun n h => (outsAt0 m c n h).2.2.1) 8 (fun _ => 0) (term m c)
    (outs_dg_first m c) (outs_dg_next m c) (le_of_eq N_0) tLast N_0.symm i, zero_add]
  refine Fin.sum_mul_add_congr fun t k hl => ?_
  exact dgain_congr (fun q => out_blk m c t _ q ⟨_, hl⟩ rfl) (fun q => seed_blk m c t _ q ⟨_, hl⟩ rfl) (i 1)

theorem arr_dg : (dats m 0 c).arrAt 7 cfg0.N = DG m c :=
  (dats m 0 c).arrAt_eq_of_cover 7 (DG m c) (fun t ht => by
    have e : t = tLast := by
      have h := (flush0_7 t).mp ht; have := t.isLt; have e : cfg0.N = 8 := N_0
      exact Fin.ext (by show t.val = 7; omega)
    subst e
    show (cfg0.win 7).cut (grid0.coords tLast) ((dats m 0 c).after 7 tLast) = _
    rw [after0_7]
    funext j
    refine (outs_dg m c j).trans (congrArg (DG m c) (funext fun a => Fin.ext ?_))
    obtain ⟨-, -, ⟨e0, e1⟩, -⟩ := idx_out tLast
    match a with
    | ⟨0, _⟩ => show (j 0).val = win0_7.index tLast (0 : Fin 2) * 1 + 1 * (j 0).val; omega
    | ⟨1, _⟩ => show (j 1).val = win0_7.index tLast (1 : Fin 2) * 1024 + 1 * (j 1).val; omega)
  fun i => by
    refine ⟨tLast, (flush0_7 tLast).mpr rfl, ?_⟩
    have h := ((cfg0.win 7).blk tLast).view.emb_mem_set i
    obtain ⟨-, -, ⟨e0, e1⟩, -⟩ := idx_out tLast
    rwa [show ((cfg0.win 7).blk tLast).view.emb i = i from funext fun a => Fin.ext (by
      match a with
      | ⟨0, _⟩ => show win0_7.index tLast (0 : Fin 2) * 1 + 1 * (i 0).val = (i 0).val; omega
      | ⟨1, _⟩ => show win0_7.index tLast (1 : Fin 2) * 1024 + 1 * (i 1).val = (i 1).val; omega)] at h

/-- What point `t` adds to the loss. -/
abbrev part (t : Fin cfg0.N) : S1x128.Idx → EReal := fun _ => half (err (n := 512) (out (n := 512) (iblk m c 0 t) (iblk m c 1 t) (iblk m c 2 t)) (iblk m c 3 t) (iblk m c 4 t))

theorem outs_loss_first (h : t.val % 8 = 0) (i : S1x128.Idx) :
    (outsAt0 m c t.val t.isLt).2.2.2 i = 0 + part m c t i := by
  have := t.isLt; have e : cfg0.N = 8 := N_0
  rw [outsAt0_A m c t h (by omega) h (by omega), zero_add]; frame_out; rw [pay_half]
theorem outs_loss_next (h : ¬t.val % 8 = 0) (i : S1x128.Idx) :
    (outsAt0 m c t.val t.isLt).2.2.2 i
      = (outsAt0 m c (t.val - 1) (Nat.lt_of_le_of_lt (Nat.sub_le _ _) t.isLt)).2.2.2 i + part m c t i := by
  rw [outsAt0_B m c t h (by omega) h (by omega)]; frame_out; unfold k0_pay5; rw [pay_half, shapeCast_self]; rfl

/-- A half, as the word says it. -/
theorem half_word : Ideal.ofBits .f32 0x3F000000#32 = (((1 / 2 : ℝ)) : EReal) := by
  simp [Ideal.ofBits, Ideal.ieee]; norm_num [← EReal.coe_mul]

/-- A half goes into a sum. -/
theorem half_sum {ι : Type} (S : Finset ι) (f : ι → EReal) :
    Ideal.ofBits .f32 0x3F000000#32 * ∑ i ∈ S, f i = ∑ i ∈ S, Ideal.ofBits .f32 0x3F000000#32 * f i := by
  classical
  refine Finset.induction_on S (by simp) fun a S h ih => ?_
  rw [Finset.sum_insert h, Finset.sum_insert h, ← ih]
  refine EReal.left_distrib_of_nonneg_of_ne_top ?_ ?_ _ _
  · rw [half_word]; exact EReal.coe_nonneg.mpr (by norm_num)
  · rw [half_word]; exact EReal.coe_ne_top _

theorem outs_loss (i : S1x128.Idx) : (outsAt0 m c tLast.val tLast.isLt).2.2.2 i = L m c i := by
  rw [Pipeline.eq_sum_fin_of_reset_step_apply_last (fun n h => (outsAt0 m c n h).2.2.2) 8 (fun _ => 0) (part m c)
    (outs_loss_first m c) (outs_loss_next m c) (le_of_eq N_0) tLast N_0.symm i, zero_add]
  show (∑ t, Ideal.ofBits .f32 0x3F000000#32 * ∑ r, mean _ r) = Ideal.ofBits .f32 0x3F000000#32 * ∑ r, mean _ r
  rw [← half_sum]
  refine congrArg (_ * ·) (Fin.sum_mul_add_congr fun t k hl => ?_)
  exact congrArg (fun e => Ideal.div e _) (Finset.sum_congr rfl fun q _ =>
    congrArg₂ (· * ·) (err_blk m c t _ q ⟨_, hl⟩ rfl) (err_blk m c t _ q ⟨_, hl⟩ rfl))

theorem arr_loss : (dats m 0 c).arrAt 8 cfg0.N = L m c :=
  (dats m 0 c).arrAt_eq_of_cover 8 (L m c) (fun t ht => by
    have e : t = tLast := by
      have h := (flush0_8 t).mp ht; have := t.isLt; have e : cfg0.N = 8 := N_0
      exact Fin.ext (by show t.val = 7; omega)
    subst e
    show (cfg0.win 8).cut (grid0.coords tLast) ((dats m 0 c).after 8 tLast) = _
    rw [after0_8]
    funext j
    exact outs_loss m c j)
  fun i => by
    refine ⟨tLast, (flush0_8 tLast).mpr rfl, ?_⟩
    have h := ((cfg0.win 8).blk tLast).view.emb_mem_set i
    obtain ⟨-, -, -, ⟨e0, e1⟩⟩ := idx_out tLast
    rwa [show ((cfg0.win 8).blk tLast).view.emb i = i from funext fun a => Fin.ext (by
      match a with
      | ⟨0, _⟩ => show win0_8.index tLast (0 : Fin 2) * 1 + 1 * (i 0).val = (i 0).val; omega
      | ⟨1, _⟩ => show win0_8.index tLast (1 : Fin 2) * 128 + 1 * (i 1).val = (i 1).val; omega)] at h

end Cert.Proof.LossRun

end
-- ==== Proof.LossRef.lean ====
/-
  The reference of the last call, the loss and its gradients as the chain rule writes them, and the agreement with the
  pipelined call.
-/
module

public import proofs.«01_k».proof.Defs
public import proofs.«01_k».proof.Proof.HostRms
public import proofs.«01_k».proof.Proof.LossRun
public import proofs.«01_k».proof.Proof.Gen.LossRefIdeal.Run
public import Idealize.ShloMosaic.Lib.Quiescent

@[expose] public section

set_option maxRecDepth 16384

noncomputable section

namespace Cert.Proof.LossRef

open Idealize.ShloMosaic.TcCoe Idealize.SL.Sem Idealize.ShloMosaic.Ideal
open Idealize.ShloMosaic hiding ix1 ix2 eq_ix1 eq_ix2
open Idealize.ShloMosaic.ValueIdx
open Cert.Proof.Spec Cert.Proof.Rows Cert.Proof.Rms Cert.Proof.HostRms
open Cert.Proof.LossRun (out err seed mean half half_word)

/-! ## The constants -/

theorem two_word : Ideal.ofBits .f32 0x40000000#32 = ((2 : ℝ) : EReal) := by
  simp [Ideal.ofBits, Ideal.ieee]; norm_num [← EReal.coe_mul]
theorem width_word : Ideal.ofBits .f32 0x44800000#32 = ((1024 : ℝ) : EReal) := by
  simp [Ideal.ofBits, Ideal.ieee]; norm_num [← EReal.coe_mul]
theorem part_word : Ideal.ofBits .f32 0x3A800000#32 = ((1 / 1024 : ℝ) : EReal) := by
  simp [Ideal.ofBits, Ideal.ieee]; norm_num [← EReal.coe_mul]

/-- Half of a square's derivative, a mean's part each: one part of the distance. -/
theorem seed_word (e : EReal) :
    Ideal.div (Ideal.ofBits .f32 0x3F000000#32 * Ideal.ofBits .f32 0x3F800000#32) (Ideal.ofBits .f32 0x44800000#32)
      * (Ideal.ofBits .f32 0x40000000#32 * e) = e * Ideal.ofBits .f32 0x3A800000#32 := by
  rw [ofBits_one_f32, mul_one, half_word, width_word, two_word, part_word, Ideal.div_coe (by norm_num),
    ← EReal.coe_mul, ← mul_assoc, ← EReal.coe_mul, mul_comm]
  norm_num

section Reference

open Cert.LossRefIdeal Cert.LossRefIdeal.Gen

theorem dot_down (x : FVec Ideal S4096x2816 .f32) (w : FVec Ideal S2816x1024 .f32) :
    Host.dotGeneral (F := Ideal) dot_S4096x2816_S2816x1024_S4096x1024_1_0_0_1_n_n none x w = plain x w := by
  funext j
  simp only [Host.dotGeneral]
  rw [dotGeneral_apply,
    ← Equiv.sum_comp (contrEquiv1 dot_S4096x2816_S2816x1024_S4096x1024_1_0_0_1_n_n 2816 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

/-- The host's sum of a whole vector. -/
theorem host_all (x : FVec Ideal S4096 .f32) : Host.reduceAdd x (constant S_ .f32 0x00000000#32) reducesTo_S4096_S_d0 h_S_
    = fun _ => ∑ r : Fin 4096, x (ix1 r) := by
  funext i
  rw [hostReduceAdd_apply]
  refine (hostReduceAdd_total _ (fun b => b.elim0) x _ _).trans ?_
  rw [show (constant (F := Ideal) S_ .f32 0x00000000#32 (Shape.Idx.first h_S_)) = (0 : EReal) from zero_word, zero_add]
  exact (Fintype.sum_congr _ _ fun q => congrArg x (eq_ix1 q)).trans (Fin.sum_idx1 (![4096] : Fin 1 → Nat) fun r => x (ix1 r))

/-- The host's normalised rows less the targets. -/
def herr (x t : FVec Ideal S4096x1024 .f32) (g : FVec Ideal S1x1024 .f32) : FVec Ideal S4096x1024 .f32 :=
  subf (hgained (mulf x (hinv x)) g) t
theorem herr_eq (x t : FVec Ideal S4096x1024 .f32) (g : FVec Ideal S1x1024 .f32) : herr x t g = err (n := 4096) x g t := by
  unfold herr; rw [hgained_eq, hinv_eq]; rfl

/-- The gradient of the loss at the normalised rows, as the chain rule writes it. -/
def hseed (x t : FVec Ideal S4096x1024 .f32) (g : FVec Ideal S1x1024 .f32) : FVec Ideal S4096x1024 .f32 :=
  mulf (broadcastInDim S4096x1024 ![0] bcast_S4096_S4096x1024_0 (Host.divf (broadcastInDim S4096 ![] bcast_S_S4096
      (mulf (constant S_ .f32 0x3F000000#32) (constant S_ .f32 0x3F800000#32)))
      (broadcastInDim S4096 ![] bcast_S_S4096 (constant S_ .f32 0x44800000#32))))
    (mulf (broadcastInDim S4096x1024 ![] bcast_S_S4096x1024 (constant S_ .f32 0x40000000#32)) (herr x t g))
theorem hseed_eq (x t : FVec Ideal S4096x1024 .f32) (g : FVec Ideal S1x1024 .f32) : hseed x t g = seed (n := 4096) x g t := by
  unfold hseed; rw [herr_eq, splat, splat, spread]; funext i
  exact (congrArg (fun e => Ideal.div e (Ideal.ofBits .f32 0x44800000#32) * (Ideal.ofBits .f32 0x40000000#32 * err (n := 4096) x g t i))
    (broadcastInDim_scalar_apply bcast_S_S4096 _ _)).trans (seed_word _)

/-- The loss. -/
def hloss (e : FVec Ideal S4096x1024 .f32) : FVec Ideal S1x128 .f32 :=
  broadcastInDim S1x128 ![] bcast_S_S1x128 (mulf (constant S_ .f32 0x3F000000#32) (Host.reduceAdd (Host.divf (Host.reduceAdd
      (mulf e e) (constant S_ .f32 0x00000000#32) reducesTo_S4096x1024_S4096_d1 h_S_)
      (broadcastInDim S4096 ![] bcast_S_S4096 (constant S_ .f32 0x44800000#32)))
    (constant S_ .f32 0x00000000#32) reducesTo_S4096_S_d0 h_S_))
theorem hloss_eq (e : FVec Ideal S4096x1024 .f32) : hloss e = fun _ => half (n := 4096) e := by
  unfold hloss; rw [host_row, splat, host_all]; funext i
  exact broadcastInDim_scalar_apply bcast_S_S1x128 _ i

variable (m : (ℓ : Loc nD τ sig) → Buf (Elt Ideal) ℓ) (ρ : Dev nD → PrngReg)

/-- The rows, as the reference adds them: the skip first. -/
def outRef (a : S4096x2816.Idx → EReal) (w : S2816x1024.Idx → EReal) (s : S4096x1024.Idx → EReal) : S4096x1024.Idx → EReal :=
  fun i => s i + plain (n := 4096) (p := 1024) (q := 2816) a w i
abbrev YR (c : Dev nD) : S4096x1024.Idx → EReal := outRef (m ((c : Thread nD τ).loc main_arg0)) (m ((c : Thread nD τ).loc main_arg1)) (m ((c : Thread nD τ).loc main_arg4))

theorem ref_dx (c : Dev nD) : Value.res_main_v51 m c = dx (n := 4096) (d := 1024) (YR m c) (m ((c : Thread nD τ).loc main_arg2)) (seed (n := 4096) (YR m c) (m ((c : Thread nD τ).loc main_arg2)) (m ((c : Thread nD τ).loc main_arg3))) := by
  unfold Value.res_main_v51
  rw [dot_down]
  show hgrad (YR m c) (hseed (YR m c) (m ((c : Thread nD τ).loc main_arg3)) (m ((c : Thread nD τ).loc main_arg2))) (m ((c : Thread nD τ).loc main_arg2)) = _
  rw [hseed_eq, hgrad_eq]
theorem ref_dx_b (c : Dev nD) : Value.res_main_v52 m c = dx (n := 4096) (d := 1024) (YR m c) (m ((c : Thread nD τ).loc main_arg2)) (seed (n := 4096) (YR m c) (m ((c : Thread nD τ).loc main_arg2)) (m ((c : Thread nD τ).loc main_arg3))) := by
  unfold Value.res_main_v52
  rw [dot_down]
  show hgrad (YR m c) (hseed (YR m c) (m ((c : Thread nD τ).loc main_arg3)) (m ((c : Thread nD τ).loc main_arg2))) (m ((c : Thread nD τ).loc main_arg2)) = _
  rw [hseed_eq, hgrad_eq]

theorem results : θ_run defs (onTc (τ := τ) (main (F := Ideal))) ⟨m, fun _ => 0, ρ⟩ (fun r => ∀ c : Dev nD,
      r.2.mem ((c : Thread nD τ).loc main_v51) = dx (n := 4096) (d := 1024) (YR m c) (m ((c : Thread nD τ).loc main_arg2)) (seed (n := 4096) (YR m c) (m ((c : Thread nD τ).loc main_arg2)) (m ((c : Thread nD τ).loc main_arg3)))
      ∧ r.2.mem ((c : Thread nD τ).loc main_v52) = dx (n := 4096) (d := 1024) (YR m c) (m ((c : Thread nD τ).loc main_arg2)) (seed (n := 4096) (YR m c) (m ((c : Thread nD τ).loc main_arg2)) (m ((c : Thread nD τ).loc main_arg3)))
      ∧ r.2.mem ((c : Thread nD τ).loc main_v35) = (fun i => colSum (n := 4096) (d := 1024)
        (dgain (n := 4096) (d := 1024) (YR m c) (seed (n := 4096) (YR m c) (m ((c : Thread nD τ).loc main_arg2)) (m ((c : Thread nD τ).loc main_arg3)))) (i 1))
      ∧ r.2.mem ((c : Thread nD τ).loc main_v53) = (fun _ => half (err (n := 4096) (YR m c) (m ((c : Thread nD τ).loc main_arg2)) (m ((c : Thread nD τ).loc main_arg3))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) := by
  refine (θ_run defs _ _).mono (fun _ h c => ?_) (Value.run (F := Ideal) m ρ)
  obtain ⟨h0, h1, h2, h3, hargs⟩ := h c
  refine ⟨h0.trans (ref_dx m c), h1.trans (ref_dx_b m c), h2.trans ?_, h3.trans ?_, hargs⟩
  · rw [dot_down]
    show hgain (YR m c) (hseed (YR m c) (m ((c : Thread nD τ).loc main_arg3)) (m ((c : Thread nD τ).loc main_arg2))) = _
    rw [hseed_eq, hgain_eq]; rfl
  · rw [dot_down]
    show hloss (herr (YR m c) (m ((c : Thread nD τ).loc main_arg3)) (m ((c : Thread nD τ).loc main_arg2))) = _
    rw [herr_eq, hloss_eq]; rfl

end Reference

/-- The reference terminates, keeps its arguments, and has no counter to leave. -/
theorem reference_frame : Cert.quiescent_LossRefIdeal (hLossRefIdeal := Cert.LossRefIdeal.Gen.facts) :=
  fun m ρ _ => (θ_run Cert.LossRefIdeal.defs _ _).mono
    (fun r h => ⟨fun c => (h c).2.2.2.2, sem_eq_zero_of_no_sems (by decide) r.2⟩)
    (Cert.LossRefIdeal.Value.run (F := Ideal) m ρ)

section Kernel

open Cert.LossIdeal Cert.LossIdeal.Gen Cert.Proof.LossRun

variable (m : (ℓ : Loc nD τ sig) → Buf (Elt Ideal) ℓ) (c : Dev nD)

theorem V_w : V m c main_v0 = truncf (F := Ideal) (φ := .f32) .bf16 (m ((c : Thread nD τ).loc main_arg1)) bitsLt_bf16_f32 := by
  unfold V hostOps0; after_results_simp

theorem Y_eq : Y m c = outRef (m ((c : Thread nD τ).loc main_arg0)) (m ((c : Thread nD τ).loc main_arg1)) (m ((c : Thread nD τ).loc main_arg4)) := by
  unfold Y
  rw [V_w, V_main_arg0, V_main_arg4]
  funext i
  exact add_comm _ _

end Kernel

theorem value : Cert.algebraic_LossIdeal_LossRefIdeal (hLossIdeal := Cert.LossIdeal.Gen.facts)
    (hLossRefIdeal := Cert.LossRefIdeal.Gen.facts) := by
  intro m g m' g' _ hargs
  refine ⟨_, _, _, _, Cert.LossIdeal.Value.run_blocks (F := Ideal) m g, (θ_run Cert.LossRefIdeal.defs _ _).mono (fun r h c => ?_) (results m' g')⟩
  obtain ⟨e0, e1, e2, e3, e4⟩ := hargs c
  obtain ⟨h0, h1, h2, h3, hkeep⟩ := h c
  unfold YR at h0 h1 h2 h3
  rw [e0, e1, e2, e3, e4] at h0 h1 h2 h3
  refine ⟨h0.trans ?_, h1.trans ?_, h2.trans ?_, h3.trans ?_, hkeep⟩
  · rw [LossRun.arr_dx]; unfold LossRun.DX; rw [Y_eq, Cert.LossIdeal.Gen.V_main_arg2, Cert.LossIdeal.Gen.V_main_arg3]
  · rw [LossRun.arr_dx_b]; unfold LossRun.DX; rw [Y_eq, Cert.LossIdeal.Gen.V_main_arg2, Cert.LossIdeal.Gen.V_main_arg3]
  · rw [LossRun.arr_dg]; unfold LossRun.DG; rw [Y_eq, Cert.LossIdeal.Gen.V_main_arg2, Cert.LossIdeal.Gen.V_main_arg3]; rfl
  · rw [LossRun.arr_loss]; unfold LossRun.L; rw [Y_eq, Cert.LossIdeal.Gen.V_main_arg2, Cert.LossIdeal.Gen.V_main_arg3]; rfl

end Cert.Proof.LossRef

end
-- ==== Proof.MergeSpec.lean ====
/-
  The gated merge, forward and backward, for any number of rows: the merged rows, the residual sum, the gradients at the
  gates, at the attention branch's projection and at the two halves of the state-space branch's projection.
-/
module

public import proofs.«01_k».proof.Proof.Rms
public import proofs.«01_k».proof.Proof.Spec

@[expose] public section

set_option maxRecDepth 16384

noncomputable section

namespace Cert.Proof.MergeSpec

open Idealize.ShloMosaic Idealize.ShloMosaic.ValueIdx Cert.Proof.Products Cert.Proof.Spec Cert.Proof.Rms

/-- An array of `n` rows of `d` elements. -/
abbrev Mat (n d : Nat) : Type := (⟨2, ![n, d]⟩ : Shape).Idx → EReal

variable {n : Nat}

/-- The left half of each row. -/
def left (z : Mat n 2048) : Mat n 1024 := fun i =>
  z (ix2 (i 0) ⟨(i 1).val, by have : (i 1).val < 1024 := (i 1).isLt; omega⟩)
/-- The right half of each row. -/
def right (z : Mat n 2048) : Mat n 1024 := fun i =>
  z (ix2 (i 0) ⟨1024 + (i 1).val, by have : (i 1).val < 1024 := (i 1).isLt; omega⟩)
/-- Two halves side by side. -/
def join (a b : Mat n 1024) : Mat n 2048 := fun i =>
  if h : (i 1).val < 1024 then a (ix2 (i 0) ⟨(i 1).val, h⟩)
  else b (ix2 (i 0) ⟨(i 1).val - 1024, by have : (i 1).val < 2048 := (i 1).isLt; omega⟩)

/-- The rows that `f` names. -/
def pick {N d : Nat} (f : Fin n → Fin N) (x : Mat N d) : Mat n d := fun i => x (ix2 (f (i 0)) (i 1))

/-- The logistic function's derivative. -/
def slope (a : EReal) : EReal := Ideal.logistic a * (1 - Ideal.logistic a)

variable (g0 g1 : Mat n 1024) (a : Mat n 256) (y : Mat n 512) (x t : Mat n 1024)
  (wa : Mat 256 1024) (wg : Mat 512 2048) (wo : Mat 1024 1024) (g : Mat 1 1024)

/-- The merged rows. -/
def merged : Mat n 1024 := fun i => Ideal.logistic (g0 i) * plain a wa i
  + Ideal.logistic (g1 i) * (left (plain y wg) i * Ideal.logistic (right (plain y wg) i))
/-- The residual sum. -/
def resid : Mat n 1024 := fun i => plain (merged g0 g1 a y wa wg) wo i + x i
/-- The gradient at the merged rows. -/
def dm : Mat n 1024 := rows t wo
/-- The gradient at the first gate. -/
def dg0 : Mat n 1024 := fun i => (dm t wo i * plain a wa i) * slope (g0 i)
/-- The gradient at the second gate. -/
def dg1 : Mat n 1024 := fun i =>
  (dm t wo i * (left (plain y wg) i * Ideal.logistic (right (plain y wg) i))) * slope (g1 i)
/-- The gradient at both gates. -/
def dgates : Mat n 2048 := join (dg0 g0 a t wa wo) (dg1 g1 y t wg wo)
/-- The gradient at the attention branch's projection. -/
def dad : Mat n 1024 := fun i => Ideal.logistic (g0 i) * dm t wo i
/-- The gradient at the attention branch's rows. -/
def dattn : Mat n 256 := rows (dad g0 t wo) wa
/-- The gradient at the state-space branch's left half. -/
def dza : Mat n 1024 := fun i => (Ideal.logistic (g1 i) * dm t wo i) * Ideal.logistic (right (plain y wg) i)
/-- The gradient at its right half. -/
def dzb : Mat n 1024 := fun i =>
  (left (plain y wg) i * (Ideal.logistic (g1 i) * dm t wo i)) * slope (right (plain y wg) i)
/-- The gradient at both halves. -/
def dz : Mat n 2048 := join (dza g1 y t wg wo) (dzb g1 y t wg wo)
/-- The gradient at the state-space branch's rows. -/
def dyg : Mat n 512 := rows (dz g1 y t wg wo) wg

/-! ## Each row of these reads one row -/

variable {m : Nat} (f : Fin m → Fin n)

theorem merged_pick : merged (pick f g0) (pick f g1) (pick f a) (pick f y) wa wg = pick f (merged g0 g1 a y wa wg) := rfl
theorem resid_pick : resid (pick f g0) (pick f g1) (pick f a) (pick f y) (pick f x) wa wg wo
    = pick f (resid g0 g1 a y x wa wg wo) := rfl
theorem normed_pick {d : Nat} (x : Mat n d) (g : Mat 1 d) : normed (pick f x) g = pick f (normed x g) := rfl
theorem dgates_pick : dgates (pick f g0) (pick f g1) (pick f a) (pick f y) (pick f t) wa wg wo
    = pick f (dgates g0 g1 a y t wa wg wo) := rfl
theorem dad_pick : dad (pick f g0) (pick f t) wo = pick f (dad g0 t wo) := rfl
theorem dattn_pick : dattn (pick f g0) (pick f t) wa wo = pick f (dattn g0 t wa wo) := rfl
theorem dz_pick : dz (pick f g1) (pick f y) (pick f t) wg wo = pick f (dz g1 y t wg wo) := rfl
theorem dyg_pick : dyg (pick f g1) (pick f y) (pick f t) wg wo = pick f (dyg g1 y t wg wo) := rfl

end Cert.Proof.MergeSpec

end
-- ==== Proof.MergeParts.lean ====
/-
  Halves of rows: the slices, the concatenation and the two stores side by side are the left half, the right half and the
  two halves joined.
-/
module

public import proofs.«01_k».proof.Proof.MergeSpec
public import Idealize.ShloMosaic.Lib.Pipeline.ValueKit
public import Idealize.ShloMosaic.Lib.ValueLayout

@[expose] public section

set_option maxRecDepth 16384

noncomputable section

namespace Cert.Proof.MergeParts

open Idealize.ShloMosaic hiding ix1 ix2 eq_ix1 eq_ix2
open Idealize.ShloMosaic.ValueIdx Cert.Proof.MergeSpec

variable {n : Nat}

theorem slice_left (z : Mat n 2048) (h : (⟨2, ![n, 2048]⟩ : Shape).Slices ![0, 0] ⟨2, ![n, 1024]⟩) :
    extractStridedSlice ⟨2, ![n, 1024]⟩ ![0, 0] z h = left z := by
  funext i
  refine extractStridedSlice_apply ![0, 0] z h i _ fun a => ?_
  match a with
  | ⟨0, _⟩ => show (i 0).val = 0 + (i 0).val; omega
  | ⟨1, _⟩ => show (i 1).val = 0 + (i 1).val; omega

theorem slice_right (z : Mat n 2048) (h : (⟨2, ![n, 2048]⟩ : Shape).Slices ![0, 1024] ⟨2, ![n, 1024]⟩) :
    extractStridedSlice ⟨2, ![n, 1024]⟩ ![0, 1024] z h = right z := by
  funext i
  refine extractStridedSlice_apply ![0, 1024] z h i _ fun a => ?_
  match a with
  | ⟨0, _⟩ => show (i 0).val = 0 + (i 0).val; omega
  | ⟨1, _⟩ => rfl

theorem concat_halves (a b : Mat n 1024) (h : Shape.Concatenates [⟨2, ![n, 1024]⟩, ⟨2, ![n, 1024]⟩] ⟨2, ![n, 2048]⟩ 1) :
    concatenate ⟨2, ![n, 2048]⟩ 1 [⟨⟨2, ![n, 1024]⟩, a⟩, ⟨⟨2, ![n, 1024]⟩, b⟩] h = join a b := by
  funext i
  unfold join
  split
  · refine concatenate_pair_apply_left 1 a b h i rfl _ fun x => ?_
    match x with | ⟨0, _⟩ => rfl | ⟨1, _⟩ => rfl
  · rename_i hn
    refine concatenate_pair_apply_right 1 a b h i rfl rfl _ (fun x hx => ?_) ?_
    · match x with | ⟨0, _⟩ => rfl | ⟨1, _⟩ => exact absurd rfl hx
    · show (i 1).val - 1024 + 1024 = (i 1).val; omega

/-- Rows `512 b` to `512 b + 511` of an array of 4096 rows. -/
def rowAt (b : Nat) (h : b < 8) (r : Fin 512) : Fin 4096 := ⟨b * 512 + r.val, by have := r.isLt; omega⟩

end Cert.Proof.MergeParts

end
-- ==== Proof.MergeW.lean ====
/-
  The merge's three weight gradients: products summed over the tokens, written in blocks of columns, for the two
  branches' projections with each device's columns in a slot of their own.
-/
module

public import proofs.«01_k».proof.Proof.MergeParts
public import proofs.«01_k».proof.Proof.Gen.MergeIdeal.Frame

@[expose] public section

set_option maxRecDepth 16384

noncomputable section

namespace Cert.Proof.MergeW

open Cert.MergeIdeal Cert.MergeIdeal.Gen Idealize.ShloMosaic.TcCoe Idealize.SL.Sem
open Idealize.ShloMosaic hiding ix1 ix2 eq_ix1 eq_ix2
open Idealize.ShloMosaic.ValueIdx Idealize.ShloMosaic.Ideal Cert.Proof.Products Cert.Proof.Spec Cert.Proof.Rows Cert.Proof.Rms
open Cert.Proof.MergeSpec Cert.Proof.MergeParts
open Idealize.ShloMosaic.Pipeline (Dat)

theorem dot_o (x : FVec Ideal S4096x1024 .bf16) (w : FVec Ideal S4096x512 .bf16) :
    Idealize.ShloMosaic.matmul (F := Ideal) dot_S4096x1024_S4096x512_S1024x512_0_0_1_1_n_n none x w (constant S1024x512 .f32 0x00000000#32)
      = cols x w := by
  funext j
  refine (matmul_constant_zero_apply _ none x w j).trans ?_
  rw [
    ← Equiv.sum_comp (contrEquiv1 dot_S4096x1024_S4096x512_S1024x512_0_0_1_1_n_n 4096 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

theorem dot_a (x : FVec Ideal S4096x256 .bf16) (w : FVec Ideal S4096x256 .bf16) :
    Idealize.ShloMosaic.matmul (F := Ideal) dot_S4096x256_S4096x256_S256x256_0_0_1_1_n_n none x w (constant S256x256 .f32 0x00000000#32)
      = cols x w := by
  funext j
  refine (matmul_constant_zero_apply _ none x w j).trans ?_
  rw [
    ← Equiv.sum_comp (contrEquiv1 dot_S4096x256_S4096x256_S256x256_0_0_1_1_n_n 4096 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

theorem dot_g (x : FVec Ideal S4096x512 .bf16) (w : FVec Ideal S4096x512 .bf16) :
    Idealize.ShloMosaic.matmul (F := Ideal) dot_S4096x512_S4096x512_S512x512_0_0_1_1_n_n none x w (constant S512x512 .f32 0x00000000#32)
      = cols x w := by
  funext j
  refine (matmul_constant_zero_apply _ none x w j).trans ?_
  rw [
    ← Equiv.sum_comp (contrEquiv1 dot_S4096x512_S4096x512_S512x512_0_0_1_1_n_n 4096 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

/-- Columns in slots: slot s holds the columns `256 s` to `256 s + 255`. -/
def slotsA (x : S256x1024.Idx → EReal) : S4x256x256.Idx → EReal := fun i =>
  x (ix2 (i 1) ⟨(i 0).val * 256 + (i 2).val, by have h0 : (i 0).val < 4 := (i 0).isLt; have h2 : (i 2).val < 256 := (i 2).isLt; omega⟩)
/-- Columns in slots: slot s holds the columns `512 s` to `512 s + 511`. -/
def slotsG (x : S512x2048.Idx → EReal) : S4x512x512.Idx → EReal := fun i =>
  x (ix2 (i 1) ⟨(i 0).val * 512 + (i 2).val, by have h0 : (i 0).val < 4 := (i 0).isLt; have h2 : (i 2).val < 512 := (i 2).isLt; omega⟩)

theorem pay_o (x : FVec Ideal S4096x1024 .bf16) (w : FVec Ideal S4096x512 .bf16) : k1_pay1 (F := Ideal) x w = cols x w := by
  unfold k1_pay1; simp only [shapeCast_self]; rw [dot_o]
theorem pay_a (x w : FVec Ideal S4096x256 .bf16) (j : S1x256x256.Idx) :
    k3_pay1 (F := Ideal) x w j = cols (n := 256) (p := 256) (q := 4096) x w (ix2 (j 1) (j 2)) := by
  unfold k3_pay1; simp only [shapeCast_self]; rw [dot_a]
  rw [show j = Idealize.ShloMosaic.ValueIdx.ix3 (j 0) (j 1) (j 2) from Idealize.ShloMosaic.ValueIdx.eq_ix3 j]
  exact shapeCast_ab_1ab_apply (a := 256) (b := 256) _ _ (j 0) (j 1) (j 2)
theorem pay_g (x w : FVec Ideal S4096x512 .bf16) (j : S1x512x512.Idx) :
    k4_pay1 (F := Ideal) x w j = cols (n := 512) (p := 512) (q := 4096) x w (ix2 (j 1) (j 2)) := by
  unfold k4_pay1; simp only [shapeCast_self]; rw [dot_g]
  rw [show j = Idealize.ShloMosaic.ValueIdx.ix3 (j 0) (j 1) (j 2) from Idealize.ShloMosaic.ValueIdx.eq_ix3 j]
  exact shapeCast_ab_1ab_apply (a := 512) (b := 512) _ _ (j 0) (j 1) (j 2)

variable (V : (c : Dev nD) → (b : Ref sig .tc) → Buf (Elt Ideal) ((c : Thread nD τ).loc b)) (c : Dev nD)

/-! ## The gradient at the output projection -/

theorem idx1 : ∀ t : Fin cfg1.N, (win1_0.index t (0 : Fin 2) = 0 ∧ win1_0.index t (1 : Fin 2) = 0)
    ∧ (win1_1.index t (0 : Fin 2) = 0 ∧ win1_1.index t (1 : Fin 2) = t.val)
    ∧ (win1_2.index t (0 : Fin 2) = 0 ∧ win1_2.index t (1 : Fin 2) = t.val) :=
  (by decide +kernel : ∀ t : Fin grid1.N, _)
theorem emb1 (t : Fin cfg1.N) (j : S1024x512.Idx) : (((cfg1.win 2).blk t).view.emb j 0).val = (j 0).val
    ∧ (((cfg1.win 2).blk t).view.emb j 1).val = t.val * 512 + (j 1).val := by
  obtain ⟨-, -, e0, e1⟩ := idx1 t
  constructor
  · show win1_2.index t (0 : Fin 2) * 1024 + 1 * (j 0).val = _; omega
  · show win1_2.index t (1 : Fin 2) * 512 + 1 * (j 1).val = _; omega
theorem outs1 (c : Dev nD) (t : Fin cfg1.N) (j : S1024x512.Idx) (i : S1024x1024.Idx) (h0 : (i 0).val = (j 0).val)
    (h1 : (i 1).val = t.val * 512 + (j 1).val) :
    outsAt1 V c t j = cols (n := 1024) (p := 1024) (q := 4096) (V c main_v4_0) (V c main_v3) i := by
  obtain ⟨⟨a0, a1⟩, ⟨b0, b1⟩, -⟩ := idx1 t
  unfold outsAt1; frame_out; rw [pay_o]
  refine Finset.sum_congr rfl fun k _ => congrArg₂ _ (congrArg (V c main_v4_0) (funext fun a => Fin.ext ?_))
    (congrArg (V c main_v3) (funext fun a => Fin.ext ?_))
  · match a with
    | ⟨0, _⟩ => show win1_0.index t (0 : Fin 2) * 4096 + 1 * k.val = k.val; omega
    | ⟨1, _⟩ => show win1_0.index t (1 : Fin 2) * 1024 + 1 * (j 0).val = (i 0).val; omega
  · match a with
    | ⟨0, _⟩ => show win1_1.index t (0 : Fin 2) * 4096 + 1 * k.val = k.val; omega
    | ⟨1, _⟩ => show win1_1.index t (1 : Fin 2) * 512 + 1 * (j 1).val = (i 1).val; omega
theorem point1 (i : S1024x1024.Idx) : ∃ (t : Fin cfg1.N) (j : S1024x512.Idx), (j 0).val = (i 0).val ∧ t.val * 512 + (j 1).val = (i 1).val := by
  have h0 : (i 0).val < 1024 := (i 0).isLt
  have h1 : (i 1).val < 1024 := (i 1).isLt
  have e : cfg1.N = 2 := N_1
  exact ⟨⟨(i 1).val / 512, by omega⟩, ix2 ⟨(i 0).val, h0⟩ ⟨(i 1).val % 512, by omega⟩, rfl, by show (i 1).val / 512 * 512 + (i 1).val % 512 = _; omega⟩
theorem arr1 (c : Dev nD) : (dat1 V c).arrAt 2 cfg1.N = cols (n := 1024) (p := 1024) (q := 4096) (V c main_v4_0) (V c main_v3) :=
  (dat1 V c).arrAt_eq_of_cover 2 (cols (n := 1024) (p := 1024) (q := 4096) (V c main_v4_0) (V c main_v3)) (fun t _ => by
    show (cfg1.win 2).cut (grid1.coords t) ((dat1 V c).after 2 t) = _
    rw [after1_2]
    funext j
    exact outs1 V c t j _ (emb1 t j).1 (emb1 t j).2)
  fun i => by
    obtain ⟨t, j, e0, e1⟩ := point1 i
    refine ⟨t, flush1_2 t, ?_⟩
    have h := ((cfg1.win 2).blk t).view.emb_mem_set j
    rwa [show ((cfg1.win 2).blk t).view.emb j = i from funext fun a => Fin.ext (by
      match a with | ⟨0, _⟩ => exact (emb1 t j).1.trans e0 | ⟨1, _⟩ => exact (emb1 t j).2.trans e1)] at h

/-! ## The gradient at the attention branch's projection -/

theorem idx3 : ∀ t : Fin cfg3.N, win3_0.index t (0 : Fin 2) = 0 ∧ win3_0.index t (1 : Fin 2) = 0
    ∧ win3_1.index t (0 : Fin 2) = 0 ∧ win3_1.index t (1 : Fin 2) = t.val
    ∧ win3_2.index t (0 : Fin 3) = t.val ∧ win3_2.index t (1 : Fin 3) = 0 ∧ win3_2.index t (2 : Fin 3) = 0 :=
  (by decide +kernel : ∀ t : Fin grid3.N, _)
theorem emb3 (t : Fin cfg3.N) (j : S1x256x256.Idx) : (((cfg3.win 2).blk t).view.emb j 0).val = t.val
    ∧ (((cfg3.win 2).blk t).view.emb j 1).val = (j 1).val ∧ (((cfg3.win 2).blk t).view.emb j 2).val = (j 2).val := by
  obtain ⟨-, -, -, -, e0, e1, e2⟩ := idx3 t
  have h : (j 0).val < 1 := (j 0).isLt
  refine ⟨?_, ?_, ?_⟩
  · show win3_2.index t (0 : Fin 3) * 1 + 1 * (j 0).val = _; omega
  · show win3_2.index t (1 : Fin 3) * 256 + 1 * (j 1).val = _; omega
  · show win3_2.index t (2 : Fin 3) * 256 + 1 * (j 2).val = _; omega
abbrev G3 (c : Dev nD) : S4x256x256.Idx → EReal := slotsA (cols (n := 256) (p := 1024) (q := 4096) (V c main_arg1) (V c main_v6_1))
theorem outs3 (c : Dev nD) (t : Fin cfg3.N) (j : S1x256x256.Idx) (i : S4x256x256.Idx) (h0 : (i 0).val = t.val)
    (h1 : (i 1).val = (j 1).val) (h2 : (i 2).val = (j 2).val) : outsAt3 V c t j = G3 V c i := by
  obtain ⟨a0, a1, b0, b1, -, -, -⟩ := idx3 t
  have h : outsAt3 V c t = k3_pay1 (F := Ideal) (iblk3 V c 0 t) (iblk3 V c 1 t) := by unfold outsAt3; frame_out
  rw [h, pay_a]
  show _ = cols (n := 256) (p := 1024) (q := 4096) (V c main_arg1) (V c main_v6_1) (ix2 (i 1) ⟨(i 0).val * 256 + (i 2).val, _⟩)
  refine Finset.sum_congr rfl fun k _ => congrArg₂ _ (congrArg (V c main_arg1) (funext fun a => Fin.ext ?_))
    (congrArg (V c main_v6_1) (funext fun a => Fin.ext ?_))
  · match a with
    | ⟨0, _⟩ => show win3_0.index t (0 : Fin 2) * 4096 + 1 * k.val = k.val; omega
    | ⟨1, _⟩ => show win3_0.index t (1 : Fin 2) * 256 + 1 * (j 1).val = (i 1).val; omega
  · match a with
    | ⟨0, _⟩ => show win3_1.index t (0 : Fin 2) * 4096 + 1 * k.val = k.val; omega
    | ⟨1, _⟩ => show win3_1.index t (1 : Fin 2) * 256 + 1 * (j 2).val = (i 0).val * 256 + (i 2).val; rw [b1, h0, h2]; omega
theorem point3 (i : S4x256x256.Idx) : ∃ (t : Fin cfg3.N) (j : S1x256x256.Idx),
    t.val = (i 0).val ∧ (j 1).val = (i 1).val ∧ (j 2).val = (i 2).val := by
  have h0 : (i 0).val < 4 := (i 0).isLt
  have e : cfg3.N = 4 := N_3
  exact ⟨⟨(i 0).val, by omega⟩, Idealize.ShloMosaic.ValueIdx.ix3 ⟨0, Nat.one_pos⟩ (i 1) (i 2), rfl, rfl, rfl⟩
theorem arr3 (c : Dev nD) : (dat3 V c).arrAt 2 cfg3.N = G3 V c :=
  (dat3 V c).arrAt_eq_of_cover 2 (G3 V c) (fun t _ => by
    show (cfg3.win 2).cut (grid3.coords t) ((dat3 V c).after 2 t) = _
    rw [after3_2]
    funext j
    exact outs3 V c t j _ (emb3 t j).1 (emb3 t j).2.1 (emb3 t j).2.2)
  fun i => by
    obtain ⟨t, j, e0, e1, e2⟩ := point3 i
    refine ⟨t, flush3_2 t, ?_⟩
    have h := ((cfg3.win 2).blk t).view.emb_mem_set j
    rwa [show ((cfg3.win 2).blk t).view.emb j = i from funext fun a => Fin.ext (by
      match a with
      | ⟨0, _⟩ => exact (emb3 t j).1.trans e0
      | ⟨1, _⟩ => exact (emb3 t j).2.1.trans e1
      | ⟨2, _⟩ => exact (emb3 t j).2.2.trans e2)] at h

/-! ## The gradient at the linear unit's projection -/

theorem idx4 : ∀ t : Fin cfg4.N, win4_0.index t (0 : Fin 2) = 0 ∧ win4_0.index t (1 : Fin 2) = 0
    ∧ win4_1.index t (0 : Fin 2) = 0 ∧ win4_1.index t (1 : Fin 2) = t.val
    ∧ win4_2.index t (0 : Fin 3) = t.val ∧ win4_2.index t (1 : Fin 3) = 0 ∧ win4_2.index t (2 : Fin 3) = 0 :=
  (by decide +kernel : ∀ t : Fin grid4.N, _)
theorem emb4 (t : Fin cfg4.N) (j : S1x512x512.Idx) : (((cfg4.win 2).blk t).view.emb j 0).val = t.val
    ∧ (((cfg4.win 2).blk t).view.emb j 1).val = (j 1).val ∧ (((cfg4.win 2).blk t).view.emb j 2).val = (j 2).val := by
  obtain ⟨-, -, -, -, e0, e1, e2⟩ := idx4 t
  have h : (j 0).val < 1 := (j 0).isLt
  refine ⟨?_, ?_, ?_⟩
  · show win4_2.index t (0 : Fin 3) * 1 + 1 * (j 0).val = _; omega
  · show win4_2.index t (1 : Fin 3) * 512 + 1 * (j 1).val = _; omega
  · show win4_2.index t (2 : Fin 3) * 512 + 1 * (j 2).val = _; omega
abbrev G4 (c : Dev nD) : S4x512x512.Idx → EReal := slotsG (cols (n := 512) (p := 2048) (q := 4096) (V c main_arg2) (V c main_v6_2))
theorem outs4 (c : Dev nD) (t : Fin cfg4.N) (j : S1x512x512.Idx) (i : S4x512x512.Idx) (h0 : (i 0).val = t.val)
    (h1 : (i 1).val = (j 1).val) (h2 : (i 2).val = (j 2).val) : outsAt4 V c t j = G4 V c i := by
  obtain ⟨a0, a1, b0, b1, -, -, -⟩ := idx4 t
  have h : outsAt4 V c t = k4_pay1 (F := Ideal) (iblk4 V c 0 t) (iblk4 V c 1 t) := by unfold outsAt4; frame_out
  rw [h, pay_g]
  show _ = cols (n := 512) (p := 2048) (q := 4096) (V c main_arg2) (V c main_v6_2) (ix2 (i 1) ⟨(i 0).val * 512 + (i 2).val, _⟩)
  refine Finset.sum_congr rfl fun k _ => congrArg₂ _ (congrArg (V c main_arg2) (funext fun a => Fin.ext ?_))
    (congrArg (V c main_v6_2) (funext fun a => Fin.ext ?_))
  · match a with
    | ⟨0, _⟩ => show win4_0.index t (0 : Fin 2) * 4096 + 1 * k.val = k.val; omega
    | ⟨1, _⟩ => show win4_0.index t (1 : Fin 2) * 512 + 1 * (j 1).val = (i 1).val; omega
  · match a with
    | ⟨0, _⟩ => show win4_1.index t (0 : Fin 2) * 4096 + 1 * k.val = k.val; omega
    | ⟨1, _⟩ => show win4_1.index t (1 : Fin 2) * 512 + 1 * (j 2).val = (i 0).val * 512 + (i 2).val; rw [b1, h0, h2]; omega
theorem point4 (i : S4x512x512.Idx) : ∃ (t : Fin cfg4.N) (j : S1x512x512.Idx),
    t.val = (i 0).val ∧ (j 1).val = (i 1).val ∧ (j 2).val = (i 2).val := by
  have h0 : (i 0).val < 4 := (i 0).isLt
  have e : cfg4.N = 4 := N_4
  exact ⟨⟨(i 0).val, by omega⟩, Idealize.ShloMosaic.ValueIdx.ix3 ⟨0, Nat.one_pos⟩ (i 1) (i 2), rfl, rfl, rfl⟩
theorem arr4 (c : Dev nD) : (dat4 V c).arrAt 2 cfg4.N = G4 V c :=
  (dat4 V c).arrAt_eq_of_cover 2 (G4 V c) (fun t _ => by
    show (cfg4.win 2).cut (grid4.coords t) ((dat4 V c).after 2 t) = _
    rw [after4_2]
    funext j
    exact outs4 V c t j _ (emb4 t j).1 (emb4 t j).2.1 (emb4 t j).2.2)
  fun i => by
    obtain ⟨t, j, e0, e1, e2⟩ := point4 i
    refine ⟨t, flush4_2 t, ?_⟩
    have h := ((cfg4.win 2).blk t).view.emb_mem_set j
    rwa [show ((cfg4.win 2).blk t).view.emb j = i from funext fun a => Fin.ext (by
      match a with
      | ⟨0, _⟩ => exact (emb4 t j).1.trans e0
      | ⟨1, _⟩ => exact (emb4 t j).2.1.trans e1
      | ⟨2, _⟩ => exact (emb4 t j).2.2.trans e2)] at h

end Cert.Proof.MergeW

end
-- ==== Proof.MergeHost.lean ====
/-
  The merge's reference, in the words of the specification: its products, its halves of rows and its logistic function,
  each as the host lines spell it.
-/
module

public import proofs.«01_k».proof.Proof.MergeParts
public import proofs.«01_k».proof.Proof.MergeW
public import proofs.«01_k».proof.Proof.HostRms
public import proofs.«01_k».proof.Proof.Ref
public import proofs.«01_k».proof.Proof.Gen.MergeRefIdeal.Run

@[expose] public section

set_option maxRecDepth 16384

noncomputable section

namespace Cert.Proof.MergeHost

open Idealize.ShloMosaic.TcCoe Idealize.SL.Sem Idealize.ShloMosaic.Ideal
open Idealize.ShloMosaic hiding ix1 ix2 ix3 eq_ix1 eq_ix2
open Idealize.ShloMosaic.ValueIdx
open Cert.Proof.Products Cert.Proof.Spec Cert.Proof.Rows Cert.Proof.Rms Cert.Proof.HostRms Cert.Proof.MergeSpec Cert.Proof.MergeParts
open Cert.MergeRefIdeal Cert.MergeRefIdeal.Gen

/-! ## The products -/

theorem dot_ad (x : FVec Ideal S4096x256 .f32) (w : FVec Ideal S256x1024 .f32) :
    Host.dotGeneral (F := Ideal) dot_S4096x256_S256x1024_S4096x1024_1_0_0_1_n_n none x w = plain x w := by
  funext j
  simp only [Host.dotGeneral]
  rw [dotGeneral_apply,
    ← Equiv.sum_comp (contrEquiv1 dot_S4096x256_S256x1024_S4096x1024_1_0_0_1_n_n 256 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

theorem dot_z (x : FVec Ideal S4096x512 .f32) (w : FVec Ideal S512x2048 .f32) :
    Host.dotGeneral (F := Ideal) dot_S4096x512_S512x2048_S4096x2048_1_0_0_1_n_n none x w = plain x w := by
  funext j
  simp only [Host.dotGeneral]
  rw [dotGeneral_apply,
    ← Equiv.sum_comp (contrEquiv1 dot_S4096x512_S512x2048_S4096x2048_1_0_0_1_n_n 512 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

theorem dot_out (x : FVec Ideal S4096x1024 .f32) (w : FVec Ideal S1024x1024 .f32) :
    Host.dotGeneral (F := Ideal) dot_S4096x1024_S1024x1024_S4096x1024_1_0_0_1_n_n none x w = plain x w := by
  funext j
  simp only [Host.dotGeneral]
  rw [dotGeneral_apply,
    ← Equiv.sum_comp (contrEquiv1 dot_S4096x1024_S1024x1024_S4096x1024_1_0_0_1_n_n 1024 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

theorem dot_dm (x : FVec Ideal S4096x1024 .f32) (w : FVec Ideal S1024x1024 .f32) :
    Host.dotGeneral (F := Ideal) dot_S4096x1024_S1024x1024_S4096x1024_1_1_0_0_n_n none x w = rows x w := by
  funext j
  simp only [Host.dotGeneral]
  rw [dotGeneral_apply,
    ← Equiv.sum_comp (contrEquiv1 dot_S4096x1024_S1024x1024_S4096x1024_1_1_0_0_n_n 1024 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

theorem dot_da (x : FVec Ideal S4096x1024 .f32) (w : FVec Ideal S256x1024 .f32) :
    Host.dotGeneral (F := Ideal) dot_S4096x1024_S256x1024_S4096x256_1_1_0_0_n_n none x w = rows x w := by
  funext j
  simp only [Host.dotGeneral]
  rw [dotGeneral_apply,
    ← Equiv.sum_comp (contrEquiv1 dot_S4096x1024_S256x1024_S4096x256_1_1_0_0_n_n 1024 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

theorem dot_dy (x : FVec Ideal S4096x2048 .f32) (w : FVec Ideal S512x2048 .f32) :
    Host.dotGeneral (F := Ideal) dot_S4096x2048_S512x2048_S4096x512_1_1_0_0_n_n none x w = rows x w := by
  funext j
  simp only [Host.dotGeneral]
  rw [dotGeneral_apply,
    ← Equiv.sum_comp (contrEquiv1 dot_S4096x2048_S512x2048_S4096x512_1_1_0_0_n_n 2048 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

theorem dot_dout (x : FVec Ideal S4096x1024 .f32) (w : FVec Ideal S4096x1024 .f32) :
    Host.dotGeneral (F := Ideal) dot_S4096x1024_S4096x1024_S1024x1024_0_0_1_1_n_n none x w = cols x w := by
  funext j
  simp only [Host.dotGeneral]
  rw [dotGeneral_apply,
    ← Equiv.sum_comp (contrEquiv1 dot_S4096x1024_S4096x1024_S1024x1024_0_0_1_1_n_n 4096 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

theorem dot_dwa (x : FVec Ideal S4096x1024 .f32) (w : FVec Ideal S4096x256 .f32) :
    Host.dotGeneral (F := Ideal) dot_S4096x1024_S4096x256_S1024x256_0_0_1_1_n_n none x w = cols x w := by
  funext j
  simp only [Host.dotGeneral]
  rw [dotGeneral_apply,
    ← Equiv.sum_comp (contrEquiv1 dot_S4096x1024_S4096x256_S1024x256_0_0_1_1_n_n 4096 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

theorem dot_dwg (x : FVec Ideal S4096x2048 .f32) (w : FVec Ideal S4096x512 .f32) :
    Host.dotGeneral (F := Ideal) dot_S4096x2048_S4096x512_S2048x512_0_0_1_1_n_n none x w = cols x w := by
  funext j
  simp only [Host.dotGeneral]
  rw [dotGeneral_apply,
    ← Equiv.sum_comp (contrEquiv1 dot_S4096x2048_S4096x512_S2048x512_0_0_1_1_n_n 4096 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

/-! ## The logistic function and its derivative -/

/-- The host's logistic function. -/
def hsig (a : FVec Ideal S4096x1024 .f32) : FVec Ideal S4096x1024 .f32 :=
  Host.divf (broadcastInDim S4096x1024 ![] bcast_S_S4096x1024 (constant S_ .f32 0x3F800000#32))
    (addf (broadcastInDim S4096x1024 ![] bcast_S_S4096x1024 (constant S_ .f32 0x3F800000#32)) (Host.exp (Host.negf a)))

theorem hsig_eq (a : FVec Ideal S4096x1024 .f32) : hsig a = fun i => Ideal.logistic (a i) :=
  funext fun i => Cert.Proof.Ref.hostSigma_eq (a i)

/-- The host's derivative of it, of its value. -/
def hslope (s : FVec Ideal S4096x1024 .f32) : FVec Ideal S4096x1024 .f32 :=
  mulf s (subf (broadcastInDim S4096x1024 ![] bcast_S_S4096x1024 (constant S_ .f32 0x3F800000#32)) s)

theorem hslope_eq (a : FVec Ideal S4096x1024 .f32) : hslope (hsig a) = fun i => slope (a i) := by
  rw [hsig_eq]; funext i
  show Ideal.logistic (a i) * (Ideal.ofBits .f32 0x3F800000#32 - Ideal.logistic (a i)) = _
  rw [ofBits_one_f32]; rfl

/-! ## The host lines -/

variable (gates : FVec Ideal S4096x2048 .bf16) (attn : FVec Ideal S4096x256 .bf16) (yg : FVec Ideal S4096x512 .bf16)
  (wa : FVec Ideal S256x1024 .f32) (wg : FVec Ideal S512x2048 .f32) (wo : FVec Ideal S1024x1024 .f32)
  (x : FVec Ideal S4096x1024 .f32) (gain : FVec Ideal S1x1024 .f32) (t : FVec Ideal S4096x1024 .f32)

def hleft (z : FVec Ideal S4096x2048 .f32) : FVec Ideal S4096x1024 .f32 :=
  extractStridedSlice S4096x1024 ![0, 0] z slices_S4096x2048_S4096x1024_0_0
def hright (z : FVec Ideal S4096x2048 .f32) : FVec Ideal S4096x1024 .f32 :=
  extractStridedSlice S4096x1024 ![0, 1024] z slices_S4096x2048_S4096x1024_0_1024
def hjoin (a b : FVec Ideal S4096x1024 .f32) : FVec Ideal S4096x2048 .f32 :=
  concatenate S4096x2048 1 [⟨S4096x1024, a⟩, ⟨S4096x1024, b⟩] concatenates_S4096x1024_S4096x1024_S4096x2048_d1

theorem hleft_eq (z : FVec Ideal S4096x2048 .f32) : hleft z = left (n := 4096) z := slice_left (n := 4096) z _
theorem hright_eq (z : FVec Ideal S4096x2048 .f32) : hright z = right (n := 4096) z := slice_right (n := 4096) z _
theorem hjoin_eq (a b : FVec Ideal S4096x1024 .f32) : hjoin a b = join (n := 4096) a b := concat_halves (n := 4096) a b _

def hg0 : FVec Ideal S4096x1024 .f32 := hleft (extf .f32 gates bitsLt_bf16_f32)
def hg1 : FVec Ideal S4096x1024 .f32 := hright (extf .f32 gates bitsLt_bf16_f32)
def hz : FVec Ideal S4096x2048 .f32 := Host.dotGeneral dot_S4096x512_S512x2048_S4096x2048_1_0_0_1_n_n none (extf .f32 yg bitsLt_bf16_f32) wg
def had : FVec Ideal S4096x1024 .f32 := Host.dotGeneral dot_S4096x256_S256x1024_S4096x1024_1_0_0_1_n_n none (extf .f32 attn bitsLt_bf16_f32) wa
def hdm : FVec Ideal S4096x1024 .f32 := Host.dotGeneral dot_S4096x1024_S1024x1024_S4096x1024_1_1_0_0_n_n none t wo
def hmerged : FVec Ideal S4096x1024 .f32 := addf (mulf (hsig (hg0 gates)) (had attn wa))
  (mulf (hsig (hg1 gates)) (mulf (hleft (hz yg wg)) (hsig (hright (hz yg wg)))))
def hx1 : FVec Ideal S4096x1024 .f32 :=
  addf x (Host.dotGeneral dot_S4096x1024_S1024x1024_S4096x1024_1_0_0_1_n_n none (hmerged gates attn yg wa wg) wo)
def hdg0 : FVec Ideal S4096x1024 .f32 := mulf (mulf (hdm wo t) (had attn wa)) (hslope (hsig (hg0 gates)))
def hdg1 : FVec Ideal S4096x1024 .f32 :=
  mulf (mulf (hdm wo t) (mulf (hleft (hz yg wg)) (hsig (hright (hz yg wg))))) (hslope (hsig (hg1 gates)))
def hdad : FVec Ideal S4096x1024 .f32 := mulf (hsig (hg0 gates)) (hdm wo t)
def hdza : FVec Ideal S4096x1024 .f32 := mulf (mulf (hsig (hg1 gates)) (hdm wo t)) (hsig (hright (hz yg wg)))
def hdzb : FVec Ideal S4096x1024 .f32 :=
  mulf (mulf (hleft (hz yg wg)) (mulf (hsig (hg1 gates)) (hdm wo t))) (hslope (hsig (hright (hz yg wg))))

/-! ## What they are -/

theorem hg0_eq : hg0 gates = left (n := 4096) gates := hleft_eq _
theorem hg1_eq : hg1 gates = right (n := 4096) gates := hright_eq _
theorem hz_eq : hz yg wg = plain (n := 4096) (p := 2048) (q := 512) yg wg := dot_z _ _
theorem had_eq : had attn wa = plain (n := 4096) (p := 1024) (q := 256) attn wa := dot_ad _ _
theorem hdm_eq : hdm wo t = dm (n := 4096) t wo := dot_dm _ _
theorem hmerged_eq : hmerged gates attn yg wa wg
    = merged (n := 4096) (left (n := 4096) gates) (right (n := 4096) gates) attn yg wa wg := by
  unfold hmerged; rw [hsig_eq, hsig_eq, hsig_eq, hg0_eq, hg1_eq, hz_eq, had_eq, hleft_eq, hright_eq]; rfl
theorem hx1_eq : hx1 gates attn yg wa wg wo x
    = resid (n := 4096) (left (n := 4096) gates) (right (n := 4096) gates) attn yg x wa wg wo := by
  unfold hx1; rw [dot_out, hmerged_eq]
  exact funext fun i => add_comm (x i) (plain (n := 4096) (p := 1024) (q := 1024) _ wo i)
theorem hdg0_eq : hdg0 gates attn wa wo t = dg0 (n := 4096) (left (n := 4096) gates) attn t wa wo := by
  unfold hdg0; rw [hslope_eq, hg0_eq, had_eq, hdm_eq]; rfl
theorem hdg1_eq : hdg1 gates yg wg wo t = dg1 (n := 4096) (right (n := 4096) gates) yg t wg wo := by
  unfold hdg1; rw [hslope_eq, hsig_eq, hg1_eq, hz_eq, hleft_eq, hright_eq, hdm_eq]; rfl
theorem hdgates_eq : hjoin (hdg0 gates attn wa wo t) (hdg1 gates yg wg wo t)
    = dgates (n := 4096) (left (n := 4096) gates) (right (n := 4096) gates) attn yg t wa wg wo := by
  rw [hjoin_eq, hdg0_eq, hdg1_eq]; rfl
theorem hdad_eq : hdad gates wo t = dad (n := 4096) (left (n := 4096) gates) t wo := by
  unfold hdad; rw [hsig_eq, hg0_eq, hdm_eq]; rfl
theorem hdza_eq : hdza gates yg wg wo t = dza (n := 4096) (right (n := 4096) gates) yg t wg wo := by
  unfold hdza; rw [hsig_eq, hsig_eq, hg1_eq, hz_eq, hright_eq, hdm_eq]; rfl
theorem hdzb_eq : hdzb gates yg wg wo t = dzb (n := 4096) (right (n := 4096) gates) yg t wg wo := by
  unfold hdzb; rw [hslope_eq, hsig_eq, hg1_eq, hz_eq, hleft_eq, hright_eq, hdm_eq]; rfl
theorem hdz_eq : hjoin (hdza gates yg wg wo t) (hdzb gates yg wg wo t)
    = dz (n := 4096) (right (n := 4096) gates) yg t wg wo := by
  rw [hjoin_eq, hdza_eq, hdzb_eq]; rfl
theorem hdattn_eq : Host.dotGeneral (F := Ideal) dot_S4096x1024_S256x1024_S4096x256_1_1_0_0_n_n none (hdad gates wo t) wa
    = dattn (n := 4096) (left (n := 4096) gates) t wa wo := by rw [dot_da, hdad_eq]; rfl
theorem hdyg_eq : Host.dotGeneral (F := Ideal) dot_S4096x2048_S512x2048_S4096x512_1_1_0_0_n_n none
      (hjoin (hdza gates yg wg wo t) (hdzb gates yg wg wo t)) wg
    = dyg (n := 4096) (right (n := 4096) gates) yg t wg wo := by rw [dot_dy, hdz_eq]; rfl

/-- A product summed over the tokens, transposed, is the product with its factors exchanged. -/
theorem cols_swap {n p q : Nat} (a : Mat q n) (b : Mat q p) (i : Fin n) (j : Fin p) :
    cols (n := n) (p := p) (q := q) a b (ix2 i j) = cols (n := p) (p := n) (q := q) b a (ix2 j i) :=
  Finset.sum_congr rfl fun k _ => mul_comm (a (ix2 k i)) (b (ix2 k j))

theorem hdout_eq : transpose S1024x1024 [1, 0] (Host.dotGeneral (F := Ideal) dot_S4096x1024_S4096x1024_S1024x1024_0_0_1_1_n_n none t
      (hmerged gates attn yg wa wg)) transposes_S1024x1024_S1024x1024_1_0
    = cols (n := 1024) (p := 1024) (q := 4096)
        (merged (n := 4096) (left (n := 4096) gates) (right (n := 4096) gates) attn yg wa wg) t := by
  rw [dot_dout, hmerged_eq]; funext i
  exact (transpose_at _ _ i).trans (cols_swap _ _ _ _)

/-- Rows of the transposed gradient taken in groups, and the groups put first: the columns in slots. -/
theorem slots_a (z : FVec Ideal S1024x256 .f32) (y : S256x1024.Idx → EReal) (h : ∀ (p : Fin 256) (k : Fin 1024), z (ix2 k p) = y (ix2 p k)) :
    transpose S4x256x256 [1, 0, 2] (shapeCast S256x4x256 (transpose S256x1024 [1, 0] z transposes_S1024x256_S256x1024_1_0)
      shapeCasts_S256x1024_S256x4x256) transposes_S256x4x256_S4x256x256_1_0_2 = MergeW.slotsA y := by
  funext i
  have key : ∀ (a : Fin 4) (p q : Fin 256), shapeCast S256x4x256 (transpose S256x1024 [1, 0] z transposes_S1024x256_S256x1024_1_0)
      shapeCasts_S256x1024_S256x4x256 (Idealize.ShloMosaic.ValueIdx.ix3 p a q) = y (ix2 p ⟨a.val * 256 + q.val, by omega⟩) := fun a p q => by
    refine (shapeCast_apply (t := ⟨3, ![256, 4, 256]⟩) (s := ⟨2, ![256, 1024]⟩) _ _ _ (ix2 p ⟨a.val * 256 + q.val, by omega⟩) ?_).trans ?_
    · rw [Shape.rowMajor_val_three, Shape.rowMajor_val_two]
      show p.val * 1024 + (a.val * 256 + q.val) = (p.val * 4 + a.val) * 256 + q.val
      omega
    · exact (transpose_ix2_apply z _ p _).trans (h _ _)
  exact (transpose_apply _ _ _ i (Idealize.ShloMosaic.ValueIdx.ix3 (i 1) (i 0) (i 2)) fun c =>
    match c with | ⟨0, _⟩ => rfl | ⟨1, _⟩ => rfl | ⟨2, _⟩ => rfl).trans (key (i 0) (i 1) (i 2))
theorem slots_g (z : FVec Ideal S2048x512 .f32) (y : S512x2048.Idx → EReal) (h : ∀ (p : Fin 512) (k : Fin 2048), z (ix2 k p) = y (ix2 p k)) :
    transpose S4x512x512 [1, 0, 2] (shapeCast S512x4x512 (transpose S512x2048 [1, 0] z transposes_S2048x512_S512x2048_1_0)
      shapeCasts_S512x2048_S512x4x512) transposes_S512x4x512_S4x512x512_1_0_2 = MergeW.slotsG y := by
  funext i
  have key : ∀ (a : Fin 4) (p q : Fin 512), shapeCast S512x4x512 (transpose S512x2048 [1, 0] z transposes_S2048x512_S512x2048_1_0)
      shapeCasts_S512x2048_S512x4x512 (Idealize.ShloMosaic.ValueIdx.ix3 p a q) = y (ix2 p ⟨a.val * 512 + q.val, by omega⟩) := fun a p q => by
    refine (shapeCast_apply (t := ⟨3, ![512, 4, 512]⟩) (s := ⟨2, ![512, 2048]⟩) _ _ _ (ix2 p ⟨a.val * 512 + q.val, by omega⟩) ?_).trans ?_
    · rw [Shape.rowMajor_val_three, Shape.rowMajor_val_two]
      show p.val * 2048 + (a.val * 512 + q.val) = (p.val * 4 + a.val) * 512 + q.val
      omega
    · exact (transpose_ix2_apply z _ p _).trans (h _ _)
  exact (transpose_apply _ _ _ i (Idealize.ShloMosaic.ValueIdx.ix3 (i 1) (i 0) (i 2)) fun c =>
    match c with | ⟨0, _⟩ => rfl | ⟨1, _⟩ => rfl | ⟨2, _⟩ => rfl).trans (key (i 0) (i 1) (i 2))

end Cert.Proof.MergeHost

end
-- ==== Proof.MergeFwd.lean ====
/-
  The merge's forward call: what its three output arrays hold when the pipeline is left. At point t the body takes rows
  512 t … 512 t + 511 and computes the merged rows, the residual sum and its normalisation.
-/
module

public import proofs.«01_k».proof.Proof.MergeParts
public import proofs.«01_k».proof.Proof.Gen.MergeIdeal.Frame

@[expose] public section

set_option maxRecDepth 16384

noncomputable section

namespace Cert.Proof.MergeFwd

open Cert.MergeIdeal Cert.MergeIdeal.Gen Idealize.ShloMosaic.TcCoe Idealize.SL.Sem
open Idealize.ShloMosaic hiding ix1 ix2 eq_ix1 eq_ix2
open Idealize.ShloMosaic.ValueIdx Idealize.ShloMosaic.Ideal Cert.Proof.Products Cert.Proof.Spec Cert.Proof.Rows Cert.Proof.Rms
open Cert.Proof.MergeSpec Cert.Proof.MergeParts
open Idealize.ShloMosaic.Pipeline (Dat)

/-! ## What the body computes from its blocks -/

theorem dot_attn (x : FVec Ideal S512x256 .bf16) (w : FVec Ideal S256x1024 .bf16) :
    Idealize.ShloMosaic.matmul (F := Ideal) dot_S512x256_S256x1024_S512x1024_1_0_0_1_n_n none x w (constant S512x1024 .f32 0x00000000#32)
      = plain x w := by
  funext j
  refine (matmul_constant_zero_apply _ none x w j).trans ?_
  rw [
    ← Equiv.sum_comp (contrEquiv1 dot_S512x256_S256x1024_S512x1024_1_0_0_1_n_n 256 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

theorem dot_glu (x : FVec Ideal S512x512 .bf16) (w : FVec Ideal S512x2048 .bf16) :
    Idealize.ShloMosaic.matmul (F := Ideal) dot_S512x512_S512x2048_S512x2048_1_0_0_1_n_n none x w (constant S512x2048 .f32 0x00000000#32)
      = plain x w := by
  funext j
  refine (matmul_constant_zero_apply _ none x w j).trans ?_
  rw [
    ← Equiv.sum_comp (contrEquiv1 dot_S512x512_S512x2048_S512x2048_1_0_0_1_n_n 512 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

theorem dot_out (x : FVec Ideal S512x1024 .bf16) (w : FVec Ideal S1024x1024 .bf16) :
    Idealize.ShloMosaic.matmul (F := Ideal) dot_S512x1024_S1024x1024_S512x1024_1_0_0_1_n_n none x w (constant S512x1024 .f32 0x00000000#32)
      = plain x w := by
  funext j
  refine (matmul_constant_zero_apply _ none x w j).trans ?_
  rw [
    ← Equiv.sum_comp (contrEquiv1 dot_S512x1024_S1024x1024_S512x1024_1_0_0_1_n_n 1024 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

theorem pay_merged (g0 g1 : FVec Ideal S512x1024 .bf16) (a : FVec Ideal S512x256 .bf16) (y : FVec Ideal S512x512 .bf16)
    (wa : FVec Ideal S256x1024 .bf16) (wg : FVec Ideal S512x2048 .bf16) :
    k0_pay2 (F := Ideal) y wg g0 g1 a wa = merged (n := 512) g0 g1 a y wa wg := by
  unfold k0_pay2; simp only [shapeCast_self]; rw [dot_glu, dot_attn, slice_left, slice_right]; rfl

theorem pay_resid (g0 g1 : FVec Ideal S512x1024 .bf16) (a : FVec Ideal S512x256 .bf16) (y : FVec Ideal S512x512 .bf16)
    (wa : FVec Ideal S256x1024 .bf16) (wg : FVec Ideal S512x2048 .bf16) (wo : FVec Ideal S1024x1024 .bf16) (x : FVec Ideal S512x1024 .f32) :
    k0_pay3 (F := Ideal) y wg g0 g1 a wa wo x = resid (n := 512) g0 g1 a y x wa wg wo := by
  unfold k0_pay3; rw [pay_merged]; simp only [shapeCast_self]; rw [dot_out]; rfl

theorem pay_normed (x q : FVec Ideal S512x1024 .f32) (g : FVec Ideal S1x1024 .f32) (h : q = fun i => x i * x i) :
    k0_pay1 (F := Ideal) x g q = normed (n := 512) (d := 1024) x g := by
  subst h; unfold k0_pay1; simp only [along]; rw [lane]; simp only [across]; rfl

theorem pay_square (g0 g1 : FVec Ideal S512x1024 .bf16) (a : FVec Ideal S512x256 .bf16) (y : FVec Ideal S512x512 .bf16)
    (wa : FVec Ideal S256x1024 .bf16) (wg : FVec Ideal S512x2048 .bf16) (wo : FVec Ideal S1024x1024 .bf16) (x : FVec Ideal S512x1024 .f32) :
    k0_pay4 (F := Ideal) y wg g0 g1 a wa wo x = fun i => k0_pay3 (F := Ideal) y wg g0 g1 a wa wo x i * k0_pay3 (F := Ideal) y wg g0 g1 a wa wo x i := by
  unfold k0_pay4; rfl

variable (V : (c : Dev nD) → (b : Ref sig .tc) → Buf (Elt Ideal) ((c : Thread nD τ).loc b)) (c : Dev nD)

/-! ## Where the blocks lie -/

theorem idx_in : ∀ t : Fin cfg0.N, (win0_0.index t (0 : Fin 2) = t.val ∧ win0_0.index t (1 : Fin 2) = 0)
    ∧ (win0_1.index t (0 : Fin 2) = t.val ∧ win0_1.index t (1 : Fin 2) = 1)
    ∧ (win0_2.index t (0 : Fin 2) = t.val ∧ win0_2.index t (1 : Fin 2) = 0)
    ∧ (win0_4.index t (0 : Fin 2) = t.val ∧ win0_4.index t (1 : Fin 2) = 0)
    ∧ (win0_7.index t (0 : Fin 2) = t.val ∧ win0_7.index t (1 : Fin 2) = 0) :=
  (by decide +kernel : ∀ t : Fin grid0.N, _)
theorem idx_whole : ∀ t : Fin cfg0.N, (win0_3.index t (0 : Fin 2) = 0 ∧ win0_3.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_8.index t (0 : Fin 2) = 0 ∧ win0_8.index t (1 : Fin 2) = 0) :=
  (by decide +kernel : ∀ t : Fin grid0.N, _)
theorem idx_out : ∀ t : Fin cfg0.N, (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)
theorem lt_0 (t : Fin cfg0.N) : t.val < 8 := by have := t.isLt; have e : cfg0.N = 8 := N_0; omega

variable (t : Fin cfg0.N)

theorem blk0_0 : iblk0 V c 0 t = pick (N := 4096) (d := 1024) (rowAt t.val (lt_0 t)) (left (n := 4096) (V c main_arg0)) := by
  obtain ⟨⟨e0, e1⟩, -⟩ := idx_in t
  refine funext fun i => congrArg (V c main_arg0) (funext fun a => Fin.ext ?_)
  match a with
  | ⟨0, _⟩ => show win0_0.index t (0 : Fin 2) * 512 + 1 * (i 0).val = t.val * 512 + (i 0).val; omega
  | ⟨1, _⟩ => show win0_0.index t (1 : Fin 2) * 1024 + 1 * (i 1).val = (i 1).val; omega
theorem blk0_1 : iblk0 V c 1 t = pick (N := 4096) (d := 1024) (rowAt t.val (lt_0 t)) (right (n := 4096) (V c main_arg0)) := by
  obtain ⟨-, ⟨e0, e1⟩, -⟩ := idx_in t
  refine funext fun i => congrArg (V c main_arg0) (funext fun a => Fin.ext ?_)
  match a with
  | ⟨0, _⟩ => show win0_1.index t (0 : Fin 2) * 512 + 1 * (i 0).val = t.val * 512 + (i 0).val; omega
  | ⟨1, _⟩ => show win0_1.index t (1 : Fin 2) * 1024 + 1 * (i 1).val = 1024 + (i 1).val; omega
theorem blk0_2 : iblk0 V c 2 t = pick (N := 4096) (d := 256) (rowAt t.val (lt_0 t)) (V c main_arg1) := by
  obtain ⟨-, -, ⟨e0, e1⟩, -⟩ := idx_in t
  refine funext fun i => congrArg (V c main_arg1) (funext fun a => Fin.ext ?_)
  match a with
  | ⟨0, _⟩ => show win0_2.index t (0 : Fin 2) * 512 + 1 * (i 0).val = t.val * 512 + (i 0).val; omega
  | ⟨1, _⟩ => show win0_2.index t (1 : Fin 2) * 256 + 1 * (i 1).val = (i 1).val; omega
theorem blk0_4 : iblk0 V c 4 t = pick (N := 4096) (d := 512) (rowAt t.val (lt_0 t)) (V c main_arg2) := by
  obtain ⟨-, -, -, ⟨e0, e1⟩, -⟩ := idx_in t
  refine funext fun i => congrArg (V c main_arg2) (funext fun a => Fin.ext ?_)
  match a with
  | ⟨0, _⟩ => show win0_4.index t (0 : Fin 2) * 512 + 1 * (i 0).val = t.val * 512 + (i 0).val; omega
  | ⟨1, _⟩ => show win0_4.index t (1 : Fin 2) * 512 + 1 * (i 1).val = (i 1).val; omega
theorem blk0_7 : iblk0 V c 7 t = pick (N := 4096) (d := 1024) (rowAt t.val (lt_0 t)) (V c main_arg6) := by
  obtain ⟨-, -, -, -, ⟨e0, e1⟩⟩ := idx_in t
  refine funext fun i => congrArg (V c main_arg6) (funext fun a => Fin.ext ?_)
  match a with
  | ⟨0, _⟩ => show win0_7.index t (0 : Fin 2) * 512 + 1 * (i 0).val = t.val * 512 + (i 0).val; omega
  | ⟨1, _⟩ => show win0_7.index t (1 : Fin 2) * 1024 + 1 * (i 1).val = (i 1).val; omega
theorem blk0_3 : iblk0 V c 3 t = V c main_v0 := by
  obtain ⟨⟨e0, e1⟩, -⟩ := idx_whole t
  refine funext fun i => congrArg (V c main_v0) (funext fun a => Fin.ext ?_)
  match a with
  | ⟨0, _⟩ => show win0_3.index t (0 : Fin 2) * 256 + 1 * (i 0).val = (i 0).val; omega
  | ⟨1, _⟩ => show win0_3.index t (1 : Fin 2) * 1024 + 1 * (i 1).val = (i 1).val; omega
theorem blk0_5 : iblk0 V c 5 t = V c main_v1 := by
  obtain ⟨-, ⟨e0, e1⟩, -⟩ := idx_whole t
  refine funext fun i => congrArg (V c main_v1) (funext fun a => Fin.ext ?_)
  match a with
  | ⟨0, _⟩ => show win0_5.index t (0 : Fin 2) * 512 + 1 * (i 0).val = (i 0).val; omega
  | ⟨1, _⟩ => show win0_5.index t (1 : Fin 2) * 2048 + 1 * (i 1).val = (i 1).val; omega
theorem blk0_6 : iblk0 V c 6 t = V c main_v2 := by
  obtain ⟨-, -, ⟨e0, e1⟩, -⟩ := idx_whole t
  refine funext fun i => congrArg (V c main_v2) (funext fun a => Fin.ext ?_)
  match a with
  | ⟨0, _⟩ => show win0_6.index t (0 : Fin 2) * 1024 + 1 * (i 0).val = (i 0).val; omega
  | ⟨1, _⟩ => show win0_6.index t (1 : Fin 2) * 1024 + 1 * (i 1).val = (i 1).val; omega
theorem blk0_8 : iblk0 V c 8 t = V c main_arg7 := by
  obtain ⟨-, -, -, ⟨e0, e1⟩⟩ := idx_whole t
  refine funext fun i => congrArg (V c main_arg7) (funext fun a => Fin.ext ?_)
  match a with
  | ⟨0, _⟩ => show win0_8.index t (0 : Fin 2) * 1 + 1 * (i 0).val = (i 0).val; omega
  | ⟨1, _⟩ => show win0_8.index t (1 : Fin 2) * 1024 + 1 * (i 1).val = (i 1).val; omega

/-! ## The three arrays, of the arrays the pipeline finds -/

abbrev M : S4096x1024.Idx → EReal := merged (n := 4096) (left (n := 4096) (V c main_arg0)) (right (n := 4096) (V c main_arg0)) (V c main_arg1) (V c main_arg2)
  (V c main_v0) (V c main_v1)
abbrev X1 : S4096x1024.Idx → EReal := resid (n := 4096) (left (n := 4096) (V c main_arg0)) (right (n := 4096) (V c main_arg0)) (V c main_arg1) (V c main_arg2)
  (V c main_arg6) (V c main_v0) (V c main_v1) (V c main_v2)

/-- What point `t` leaves in each block. -/
theorem outs_merged : out0_9 (iblk0 V c 0 t) (iblk0 V c 1 t) (iblk0 V c 2 t) (iblk0 V c 3 t) (iblk0 V c 4 t) (iblk0 V c 5 t)
    (iblk0 V c 6 t) (iblk0 V c 7 t) (iblk0 V c 8 t) = pick (rowAt t.val (lt_0 t)) (M V c) := by
  frame_out; rw [pay_merged, blk0_0, blk0_1, blk0_2, blk0_3, blk0_4, blk0_5]; rfl
theorem outs_resid : out0_10 (iblk0 V c 0 t) (iblk0 V c 1 t) (iblk0 V c 2 t) (iblk0 V c 3 t) (iblk0 V c 4 t) (iblk0 V c 5 t)
    (iblk0 V c 6 t) (iblk0 V c 7 t) (iblk0 V c 8 t) = pick (rowAt t.val (lt_0 t)) (X1 V c) := by
  frame_out; rw [pay_resid, blk0_0, blk0_1, blk0_2, blk0_3, blk0_4, blk0_5, blk0_6, blk0_7]; rfl
theorem outs_normed : out0_11 (iblk0 V c 0 t) (iblk0 V c 1 t) (iblk0 V c 2 t) (iblk0 V c 3 t) (iblk0 V c 4 t) (iblk0 V c 5 t)
    (iblk0 V c 6 t) (iblk0 V c 7 t) (iblk0 V c 8 t)
      = pick (rowAt t.val (lt_0 t)) (normed (n := 4096) (d := 1024) (X1 V c) (V c main_arg7)) := by
  frame_out
  rw [pay_normed _ _ _ (pay_square _ _ _ _ _ _ _ _), pay_resid, blk0_0, blk0_1, blk0_2, blk0_3, blk0_4, blk0_5, blk0_6, blk0_7, blk0_8]; rfl

theorem point_1024 (i : S4096x1024.Idx) : ∃ (t : Fin cfg0.N) (j : S512x1024.Idx),
    t.val * 512 + (j 0).val = (i 0).val ∧ (j 1).val = (i 1).val := by
  have h0 : (i 0).val < 4096 := (i 0).isLt
  have h1 : (i 1).val < 1024 := (i 1).isLt
  refine ⟨⟨(i 0).val / 512, by rw [show cfg0.N = 8 from N_0]; omega⟩, ix2 ⟨(i 0).val % 512, by omega⟩ ⟨(i 1).val, h1⟩, ?_, rfl⟩
  show (i 0).val / 512 * 512 + (i 0).val % 512 = _; omega
theorem emb9 (j : S512x1024.Idx) (a : Fin 2) :
    (((cfg0.win 9).blk t).view.emb j a).val = (![t.val * 512 + (j 0).val, (j 1).val] : Fin 2 → Nat) a := by
  obtain ⟨⟨e0, e1⟩, -⟩ := idx_out t
  match a with
  | ⟨0, _⟩ => show win0_9.index t (0 : Fin 2) * 512 + 1 * (j 0).val = t.val * 512 + (j 0).val; omega
  | ⟨1, _⟩ => show win0_9.index t (1 : Fin 2) * 1024 + 1 * (j 1).val = (j 1).val; omega
theorem arr0_9 : (dat0 V c).arrAt 9 cfg0.N = M V c :=
  (dat0 V c).arrAt_eq_of_cover 9 (M V c) (fun t _ => by
    show (cfg0.win 9).cut (grid0.coords t) ((dat0 V c).after 9 t) = _
    rw [after0_9, outs_merged]
    funext j
    exact congrArg (M V c) (funext fun a => Fin.ext (by
      match a with | ⟨0, _⟩ => exact (emb9 t j 0).symm | ⟨1, _⟩ => exact (emb9 t j 1).symm)))
  fun i => by
    obtain ⟨t, j, e0, e1⟩ := point_1024 i
    refine ⟨t, flush0_9 t, ?_⟩
    have h := ((cfg0.win 9).blk t).view.emb_mem_set j
    rwa [show ((cfg0.win 9).blk t).view.emb j = i from funext fun a => Fin.ext (by
      match a with | ⟨0, _⟩ => exact (emb9 t j 0).trans e0 | ⟨1, _⟩ => exact (emb9 t j 1).trans e1)] at h
theorem emb10 (j : S512x1024.Idx) (a : Fin 2) :
    (((cfg0.win 10).blk t).view.emb j a).val = (![t.val * 512 + (j 0).val, (j 1).val] : Fin 2 → Nat) a := by
  obtain ⟨-, ⟨e0, e1⟩, -⟩ := idx_out t
  match a with
  | ⟨0, _⟩ => show win0_10.index t (0 : Fin 2) * 512 + 1 * (j 0).val = t.val * 512 + (j 0).val; omega
  | ⟨1, _⟩ => show win0_10.index t (1 : Fin 2) * 1024 + 1 * (j 1).val = (j 1).val; omega
theorem arr0_10 : (dat0 V c).arrAt 10 cfg0.N = X1 V c :=
  (dat0 V c).arrAt_eq_of_cover 10 (X1 V c) (fun t _ => by
    show (cfg0.win 10).cut (grid0.coords t) ((dat0 V c).after 10 t) = _
    rw [after0_10, outs_resid]
    funext j
    exact congrArg (X1 V c) (funext fun a => Fin.ext (by
      match a with | ⟨0, _⟩ => exact (emb10 t j 0).symm | ⟨1, _⟩ => exact (emb10 t j 1).symm)))
  fun i => by
    obtain ⟨t, j, e0, e1⟩ := point_1024 i
    refine ⟨t, flush0_10 t, ?_⟩
    have h := ((cfg0.win 10).blk t).view.emb_mem_set j
    rwa [show ((cfg0.win 10).blk t).view.emb j = i from funext fun a => Fin.ext (by
      match a with | ⟨0, _⟩ => exact (emb10 t j 0).trans e0 | ⟨1, _⟩ => exact (emb10 t j 1).trans e1)] at h
theorem emb11 (j : S512x1024.Idx) (a : Fin 2) :
    (((cfg0.win 11).blk t).view.emb j a).val = (![t.val * 512 + (j 0).val, (j 1).val] : Fin 2 → Nat) a := by
  obtain ⟨-, -, ⟨e0, e1⟩⟩ := idx_out t
  match a with
  | ⟨0, _⟩ => show win0_11.index t (0 : Fin 2) * 512 + 1 * (j 0).val = t.val * 512 + (j 0).val; omega
  | ⟨1, _⟩ => show win0_11.index t (1 : Fin 2) * 1024 + 1 * (j 1).val = (j 1).val; omega
theorem arr0_11 : (dat0 V c).arrAt 11 cfg0.N = normed (n := 4096) (d := 1024) (X1 V c) (V c main_arg7) :=
  (dat0 V c).arrAt_eq_of_cover 11 (normed (n := 4096) (d := 1024) (X1 V c) (V c main_arg7)) (fun t _ => by
    show (cfg0.win 11).cut (grid0.coords t) ((dat0 V c).after 11 t) = _
    rw [after0_11, outs_normed]
    funext j
    exact congrArg (normed (n := 4096) (d := 1024) (X1 V c) (V c main_arg7)) (funext fun a => Fin.ext (by
      match a with | ⟨0, _⟩ => exact (emb11 t j 0).symm | ⟨1, _⟩ => exact (emb11 t j 1).symm)))
  fun i => by
    obtain ⟨t, j, e0, e1⟩ := point_1024 i
    refine ⟨t, flush0_11 t, ?_⟩
    have h := ((cfg0.win 11).blk t).view.emb_mem_set j
    rwa [show ((cfg0.win 11).blk t).view.emb j = i from funext fun a => Fin.ext (by
      match a with | ⟨0, _⟩ => exact (emb11 t j 0).trans e0 | ⟨1, _⟩ => exact (emb11 t j 1).trans e1)] at h

end Cert.Proof.MergeFwd

end
-- ==== Proof.MergeBwd.lean ====
/-
  The merge's backward call: what its five output arrays hold when the pipeline is left. At point t the body takes rows
  512 t … 512 t + 511 and computes the gradients at the gates, at the two branches' projections and at the branches' rows.
-/
module

public import proofs.«01_k».proof.Proof.MergeParts
public import proofs.«01_k».proof.Proof.Gen.MergeIdeal.Frame

@[expose] public section

set_option maxRecDepth 16384

noncomputable section

namespace Cert.Proof.MergeBwd

open Cert.MergeIdeal Cert.MergeIdeal.Gen Idealize.ShloMosaic.TcCoe Idealize.SL.Sem
open Idealize.ShloMosaic hiding ix1 ix2 eq_ix1 eq_ix2
open Idealize.ShloMosaic.ValueIdx Idealize.ShloMosaic.Ideal Cert.Proof.Products Cert.Proof.Spec Cert.Proof.Rows Cert.Proof.Rms
open Cert.Proof.MergeSpec Cert.Proof.MergeParts
open Idealize.ShloMosaic.Pipeline (Dat)

/-! ## What the body computes from its blocks -/

theorem dot_attn (x : FVec Ideal S512x256 .bf16) (w : FVec Ideal S256x1024 .bf16) :
    Idealize.ShloMosaic.matmul (F := Ideal) dot_S512x256_S256x1024_S512x1024_1_0_0_1_n_n none x w (constant S512x1024 .f32 0x00000000#32)
      = plain x w := by
  funext j
  refine (matmul_constant_zero_apply _ none x w j).trans ?_
  rw [
    ← Equiv.sum_comp (contrEquiv1 dot_S512x256_S256x1024_S512x1024_1_0_0_1_n_n 256 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

theorem dot_glu (x : FVec Ideal S512x512 .bf16) (w : FVec Ideal S512x2048 .bf16) :
    Idealize.ShloMosaic.matmul (F := Ideal) dot_S512x512_S512x2048_S512x2048_1_0_0_1_n_n none x w (constant S512x2048 .f32 0x00000000#32)
      = plain x w := by
  funext j
  refine (matmul_constant_zero_apply _ none x w j).trans ?_
  rw [
    ← Equiv.sum_comp (contrEquiv1 dot_S512x512_S512x2048_S512x2048_1_0_0_1_n_n 512 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

theorem dot_dm (x : FVec Ideal S512x1024 .bf16) (w : FVec Ideal S1024x1024 .bf16) :
    Idealize.ShloMosaic.matmul (F := Ideal) dot_S512x1024_S1024x1024_S512x1024_1_1_0_0_n_n none x w (constant S512x1024 .f32 0x00000000#32)
      = rows x w := by
  funext j
  refine (matmul_constant_zero_apply _ none x w j).trans ?_
  rw [
    ← Equiv.sum_comp (contrEquiv1 dot_S512x1024_S1024x1024_S512x1024_1_1_0_0_n_n 1024 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

theorem dot_da (x : FVec Ideal S512x1024 .bf16) (w : FVec Ideal S256x1024 .bf16) :
    Idealize.ShloMosaic.matmul (F := Ideal) dot_S512x1024_S256x1024_S512x256_1_1_0_0_n_n none x w (constant S512x256 .f32 0x00000000#32)
      = rows x w := by
  funext j
  refine (matmul_constant_zero_apply _ none x w j).trans ?_
  rw [
    ← Equiv.sum_comp (contrEquiv1 dot_S512x1024_S256x1024_S512x256_1_1_0_0_n_n 1024 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

theorem dot_dy (x : FVec Ideal S512x2048 .bf16) (w : FVec Ideal S512x2048 .bf16) :
    Idealize.ShloMosaic.matmul (F := Ideal) dot_S512x2048_S512x2048_S512x512_1_1_0_0_n_n none x w (constant S512x512 .f32 0x00000000#32)
      = rows x w := by
  funext j
  refine (matmul_constant_zero_apply _ none x w j).trans ?_
  rw [
    ← Equiv.sum_comp (contrEquiv1 dot_S512x2048_S512x2048_S512x512_1_1_0_0_n_n 2048 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

/-- Two stores of half rows leave the two halves joined. -/
theorem canon_halves (a b : FVec Ideal S512x1024 .bf16) :
    View.canon ([⟨Rect.unit ![0, 1024] ![512, 1024] inb_S512x2048_S512x1024_0_1024, b⟩,
      ⟨Rect.unit ![0, 0] ![512, 1024] inb_S512x2048_S512x1024_0_0, a⟩] :
        List (View.Piece (Elt Ideal) S512x2048 .bf16)) = join (n := 512) a b := by
  funext i
  canon_tiles x h
  · unfold join
    rw [dif_neg (by omega)]
    refine congrArg b (funext fun k => Fin.ext ?_)
    match k with
    | ⟨0, _⟩ => show (x 0).val = (i 0).val; omega
    | ⟨1, _⟩ => show (x 1).val = (i 1).val - 1024; omega
  · unfold join
    rw [dif_pos (by omega)]
    refine congrArg a (funext fun k => Fin.ext ?_)
    match k with
    | ⟨0, _⟩ => show (x 0).val = (i 0).val; omega
    | ⟨1, _⟩ => show (x 1).val = (i 1).val; omega

/-- Read back whole, they are the two halves joined. -/
theorem readCov_halves {sg : RefSig} {κ : Kind} {sp : Space} (v : View sg κ sp S512x2048 .bf16)
    (a b : FVec Ideal S512x1024 .bf16) :
    v.readCov ([⟨Rect.unit ![0, 1024] ![512, 1024] inb_S512x2048_S512x1024_0_1024, b⟩,
      ⟨Rect.unit ![0, 0] ![512, 1024] inb_S512x2048_S512x1024_0_0, a⟩] :
        List (View.Piece (Elt Ideal) S512x2048 .bf16)) (Rect.unit ![0, 0] ![512, 2048] inb_S512x2048_S512x2048_0_0).toLoadRect
      = join (n := 512) a b := by
  rw [View.readCov_eq_canon', canon_halves]
  funext i
  refine congrArg (join (n := 512) a b) (funext fun k => Fin.ext ?_)
  match k with
  | ⟨0, _⟩ => show 0 + 1 * (i 0).val = (i 0).val; omega
  | ⟨1, _⟩ => show 0 + 1 * (i 1).val = (i 1).val; omega

theorem one_word : Ideal.ofBits .f32 0x3F800000#32 = (1 : EReal) := ofBits_one_f32

section Pay

variable (t : FVec Ideal S512x1024 .bf16) (wo : FVec Ideal S1024x1024 .bf16) (g0 g1 : FVec Ideal S512x1024 .bf16)
  (a : FVec Ideal S512x256 .bf16) (wa : FVec Ideal S256x1024 .bf16) (y : FVec Ideal S512x512 .bf16) (wg : FVec Ideal S512x2048 .bf16)

theorem pay_dm : k2_pay9 (F := Ideal) t wo = dm (n := 512) t wo := by
  unfold k2_pay9; simp only [shapeCast_self]; rw [dot_dm]; rfl
theorem pay_z : k2_pay10 (F := Ideal) y wg = plain y wg := by
  unfold k2_pay10; simp only [shapeCast_self]; rw [dot_glu]
theorem pay_ad : k2_pay11 (F := Ideal) a wa = plain a wa := by
  unfold k2_pay11; simp only [shapeCast_self]; rw [dot_attn]
theorem pay_za : k2_pay12 (F := Ideal) y wg = left (n := 512) (plain y wg) := by
  unfold k2_pay12; rw [pay_z, slice_left]
theorem pay_sb : k2_pay17 (F := Ideal) y wg = fun i => Ideal.logistic (right (n := 512) (plain y wg) i) := by
  unfold k2_pay17; rw [pay_z, slice_right]; rfl
theorem pay_slope0 : k2_pay14 (F := Ideal) g0 = fun i => slope (g0 i) := by
  unfold k2_pay14 k2_pay13; funext i
  show Ideal.logistic (g0 i) * (Ideal.ofBits .f32 0x3F800000#32 - Ideal.logistic (g0 i)) = _
  rw [one_word]; rfl
theorem pay_slope1 : k2_pay16 (F := Ideal) g1 = fun i => slope (g1 i) := by
  unfold k2_pay16 k2_pay15; funext i
  show Ideal.logistic (g1 i) * (Ideal.ofBits .f32 0x3F800000#32 - Ideal.logistic (g1 i)) = _
  rw [one_word]; rfl
theorem pay_dg0 : k2_pay3 (F := Ideal) (k2_pay9 t wo) (k2_pay11 a wa) (k2_pay14 g0) = dg0 (n := 512) g0 a t wa wo := by
  unfold k2_pay3; rw [pay_dm, pay_ad, pay_slope0]; rfl
theorem pay_dg1 : k2_pay4 (F := Ideal) (k2_pay16 g1) (k2_pay19 t wo y wg) = dg1 (n := 512) g1 y t wg wo := by
  unfold k2_pay4 k2_pay19; rw [pay_dm, pay_za, pay_sb, pay_slope1]; rfl
theorem pay_dad : k2_pay1 (F := Ideal) (k2_pay9 t wo) (k2_pay13 g0) = dad (n := 512) g0 t wo := by
  unfold k2_pay1 k2_pay13; rw [pay_dm]; rfl
theorem pay_dad_b : k2_pay5 (F := Ideal) (k2_pay9 t wo) (k2_pay13 g0) = dad (n := 512) g0 t wo := by
  unfold k2_pay5; rw [pay_dad]; rfl
theorem pay_dattn : k2_pay2 (F := Ideal) (k2_pay9 t wo) (k2_pay13 g0) wa = dattn (n := 512) g0 t wa wo := by
  unfold k2_pay2; simp only [shapeCast_self]; rw [pay_dad, dot_da]; rfl
theorem pay_dza : k2_pay6 (F := Ideal) (k2_pay20 t wo y wg g1) = dza (n := 512) g1 y t wg wo := by
  unfold k2_pay6 k2_pay20 k2_pay18 k2_pay15; rw [pay_dm, pay_sb]; rfl
theorem pay_dzb : k2_pay7 (F := Ideal) (k2_pay21 t wo y wg g1) = dzb (n := 512) g1 y t wg wo := by
  unfold k2_pay7 k2_pay21 k2_pay18 k2_pay15; rw [pay_dm, pay_za, pay_sb]; funext i
  show (_ * _) * (Ideal.logistic _ * (Ideal.ofBits .f32 0x3F800000#32 - Ideal.logistic _)) = _
  rw [one_word]; rfl
theorem pay_dyg (z : FVec Ideal S512x2048 .bf16) : k2_pay8 (F := Ideal) z wg = rows (n := 512) (p := 512) (q := 2048) z wg := by
  unfold k2_pay8; simp only [shapeCast_self]; rw [dot_dy]

end Pay

variable (V : (c : Dev nD) → (b : Ref sig .tc) → Buf (Elt Ideal) ((c : Thread nD τ).loc b)) (c : Dev nD)

/-! ## Where the blocks lie -/

theorem idx_in : ∀ t : Fin cfg2.N, (win2_0.index t (0 : Fin 2) = t.val ∧ win2_0.index t (1 : Fin 2) = 0)
    ∧ (win2_2.index t (0 : Fin 2) = t.val ∧ win2_2.index t (1 : Fin 2) = 0)
    ∧ (win2_3.index t (0 : Fin 2) = t.val ∧ win2_3.index t (1 : Fin 2) = 1)
    ∧ (win2_4.index t (0 : Fin 2) = t.val ∧ win2_4.index t (1 : Fin 2) = 0)
    ∧ (win2_6.index t (0 : Fin 2) = t.val ∧ win2_6.index t (1 : Fin 2) = 0) :=
  (by decide +kernel : ∀ t : Fin grid2.N, _)
theorem idx_whole : ∀ t : Fin cfg2.N, (win2_1.index t (0 : Fin 2) = 0 ∧ win2_1.index t (1 : Fin 2) = 0)
    ∧ (win2_5.index t (0 : Fin 2) = 0 ∧ win2_5.index t (1 : Fin 2) = 0)
    ∧ (win2_7.index t (0 : Fin 2) = 0 ∧ win2_7.index t (1 : Fin 2) = 0) :=
  (by decide +kernel : ∀ t : Fin grid2.N, _)
theorem idx_out : ∀ t : Fin cfg2.N, (win2_8.index t (0 : Fin 2) = t.val ∧ win2_8.index t (1 : Fin 2) = 0)
    ∧ (win2_9.index t (0 : Fin 2) = t.val ∧ win2_9.index t (1 : Fin 2) = 0)
    ∧ (win2_10.index t (0 : Fin 2) = t.val ∧ win2_10.index t (1 : Fin 2) = 0)
    ∧ (win2_11.index t (0 : Fin 2) = t.val ∧ win2_11.index t (1 : Fin 2) = 0)
    ∧ (win2_12.index t (0 : Fin 2) = t.val ∧ win2_12.index t (1 : Fin 2) = 0) :=
  (by decide +kernel : ∀ t : Fin grid2.N, _)
theorem lt_2 (t : Fin cfg2.N) : t.val < 8 := by have := t.isLt; have e : cfg2.N = 8 := N_2; omega

variable (t : Fin cfg2.N)

theorem blk2_0 : iblk2 V c 0 t = pick (N := 4096) (d := 1024) (rowAt t.val (lt_2 t)) (V c main_v3) := by
  obtain ⟨⟨e0, e1⟩, -⟩ := idx_in t
  refine funext fun i => congrArg (V c main_v3) (funext fun a => Fin.ext ?_)
  match a with
  | ⟨0, _⟩ => show win2_0.index t (0 : Fin 2) * 512 + 1 * (i 0).val = t.val * 512 + (i 0).val; omega
  | ⟨1, _⟩ => show win2_0.index t (1 : Fin 2) * 1024 + 1 * (i 1).val = (i 1).val; omega
theorem blk2_2 : iblk2 V c 2 t = pick (N := 4096) (d := 1024) (rowAt t.val (lt_2 t)) (left (n := 4096) (V c main_arg0)) := by
  obtain ⟨-, ⟨e0, e1⟩, -⟩ := idx_in t
  refine funext fun i => congrArg (V c main_arg0) (funext fun a => Fin.ext ?_)
  match a with
  | ⟨0, _⟩ => show win2_2.index t (0 : Fin 2) * 512 + 1 * (i 0).val = t.val * 512 + (i 0).val; omega
  | ⟨1, _⟩ => show win2_2.index t (1 : Fin 2) * 1024 + 1 * (i 1).val = (i 1).val; omega
theorem blk2_3 : iblk2 V c 3 t = pick (N := 4096) (d := 1024) (rowAt t.val (lt_2 t)) (right (n := 4096) (V c main_arg0)) := by
  obtain ⟨-, -, ⟨e0, e1⟩, -⟩ := idx_in t
  refine funext fun i => congrArg (V c main_arg0) (funext fun a => Fin.ext ?_)
  match a with
  | ⟨0, _⟩ => show win2_3.index t (0 : Fin 2) * 512 + 1 * (i 0).val = t.val * 512 + (i 0).val; omega
  | ⟨1, _⟩ => show win2_3.index t (1 : Fin 2) * 1024 + 1 * (i 1).val = 1024 + (i 1).val; omega
theorem blk2_4 : iblk2 V c 4 t = pick (N := 4096) (d := 256) (rowAt t.val (lt_2 t)) (V c main_arg1) := by
  obtain ⟨-, -, -, ⟨e0, e1⟩, -⟩ := idx_in t
  refine funext fun i => congrArg (V c main_arg1) (funext fun a => Fin.ext ?_)
  match a with
  | ⟨0, _⟩ => show win2_4.index t (0 : Fin 2) * 512 + 1 * (i 0).val = t.val * 512 + (i 0).val; omega
  | ⟨1, _⟩ => show win2_4.index t (1 : Fin 2) * 256 + 1 * (i 1).val = (i 1).val; omega
theorem blk2_6 : iblk2 V c 6 t = pick (N := 4096) (d := 512) (rowAt t.val (lt_2 t)) (V c main_arg2) := by
  obtain ⟨-, -, -, -, ⟨e0, e1⟩⟩ := idx_in t
  refine funext fun i => congrArg (V c main_arg2) (funext fun a => Fin.ext ?_)
  match a with
  | ⟨0, _⟩ => show win2_6.index t (0 : Fin 2) * 512 + 1 * (i 0).val = t.val * 512 + (i 0).val; omega
  | ⟨1, _⟩ => show win2_6.index t (1 : Fin 2) * 512 + 1 * (i 1).val = (i 1).val; omega
theorem blk2_1 : iblk2 V c 1 t = V c main_v2 := by
  obtain ⟨⟨e0, e1⟩, -⟩ := idx_whole t
  refine funext fun i => congrArg (V c main_v2) (funext fun a => Fin.ext ?_)
  match a with
  | ⟨0, _⟩ => show win2_1.index t (0 : Fin 2) * 1024 + 1 * (i 0).val = (i 0).val; omega
  | ⟨1, _⟩ => show win2_1.index t (1 : Fin 2) * 1024 + 1 * (i 1).val = (i 1).val; omega
theorem blk2_5 : iblk2 V c 5 t = V c main_v0 := by
  obtain ⟨-, ⟨e0, e1⟩, -⟩ := idx_whole t
  refine funext fun i => congrArg (V c main_v0) (funext fun a => Fin.ext ?_)
  match a with
  | ⟨0, _⟩ => show win2_5.index t (0 : Fin 2) * 256 + 1 * (i 0).val = (i 0).val; omega
  | ⟨1, _⟩ => show win2_5.index t (1 : Fin 2) * 1024 + 1 * (i 1).val = (i 1).val; omega
theorem blk2_7 : iblk2 V c 7 t = V c main_v1 := by
  obtain ⟨-, -, ⟨e0, e1⟩⟩ := idx_whole t
  refine funext fun i => congrArg (V c main_v1) (funext fun a => Fin.ext ?_)
  match a with
  | ⟨0, _⟩ => show win2_7.index t (0 : Fin 2) * 512 + 1 * (i 0).val = (i 0).val; omega
  | ⟨1, _⟩ => show win2_7.index t (1 : Fin 2) * 2048 + 1 * (i 1).val = (i 1).val; omega

/-! ## The five arrays, of the arrays the pipeline finds -/

abbrev DGates : S4096x2048.Idx → EReal := dgates (n := 4096) (left (n := 4096) (V c main_arg0)) (right (n := 4096) (V c main_arg0))
  (V c main_arg1) (V c main_arg2) (V c main_v3) (V c main_v0) (V c main_v1) (V c main_v2)
abbrev DAd : S4096x1024.Idx → EReal := dad (n := 4096) (left (n := 4096) (V c main_arg0)) (V c main_v3) (V c main_v2)
abbrev DZ : S4096x2048.Idx → EReal := dz (n := 4096) (right (n := 4096) (V c main_arg0)) (V c main_arg2) (V c main_v3) (V c main_v1) (V c main_v2)
abbrev DAttn : S4096x256.Idx → EReal := dattn (n := 4096) (left (n := 4096) (V c main_arg0)) (V c main_v3) (V c main_v0) (V c main_v2)
abbrev DYg : S4096x512.Idx → EReal := dyg (n := 4096) (right (n := 4096) (V c main_arg0)) (V c main_arg2) (V c main_v3) (V c main_v1) (V c main_v2)

/-- What point `t` leaves in each block. -/
theorem outs_dgates : (outsAt2 V c t).1 = pick (rowAt t.val (lt_2 t)) (DGates V c) := by
  frame_out
  refine (canon_halves _ _).trans ?_
  rw [pay_dg0, pay_dg1, blk2_0, blk2_1, blk2_2, blk2_3, blk2_4, blk2_5, blk2_6, blk2_7]; rfl
theorem outs_dad : (outsAt2 V c t).2.1 = pick (rowAt t.val (lt_2 t)) (DAd V c) := by
  frame_out; rw [pay_dad_b, blk2_0, blk2_1, blk2_2]; rfl
theorem outs_dz : (outsAt2 V c t).2.2.1 = pick (rowAt t.val (lt_2 t)) (DZ V c) := by
  frame_out
  refine (canon_halves _ _).trans ?_
  rw [pay_dza, pay_dzb, blk2_0, blk2_1, blk2_3, blk2_6, blk2_7]; rfl
theorem outs_dattn : (outsAt2 V c t).2.2.2.1 = pick (rowAt t.val (lt_2 t)) (DAttn V c) := by
  frame_out; rw [pay_dattn, blk2_0, blk2_1, blk2_2, blk2_5]; rfl
theorem outs_dyg : (outsAt2 V c t).2.2.2.2 = pick (rowAt t.val (lt_2 t)) (DYg V c) := by
  frame_out
  rw [pay_dyg]
  refine (congrArg (fun z => rows (n := 512) (p := 512) (q := 2048) z _) (readCov_halves _ _ _)).trans ?_
  rw [pay_dza, pay_dzb, blk2_0, blk2_1, blk2_3, blk2_6, blk2_7]; rfl

theorem point_2048 (i : S4096x2048.Idx) : ∃ (t : Fin cfg2.N) (j : S512x2048.Idx),
    t.val * 512 + (j 0).val = (i 0).val ∧ (j 1).val = (i 1).val := by
  have h0 : (i 0).val < 4096 := (i 0).isLt
  have h1 : (i 1).val < 2048 := (i 1).isLt
  refine ⟨⟨(i 0).val / 512, by rw [show cfg2.N = 8 from N_2]; omega⟩, ix2 ⟨(i 0).val % 512, by omega⟩ ⟨(i 1).val, h1⟩, ?_, rfl⟩
  show (i 0).val / 512 * 512 + (i 0).val % 512 = _; omega
theorem point_1024 (i : S4096x1024.Idx) : ∃ (t : Fin cfg2.N) (j : S512x1024.Idx),
    t.val * 512 + (j 0).val = (i 0).val ∧ (j 1).val = (i 1).val := by
  have h0 : (i 0).val < 4096 := (i 0).isLt
  have h1 : (i 1).val < 1024 := (i 1).isLt
  refine ⟨⟨(i 0).val / 512, by rw [show cfg2.N = 8 from N_2]; omega⟩, ix2 ⟨(i 0).val % 512, by omega⟩ ⟨(i 1).val, h1⟩, ?_, rfl⟩
  show (i 0).val / 512 * 512 + (i 0).val % 512 = _; omega
theorem point_256 (i : S4096x256.Idx) : ∃ (t : Fin cfg2.N) (j : S512x256.Idx),
    t.val * 512 + (j 0).val = (i 0).val ∧ (j 1).val = (i 1).val := by
  have h0 : (i 0).val < 4096 := (i 0).isLt
  have h1 : (i 1).val < 256 := (i 1).isLt
  refine ⟨⟨(i 0).val / 512, by rw [show cfg2.N = 8 from N_2]; omega⟩, ix2 ⟨(i 0).val % 512, by omega⟩ ⟨(i 1).val, h1⟩, ?_, rfl⟩
  show (i 0).val / 512 * 512 + (i 0).val % 512 = _; omega
theorem point_512 (i : S4096x512.Idx) : ∃ (t : Fin cfg2.N) (j : S512x512.Idx),
    t.val * 512 + (j 0).val = (i 0).val ∧ (j 1).val = (i 1).val := by
  have h0 : (i 0).val < 4096 := (i 0).isLt
  have h1 : (i 1).val < 512 := (i 1).isLt
  refine ⟨⟨(i 0).val / 512, by rw [show cfg2.N = 8 from N_2]; omega⟩, ix2 ⟨(i 0).val % 512, by omega⟩ ⟨(i 1).val, h1⟩, ?_, rfl⟩
  show (i 0).val / 512 * 512 + (i 0).val % 512 = _; omega
theorem emb8 (j : S512x2048.Idx) (a : Fin 2) :
    (((cfg2.win 8).blk t).view.emb j a).val = (![t.val * 512 + (j 0).val, (j 1).val] : Fin 2 → Nat) a := by
  obtain ⟨⟨e0, e1⟩, -⟩ := idx_out t
  match a with
  | ⟨0, _⟩ => show win2_8.index t (0 : Fin 2) * 512 + 1 * (j 0).val = t.val * 512 + (j 0).val; omega
  | ⟨1, _⟩ => show win2_8.index t (1 : Fin 2) * 2048 + 1 * (j 1).val = (j 1).val; omega
theorem arr2_8 : (dat2 V c).arrAt 8 cfg2.N = DGates V c :=
  (dat2 V c).arrAt_eq_of_cover 8 (DGates V c) (fun t _ => by
    show (cfg2.win 8).cut (grid2.coords t) ((dat2 V c).after 8 t) = _
    rw [after2_8, outs_dgates]
    funext j
    exact congrArg (DGates V c) (funext fun a => Fin.ext (by
      match a with | ⟨0, _⟩ => exact (emb8 t j 0).symm | ⟨1, _⟩ => exact (emb8 t j 1).symm)))
  fun i => by
    obtain ⟨t, j, e0, e1⟩ := point_2048 i
    refine ⟨t, flush2_8 t, ?_⟩
    have h := ((cfg2.win 8).blk t).view.emb_mem_set j
    rwa [show ((cfg2.win 8).blk t).view.emb j = i from funext fun a => Fin.ext (by
      match a with | ⟨0, _⟩ => exact (emb8 t j 0).trans e0 | ⟨1, _⟩ => exact (emb8 t j 1).trans e1)] at h
theorem emb9 (j : S512x1024.Idx) (a : Fin 2) :
    (((cfg2.win 9).blk t).view.emb j a).val = (![t.val * 512 + (j 0).val, (j 1).val] : Fin 2 → Nat) a := by
  obtain ⟨-, ⟨e0, e1⟩, -⟩ := idx_out t
  match a with
  | ⟨0, _⟩ => show win2_9.index t (0 : Fin 2) * 512 + 1 * (j 0).val = t.val * 512 + (j 0).val; omega
  | ⟨1, _⟩ => show win2_9.index t (1 : Fin 2) * 1024 + 1 * (j 1).val = (j 1).val; omega
theorem arr2_9 : (dat2 V c).arrAt 9 cfg2.N = DAd V c :=
  (dat2 V c).arrAt_eq_of_cover 9 (DAd V c) (fun t _ => by
    show (cfg2.win 9).cut (grid2.coords t) ((dat2 V c).after 9 t) = _
    rw [after2_9, outs_dad]
    funext j
    exact congrArg (DAd V c) (funext fun a => Fin.ext (by
      match a with | ⟨0, _⟩ => exact (emb9 t j 0).symm | ⟨1, _⟩ => exact (emb9 t j 1).symm)))
  fun i => by
    obtain ⟨t, j, e0, e1⟩ := point_1024 i
    refine ⟨t, flush2_9 t, ?_⟩
    have h := ((cfg2.win 9).blk t).view.emb_mem_set j
    rwa [show ((cfg2.win 9).blk t).view.emb j = i from funext fun a => Fin.ext (by
      match a with | ⟨0, _⟩ => exact (emb9 t j 0).trans e0 | ⟨1, _⟩ => exact (emb9 t j 1).trans e1)] at h
theorem emb10 (j : S512x2048.Idx) (a : Fin 2) :
    (((cfg2.win 10).blk t).view.emb j a).val = (![t.val * 512 + (j 0).val, (j 1).val] : Fin 2 → Nat) a := by
  obtain ⟨-, -, ⟨e0, e1⟩, -⟩ := idx_out t
  match a with
  | ⟨0, _⟩ => show win2_10.index t (0 : Fin 2) * 512 + 1 * (j 0).val = t.val * 512 + (j 0).val; omega
  | ⟨1, _⟩ => show win2_10.index t (1 : Fin 2) * 2048 + 1 * (j 1).val = (j 1).val; omega
theorem arr2_10 : (dat2 V c).arrAt 10 cfg2.N = DZ V c :=
  (dat2 V c).arrAt_eq_of_cover 10 (DZ V c) (fun t _ => by
    show (cfg2.win 10).cut (grid2.coords t) ((dat2 V c).after 10 t) = _
    rw [after2_10, outs_dz]
    funext j
    exact congrArg (DZ V c) (funext fun a => Fin.ext (by
      match a with | ⟨0, _⟩ => exact (emb10 t j 0).symm | ⟨1, _⟩ => exact (emb10 t j 1).symm)))
  fun i => by
    obtain ⟨t, j, e0, e1⟩ := point_2048 i
    refine ⟨t, flush2_10 t, ?_⟩
    have h := ((cfg2.win 10).blk t).view.emb_mem_set j
    rwa [show ((cfg2.win 10).blk t).view.emb j = i from funext fun a => Fin.ext (by
      match a with | ⟨0, _⟩ => exact (emb10 t j 0).trans e0 | ⟨1, _⟩ => exact (emb10 t j 1).trans e1)] at h
theorem emb11 (j : S512x256.Idx) (a : Fin 2) :
    (((cfg2.win 11).blk t).view.emb j a).val = (![t.val * 512 + (j 0).val, (j 1).val] : Fin 2 → Nat) a := by
  obtain ⟨-, -, -, ⟨e0, e1⟩, -⟩ := idx_out t
  match a with
  | ⟨0, _⟩ => show win2_11.index t (0 : Fin 2) * 512 + 1 * (j 0).val = t.val * 512 + (j 0).val; omega
  | ⟨1, _⟩ => show win2_11.index t (1 : Fin 2) * 256 + 1 * (j 1).val = (j 1).val; omega
theorem arr2_11 : (dat2 V c).arrAt 11 cfg2.N = DAttn V c :=
  (dat2 V c).arrAt_eq_of_cover 11 (DAttn V c) (fun t _ => by
    show (cfg2.win 11).cut (grid2.coords t) ((dat2 V c).after 11 t) = _
    rw [after2_11, outs_dattn]
    funext j
    exact congrArg (DAttn V c) (funext fun a => Fin.ext (by
      match a with | ⟨0, _⟩ => exact (emb11 t j 0).symm | ⟨1, _⟩ => exact (emb11 t j 1).symm)))
  fun i => by
    obtain ⟨t, j, e0, e1⟩ := point_256 i
    refine ⟨t, flush2_11 t, ?_⟩
    have h := ((cfg2.win 11).blk t).view.emb_mem_set j
    rwa [show ((cfg2.win 11).blk t).view.emb j = i from funext fun a => Fin.ext (by
      match a with | ⟨0, _⟩ => exact (emb11 t j 0).trans e0 | ⟨1, _⟩ => exact (emb11 t j 1).trans e1)] at h
theorem emb12 (j : S512x512.Idx) (a : Fin 2) :
    (((cfg2.win 12).blk t).view.emb j a).val = (![t.val * 512 + (j 0).val, (j 1).val] : Fin 2 → Nat) a := by
  obtain ⟨-, -, -, -, ⟨e0, e1⟩⟩ := idx_out t
  match a with
  | ⟨0, _⟩ => show win2_12.index t (0 : Fin 2) * 512 + 1 * (j 0).val = t.val * 512 + (j 0).val; omega
  | ⟨1, _⟩ => show win2_12.index t (1 : Fin 2) * 512 + 1 * (j 1).val = (j 1).val; omega
theorem arr2_12 : (dat2 V c).arrAt 12 cfg2.N = DYg V c :=
  (dat2 V c).arrAt_eq_of_cover 12 (DYg V c) (fun t _ => by
    show (cfg2.win 12).cut (grid2.coords t) ((dat2 V c).after 12 t) = _
    rw [after2_12, outs_dyg]
    funext j
    exact congrArg (DYg V c) (funext fun a => Fin.ext (by
      match a with | ⟨0, _⟩ => exact (emb12 t j 0).symm | ⟨1, _⟩ => exact (emb12 t j 1).symm)))
  fun i => by
    obtain ⟨t, j, e0, e1⟩ := point_512 i
    refine ⟨t, flush2_12 t, ?_⟩
    have h := ((cfg2.win 12).blk t).view.emb_mem_set j
    rwa [show ((cfg2.win 12).blk t).view.emb j = i from funext fun a => Fin.ext (by
      match a with | ⟨0, _⟩ => exact (emb12 t j 0).trans e0 | ⟨1, _⟩ => exact (emb12 t j 1).trans e1)] at h

end Cert.Proof.MergeBwd

end
-- ==== Proof.MergeRun.lean ====
/-
  The merge's run, read at every buffer: each ends at what the fold through @main leaves there. From it, each result
  array is followed back through the five regions to the arguments.
-/
module

public import proofs.«01_k».proof.Proof.MergeFwd
public import proofs.«01_k».proof.Proof.MergeBwd
public import proofs.«01_k».proof.Proof.MergeW

@[expose] public section

set_option maxRecDepth 16384

noncomputable section

namespace Cert.Proof.MergeRun

open Cert.MergeIdeal Cert.MergeIdeal.Gen Idealize.ShloMosaic.TcCoe Idealize.ShloMosaic.Tactic
open Idealize.ShloMosaic hiding ix1 ix2 ix3 eq_ix1 eq_ix2
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx Cert.Proof.Products Cert.Proof.Spec Cert.Proof.Rms Cert.Proof.MergeSpec

section Any

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer of every core ends at the fold's last contents: the segments' launch, with the last thread state read
    against the final memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h _ => h)

end Any

section Results

variable (m : (ℓ : Loc nD τ sig) → Buf (Elt Ideal) ℓ) (ρ : Dev nD → PrngReg) (c : Dev nD)

/-! ### The arguments, by what they are -/

abbrev gates : Mat 4096 2048 := m ((c : Thread nD τ).loc main_arg0)
abbrev attn : Mat 4096 256 := m ((c : Thread nD τ).loc main_arg1)
abbrev yg : Mat 4096 512 := m ((c : Thread nD τ).loc main_arg2)
abbrev wa : Mat 256 1024 := m ((c : Thread nD τ).loc main_arg3)
abbrev wg : Mat 512 2048 := m ((c : Thread nD τ).loc main_arg4)
abbrev wo : Mat 1024 1024 := m ((c : Thread nD τ).loc main_arg5)
abbrev x : Mat 4096 1024 := m ((c : Thread nD τ).loc main_arg6)
abbrev gain : Mat 1 1024 := m ((c : Thread nD τ).loc main_arg7)
abbrev t : Mat 4096 1024 := m ((c : Thread nD τ).loc main_arg8)

/-! ### The results, of the arguments -/

abbrev Merged : Mat 4096 1024 := merged (left (gates m c)) (right (gates m c)) (attn m c) (yg m c) (wa m c) (wg m c)
abbrev X1 : Mat 4096 1024 := resid (left (gates m c)) (right (gates m c)) (attn m c) (yg m c) (x m c) (wa m c) (wg m c) (wo m c)
abbrev H2 : Mat 4096 1024 := normed (X1 m c) (gain m c)
abbrev DGates : Mat 4096 2048 := dgates (left (gates m c)) (right (gates m c)) (attn m c) (yg m c) (t m c) (wa m c) (wg m c) (wo m c)
abbrev DAd : Mat 4096 1024 := dad (left (gates m c)) (t m c) (wo m c)
abbrev DZ : Mat 4096 2048 := dz (right (gates m c)) (yg m c) (t m c) (wg m c) (wo m c)
abbrev DAttn : Mat 4096 256 := dattn (left (gates m c)) (t m c) (wa m c) (wo m c)
abbrev DYg : Mat 4096 512 := dyg (right (gates m c)) (yg m c) (t m c) (wg m c) (wo m c)
abbrev DOut : Mat 1024 1024 := cols (n := 1024) (p := 1024) (q := 4096) (Merged m c) (t m c)
abbrev DWa : S4x256x256.Idx → EReal := MergeW.slotsA (cols (n := 256) (p := 1024) (q := 4096) (attn m c) (DAd m c))
abbrev DWg : S4x512x512.Idx → EReal := MergeW.slotsG (cols (n := 512) (p := 2048) (q := 4096) (yg m c) (DZ m c))

/-! ### What the host lines before the first region leave -/

theorem W1_v0 : W1 m ρ c (Proc.devRef .tc main_v0) = wa m c := by
  unfold W1 hostOps0; after_results_simp; rfl
theorem W1_v1 : W1 m ρ c (Proc.devRef .tc main_v1) = wg m c := by
  unfold W1 hostOps0; after_results_simp; rfl
theorem W1_v2 : W1 m ρ c (Proc.devRef .tc main_v2) = wo m c := by
  unfold W1 hostOps0; after_results_simp; rfl
theorem W1_v3 : W1 m ρ c (Proc.devRef .tc main_v3) = t m c := by
  unfold W1 hostOps0; after_results_simp; rfl
theorem W2_v0 : W2 m ρ c (Proc.devRef .tc main_v0) = wa m c := (W2_of m ρ c main_v0 (by decide)).trans (W1_v0 m ρ c)
theorem W3_v0 : W3 m ρ c (Proc.devRef .tc main_v0) = wa m c := (W3_of m ρ c main_v0 (by decide)).trans (W2_v0 m ρ c)
theorem W2_v1 : W2 m ρ c (Proc.devRef .tc main_v1) = wg m c := (W2_of m ρ c main_v1 (by decide)).trans (W1_v1 m ρ c)
theorem W3_v1 : W3 m ρ c (Proc.devRef .tc main_v1) = wg m c := (W3_of m ρ c main_v1 (by decide)).trans (W2_v1 m ρ c)
theorem W2_v2 : W2 m ρ c (Proc.devRef .tc main_v2) = wo m c := (W2_of m ρ c main_v2 (by decide)).trans (W1_v2 m ρ c)
theorem W3_v2 : W3 m ρ c (Proc.devRef .tc main_v2) = wo m c := (W3_of m ρ c main_v2 (by decide)).trans (W2_v2 m ρ c)
theorem W2_v3 : W2 m ρ c (Proc.devRef .tc main_v3) = t m c := (W2_of m ρ c main_v3 (by decide)).trans (W1_v3 m ρ c)
theorem W3_v3 : W3 m ρ c (Proc.devRef .tc main_v3) = t m c := (W3_of m ρ c main_v3 (by decide)).trans (W2_v3 m ρ c)
theorem W1_gates : W1 m ρ c (Proc.devRef .tc main_arg0) = gates m c := W1_args m ρ c main_arg0 (by decide)
theorem W1_attn : W1 m ρ c (Proc.devRef .tc main_arg1) = attn m c := W1_args m ρ c main_arg1 (by decide)
theorem W1_yg : W1 m ρ c (Proc.devRef .tc main_arg2) = yg m c := W1_args m ρ c main_arg2 (by decide)
theorem W1_x : W1 m ρ c (Proc.devRef .tc main_arg6) = x m c := W1_args m ρ c main_arg6 (by decide)
theorem W1_gain : W1 m ρ c (Proc.devRef .tc main_arg7) = gain m c := W1_args m ρ c main_arg7 (by decide)
theorem W3_gates : W3 m ρ c (Proc.devRef .tc main_arg0) = gates m c := W3_args m ρ c main_arg0 (by decide)
theorem W3_attn : W3 m ρ c (Proc.devRef .tc main_arg1) = attn m c := W3_args m ρ c main_arg1 (by decide)
theorem W3_yg : W3 m ρ c (Proc.devRef .tc main_arg2) = yg m c := W3_args m ρ c main_arg2 (by decide)
theorem W4_attn : W4 m ρ c (Proc.devRef .tc main_arg1) = attn m c := W4_args m ρ c main_arg1 (by decide)
theorem W5_yg : W5 m ρ c (Proc.devRef .tc main_arg2) = yg m c := W5_args m ρ c main_arg2 (by decide)

/-! ### What each region leaves -/

theorem W2_merged : W2 m ρ c (Proc.devRef .tc main_v4_0) = Merged m c := by
  refine (W2_arr m ρ c 9).trans ((MergeFwd.arr0_9 _ c).trans ?_)
  show merged (n := 4096) (left (n := 4096) (W1 m ρ c (Proc.devRef .tc main_arg0))) (right (n := 4096) (W1 m ρ c (Proc.devRef .tc main_arg0))) (W1 m ρ c (Proc.devRef .tc main_arg1)) (W1 m ρ c (Proc.devRef .tc main_arg2)) (W1 m ρ c (Proc.devRef .tc main_v0)) (W1 m ρ c (Proc.devRef .tc main_v1)) = _
  rw [W1_gates, W1_attn, W1_yg, W1_v0, W1_v1]
theorem W2_x1 : W2 m ρ c (Proc.devRef .tc main_v4_1) = X1 m c := by
  refine (W2_arr m ρ c 10).trans ((MergeFwd.arr0_10 _ c).trans ?_)
  show resid (n := 4096) (left (n := 4096) (W1 m ρ c (Proc.devRef .tc main_arg0))) (right (n := 4096) (W1 m ρ c (Proc.devRef .tc main_arg0))) (W1 m ρ c (Proc.devRef .tc main_arg1)) (W1 m ρ c (Proc.devRef .tc main_arg2)) (W1 m ρ c (Proc.devRef .tc main_arg6)) (W1 m ρ c (Proc.devRef .tc main_v0)) (W1 m ρ c (Proc.devRef .tc main_v1)) (W1 m ρ c (Proc.devRef .tc main_v2)) = _
  rw [W1_gates, W1_attn, W1_yg, W1_v0, W1_v1, W1_x, W1_v2]
theorem W2_h2 : W2 m ρ c (Proc.devRef .tc main_v4_2) = H2 m c := by
  refine (W2_arr m ρ c 11).trans ((MergeFwd.arr0_11 _ c).trans ?_)
  show normed (n := 4096) (d := 1024) (resid (n := 4096) (left (n := 4096) (W1 m ρ c (Proc.devRef .tc main_arg0))) (right (n := 4096) (W1 m ρ c (Proc.devRef .tc main_arg0))) (W1 m ρ c (Proc.devRef .tc main_arg1)) (W1 m ρ c (Proc.devRef .tc main_arg2)) (W1 m ρ c (Proc.devRef .tc main_arg6)) (W1 m ρ c (Proc.devRef .tc main_v0)) (W1 m ρ c (Proc.devRef .tc main_v1)) (W1 m ρ c (Proc.devRef .tc main_v2))) (W1 m ρ c (Proc.devRef .tc main_arg7)) = _
  rw [W1_gates, W1_attn, W1_yg, W1_v0, W1_v1, W1_x, W1_v2, W1_gain]
theorem W3_dout : W3 m ρ c (Proc.devRef .tc main_v5) = DOut m c := by
  refine (W3_arr m ρ c 2).trans ((MergeW.arr1 _ c).trans ?_)
  show cols (n := 1024) (p := 1024) (q := 4096) (W2 m ρ c (Proc.devRef .tc main_v4_0)) (W2 m ρ c (Proc.devRef .tc main_v3)) = _
  rw [W2_merged, W2_v3]
theorem W4_dgates : W4 m ρ c (Proc.devRef .tc main_v6_0) = DGates m c := by
  refine (W4_arr m ρ c 8).trans ((MergeBwd.arr2_8 _ c).trans ?_)
  show dgates (n := 4096) (left (n := 4096) (W3 m ρ c (Proc.devRef .tc main_arg0))) (right (n := 4096) (W3 m ρ c (Proc.devRef .tc main_arg0))) (W3 m ρ c (Proc.devRef .tc main_arg1)) (W3 m ρ c (Proc.devRef .tc main_arg2)) (W3 m ρ c (Proc.devRef .tc main_v3)) (W3 m ρ c (Proc.devRef .tc main_v0)) (W3 m ρ c (Proc.devRef .tc main_v1)) (W3 m ρ c (Proc.devRef .tc main_v2)) = _
  rw [W3_gates, W3_attn, W3_yg, W3_v3, W3_v0, W3_v1, W3_v2]
theorem W4_dad : W4 m ρ c (Proc.devRef .tc main_v6_1) = DAd m c := by
  refine (W4_arr m ρ c 9).trans ((MergeBwd.arr2_9 _ c).trans ?_)
  show dad (n := 4096) (left (n := 4096) (W3 m ρ c (Proc.devRef .tc main_arg0))) (W3 m ρ c (Proc.devRef .tc main_v3)) (W3 m ρ c (Proc.devRef .tc main_v2)) = _
  rw [W3_gates, W3_v3, W3_v2]
theorem W4_dz : W4 m ρ c (Proc.devRef .tc main_v6_2) = DZ m c := by
  refine (W4_arr m ρ c 10).trans ((MergeBwd.arr2_10 _ c).trans ?_)
  show dz (n := 4096) (right (n := 4096) (W3 m ρ c (Proc.devRef .tc main_arg0))) (W3 m ρ c (Proc.devRef .tc main_arg2)) (W3 m ρ c (Proc.devRef .tc main_v3)) (W3 m ρ c (Proc.devRef .tc main_v1)) (W3 m ρ c (Proc.devRef .tc main_v2)) = _
  rw [W3_gates, W3_yg, W3_v3, W3_v1, W3_v2]
theorem W4_dattn : W4 m ρ c (Proc.devRef .tc main_v6_3) = DAttn m c := by
  refine (W4_arr m ρ c 11).trans ((MergeBwd.arr2_11 _ c).trans ?_)
  show dattn (n := 4096) (left (n := 4096) (W3 m ρ c (Proc.devRef .tc main_arg0))) (W3 m ρ c (Proc.devRef .tc main_v3)) (W3 m ρ c (Proc.devRef .tc main_v0)) (W3 m ρ c (Proc.devRef .tc main_v2)) = _
  rw [W3_gates, W3_v3, W3_v0, W3_v2]
theorem W4_dyg : W4 m ρ c (Proc.devRef .tc main_v6_4) = DYg m c := by
  refine (W4_arr m ρ c 12).trans ((MergeBwd.arr2_12 _ c).trans ?_)
  show dyg (n := 4096) (right (n := 4096) (W3 m ρ c (Proc.devRef .tc main_arg0))) (W3 m ρ c (Proc.devRef .tc main_arg2)) (W3 m ρ c (Proc.devRef .tc main_v3)) (W3 m ρ c (Proc.devRef .tc main_v1)) (W3 m ρ c (Proc.devRef .tc main_v2)) = _
  rw [W3_gates, W3_yg, W3_v3, W3_v1, W3_v2]
theorem W5_dz : W5 m ρ c (Proc.devRef .tc main_v6_2) = DZ m c := (W5_of m ρ c main_v6_2 (by decide)).trans (W4_dz m ρ c)
theorem W5_dwa : W5 m ρ c (Proc.devRef .tc main_v7) = DWa m c := by
  refine (W5_arr m ρ c 2).trans ((MergeW.arr3 _ c).trans ?_)
  show MergeW.slotsA (cols (n := 256) (p := 1024) (q := 4096) (W4 m ρ c (Proc.devRef .tc main_arg1)) (W4 m ρ c (Proc.devRef .tc main_v6_1))) = _
  rw [W4_attn, W4_dad]
theorem W6_dwg : W6 m ρ c (Proc.devRef .tc main_v8) = DWg m c := by
  refine (W6_arr m ρ c 2).trans ((MergeW.arr4 _ c).trans ?_)
  show MergeW.slotsG (cols (n := 512) (p := 2048) (q := 4096) (W5 m ρ c (Proc.devRef .tc main_arg2)) (W5 m ρ c (Proc.devRef .tc main_v6_2))) = _
  rw [W5_yg, W5_dz]

/-! ### At the end -/

theorem W6_x1 : W6 m ρ c (Proc.devRef .tc main_v4_1) = X1 m c :=
  (W6_of m ρ c main_v4_1 (by decide)).trans ((W5_of m ρ c main_v4_1 (by decide)).trans ((W4_of m ρ c main_v4_1 (by decide)).trans ((W3_of m ρ c main_v4_1 (by decide)).trans (W2_x1 m ρ c))))
theorem W6_h2 : W6 m ρ c (Proc.devRef .tc main_v4_2) = H2 m c :=
  (W6_of m ρ c main_v4_2 (by decide)).trans ((W5_of m ρ c main_v4_2 (by decide)).trans ((W4_of m ρ c main_v4_2 (by decide)).trans ((W3_of m ρ c main_v4_2 (by decide)).trans (W2_h2 m ρ c))))
theorem W6_dout : W6 m ρ c (Proc.devRef .tc main_v5) = DOut m c :=
  (W6_of m ρ c main_v5 (by decide)).trans ((W5_of m ρ c main_v5 (by decide)).trans ((W4_of m ρ c main_v5 (by decide)).trans (W3_dout m ρ c)))
theorem W6_dgates : W6 m ρ c (Proc.devRef .tc main_v6_0) = DGates m c :=
  (W6_of m ρ c main_v6_0 (by decide)).trans ((W5_of m ρ c main_v6_0 (by decide)).trans (W4_dgates m ρ c))
theorem W6_dattn : W6 m ρ c (Proc.devRef .tc main_v6_3) = DAttn m c :=
  (W6_of m ρ c main_v6_3 (by decide)).trans ((W5_of m ρ c main_v6_3 (by decide)).trans (W4_dattn m ρ c))
theorem W6_dyg : W6 m ρ c (Proc.devRef .tc main_v6_4) = DYg m c :=
  (W6_of m ρ c main_v6_4 (by decide)).trans ((W5_of m ρ c main_v6_4 (by decide)).trans (W4_dyg m ρ c))
theorem W6_dwa : W6 m ρ c (Proc.devRef .tc main_v7) = DWa m c :=
  (W6_of m ρ c main_v7 (by decide)).trans (W5_dwa m ρ c)

omit c in
/-- The merge's run: its eight results, of the arguments it was launched with, and the arguments kept. -/
theorem results : θ_run defs (onTc (τ := τ) (main (F := Ideal))) ⟨m, fun _ => 0, ρ⟩ (fun r => ∀ c : Dev nD,
      r.2.mem ((c : Thread nD τ).loc main_v4_1) = X1 m c
      ∧ r.2.mem ((c : Thread nD τ).loc main_v4_2) = H2 m c
      ∧ r.2.mem ((c : Thread nD τ).loc main_v6_0) = DGates m c
      ∧ r.2.mem ((c : Thread nD τ).loc main_v6_3) = DAttn m c
      ∧ r.2.mem ((c : Thread nD τ).loc main_v6_4) = DYg m c
      ∧ r.2.mem ((c : Thread nD τ).loc main_v5) = DOut m c
      ∧ r.2.mem ((c : Thread nD τ).loc main_v7) = DWa m c
      ∧ r.2.mem ((c : Thread nD τ).loc main_v8) = DWg m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)) :=
  (θ_run defs _ _).mono (fun _ h c =>
    ⟨(h c _ (mem_uc main_v4_1 (by decide))).trans (W6_x1 m ρ c),
     (h c _ (mem_uc main_v4_2 (by decide))).trans (W6_h2 m ρ c),
     (h c _ (mem_uc main_v6_0 (by decide))).trans (W6_dgates m ρ c),
     (h c _ (mem_uc main_v6_3 (by decide))).trans (W6_dattn m ρ c),
     (h c _ (mem_uc main_v6_4 (by decide))).trans (W6_dyg m ρ c),
     (h c _ (mem_uc main_v5 (by decide))).trans (W6_dout m ρ c),
     (h c _ (mem_uc main_v7 (by decide))).trans (W6_dwa m ρ c),
     (h c _ (mem_uc main_v8 (by decide))).trans (W6_dwg m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c)⟩) (run_all m ρ)

end Results

end Cert.Proof.MergeRun

end
-- ==== Proof.MergeRef.lean ====
/-
  The merge's reference: its eight results, and the agreement with the pipelined calls.
-/
module

public import proofs.«01_k».proof.Defs
public import proofs.«01_k».proof.Proof.MergeHost
public import proofs.«01_k».proof.Proof.MergeRun
public import Idealize.ShloMosaic.Lib.Quiescent

@[expose] public section

set_option maxRecDepth 16384

noncomputable section

namespace Cert.Proof.MergeRef

open Idealize.ShloMosaic.TcCoe Idealize.SL.Sem Idealize.ShloMosaic.Ideal
open Idealize.ShloMosaic hiding ix1 ix2 ix3 eq_ix1 eq_ix2
open Idealize.ShloMosaic.ValueIdx
open Cert.Proof.Products Cert.Proof.Spec Cert.Proof.Rows Cert.Proof.Rms Cert.Proof.HostRms Cert.Proof.MergeSpec Cert.Proof.MergeParts
open Cert.Proof.MergeHost

section Reference

open Cert.MergeRefIdeal Cert.MergeRefIdeal.Gen

variable (m : (ℓ : Loc nD τ sig) → Buf (Elt Ideal) ℓ) (ρ : Dev nD → PrngReg) (c : Dev nD)

abbrev gates : Mat 4096 2048 := m ((c : Thread nD τ).loc main_arg0)
abbrev attn : Mat 4096 256 := m ((c : Thread nD τ).loc main_arg1)
abbrev yg : Mat 4096 512 := m ((c : Thread nD τ).loc main_arg2)
abbrev wa : Mat 256 1024 := m ((c : Thread nD τ).loc main_arg3)
abbrev wg : Mat 512 2048 := m ((c : Thread nD τ).loc main_arg4)
abbrev wo : Mat 1024 1024 := m ((c : Thread nD τ).loc main_arg5)
abbrev x : Mat 4096 1024 := m ((c : Thread nD τ).loc main_arg6)
abbrev gain : Mat 1 1024 := m ((c : Thread nD τ).loc main_arg7)
abbrev t : Mat 4096 1024 := m ((c : Thread nD τ).loc main_arg8)

abbrev X1 : Mat 4096 1024 := resid (left (n := 4096) (gates m c)) (right (n := 4096) (gates m c)) (attn m c) (yg m c) (x m c) (wa m c) (wg m c) (wo m c)
abbrev H2 : Mat 4096 1024 := normed (X1 m c) (gain m c)
abbrev DGates : Mat 4096 2048 := dgates (left (n := 4096) (gates m c)) (right (n := 4096) (gates m c)) (attn m c) (yg m c) (t m c) (wa m c) (wg m c) (wo m c)
abbrev DAttn : Mat 4096 256 := dattn (left (n := 4096) (gates m c)) (t m c) (wa m c) (wo m c)
abbrev DYg : Mat 4096 512 := dyg (right (n := 4096) (gates m c)) (yg m c) (t m c) (wg m c) (wo m c)
abbrev DOut : Mat 1024 1024 := cols (n := 1024) (p := 1024) (q := 4096)
  (merged (left (n := 4096) (gates m c)) (right (n := 4096) (gates m c)) (attn m c) (yg m c) (wa m c) (wg m c)) (t m c)
abbrev DWa : S4x256x256.Idx → EReal := MergeW.slotsA (cols (n := 256) (p := 1024) (q := 4096) (attn m c)
  (dad (left (n := 4096) (gates m c)) (t m c) (wo m c)))
abbrev DWg : S4x512x512.Idx → EReal := MergeW.slotsG (cols (n := 512) (p := 2048) (q := 4096) (yg m c)
  (dz (right (n := 4096) (gates m c)) (yg m c) (t m c) (wg m c) (wo m c)))

theorem ref_h2 : Value.res_main_v73 m c = H2 m c := by
  unfold Value.res_main_v73
  show truncf .bf16 (mulf (mulf (hx1 (gates m c) (attn m c) (yg m c) (wa m c) (wg m c) (wo m c) (x m c))
      (hinv (hx1 (gates m c) (attn m c) (yg m c) (wa m c) (wg m c) (wo m c) (x m c))))
    (broadcastInDim S4096x1024 ![0, 1] bcast_S1x1024_S4096x1024_0_1 (gain m c))) bitsLt_bf16_f32 = _
  rw [hx1_eq, hinv_eq, host_along]; rfl

omit c in
theorem results : θ_run defs (onTc (τ := τ) (main (F := Ideal))) ⟨m, fun _ => 0, ρ⟩ (fun r => ∀ c : Dev nD,
      r.2.mem ((c : Thread nD τ).loc main_v41) = X1 m c
      ∧ r.2.mem ((c : Thread nD τ).loc main_v73) = H2 m c
      ∧ r.2.mem ((c : Thread nD τ).loc main_v75) = DGates m c
      ∧ r.2.mem ((c : Thread nD τ).loc main_v56) = DAttn m c
      ∧ r.2.mem ((c : Thread nD τ).loc main_v60) = DYg m c
      ∧ r.2.mem ((c : Thread nD τ).loc main_v43) = DOut m c
      ∧ r.2.mem ((c : Thread nD τ).loc main_v77) = DWa m c
      ∧ r.2.mem ((c : Thread nD τ).loc main_v79) = DWg m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)) := by
  refine (θ_run defs _ _).mono (fun _ h c => ?_) (Value.run (F := Ideal) m ρ)
  obtain ⟨h0, h1, h2, h3, h4, h5, h6, h7, hargs⟩ := h c
  refine ⟨h0.trans (hx1_eq (gates m c) (attn m c) (yg m c) (wa m c) (wg m c) (wo m c) (x m c)), h1.trans (ref_h2 m c),
    h2.trans (hdgates_eq (gates m c) (attn m c) (yg m c) (wa m c) (wg m c) (wo m c) (t m c)),
    h3.trans (hdattn_eq (gates m c) (wa m c) (wo m c) (t m c)),
    h4.trans (hdyg_eq (gates m c) (yg m c) (wg m c) (wo m c) (t m c)),
    h5.trans (hdout_eq (gates m c) (attn m c) (yg m c) (wa m c) (wg m c) (t m c)), h6.trans ?_, h7.trans ?_, hargs⟩
  · refine slots_a _ _ fun p k => ?_
    refine Eq.trans ?_ (cols_swap _ _ k p)
    exact congrFun ((dot_dwa (hdad (gates m c) (wo m c) (t m c)) (attn m c)).trans
      (congrArg (fun z => cols (n := 1024) (p := 256) (q := 4096) z (attn m c)) (hdad_eq (gates m c) (wo m c) (t m c)))) (ix2 k p)
  · refine slots_g _ _ fun p k => ?_
    refine Eq.trans ?_ (cols_swap _ _ k p)
    exact congrFun ((dot_dwg (hjoin (hdza (gates m c) (yg m c) (wg m c) (wo m c) (t m c)) (hdzb (gates m c) (yg m c) (wg m c) (wo m c) (t m c))) (yg m c)).trans
      (congrArg (fun z => cols (n := 2048) (p := 512) (q := 4096) z (yg m c)) (hdz_eq (gates m c) (yg m c) (wg m c) (wo m c) (t m c)))) (ix2 k p)

end Reference

/-- The reference terminates, keeps its arguments, and has no counter to leave. -/
theorem reference_frame : Cert.quiescent_MergeRefIdeal (hMergeRefIdeal := Cert.MergeRefIdeal.Gen.facts) :=
  fun m ρ _ => (θ_run Cert.MergeRefIdeal.defs _ _).mono
    (fun r h => ⟨fun c => (h c).2.2.2.2.2.2.2.2, sem_eq_zero_of_no_sems (by decide) r.2⟩)
    (Cert.MergeRefIdeal.Value.run (F := Ideal) m ρ)

theorem value : Cert.algebraic_MergeIdeal_MergeRefIdeal (hMergeIdeal := Cert.MergeIdeal.Gen.facts)
    (hMergeRefIdeal := Cert.MergeRefIdeal.Gen.facts) := by
  intro m g m' g' _ hargs
  refine ⟨_, _, _, _, _, _, _, _, MergeRun.results m g, (θ_run Cert.MergeRefIdeal.defs _ _).mono (fun r h c => ?_) (results m' g')⟩
  obtain ⟨e0, e1, e2, e3, e4, e5, e6, e7, e8⟩ := hargs c
  have hkeep := (h c).2.2.2.2.2.2.2.2
  have h := h c
  unfold X1 H2 DGates DAttn DYg DOut DWa DWg X1 gates attn yg wa wg wo x gain t at h
  rw [e0, e1, e2, e3, e4, e5, e6, e7, e8] at h
  obtain ⟨h0, h1, h2, h3, h4, h5, h6, h7, -⟩ := h
  exact ⟨h0, h1, h2, h3, h4, h5, h6, h7, hkeep⟩

end Cert.Proof.MergeRef

end
-- ==== Proof.MixRun.lean ====
/-
  The mixer's backward call: what its two output arrays hold when the pipeline is left. At point t the body takes rows
  512 t … 512 t + 511: the attention branch's part of the gradient and the two products of the other branches' gradients
  with the transposed weights, the derivative of the first normalisation, and the skip; the gain's gradient is summed over
  the points.
-/
module

public import proofs.«01_k».proof.Proof.Rms
public import proofs.«01_k».proof.Proof.Spec
public import proofs.«01_k».proof.Proof.Gen.MixIdeal.Value
public import Idealize.ShloMosaic.Lib.Pipeline.ValueKit

@[expose] public section

set_option maxRecDepth 16384

noncomputable section

namespace Cert.Proof.MixRun

open Cert.MixIdeal Cert.MixIdeal.Gen Idealize.ShloMosaic.TcCoe Idealize.SL.Sem
open Idealize.ShloMosaic hiding ix1 ix2 eq_ix1 eq_ix2
open Idealize.ShloMosaic.ValueIdx Idealize.ShloMosaic.Ideal Cert.Proof.Spec Cert.Proof.Rows Cert.Proof.Rms
open Idealize.ShloMosaic.Pipeline (Dat)

/-! ## What the body computes from its blocks -/

theorem dot_u (x : FVec Ideal S512x512 .bf16) (w : FVec Ideal S512x1024 .bf16) :
    FloatOps.matmul dot_S512x512_S512x1024_S512x1024_1_0_0_1_n_n none x w (constant S512x1024 .f32 0x00000000#32)
      = plain x w := by
  funext j
  rw [matmul_constant_zero_apply,
    ← Equiv.sum_comp (contrEquiv1 dot_S512x512_S512x1024_S512x1024_1_0_0_1_n_n 512 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

theorem dot_g (x : FVec Ideal S512x2048 .bf16) (w : FVec Ideal S2048x1024 .bf16) :
    FloatOps.matmul dot_S512x2048_S2048x1024_S512x1024_1_0_0_1_n_n none x w (constant S512x1024 .f32 0x00000000#32)
      = plain x w := by
  funext j
  rw [matmul_constant_zero_apply,
    ← Equiv.sum_comp (contrEquiv1 dot_S512x2048_S2048x1024_S512x1024_1_0_0_1_n_n 2048 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

/-- The gradient at the normalised rows: the attention branch's part, then the state-space and the gate branches'. -/
def up {n : Nat} (p : (⟨2, ![n, 1024]⟩ : Shape).Idx → EReal) (a : (⟨2, ![n, 512]⟩ : Shape).Idx → EReal)
    (b : (⟨2, ![n, 2048]⟩ : Shape).Idx → EReal) (wa : S512x1024.Idx → EReal) (wb : S2048x1024.Idx → EReal) :
    (⟨2, ![n, 1024]⟩ : Shape).Idx → EReal := fun i => (p i + plain a wa i) + plain b wb i

theorem pay_up (p : FVec Ideal S512x1024 .f32) (a : FVec Ideal S512x512 .bf16) (b : FVec Ideal S512x2048 .bf16)
    (wa : FVec Ideal S512x1024 .bf16) (wb : FVec Ideal S2048x1024 .bf16) :
    k0_pay3 (F := Ideal) p a wa b wb = up (n := 512) p a b wa wb := by
  unfold k0_pay3 up; rw [← dot_u, ← dot_g]; simp only [shapeCast_self]; rfl

theorem pay_msq (x : FVec Ideal S512x1024 .f32) : k0_pay4 (F := Ideal) x = fun i => msq (n := 512) (d := 1024) x (i 0) := by
  unfold k0_pay4; simp only []; rw [lane]; rfl

theorem pay_inv (x : FVec Ideal S512x1024 .f32) : k0_pay5 (F := Ideal) x = fun i => inv (n := 512) (d := 1024) x (i 0) := by
  unfold k0_pay5; rw [pay_msq]; rfl

theorem pay_gain (p : FVec Ideal S512x1024 .f32) (a : FVec Ideal S512x512 .bf16) (b : FVec Ideal S512x2048 .bf16)
    (wa : FVec Ideal S512x1024 .bf16) (wb : FVec Ideal S2048x1024 .bf16) (x : FVec Ideal S512x1024 .f32) :
    k0_pay6 (F := Ideal) p a wa b wb x
      = fun i => colSum (n := 512) (d := 1024) (dgain (n := 512) (d := 1024) x (up (n := 512) p a b wa wb)) (i 1) := by
  unfold k0_pay6; rw [pay_inv, pay_up]; simp only [across]; rw [down]; rfl

theorem pay_dx (p : FVec Ideal S512x1024 .f32) (a : FVec Ideal S512x512 .bf16) (b : FVec Ideal S512x2048 .bf16)
    (wa : FVec Ideal S512x1024 .bf16) (wb : FVec Ideal S2048x1024 .bf16) (x s : FVec Ideal S512x1024 .f32)
    (g : FVec Ideal S1x1024 .f32) :
    k0_pay1 (F := Ideal) x (k0_pay8 p a wa b wb x g) (k0_pay9 p a wa b wb x g) s
      = fun i => dx (n := 512) (d := 1024) x g (up (n := 512) p a b wa wb) i + s i := by
  unfold k0_pay1 k0_pay8 k0_pay9 k0_pay7; rw [pay_inv, pay_msq, pay_up]
  simp only [along]; rw [lane_one, lane]; simp only [across]; rfl

variable (m : (ℓ : Loc nD τ sig) → Buf (Elt Ideal) ℓ) (c : Dev nD)

/-! ## Where the blocks lie -/

theorem idx_rows : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_7.index t (0 : Fin 2) = t.val ∧ win0_7.index t (1 : Fin 2) = 0) :=
  (by decide +kernel : ∀ t : Fin grid0.N, _)
theorem idx_whole : ∀ t : Fin cfg0.N, (win0_2.index t (0 : Fin 2) = 0 ∧ win0_2.index t (1 : Fin 2) = 0)
    ∧ (win0_3.index t (0 : Fin 2) = 0 ∧ win0_3.index t (1 : Fin 2) = 0)
    ∧ (win0_6.index t (0 : Fin 2) = 0 ∧ win0_6.index t (1 : Fin 2) = 0) :=
  (by decide +kernel : ∀ t : Fin grid0.N, _)
theorem idx_out : ∀ t : Fin cfg0.N, (win0_8.index t (0 : Fin 2) = t.val ∧ win0_8.index t (1 : Fin 2) = 0)
    ∧ (win0_9.index t (0 : Fin 2) = 0 ∧ win0_9.index t (1 : Fin 2) = 0) :=
  (by decide +kernel : ∀ t : Fin grid0.N, _)

variable (t : Fin cfg0.N)

theorem blk_du (r : Fin 512) (k : Fin 512) (R : Fin 4096) (h : t.val * 512 + r.val = R.val) :
    iblk m c 0 t (ix2 r k) = V m c main_arg0 (ix2 R k) := by
  obtain ⟨⟨e0, e1⟩, -⟩ := idx_rows t
  refine congrArg (V m c main_arg0) (funext fun a => Fin.ext ?_)
  match a with
  | ⟨0, _⟩ => show win0_0.index t (0 : Fin 2) * 512 + 1 * r.val = R.val; omega
  | ⟨1, _⟩ => show win0_0.index t (1 : Fin 2) * 512 + 1 * k.val = k.val; omega
theorem blk_dgl (r : Fin 512) (k : Fin 2048) (R : Fin 4096) (h : t.val * 512 + r.val = R.val) :
    iblk m c 1 t (ix2 r k) = V m c main_arg1 (ix2 R k) := by
  obtain ⟨-, ⟨e0, e1⟩, -⟩ := idx_rows t
  refine congrArg (V m c main_arg1) (funext fun a => Fin.ext ?_)
  match a with
  | ⟨0, _⟩ => show win0_1.index t (0 : Fin 2) * 512 + 1 * r.val = R.val; omega
  | ⟨1, _⟩ => show win0_1.index t (1 : Fin 2) * 2048 + 1 * k.val = k.val; omega
theorem blk_part (r : Fin 512) (k : Fin 1024) (R : Fin 4096) (h : t.val * 512 + r.val = R.val) :
    iblk m c 4 t (ix2 r k) = V m c main_arg4 (ix2 R k) := by
  obtain ⟨-, -, ⟨e0, e1⟩, -⟩ := idx_rows t
  refine congrArg (V m c main_arg4) (funext fun a => Fin.ext ?_)
  match a with
  | ⟨0, _⟩ => show win0_4.index t (0 : Fin 2) * 512 + 1 * r.val = R.val; omega
  | ⟨1, _⟩ => show win0_4.index t (1 : Fin 2) * 1024 + 1 * k.val = k.val; omega
theorem blk_x (r : Fin 512) (k : Fin 1024) (R : Fin 4096) (h : t.val * 512 + r.val = R.val) :
    iblk m c 5 t (ix2 r k) = V m c main_arg5 (ix2 R k) := by
  obtain ⟨-, -, -, ⟨e0, e1⟩, -⟩ := idx_rows t
  refine congrArg (V m c main_arg5) (funext fun a => Fin.ext ?_)
  match a with
  | ⟨0, _⟩ => show win0_5.index t (0 : Fin 2) * 512 + 1 * r.val = R.val; omega
  | ⟨1, _⟩ => show win0_5.index t (1 : Fin 2) * 1024 + 1 * k.val = k.val; omega
theorem blk_skip (r : Fin 512) (k : Fin 1024) (R : Fin 4096) (h : t.val * 512 + r.val = R.val) :
    iblk m c 7 t (ix2 r k) = V m c main_arg7 (ix2 R k) := by
  obtain ⟨-, -, -, -, ⟨e0, e1⟩⟩ := idx_rows t
  refine congrArg (V m c main_arg7) (funext fun a => Fin.ext ?_)
  match a with
  | ⟨0, _⟩ => show win0_7.index t (0 : Fin 2) * 512 + 1 * r.val = R.val; omega
  | ⟨1, _⟩ => show win0_7.index t (1 : Fin 2) * 1024 + 1 * k.val = k.val; omega
theorem blk_wu : iblk m c 2 t = V m c main_v1 := by
  obtain ⟨⟨e0, e1⟩, -⟩ := idx_whole t
  refine funext fun i => congrArg (V m c main_v1) (funext fun a => Fin.ext ?_)
  match a with
  | ⟨0, _⟩ => show win0_2.index t (0 : Fin 2) * 512 + 1 * (i 0).val = (i 0).val; omega
  | ⟨1, _⟩ => show win0_2.index t (1 : Fin 2) * 1024 + 1 * (i 1).val = (i 1).val; omega
theorem blk_wg : iblk m c 3 t = V m c main_v3 := by
  obtain ⟨-, ⟨e0, e1⟩, -⟩ := idx_whole t
  refine funext fun i => congrArg (V m c main_v3) (funext fun a => Fin.ext ?_)
  match a with
  | ⟨0, _⟩ => show win0_3.index t (0 : Fin 2) * 2048 + 1 * (i 0).val = (i 0).val; omega
  | ⟨1, _⟩ => show win0_3.index t (1 : Fin 2) * 1024 + 1 * (i 1).val = (i 1).val; omega
theorem blk_g : iblk m c 6 t = V m c main_arg6 := by
  obtain ⟨-, -, ⟨e0, e1⟩⟩ := idx_whole t
  refine funext fun i => congrArg (V m c main_arg6) (funext fun a => Fin.ext ?_)
  match a with
  | ⟨0, _⟩ => show win0_6.index t (0 : Fin 2) * 1 + 1 * (i 0).val = (i 0).val; omega
  | ⟨1, _⟩ => show win0_6.index t (1 : Fin 2) * 1024 + 1 * (i 1).val = (i 1).val; omega

/-! ## The two arrays, of the arrays the pipeline finds -/

/-- The gradient at the normalised rows. -/
abbrev H : S4096x1024.Idx → EReal :=
  up (n := 4096) (V m c main_arg4) (V m c main_arg0) (V m c main_arg1) (V m c main_v1) (V m c main_v3)
/-- The gradient at the rows, with the skip's. -/
abbrev DX : S4096x1024.Idx → EReal := fun i =>
  dx (n := 4096) (d := 1024) (V m c main_arg5) (V m c main_arg6) (H m c) i + V m c main_arg7 i
/-- The gain's gradient. -/
abbrev DG : S1x1024.Idx → EReal := fun i =>
  colSum (n := 4096) (d := 1024) (dgain (n := 4096) (d := 1024) (V m c main_arg5) (H m c)) (i 1)

theorem up_blk (r : Fin 512) (k : Fin 1024) (R : Fin 4096) (h : t.val * 512 + r.val = R.val) :
    up (n := 512) (iblk m c 4 t) (iblk m c 0 t) (iblk m c 1 t) (iblk m c 2 t) (iblk m c 3 t) (ix2 r k) = H m c (ix2 R k) := by
  rw [blk_wg, blk_wu]
  exact congrArg₂ (· + ·) (congrArg₂ (· + ·) (blk_part m c t r k R h)
    (Finset.sum_congr rfl fun q _ => congrArg (· * _) (blk_du m c t r q R h)))
    (Finset.sum_congr rfl fun q _ => congrArg (· * _) (blk_dgl m c t r q R h))

theorem dx_blk (j : S512x1024.Idx) (i : S4096x1024.Idx) (h0 : t.val * 512 + (j 0).val = (i 0).val) (h1 : (j 1).val = (i 1).val) :
    dx (n := 512) (d := 1024) (iblk m c 5 t) (iblk m c 6 t)
        (up (n := 512) (iblk m c 4 t) (iblk m c 0 t) (iblk m c 1 t) (iblk m c 2 t) (iblk m c 3 t)) j + iblk m c 7 t j = DX m c i := by
  have e : (j 1) = (i 1) := Fin.ext h1
  rw [eq_ix2 j, eq_ix2 i, blk_g, ← e]
  exact congrArg₂ (· + ·) (dx_congr (fun k => blk_x m c t _ k _ h0) (fun _ => rfl) (fun k => up_blk m c t _ k _ h0) (j 1))
    (blk_skip m c t _ _ _ h0)

/-- What point `t` leaves in the first block. -/
theorem outs_dx : (outsAt0 m c t.val t.isLt).1 = fun j : S512x1024.Idx =>
    dx (n := 512) (d := 1024) (iblk m c 5 t) (iblk m c 6 t)
        (up (n := 512) (iblk m c 4 t) (iblk m c 0 t) (iblk m c 1 t) (iblk m c 2 t) (iblk m c 3 t)) j + iblk m c 7 t j := by
  by_cases h : t.val % 8 = 0
  · by_cases h1 : 1 ≤ t.val
    · have := t.isLt; have e : cfg0.N = 8 := N_0; omega
    · rw [outsAt0_A m c t h h1]; frame_out; rw [pay_dx]
  · rw [outsAt0_B m c t h (by omega)]; frame_out; rw [pay_dx]

/-- Where an output block's element lies in its array. -/
theorem emb8 (j : S512x1024.Idx) (a : Fin 2) :
    (((cfg0.win 8).blk t).view.emb j a).val = (![t.val * 512 + (j 0).val, (j 1).val] : Fin 2 → Nat) a := by
  obtain ⟨⟨e0, e1⟩, -⟩ := idx_out t
  match a with
  | ⟨0, _⟩ => show win0_8.index t (0 : Fin 2) * 512 + 1 * (j 0).val = t.val * 512 + (j 0).val; omega
  | ⟨1, _⟩ => show win0_8.index t (1 : Fin 2) * 1024 + 1 * (j 1).val = (j 1).val; omega

/-- Every index of the array is in the block of some point. -/
theorem point_of (i : S4096x1024.Idx) : ∃ (t : Fin cfg0.N) (j : S512x1024.Idx),
    t.val * 512 + (j 0).val = (i 0).val ∧ (j 1).val = (i 1).val := by
  have h0 : (i 0).val < 4096 := (i 0).isLt
  have h1 : (i 1).val < 1024 := (i 1).isLt
  refine ⟨⟨(i 0).val / 512, by rw [show cfg0.N = 8 from N_0]; omega⟩, ix2 ⟨(i 0).val % 512, by omega⟩ ⟨(i 1).val, h1⟩, ?_, rfl⟩
  show (i 0).val / 512 * 512 + (i 0).val % 512 = _; omega

theorem arr_dx : (dats m 0 c).arrAt 8 cfg0.N = DX m c :=
  (dats m 0 c).arrAt_eq_of_cover 8 (DX m c) (fun t _ => by
    show (cfg0.win 8).cut (grid0.coords t) ((dats m 0 c).after 8 t) = _
    rw [after0_8, outs_dx]
    funext j
    exact dx_blk m c t j _ (emb8 t j 0).symm (emb8 t j 1).symm)
  fun i => by
    obtain ⟨t, j, e0, e1⟩ := point_of i
    refine ⟨t, flush0_8 t, ?_⟩
    have h := ((cfg0.win 8).blk t).view.emb_mem_set j
    rwa [show ((cfg0.win 8).blk t).view.emb j = i from funext fun a => Fin.ext (by
      match a with | ⟨0, _⟩ => exact (emb8 t j 0).trans e0 | ⟨1, _⟩ => exact (emb8 t j 1).trans e1)] at h

/-! ## The gain's gradient, summed over the points -/

/-- What point `t` adds. -/
abbrev term (t : Fin cfg0.N) : S1x1024.Idx → EReal := fun i => colSum (n := 512) (d := 1024)
  (dgain (n := 512) (d := 1024) (iblk m c 5 t)
    (up (n := 512) (iblk m c 4 t) (iblk m c 0 t) (iblk m c 1 t) (iblk m c 2 t) (iblk m c 3 t))) (i 1)

theorem outs_dg_first (h : t.val % 8 = 0) (i : S1x1024.Idx) :
    (outsAt0 m c t.val t.isLt).2 i = 0 + term m c t i := by
  have := t.isLt; have e : cfg0.N = 8 := N_0
  rw [outsAt0_A m c t h (by omega), zero_add]; frame_out; rw [pay_gain]
theorem outs_dg_next (h : ¬t.val % 8 = 0) (i : S1x1024.Idx) :
    (outsAt0 m c t.val t.isLt).2 i
      = (outsAt0 m c (t.val - 1) (Nat.lt_of_le_of_lt (Nat.sub_le _ _) t.isLt)).2 i + term m c t i := by
  rw [outsAt0_B m c t h (by omega)]; frame_out; unfold k0_pay2; rw [pay_gain, shapeCast_self]; rfl

/-- The last grid point. -/
abbrev tLast : Fin cfg0.N := ⟨7, by rw [show cfg0.N = 8 from N_0]; omega⟩

theorem outs_dg (i : S1x1024.Idx) : (outsAt0 m c tLast.val tLast.isLt).2 i = DG m c i := by
  rw [Pipeline.eq_sum_fin_of_reset_step_apply_last (fun n h => (outsAt0 m c n h).2) 8 (fun _ => 0) (term m c)
    (outs_dg_first m c) (outs_dg_next m c) (le_of_eq N_0) tLast N_0.symm i, zero_add]
  refine Fin.sum_mul_add_congr fun t k hl => ?_
  exact dgain_congr (fun q => blk_x m c t _ q ⟨_, hl⟩ rfl) (fun q => up_blk m c t _ q ⟨_, hl⟩ rfl) (i 1)

theorem arr_dg : (dats m 0 c).arrAt 9 cfg0.N = DG m c :=
  (dats m 0 c).arrAt_eq_of_cover 9 (DG m c) (fun t ht => by
    have e : t = tLast := by
      have h := (flush0_9 t).mp ht; have := t.isLt; have e : cfg0.N = 8 := N_0
      exact Fin.ext (by show t.val = 7; omega)
    subst e
    show (cfg0.win 9).cut (grid0.coords tLast) ((dats m 0 c).after 9 tLast) = _
    rw [after0_9]
    funext j
    refine (outs_dg m c j).trans (congrArg (DG m c) (funext fun a => Fin.ext ?_))
    obtain ⟨-, ⟨e0, e1⟩⟩ := idx_out tLast
    match a with
    | ⟨0, _⟩ => show (j 0).val = win0_9.index tLast (0 : Fin 2) * 1 + 1 * (j 0).val; omega
    | ⟨1, _⟩ => show (j 1).val = win0_9.index tLast (1 : Fin 2) * 1024 + 1 * (j 1).val; omega)
  fun i => by
    refine ⟨tLast, (flush0_9 tLast).mpr rfl, ?_⟩
    have h := ((cfg0.win 9).blk tLast).view.emb_mem_set i
    obtain ⟨-, ⟨e0, e1⟩⟩ := idx_out tLast
    rwa [show ((cfg0.win 9).blk tLast).view.emb i = i from funext fun a => Fin.ext (by
      match a with
      | ⟨0, _⟩ => show win0_9.index tLast (0 : Fin 2) * 1 + 1 * (i 0).val = (i 0).val; omega
      | ⟨1, _⟩ => show win0_9.index tLast (1 : Fin 2) * 1024 + 1 * (i 1).val = (i 1).val; omega)] at h

end Cert.Proof.MixRun

end
-- ==== Proof.MixRef.lean ====
/-
  The reference of the mixer's backward call: its two results, and the agreement with the pipelined call.
-/
module

public import proofs.«01_k».proof.Defs
public import proofs.«01_k».proof.Proof.HostRms
public import proofs.«01_k».proof.Proof.MixRun
public import proofs.«01_k».proof.Proof.Gen.MixRefIdeal.Run
public import Idealize.ShloMosaic.Lib.Quiescent

@[expose] public section

set_option maxRecDepth 16384

noncomputable section

namespace Cert.Proof.MixRef

open Idealize.ShloMosaic.TcCoe Idealize.SL.Sem Idealize.ShloMosaic.Ideal
open Idealize.ShloMosaic hiding ix1 ix2 eq_ix1 eq_ix2
open Idealize.ShloMosaic.ValueIdx
open Cert.Proof.Products Cert.Proof.Spec Cert.Proof.Rows Cert.Proof.Rms Cert.Proof.HostRms

section Reference

open Cert.MixRefIdeal Cert.MixRefIdeal.Gen

theorem dot_u (x : FVec Ideal S4096x512 .f32) (w : FVec Ideal S1024x512 .f32) :
    Host.dotGeneral (F := Ideal) dot_S4096x512_S1024x512_S4096x1024_1_1_0_0_n_n none x w = rows x w := by
  funext j
  simp only [Host.dotGeneral]
  rw [dotGeneral_apply,
    ← Equiv.sum_comp (contrEquiv1 dot_S4096x512_S1024x512_S4096x1024_1_1_0_0_n_n 512 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

theorem dot_g (x : FVec Ideal S4096x2048 .f32) (w : FVec Ideal S1024x2048 .f32) :
    Host.dotGeneral (F := Ideal) dot_S4096x2048_S1024x2048_S4096x1024_1_1_0_0_n_n none x w = rows x w := by
  funext j
  simp only [Host.dotGeneral]
  rw [dotGeneral_apply,
    ← Equiv.sum_comp (contrEquiv1 dot_S4096x2048_S1024x2048_S4096x1024_1_1_0_0_n_n 2048 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

/-- The gradient at the normalised rows, as the chain rule writes it: the gate branch before the state-space one. -/
def upRef (p : S4096x1024.Idx → EReal) (a : S4096x512.Idx → EReal) (b : S4096x2048.Idx → EReal)
    (wa : S1024x512.Idx → EReal) (wb : S1024x2048.Idx → EReal) : S4096x1024.Idx → EReal := fun i =>
  (p i + rows (n := 4096) (p := 1024) (q := 2048) b wb i) + rows (n := 4096) (p := 1024) (q := 512) a wa i

variable (m : (ℓ : Loc nD τ sig) → Buf (Elt Ideal) ℓ) (ρ : Dev nD → PrngReg)

abbrev HR (c : Dev nD) : S4096x1024.Idx → EReal := upRef (m ((c : Thread nD τ).loc main_arg4)) (m ((c : Thread nD τ).loc main_arg0))
  (m ((c : Thread nD τ).loc main_arg1)) (m ((c : Thread nD τ).loc main_arg2)) (m ((c : Thread nD τ).loc main_arg3))

theorem ref_dx (c : Dev nD) : Value.res_main_v42 m c = (fun i => dx (n := 4096) (d := 1024)
        (m ((c : Thread nD τ).loc main_arg5)) (m ((c : Thread nD τ).loc main_arg6)) (HR m c) i + m ((c : Thread nD τ).loc main_arg7) i) := by
  unfold Value.res_main_v42
  rw [dot_u, dot_g]
  show addf (hgrad (m ((c : Thread nD τ).loc main_arg5)) (HR m c) (m ((c : Thread nD τ).loc main_arg6)))
    (m ((c : Thread nD τ).loc main_arg7)) = _
  rw [hgrad_eq]; rfl

theorem results : θ_run defs (onTc (τ := τ) (main (F := Ideal))) ⟨m, fun _ => 0, ρ⟩ (fun r => ∀ c : Dev nD,
      r.2.mem ((c : Thread nD τ).loc main_v42) = (fun i => dx (n := 4096) (d := 1024)
        (m ((c : Thread nD τ).loc main_arg5)) (m ((c : Thread nD τ).loc main_arg6)) (HR m c) i + m ((c : Thread nD τ).loc main_arg7) i)
      ∧ r.2.mem ((c : Thread nD τ).loc main_v25) = (fun i => colSum (n := 4096) (d := 1024)
        (dgain (n := 4096) (d := 1024) (m ((c : Thread nD τ).loc main_arg5)) (HR m c)) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) := by
  refine (θ_run defs _ _).mono (fun _ h c => ?_) (Value.run (F := Ideal) m ρ)
  obtain ⟨h0, h1, hargs⟩ := h c
  refine ⟨h0.trans (ref_dx m c), h1.trans ?_, hargs⟩
  rw [dot_u, dot_g]
  exact hgain_eq (m ((c : Thread nD τ).loc main_arg5)) (HR m c)

end Reference

/-- The reference terminates, keeps its arguments, and has no counter to leave. -/
theorem reference_frame : Cert.quiescent_MixRefIdeal (hMixRefIdeal := Cert.MixRefIdeal.Gen.facts) :=
  fun m ρ _ => (θ_run Cert.MixRefIdeal.defs _ _).mono
    (fun r h => ⟨fun c => (h c).2.2, sem_eq_zero_of_no_sems (by decide) r.2⟩)
    (Cert.MixRefIdeal.Value.run (F := Ideal) m ρ)

section Kernel

open Cert.MixIdeal Cert.MixIdeal.Gen Cert.Proof.MixRun

variable (m : (ℓ : Loc nD τ sig) → Buf (Elt Ideal) ℓ) (c : Dev nD)

theorem V_wu : V m c main_v1 = truncf (F := Ideal) (φ := .f32) .bf16 (transpose S512x1024 [1, 0]
    (m ((c : Thread nD τ).loc main_arg2)) transposes_S1024x512_S512x1024_1_0) bitsLt_bf16_f32 := by
  unfold V hostOps0; after_results_simp
theorem V_wg : V m c main_v3 = truncf (F := Ideal) (φ := .f32) .bf16 (transpose S2048x1024 [1, 0]
    (m ((c : Thread nD τ).loc main_arg3)) transposes_S1024x2048_S2048x1024_1_0) bitsLt_bf16_f32 := by
  unfold V hostOps0; after_results_simp

/-- The product with a transposed weight is the product of the rows. -/
theorem plain_u (x : S4096x512.Idx → EReal) (w : S1024x512.Idx → EReal) :
    plain (n := 4096) (p := 1024) (q := 512) x (transpose S512x1024 [1, 0] w transposes_S1024x512_S512x1024_1_0)
      = rows (n := 4096) (p := 1024) (q := 512) x w :=
  funext fun i => Finset.sum_congr rfl fun k _ => congrArg (x _ * ·) (transpose_ix2_apply w _ k (i 1))
theorem plain_g (x : S4096x2048.Idx → EReal) (w : S1024x2048.Idx → EReal) :
    plain (n := 4096) (p := 1024) (q := 2048) x (transpose S2048x1024 [1, 0] w transposes_S1024x2048_S2048x1024_1_0)
      = rows (n := 4096) (p := 1024) (q := 2048) x w :=
  funext fun i => Finset.sum_congr rfl fun k _ => congrArg (x _ * ·) (transpose_ix2_apply w _ k (i 1))

theorem H_eq : H m c = upRef (m ((c : Thread nD τ).loc main_arg4)) (m ((c : Thread nD τ).loc main_arg0))
    (m ((c : Thread nD τ).loc main_arg1)) (m ((c : Thread nD τ).loc main_arg2)) (m ((c : Thread nD τ).loc main_arg3)) := by
  unfold H
  rw [V_wg, V_wu, V_main_arg0, V_main_arg1, V_main_arg4]
  funext i
  refine Eq.trans ?_ (add_right_comm _ _ _)
  exact congrArg₂ (· + ·) (congrArg₂ (· + ·) rfl (congrFun (plain_u _ _) i)) (congrFun (plain_g _ _) i)

end Kernel

theorem value : Cert.algebraic_MixIdeal_MixRefIdeal (hMixIdeal := Cert.MixIdeal.Gen.facts)
    (hMixRefIdeal := Cert.MixRefIdeal.Gen.facts) := by
  intro m g m' g' _ hargs
  refine ⟨_, _, Cert.MixIdeal.Value.run_blocks (F := Ideal) m g, (θ_run Cert.MixRefIdeal.defs _ _).mono (fun r h c => ?_) (results m' g')⟩
  obtain ⟨e0, e1, e2, e3, e4, e5, e6, e7⟩ := hargs c
  obtain ⟨h0, h1, hkeep⟩ := h c
  unfold HR at h0 h1
  rw [e0, e1, e2, e3, e4, e5, e6, e7] at h0
  rw [e0, e1, e2, e3, e4, e5] at h1
  refine ⟨h0.trans ?_, h1.trans ?_, hkeep⟩
  · rw [MixRun.arr_dx]; unfold MixRun.DX; rw [H_eq, Cert.MixIdeal.Gen.V_main_arg5, Cert.MixIdeal.Gen.V_main_arg6, Cert.MixIdeal.Gen.V_main_arg7]
  · rw [MixRun.arr_dg]; unfold MixRun.DG; rw [H_eq, Cert.MixIdeal.Gen.V_main_arg5]; rfl

end Cert.Proof.MixRef

end
-- ==== Proof.ProjOut.lean ====
/-
  The input projections' two plain products and the gradient they pass back to the normalised rows: at every grid point
  one block of the product, and the blocks tile the array.
-/
module

public import proofs.«01_k».proof.Proof.Spec
public import proofs.«01_k».proof.Proof.Gen.ProjIdeal.Frame
public import Idealize.ShloMosaic.Lib.Pipeline.ValueKit

@[expose] public section

set_option maxRecDepth 16384

noncomputable section

namespace Cert.Proof.ProjOut

open Cert.ProjIdeal Cert.ProjIdeal.Gen Idealize.ShloMosaic.TcCoe Idealize.SL.Sem
open Idealize.ShloMosaic hiding ix1 ix2 ix3 eq_ix1 eq_ix2
open Idealize.ShloMosaic.ValueIdx Idealize.ShloMosaic.Ideal Cert.Proof.Products Cert.Proof.Spec
open Idealize.ShloMosaic.Pipeline (Dat)

variable (V : (c : Dev nD) → (b : Ref sig .tc) → Buf (Elt Ideal) ((c : Thread nD τ).loc b))

/-! ## The product with the recurrence's input weight -/

theorem dot0 (x : FVec Ideal S1024x1024 .bf16) (w : FVec Ideal S512x1024 .bf16) :
    Idealize.ShloMosaic.matmul (F := Ideal) dot_S1024x1024_S512x1024_S1024x512_1_1_0_0_n_n none x w (constant S1024x512 .f32 0x00000000#32)
      = rows x w := by
  funext j
  refine (matmul_constant_zero_apply _ none x w j).trans ?_
  rw [
    ← Equiv.sum_comp (contrEquiv1 dot_S1024x1024_S512x1024_S1024x512_1_1_0_0_n_n 1024 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

theorem pay0 (x : FVec Ideal S1024x1024 .bf16) (w : FVec Ideal S512x1024 .bf16) : k0_pay1 (F := Ideal) x w = rows x w := by
  unfold k0_pay1; simp only [shapeCast_self]; rw [dot0]
theorem idx0 : ∀ t : Fin cfg0.N, win0_0.index t (0 : Fin 2) = win0_2.index t (0 : Fin 2) ∧ win0_0.index t (1 : Fin 2) = 0
    ∧ win0_1.index t (0 : Fin 2) = win0_2.index t (1 : Fin 2) ∧ win0_1.index t (1 : Fin 2) = 0 :=
  (by decide +kernel : ∀ t : Fin grid0.N, _)
theorem onto0 : ∀ (a : Fin 4) (b : Fin 1), ∃ t : Fin grid0.N, win0_2.index t (0 : Fin 2) = a.val ∧ win0_2.index t (1 : Fin 2) = b.val := by
  decide +kernel
theorem emb0 (t : Fin cfg0.N) (j : S1024x512.Idx) :
    (((cfg0.win 2).blk t).view.emb j 0).val = win0_2.index t (0 : Fin 2) * 1024 + (j 0).val
    ∧ (((cfg0.win 2).blk t).view.emb j 1).val = win0_2.index t (1 : Fin 2) * 512 + (j 1).val := by
  constructor
  · show win0_2.index t (0 : Fin 2) * 1024 + 1 * (j 0).val = _; omega
  · show win0_2.index t (1 : Fin 2) * 512 + 1 * (j 1).val = _; omega
theorem point0 (i : S4096x512.Idx) : ∃ (t : Fin cfg0.N) (j : S1024x512.Idx),
    win0_2.index t (0 : Fin 2) * 1024 + (j 0).val = (i 0).val ∧ win0_2.index t (1 : Fin 2) * 512 + (j 1).val = (i 1).val := by
  have h0 : (i 0).val < 4096 := (i 0).isLt
  have h1 : (i 1).val < 512 := (i 1).isLt
  obtain ⟨t, e0, e1⟩ := onto0 ⟨(i 0).val / 1024, by omega⟩ ⟨(i 1).val / 512, by omega⟩
  refine ⟨t, ix2 ⟨(i 0).val % 1024, by omega⟩ ⟨(i 1).val % 512, by omega⟩, ?_, ?_⟩
  · show win0_2.index t (0 : Fin 2) * 1024 + (i 0).val % 1024 = _; rw [e0]; show (i 0).val / 1024 * 1024 + _ = _; omega
  · show win0_2.index t (1 : Fin 2) * 512 + (i 1).val % 512 = _; rw [e1]; show (i 1).val / 512 * 512 + _ = _; omega
theorem outs0 (c : Dev nD) (t : Fin cfg0.N) (j : S1024x512.Idx) (i : S4096x512.Idx) (h0 : (i 0).val = win0_2.index t (0 : Fin 2) * 1024 + (j 0).val)
    (h1 : (i 1).val = win0_2.index t (1 : Fin 2) * 512 + (j 1).val) :
    outsAt0 V c t j = rows (n := 4096) (p := 512) (q := 1024) (V c main_arg0) (V c main_v6) i := by
  obtain ⟨a0, a1, b0, b1⟩ := idx0 t
  have h : outsAt0 V c t = k0_pay1 (F := Ideal) (iblk0 V c 0 t) (iblk0 V c 1 t) := by unfold outsAt0; frame_out
  rw [h, pay0]
  refine Finset.sum_congr rfl fun k _ => congrArg₂ _ (congrArg (V c main_arg0) (funext fun a => Fin.ext ?_))
    (congrArg (V c main_v6) (funext fun a => Fin.ext ?_))
  · match a with
    | ⟨0, _⟩ => show win0_0.index t (0 : Fin 2) * 1024 + 1 * (j 0).val = (i 0).val; omega
    | ⟨1, _⟩ => show win0_0.index t (1 : Fin 2) * 1024 + 1 * k.val = k.val; omega
  · match a with
    | ⟨0, _⟩ => show win0_1.index t (0 : Fin 2) * 512 + 1 * (j 1).val = (i 1).val; omega
    | ⟨1, _⟩ => show win0_1.index t (1 : Fin 2) * 1024 + 1 * k.val = k.val; omega
theorem arr0 (c : Dev nD) : (dat0 V c).arrAt 2 cfg0.N = rows (n := 4096) (p := 512) (q := 1024) (V c main_arg0) (V c main_v6) :=
  (dat0 V c).arrAt_eq_of_cover 2 (rows (n := 4096) (p := 512) (q := 1024) (V c main_arg0) (V c main_v6)) (fun t _ => by
    show (cfg0.win 2).cut (grid0.coords t) ((dat0 V c).after 2 t) = _
    rw [after0_2]
    funext j
    exact outs0 V c t j _ (emb0 t j).1 (emb0 t j).2)
  fun i => by
    obtain ⟨t, j, e0, e1⟩ := point0 i
    refine ⟨t, flush0_2 t, ?_⟩
    have h := ((cfg0.win 2).blk t).view.emb_mem_set j
    rwa [show ((cfg0.win 2).blk t).view.emb j = i from funext fun a => Fin.ext (by
      match a with | ⟨0, _⟩ => exact (emb0 t j).1.trans e0 | ⟨1, _⟩ => exact (emb0 t j).2.trans e1)] at h

/-! ## The product with the gates' weight -/

theorem dot1 (x : FVec Ideal S1024x1024 .bf16) (w : FVec Ideal S1024x1024 .bf16) :
    Idealize.ShloMosaic.matmul (F := Ideal) dot_S1024x1024_S1024x1024_S1024x1024_1_1_0_0_n_n none x w (constant S1024x1024 .f32 0x00000000#32)
      = rows x w := by
  funext j
  refine (matmul_constant_zero_apply _ none x w j).trans ?_
  rw [
    ← Equiv.sum_comp (contrEquiv1 dot_S1024x1024_S1024x1024_S1024x1024_1_1_0_0_n_n 1024 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

theorem pay1 (x : FVec Ideal S1024x1024 .bf16) (w : FVec Ideal S1024x1024 .bf16) : k1_pay1 (F := Ideal) x w = rows x w := by
  unfold k1_pay1; simp only [shapeCast_self]; rw [dot1]; rfl
theorem idx1 : ∀ t : Fin cfg1.N, win1_0.index t (0 : Fin 2) = win1_2.index t (0 : Fin 2) ∧ win1_0.index t (1 : Fin 2) = 0
    ∧ win1_1.index t (0 : Fin 2) = win1_2.index t (1 : Fin 2) ∧ win1_1.index t (1 : Fin 2) = 0 :=
  (by decide +kernel : ∀ t : Fin grid1.N, _)
theorem onto1 : ∀ (a : Fin 4) (b : Fin 2), ∃ t : Fin grid1.N, win1_2.index t (0 : Fin 2) = a.val ∧ win1_2.index t (1 : Fin 2) = b.val := by
  decide +kernel
theorem emb1 (t : Fin cfg1.N) (j : S1024x1024.Idx) :
    (((cfg1.win 2).blk t).view.emb j 0).val = win1_2.index t (0 : Fin 2) * 1024 + (j 0).val
    ∧ (((cfg1.win 2).blk t).view.emb j 1).val = win1_2.index t (1 : Fin 2) * 1024 + (j 1).val := by
  constructor
  · show win1_2.index t (0 : Fin 2) * 1024 + 1 * (j 0).val = _; omega
  · show win1_2.index t (1 : Fin 2) * 1024 + 1 * (j 1).val = _; omega
theorem point1 (i : S4096x2048.Idx) : ∃ (t : Fin cfg1.N) (j : S1024x1024.Idx),
    win1_2.index t (0 : Fin 2) * 1024 + (j 0).val = (i 0).val ∧ win1_2.index t (1 : Fin 2) * 1024 + (j 1).val = (i 1).val := by
  have h0 : (i 0).val < 4096 := (i 0).isLt
  have h1 : (i 1).val < 2048 := (i 1).isLt
  obtain ⟨t, e0, e1⟩ := onto1 ⟨(i 0).val / 1024, by omega⟩ ⟨(i 1).val / 1024, by omega⟩
  refine ⟨t, ix2 ⟨(i 0).val % 1024, by omega⟩ ⟨(i 1).val % 1024, by omega⟩, ?_, ?_⟩
  · show win1_2.index t (0 : Fin 2) * 1024 + (i 0).val % 1024 = _; rw [e0]; show (i 0).val / 1024 * 1024 + _ = _; omega
  · show win1_2.index t (1 : Fin 2) * 1024 + (i 1).val % 1024 = _; rw [e1]; show (i 1).val / 1024 * 1024 + _ = _; omega
theorem outs1 (c : Dev nD) (t : Fin cfg1.N) (j : S1024x1024.Idx) (i : S4096x2048.Idx) (h0 : (i 0).val = win1_2.index t (0 : Fin 2) * 1024 + (j 0).val)
    (h1 : (i 1).val = win1_2.index t (1 : Fin 2) * 1024 + (j 1).val) :
    outsAt1 V c t j = rows (n := 4096) (p := 2048) (q := 1024) (V c main_arg0) (V c main_v8) i := by
  obtain ⟨a0, a1, b0, b1⟩ := idx1 t
  have h : outsAt1 V c t = k1_pay1 (F := Ideal) (iblk1 V c 0 t) (iblk1 V c 1 t) := by unfold outsAt1; frame_out
  rw [h, pay1]
  refine Finset.sum_congr rfl fun k _ => congrArg₂ _ (congrArg (V c main_arg0) (funext fun a => Fin.ext ?_))
    (congrArg (V c main_v8) (funext fun a => Fin.ext ?_))
  · match a with
    | ⟨0, _⟩ => show win1_0.index t (0 : Fin 2) * 1024 + 1 * (j 0).val = (i 0).val; omega
    | ⟨1, _⟩ => show win1_0.index t (1 : Fin 2) * 1024 + 1 * k.val = k.val; omega
  · match a with
    | ⟨0, _⟩ => show win1_1.index t (0 : Fin 2) * 1024 + 1 * (j 1).val = (i 1).val; omega
    | ⟨1, _⟩ => show win1_1.index t (1 : Fin 2) * 1024 + 1 * k.val = k.val; omega
theorem arr1 (c : Dev nD) : (dat1 V c).arrAt 2 cfg1.N = rows (n := 4096) (p := 2048) (q := 1024) (V c main_arg0) (V c main_v8) :=
  (dat1 V c).arrAt_eq_of_cover 2 (rows (n := 4096) (p := 2048) (q := 1024) (V c main_arg0) (V c main_v8)) (fun t _ => by
    show (cfg1.win 2).cut (grid1.coords t) ((dat1 V c).after 2 t) = _
    rw [after1_2]
    funext j
    exact outs1 V c t j _ (emb1 t j).1 (emb1 t j).2)
  fun i => by
    obtain ⟨t, j, e0, e1⟩ := point1 i
    refine ⟨t, flush1_2 t, ?_⟩
    have h := ((cfg1.win 2).blk t).view.emb_mem_set j
    rwa [show ((cfg1.win 2).blk t).view.emb j = i from funext fun a => Fin.ext (by
      match a with | ⟨0, _⟩ => exact (emb1 t j).1.trans e0 | ⟨1, _⟩ => exact (emb1 t j).2.trans e1)] at h

/-! ## The gradient at the normalised rows -/

theorem dot5 (x : FVec Ideal S1024x2304 .bf16) (w : FVec Ideal S2304x1024 .bf16) :
    Idealize.ShloMosaic.matmul (F := Ideal) dot_S1024x2304_S2304x1024_S1024x1024_1_0_0_1_n_n none x w (constant S1024x1024 .f32 0x00000000#32)
      = plain x w := by
  funext j
  refine (matmul_constant_zero_apply _ none x w j).trans ?_
  rw [
    ← Equiv.sum_comp (contrEquiv1 dot_S1024x2304_S2304x1024_S1024x1024_1_0_0_1_n_n 2304 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

theorem pay5 (x : FVec Ideal S1024x2304 .bf16) (w : FVec Ideal S2304x1024 .bf16) : k5_pay1 (F := Ideal) x w = plain x w := by
  unfold k5_pay1; simp only [shapeCast_self]; rw [dot5]
theorem idx5 : ∀ t : Fin cfg5.N, win5_0.index t (0 : Fin 2) = win5_2.index t (0 : Fin 2) ∧ win5_0.index t (1 : Fin 2) = 0
    ∧ win5_1.index t (0 : Fin 2) = 0 ∧ win5_1.index t (1 : Fin 2) = win5_2.index t (1 : Fin 2) :=
  (by decide +kernel : ∀ t : Fin grid5.N, _)
theorem onto5 : ∀ (a : Fin 4) (b : Fin 1), ∃ t : Fin grid5.N, win5_2.index t (0 : Fin 2) = a.val ∧ win5_2.index t (1 : Fin 2) = b.val := by
  decide +kernel
theorem emb5 (t : Fin cfg5.N) (j : S1024x1024.Idx) :
    (((cfg5.win 2).blk t).view.emb j 0).val = win5_2.index t (0 : Fin 2) * 1024 + (j 0).val
    ∧ (((cfg5.win 2).blk t).view.emb j 1).val = win5_2.index t (1 : Fin 2) * 1024 + (j 1).val := by
  constructor
  · show win5_2.index t (0 : Fin 2) * 1024 + 1 * (j 0).val = _; omega
  · show win5_2.index t (1 : Fin 2) * 1024 + 1 * (j 1).val = _; omega
theorem point5 (i : S4096x1024.Idx) : ∃ (t : Fin cfg5.N) (j : S1024x1024.Idx),
    win5_2.index t (0 : Fin 2) * 1024 + (j 0).val = (i 0).val ∧ win5_2.index t (1 : Fin 2) * 1024 + (j 1).val = (i 1).val := by
  have h0 : (i 0).val < 4096 := (i 0).isLt
  have h1 : (i 1).val < 1024 := (i 1).isLt
  obtain ⟨t, e0, e1⟩ := onto5 ⟨(i 0).val / 1024, by omega⟩ ⟨(i 1).val / 1024, by omega⟩
  refine ⟨t, ix2 ⟨(i 0).val % 1024, by omega⟩ ⟨(i 1).val % 1024, by omega⟩, ?_, ?_⟩
  · show win5_2.index t (0 : Fin 2) * 1024 + (i 0).val % 1024 = _; rw [e0]; show (i 0).val / 1024 * 1024 + _ = _; omega
  · show win5_2.index t (1 : Fin 2) * 1024 + (i 1).val % 1024 = _; rw [e1]; show (i 1).val / 1024 * 1024 + _ = _; omega
theorem outs5 (c : Dev nD) (t : Fin cfg5.N) (j : S1024x1024.Idx) (i : S4096x1024.Idx) (h0 : (i 0).val = win5_2.index t (0 : Fin 2) * 1024 + (j 0).val)
    (h1 : (i 1).val = win5_2.index t (1 : Fin 2) * 1024 + (j 1).val) :
    outsAt5 V c t j = plain (n := 4096) (p := 1024) (q := 2304) (V c main_arg4) (V c main_v4) i := by
  obtain ⟨a0, a1, b0, b1⟩ := idx5 t
  have h : outsAt5 V c t = k5_pay1 (F := Ideal) (iblk5 V c 0 t) (iblk5 V c 1 t) := by unfold outsAt5; frame_out
  rw [h, pay5]
  refine Finset.sum_congr rfl fun k _ => congrArg₂ _ (congrArg (V c main_arg4) (funext fun a => Fin.ext ?_))
    (congrArg (V c main_v4) (funext fun a => Fin.ext ?_))
  · match a with
    | ⟨0, _⟩ => show win5_0.index t (0 : Fin 2) * 1024 + 1 * (j 0).val = (i 0).val; omega
    | ⟨1, _⟩ => show win5_0.index t (1 : Fin 2) * 2304 + 1 * k.val = k.val; omega
  · match a with
    | ⟨0, _⟩ => show win5_1.index t (0 : Fin 2) * 2304 + 1 * k.val = k.val; omega
    | ⟨1, _⟩ => show win5_1.index t (1 : Fin 2) * 1024 + 1 * (j 1).val = (i 1).val; omega
theorem arr5 (c : Dev nD) : (dat5 V c).arrAt 2 cfg5.N = plain (n := 4096) (p := 1024) (q := 2304) (V c main_arg4) (V c main_v4) :=
  (dat5 V c).arrAt_eq_of_cover 2 (plain (n := 4096) (p := 1024) (q := 2304) (V c main_arg4) (V c main_v4)) (fun t _ => by
    show (cfg5.win 2).cut (grid5.coords t) ((dat5 V c).after 2 t) = _
    rw [after5_2]
    funext j
    exact outs5 V c t j _ (emb5 t j).1 (emb5 t j).2)
  fun i => by
    obtain ⟨t, j, e0, e1⟩ := point5 i
    refine ⟨t, flush5_2 t, ?_⟩
    have h := ((cfg5.win 2).blk t).view.emb_mem_set j
    rwa [show ((cfg5.win 2).blk t).view.emb j = i from funext fun a => Fin.ext (by
      match a with | ⟨0, _⟩ => exact (emb5 t j).1.trans e0 | ⟨1, _⟩ => exact (emb5 t j).2.trans e1)] at h

end Cert.Proof.ProjOut

end
-- ==== Proof.ProjW.lean ====
/-
  The input projections' three weight gradients: products summed over the tokens, block by block.
-/
module

public import proofs.«01_k».proof.Proof.Spec
public import proofs.«01_k».proof.Proof.Gen.ProjIdeal.Frame
public import Idealize.ShloMosaic.Lib.Pipeline.ValueKit

@[expose] public section

set_option maxRecDepth 16384

noncomputable section

namespace Cert.Proof.ProjW

open Cert.ProjIdeal Cert.ProjIdeal.Gen Idealize.ShloMosaic.TcCoe Idealize.SL.Sem
open Idealize.ShloMosaic hiding ix1 ix2 ix3 eq_ix1 eq_ix2
open Idealize.ShloMosaic.ValueIdx Idealize.ShloMosaic.Ideal Cert.Proof.Products Cert.Proof.Spec
open Idealize.ShloMosaic.Pipeline (Dat)

variable (V : (c : Dev nD) → (b : Ref sig .tc) → Buf (Elt Ideal) ((c : Thread nD τ).loc b))

/-! ## The gradient of the attention projection's weight -/

theorem dot2 (x : FVec Ideal S4096x1152 .bf16) (w : FVec Ideal S4096x512 .bf16) :
    Idealize.ShloMosaic.matmul (F := Ideal) dot_S4096x1152_S4096x512_S1152x512_0_0_1_1_n_n none x w (constant S1152x512 .f32 0x00000000#32)
      = cols x w := by
  funext j
  refine (matmul_constant_zero_apply _ none x w j).trans ?_
  rw [
    ← Equiv.sum_comp (contrEquiv1 dot_S4096x1152_S4096x512_S1152x512_0_0_1_1_n_n 4096 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

theorem pay2 (x : FVec Ideal S4096x1152 .bf16) (w : FVec Ideal S4096x512 .bf16) : k2_pay1 (F := Ideal) x w = cols x w := by
  unfold k2_pay1; simp only [shapeCast_self]; rw [dot2]
theorem idx2 : ∀ t : Fin cfg2.N, win2_0.index t (0 : Fin 2) = 0 ∧ win2_0.index t (1 : Fin 2) = win2_2.index t (0 : Fin 2)
    ∧ win2_1.index t (0 : Fin 2) = 0 ∧ win2_1.index t (1 : Fin 2) = win2_2.index t (1 : Fin 2) :=
  (by decide +kernel : ∀ t : Fin grid2.N, _)
theorem onto2 : ∀ (a : Fin 2) (b : Fin 2), ∃ t : Fin grid2.N, win2_2.index t (0 : Fin 2) = a.val ∧ win2_2.index t (1 : Fin 2) = b.val := by
  decide +kernel
theorem emb2 (t : Fin cfg2.N) (j : S1152x512.Idx) :
    (((cfg2.win 2).blk t).view.emb j 0).val = win2_2.index t (0 : Fin 2) * 1152 + (j 0).val
    ∧ (((cfg2.win 2).blk t).view.emb j 1).val = win2_2.index t (1 : Fin 2) * 512 + (j 1).val := by
  constructor
  · show win2_2.index t (0 : Fin 2) * 1152 + 1 * (j 0).val = _; omega
  · show win2_2.index t (1 : Fin 2) * 512 + 1 * (j 1).val = _; omega
theorem point2 (i : S2304x1024.Idx) : ∃ (t : Fin cfg2.N) (j : S1152x512.Idx),
    win2_2.index t (0 : Fin 2) * 1152 + (j 0).val = (i 0).val ∧ win2_2.index t (1 : Fin 2) * 512 + (j 1).val = (i 1).val := by
  have h0 : (i 0).val < 2304 := (i 0).isLt
  have h1 : (i 1).val < 1024 := (i 1).isLt
  obtain ⟨t, e0, e1⟩ := onto2 ⟨(i 0).val / 1152, by omega⟩ ⟨(i 1).val / 512, by omega⟩
  refine ⟨t, ix2 ⟨(i 0).val % 1152, by omega⟩ ⟨(i 1).val % 512, by omega⟩, ?_, ?_⟩
  · show win2_2.index t (0 : Fin 2) * 1152 + (i 0).val % 1152 = _; rw [e0]; show (i 0).val / 1152 * 1152 + _ = _; omega
  · show win2_2.index t (1 : Fin 2) * 512 + (i 1).val % 512 = _; rw [e1]; show (i 1).val / 512 * 512 + _ = _; omega
theorem outs2 (c : Dev nD) (t : Fin cfg2.N) (j : S1152x512.Idx) (i : S2304x1024.Idx) (h0 : (i 0).val = win2_2.index t (0 : Fin 2) * 1152 + (j 0).val)
    (h1 : (i 1).val = win2_2.index t (1 : Fin 2) * 512 + (j 1).val) :
    outsAt2 V c t j = cols (n := 2304) (p := 1024) (q := 4096) (V c main_arg4) (V c main_arg0) i := by
  obtain ⟨a0, a1, b0, b1⟩ := idx2 t
  have h : outsAt2 V c t = k2_pay1 (F := Ideal) (iblk2 V c 0 t) (iblk2 V c 1 t) := by unfold outsAt2; frame_out
  rw [h, pay2]
  refine Finset.sum_congr rfl fun k _ => congrArg₂ _ (congrArg (V c main_arg4) (funext fun a => Fin.ext ?_))
    (congrArg (V c main_arg0) (funext fun a => Fin.ext ?_))
  · match a with
    | ⟨0, _⟩ => show win2_0.index t (0 : Fin 2) * 4096 + 1 * k.val = k.val; omega
    | ⟨1, _⟩ => show win2_0.index t (1 : Fin 2) * 1152 + 1 * (j 0).val = (i 0).val; omega
  · match a with
    | ⟨0, _⟩ => show win2_1.index t (0 : Fin 2) * 4096 + 1 * k.val = k.val; omega
    | ⟨1, _⟩ => show win2_1.index t (1 : Fin 2) * 512 + 1 * (j 1).val = (i 1).val; omega
theorem arr2 (c : Dev nD) : (dat2 V c).arrAt 2 cfg2.N = cols (n := 2304) (p := 1024) (q := 4096) (V c main_arg4) (V c main_arg0) :=
  (dat2 V c).arrAt_eq_of_cover 2 (cols (n := 2304) (p := 1024) (q := 4096) (V c main_arg4) (V c main_arg0)) (fun t _ => by
    show (cfg2.win 2).cut (grid2.coords t) ((dat2 V c).after 2 t) = _
    rw [after2_2]
    funext j
    exact outs2 V c t j _ (emb2 t j).1 (emb2 t j).2)
  fun i => by
    obtain ⟨t, j, e0, e1⟩ := point2 i
    refine ⟨t, flush2_2 t, ?_⟩
    have h := ((cfg2.win 2).blk t).view.emb_mem_set j
    rwa [show ((cfg2.win 2).blk t).view.emb j = i from funext fun a => Fin.ext (by
      match a with | ⟨0, _⟩ => exact (emb2 t j).1.trans e0 | ⟨1, _⟩ => exact (emb2 t j).2.trans e1)] at h

/-! ## The gradient of the recurrence's input weight -/

theorem dot3 (x : FVec Ideal S4096x512 .bf16) (w : FVec Ideal S4096x512 .bf16) :
    Idealize.ShloMosaic.matmul (F := Ideal) dot_S4096x512_S4096x512_S512x512_0_0_1_1_n_n none x w (constant S512x512 .f32 0x00000000#32)
      = cols x w := by
  funext j
  refine (matmul_constant_zero_apply _ none x w j).trans ?_
  rw [
    ← Equiv.sum_comp (contrEquiv1 dot_S4096x512_S4096x512_S512x512_0_0_1_1_n_n 4096 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

theorem pay3 (x : FVec Ideal S4096x512 .bf16) (w : FVec Ideal S4096x512 .bf16) : k3_pay1 (F := Ideal) x w = cols x w := by
  unfold k3_pay1; simp only [shapeCast_self]; rw [dot3]
theorem idx3 : ∀ t : Fin cfg3.N, win3_0.index t (0 : Fin 2) = 0 ∧ win3_0.index t (1 : Fin 2) = win3_2.index t (0 : Fin 2)
    ∧ win3_1.index t (0 : Fin 2) = 0 ∧ win3_1.index t (1 : Fin 2) = win3_2.index t (1 : Fin 2) :=
  (by decide +kernel : ∀ t : Fin grid3.N, _)
theorem onto3 : ∀ (a : Fin 1) (b : Fin 2), ∃ t : Fin grid3.N, win3_2.index t (0 : Fin 2) = a.val ∧ win3_2.index t (1 : Fin 2) = b.val := by
  decide +kernel
theorem emb3 (t : Fin cfg3.N) (j : S512x512.Idx) :
    (((cfg3.win 2).blk t).view.emb j 0).val = win3_2.index t (0 : Fin 2) * 512 + (j 0).val
    ∧ (((cfg3.win 2).blk t).view.emb j 1).val = win3_2.index t (1 : Fin 2) * 512 + (j 1).val := by
  constructor
  · show win3_2.index t (0 : Fin 2) * 512 + 1 * (j 0).val = _; omega
  · show win3_2.index t (1 : Fin 2) * 512 + 1 * (j 1).val = _; omega
theorem point3 (i : S512x1024.Idx) : ∃ (t : Fin cfg3.N) (j : S512x512.Idx),
    win3_2.index t (0 : Fin 2) * 512 + (j 0).val = (i 0).val ∧ win3_2.index t (1 : Fin 2) * 512 + (j 1).val = (i 1).val := by
  have h0 : (i 0).val < 512 := (i 0).isLt
  have h1 : (i 1).val < 1024 := (i 1).isLt
  obtain ⟨t, e0, e1⟩ := onto3 ⟨(i 0).val / 512, by omega⟩ ⟨(i 1).val / 512, by omega⟩
  refine ⟨t, ix2 ⟨(i 0).val % 512, by omega⟩ ⟨(i 1).val % 512, by omega⟩, ?_, ?_⟩
  · show win3_2.index t (0 : Fin 2) * 512 + (i 0).val % 512 = _; rw [e0]; show (i 0).val / 512 * 512 + _ = _; omega
  · show win3_2.index t (1 : Fin 2) * 512 + (i 1).val % 512 = _; rw [e1]; show (i 1).val / 512 * 512 + _ = _; omega
theorem outs3 (c : Dev nD) (t : Fin cfg3.N) (j : S512x512.Idx) (i : S512x1024.Idx) (h0 : (i 0).val = win3_2.index t (0 : Fin 2) * 512 + (j 0).val)
    (h1 : (i 1).val = win3_2.index t (1 : Fin 2) * 512 + (j 1).val) :
    outsAt3 V c t j = cols (n := 512) (p := 1024) (q := 4096) (V c main_arg5) (V c main_arg0) i := by
  obtain ⟨a0, a1, b0, b1⟩ := idx3 t
  have h : outsAt3 V c t = k3_pay1 (F := Ideal) (iblk3 V c 0 t) (iblk3 V c 1 t) := by unfold outsAt3; frame_out
  rw [h, pay3]
  refine Finset.sum_congr rfl fun k _ => congrArg₂ _ (congrArg (V c main_arg5) (funext fun a => Fin.ext ?_))
    (congrArg (V c main_arg0) (funext fun a => Fin.ext ?_))
  · match a with
    | ⟨0, _⟩ => show win3_0.index t (0 : Fin 2) * 4096 + 1 * k.val = k.val; omega
    | ⟨1, _⟩ => show win3_0.index t (1 : Fin 2) * 512 + 1 * (j 0).val = (i 0).val; omega
  · match a with
    | ⟨0, _⟩ => show win3_1.index t (0 : Fin 2) * 4096 + 1 * k.val = k.val; omega
    | ⟨1, _⟩ => show win3_1.index t (1 : Fin 2) * 512 + 1 * (j 1).val = (i 1).val; omega
theorem arr3 (c : Dev nD) : (dat3 V c).arrAt 2 cfg3.N = cols (n := 512) (p := 1024) (q := 4096) (V c main_arg5) (V c main_arg0) :=
  (dat3 V c).arrAt_eq_of_cover 2 (cols (n := 512) (p := 1024) (q := 4096) (V c main_arg5) (V c main_arg0)) (fun t _ => by
    show (cfg3.win 2).cut (grid3.coords t) ((dat3 V c).after 2 t) = _
    rw [after3_2]
    funext j
    exact outs3 V c t j _ (emb3 t j).1 (emb3 t j).2)
  fun i => by
    obtain ⟨t, j, e0, e1⟩ := point3 i
    refine ⟨t, flush3_2 t, ?_⟩
    have h := ((cfg3.win 2).blk t).view.emb_mem_set j
    rwa [show ((cfg3.win 2).blk t).view.emb j = i from funext fun a => Fin.ext (by
      match a with | ⟨0, _⟩ => exact (emb3 t j).1.trans e0 | ⟨1, _⟩ => exact (emb3 t j).2.trans e1)] at h

/-! ## The gradient of the gates' weight -/

theorem dot4 (x : FVec Ideal S4096x1024 .bf16) (w : FVec Ideal S4096x512 .bf16) :
    Idealize.ShloMosaic.matmul (F := Ideal) dot_S4096x1024_S4096x512_S1024x512_0_0_1_1_n_n none x w (constant S1024x512 .f32 0x00000000#32)
      = cols x w := by
  funext j
  refine (matmul_constant_zero_apply _ none x w j).trans ?_
  rw [
    ← Equiv.sum_comp (contrEquiv1 dot_S4096x1024_S4096x512_S1024x512_0_0_1_1_n_n 4096 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

theorem pay4 (x : FVec Ideal S4096x1024 .bf16) (w : FVec Ideal S4096x512 .bf16) : k4_pay1 (F := Ideal) x w = cols x w := by
  unfold k4_pay1; simp only [shapeCast_self]; rw [dot4]
theorem idx4 : ∀ t : Fin cfg4.N, win4_0.index t (0 : Fin 2) = 0 ∧ win4_0.index t (1 : Fin 2) = win4_2.index t (0 : Fin 2)
    ∧ win4_1.index t (0 : Fin 2) = 0 ∧ win4_1.index t (1 : Fin 2) = win4_2.index t (1 : Fin 2) :=
  (by decide +kernel : ∀ t : Fin grid4.N, _)
theorem onto4 : ∀ (a : Fin 2) (b : Fin 2), ∃ t : Fin grid4.N, win4_2.index t (0 : Fin 2) = a.val ∧ win4_2.index t (1 : Fin 2) = b.val := by
  decide +kernel
theorem emb4 (t : Fin cfg4.N) (j : S1024x512.Idx) :
    (((cfg4.win 2).blk t).view.emb j 0).val = win4_2.index t (0 : Fin 2) * 1024 + (j 0).val
    ∧ (((cfg4.win 2).blk t).view.emb j 1).val = win4_2.index t (1 : Fin 2) * 512 + (j 1).val := by
  constructor
  · show win4_2.index t (0 : Fin 2) * 1024 + 1 * (j 0).val = _; omega
  · show win4_2.index t (1 : Fin 2) * 512 + 1 * (j 1).val = _; omega
theorem point4 (i : S2048x1024.Idx) : ∃ (t : Fin cfg4.N) (j : S1024x512.Idx),
    win4_2.index t (0 : Fin 2) * 1024 + (j 0).val = (i 0).val ∧ win4_2.index t (1 : Fin 2) * 512 + (j 1).val = (i 1).val := by
  have h0 : (i 0).val < 2048 := (i 0).isLt
  have h1 : (i 1).val < 1024 := (i 1).isLt
  obtain ⟨t, e0, e1⟩ := onto4 ⟨(i 0).val / 1024, by omega⟩ ⟨(i 1).val / 512, by omega⟩
  refine ⟨t, ix2 ⟨(i 0).val % 1024, by omega⟩ ⟨(i 1).val % 512, by omega⟩, ?_, ?_⟩
  · show win4_2.index t (0 : Fin 2) * 1024 + (i 0).val % 1024 = _; rw [e0]; show (i 0).val / 1024 * 1024 + _ = _; omega
  · show win4_2.index t (1 : Fin 2) * 512 + (i 1).val % 512 = _; rw [e1]; show (i 1).val / 512 * 512 + _ = _; omega
theorem outs4 (c : Dev nD) (t : Fin cfg4.N) (j : S1024x512.Idx) (i : S2048x1024.Idx) (h0 : (i 0).val = win4_2.index t (0 : Fin 2) * 1024 + (j 0).val)
    (h1 : (i 1).val = win4_2.index t (1 : Fin 2) * 512 + (j 1).val) :
    outsAt4 V c t j = cols (n := 2048) (p := 1024) (q := 4096) (V c main_arg6) (V c main_arg0) i := by
  obtain ⟨a0, a1, b0, b1⟩ := idx4 t
  have h : outsAt4 V c t = k4_pay1 (F := Ideal) (iblk4 V c 0 t) (iblk4 V c 1 t) := by unfold outsAt4; frame_out
  rw [h, pay4]
  refine Finset.sum_congr rfl fun k _ => congrArg₂ _ (congrArg (V c main_arg6) (funext fun a => Fin.ext ?_))
    (congrArg (V c main_arg0) (funext fun a => Fin.ext ?_))
  · match a with
    | ⟨0, _⟩ => show win4_0.index t (0 : Fin 2) * 4096 + 1 * k.val = k.val; omega
    | ⟨1, _⟩ => show win4_0.index t (1 : Fin 2) * 1024 + 1 * (j 0).val = (i 0).val; omega
  · match a with
    | ⟨0, _⟩ => show win4_1.index t (0 : Fin 2) * 4096 + 1 * k.val = k.val; omega
    | ⟨1, _⟩ => show win4_1.index t (1 : Fin 2) * 512 + 1 * (j 1).val = (i 1).val; omega
theorem arr4 (c : Dev nD) : (dat4 V c).arrAt 2 cfg4.N = cols (n := 2048) (p := 1024) (q := 4096) (V c main_arg6) (V c main_arg0) :=
  (dat4 V c).arrAt_eq_of_cover 2 (cols (n := 2048) (p := 1024) (q := 4096) (V c main_arg6) (V c main_arg0)) (fun t _ => by
    show (cfg4.win 2).cut (grid4.coords t) ((dat4 V c).after 2 t) = _
    rw [after4_2]
    funext j
    exact outs4 V c t j _ (emb4 t j).1 (emb4 t j).2)
  fun i => by
    obtain ⟨t, j, e0, e1⟩ := point4 i
    refine ⟨t, flush4_2 t, ?_⟩
    have h := ((cfg4.win 2).blk t).view.emb_mem_set j
    rwa [show ((cfg4.win 2).blk t).view.emb j = i from funext fun a => Fin.ext (by
      match a with | ⟨0, _⟩ => exact (emb4 t j).1.trans e0 | ⟨1, _⟩ => exact (emb4 t j).2.trans e1)] at h

end Cert.Proof.ProjW

end
-- ==== Proof.Pairs.lean ====
/-
  The order of the attention projection's columns: kind, group, pair and lane in the weight; pair, group, kind and lane in
  the projection's array. `toPair` is the weight's column at a column of the array, `ofPair` the way back, and each of the
  four rearrangements of the host lines reads at one or the other.
-/
module

public import proofs.«01_k».proof.Proof.Spec
public import Idealize.ShloMosaic.Lib.Pipeline.Value
public import Idealize.ShloMosaic.Lib.ValueLayout

@[expose] public section

set_option maxRecDepth 16384

noncomputable section

namespace Cert.Proof.Pairs

open Idealize.ShloMosaic Idealize.ShloMosaic.ValueIdx Cert.Proof.Products Cert.Proof.Spec

/-- The weight's column at column `n` of the array. -/
def toPair (n : Fin 2304) : Fin 2304 :=
  ⟨((n.val / 128 % 3 * 3 + n.val / 384 % 3) * 2 + n.val / 1152) * 128 + n.val % 128, by omega⟩
/-- The array's column at column `n` of the weight. -/
def ofPair (n : Fin 2304) : Fin 2304 :=
  ⟨((n.val / 128 % 2 * 3 + n.val / 256 % 3) * 3 + n.val / 768) * 128 + n.val % 128, by omega⟩

theorem toPair_val (n a b d l : ℕ) (ha : a < 2) (hb : b < 3) (hd : d < 3) (hl : l < 128)
    (h : n = ((a * 3 + b) * 3 + d) * 128 + l) :
    ((n / 128 % 3 * 3 + n / 384 % 3) * 2 + n / 1152) * 128 + n % 128 = ((d * 3 + b) * 2 + a) * 128 + l := by
  have h1 : n % 128 = l := by omega
  have h2 : n / 128 % 3 = d := by omega
  have h3 : n / 384 % 3 = b := by omega
  have h4 : n / 1152 = a := by omega
  rw [h1, h2, h3, h4]
theorem ofPair_val (n a b d l : ℕ) (ha : a < 3) (hb : b < 3) (hd : d < 2) (hl : l < 128)
    (h : n = ((a * 3 + b) * 2 + d) * 128 + l) :
    ((n / 128 % 2 * 3 + n / 256 % 3) * 3 + n / 768) * 128 + n % 128 = ((d * 3 + b) * 3 + a) * 128 + l := by
  have h1 : n % 128 = l := by omega
  have h2 : n / 128 % 2 = d := by omega
  have h3 : n / 256 % 3 = b := by omega
  have h4 : n / 768 = a := by omega
  rw [h1, h2, h3, h4]
theorem to_of (n : Fin 2304) : toPair (ofPair n) = n :=
  Fin.ext ((toPair_val _ (n.val / 128 % 2) (n.val / 256 % 3) (n.val / 768) (n.val % 128) (by omega) (by omega) (by omega) (by omega) rfl).trans
    (by omega))
theorem of_to (n : Fin 2304) : ofPair (toPair n) = n :=
  Fin.ext ((ofPair_val _ (n.val / 128 % 3) (n.val / 384 % 3) (n.val / 1152) (n.val % 128) (by omega) (by omega) (by omega) (by omega) rfl).trans
    (by omega))
/-- The two orders, matched. -/
def swap : Fin 2304 ≃ Fin 2304 := ⟨ofPair, toPair, to_of, of_to⟩

/-- Rows of the weight, put in the array's order. -/
theorem to_rows (x : (⟨2, ![2304, 1024]⟩ : Shape).Idx → EReal) (h1 : (⟨2, ![2304, 1024]⟩ : Shape).ShapeCasts ⟨5, ![3, 3, 2, 128, 1024]⟩)
    (h2 : (⟨5, ![3, 3, 2, 128, 1024]⟩ : Shape).Transposes [2, 1, 0, 3, 4] ⟨5, ![2, 3, 3, 128, 1024]⟩)
    (h3 : (⟨5, ![2, 3, 3, 128, 1024]⟩ : Shape).ShapeCasts ⟨2, ![2304, 1024]⟩) (n : Fin 2304) (k : Fin 1024) :
    shapeCast ⟨2, ![2304, 1024]⟩ (transpose ⟨5, ![2, 3, 3, 128, 1024]⟩ [2, 1, 0, 3, 4] (shapeCast ⟨5, ![3, 3, 2, 128, 1024]⟩ x h1) h2) h3 (ix2 n k)
      = x (ix2 (toPair n) k) := by
  have key : ∀ (a : Fin 2) (b : Fin 3) (d : Fin 3) (l : Fin 128), n.val = ((a.val * 3 + b.val) * 3 + d.val) * 128 + l.val →
      shapeCast ⟨2, ![2304, 1024]⟩ (transpose ⟨5, ![2, 3, 3, 128, 1024]⟩ [2, 1, 0, 3, 4] (shapeCast ⟨5, ![3, 3, 2, 128, 1024]⟩ x h1) h2) h3 (ix2 n k)
        = x (ix2 (toPair n) k) := fun a b d l hn => by
    refine (shapeCast_apply _ h3 (ix2 n k) (ix5 a b d l k) ?_).trans ?_
    · rw [Shape.rowMajor_val_five, Shape.rowMajor_val_two]
      show (((a.val * 3 + b.val) * 3 + d.val) * 128 + l.val) * 1024 + k.val = n.val * 1024 + k.val
      omega
    refine (transpose_apply _ _ h2 (ix5 a b d l k) (ix5 d b a l k) fun c => ?_).trans ?_
    · match c with | ⟨0, _⟩ => rfl | ⟨1, _⟩ => rfl | ⟨2, _⟩ => rfl | ⟨3, _⟩ => rfl | ⟨4, _⟩ => rfl
    refine shapeCast_apply x h1 (ix5 d b a l k) (ix2 (toPair n) k) ?_
    rw [Shape.rowMajor_val_five, Shape.rowMajor_val_two]
    show (toPair n).val * 1024 + k.val = (((d.val * 3 + b.val) * 2 + a.val) * 128 + l.val) * 1024 + k.val
    rw [show (toPair n).val = _ from toPair_val n.val a.val b.val d.val l.val a.isLt b.isLt d.isLt l.isLt hn]
  exact key ⟨n.val / 1152, by omega⟩ ⟨n.val / 384 % 3, by omega⟩ ⟨n.val / 128 % 3, by omega⟩ ⟨n.val % 128, by omega⟩ (by show n.val = (((n.val / 1152) * 3 + n.val / 384 % 3) * 3 + n.val / 128 % 3) * 128 + n.val % 128; omega)

/-- Rows in the array's order, put back in the weight's. -/
theorem of_rows (x : (⟨2, ![2304, 1024]⟩ : Shape).Idx → EReal) (h1 : (⟨2, ![2304, 1024]⟩ : Shape).ShapeCasts ⟨5, ![2, 3, 3, 128, 1024]⟩)
    (h2 : (⟨5, ![2, 3, 3, 128, 1024]⟩ : Shape).Transposes [2, 1, 0, 3, 4] ⟨5, ![3, 3, 2, 128, 1024]⟩)
    (h3 : (⟨5, ![3, 3, 2, 128, 1024]⟩ : Shape).ShapeCasts ⟨2, ![2304, 1024]⟩) (n : Fin 2304) (k : Fin 1024) :
    shapeCast ⟨2, ![2304, 1024]⟩ (transpose ⟨5, ![3, 3, 2, 128, 1024]⟩ [2, 1, 0, 3, 4] (shapeCast ⟨5, ![2, 3, 3, 128, 1024]⟩ x h1) h2) h3 (ix2 n k)
      = x (ix2 (ofPair n) k) := by
  have key : ∀ (a : Fin 3) (b : Fin 3) (d : Fin 2) (l : Fin 128), n.val = ((a.val * 3 + b.val) * 2 + d.val) * 128 + l.val →
      shapeCast ⟨2, ![2304, 1024]⟩ (transpose ⟨5, ![3, 3, 2, 128, 1024]⟩ [2, 1, 0, 3, 4] (shapeCast ⟨5, ![2, 3, 3, 128, 1024]⟩ x h1) h2) h3 (ix2 n k)
        = x (ix2 (ofPair n) k) := fun a b d l hn => by
    refine (shapeCast_apply _ h3 (ix2 n k) (ix5 a b d l k) ?_).trans ?_
    · rw [Shape.rowMajor_val_five, Shape.rowMajor_val_two]
      show (((a.val * 3 + b.val) * 2 + d.val) * 128 + l.val) * 1024 + k.val = n.val * 1024 + k.val
      omega
    refine (transpose_apply _ _ h2 (ix5 a b d l k) (ix5 d b a l k) fun c => ?_).trans ?_
    · match c with | ⟨0, _⟩ => rfl | ⟨1, _⟩ => rfl | ⟨2, _⟩ => rfl | ⟨3, _⟩ => rfl | ⟨4, _⟩ => rfl
    refine shapeCast_apply x h1 (ix5 d b a l k) (ix2 (ofPair n) k) ?_
    rw [Shape.rowMajor_val_five, Shape.rowMajor_val_two]
    show (ofPair n).val * 1024 + k.val = (((d.val * 3 + b.val) * 3 + a.val) * 128 + l.val) * 1024 + k.val
    rw [show (ofPair n).val = _ from ofPair_val n.val a.val b.val d.val l.val a.isLt b.isLt d.isLt l.isLt hn]
  exact key ⟨n.val / 768, by omega⟩ ⟨n.val / 256 % 3, by omega⟩ ⟨n.val / 128 % 2, by omega⟩ ⟨n.val % 128, by omega⟩ (by show n.val = (((n.val / 768) * 3 + n.val / 256 % 3) * 2 + n.val / 128 % 2) * 128 + n.val % 128; omega)

/-- Columns of the projection, put in the array's order. -/
theorem to_cols (x : (⟨2, ![4096, 2304]⟩ : Shape).Idx → EReal) (h1 : (⟨2, ![4096, 2304]⟩ : Shape).ShapeCasts ⟨5, ![4096, 3, 3, 2, 128]⟩)
    (h2 : (⟨5, ![4096, 3, 3, 2, 128]⟩ : Shape).Transposes [0, 3, 2, 1, 4] ⟨5, ![4096, 2, 3, 3, 128]⟩)
    (h3 : (⟨5, ![4096, 2, 3, 3, 128]⟩ : Shape).ShapeCasts ⟨2, ![4096, 2304]⟩) (t : Fin 4096) (n : Fin 2304) :
    shapeCast ⟨2, ![4096, 2304]⟩ (transpose ⟨5, ![4096, 2, 3, 3, 128]⟩ [0, 3, 2, 1, 4] (shapeCast ⟨5, ![4096, 3, 3, 2, 128]⟩ x h1) h2) h3 (ix2 t n)
      = x (ix2 t (toPair n)) := by
  have key : ∀ (a : Fin 2) (b : Fin 3) (d : Fin 3) (l : Fin 128), n.val = ((a.val * 3 + b.val) * 3 + d.val) * 128 + l.val →
      shapeCast ⟨2, ![4096, 2304]⟩ (transpose ⟨5, ![4096, 2, 3, 3, 128]⟩ [0, 3, 2, 1, 4] (shapeCast ⟨5, ![4096, 3, 3, 2, 128]⟩ x h1) h2) h3 (ix2 t n)
        = x (ix2 t (toPair n)) := fun a b d l hn => by
    refine (shapeCast_apply _ h3 (ix2 t n) (ix5 t a b d l) ?_).trans ?_
    · rw [Shape.rowMajor_val_five, Shape.rowMajor_val_two]
      show (((t.val * 2 + a.val) * 3 + b.val) * 3 + d.val) * 128 + l.val = t.val * 2304 + n.val
      omega
    refine (transpose_apply _ _ h2 (ix5 t a b d l) (ix5 t d b a l) fun c => ?_).trans ?_
    · match c with | ⟨0, _⟩ => rfl | ⟨1, _⟩ => rfl | ⟨2, _⟩ => rfl | ⟨3, _⟩ => rfl | ⟨4, _⟩ => rfl
    refine shapeCast_apply x h1 (ix5 t d b a l) (ix2 t (toPair n)) ?_
    rw [Shape.rowMajor_val_five, Shape.rowMajor_val_two]
    show t.val * 2304 + (toPair n).val = (((t.val * 3 + d.val) * 3 + b.val) * 2 + a.val) * 128 + l.val
    rw [show (toPair n).val = _ from toPair_val n.val a.val b.val d.val l.val a.isLt b.isLt d.isLt l.isLt hn]; omega
  exact key ⟨n.val / 1152, by omega⟩ ⟨n.val / 384 % 3, by omega⟩ ⟨n.val / 128 % 3, by omega⟩ ⟨n.val % 128, by omega⟩ (by show n.val = (((n.val / 1152) * 3 + n.val / 384 % 3) * 3 + n.val / 128 % 3) * 128 + n.val % 128; omega)

/-- Columns in the array's order, put back in the weight's. -/
theorem of_cols (x : (⟨2, ![4096, 2304]⟩ : Shape).Idx → EReal) (h1 : (⟨2, ![4096, 2304]⟩ : Shape).ShapeCasts ⟨5, ![4096, 2, 3, 3, 128]⟩)
    (h2 : (⟨5, ![4096, 2, 3, 3, 128]⟩ : Shape).Transposes [0, 3, 2, 1, 4] ⟨5, ![4096, 3, 3, 2, 128]⟩)
    (h3 : (⟨5, ![4096, 3, 3, 2, 128]⟩ : Shape).ShapeCasts ⟨2, ![4096, 2304]⟩) (t : Fin 4096) (n : Fin 2304) :
    shapeCast ⟨2, ![4096, 2304]⟩ (transpose ⟨5, ![4096, 3, 3, 2, 128]⟩ [0, 3, 2, 1, 4] (shapeCast ⟨5, ![4096, 2, 3, 3, 128]⟩ x h1) h2) h3 (ix2 t n)
      = x (ix2 t (ofPair n)) := by
  have key : ∀ (a : Fin 3) (b : Fin 3) (d : Fin 2) (l : Fin 128), n.val = ((a.val * 3 + b.val) * 2 + d.val) * 128 + l.val →
      shapeCast ⟨2, ![4096, 2304]⟩ (transpose ⟨5, ![4096, 3, 3, 2, 128]⟩ [0, 3, 2, 1, 4] (shapeCast ⟨5, ![4096, 2, 3, 3, 128]⟩ x h1) h2) h3 (ix2 t n)
        = x (ix2 t (ofPair n)) := fun a b d l hn => by
    refine (shapeCast_apply _ h3 (ix2 t n) (ix5 t a b d l) ?_).trans ?_
    · rw [Shape.rowMajor_val_five, Shape.rowMajor_val_two]
      show (((t.val * 3 + a.val) * 3 + b.val) * 2 + d.val) * 128 + l.val = t.val * 2304 + n.val
      omega
    refine (transpose_apply _ _ h2 (ix5 t a b d l) (ix5 t d b a l) fun c => ?_).trans ?_
    · match c with | ⟨0, _⟩ => rfl | ⟨1, _⟩ => rfl | ⟨2, _⟩ => rfl | ⟨3, _⟩ => rfl | ⟨4, _⟩ => rfl
    refine shapeCast_apply x h1 (ix5 t d b a l) (ix2 t (ofPair n)) ?_
    rw [Shape.rowMajor_val_five, Shape.rowMajor_val_two]
    show t.val * 2304 + (ofPair n).val = (((t.val * 2 + d.val) * 3 + b.val) * 3 + a.val) * 128 + l.val
    rw [show (ofPair n).val = _ from ofPair_val n.val a.val b.val d.val l.val a.isLt b.isLt d.isLt l.isLt hn]; omega
  exact key ⟨n.val / 768, by omega⟩ ⟨n.val / 256 % 3, by omega⟩ ⟨n.val / 128 % 2, by omega⟩ ⟨n.val % 128, by omega⟩ (by show n.val = (((n.val / 768) * 3 + n.val / 256 % 3) * 2 + n.val / 128 % 2) * 128 + n.val % 128; omega)

/-- An array's columns put back in the weight's order. -/
def back (y : (⟨2, ![4096, 2304]⟩ : Shape).Idx → EReal) : (⟨2, ![4096, 2304]⟩ : Shape).Idx → EReal := fun i => y (ix2 (i 0) (ofPair (i 1)))

/-- A product over the array's columns against the reordered weight is the product over the weight's columns of the
    array put back in order. -/
theorem plain_swap {n p : Nat} (x : (⟨2, ![n, 2304]⟩ : Shape).Idx → EReal) (w : (⟨2, ![p, 2304]⟩ : Shape).Idx → EReal)
    (v : (⟨2, ![2304, p]⟩ : Shape).Idx → EReal) (y : (⟨2, ![n, 2304]⟩ : Shape).Idx → EReal)
    (hv : ∀ k j, v (ix2 k j) = w (ix2 j (toPair k))) (hy : ∀ i k, y (ix2 i k) = x (ix2 i (ofPair k))) :
    plain (n := n) (p := p) (q := 2304) x v = rows (n := n) (p := p) (q := 2304) y w := by
  funext i
  refine (Equiv.sum_comp swap (fun k => x (ix2 (i 0) k) * v (ix2 k (i 1)))).symm.trans (Finset.sum_congr rfl fun k _ => ?_)
  refine congrArg₂ (· * ·) (hy (i 0) k).symm ((hv (ofPair k) (i 1)).trans ?_)
  rw [to_of]

end Cert.Proof.Pairs

end
-- ==== Proof.ProjRun.lean ====
/-
  The input projections' run, read at every buffer: each ends at what the fold through @main leaves there. From it, each
  result array is followed back through the six regions to the arguments.
-/
module

public import proofs.«01_k».proof.Proof.ProjOut
public import proofs.«01_k».proof.Proof.ProjW
public import proofs.«01_k».proof.Proof.Pairs

@[expose] public section

set_option maxRecDepth 16384

noncomputable section

namespace Cert.Proof.ProjRun

open Cert.ProjIdeal Cert.ProjIdeal.Gen Idealize.ShloMosaic.TcCoe Idealize.ShloMosaic.Tactic
open Idealize.ShloMosaic hiding ix1 ix2 ix3 eq_ix1 eq_ix2
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx Cert.Proof.Products Cert.Proof.Spec Cert.Proof.Pairs

section Any

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer of every core ends at the fold's last contents: the segments' launch, with the last thread state read
    against the final memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h _ => h)

end Any

section Results

variable (m : (ℓ : Loc nD τ sig) → Buf (Elt Ideal) ℓ) (ρ : Dev nD → PrngReg) (c : Dev nD)

/-! ### The arguments, by what they are -/

abbrev h : S4096x1024.Idx → EReal := m ((c : Thread nD τ).loc main_arg0)
abbrev wq : S1024x2304.Idx → EReal := m ((c : Thread nD τ).loc main_arg1)
abbrev wu : S1024x512.Idx → EReal := m ((c : Thread nD τ).loc main_arg2)
abbrev wg : S1024x2048.Idx → EReal := m ((c : Thread nD τ).loc main_arg3)
abbrev dqkv : S4096x2304.Idx → EReal := m ((c : Thread nD τ).loc main_arg4)
abbrev du : S4096x512.Idx → EReal := m ((c : Thread nD τ).loc main_arg5)
abbrev dgl : S4096x2048.Idx → EReal := m ((c : Thread nD τ).loc main_arg6)

/-! ### The results, of the arguments -/

abbrev U : S4096x512.Idx → EReal := plain (n := 4096) (p := 512) (q := 1024) (h m c) (wu m c)
abbrev Gl : S4096x2048.Idx → EReal := plain (n := 4096) (p := 2048) (q := 1024) (h m c) (wg m c)
abbrev DWq : S2304x1024.Idx → EReal := cols (n := 2304) (p := 1024) (q := 4096) (back (dqkv m c)) (h m c)
abbrev DWu : S512x1024.Idx → EReal := cols (n := 512) (p := 1024) (q := 4096) (du m c) (h m c)
abbrev DWg : S2048x1024.Idx → EReal := cols (n := 2048) (p := 1024) (q := 4096) (dgl m c) (h m c)
abbrev DH : S4096x1024.Idx → EReal := rows (n := 4096) (p := 1024) (q := 2304) (back (dqkv m c)) (wq m c)

/-! ### What the host lines before the first region leave -/

theorem W1_v4 : W1 m ρ c (Proc.devRef .tc main_v4) = shapeCast S2304x1024 (transpose S2x3x3x128x1024 [2, 1, 0, 3, 4] (shapeCast S3x3x2x128x1024 (transpose S2304x1024 [1, 0] (wq m c) transposes_S1024x2304_S2304x1024_1_0) shapeCasts_S2304x1024_S3x3x2x128x1024) transposes_S3x3x2x128x1024_S2x3x3x128x1024_2_1_0_3_4) shapeCasts_S2x3x3x128x1024_S2304x1024 := by
  unfold W1 hostOps0; after_results_simp; rfl
theorem W1_v6 : W1 m ρ c (Proc.devRef .tc main_v6) = transpose S512x1024 [1, 0] (wu m c) transposes_S1024x512_S512x1024_1_0 := by
  unfold W1 hostOps0; after_results_simp; rfl
theorem W1_v8 : W1 m ρ c (Proc.devRef .tc main_v8) = transpose S2048x1024 [1, 0] (wg m c) transposes_S1024x2048_S2048x1024_1_0 := by
  unfold W1 hostOps0; after_results_simp; rfl
theorem W2_v8 : W2 m ρ c (Proc.devRef .tc main_v8) = transpose S2048x1024 [1, 0] (wg m c) transposes_S1024x2048_S2048x1024_1_0 := (W2_of m ρ c main_v8 (by decide)).trans (W1_v8 m ρ c)
theorem W2_v4 : W2 m ρ c (Proc.devRef .tc main_v4) = shapeCast S2304x1024 (transpose S2x3x3x128x1024 [2, 1, 0, 3, 4] (shapeCast S3x3x2x128x1024 (transpose S2304x1024 [1, 0] (wq m c) transposes_S1024x2304_S2304x1024_1_0) shapeCasts_S2304x1024_S3x3x2x128x1024) transposes_S3x3x2x128x1024_S2x3x3x128x1024_2_1_0_3_4) shapeCasts_S2x3x3x128x1024_S2304x1024 := (W2_of m ρ c main_v4 (by decide)).trans (W1_v4 m ρ c)
theorem W3_v4 : W3 m ρ c (Proc.devRef .tc main_v4) = shapeCast S2304x1024 (transpose S2x3x3x128x1024 [2, 1, 0, 3, 4] (shapeCast S3x3x2x128x1024 (transpose S2304x1024 [1, 0] (wq m c) transposes_S1024x2304_S2304x1024_1_0) shapeCasts_S2304x1024_S3x3x2x128x1024) transposes_S3x3x2x128x1024_S2x3x3x128x1024_2_1_0_3_4) shapeCasts_S2x3x3x128x1024_S2304x1024 := (W3_of m ρ c main_v4 (by decide)).trans (W2_v4 m ρ c)
theorem W4_v4 : W4 m ρ c (Proc.devRef .tc main_v4) = shapeCast S2304x1024 (transpose S2x3x3x128x1024 [2, 1, 0, 3, 4] (shapeCast S3x3x2x128x1024 (transpose S2304x1024 [1, 0] (wq m c) transposes_S1024x2304_S2304x1024_1_0) shapeCasts_S2304x1024_S3x3x2x128x1024) transposes_S3x3x2x128x1024_S2x3x3x128x1024_2_1_0_3_4) shapeCasts_S2x3x3x128x1024_S2304x1024 := (W4_of m ρ c main_v4 (by decide)).trans (W3_v4 m ρ c)
theorem W5_v4 : W5 m ρ c (Proc.devRef .tc main_v4) = shapeCast S2304x1024 (transpose S2x3x3x128x1024 [2, 1, 0, 3, 4] (shapeCast S3x3x2x128x1024 (transpose S2304x1024 [1, 0] (wq m c) transposes_S1024x2304_S2304x1024_1_0) shapeCasts_S2304x1024_S3x3x2x128x1024) transposes_S3x3x2x128x1024_S2x3x3x128x1024_2_1_0_3_4) shapeCasts_S2x3x3x128x1024_S2304x1024 := (W5_of m ρ c main_v4 (by decide)).trans (W4_v4 m ρ c)
theorem W6_v4 : W6 m ρ c (Proc.devRef .tc main_v4) = shapeCast S2304x1024 (transpose S2x3x3x128x1024 [2, 1, 0, 3, 4] (shapeCast S3x3x2x128x1024 (transpose S2304x1024 [1, 0] (wq m c) transposes_S1024x2304_S2304x1024_1_0) shapeCasts_S2304x1024_S3x3x2x128x1024) transposes_S3x3x2x128x1024_S2x3x3x128x1024_2_1_0_3_4) shapeCasts_S2x3x3x128x1024_S2304x1024 := (W6_of m ρ c main_v4 (by decide)).trans (W5_v4 m ρ c)
theorem W1_h : W1 m ρ c (Proc.devRef .tc main_arg0) = h m c := W1_args m ρ c main_arg0 (by decide)
theorem W2_h : W2 m ρ c (Proc.devRef .tc main_arg0) = h m c := W2_args m ρ c main_arg0 (by decide)
theorem W3_h : W3 m ρ c (Proc.devRef .tc main_arg0) = h m c := W3_args m ρ c main_arg0 (by decide)
theorem W3_dqkv : W3 m ρ c (Proc.devRef .tc main_arg4) = dqkv m c := W3_args m ρ c main_arg4 (by decide)
theorem W4_h : W4 m ρ c (Proc.devRef .tc main_arg0) = h m c := W4_args m ρ c main_arg0 (by decide)
theorem W4_du : W4 m ρ c (Proc.devRef .tc main_arg5) = du m c := W4_args m ρ c main_arg5 (by decide)
theorem W5_h : W5 m ρ c (Proc.devRef .tc main_arg0) = h m c := W5_args m ρ c main_arg0 (by decide)
theorem W5_dgl : W5 m ρ c (Proc.devRef .tc main_arg6) = dgl m c := W5_args m ρ c main_arg6 (by decide)
theorem W6_dqkv : W6 m ρ c (Proc.devRef .tc main_arg4) = dqkv m c := W6_args m ρ c main_arg4 (by decide)

/-! ### What each region leaves -/

theorem W2_u : W2 m ρ c (Proc.devRef .tc main_v9) = U m c := by
  refine (W2_arr m ρ c 2).trans ((ProjOut.arr0 _ c).trans ?_)
  show rows (n := 4096) (p := 512) (q := 1024) (W1 m ρ c (Proc.devRef .tc main_arg0)) (W1 m ρ c (Proc.devRef .tc main_v6)) = _
  rw [W1_h, W1_v6]
  exact rows_transpose _ _ _
theorem W3_gl : W3 m ρ c (Proc.devRef .tc main_v10) = Gl m c := by
  refine (W3_arr m ρ c 2).trans ((ProjOut.arr1 _ c).trans ?_)
  show rows (n := 4096) (p := 2048) (q := 1024) (W2 m ρ c (Proc.devRef .tc main_arg0)) (W2 m ρ c (Proc.devRef .tc main_v8)) = _
  rw [W2_h, W2_v8]
  exact rows_transpose _ _ _
theorem W4_dwq : W4 m ρ c (Proc.devRef .tc main_v11) = cols (n := 2304) (p := 1024) (q := 4096) (dqkv m c) (h m c) := by
  refine (W4_arr m ρ c 2).trans ((ProjW.arr2 _ c).trans ?_)
  show cols (n := 2304) (p := 1024) (q := 4096) (W3 m ρ c (Proc.devRef .tc main_arg4)) (W3 m ρ c (Proc.devRef .tc main_arg0)) = _
  rw [W3_h, W3_dqkv]
theorem W5_dwu : W5 m ρ c (Proc.devRef .tc main_v12) = DWu m c := by
  refine (W5_arr m ρ c 2).trans ((ProjW.arr3 _ c).trans ?_)
  show cols (n := 512) (p := 1024) (q := 4096) (W4 m ρ c (Proc.devRef .tc main_arg5)) (W4 m ρ c (Proc.devRef .tc main_arg0)) = _
  rw [W4_h, W4_du]
theorem W6_dwg : W6 m ρ c (Proc.devRef .tc main_v13) = DWg m c := by
  refine (W6_arr m ρ c 2).trans ((ProjW.arr4 _ c).trans ?_)
  show cols (n := 2048) (p := 1024) (q := 4096) (W5 m ρ c (Proc.devRef .tc main_arg6)) (W5 m ρ c (Proc.devRef .tc main_arg0)) = _
  rw [W5_h, W5_dgl]
theorem W7_dh : W7 m ρ c (Proc.devRef .tc main_v14) = DH m c := by
  refine (W7_arr m ρ c 2).trans ((ProjOut.arr5 _ c).trans ?_)
  show plain (n := 4096) (p := 1024) (q := 2304) (W6 m ρ c (Proc.devRef .tc main_arg4)) (W6 m ρ c (Proc.devRef .tc main_v4)) = _
  rw [W6_dqkv, W6_v4]
  refine plain_swap (n := 4096) (p := 1024) (dqkv m c) (wq m c) _ (back (dqkv m c)) (fun k j => ?_) fun i k => rfl
  exact (to_rows _ _ _ _ k j).trans (transpose_ix2_apply (wq m c) _ (toPair k) j)

/-! ### At the end -/

theorem W7_dwq : W7 m ρ c (Proc.devRef .tc main_v11) = cols (n := 2304) (p := 1024) (q := 4096) (dqkv m c) (h m c) :=
  (W7_of m ρ c main_v11 (by decide)).trans ((W6_of m ρ c main_v11 (by decide)).trans ((W5_of m ρ c main_v11 (by decide)).trans (W4_dwq m ρ c)))
theorem W8_dwq : W8 m ρ c (Proc.devRef .tc main_v17) = DWq m c := by
  have e : W8 m ρ c (Proc.devRef .tc main_v17) = shapeCast S2304x1024 (transpose S3x3x2x128x1024 [2, 1, 0, 3, 4] (shapeCast S2x3x3x128x1024 (W7 m ρ c (Proc.devRef .tc main_v11)) shapeCasts_S2304x1024_S2x3x3x128x1024) transposes_S2x3x3x128x1024_S3x3x2x128x1024_2_1_0_3_4) shapeCasts_S3x3x2x128x1024_S2304x1024 := by
    unfold W8 hostOps6; after_results_simp; rfl
  rw [e, W7_dwq]
  funext i
  conv_lhs => rw [eq_ix2 i]
  exact of_rows _ _ _ _ (i 0) (i 1)
theorem W8_u : W8 m ρ c (Proc.devRef .tc main_v9) = U m c :=
  (W8_of m ρ c main_v9 (by decide)).trans ((W7_of m ρ c main_v9 (by decide)).trans ((W6_of m ρ c main_v9 (by decide)).trans ((W5_of m ρ c main_v9 (by decide)).trans ((W4_of m ρ c main_v9 (by decide)).trans ((W3_of m ρ c main_v9 (by decide)).trans (W2_u m ρ c))))))
theorem W8_gl : W8 m ρ c (Proc.devRef .tc main_v10) = Gl m c :=
  (W8_of m ρ c main_v10 (by decide)).trans ((W7_of m ρ c main_v10 (by decide)).trans ((W6_of m ρ c main_v10 (by decide)).trans ((W5_of m ρ c main_v10 (by decide)).trans ((W4_of m ρ c main_v10 (by decide)).trans (W3_gl m ρ c)))))
theorem W8_dwu : W8 m ρ c (Proc.devRef .tc main_v12) = DWu m c :=
  (W8_of m ρ c main_v12 (by decide)).trans ((W7_of m ρ c main_v12 (by decide)).trans ((W6_of m ρ c main_v12 (by decide)).trans (W5_dwu m ρ c)))
theorem W8_dwg : W8 m ρ c (Proc.devRef .tc main_v13) = DWg m c :=
  (W8_of m ρ c main_v13 (by decide)).trans ((W7_of m ρ c main_v13 (by decide)).trans (W6_dwg m ρ c))
theorem W8_dh : W8 m ρ c (Proc.devRef .tc main_v14) = DH m c :=
  (W8_of m ρ c main_v14 (by decide)).trans (W7_dh m ρ c)

omit c in
/-- The run of the input projections and their gradients: six results, of the arguments it was launched with, and the
    arguments kept. -/
theorem results : θ_run defs (onTc (τ := τ) (main (F := Ideal))) ⟨m, fun _ => 0, ρ⟩ (fun r => ∀ c : Dev nD,
      r.2.mem ((c : Thread nD τ).loc main_v9) = U m c
      ∧ r.2.mem ((c : Thread nD τ).loc main_v10) = Gl m c
      ∧ r.2.mem ((c : Thread nD τ).loc main_v17) = DWq m c
      ∧ r.2.mem ((c : Thread nD τ).loc main_v12) = DWu m c
      ∧ r.2.mem ((c : Thread nD τ).loc main_v13) = DWg m c
      ∧ r.2.mem ((c : Thread nD τ).loc main_v14) = DH m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) :=
  (θ_run defs _ _).mono (fun _ h c =>
    ⟨(h c _ (mem_uc main_v9 (by decide))).trans (W8_u m ρ c),
     (h c _ (mem_uc main_v10 (by decide))).trans (W8_gl m ρ c),
     (h c _ (mem_uc main_v17 (by decide))).trans (W8_dwq m ρ c),
     (h c _ (mem_uc main_v12 (by decide))).trans (W8_dwu m ρ c),
     (h c _ (mem_uc main_v13 (by decide))).trans (W8_dwg m ρ c),
     (h c _ (mem_uc main_v14 (by decide))).trans (W8_dh m ρ c),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c)⟩) (run_all m ρ)

end Results

end Cert.Proof.ProjRun

end
-- ==== Proof.ProjRef.lean ====
/-
  The input projections' reference: its six results, and the agreement with the pipelined calls.
-/
module

public import proofs.«01_k».proof.Defs
public import proofs.«01_k».proof.Proof.ProjRun
public import proofs.«01_k».proof.Proof.Gen.ProjRefIdeal.Run
public import Idealize.ShloMosaic.Lib.Quiescent

@[expose] public section

set_option maxRecDepth 16384

noncomputable section

namespace Cert.Proof.ProjRef

open Idealize.ShloMosaic.TcCoe Idealize.SL.Sem Idealize.ShloMosaic.Ideal
open Idealize.ShloMosaic hiding ix1 ix2 ix3 eq_ix1 eq_ix2
open Idealize.ShloMosaic.ValueIdx
open Cert.Proof.Products Cert.Proof.Spec Cert.Proof.Pairs

section Reference

open Cert.ProjRefIdeal Cert.ProjRefIdeal.Gen

theorem dot_u (x : FVec Ideal S4096x1024 .f32) (w : FVec Ideal S1024x512 .f32) :
    Host.dotGeneral (F := Ideal) dot_S4096x1024_S1024x512_S4096x512_1_0_0_1_n_n none x w = plain x w := by
  funext j
  simp only [Host.dotGeneral]
  rw [dotGeneral_apply,
    ← Equiv.sum_comp (contrEquiv1 dot_S4096x1024_S1024x512_S4096x512_1_0_0_1_n_n 1024 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

theorem dot_gl (x : FVec Ideal S4096x1024 .f32) (w : FVec Ideal S1024x2048 .f32) :
    Host.dotGeneral (F := Ideal) dot_S4096x1024_S1024x2048_S4096x2048_1_0_0_1_n_n none x w = plain x w := by
  funext j
  simp only [Host.dotGeneral]
  rw [dotGeneral_apply,
    ← Equiv.sum_comp (contrEquiv1 dot_S4096x1024_S1024x2048_S4096x2048_1_0_0_1_n_n 1024 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

theorem dot_wq (x : FVec Ideal S4096x2304 .f32) (w : FVec Ideal S4096x1024 .f32) :
    Host.dotGeneral (F := Ideal) dot_S4096x2304_S4096x1024_S2304x1024_0_0_1_1_n_n none x w = cols x w := by
  funext j
  simp only [Host.dotGeneral]
  rw [dotGeneral_apply,
    ← Equiv.sum_comp (contrEquiv1 dot_S4096x2304_S4096x1024_S2304x1024_0_0_1_1_n_n 4096 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

theorem dot_wu (x : FVec Ideal S4096x512 .f32) (w : FVec Ideal S4096x1024 .f32) :
    Host.dotGeneral (F := Ideal) dot_S4096x512_S4096x1024_S512x1024_0_0_1_1_n_n none x w = cols x w := by
  funext j
  simp only [Host.dotGeneral]
  rw [dotGeneral_apply,
    ← Equiv.sum_comp (contrEquiv1 dot_S4096x512_S4096x1024_S512x1024_0_0_1_1_n_n 4096 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

theorem dot_wg (x : FVec Ideal S4096x2048 .f32) (w : FVec Ideal S4096x1024 .f32) :
    Host.dotGeneral (F := Ideal) dot_S4096x2048_S4096x1024_S2048x1024_0_0_1_1_n_n none x w = cols x w := by
  funext j
  simp only [Host.dotGeneral]
  rw [dotGeneral_apply,
    ← Equiv.sum_comp (contrEquiv1 dot_S4096x2048_S4096x1024_S2048x1024_0_0_1_1_n_n 4096 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

theorem dot_dh (x : FVec Ideal S4096x2304 .f32) (w : FVec Ideal S1024x2304 .f32) :
    Host.dotGeneral (F := Ideal) dot_S4096x2304_S1024x2304_S4096x1024_1_1_0_0_n_n none x w = rows x w := by
  funext j
  simp only [Host.dotGeneral]
  rw [dotGeneral_apply,
    ← Equiv.sum_comp (contrEquiv1 dot_S4096x2304_S1024x2304_S4096x1024_1_1_0_0_n_n 2304 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

/-- A transpose undone by another. -/
theorem twice {a b : Nat} (x : (⟨2, ![a, b]⟩ : Shape).Idx → EReal) (h : (⟨2, ![a, b]⟩ : Shape).Transposes [1, 0] ⟨2, ![b, a]⟩)
    (h' : (⟨2, ![b, a]⟩ : Shape).Transposes [1, 0] ⟨2, ![a, b]⟩) :
    transpose ⟨2, ![a, b]⟩ [1, 0] (transpose ⟨2, ![b, a]⟩ [1, 0] x h) h' = x := by
  funext i
  refine (transpose_at _ h' i).trans ((transpose_at x h _).trans (congrArg x ?_))
  exact (eq_ix2 i).symm

theorem unpair (x : S4096x2304.Idx → EReal) : shapeCast S4096x2304 (transpose S4096x3x3x2x128 [0, 3, 2, 1, 4]
      (shapeCast S4096x2x3x3x128 x shapeCasts_S4096x2304_S4096x2x3x3x128) transposes_S4096x2x3x3x128_S4096x3x3x2x128_0_3_2_1_4)
      shapeCasts_S4096x3x3x2x128_S4096x2304 = back x := by
  funext i
  conv_lhs => rw [eq_ix2 i]
  exact of_cols _ _ _ _ (i 0) (i 1)

variable (m : (ℓ : Loc nD τ sig) → Buf (Elt Ideal) ℓ) (ρ : Dev nD → PrngReg) (c : Dev nD)

abbrev h : S4096x1024.Idx → EReal := m ((c : Thread nD τ).loc main_arg0)
abbrev wq : S1024x2304.Idx → EReal := m ((c : Thread nD τ).loc main_arg1)
abbrev wu : S1024x512.Idx → EReal := m ((c : Thread nD τ).loc main_arg2)
abbrev wg : S1024x2048.Idx → EReal := m ((c : Thread nD τ).loc main_arg3)
abbrev dqkv : S4096x2304.Idx → EReal := m ((c : Thread nD τ).loc main_arg4)
abbrev du : S4096x512.Idx → EReal := m ((c : Thread nD τ).loc main_arg5)
abbrev dgl : S4096x2048.Idx → EReal := m ((c : Thread nD τ).loc main_arg6)

abbrev U : S4096x512.Idx → EReal := plain (n := 4096) (p := 512) (q := 1024) (h m c) (wu m c)
abbrev Gl : S4096x2048.Idx → EReal := plain (n := 4096) (p := 2048) (q := 1024) (h m c) (wg m c)
abbrev DWq : S2304x1024.Idx → EReal := cols (n := 2304) (p := 1024) (q := 4096) (back (dqkv m c)) (h m c)
abbrev DWu : S512x1024.Idx → EReal := cols (n := 512) (p := 1024) (q := 4096) (du m c) (h m c)
abbrev DWg : S2048x1024.Idx → EReal := cols (n := 2048) (p := 1024) (q := 4096) (dgl m c) (h m c)
abbrev DH : S4096x1024.Idx → EReal := rows (n := 4096) (p := 1024) (q := 2304) (back (dqkv m c)) (wq m c)

omit c in
theorem results : θ_run defs (onTc (τ := τ) (main (F := Ideal))) ⟨m, fun _ => 0, ρ⟩ (fun r => ∀ c : Dev nD,
      r.2.mem ((c : Thread nD τ).loc main_v5) = U m c
      ∧ r.2.mem ((c : Thread nD τ).loc main_v14) = Gl m c
      ∧ r.2.mem ((c : Thread nD τ).loc main_v15) = DWq m c
      ∧ r.2.mem ((c : Thread nD τ).loc main_v19) = DWu m c
      ∧ r.2.mem ((c : Thread nD τ).loc main_v23) = DWg m c
      ∧ r.2.mem ((c : Thread nD τ).loc main_v13) = DH m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) := by
  refine (θ_run defs _ _).mono (fun _ h c => ?_) (Value.run (F := Ideal) m ρ)
  obtain ⟨h0, h1, h2, h3, h4, h5, hargs⟩ := h c
  exact ⟨h0.trans (dot_u _ _), h1.trans (dot_gl _ _),
    h2.trans ((twice _ _ _).trans ((dot_wq _ _).trans (congrArg (fun z => cols (n := 2304) (p := 1024) (q := 4096) z _) (unpair _)))),
    h3.trans ((twice _ _ _).trans (dot_wu _ _)), h4.trans ((twice _ _ _).trans (dot_wg _ _)),
    h5.trans ((dot_dh _ _).trans (congrArg (fun z => rows (n := 4096) (p := 1024) (q := 2304) z _) (unpair _))), hargs⟩

end Reference

/-- The reference terminates, keeps its arguments, and has no counter to leave. -/
theorem reference_frame : Cert.quiescent_ProjRefIdeal (hProjRefIdeal := Cert.ProjRefIdeal.Gen.facts) :=
  fun m ρ _ => (θ_run Cert.ProjRefIdeal.defs _ _).mono
    (fun r h => ⟨fun c => (h c).2.2.2.2.2.2, sem_eq_zero_of_no_sems (by decide) r.2⟩)
    (Cert.ProjRefIdeal.Value.run (F := Ideal) m ρ)

theorem value : Cert.algebraic_ProjIdeal_ProjRefIdeal (hProjIdeal := Cert.ProjIdeal.Gen.facts)
    (hProjRefIdeal := Cert.ProjRefIdeal.Gen.facts) := by
  intro m g m' g' _ hargs
  refine ⟨_, _, _, _, _, _, ProjRun.results m g, (θ_run Cert.ProjRefIdeal.defs _ _).mono (fun r h c => ?_) (results m' g')⟩
  obtain ⟨e0, e1, e2, e3, e4, e5, e6⟩ := hargs c
  have hkeep := (h c).2.2.2.2.2.2
  have h := h c
  unfold U Gl DWq DWu DWg DH ProjRef.h wq wu wg dqkv du dgl at h
  rw [e0, e1, e2, e3, e4, e5, e6] at h
  obtain ⟨h0, h1, h2, h3, h4, h5, -⟩ := h
  exact ⟨h0, h1, h2, h3, h4, h5, hkeep⟩

end Cert.Proof.ProjRef

end
-- ==== Proof.RopeSpec.lean ====
/-
  The rotary embedding of queries and keys, written two ways: on a head's first sixteen lanes by halves, and on a pair of
  heads as three products with tables over 128 lanes, the second and third of the rows moved by eight lanes either way.
-/
module

public import proofs.«01_k».proof.Proof.Pairs

@[expose] public section

set_option maxRecDepth 16384

noncomputable section

namespace Cert.Proof.RopeSpec

open Idealize.ShloMosaic Idealize.ShloMosaic.ValueIdx Cert.Proof.Pairs

/-- A row's position in its sequence. -/
def pos (r : Fin 4096) : Fin 2048 := ⟨r.val % 2048, Nat.mod_lt _ (by decide)⟩

section Plain

variable (Q : (⟨2, ![4096, 2304]⟩ : Shape).Idx → EReal) (cos sin : (⟨2, ![2048, 8]⟩ : Shape).Idx → EReal)

/-- The projection turned by its row's angles, at a column in the weight's order. -/
def turned (r : Fin 4096) (n : Fin 2304) : EReal :=
  if h : n.val % 64 < 8 then
    Q (ix2 r n) * cos (ix2 (pos r) ⟨n.val % 64, h⟩) - Q (ix2 r ⟨n.val + 8, by omega⟩) * sin (ix2 (pos r) ⟨n.val % 64, h⟩)
  else if h' : n.val % 64 < 16 then
    Q (ix2 r n) * cos (ix2 (pos r) ⟨n.val % 64 - 8, by omega⟩) + Q (ix2 r ⟨n.val - 8, by omega⟩) * sin (ix2 (pos r) ⟨n.val % 64 - 8, by omega⟩)
  else Q (ix2 r n)

theorem turned_low (r : Fin 4096) (n n' : Fin 2304) (e : Fin 8) (h : n.val % 64 = e.val) (h' : n'.val = n.val + 8) :
    turned Q cos sin r n = Q (ix2 r n) * cos (ix2 (pos r) e) - Q (ix2 r n') * sin (ix2 (pos r) e) := by
  have hl : n.val % 64 < 8 := by omega
  have e1 : (⟨n.val % 64, hl⟩ : Fin 8) = e := Fin.ext h
  have e2 : (⟨n.val + 8, by omega⟩ : Fin 2304) = n' := Fin.ext h'.symm
  unfold turned; rw [dif_pos hl, e1, e2]
theorem turned_high (r : Fin 4096) (n n' : Fin 2304) (e : Fin 8) (h : n.val % 64 = e.val + 8) (h' : n'.val + 8 = n.val) :
    turned Q cos sin r n = Q (ix2 r n) * cos (ix2 (pos r) e) + Q (ix2 r n') * sin (ix2 (pos r) e) := by
  have hl : ¬n.val % 64 < 8 := by omega
  have hh : n.val % 64 < 16 := by omega
  have e1 : (⟨n.val % 64 - 8, by omega⟩ : Fin 8) = e := Fin.ext (by show n.val % 64 - 8 = e.val; omega)
  have e2 : (⟨n.val - 8, by omega⟩ : Fin 2304) = n' := Fin.ext (by show n.val - 8 = n'.val; omega)
  unfold turned; rw [dif_neg hl, dif_pos hh, e1, e2]
theorem turned_rest (r : Fin 4096) (n : Fin 2304) (h : 16 ≤ n.val % 64) : turned Q cos sin r n = Q (ix2 r n) := by
  unfold turned; rw [dif_neg (by omega), dif_neg (by omega)]

/-- Queries turned and scaled, keys turned, values as they are. -/
def full (s : EReal) (r : Fin 4096) (n : Fin 2304) : EReal :=
  if n.val / 768 = 0 then turned Q cos sin r n * s
  else if n.val / 768 = 1 then turned Q cos sin r n
  else Q (ix2 r n)

end Plain

section Laid

variable {n w : Nat} (hw : 128 ∣ w) (X : (⟨2, ![n, w]⟩ : Shape).Idx → EReal) (c a b : (⟨2, ![n, 128]⟩ : Shape).Idx → EReal)

/-- The lane of a column. -/
def lane (k : Fin w) : Fin 128 := ⟨k.val % 128, Nat.mod_lt _ (by decide)⟩
/-- The column `d` lanes on, around the end of its 128. -/
def moved (k : Fin w) (d : ℕ) : Fin w :=
  ⟨k.val / 128 * 128 + (k.val % 128 + d) % 128, by have := k.isLt; have := Nat.mod_lt (k.val % 128 + d) (show 0 < 128 by decide); omega⟩

/-- The three products with the tables. -/
def mixed (r : Fin n) (k : Fin w) : EReal :=
  X (ix2 r k) * c (ix2 r (lane k)) + X (ix2 r (moved hw k 8)) * a (ix2 r (lane k)) + X (ix2 r (moved hw k 120)) * b (ix2 r (lane k))

/-- Of three blocks of 128 columns the first is turned and scaled, the second turned, the third as it is. -/
def laid (s : EReal) (r : Fin n) (k : Fin w) : EReal :=
  if k.val / 128 % 3 = 0 then mixed hw X c a b r k * s
  else if k.val / 128 % 3 = 1 then mixed hw X c a b r k
  else X (ix2 r k)

end Laid

/-- A block of the array is laid out like the array. -/
theorem laid_congr {n w n' w' : Nat} (hw : 128 ∣ w) (hw' : 128 ∣ w') (X : (⟨2, ![n, w]⟩ : Shape).Idx → EReal)
    (c a b : (⟨2, ![n, 128]⟩ : Shape).Idx → EReal) (X' : (⟨2, ![n', w']⟩ : Shape).Idx → EReal)
    (c' a' b' : (⟨2, ![n', 128]⟩ : Shape).Idx → EReal) (s : EReal) (r : Fin n) (r' : Fin n') (o : ℕ) (ho : 384 ∣ o)
    (hX : ∀ (k : Fin w) (k' : Fin w'), k'.val = o + k.val → X (ix2 r k) = X' (ix2 r' k'))
    (hc : ∀ l, c (ix2 r l) = c' (ix2 r' l)) (ha : ∀ l, a (ix2 r l) = a' (ix2 r' l)) (hb : ∀ l, b (ix2 r l) = b' (ix2 r' l))
    (k : Fin w) (k' : Fin w') (h : k'.val = o + k.val) :
    laid hw X c a b s r k = laid hw' X' c' a' b' s r' k' := by
  have hl : lane k = lane k' := Fin.ext (by show k.val % 128 = k'.val % 128; omega)
  have hm : ∀ d, (moved hw' k' d).val = o + (moved hw k d).val := fun d => by
    show k'.val / 128 * 128 + (k'.val % 128 + d) % 128 = o + (k.val / 128 * 128 + (k.val % 128 + d) % 128)
    have e : k'.val % 128 = k.val % 128 := by omega
    rw [e]; omega
  have hq : k.val / 128 % 3 = k'.val / 128 % 3 := by omega
  have hx : mixed hw X c a b r k = mixed hw' X' c' a' b' r' k' := by
    unfold mixed
    rw [hX k k' h, hX _ _ (hm 8), hX _ _ (hm 120), hc, ha, hb, hl]
  unfold laid
  rw [hq, hx, hX k k' h]

/-- What the three tables over 128 lanes hold of the angles. -/
structure Tables (cos sin : (⟨2, ![2048, 8]⟩ : Shape).Idx → EReal) (c a b : (⟨2, ![2048, 128]⟩ : Shape).Idx → EReal) : Prop where
  c_low : ∀ p (l : Fin 128) (e : Fin 8), l.val % 64 = e.val → c (ix2 p l) = cos (ix2 p e)
  c_high : ∀ p (l : Fin 128) (e : Fin 8), l.val % 64 = e.val + 8 → c (ix2 p l) = cos (ix2 p e)
  c_rest : ∀ p (l : Fin 128), 16 ≤ l.val % 64 → c (ix2 p l) = 1
  a_low : ∀ p (l : Fin 128) (e : Fin 8), l.val % 64 = e.val → a (ix2 p l) = -sin (ix2 p e)
  a_rest : ∀ p (l : Fin 128), 8 ≤ l.val % 64 → a (ix2 p l) = 0
  b_low : ∀ p (l : Fin 128), l.val % 64 < 8 → b (ix2 p l) = 0
  b_high : ∀ p (l : Fin 128) (e : Fin 8), l.val % 64 = e.val + 8 → b (ix2 p l) = sin (ix2 p e)
  b_rest : ∀ p (l : Fin 128), 16 ≤ l.val % 64 → b (ix2 p l) = 0

/-- A table's rows, repeated for each sequence. -/
def over (c : (⟨2, ![2048, 128]⟩ : Shape).Idx → EReal) : (⟨2, ![4096, 128]⟩ : Shape).Idx → EReal := fun i => c (ix2 (pos (i 0)) (i 1))

theorem toPair_lane (n : Fin 2304) : (toPair n).val % 64 = n.val % 64 := by
  show (((n.val / 128 % 3 * 3 + n.val / 384 % 3) * 2 + n.val / 1152) * 128 + n.val % 128) % 64 = _; omega
theorem toPair_kind (n : Fin 2304) : (toPair n).val / 768 = n.val / 128 % 3 := by
  show (((n.val / 128 % 3 * 3 + n.val / 384 % 3) * 2 + n.val / 1152) * 128 + n.val % 128) / 768 = _; omega
theorem toPair_on (n n' : Fin 2304) (h : n.val / 128 = n'.val / 128) :
    (toPair n').val + n.val % 128 = (toPair n).val + n'.val % 128 := by
  have e1 : n.val / 384 = n'.val / 384 := by omega
  have e2 : n.val / 1152 = n'.val / 1152 := by omega
  show (((n'.val / 128 % 3 * 3 + n'.val / 384 % 3) * 2 + n'.val / 1152) * 128 + n'.val % 128) + n.val % 128
    = (((n.val / 128 % 3 * 3 + n.val / 384 % 3) * 2 + n.val / 1152) * 128 + n.val % 128) + n'.val % 128
  rw [h, e1, e2]; omega

section Same

variable {Q X : (⟨2, ![4096, 2304]⟩ : Shape).Idx → EReal} {cos sin : (⟨2, ![2048, 8]⟩ : Shape).Idx → EReal}
  {c a b : (⟨2, ![2048, 128]⟩ : Shape).Idx → EReal}

/-- The products with the tables turn the projection. -/
theorem mixed_eq (hw : 128 ∣ 2304) (T : Tables cos sin c a b) (hX : ∀ r n, X (ix2 r n) = Q (ix2 r (toPair n)))
    (r : Fin 4096) (n : Fin 2304) :
    mixed hw X (over c) (over a) (over b) r n = turned Q cos sin r (toPair n) := by
  have hn := n.isLt
  have hlane : (lane n).val % 64 = n.val % 64 := by show n.val % 128 % 64 = _; omega
  have hm : ∀ d, (moved hw n d).val = n.val / 128 * 128 + (n.val % 128 + d) % 128 := fun d => rfl
  have hd : ∀ d, n.val / 128 = (moved hw n d).val / 128 := fun d => by
    rw [hm]; have := Nat.mod_lt (n.val % 128 + d) (show 0 < 128 by decide); omega
  unfold mixed
  rw [hX, hX, hX]
  show Q (ix2 r (toPair n)) * c (ix2 (pos r) (lane n)) + Q (ix2 r (toPair (moved hw n 8))) * a (ix2 (pos r) (lane n))
    + Q (ix2 r (toPair (moved hw n 120))) * b (ix2 (pos r) (lane n)) = _
  by_cases h : n.val % 64 < 8
  · have e8 : (toPair (moved hw n 8)).val = (toPair n).val + 8 := by
      have := toPair_on n (moved hw n 8) (hd 8); rw [hm] at this; omega
    rw [turned_low Q cos sin r (toPair n) (toPair (moved hw n 8)) ⟨n.val % 64, h⟩ (toPair_lane n) e8,
      T.c_low _ _ ⟨n.val % 64, h⟩ hlane, T.a_low _ _ ⟨n.val % 64, h⟩ hlane, T.b_low _ _ (by omega), mul_zero, add_zero,
      mul_neg, sub_eq_add_neg]
  · by_cases h' : n.val % 64 < 16
    · have e8 : (toPair (moved hw n 120)).val + 8 = (toPair n).val := by
        have := toPair_on n (moved hw n 120) (hd 120); rw [hm] at this; omega
      have el : n.val % 64 = (⟨n.val % 64 - 8, by omega⟩ : Fin 8).val + 8 := by show _ = n.val % 64 - 8 + 8; omega
      rw [turned_high Q cos sin r (toPair n) (toPair (moved hw n 120)) ⟨n.val % 64 - 8, by omega⟩ ((toPair_lane n).trans el) e8,
        T.c_high _ _ ⟨n.val % 64 - 8, by omega⟩ (hlane.trans el), T.a_rest _ _ (by omega),
        T.b_high _ _ ⟨n.val % 64 - 8, by omega⟩ (hlane.trans el), mul_zero, add_zero]
    · rw [turned_rest Q cos sin r (toPair n) (by rw [toPair_lane]; omega), T.c_rest _ _ (by omega), T.a_rest _ _ (by omega),
        T.b_rest _ _ (by omega), mul_zero, mul_zero, add_zero, add_zero, mul_one]

/-- The array, column by column of the weight. -/
theorem laid_eq (hw : 128 ∣ 2304) (T : Tables cos sin c a b) (hX : ∀ r n, X (ix2 r n) = Q (ix2 r (toPair n))) (s : EReal)
    (r : Fin 4096) (n : Fin 2304) :
    laid hw X (over c) (over a) (over b) s r n = full Q cos sin s r (toPair n) := by
  unfold laid full
  rw [toPair_kind, mixed_eq hw T hX, hX]

end Same

end Cert.Proof.RopeSpec

end
-- ==== Proof.RopeTables.lean ====
/-
  The three tables that the host lines make of the angles' cosines and sines: what each holds at a position and a lane.
-/
module

public import proofs.«01_k».proof.Proof.RopeSpec
public import proofs.«01_k».proof.Proof.Gen.RopeIdeal.Value
public import Idealize.ShloMosaic.Lib.Pipeline.ValueKit
public import Idealize.ShloMosaic.Lib.IdealHost

@[expose] public section

set_option maxRecDepth 16384

noncomputable section

namespace Cert.Proof.RopeTables

open Cert.RopeIdeal Cert.RopeIdeal.Gen Idealize.ShloMosaic.TcCoe Idealize.SL.Sem
open Idealize.ShloMosaic hiding ix1 ix2 ix4 eq_ix1 eq_ix2
open Idealize.ShloMosaic.ValueIdx Idealize.ShloMosaic.Ideal Cert.Proof.RopeSpec

/-- A head's table, laid out twice for the pair. -/
def pair (x : S2048x64.Idx → EReal) : S2048x128.Idx → EReal :=
  shapeCast S2048x128 (broadcastInDim S1x2048x2x64 ![0, 1, 2, 3] bcast_S1x2048x1x64_S1x2048x2x64_0_1_2_3
    (shapeCast S1x2048x1x64 x shapeCasts_S2048x64_S1x2048x1x64)) shapeCasts_S1x2048x2x64_S2048x128

theorem pair_apply (x : S2048x64.Idx → EReal) (p : Fin 2048) (l : Fin 128) (e : Fin 64) (h : l.val % 64 = e.val) :
    pair x (ix2 p l) = x (ix2 p e) := by
  unfold pair
  refine (shapeCast_apply _ _ (ix2 p l) (ix4 (0 : Fin 1) p (⟨l.val / 64, by omega⟩ : Fin 2) e) ?_).trans ?_
  · rw [Shape.rowMajor_val_four, Shape.rowMajor_val_two]
    show ((0 * 2048 + p.val) * 2 + l.val / 64) * 64 + e.val = p.val * 128 + l.val
    omega
  refine (broadcastInDim_apply _ _ _ _ (ix4 (0 : Fin 1) p (0 : Fin 1) e) fun c => ?_).trans ?_
  · match c with | ⟨0, _⟩ => rfl | ⟨1, _⟩ => rfl | ⟨2, _⟩ => rfl | ⟨3, _⟩ => rfl
  refine shapeCast_apply x _ _ (ix2 p e) ?_
  rw [Shape.rowMajor_val_four, Shape.rowMajor_val_two]
  show p.val * 64 + e.val = ((0 * 2048 + p.val) * 1 + 0) * 64 + e.val
  omega

/-- A head's table in three pieces of lanes. -/
def three (x y : S2048x8.Idx → EReal) (z : S2048x48.Idx → EReal) : S2048x64.Idx → EReal :=
  concatenate S2048x64 1 [⟨S2048x8, x⟩, ⟨S2048x8, y⟩, ⟨S2048x48, z⟩] concatenates_S2048x8_S2048x8_S2048x48_S2048x64_d1

variable (x y : S2048x8.Idx → EReal) (z : S2048x48.Idx → EReal) (p : Fin 2048)

theorem three_low (e : Fin 64) (k : Fin 8) (h : e.val = k.val) : three x y z (ix2 p e) = x (ix2 p k) := by
  unfold three
  exact concatenate_apply_piece _ _ _ (ix2 p e) 0 (by show 0 < 3; decide) S2048x8 x rfl rfl 0 rfl (ix2 p k)
    (fun b hb => by match b with | ⟨0, _⟩ => rfl | ⟨1, _⟩ => exact absurd rfl hb) (by show 0 + k.val = e.val; omega)
theorem three_high (e : Fin 64) (k : Fin 8) (h : e.val = k.val + 8) : three x y z (ix2 p e) = y (ix2 p k) := by
  unfold three
  exact concatenate_apply_piece _ _ _ (ix2 p e) 1 (by show 1 < 3; decide) S2048x8 y rfl rfl 8 rfl (ix2 p k)
    (fun b hb => by match b with | ⟨0, _⟩ => rfl | ⟨1, _⟩ => exact absurd rfl hb) (by show 8 + k.val = e.val; omega)
theorem three_rest (e : Fin 64) (k : Fin 48) (h : e.val = k.val + 16) : three x y z (ix2 p e) = z (ix2 p k) := by
  unfold three
  exact concatenate_apply_piece _ _ _ (ix2 p e) 2 (by show 2 < 3; decide) S2048x48 z rfl rfl 16 rfl (ix2 p k)
    (fun b hb => by match b with | ⟨0, _⟩ => rfl | ⟨1, _⟩ => exact absurd rfl hb) (by show 16 + k.val = e.val; omega)

theorem pair_low (l : Fin 128) (k : Fin 8) (h : l.val % 64 = k.val) : pair (three x y z) (ix2 p l) = x (ix2 p k) :=
  (pair_apply _ p l ⟨l.val % 64, Nat.mod_lt _ (by decide)⟩ rfl).trans (three_low x y z p _ k h)
theorem pair_high (l : Fin 128) (k : Fin 8) (h : l.val % 64 = k.val + 8) : pair (three x y z) (ix2 p l) = y (ix2 p k) :=
  (pair_apply _ p l ⟨l.val % 64, Nat.mod_lt _ (by decide)⟩ rfl).trans (three_high x y z p _ k h)
theorem pair_rest (l : Fin 128) (h : 16 ≤ l.val % 64) :
    pair (three x y z) (ix2 p l) = z (ix2 p ⟨l.val % 64 - 16, by omega⟩) :=
  (pair_apply _ p l ⟨l.val % 64, Nat.mod_lt _ (by decide)⟩ rfl).trans (three_rest x y z p _ ⟨l.val % 64 - 16, by omega⟩ (by show l.val % 64 = l.val % 64 - 16 + 16; omega))

/-! ## The tables of the angles -/

/-- A splat of zeros, and of ones. -/
def zeros (S : Shape) (h : S_.BroadcastsInDim S ![]) : S.Idx → EReal :=
  broadcastInDim S ![] h (constant (F := Ideal) S_ .f32 0x00000000#32)
def ones : S2048x48.Idx → EReal :=
  addf (F := Ideal) (s := S2048x48) (φ := .f32) (zeros S2048x48 bcast_S_S2048x48)
    (broadcastInDim S2048x48 ![] bcast_S_S2048x48 (constant (F := Ideal) S_ .f32 0x3F800000#32))

theorem zeros_apply (S : Shape) (h : S_.BroadcastsInDim S ![]) (i : S.Idx) : zeros S h i = 0 := ofBits_zero_f32
theorem ones_apply (i : S2048x48.Idx) : ones i = 1 := by
  show (zeros S2048x48 bcast_S_S2048x48 i : EReal) + Ideal.ofBits .f32 0x3F800000#32 = 1
  rw [zeros_apply, ofBits_one_f32, zero_add]

variable (cos sin : S2048x8.Idx → EReal)

abbrev C : S2048x128.Idx → EReal := pair (three cos cos ones)
abbrev A : S2048x128.Idx → EReal := pair (three (fun i => -sin i) (zeros S2048x8 bcast_S_S2048x8) (zeros S2048x48 bcast_S_S2048x48))
abbrev B : S2048x128.Idx → EReal := pair (three (zeros S2048x8 bcast_S_S2048x8) sin (zeros S2048x48 bcast_S_S2048x48))

theorem tables : Tables cos sin (C cos) (A sin) (B sin) where
  c_low p l e h := pair_low _ _ _ p l e h
  c_high p l e h := pair_high _ _ _ p l e h
  c_rest p l h := (pair_rest _ _ _ p l h).trans (ones_apply _)
  a_low p l e h := pair_low _ _ _ p l e h
  a_rest p l h := by
    by_cases h' : l.val % 64 < 16
    · exact (pair_high _ _ _ p l ⟨l.val % 64 - 8, by omega⟩ (by show l.val % 64 = l.val % 64 - 8 + 8; omega)).trans (zeros_apply _ _ _)
    · exact (pair_rest _ _ _ p l (by omega)).trans (zeros_apply _ _ _)
  b_low p l h := (pair_low _ _ _ p l ⟨l.val % 64, h⟩ rfl).trans (zeros_apply _ _ _)
  b_high p l e h := pair_high _ _ _ p l e h
  b_rest p l h := (pair_rest _ _ _ p l h).trans (zeros_apply _ _ _)

end Cert.Proof.RopeTables

end
-- ==== Proof.RopeRun.lean ====
/-
  The projection to queries, keys and values: what its array holds when the pipeline is left. Point t takes 1024 rows and
  the 1152 columns of one pair of heads: nine blocks of 128 columns, of each three the first turned and scaled, the second
  turned, the third as it is.
-/
module

public import proofs.«01_k».proof.Proof.RopeTables
public import Idealize.ShloMosaic.Lib.KernelVsHost

@[expose] public section

set_option maxRecDepth 16384

noncomputable section

namespace Cert.Proof.RopeRun

open Cert.RopeIdeal Cert.RopeIdeal.Gen Idealize.ShloMosaic.TcCoe Idealize.SL.Sem
open Idealize.ShloMosaic hiding ix1 ix2 ix4 eq_ix1 eq_ix2
open Idealize.ShloMosaic.ValueIdx Idealize.ShloMosaic.Ideal Cert.Proof.Products Cert.Proof.Spec Cert.Proof.Pairs
open Cert.Proof.RopeSpec Cert.Proof.RopeTables
open Idealize.ShloMosaic.Pipeline (Dat)

/-! ## What the body computes from its blocks -/

/-- The scale, as the program writes it. -/
abbrev scale : EReal := Ideal.ofBits .f32 0x3E000000#32

theorem div_block : 128 ∣ 1152 := ⟨9, rfl⟩
theorem div_array : 128 ∣ 2304 := ⟨18, rfl⟩

theorem dot (x : FVec Ideal S1024x1024 .bf16) (w : FVec Ideal S1152x1024 .bf16) :
    Idealize.ShloMosaic.matmul (F := Ideal) dot_S1024x1024_S1152x1024_S1024x1152_1_1_0_0_n_n none x w (constant S1024x1152 .f32 0x00000000#32)
      = rows x w := by
  funext j
  refine (matmul_constant_zero_apply _ none x w j).trans ?_
  rw [
    ← Equiv.sum_comp (contrEquiv1 dot_S1024x1024_S1152x1024_S1024x1152_1_1_0_0_n_n 1024 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

theorem pay_rows (x : FVec Ideal S1024x1024 .bf16) (w : FVec Ideal S1152x1024 .bf16) : k0_pay3 (F := Ideal) x w = rows x w := by
  unfold k0_pay3; simp only [shapeCast_self]; rw [dot]

/-- A block of 128 columns, and its products with the tables. -/
def piece (X : S1024x1152.Idx → EReal) (o : ℕ) (h : S1024x1152.Slices ![0, o] S1024x128) : S1024x128.Idx → EReal :=
  extractStridedSlice S1024x128 ![0, o] X h
def turn (y c a b : FVec Ideal S1024x128 .f32) : FVec Ideal S1024x128 .f32 :=
  addf (addf (mulf y c) (mulf (dynamicRotate 1 120#32 none y rotates_S1024x128_d1) a))
    (mulf (dynamicRotate 1 8#32 none y rotates_S1024x128_d1) b)

theorem piece_apply (X : S1024x1152.Idx → EReal) (o : ℕ) (h : S1024x1152.Slices ![0, o] S1024x128) (r : Fin 1024) (l : Fin 128)
    (k : Fin 1152) (hk : k.val = o + l.val) : piece X o h (ix2 r l) = X (ix2 r k) := by
  unfold piece
  refine extractStridedSlice_apply _ X h _ _ fun a => ?_
  match a with
  | ⟨0, _⟩ => show r.val = 0 + r.val; omega
  | ⟨1, _⟩ => exact hk

theorem turn_apply (X : S1024x1152.Idx → EReal) (c a b : S1024x128.Idx → EReal) (o : ℕ)
    (h : S1024x1152.Slices ![0, o] S1024x128) (ho : 128 ∣ o) (r : Fin 1024) (l : Fin 128) (k : Fin 1152) (hk : k.val = o + l.val) :
    turn (piece X o h) c a b (ix2 r l) = mixed div_block X c a b r k := by
  have hl := l.isLt
  have e0 : lane k = l := Fin.ext (by show k.val % 128 = l.val; omega)
  have e1 : dynamicRotate 1 120#32 none (piece X o h) rotates_S1024x128_d1 (ix2 r l) = X (ix2 r (moved div_block k 8)) := by
    refine (dynamicRotate_apply 1 120#32 (piece X o h) _ (ix2 r l) (ix2 r (⟨(l.val + 8) % 128, by omega⟩ : Fin 128)) fun d => ?_).trans ?_
    · match d with
      | ⟨0, _⟩ => rfl
      | ⟨1, _⟩ => show (l.val + 8) % 128 = (l.val + 128 - 120 % 128) % 128; omega
    · exact piece_apply X o h r _ _ (by show k.val / 128 * 128 + (k.val % 128 + 8) % 128 = o + (l.val + 8) % 128; omega)
  have e2 : dynamicRotate 1 8#32 none (piece X o h) rotates_S1024x128_d1 (ix2 r l) = X (ix2 r (moved div_block k 120)) := by
    refine (dynamicRotate_apply 1 8#32 (piece X o h) _ (ix2 r l) (ix2 r (⟨(l.val + 120) % 128, by omega⟩ : Fin 128)) fun d => ?_).trans ?_
    · match d with
      | ⟨0, _⟩ => rfl
      | ⟨1, _⟩ => show (l.val + 120) % 128 = (l.val + 128 - 8 % 128) % 128; omega
    · exact piece_apply X o h r _ _ (by show k.val / 128 * 128 + (k.val % 128 + 120) % 128 = o + (l.val + 120) % 128; omega)
  unfold mixed
  rw [e0, ← piece_apply X o h r l k hk, ← e1, ← e2]
  rfl

section Blocks

variable (x : Vec Ideal S1024x1024 .bf16) (w : Vec Ideal S1152x1024 .bf16) (c a b : Vec Ideal S1024x128 .f32)

/-- The block that the body leaves. -/
abbrev G : S1024x1152.Idx → EReal := fun i =>
  laid div_block (rows (n := 1024) (p := 1152) (q := 1024) x w) c a b scale (i 0) (i 1)

variable (o : ℕ) (h : S1024x1152.Slices ![0, o] S1024x128) (inb : ∀ d, ![0, o] d + S1024x128.size d ≤ S1024x1152.size d) (j : S1024x128.Idx)

/-- Where a store's element lies in the block. -/
theorem at_row : ((Rect.unit (s := S1024x1152) ![0, o] S1024x128.size inb).emb j) 0 = j 0 :=
  Fin.ext (by show 0 + 1 * (j 0).val = (j 0).val; omega)
theorem at_col : (((Rect.unit (s := S1024x1152) ![0, o] S1024x128.size inb).emb j) 1).val = o + (j 1).val := by
  show o + 1 * (j 1).val = _; omega

theorem store_first (ho : 128 ∣ o) (hq : o / 128 % 3 = 0) :
    turn (piece (rows (n := 1024) (p := 1152) (q := 1024) x w) o h) c a b j * scale
      = G x w c a b ((Rect.unit (s := S1024x1152) ![0, o] S1024x128.size inb).emb j) := by
  have hl : (j 1).val < 128 := (j 1).isLt
  have e := at_col o inb j
  show _ = laid _ _ c a b scale _ _
  rw [at_row]; unfold laid
  rw [if_pos (by rw [e]; omega)]
  exact congrArg (· * scale) ((congrArg (turn (piece (rows (n := 1024) (p := 1152) (q := 1024) x w) o h) c a b) (eq_ix2 j)).trans
    (turn_apply (rows (n := 1024) (p := 1152) (q := 1024) x w) c a b o h ho (j 0) (j 1) _ e))
theorem store_second (ho : 128 ∣ o) (hq : o / 128 % 3 = 1) :
    turn (piece (rows (n := 1024) (p := 1152) (q := 1024) x w) o h) c a b j
      = G x w c a b ((Rect.unit (s := S1024x1152) ![0, o] S1024x128.size inb).emb j) := by
  have hl : (j 1).val < 128 := (j 1).isLt
  have e := at_col o inb j
  show _ = laid _ _ c a b scale _ _
  rw [at_row]; unfold laid
  rw [if_neg (by rw [e]; omega), if_pos (by rw [e]; omega)]
  exact (congrArg (turn (piece (rows (n := 1024) (p := 1152) (q := 1024) x w) o h) c a b) (eq_ix2 j)).trans
    (turn_apply (rows (n := 1024) (p := 1152) (q := 1024) x w) c a b o h ho (j 0) (j 1) _ e)
theorem store_third (ho : 128 ∣ o) (hq : o / 128 % 3 = 2) :
    piece (rows (n := 1024) (p := 1152) (q := 1024) x w) o h j
      = G x w c a b ((Rect.unit (s := S1024x1152) ![0, o] S1024x128.size inb).emb j) := by
  have hl : (j 1).val < 128 := (j 1).isLt
  have e := at_col o inb j
  show _ = laid _ _ c a b scale _ _
  rw [at_row]; unfold laid
  rw [if_neg (by rw [e]; omega), if_neg (by rw [e]; omega)]
  exact (congrArg (piece (rows (n := 1024) (p := 1152) (q := 1024) x w) o h) (eq_ix2 j)).trans (piece_apply (rows (n := 1024) (p := 1152) (q := 1024) x w) o h (j 0) (j 1) _ e)

theorem hz : (![0, 0] : Fin 2 → ℕ) = fun _ => 0 := by
  funext d; match d with | ⟨0, _⟩ => rfl | ⟨1, _⟩ => rfl

theorem ld_x : View.ld x r0_0 = x := View.ld_unit_zero hz _ _
theorem ld_w : View.ld w r0_1 = w := View.ld_unit_zero hz _ _
theorem ld_t : View.ld c r0_2 = c := View.ld_unit_zero hz _ _

theorem val_rows : k0_pay18 (F := Ideal) x w c a b = rows x w := by unfold k0_pay18; rw [ld_x, ld_w, pay_rows]
theorem val_c : k0_pay19 (F := Ideal) x w c a b = c := by unfold k0_pay19 k0_pay4; rw [ld_t]; simp only [shapeCast_self]
theorem val_a : k0_pay20 (F := Ideal) x w c a b = a := by unfold k0_pay20 k0_pay5; rw [ld_t]; simp only [shapeCast_self]
theorem val_b : k0_pay21 (F := Ideal) x w c a b = b := by unfold k0_pay21 k0_pay6; rw [ld_t]; simp only [shapeCast_self]

/-- The body's nine stores, together. -/
theorem out_eq (y : S1024x1152.Idx) : out0_5 (F := Ideal) x w c a b y = G x w c a b y := by
  unfold out0_5
  rw [val_rows, val_c, val_a, val_b]
  refine View.canon_apply_of_pieces (Val := Elt Ideal) (G x w c a b) _ ?_ y (cover0_5 _ _ _ _ _ _ _ _ _ y)
  rw [ld_x, ld_w, ld_t, ld_t, ld_t]
  refine List.forall_mem_cons.mpr ⟨fun j => ?_, List.forall_mem_cons.mpr ⟨fun j => ?_, List.forall_mem_cons.mpr ⟨fun j => ?_,
    List.forall_mem_cons.mpr ⟨fun j => ?_, List.forall_mem_cons.mpr ⟨fun j => ?_, List.forall_mem_cons.mpr ⟨fun j => ?_,
    List.forall_mem_cons.mpr ⟨fun j => ?_, List.forall_mem_cons.mpr ⟨fun j => ?_, List.forall_mem_cons.mpr ⟨fun j => ?_,
    fun _ hp => absurd hp List.not_mem_nil⟩⟩⟩⟩⟩⟩⟩⟩⟩
  · exact store_third x w c a b 1024 slices_S1024x1152_o0_1024_S1024x128 inb_S1024x1152_S1024x128_0_1024 j (by decide) (by decide)
  · exact store_second x w c a b 896 slices_S1024x1152_o0_896_S1024x128 inb_S1024x1152_S1024x128_0_896 j (by decide) (by decide)
  · exact store_first x w c a b 768 slices_S1024x1152_o0_768_S1024x128 inb_S1024x1152_S1024x128_0_768 j (by decide) (by decide)
  · exact store_third x w c a b 640 slices_S1024x1152_o0_640_S1024x128 inb_S1024x1152_S1024x128_0_640 j (by decide) (by decide)
  · exact store_second x w c a b 512 slices_S1024x1152_o0_512_S1024x128 inb_S1024x1152_S1024x128_0_512 j (by decide) (by decide)
  · show k0_pay11 (F := Ideal) c a b (k0_pay10 x w) j = _
    unfold k0_pay10; rw [pay_rows]
    exact store_first x w c a b 384 slices_S1024x1152_o0_384_S1024x128 inb_S1024x1152_S1024x128_0_384 j (by decide) (by decide)
  · show k0_pay9 (F := Ideal) x w j = _
    unfold k0_pay9; rw [pay_rows]
    exact store_third x w c a b 256 slices_S1024x1152_o0_256_S1024x128 inb_S1024x1152_S1024x128_0_256 j (by decide) (by decide)
  · show k0_pay8 (F := Ideal) x w c a b j = _
    unfold k0_pay8 k0_pay4 k0_pay5 k0_pay6; rw [pay_rows]; simp only [shapeCast_self]
    exact store_second x w c a b 128 slices_S1024x1152_o0_128_S1024x128 inb_S1024x1152_S1024x128_0_128 j (by decide) (by decide)
  · show k0_pay7 (F := Ideal) x w c a b j = _
    unfold k0_pay7 k0_pay4 k0_pay5 k0_pay6; rw [pay_rows]; simp only [shapeCast_self]
    exact store_first x w c a b 0 slices_S1024x1152_o0_0_S1024x128 inb_S1024x1152_S1024x128_0_0 j (by decide) (by decide)

end Blocks

/-! ## The arrays that the pipeline finds -/

variable (m : (ℓ : Loc nD τ sig) → Buf (Elt Ideal) ℓ) (ρ : Dev nD → PrngReg) (c : Dev nD)

abbrev h : S4096x1024.Idx → EReal := m ((c : Thread nD τ).loc main_arg0)
abbrev w : S1024x2304.Idx → EReal := m ((c : Thread nD τ).loc main_arg1)
abbrev cos : S2048x8.Idx → EReal := m ((c : Thread nD τ).loc main_arg2)
abbrev sin : S2048x8.Idx → EReal := m ((c : Thread nD τ).loc main_arg3)

/-- The weight transposed and in the array's order. -/
abbrev wt : S2304x1024.Idx → EReal :=
  shapeCast S2304x1024 (transpose S2x3x3x128x1024 [2, 1, 0, 3, 4] (shapeCast S3x3x2x128x1024 (transpose S2304x1024 [1, 0] (w m c)
    transposes_S1024x2304_S2304x1024_1_0) shapeCasts_S2304x1024_S3x3x2x128x1024) transposes_S3x3x2x128x1024_S2x3x3x128x1024_2_1_0_3_4)
    shapeCasts_S2x3x3x128x1024_S2304x1024

theorem V_h : V m c main_arg0 = h m c := V_main_arg0 m c
theorem V_w : V m c main_v4 = wt m c := by
  show StableHlo.after hostOps0 (fun b => m (c, b)) (Proc.devRef .tc main_v4) = _
  unfold hostOps0; after_results_simp; rfl
theorem V_c : V m c main_v15 = C (cos m c) := by
  show StableHlo.after hostOps0 (fun b => m (c, b)) (Proc.devRef .tc main_v15) = _
  unfold hostOps0; after_results_simp; rfl
theorem V_a : V m c main_v18 = A (sin m c) := by
  show StableHlo.after hostOps0 (fun b => m (c, b)) (Proc.devRef .tc main_v18) = _
  unfold hostOps0; after_results_simp; rfl
theorem V_b : V m c main_v21 = B (sin m c) := by
  show StableHlo.after hostOps0 (fun b => m (c, b)) (Proc.devRef .tc main_v21) = _
  unfold hostOps0; after_results_simp; rfl

/-! ## Where the blocks lie -/

theorem idx : ∀ t : Fin cfg0.N, (win0_0.index t (0 : Fin 2) = win0_5.index t (0 : Fin 2) ∧ win0_0.index t (1 : Fin 2) = 0)
    ∧ (win0_1.index t (0 : Fin 2) = win0_5.index t (1 : Fin 2) ∧ win0_1.index t (1 : Fin 2) = 0)
    ∧ (win0_2.index t (0 : Fin 2) = win0_5.index t (0 : Fin 2) % 2 ∧ win0_2.index t (1 : Fin 2) = 0)
    ∧ (win0_3.index t (0 : Fin 2) = win0_5.index t (0 : Fin 2) % 2 ∧ win0_3.index t (1 : Fin 2) = 0)
    ∧ (win0_4.index t (0 : Fin 2) = win0_5.index t (0 : Fin 2) % 2 ∧ win0_4.index t (1 : Fin 2) = 0) :=
  (by decide +kernel : ∀ t : Fin grid0.N, _)
theorem onto : ∀ (a : Fin 4) (b : Fin 2), ∃ t : Fin grid0.N, win0_5.index t (0 : Fin 2) = a.val ∧ win0_5.index t (1 : Fin 2) = b.val := by
  decide +kernel
theorem emb (t : Fin cfg0.N) (j : S1024x1152.Idx) :
    (((cfg0.win 5).blk t).view.emb j 0).val = win0_5.index t (0 : Fin 2) * 1024 + (j 0).val
    ∧ (((cfg0.win 5).blk t).view.emb j 1).val = win0_5.index t (1 : Fin 2) * 1152 + (j 1).val := by
  constructor
  · show win0_5.index t (0 : Fin 2) * 1024 + 1 * (j 0).val = _; omega
  · show win0_5.index t (1 : Fin 2) * 1152 + 1 * (j 1).val = _; omega
theorem point (i : S4096x2304.Idx) : ∃ (t : Fin cfg0.N) (j : S1024x1152.Idx),
    win0_5.index t (0 : Fin 2) * 1024 + (j 0).val = (i 0).val ∧ win0_5.index t (1 : Fin 2) * 1152 + (j 1).val = (i 1).val := by
  have h0 : (i 0).val < 4096 := (i 0).isLt
  have h1 : (i 1).val < 2304 := (i 1).isLt
  obtain ⟨t, e0, e1⟩ := onto ⟨(i 0).val / 1024, by omega⟩ ⟨(i 1).val / 1152, by omega⟩
  refine ⟨t, ix2 ⟨(i 0).val % 1024, by omega⟩ ⟨(i 1).val % 1152, by omega⟩, ?_, ?_⟩
  · show win0_5.index t (0 : Fin 2) * 1024 + (i 0).val % 1024 = _; rw [e0]; show (i 0).val / 1024 * 1024 + _ = _; omega
  · show win0_5.index t (1 : Fin 2) * 1152 + (i 1).val % 1152 = _; rw [e1]; show (i 1).val / 1152 * 1152 + _ = _; omega

/-- The array, of the arrays the pipeline finds. -/
abbrev OUT : S4096x2304.Idx → EReal := fun i =>
  laid div_array (rows (n := 4096) (p := 2304) (q := 1024) (V m c main_arg0) (V m c main_v4))
    (over (V m c main_v15)) (over (V m c main_v18)) (over (V m c main_v21)) scale (i 0) (i 1)

theorem outs (t : Fin cfg0.N) (j : S1024x1152.Idx) (i : S4096x2304.Idx) (h0 : (i 0).val = win0_5.index t (0 : Fin 2) * 1024 + (j 0).val)
    (h1 : (i 1).val = win0_5.index t (1 : Fin 2) * 1152 + (j 1).val) :
    out0_5 (F := Ideal) (iblk m c 0 t) (iblk m c 1 t) (iblk m c 2 t) (iblk m c 3 t) (iblk m c 4 t) j = OUT m c i := by
  obtain ⟨⟨a0, a1⟩, ⟨b0, b1⟩, ⟨c0, c1⟩, ⟨d0, d1⟩, ⟨e0, e1⟩⟩ := idx t
  rw [out_eq]
  refine laid_congr div_block div_array _ _ _ _ _ _ _ _ scale (j 0) (i 0) (win0_5.index t (1 : Fin 2) * 1152)
    ⟨win0_5.index t (1 : Fin 2) * 3, by omega⟩ (fun k k' hk => ?_) (fun l => ?_) (fun l => ?_) (fun l => ?_) (j 1) (i 1) h1
  · refine Finset.sum_congr rfl fun q _ => congrArg₂ _ (congrArg (V m c main_arg0) (funext fun a => Fin.ext ?_))
      (congrArg (V m c main_v4) (funext fun a => Fin.ext ?_))
    · match a with
      | ⟨0, _⟩ => show win0_0.index t (0 : Fin 2) * 1024 + 1 * (j 0).val = (i 0).val; omega
      | ⟨1, _⟩ => show win0_0.index t (1 : Fin 2) * 1024 + 1 * q.val = q.val; omega
    · match a with
      | ⟨0, _⟩ => show win0_1.index t (0 : Fin 2) * 1152 + 1 * k.val = k'.val; omega
      | ⟨1, _⟩ => show win0_1.index t (1 : Fin 2) * 1024 + 1 * q.val = q.val; omega
  · refine congrArg (V m c main_v15) (funext fun a => Fin.ext ?_)
    match a with
    | ⟨0, _⟩ =>
      have hj : (j 0).val < 1024 := (j 0).isLt
      show win0_2.index t (0 : Fin 2) * 1024 + 1 * (j 0).val = (i 0).val % 2048; omega
    | ⟨1, _⟩ => show win0_2.index t (1 : Fin 2) * 128 + 1 * l.val = l.val; omega
  · refine congrArg (V m c main_v18) (funext fun a => Fin.ext ?_)
    match a with
    | ⟨0, _⟩ =>
      have hj : (j 0).val < 1024 := (j 0).isLt
      show win0_3.index t (0 : Fin 2) * 1024 + 1 * (j 0).val = (i 0).val % 2048; omega
    | ⟨1, _⟩ => show win0_3.index t (1 : Fin 2) * 128 + 1 * l.val = l.val; omega
  · refine congrArg (V m c main_v21) (funext fun a => Fin.ext ?_)
    match a with
    | ⟨0, _⟩ =>
      have hj : (j 0).val < 1024 := (j 0).isLt
      show win0_4.index t (0 : Fin 2) * 1024 + 1 * (j 0).val = (i 0).val % 2048; omega
    | ⟨1, _⟩ => show win0_4.index t (1 : Fin 2) * 128 + 1 * l.val = l.val; omega

theorem arr : (dats m 0 c).arrAt 5 cfg0.N = OUT m c :=
  (dats m 0 c).arrAt_eq_of_cover 5 (OUT m c) (fun t _ => by
    show (cfg0.win 5).cut (grid0.coords t) ((dats m 0 c).after 5 t) = _
    rw [after0_5]
    funext j
    exact outs m c t j _ (emb t j).1 (emb t j).2)
  fun i => by
    obtain ⟨t, j, e0, e1⟩ := point i
    refine ⟨t, flush0_5 t, ?_⟩
    have h := ((cfg0.win 5).blk t).view.emb_mem_set j
    rwa [show ((cfg0.win 5).blk t).view.emb j = i from funext fun a => Fin.ext (by
      match a with | ⟨0, _⟩ => exact (emb t j).1.trans e0 | ⟨1, _⟩ => exact (emb t j).2.trans e1)] at h

/-! ## Of the arguments -/

/-- Queries turned and scaled, keys turned, values as they are, in the array's order. -/
abbrev QKV : S4096x2304.Idx → EReal := fun i =>
  full (plain (n := 4096) (p := 2304) (q := 1024) (h m c) (w m c)) (cos m c) (sin m c) scale (i 0) (toPair (i 1))

theorem arr_args : (dats m 0 c).arrAt 5 cfg0.N = QKV m c := by
  rw [arr]
  funext i
  refine (congrArg₂ (fun X T => laid div_array X T _ _ scale (i 0) (i 1)) (congrArg₂ (rows (n := 4096) (p := 2304) (q := 1024)) (V_h m c) (V_w m c))
    (congrArg over (V_c m c))).trans ?_
  rw [V_a, V_b]
  refine laid_eq div_array (tables (cos m c) (sin m c)) (fun r n => ?_) scale (i 0) (i 1)
  refine Finset.sum_congr rfl fun q _ => congrArg₂ _ rfl ?_
  exact (to_rows _ _ _ _ n q).trans (transpose_ix2_apply (w m c) _ (toPair n) q)

omit c in
/-- The run of the projection: its result, of the arguments it was launched with, and the arguments kept. -/
theorem results : θ_run defs (onTc (τ := τ) (main (F := Ideal))) ⟨m, fun _ => 0, ρ⟩ (fun r => ∀ c : Dev nD,
      r.2.mem ((c : Thread nD τ).loc main_v22) = QKV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c => ⟨(h c).1.trans (arr_args m c), (h c).2⟩) (Value.run_blocks m ρ)

end Cert.Proof.RopeRun

end
-- ==== Proof.RopeRef.lean ====
/-
  The projection's reference: its result, element by element, and the agreement with the pipelined call.
-/
module

public import proofs.«01_k».proof.Defs
public import proofs.«01_k».proof.Proof.RopeRun
public import proofs.«01_k».proof.Proof.Gen.RopeRefIdeal.Run
public import Idealize.ShloMosaic.Lib.Quiescent
public import Idealize.ShloMosaic.Lib.Pointwise.Reshape

@[expose] public section

set_option maxRecDepth 16384

noncomputable section

namespace Cert.Proof.RopeRef

open Idealize.ShloMosaic.TcCoe Idealize.SL.Sem Idealize.ShloMosaic.Ideal
open Idealize.ShloMosaic hiding ix1 ix2 ix3 ix4 ix5 eq_ix1 eq_ix2
open Idealize.ShloMosaic.ValueIdx
open Cert.Proof.Products Cert.Proof.Spec Cert.Proof.Pairs Cert.Proof.RopeSpec

section Reference

open Cert.RopeRefIdeal Cert.RopeRefIdeal.Gen

theorem dot (x : FVec Ideal S4096x1024 .f32) (w : FVec Ideal S1024x2304 .f32) :
    Host.dotGeneral (F := Ideal) dot_S4096x1024_S1024x2304_S4096x2304_1_0_0_1_n_n none x w = plain x w := by
  funext j
  simp only [Host.dotGeneral]
  rw [dotGeneral_apply,
    ← Equiv.sum_comp (contrEquiv1 dot_S4096x1024_S1024x2304_S4096x2304_1_0_0_1_n_n 1024 rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

/-! ### The reference's steps -/

/-- One kind's heads, of the projection. -/
def kind (Q : S4096x2304.Idx → EReal) (t : ℕ) (h : S2x2048x3x12x64.Slices ![0, 0, t, 0, 0] S2x2048x1x12x64) : FVec Ideal S2x2048x12x64 .f32 :=
  shapeCast S2x2048x12x64 (extractStridedSlice S2x2048x1x12x64 ![0, 0, t, 0, 0]
    (shapeCast S2x2048x3x12x64 Q shapeCasts_S4096x2304_S2x2048x3x12x64) h) shapeCasts_S2x2048x1x12x64_S2x2048x12x64
/-- The angles' values, for every sequence and head. -/
def angles (x : S2048x8.Idx → EReal) : FVec Ideal S2x2048x12x8 .f32 :=
  broadcastInDim S2x2048x12x8 ![0, 1, 2, 3] bcast_S1x2048x1x8_S2x2048x12x8_0_1_2_3
    (broadcastInDim S1x2048x1x8 ![1, 3] bcast_S2048x8_S1x2048x1x8_1_3 x)
/-- The two halves that are turned, and the lanes that are not. -/
def low (y : FVec Ideal S2x2048x12x64 .f32) : FVec Ideal S2x2048x12x8 .f32 :=
  extractStridedSlice S2x2048x12x8 ![0, 0, 0, 0] y slices_S2x2048x12x64_S2x2048x12x8_0_0_0_0
def high (y : FVec Ideal S2x2048x12x64 .f32) : FVec Ideal S2x2048x12x8 .f32 :=
  extractStridedSlice S2x2048x12x8 ![0, 0, 0, 8] y slices_S2x2048x12x64_S2x2048x12x8_0_0_0_8
def rest (y : FVec Ideal S2x2048x12x64 .f32) : FVec Ideal S2x2048x12x48 .f32 :=
  extractStridedSlice S2x2048x12x48 ![0, 0, 0, 16] y slices_S2x2048x12x64_S2x2048x12x48_0_0_0_16
/-- The two halves, and then all lanes, side by side. -/
def halves (a b : FVec Ideal S2x2048x12x8 .f32) : FVec Ideal S2x2048x12x16 .f32 :=
  concatenate S2x2048x12x16 3 [⟨S2x2048x12x8, a⟩, ⟨S2x2048x12x8, b⟩] concatenates_S2x2048x12x8_S2x2048x12x8_S2x2048x12x16_d3
def join (a b : FVec Ideal S2x2048x12x8 .f32) (z : FVec Ideal S2x2048x12x48 .f32) : FVec Ideal S2x2048x12x64 .f32 :=
  concatenate S2x2048x12x64 3 [⟨S2x2048x12x16, halves a b⟩, ⟨S2x2048x12x48, z⟩]
    concatenates_S2x2048x12x16_S2x2048x12x48_S2x2048x12x64_d3
def rotary (y : FVec Ideal S2x2048x12x64 .f32) (c s : FVec Ideal S2x2048x12x8 .f32) : FVec Ideal S2x2048x12x64 .f32 :=
  join (subf (mulf (low y) c) (mulf (high y) s)) (addf (mulf (high y) c) (mulf (low y) s)) (rest y)
def slot (y : FVec Ideal S2x2048x12x64 .f32) : FVec Ideal S2x2048x1x12x64 .f32 :=
  broadcastInDim S2x2048x1x12x64 ![0, 1, 3, 4] bcast_S2x2048x12x64_S2x2048x1x12x64_0_1_3_4 y
def stack (q k v : FVec Ideal S2x2048x12x64 .f32) : FVec Ideal S2x2048x3x12x64 .f32 :=
  concatenate S2x2048x3x12x64 2 [⟨S2x2048x1x12x64, slot q⟩, ⟨S2x2048x1x12x64, slot k⟩, ⟨S2x2048x1x12x64, slot v⟩]
    concatenates_S2x2048x1x12x64_S2x2048x1x12x64_S2x2048x1x12x64_S2x2048x3x12x64_d2
def scaled (y : FVec Ideal S2x2048x12x64 .f32) : FVec Ideal S2x2048x12x64 .f32 :=
  mulf y (broadcastInDim S2x2048x12x64 ![] bcast_S_S2x2048x12x64 (constant S_ .f32 0x3E000000#32))
def order (x : FVec Ideal S2x2048x3x12x64 .f32) : FVec Ideal S4096x2304 .f32 :=
  shapeCast S4096x2304 (transpose S4096x2x3x3x128 [0, 3, 2, 1, 4] (shapeCast S4096x3x3x2x128 x shapeCasts_S2x2048x3x12x64_S4096x3x3x2x128)
    transposes_S4096x3x3x2x128_S4096x2x3x3x128_0_3_2_1_4) shapeCasts_S4096x2x3x3x128_S4096x2304

/-! ### The steps, read at an index -/

section At

variable (Q : S4096x2304.Idx → EReal) (x : S2048x8.Idx → EReal) (y : FVec Ideal S2x2048x12x64 .f32) (g : Fin 2) (p : Fin 2048) (hd : Fin 12)

theorem kind_apply (t : ℕ) (h : S2x2048x3x12x64.Slices ![0, 0, t, 0, 0] S2x2048x1x12x64) (ht : t < 3) (e : Fin 64) (r : Fin 4096) (n : Fin 2304)
    (hr : r.val = g.val * 2048 + p.val) (hn : n.val = t * 768 + hd.val * 64 + e.val) :
    kind Q t h (ix4 g p hd e) = Q (ix2 r n) := by
  unfold kind
  refine (shapeCast_apply _ _ (ix4 g p hd e) (ix5 g p (0 : Fin 1) hd e) ?_).trans ?_
  · rw [Shape.rowMajor_val_five, Shape.rowMajor_val_four]
    show (((g.val * 2048 + p.val) * 1 + 0) * 12 + hd.val) * 64 + e.val = ((g.val * 2048 + p.val) * 12 + hd.val) * 64 + e.val
    omega
  refine (extractStridedSlice_apply _ _ h _ (ix5 g p (⟨t, ht⟩ : Fin 3) hd e) fun a => ?_).trans ?_
  · match a with
    | ⟨0, _⟩ => show g.val = 0 + g.val; omega
    | ⟨1, _⟩ => show p.val = 0 + p.val; omega
    | ⟨2, _⟩ => show t = t + 0; omega
    | ⟨3, _⟩ => show hd.val = 0 + hd.val; omega
    | ⟨4, _⟩ => show e.val = 0 + e.val; omega
  refine shapeCast_apply Q _ _ (ix2 r n) ?_
  rw [Shape.rowMajor_val_five, Shape.rowMajor_val_two]
  show r.val * 2304 + n.val = (((g.val * 2048 + p.val) * 3 + t) * 12 + hd.val) * 64 + e.val
  omega
theorem angles_apply (k : Fin 8) : angles x (ix4 g p hd k) = x (ix2 p k) := by
  unfold angles
  refine (broadcastInDim_apply _ _ _ _ (ix4 (0 : Fin 1) p (0 : Fin 1) k) fun a => ?_).trans ?_
  · match a with | ⟨0, _⟩ => rfl | ⟨1, _⟩ => rfl | ⟨2, _⟩ => rfl | ⟨3, _⟩ => rfl
  refine broadcastInDim_apply _ _ x _ (ix2 p k) fun a => ?_
  match a with | ⟨0, _⟩ => rfl | ⟨1, _⟩ => rfl
theorem low_apply (k : Fin 8) (e : Fin 64) (h : e.val = k.val) : low y (ix4 g p hd k) = y (ix4 g p hd e) := by
  unfold low
  refine extractStridedSlice_apply _ y _ _ _ fun a => ?_
  match a with
  | ⟨0, _⟩ => show g.val = 0 + g.val; omega
  | ⟨1, _⟩ => show p.val = 0 + p.val; omega
  | ⟨2, _⟩ => show hd.val = 0 + hd.val; omega
  | ⟨3, _⟩ => show e.val = 0 + k.val; omega
theorem high_apply (k : Fin 8) (e : Fin 64) (h : e.val = k.val + 8) : high y (ix4 g p hd k) = y (ix4 g p hd e) := by
  unfold high
  refine extractStridedSlice_apply _ y _ _ _ fun a => ?_
  match a with
  | ⟨0, _⟩ => show g.val = 0 + g.val; omega
  | ⟨1, _⟩ => show p.val = 0 + p.val; omega
  | ⟨2, _⟩ => show hd.val = 0 + hd.val; omega
  | ⟨3, _⟩ => show e.val = 8 + k.val; omega
theorem rest_apply (k : Fin 48) (e : Fin 64) (h : e.val = k.val + 16) : rest y (ix4 g p hd k) = y (ix4 g p hd e) := by
  unfold rest
  refine extractStridedSlice_apply _ y _ _ _ fun a => ?_
  match a with
  | ⟨0, _⟩ => show g.val = 0 + g.val; omega
  | ⟨1, _⟩ => show p.val = 0 + p.val; omega
  | ⟨2, _⟩ => show hd.val = 0 + hd.val; omega
  | ⟨3, _⟩ => show e.val = 16 + k.val; omega

variable (a b : FVec Ideal S2x2048x12x8 .f32) (z : FVec Ideal S2x2048x12x48 .f32)

theorem halves_low (k : Fin 8) : halves a b (ix4 g p hd (⟨k.val, by omega⟩ : Fin 16)) = a (ix4 g p hd k) := by
  unfold halves
  exact concatenate_apply_piece _ _ _ (ix4 g p hd (⟨k.val, by omega⟩ : Fin 16)) 0 (by show 0 < 2; decide) S2x2048x12x8 a rfl rfl 0 rfl (ix4 g p hd k)
    (fun d hb => by match d with | ⟨0, _⟩ => rfl | ⟨1, _⟩ => rfl | ⟨2, _⟩ => rfl | ⟨3, _⟩ => exact absurd rfl hb) (by show 0 + k.val = k.val; omega)
theorem join_low (e : Fin 64) (k : Fin 8) (h : e.val = k.val) : join a b z (ix4 g p hd e) = a (ix4 g p hd k) := by
  unfold join
  refine (concatenate_apply_piece _ _ _ (ix4 g p hd e) 0 (by show 0 < 2; decide) S2x2048x12x16 (halves a b) rfl rfl 0 rfl (ix4 g p hd (⟨k.val, by omega⟩ : Fin 16))
    (fun d hb => by match d with | ⟨0, _⟩ => rfl | ⟨1, _⟩ => rfl | ⟨2, _⟩ => rfl | ⟨3, _⟩ => exact absurd rfl hb) (by show 0 + k.val = e.val; omega)).trans ?_
  exact halves_low g p hd a b k
theorem halves_high (k : Fin 8) : halves a b (ix4 g p hd (⟨k.val + 8, by omega⟩ : Fin 16)) = b (ix4 g p hd k) := by
  unfold halves
  exact concatenate_apply_piece _ _ _ (ix4 g p hd (⟨k.val + 8, by omega⟩ : Fin 16)) 1 (by show 1 < 2; decide) S2x2048x12x8 b rfl rfl 8 rfl (ix4 g p hd k)
    (fun d hb => by match d with | ⟨0, _⟩ => rfl | ⟨1, _⟩ => rfl | ⟨2, _⟩ => rfl | ⟨3, _⟩ => exact absurd rfl hb) (by show 8 + k.val = k.val + 8; omega)
theorem join_high (e : Fin 64) (k : Fin 8) (h : e.val = k.val + 8) : join a b z (ix4 g p hd e) = b (ix4 g p hd k) := by
  unfold join
  refine (concatenate_apply_piece _ _ _ (ix4 g p hd e) 0 (by show 0 < 2; decide) S2x2048x12x16 (halves a b) rfl rfl 0 rfl (ix4 g p hd (⟨k.val + 8, by omega⟩ : Fin 16))
    (fun d hb => by match d with | ⟨0, _⟩ => rfl | ⟨1, _⟩ => rfl | ⟨2, _⟩ => rfl | ⟨3, _⟩ => exact absurd rfl hb) (by show 0 + (k.val + 8) = e.val; omega)).trans ?_
  exact halves_high g p hd a b k
theorem join_rest (e : Fin 64) (k : Fin 48) (h : e.val = k.val + 16) : join a b z (ix4 g p hd e) = z (ix4 g p hd k) := by
  unfold join
  exact concatenate_apply_piece _ _ _ (ix4 g p hd e) 1 (by show 1 < 2; decide) S2x2048x12x48 z rfl rfl 16 rfl (ix4 g p hd k)
    (fun d hb => by match d with | ⟨0, _⟩ => rfl | ⟨1, _⟩ => rfl | ⟨2, _⟩ => rfl | ⟨3, _⟩ => exact absurd rfl hb) (by show 16 + k.val = e.val; omega)

/-- The rotary embedding of one kind turns the projection. -/
theorem rotary_apply (cos sin : S2048x8.Idx → EReal) (t : ℕ) (h : S2x2048x3x12x64.Slices ![0, 0, t, 0, 0] S2x2048x1x12x64) (ht : t < 3)
    (e : Fin 64) (r : Fin 4096) (n : Fin 2304) (hr : r.val = g.val * 2048 + p.val) (hn : n.val = t * 768 + hd.val * 64 + e.val) :
    rotary (kind Q t h) (angles cos) (angles sin) (ix4 g p hd e) = turned Q cos sin r n := by
  have hp : pos r = p := Fin.ext (by show r.val % 2048 = p.val; omega)
  have he : n.val % 64 = e.val := by omega
  unfold rotary
  by_cases h0 : e.val < 8
  · rw [join_low g p hd _ _ _ e ⟨e.val, h0⟩ rfl,
      turned_low Q cos sin r n ⟨n.val + 8, by omega⟩ ⟨e.val, h0⟩ he rfl, hp,
      ← kind_apply Q g p hd t h ht e r n hr hn,
      ← kind_apply Q g p hd t h ht ⟨e.val + 8, by omega⟩ r ⟨n.val + 8, by omega⟩ hr (by show n.val + 8 = t * 768 + hd.val * 64 + (e.val + 8); omega),
      ← angles_apply cos g p hd, ← angles_apply sin g p hd,
      ← low_apply (kind Q t h) g p hd ⟨e.val, h0⟩ e rfl, ← high_apply (kind Q t h) g p hd ⟨e.val, h0⟩ ⟨e.val + 8, by omega⟩ rfl]
    rfl
  · by_cases h1 : e.val < 16
    · have e8 : e.val = (⟨e.val - 8, by omega⟩ : Fin 8).val + 8 := by show _ = e.val - 8 + 8; omega
      rw [join_high g p hd _ _ _ e ⟨e.val - 8, by omega⟩ e8,
        turned_high Q cos sin r n ⟨n.val - 8, by omega⟩ ⟨e.val - 8, by omega⟩ (he.trans e8) (by show n.val - 8 + 8 = n.val; omega), hp,
        ← kind_apply Q g p hd t h ht e r n hr hn,
        ← kind_apply Q g p hd t h ht ⟨e.val - 8, by omega⟩ r ⟨n.val - 8, by omega⟩ hr (by show n.val - 8 = t * 768 + hd.val * 64 + (e.val - 8); omega),
        ← angles_apply cos g p hd, ← angles_apply sin g p hd,
        ← high_apply (kind Q t h) g p hd ⟨e.val - 8, by omega⟩ e e8, ← low_apply (kind Q t h) g p hd ⟨e.val - 8, by omega⟩ ⟨e.val - 8, by omega⟩ rfl]
      rfl
    · have e16 : e.val = (⟨e.val - 16, by omega⟩ : Fin 48).val + 16 := by show _ = e.val - 16 + 16; omega
      rw [join_rest g p hd _ _ _ e ⟨e.val - 16, by omega⟩ e16, rest_apply _ g p hd ⟨e.val - 16, by omega⟩ e e16,
        turned_rest Q cos sin r n (by omega), kind_apply Q g p hd t h ht e r n hr hn]

theorem slot_apply (e : Fin 64) : slot y (ix5 g p (0 : Fin 1) hd e) = y (ix4 g p hd e) := by
  unfold slot
  refine broadcastInDim_apply _ _ y _ _ fun d => ?_
  match d with | ⟨0, _⟩ => rfl | ⟨1, _⟩ => rfl | ⟨2, _⟩ => rfl | ⟨3, _⟩ => rfl

variable (q k v : FVec Ideal S2x2048x12x64 .f32) (e : Fin 64)

theorem stack_q : stack q k v (ix5 g p (0 : Fin 3) hd e) = q (ix4 g p hd e) := by
  unfold stack
  exact (concatenate_apply_piece _ _ _ (ix5 g p (0 : Fin 3) hd e) 0 (by show 0 < 3; decide) S2x2048x1x12x64 (slot q) rfl rfl 0 rfl (ix5 g p (0 : Fin 1) hd e)
    (fun d hb => by match d with | ⟨0, _⟩ => rfl | ⟨1, _⟩ => rfl | ⟨2, _⟩ => exact absurd rfl hb | ⟨3, _⟩ => rfl | ⟨4, _⟩ => rfl) rfl).trans (slot_apply q g p hd e)
theorem stack_k : stack q k v (ix5 g p (1 : Fin 3) hd e) = k (ix4 g p hd e) := by
  unfold stack
  exact (concatenate_apply_piece _ _ _ (ix5 g p (1 : Fin 3) hd e) 1 (by show 1 < 3; decide) S2x2048x1x12x64 (slot k) rfl rfl 1 rfl (ix5 g p (0 : Fin 1) hd e)
    (fun d hb => by match d with | ⟨0, _⟩ => rfl | ⟨1, _⟩ => rfl | ⟨2, _⟩ => exact absurd rfl hb | ⟨3, _⟩ => rfl | ⟨4, _⟩ => rfl) rfl).trans (slot_apply k g p hd e)
theorem stack_v : stack q k v (ix5 g p (2 : Fin 3) hd e) = v (ix4 g p hd e) := by
  unfold stack
  exact (concatenate_apply_piece _ _ _ (ix5 g p (2 : Fin 3) hd e) 2 (by show 2 < 3; decide) S2x2048x1x12x64 (slot v) rfl rfl 2 rfl (ix5 g p (0 : Fin 1) hd e)
    (fun d hb => by match d with | ⟨0, _⟩ => rfl | ⟨1, _⟩ => rfl | ⟨2, _⟩ => exact absurd rfl hb | ⟨3, _⟩ => rfl | ⟨4, _⟩ => rfl) rfl).trans (slot_apply v g p hd e)

end At

theorem flat : S2x2048x3x12x64.ShapeCasts S4096x2304 := by decide

theorem order_apply (x : FVec Ideal S2x2048x3x12x64 .f32) (g : Fin 2) (p : Fin 2048) (t : Fin 3) (hd : Fin 12) (e : Fin 64)
    (r : Fin 4096) (n : Fin 2304) (hr : r.val = g.val * 2048 + p.val) (hn : (toPair n).val = t.val * 768 + hd.val * 64 + e.val) :
    order x (ix2 r n) = x (ix5 g p t hd e) := by
  unfold order
  have hs : shapeCast S4096x3x3x2x128 x shapeCasts_S2x2048x3x12x64_S4096x3x3x2x128
      = shapeCast S4096x3x3x2x128 (shapeCast S4096x2304 x flat) (flat.symm.trans shapeCasts_S2x2048x3x12x64_S4096x3x3x2x128) :=
    (shapeCast_comp x flat _).symm
  rw [hs]
  refine (to_cols _ _ _ _ r n).trans (shapeCast_apply x flat _ _ ?_)
  rw [Shape.rowMajor_val_five, Shape.rowMajor_val_two]
  show (((g.val * 2048 + p.val) * 3 + t.val) * 12 + hd.val) * 64 + e.val = r.val * 2304 + (toPair n).val
  omega

/-- The reference's array. -/
theorem all_apply (Q : S4096x2304.Idx → EReal) (cos sin : S2048x8.Idx → EReal) (i : S4096x2304.Idx) :
    order (stack (scaled (rotary (kind Q 0 slices_S2x2048x3x12x64_S2x2048x1x12x64_0_0_0_0_0) (angles cos) (angles sin)))
        (rotary (kind Q 1 slices_S2x2048x3x12x64_S2x2048x1x12x64_0_0_1_0_0) (angles cos) (angles sin))
        (kind Q 2 slices_S2x2048x3x12x64_S2x2048x1x12x64_0_0_2_0_0)) i
      = full Q cos sin (Ideal.ofBits .f32 0x3E000000#32) (i 0) (toPair (i 1)) := by
  have key : ∀ (r : Fin 4096) (n : Fin 2304),
      order (stack (scaled (rotary (kind Q 0 slices_S2x2048x3x12x64_S2x2048x1x12x64_0_0_0_0_0) (angles cos) (angles sin)))
        (rotary (kind Q 1 slices_S2x2048x3x12x64_S2x2048x1x12x64_0_0_1_0_0) (angles cos) (angles sin))
        (kind Q 2 slices_S2x2048x3x12x64_S2x2048x1x12x64_0_0_2_0_0)) (ix2 r n)
      = full Q cos sin (Ideal.ofBits .f32 0x3E000000#32) r (toPair n) := fun r n => by
    have hlt := (toPair n).isLt
    have hrl := r.isLt
    let g : Fin 2 := ⟨r.val / 2048, by omega⟩
    let p : Fin 2048 := ⟨r.val % 2048, by omega⟩
    let hd : Fin 12 := ⟨(toPair n).val % 768 / 64, by omega⟩
    let e : Fin 64 := ⟨(toPair n).val % 64, by omega⟩
    have hr : r.val = g.val * 2048 + p.val := by show _ = r.val / 2048 * 2048 + r.val % 2048; omega
    have hn : ∀ t : ℕ, (toPair n).val / 768 = t → (toPair n).val = t * 768 + hd.val * 64 + e.val := fun t ht => by
      show _ = t * 768 + (toPair n).val % 768 / 64 * 64 + (toPair n).val % 64; omega
    unfold full
    by_cases h0 : (toPair n).val / 768 = 0
    · rw [if_pos h0, order_apply _ g p 0 hd e r n hr (hn 0 h0), stack_q]
      exact congrArg (· * Ideal.ofBits .f32 0x3E000000#32) (rotary_apply Q g p hd cos sin 0 _ (by decide) e r _ hr (hn 0 h0))
    · by_cases h1 : (toPair n).val / 768 = 1
      · rw [if_neg h0, if_pos h1, order_apply _ g p 1 hd e r n hr (hn 1 h1), stack_k]
        exact rotary_apply Q g p hd cos sin 1 _ (by decide) e r _ hr (hn 1 h1)
      · have h2 : (toPair n).val / 768 = 2 := by omega
        rw [if_neg h0, if_neg h1, order_apply _ g p 2 hd e r n hr (hn 2 h2), stack_v]
        exact kind_apply Q g p hd 2 _ (by decide) e r _ hr (hn 2 h2)
  conv_lhs => rw [eq_ix2 i]
  exact key (i 0) (i 1)

variable (m : (ℓ : Loc nD τ sig) → Buf (Elt Ideal) ℓ) (ρ : Dev nD → PrngReg) (c : Dev nD)

abbrev h : S4096x1024.Idx → EReal := m ((c : Thread nD τ).loc main_arg0)
abbrev w : S1024x2304.Idx → EReal := m ((c : Thread nD τ).loc main_arg1)
abbrev cos : S2048x8.Idx → EReal := m ((c : Thread nD τ).loc main_arg2)
abbrev sin : S2048x8.Idx → EReal := m ((c : Thread nD τ).loc main_arg3)

abbrev QKV : S4096x2304.Idx → EReal := fun i =>
  full (plain (n := 4096) (p := 2304) (q := 1024) (h m c) (w m c)) (cos m c) (sin m c) RopeRun.scale (i 0) (toPair (i 1))

theorem res_eq : Value.res_out0 (F := Ideal) m c = QKV m c := by
  funext i
  refine Eq.trans ?_ (all_apply (plain (n := 4096) (p := 2304) (q := 1024) (h m c) (w m c)) (cos m c) (sin m c) i)
  rw [← dot]
  rfl

omit c in
theorem results : θ_run defs (onTc (τ := τ) (main (F := Ideal))) ⟨m, fun _ => 0, ρ⟩ (fun r => ∀ c : Dev nD,
      r.2.mem ((c : Thread nD τ).loc main_v51) = QKV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c => ⟨(h c).1.trans (res_eq m c), (h c).2⟩) (Value.run (F := Ideal) m ρ)

end Reference

/-- The reference terminates, keeps its arguments, and has no counter to leave. -/
theorem reference_frame : Cert.quiescent_RopeRefIdeal (hRopeRefIdeal := Cert.RopeRefIdeal.Gen.facts) :=
  fun m ρ _ => (θ_run Cert.RopeRefIdeal.defs _ _).mono
    (fun r h => ⟨fun c => (h c).2, sem_eq_zero_of_no_sems (by decide) r.2⟩)
    (Cert.RopeRefIdeal.Value.run (F := Ideal) m ρ)

theorem value : Cert.algebraic_RopeIdeal_RopeRefIdeal (hRopeIdeal := Cert.RopeIdeal.Gen.facts)
    (hRopeRefIdeal := Cert.RopeRefIdeal.Gen.facts) := by
  intro m g m' g' _ hargs
  refine ⟨_, RopeRun.results m g, (θ_run Cert.RopeRefIdeal.defs _ _).mono (fun r h c => ?_) (results m' g')⟩
  obtain ⟨e0, e1, e2, e3⟩ := hargs c
  have hkeep := (h c).2
  have h := (h c).1
  unfold QKV RopeRef.h w cos sin at h
  rw [e0, e1, e2, e3] at h
  exact ⟨h, hkeep⟩

end Cert.Proof.RopeRef

end
-- ==== Proof.PrepSpec.lean ====
/-
  The recurrence's discretisation and its derivative, as functions of the arguments; and the layouts under which the
  kernel and the host hold the same values: the channels first or last, the time step as a column.
-/
module

public import proofs.«01_k».proof.Proof.Rms

@[expose] public section

set_option maxRecDepth 16384

noncomputable section

namespace Cert.Proof.PrepSpec

open Idealize.ShloMosaic Idealize.ShloMosaic.ValueIdx Idealize.ShloMosaic.Ideal Cert.Proof.Rows Cert.Proof.Rms

/-- One value to each group and state. -/
abbrev Mat := FVec Ideal ⟨2, ![32, 64]⟩ .f32
/-- One value to each channel, group and state. -/
abbrev Cube := FVec Ideal ⟨3, ![16, 32, 64]⟩ .f32
/-- The same with the channels last. -/
abbrev Last := FVec Ideal ⟨3, ![32, 64, 16]⟩ .f32
/-- One value to each group. -/
abbrev Step := FVec Ideal ⟨2, ![32, 1]⟩ .f32

/-! ## The terms -/

def neg {s : Shape} (x : FVec Ideal s .f32) : FVec Ideal s .f32 := fun i => -(x i : EReal)
def one : Mat := fun _ => Ideal.ofBits .f32 0x3F800000#32
def steps (t : Step) : Mat := fun i => t (ix2 (i 0) 0)
def spread (f : Mat) : Cube := fun i => f (ix2 (i 1) (i 2))
def chan (x : Cube) : Mat := fun i => ∑ k : Fin 16, x (ix3 k (i 0) (i 1))

section Terms

variable (t : Step) (lr li gr gi : Mat) (br bi hr hi : Cube)

def mag : Mat := exp (mulf lr (steps t))
def cosv : Mat := cos (mulf li (steps t))
def sinv : Mat := sin (mulf li (steps t))
def abr : Mat := mulf (mag t lr) (cosv t li)
def abi : Mat := mulf (mag t lr) (sinv t li)
def den : Mat := addf (mulf lr lr) (mulf li li)
def nr : Mat := subf (abr t lr li) one
def ren : Mat := addf (mulf (nr t lr li) lr) (mulf (abi t lr li) li)
def imn : Mat := subf (mulf (abi t lr li) lr) (mulf (nr t lr li) li)
def fr : Mat := divf (ren t lr li) (den lr li)
def fi : Mat := divf (imn t lr li) (den lr li)
def inv : Mat := divf one (mulf (den lr li) (den lr li))
def bbr : Cube := subf (mulf (spread (fr t lr li)) br) (mulf (spread (fi t lr li)) bi)
def bbi : Cube := addf (mulf (spread (fr t lr li)) bi) (mulf (spread (fi t lr li)) br)

/-- The gradient of the factor's imaginary part. -/
def dfi : Mat := addf (chan (mulf hi br)) (chan (mulf (neg hr) bi))
/-- The gradient of its real part. -/
def dfr : Mat := addf (chan (mulf hi bi)) (chan (mulf hr br))
def dbi : Cube := addf (mulf (spread (fr t lr li)) hi) (mulf (spread (fi t lr li)) (neg hr))
def dbr : Cube := addf (mulf (spread (fi t lr li)) hi) (mulf (spread (fr t lr li)) hr)

end Terms

section Back

variable (t : Step) (lr li gr gi a b : Mat)

def dden : Mat := addf (neg (mulf (mulf a (inv lr li)) (imn t lr li))) (neg (mulf (mulf b (inv lr li)) (ren t lr li)))
def dim : Mat := addf (addf gi (mulf (divf a (den lr li)) lr)) (mulf (divf b (den lr li)) li)
def dre : Mat := addf (addf gr (mulf (neg (divf a (den lr li))) li)) (mulf (divf b (den lr li)) lr)
def pc : Mat := mulf (mulf (mag t lr) (dim lr li gi a b)) (cosv t li)
def ps : Mat := mulf (neg (mulf (mag t lr) (dre lr li gr a b))) (sinv t li)
def pm : Mat := mulf (addf (mulf (dim lr li gi a b) (sinv t li)) (mulf (dre lr li gr a b) (cosv t li))) (mag t lr)
def dlr : Mat := addf (addf (addf (addf (mulf (abi t lr li) (divf a (den lr li))) (mulf (nr t lr li) (divf b (den lr li))))
  (mulf lr (dden t lr li a b))) (mulf (dden t lr li a b) lr)) (mulf (pm t lr li gr gi a b) (steps t))
def dli : Mat := addf (addf (addf (addf (addf (mulf (nr t lr li) (neg (divf a (den lr li)))) (mulf (abi t lr li) (divf b (den lr li))))
  (mulf li (dden t lr li a b))) (mulf (dden t lr li a b) li)) (mulf (pc t lr li gi a b) (steps t))) (mulf (ps t lr li gr a b) (steps t))
def dt : Step := fun i => (rowSum (mulf li (pc t lr li gi a b)) (i 0) + rowSum (mulf li (ps t lr li gr a b)) (i 0)
  + rowSum (mulf lr (pm t lr li gr gi a b)) (i 0)) * t i

end Back

/-! ## The kernel's layouts -/

theorem zero_sub_row {s : Shape} (x : FVec Ideal s .f32) : subf (broadcast s (Scalar.ofBits .f32 0x00000000#32)) x = neg x := by
  funext i
  show Ideal.ofBits .f32 0x00000000#32 - (x i : EReal) = -(x i)
  rw [zero_word, zero_sub]

theorem steps_eq (t : Step) (h : Shape.Broadcasts ⟨2, ![32, 1]⟩ ⟨2, ![32, 64]⟩) : broadcastTo ⟨2, ![32, 64]⟩ t h = steps t := across t h

theorem spread_eq (f : Mat) (h : Shape.ShapeCasts ⟨2, ![32, 64]⟩ ⟨3, ![1, 32, 64]⟩) (h' : Shape.Broadcasts ⟨3, ![1, 32, 64]⟩ ⟨3, ![16, 32, 64]⟩) :
    broadcastTo ⟨3, ![16, 32, 64]⟩ (shapeCast ⟨3, ![1, 32, 64]⟩ f h) h' = spread f := by
  funext i
  refine (broadcastTo_apply _ h' i (ix3 0 (i 1) (i 2)) fun a => ?_).trans (shapeCast_apply f h _ (ix2 (i 1) (i 2)) ?_)
  · match a with | ⟨0, _⟩ => rfl | ⟨1, _⟩ => rfl | ⟨2, _⟩ => rfl
  · rw [Shape.rowMajor_val_two, Shape.rowMajor_val_three]
    show (i 1).val * 64 + (i 2).val = (0 * 32 + (i 1).val) * 64 + (i 2).val
    omega

theorem chan_eq (x : Cube) (h : Shape.Reduces ⟨3, ![16, 32, 64]⟩ [0] ⟨2, ![32, 64]⟩) :
    multiReduction .add [0] ⟨2, ![32, 64]⟩ x 0x00000000#32 h (.inl rfl) rfl = chan x := by
  funext i
  refine (h.sum_filter_drop_single x i).trans (Finset.sum_congr rfl fun k _ => congrArg x ?_)
  funext a; match a with | ⟨0, _⟩ => rfl | ⟨1, _⟩ => rfl | ⟨2, _⟩ => rfl

theorem once_eq (f : Mat) (h : Shape.ShapeCasts ⟨2, ![32, 64]⟩ ⟨3, ![1, 32, 64]⟩) (h' : Shape.Reduces ⟨3, ![1, 32, 64]⟩ [0] ⟨2, ![32, 64]⟩) :
    multiReduction .add [0] ⟨2, ![32, 64]⟩ (shapeCast ⟨3, ![1, 32, 64]⟩ f h) 0x00000000#32 h' (.inl rfl) rfl = f := by
  funext i
  refine (h'.sum_filter_drop_single _ i).trans ((Fin.sum_univ_one (fun k : Fin 1 => _)).trans (shapeCast_apply f h _ i ?_))
  rw [Shape.rowMajor_val_two, Shape.rowMajor_val_three]
  show (i 0).val * 64 + (i 1).val = (0 * 32 + (i 0).val) * 64 + (i 1).val
  omega

/-! ## The host's layouts -/

/-- Channels brought to the front. -/
def first (x : Last) : Cube := fun i => x (ix3 (i 1) (i 2) (i 0))

theorem first_eq (x : Last) (h : Shape.Transposes ⟨3, ![32, 64, 16]⟩ [2, 0, 1] ⟨3, ![16, 32, 64]⟩) :
    transpose ⟨3, ![16, 32, 64]⟩ [2, 0, 1] x h = first x := by
  funext i
  refine transpose_apply _ x h i (ix3 (i 1) (i 2) (i 0)) fun a => ?_
  match a with | ⟨0, _⟩ => rfl | ⟨1, _⟩ => rfl | ⟨2, _⟩ => rfl

theorem column (x : FVec Ideal ⟨1, ![32]⟩ .f32) (h : Shape.ShapeCasts ⟨1, ![32]⟩ ⟨2, ![32, 1]⟩) :
    shapeCast ⟨2, ![32, 1]⟩ x h = fun i => x (ix1 (i 0)) := by
  funext i
  conv_lhs => rw [eq_ix2 i]
  exact shapeCast_a_a1_apply _ h (i 0) (i 1)

end Cert.Proof.PrepSpec

end
-- ==== Proof.PrepOut.lean ====
/-
  The two kernels of the recurrence's discretisation: each body runs once on whole arrays and leaves, in each output
  array, the corresponding term of the arrays it was given.
-/
module

public import proofs.«01_k».proof.Proof.PrepSpec
public import proofs.«01_k».proof.Proof.Gen.PrepIdeal.Frame
public import Idealize.ShloMosaic.Lib.Pipeline.ValueKit

@[expose] public section

set_option maxRecDepth 16384

noncomputable section

namespace Cert.Proof.PrepOut

open Cert.PrepIdeal Cert.PrepIdeal.Gen Idealize.ShloMosaic.TcCoe Idealize.SL.Sem
open Idealize.ShloMosaic hiding ix1 ix2 ix3 eq_ix1 eq_ix2
open Idealize.ShloMosaic.ValueIdx Idealize.ShloMosaic.Ideal Cert.Proof.PrepSpec
open Idealize.ShloMosaic.Pipeline (Dat)

/-! ## The bodies' values -/

section Values

variable (x0 x1 x5 x6 : Mat) (x2 : Step) (x3 x4 x7 x8 : Cube)

theorem step0 : k0_pay5 (F := Ideal) x2 = exp x2 := by unfold k0_pay5; simp only [shapeCast_self]
theorem mag0 : k0_pay6 (F := Ideal) x0 x2 = mag (exp x2) x0 := by unfold k0_pay6; simp only [step0, steps_eq]; rfl
theorem cos0 : k0_pay8 (F := Ideal) x1 x2 = cosv (exp x2) x1 := by unfold k0_pay8 k0_pay7; simp only [step0, steps_eq]; rfl
theorem sin0 : k0_pay9 (F := Ideal) x1 x2 = sinv (exp x2) x1 := by unfold k0_pay9 k0_pay7; simp only [step0, steps_eq]; rfl
theorem sin0' : k0_pay11 (F := Ideal) x1 x2 = sinv (exp x2) x1 := by unfold k0_pay11 k0_pay10; simp only [step0, steps_eq]; rfl
theorem cos0' : k0_pay12 (F := Ideal) x1 x2 = cosv (exp x2) x1 := by unfold k0_pay12 k0_pay10; simp only [step0, steps_eq]; rfl
theorem abi0 : k0_pay13 (F := Ideal) x0 x1 x2 = abi (exp x2) x0 x1 := by unfold k0_pay13; rw [mag0, sin0']; rfl
theorem den0 : k0_pay14 (F := Ideal) x0 x1 = den x0 x1 := rfl
theorem nr0 : k0_pay15 (F := Ideal) x0 x1 x2 = nr (exp x2) x0 x1 := by unfold k0_pay15; rw [mag0, cos0]; rfl
theorem ren0 : k0_pay16 (F := Ideal) x0 x1 x2 = ren (exp x2) x0 x1 := by unfold k0_pay16; rw [nr0, abi0]; rfl
theorem fr0 : k0_pay17 (F := Ideal) x0 x1 x2 = fr (exp x2) x0 x1 := by unfold k0_pay17; rw [ren0, den0]; rfl
theorem inv0 : k0_pay18 (F := Ideal) x0 x1 = inv x0 x1 := by unfold k0_pay18; rw [den0]; rfl
theorem imn0 : k0_pay19 (F := Ideal) x0 x1 x2 = imn (exp x2) x0 x1 := by unfold k0_pay19; rw [nr0, abi0]; rfl
theorem fi0 : k0_pay20 (F := Ideal) x0 x1 x2 = fi (exp x2) x0 x1 := by unfold k0_pay20; rw [imn0, den0]; rfl
theorem inv0' : k0_pay21 (F := Ideal) x0 x1 = inv x0 x1 := by unfold k0_pay21; rw [den0]; rfl
theorem neg0 : k0_pay29 (F := Ideal) x7 = neg x7 := by unfold k0_pay29; exact zero_sub_row x7
theorem dfi0 : k0_pay31 (F := Ideal) x3 x4 x7 x8 = dfi x3 x4 x7 x8 := by
  unfold k0_pay31 k0_pay27; simp only [shapeCast_self, neg0]
  exact congrArg₂ addf ((once_eq _ _ _).trans (chan_eq _ _)) ((once_eq _ _ _).trans (chan_eq _ _))
theorem dfr0 : k0_pay33 (F := Ideal) x3 x4 x7 x8 = dfr x3 x4 x7 x8 := by
  unfold k0_pay33 k0_pay26 k0_pay28; simp only [shapeCast_self]
  exact congrArg₂ addf ((once_eq _ _ _).trans (chan_eq _ _)) ((once_eq _ _ _).trans (chan_eq _ _))
theorem dbr0 : k0_pay32 (F := Ideal) (k0_pay22 x0 x1 x2) (k0_pay25 x0 x1 x2) x7 x8 = dbr (exp x2) x0 x1 x7 x8 := by
  unfold k0_pay32 k0_pay22 k0_pay25 k0_pay27 k0_pay28; simp only [shapeCast_self, spread_eq, fr0, fi0]; rfl
theorem dbi0 : k0_pay30 (F := Ideal) (k0_pay23 x0 x1 x2) (k0_pay24 x0 x1 x2) x7 x8 = dbi (exp x2) x0 x1 x7 x8 := by
  unfold k0_pay30 k0_pay23 k0_pay24 k0_pay26; simp only [shapeCast_self, spread_eq, fr0, fi0, neg0]; rfl

variable (a b : Mat) (t : Step)

theorem dden0 : k0_pay38 (F := Ideal) (ren t x0 x1) (inv x0 x1) b (mulf (mulf a (inv x0 x1)) (imn t x0 x1)) k0_pay35
    = dden t x0 x1 a b := by unfold k0_pay38 k0_pay35; simp only [zero_sub_row]; rfl
theorem nega0 : k0_pay37 (F := Ideal) (den x0 x1) a = neg (divf a (den x0 x1)) := by unfold k0_pay37; simp only [zero_sub_row]; rfl
theorem dim0 : k0_pay40 (F := Ideal) x0 x1 (den x0 x1) x6 a b = dim x0 x1 x6 a b := rfl
theorem dre0 : k0_pay41 (F := Ideal) x0 x1 (den x0 x1) x5 a b = dre x0 x1 x5 a b := by unfold k0_pay41; simp only [nega0]; rfl
theorem pc0 : k0_pay43 (F := Ideal) x0 x1 (mag t x0) (cosv t x1) (den x0 x1) x6 a b = pc t x0 x1 x6 a b := by
  unfold k0_pay43; rw [dim0]; rfl
theorem ps0 : k0_pay44 (F := Ideal) x0 x1 (mag t x0) (sinv t x1) (den x0 x1) x5 a b = ps t x0 x1 x5 a b := by
  unfold k0_pay44; simp only [dre0, zero_sub_row]; rfl
theorem pm0 : k0_pay47 (F := Ideal) x0 x1 (mag t x0) (cosv t x1) (sinv t x1) (den x0 x1) x5 x6 a b = pm t x0 x1 x5 x6 a b := by
  unfold k0_pay47; rw [dim0, dre0]; rfl
theorem half0 : k0_pay45 (F := Ideal) x0 x1 (mag t x0) (sinv t x1) (cosv t x1) (den x0 x1) x5 x6 a b
    = fun i => Rows.rowSum (mulf x1 (pc t x0 x1 x6 a b)) (i 0) + Rows.rowSum (mulf x1 (ps t x0 x1 x5 a b)) (i 0) := by
  unfold k0_pay45; simp only [pc0, ps0]
  exact congrArg₂ addf (Rows.lane _ _ _) (Rows.lane _ _ _)
theorem dt0 : k0_pay2 (F := Ideal) x0 t (k0_pay45 x0 x1 (mag t x0) (sinv t x1) (cosv t x1) (den x0 x1) x5 x6 a b)
    (pm t x0 x1 x5 x6 a b) = dt t x0 x1 x5 x6 a b := by
  rw [half0]; unfold k0_pay2
  exact congrArg (fun z => mulf (addf _ z) t) (Rows.lane _ _ _)
theorem dlr0 : k0_pay1 (F := Ideal) t (k0_pay42 x0 (abi t x0 x1) (den x0 x1) (nr t x0 x1) (ren t x0 x1) (inv x0 x1) a b
    (mulf (mulf a (inv x0 x1)) (imn t x0 x1)) k0_pay35) (pm t x0 x1 x5 x6 a b) = dlr t x0 x1 x5 x6 a b := by
  unfold k0_pay1 k0_pay42; simp only [dden0, steps_eq]; rfl
theorem dli0 : k0_pay46 (F := Ideal) x0 x1 t (mag t x0) (sinv t x1) (cosv t x1) (abi t x0 x1) (den x0 x1) (nr t x0 x1) (ren t x0 x1)
    (inv x0 x1) x5 x6 a b (mulf (mulf a (inv x0 x1)) (imn t x0 x1)) k0_pay35 = dli t x0 x1 x5 x6 a b := by
  unfold k0_pay46; simp only [dden0, nega0, pc0, ps0, steps_eq]; rfl

theorem step1 : k1_pay3 (F := Ideal) x2 = exp x2 := by unfold k1_pay3; simp only [shapeCast_self]
theorem mag1 : k1_pay4 (F := Ideal) x0 x2 = mag (exp x2) x0 := by unfold k1_pay4; simp only [step1, steps_eq]; rfl
theorem abr1 : k1_pay5 (F := Ideal) x0 x1 x2 = abr (exp x2) x0 x1 := by unfold k1_pay5; simp only [mag1, step1, steps_eq]; rfl
theorem abi1 : k1_pay6 (F := Ideal) x0 x1 x2 = abi (exp x2) x0 x1 := by unfold k1_pay6; simp only [mag1, step1, steps_eq]; rfl
theorem nr1 : k1_pay8 (F := Ideal) x0 x1 x2 = nr (exp x2) x0 x1 := by unfold k1_pay8; rw [abr1]; rfl
theorem fr1 : k1_pay9 (F := Ideal) x0 x1 x2 = fr (exp x2) x0 x1 := by unfold k1_pay9; rw [nr1, abi1]; rfl
theorem fi1 : k1_pay10 (F := Ideal) x0 x1 x2 = fi (exp x2) x0 x1 := by unfold k1_pay10; rw [nr1, abi1]; rfl
theorem bbr1 : k1_pay11 (F := Ideal) x0 x1 x2 x3 x4 = bbr (exp x2) x0 x1 x3 x4 := by
  unfold k1_pay11 k1_pay1 k1_pay2; simp only [shapeCast_self, spread_eq, fr1, fi1]; rfl
theorem bbi1 : k1_pay12 (F := Ideal) x0 x1 x2 x3 x4 = bbi (exp x2) x0 x1 x3 x4 := by
  unfold k1_pay12 k1_pay1 k1_pay2; simp only [shapeCast_self, spread_eq, fr1, fi1]; rfl

end Values

/-! ## What the bodies leave -/

theorem zeros2 : (![0, 0] : Fin 2 → Nat) = fun _ => 0 := by funext a; match a with | ⟨0, _⟩ => rfl | ⟨1, _⟩ => rfl
theorem zeros3 : (![0, 0, 0] : Fin 3 → Nat) = fun _ => 0 := by
  funext a; match a with | ⟨0, _⟩ => rfl | ⟨1, _⟩ => rfl | ⟨2, _⟩ => rfl
theorem ld0 (x : Mat) : View.ld (Val := Elt Ideal) (e' := .f32) x r0_0 = x := View.ld_unit_zero zeros2 _ _
theorem ld1 (x : Step) : View.ld (Val := Elt Ideal) (e' := .f32) x r0_1 = x := View.ld_unit_zero zeros2 _ _
theorem ld2 (x : Cube) : View.ld (Val := Elt Ideal) (e' := .f32) x r0_2 = x := View.ld_unit_zero zeros3 _ _

section Outs

variable (x0 x1 x5 x6 : Mat) (x2 : Step) (x3 x4 x7 x8 : Cube)

theorem v48 : k0_pay48 (F := Ideal) x0 x1 x2 x3 x4 x5 x6 x7 x8 = x3 := by unfold k0_pay48 k0_pay3; rw [ld2, shapeCast_self]
theorem v49 : k0_pay49 (F := Ideal) x0 x1 x2 x3 x4 x5 x6 x7 x8 = x4 := by unfold k0_pay49 k0_pay4; rw [ld2, shapeCast_self]
theorem v50 : k0_pay50 (F := Ideal) x0 x1 x2 x3 x4 x5 x6 x7 x8 = exp x2 := by unfold k0_pay50; rw [ld1, step0]
theorem v51 : k0_pay51 (F := Ideal) x0 x1 x2 x3 x4 x5 x6 x7 x8 = mag (exp x2) x0 := by unfold k0_pay51; rw [ld0, ld1, mag0]
theorem v52 : k0_pay52 (F := Ideal) x0 x1 x2 x3 x4 x5 x6 x7 x8 = sinv (exp x2) x1 := by unfold k0_pay52; rw [ld0, ld1, sin0]
theorem v53 : k0_pay53 (F := Ideal) x0 x1 x2 x3 x4 x5 x6 x7 x8 = cosv (exp x2) x1 := by unfold k0_pay53; rw [ld0, ld1, cos0']
theorem v54 : k0_pay54 (F := Ideal) x0 x1 x2 x3 x4 x5 x6 x7 x8 = abi (exp x2) x0 x1 := by unfold k0_pay54; rw [ld0, ld0, ld1, abi0]
theorem v55 : k0_pay55 (F := Ideal) x0 x1 x2 x3 x4 x5 x6 x7 x8 = den x0 x1 := by unfold k0_pay55; rw [ld0, ld0, den0]
theorem v56 : k0_pay56 (F := Ideal) x0 x1 x2 x3 x4 x5 x6 x7 x8 = nr (exp x2) x0 x1 := by unfold k0_pay56; rw [ld0, ld0, ld1, nr0]
theorem v57 : k0_pay57 (F := Ideal) x0 x1 x2 x3 x4 x5 x6 x7 x8 = ren (exp x2) x0 x1 := by unfold k0_pay57; rw [ld0, ld0, ld1, ren0]
theorem v58 : k0_pay58 (F := Ideal) x0 x1 x2 x3 x4 x5 x6 x7 x8 = inv x0 x1 := by unfold k0_pay58; rw [ld0, ld0, inv0]
theorem v59 : k0_pay59 (F := Ideal) x0 x1 x2 x3 x4 x5 x6 x7 x8 = dfi x3 x4 x7 x8 := by unfold k0_pay59; rw [ld2, ld2, v48, v49, dfi0]
theorem v60 : k0_pay60 (F := Ideal) x0 x1 x2 x3 x4 x5 x6 x7 x8 = dfr x3 x4 x7 x8 := by unfold k0_pay60; rw [ld2, ld2, v48, v49, dfr0]
theorem v61 : k0_pay61 (F := Ideal) x0 x1 x2 x3 x4 x5 x6 x7 x8 = mulf (mulf (dfi x3 x4 x7 x8) (inv x0 x1)) (imn (exp x2) x0 x1) := by unfold k0_pay61 k0_pay34; rw [ld0, ld0, ld1, ld2, ld2, v48, v49, dfi0, imn0, inv0']
theorem v62 : k0_pay62 (F := Ideal) x0 x1 x2 x3 x4 x5 x6 x7 x8 = k0_pay35 (F := Ideal) := rfl
theorem v63 : k0_pay63 (F := Ideal) x0 x1 x2 x3 x4 x5 x6 x7 x8 = pm (exp x2) x0 x1 x5 x6 (dfi x3 x4 x7 x8) (dfr x3 x4 x7 x8) := by unfold k0_pay63; simp only [ld0, ld1, v51, v55, v59, v60, cos0, sin0', pm0]

theorem out9 : out0_9 (F := Ideal) x0 x1 x2 x3 x4 x5 x6 x7 x8 = dlr (exp x2) x0 x1 x5 x6 (dfi x3 x4 x7 x8) (dfr x3 x4 x7 x8) := by
  frame_out
  rw [v50, v54, v55, v56, v57, v58, v59, v60, v61, v62, v63]; exact dlr0 x0 x1 x5 x6 _ _ _
theorem out10 : out0_10 (F := Ideal) x0 x1 x2 x3 x4 x5 x6 x7 x8 = dli (exp x2) x0 x1 x5 x6 (dfi x3 x4 x7 x8) (dfr x3 x4 x7 x8) := by
  frame_out
  rw [v50, v51, v52, v53, v54, v55, v56, v57, v58, v59, v60, v61, v62]; exact dli0 x0 x1 x5 x6 _ _ _
theorem out11 : out0_11 (F := Ideal) x0 x1 x2 x3 x4 x5 x6 x7 x8 = dt (exp x2) x0 x1 x5 x6 (dfi x3 x4 x7 x8) (dfr x3 x4 x7 x8) := by
  frame_out
  rw [v50, v51, v52, v53, v55, v59, v60, v63]; exact dt0 x0 x1 x5 x6 _ _ _
theorem out12 : out0_12 (F := Ideal) x0 x1 x2 x3 x4 x5 x6 x7 x8 = dbr (exp x2) x0 x1 x7 x8 := by
  frame_out
  exact dbr0 x0 x1 x2 x7 x8
theorem out13 : out0_13 (F := Ideal) x0 x1 x2 x3 x4 x5 x6 x7 x8 = dbi (exp x2) x0 x1 x7 x8 := by
  frame_out
  exact dbi0 x0 x1 x2 x7 x8
theorem out5 : out1_5 (F := Ideal) x0 x1 x2 x3 x4 = abr (exp x2) x0 x1 := by frame_out; exact abr1 x0 x1 x2
theorem out6 : out1_6 (F := Ideal) x0 x1 x2 x3 x4 = abi (exp x2) x0 x1 := by frame_out; exact abi1 x0 x1 x2
theorem out7 : out1_7 (F := Ideal) x0 x1 x2 x3 x4 = bbr (exp x2) x0 x1 x3 x4 := by frame_out; exact bbr1 x0 x1 x2 x3 x4
theorem out8 : out1_8 (F := Ideal) x0 x1 x2 x3 x4 = bbi (exp x2) x0 x1 x3 x4 := by frame_out; exact bbi1 x0 x1 x2 x3 x4

end Outs

/-! ## The arrays the regions leave -/

variable (V : (c : Dev nD) → (b : Ref sig .tc) → Buf (Elt Ideal) ((c : Thread nD τ).loc b)) (c : Dev nD)

/-- A window that is its whole array reads each element at its own place. -/
theorem place {n k : Nat} (z : n = 0) (size j : Nat) (h : n * size + 1 * j = k) : k = j := by subst z; omega

theorem in0_0 (t : Fin cfg0.N) : iblk0 V c 0 t = V c main_arg0 :=
  funext fun j => congrArg (V c main_arg0) (funext fun a => Fin.ext (place (n := win0_0.index t a) rfl _ _ rfl))
theorem in0_1 (t : Fin cfg0.N) : iblk0 V c 1 t = V c main_arg1 :=
  funext fun j => congrArg (V c main_arg1) (funext fun a => Fin.ext (place (n := win0_1.index t a) rfl _ _ rfl))
theorem in0_2 (t : Fin cfg0.N) : iblk0 V c 2 t = V c main_v2 :=
  funext fun j => congrArg (V c main_v2) (funext fun a => Fin.ext (place (n := win0_2.index t a) rfl _ _ rfl))
theorem in0_3 (t : Fin cfg0.N) : iblk0 V c 3 t = V c main_v0 :=
  funext fun j => congrArg (V c main_v0) (funext fun a => Fin.ext (place (n := win0_3.index t a) rfl _ _ rfl))
theorem in0_4 (t : Fin cfg0.N) : iblk0 V c 4 t = V c main_v1 :=
  funext fun j => congrArg (V c main_v1) (funext fun a => Fin.ext (place (n := win0_4.index t a) rfl _ _ rfl))
theorem in0_5 (t : Fin cfg0.N) : iblk0 V c 5 t = V c main_arg5 :=
  funext fun j => congrArg (V c main_arg5) (funext fun a => Fin.ext (place (n := win0_5.index t a) rfl _ _ rfl))
theorem in0_6 (t : Fin cfg0.N) : iblk0 V c 6 t = V c main_arg6 :=
  funext fun j => congrArg (V c main_arg6) (funext fun a => Fin.ext (place (n := win0_6.index t a) rfl _ _ rfl))
theorem in0_7 (t : Fin cfg0.N) : iblk0 V c 7 t = V c main_arg7 :=
  funext fun j => congrArg (V c main_arg7) (funext fun a => Fin.ext (place (n := win0_7.index t a) rfl _ _ rfl))
theorem in0_8 (t : Fin cfg0.N) : iblk0 V c 8 t = V c main_arg8 :=
  funext fun j => congrArg (V c main_arg8) (funext fun a => Fin.ext (place (n := win0_8.index t a) rfl _ _ rfl))
theorem in1_0 (t : Fin cfg1.N) : iblk1 V c 0 t = V c main_arg0 :=
  funext fun j => congrArg (V c main_arg0) (funext fun a => Fin.ext (place (n := win1_0.index t a) rfl _ _ rfl))
theorem in1_1 (t : Fin cfg1.N) : iblk1 V c 1 t = V c main_arg1 :=
  funext fun j => congrArg (V c main_arg1) (funext fun a => Fin.ext (place (n := win1_1.index t a) rfl _ _ rfl))
theorem in1_2 (t : Fin cfg1.N) : iblk1 V c 2 t = V c main_v2 :=
  funext fun j => congrArg (V c main_v2) (funext fun a => Fin.ext (place (n := win1_2.index t a) rfl _ _ rfl))
theorem in1_3 (t : Fin cfg1.N) : iblk1 V c 3 t = V c main_v0 :=
  funext fun j => congrArg (V c main_v0) (funext fun a => Fin.ext (place (n := win1_3.index t a) rfl _ _ rfl))
theorem in1_4 (t : Fin cfg1.N) : iblk1 V c 4 t = V c main_v1 :=
  funext fun j => congrArg (V c main_v1) (funext fun a => Fin.ext (place (n := win1_4.index t a) rfl _ _ rfl))

theorem emb0_9 (t : Fin cfg0.N) (j : S32x64.Idx) : ((cfg0.win 9).blk t).view.emb j = j :=
  funext fun a => Fin.ext (place (n := win0_9.index t a) rfl _ _ rfl)
theorem arr0_9 : (dat0 V c).arrAt 9 cfg0.N = dlr (exp (V c main_v2 : Step)) (V c main_arg0) (V c main_arg1) (V c main_arg5) (V c main_arg6) (dfi (V c main_v0) (V c main_v1) (V c main_arg7) (V c main_arg8)) (dfr (V c main_v0) (V c main_v1) (V c main_arg7) (V c main_arg8)) :=
  (dat0 V c).arrAt_eq_of_cover 9 (dlr (exp (V c main_v2 : Step)) (V c main_arg0) (V c main_arg1) (V c main_arg5) (V c main_arg6) (dfi (V c main_v0) (V c main_v1) (V c main_arg7) (V c main_arg8)) (dfr (V c main_v0) (V c main_v1) (V c main_arg7) (V c main_arg8))) (fun t _ => by
    show (cfg0.win 9).cut (grid0.coords t) ((dat0 V c).after 9 t) = _
    rw [after0_9, in0_0, in0_1, in0_2, in0_3, in0_4, in0_5, in0_6, in0_7, in0_8, out9]
    exact funext fun j => congrArg (dlr (exp (V c main_v2 : Step)) (V c main_arg0) (V c main_arg1) (V c main_arg5) (V c main_arg6) (dfi (V c main_v0) (V c main_v1) (V c main_arg7) (V c main_arg8)) (dfr (V c main_v0) (V c main_v1) (V c main_arg7) (V c main_arg8))) (emb0_9 t j).symm)
  fun i => ⟨t0_0, flush0_9 t0_0, by
    have h := ((cfg0.win 9).blk t0_0).view.emb_mem_set i
    rwa [emb0_9] at h⟩

theorem emb0_10 (t : Fin cfg0.N) (j : S32x64.Idx) : ((cfg0.win 10).blk t).view.emb j = j :=
  funext fun a => Fin.ext (place (n := win0_10.index t a) rfl _ _ rfl)
theorem arr0_10 : (dat0 V c).arrAt 10 cfg0.N = dli (exp (V c main_v2 : Step)) (V c main_arg0) (V c main_arg1) (V c main_arg5) (V c main_arg6) (dfi (V c main_v0) (V c main_v1) (V c main_arg7) (V c main_arg8)) (dfr (V c main_v0) (V c main_v1) (V c main_arg7) (V c main_arg8)) :=
  (dat0 V c).arrAt_eq_of_cover 10 (dli (exp (V c main_v2 : Step)) (V c main_arg0) (V c main_arg1) (V c main_arg5) (V c main_arg6) (dfi (V c main_v0) (V c main_v1) (V c main_arg7) (V c main_arg8)) (dfr (V c main_v0) (V c main_v1) (V c main_arg7) (V c main_arg8))) (fun t _ => by
    show (cfg0.win 10).cut (grid0.coords t) ((dat0 V c).after 10 t) = _
    rw [after0_10, in0_0, in0_1, in0_2, in0_3, in0_4, in0_5, in0_6, in0_7, in0_8, out10]
    exact funext fun j => congrArg (dli (exp (V c main_v2 : Step)) (V c main_arg0) (V c main_arg1) (V c main_arg5) (V c main_arg6) (dfi (V c main_v0) (V c main_v1) (V c main_arg7) (V c main_arg8)) (dfr (V c main_v0) (V c main_v1) (V c main_arg7) (V c main_arg8))) (emb0_10 t j).symm)
  fun i => ⟨t0_0, flush0_10 t0_0, by
    have h := ((cfg0.win 10).blk t0_0).view.emb_mem_set i
    rwa [emb0_10] at h⟩

theorem emb0_11 (t : Fin cfg0.N) (j : S32x1.Idx) : ((cfg0.win 11).blk t).view.emb j = j :=
  funext fun a => Fin.ext (place (n := win0_11.index t a) rfl _ _ rfl)
theorem arr0_11 : (dat0 V c).arrAt 11 cfg0.N = dt (exp (V c main_v2 : Step)) (V c main_arg0) (V c main_arg1) (V c main_arg5) (V c main_arg6) (dfi (V c main_v0) (V c main_v1) (V c main_arg7) (V c main_arg8)) (dfr (V c main_v0) (V c main_v1) (V c main_arg7) (V c main_arg8)) :=
  (dat0 V c).arrAt_eq_of_cover 11 (dt (exp (V c main_v2 : Step)) (V c main_arg0) (V c main_arg1) (V c main_arg5) (V c main_arg6) (dfi (V c main_v0) (V c main_v1) (V c main_arg7) (V c main_arg8)) (dfr (V c main_v0) (V c main_v1) (V c main_arg7) (V c main_arg8))) (fun t _ => by
    show (cfg0.win 11).cut (grid0.coords t) ((dat0 V c).after 11 t) = _
    rw [after0_11, in0_0, in0_1, in0_2, in0_3, in0_4, in0_5, in0_6, in0_7, in0_8, out11]
    exact funext fun j => congrArg (dt (exp (V c main_v2 : Step)) (V c main_arg0) (V c main_arg1) (V c main_arg5) (V c main_arg6) (dfi (V c main_v0) (V c main_v1) (V c main_arg7) (V c main_arg8)) (dfr (V c main_v0) (V c main_v1) (V c main_arg7) (V c main_arg8))) (emb0_11 t j).symm)
  fun i => ⟨t0_0, flush0_11 t0_0, by
    have h := ((cfg0.win 11).blk t0_0).view.emb_mem_set i
    rwa [emb0_11] at h⟩

theorem emb0_12 (t : Fin cfg0.N) (j : S16x32x64.Idx) : ((cfg0.win 12).blk t).view.emb j = j :=
  funext fun a => Fin.ext (place (n := win0_12.index t a) rfl _ _ rfl)
theorem arr0_12 : (dat0 V c).arrAt 12 cfg0.N = dbr (exp (V c main_v2 : Step)) (V c main_arg0) (V c main_arg1) (V c main_arg7) (V c main_arg8) :=
  (dat0 V c).arrAt_eq_of_cover 12 (dbr (exp (V c main_v2 : Step)) (V c main_arg0) (V c main_arg1) (V c main_arg7) (V c main_arg8)) (fun t _ => by
    show (cfg0.win 12).cut (grid0.coords t) ((dat0 V c).after 12 t) = _
    rw [after0_12, in0_0, in0_1, in0_2, in0_3, in0_4, in0_5, in0_6, in0_7, in0_8, out12]
    exact funext fun j => congrArg (dbr (exp (V c main_v2 : Step)) (V c main_arg0) (V c main_arg1) (V c main_arg7) (V c main_arg8)) (emb0_12 t j).symm)
  fun i => ⟨t0_0, flush0_12 t0_0, by
    have h := ((cfg0.win 12).blk t0_0).view.emb_mem_set i
    rwa [emb0_12] at h⟩

theorem emb0_13 (t : Fin cfg0.N) (j : S16x32x64.Idx) : ((cfg0.win 13).blk t).view.emb j = j :=
  funext fun a => Fin.ext (place (n := win0_13.index t a) rfl _ _ rfl)
theorem arr0_13 : (dat0 V c).arrAt 13 cfg0.N = dbi (exp (V c main_v2 : Step)) (V c main_arg0) (V c main_arg1) (V c main_arg7) (V c main_arg8) :=
  (dat0 V c).arrAt_eq_of_cover 13 (dbi (exp (V c main_v2 : Step)) (V c main_arg0) (V c main_arg1) (V c main_arg7) (V c main_arg8)) (fun t _ => by
    show (cfg0.win 13).cut (grid0.coords t) ((dat0 V c).after 13 t) = _
    rw [after0_13, in0_0, in0_1, in0_2, in0_3, in0_4, in0_5, in0_6, in0_7, in0_8, out13]
    exact funext fun j => congrArg (dbi (exp (V c main_v2 : Step)) (V c main_arg0) (V c main_arg1) (V c main_arg7) (V c main_arg8)) (emb0_13 t j).symm)
  fun i => ⟨t0_0, flush0_13 t0_0, by
    have h := ((cfg0.win 13).blk t0_0).view.emb_mem_set i
    rwa [emb0_13] at h⟩

theorem emb1_5 (t : Fin cfg1.N) (j : S32x64.Idx) : ((cfg1.win 5).blk t).view.emb j = j :=
  funext fun a => Fin.ext (place (n := win1_5.index t a) rfl _ _ rfl)
theorem arr1_5 : (dat1 V c).arrAt 5 cfg1.N = abr (exp (V c main_v2 : Step)) (V c main_arg0) (V c main_arg1) :=
  (dat1 V c).arrAt_eq_of_cover 5 (abr (exp (V c main_v2 : Step)) (V c main_arg0) (V c main_arg1)) (fun t _ => by
    show (cfg1.win 5).cut (grid1.coords t) ((dat1 V c).after 5 t) = _
    rw [after1_5, in1_0, in1_1, in1_2, in1_3, in1_4, out5]
    exact funext fun j => congrArg (abr (exp (V c main_v2 : Step)) (V c main_arg0) (V c main_arg1)) (emb1_5 t j).symm)
  fun i => ⟨t1_0, flush1_5 t1_0, by
    have h := ((cfg1.win 5).blk t1_0).view.emb_mem_set i
    rwa [emb1_5] at h⟩

theorem emb1_6 (t : Fin cfg1.N) (j : S32x64.Idx) : ((cfg1.win 6).blk t).view.emb j = j :=
  funext fun a => Fin.ext (place (n := win1_6.index t a) rfl _ _ rfl)
theorem arr1_6 : (dat1 V c).arrAt 6 cfg1.N = abi (exp (V c main_v2 : Step)) (V c main_arg0) (V c main_arg1) :=
  (dat1 V c).arrAt_eq_of_cover 6 (abi (exp (V c main_v2 : Step)) (V c main_arg0) (V c main_arg1)) (fun t _ => by
    show (cfg1.win 6).cut (grid1.coords t) ((dat1 V c).after 6 t) = _
    rw [after1_6, in1_0, in1_1, in1_2, in1_3, in1_4, out6]
    exact funext fun j => congrArg (abi (exp (V c main_v2 : Step)) (V c main_arg0) (V c main_arg1)) (emb1_6 t j).symm)
  fun i => ⟨t1_0, flush1_6 t1_0, by
    have h := ((cfg1.win 6).blk t1_0).view.emb_mem_set i
    rwa [emb1_6] at h⟩

theorem emb1_7 (t : Fin cfg1.N) (j : S16x32x64.Idx) : ((cfg1.win 7).blk t).view.emb j = j :=
  funext fun a => Fin.ext (place (n := win1_7.index t a) rfl _ _ rfl)
theorem arr1_7 : (dat1 V c).arrAt 7 cfg1.N = bbr (exp (V c main_v2 : Step)) (V c main_arg0) (V c main_arg1) (V c main_v0) (V c main_v1) :=
  (dat1 V c).arrAt_eq_of_cover 7 (bbr (exp (V c main_v2 : Step)) (V c main_arg0) (V c main_arg1) (V c main_v0) (V c main_v1)) (fun t _ => by
    show (cfg1.win 7).cut (grid1.coords t) ((dat1 V c).after 7 t) = _
    rw [after1_7, in1_0, in1_1, in1_2, in1_3, in1_4, out7]
    exact funext fun j => congrArg (bbr (exp (V c main_v2 : Step)) (V c main_arg0) (V c main_arg1) (V c main_v0) (V c main_v1)) (emb1_7 t j).symm)
  fun i => ⟨t1_0, flush1_7 t1_0, by
    have h := ((cfg1.win 7).blk t1_0).view.emb_mem_set i
    rwa [emb1_7] at h⟩

theorem emb1_8 (t : Fin cfg1.N) (j : S16x32x64.Idx) : ((cfg1.win 8).blk t).view.emb j = j :=
  funext fun a => Fin.ext (place (n := win1_8.index t a) rfl _ _ rfl)
theorem arr1_8 : (dat1 V c).arrAt 8 cfg1.N = bbi (exp (V c main_v2 : Step)) (V c main_arg0) (V c main_arg1) (V c main_v0) (V c main_v1) :=
  (dat1 V c).arrAt_eq_of_cover 8 (bbi (exp (V c main_v2 : Step)) (V c main_arg0) (V c main_arg1) (V c main_v0) (V c main_v1)) (fun t _ => by
    show (cfg1.win 8).cut (grid1.coords t) ((dat1 V c).after 8 t) = _
    rw [after1_8, in1_0, in1_1, in1_2, in1_3, in1_4, out8]
    exact funext fun j => congrArg (bbi (exp (V c main_v2 : Step)) (V c main_arg0) (V c main_arg1) (V c main_v0) (V c main_v1)) (emb1_8 t j).symm)
  fun i => ⟨t1_0, flush1_8 t1_0, by
    have h := ((cfg1.win 8).blk t1_0).view.emb_mem_set i
    rwa [emb1_8] at h⟩

end Cert.Proof.PrepOut

end
-- ==== Proof.PrepRun.lean ====
/-
  The discretisation's run, read at every buffer, and its nine results followed back through the two regions to the
  arguments.
-/
module

public import proofs.«01_k».proof.Proof.PrepOut

@[expose] public section

set_option maxRecDepth 16384

noncomputable section

namespace Cert.Proof.PrepRun

open Cert.PrepIdeal Cert.PrepIdeal.Gen Idealize.ShloMosaic.TcCoe Idealize.ShloMosaic.Tactic
open Idealize.ShloMosaic hiding ix1 ix2 ix3 eq_ix1 eq_ix2
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx Cert.Proof.PrepSpec

section Any

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer of every core ends at the fold's last contents: the segments' launch, with the last thread state read
    against the final memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h _ => h)

end Any

section Results

variable (m : (ℓ : Loc nD τ sig) → Buf (Elt Ideal) ℓ) (ρ : Dev nD → PrngReg) (c : Dev nD)

/-! ### The arguments, as the kernels take them -/

abbrev lr : Mat := m ((c : Thread nD τ).loc main_arg0)
abbrev li : Mat := m ((c : Thread nD τ).loc main_arg1)
abbrev t : Step := exp (fun i : S32x1.Idx => (m ((c : Thread nD τ).loc main_arg2) : S32.Idx → EReal) (ix1 (i 0)) : Step)
abbrev br : Cube := first (m ((c : Thread nD τ).loc main_arg3))
abbrev bi : Cube := first (m ((c : Thread nD τ).loc main_arg4))
abbrev gr : Mat := m ((c : Thread nD τ).loc main_arg5)
abbrev gi : Mat := m ((c : Thread nD τ).loc main_arg6)
abbrev hr : Cube := m ((c : Thread nD τ).loc main_arg7)
abbrev hi : Cube := m ((c : Thread nD τ).loc main_arg8)
abbrev A : Mat := dfi (br m c) (bi m c) (hr m c) (hi m c)
abbrev B : Mat := dfr (br m c) (bi m c) (hr m c) (hi m c)

/-! ### What the host lines leave -/

theorem W1_v0 : W1 m ρ c (Proc.devRef .tc main_v0) = br m c := by
  have e : W1 m ρ c (Proc.devRef .tc main_v0) = transpose S16x32x64 [2, 0, 1] (m ((c : Thread nD τ).loc main_arg3)) transposes_S32x64x16_S16x32x64_2_0_1 := by
    unfold W1 hostOps0; after_results_simp
  exact e.trans (first_eq _ _)
theorem W1_v1 : W1 m ρ c (Proc.devRef .tc main_v1) = bi m c := by
  have e : W1 m ρ c (Proc.devRef .tc main_v1) = transpose S16x32x64 [2, 0, 1] (m ((c : Thread nD τ).loc main_arg4)) transposes_S32x64x16_S16x32x64_2_0_1 := by
    unfold W1 hostOps0; after_results_simp
  exact e.trans (first_eq _ _)
theorem W1_v2 : W1 m ρ c (Proc.devRef .tc main_v2) = (fun i : S32x1.Idx => (m ((c : Thread nD τ).loc main_arg2) : S32.Idx → EReal) (ix1 (i 0)) : Step) := by
  have e : W1 m ρ c (Proc.devRef .tc main_v2) = shapeCast S32x1 (m ((c : Thread nD τ).loc main_arg2)) shapeCasts_S32_S32x1 := by
    unfold W1 hostOps0; after_results_simp; rfl
  exact e.trans (column _ _)

/-! ### What the second region finds -/

theorem W2_v0 : W2 m ρ c (Proc.devRef .tc main_v0) = br m c := (W2_of m ρ c main_v0 (by decide)).trans (W1_v0 m ρ c)
theorem W2_v1 : W2 m ρ c (Proc.devRef .tc main_v1) = bi m c := (W2_of m ρ c main_v1 (by decide)).trans (W1_v1 m ρ c)
theorem W2_v2 : W2 m ρ c (Proc.devRef .tc main_v2) = (fun i : S32x1.Idx => (m ((c : Thread nD τ).loc main_arg2) : S32.Idx → EReal) (ix1 (i 0)) : Step) := (W2_of m ρ c main_v2 (by decide)).trans (W1_v2 m ρ c)
theorem W1_lr : W1 m ρ c (Proc.devRef .tc main_arg0) = lr m c := W1_args m ρ c main_arg0 (by decide)
theorem W1_li : W1 m ρ c (Proc.devRef .tc main_arg1) = li m c := W1_args m ρ c main_arg1 (by decide)
theorem W1_gr : W1 m ρ c (Proc.devRef .tc main_arg5) = gr m c := W1_args m ρ c main_arg5 (by decide)
theorem W1_gi : W1 m ρ c (Proc.devRef .tc main_arg6) = gi m c := W1_args m ρ c main_arg6 (by decide)
theorem W1_hr : W1 m ρ c (Proc.devRef .tc main_arg7) = hr m c := W1_args m ρ c main_arg7 (by decide)
theorem W1_hi : W1 m ρ c (Proc.devRef .tc main_arg8) = hi m c := W1_args m ρ c main_arg8 (by decide)
theorem W2_lr : W2 m ρ c (Proc.devRef .tc main_arg0) = lr m c := W2_args m ρ c main_arg0 (by decide)
theorem W2_li : W2 m ρ c (Proc.devRef .tc main_arg1) = li m c := W2_args m ρ c main_arg1 (by decide)

/-! ### The results -/

theorem W3_v3_0 : W3 m ρ c (Proc.devRef .tc main_v3_0) = dlr (t m c) (lr m c) (li m c) (gr m c) (gi m c) (A m c) (B m c) := by
  refine (W3_of m ρ c main_v3_0 (by decide)).trans ((W2_arr m ρ c 9).trans ((PrepOut.arr0_9 _ c).trans ?_))
  show dlr (exp (W1 m ρ c (Proc.devRef .tc main_v2) : Step)) (W1 m ρ c (Proc.devRef .tc main_arg0)) (W1 m ρ c (Proc.devRef .tc main_arg1)) (W1 m ρ c (Proc.devRef .tc main_arg5)) (W1 m ρ c (Proc.devRef .tc main_arg6)) (dfi (W1 m ρ c (Proc.devRef .tc main_v0)) (W1 m ρ c (Proc.devRef .tc main_v1)) (W1 m ρ c (Proc.devRef .tc main_arg7)) (W1 m ρ c (Proc.devRef .tc main_arg8))) (dfr (W1 m ρ c (Proc.devRef .tc main_v0)) (W1 m ρ c (Proc.devRef .tc main_v1)) (W1 m ρ c (Proc.devRef .tc main_arg7)) (W1 m ρ c (Proc.devRef .tc main_arg8))) = _
  rw [W1_v2, W1_lr, W1_li, W1_gr, W1_gi, W1_v0, W1_v1, W1_hr, W1_hi]
theorem W3_v3_1 : W3 m ρ c (Proc.devRef .tc main_v3_1) = dli (t m c) (lr m c) (li m c) (gr m c) (gi m c) (A m c) (B m c) := by
  refine (W3_of m ρ c main_v3_1 (by decide)).trans ((W2_arr m ρ c 10).trans ((PrepOut.arr0_10 _ c).trans ?_))
  show dli (exp (W1 m ρ c (Proc.devRef .tc main_v2) : Step)) (W1 m ρ c (Proc.devRef .tc main_arg0)) (W1 m ρ c (Proc.devRef .tc main_arg1)) (W1 m ρ c (Proc.devRef .tc main_arg5)) (W1 m ρ c (Proc.devRef .tc main_arg6)) (dfi (W1 m ρ c (Proc.devRef .tc main_v0)) (W1 m ρ c (Proc.devRef .tc main_v1)) (W1 m ρ c (Proc.devRef .tc main_arg7)) (W1 m ρ c (Proc.devRef .tc main_arg8))) (dfr (W1 m ρ c (Proc.devRef .tc main_v0)) (W1 m ρ c (Proc.devRef .tc main_v1)) (W1 m ρ c (Proc.devRef .tc main_arg7)) (W1 m ρ c (Proc.devRef .tc main_arg8))) = _
  rw [W1_v2, W1_lr, W1_li, W1_gr, W1_gi, W1_v0, W1_v1, W1_hr, W1_hi]
theorem W3_v3_2 : W3 m ρ c (Proc.devRef .tc main_v3_2) = dt (t m c) (lr m c) (li m c) (gr m c) (gi m c) (A m c) (B m c) := by
  refine (W3_of m ρ c main_v3_2 (by decide)).trans ((W2_arr m ρ c 11).trans ((PrepOut.arr0_11 _ c).trans ?_))
  show dt (exp (W1 m ρ c (Proc.devRef .tc main_v2) : Step)) (W1 m ρ c (Proc.devRef .tc main_arg0)) (W1 m ρ c (Proc.devRef .tc main_arg1)) (W1 m ρ c (Proc.devRef .tc main_arg5)) (W1 m ρ c (Proc.devRef .tc main_arg6)) (dfi (W1 m ρ c (Proc.devRef .tc main_v0)) (W1 m ρ c (Proc.devRef .tc main_v1)) (W1 m ρ c (Proc.devRef .tc main_arg7)) (W1 m ρ c (Proc.devRef .tc main_arg8))) (dfr (W1 m ρ c (Proc.devRef .tc main_v0)) (W1 m ρ c (Proc.devRef .tc main_v1)) (W1 m ρ c (Proc.devRef .tc main_arg7)) (W1 m ρ c (Proc.devRef .tc main_arg8))) = _
  rw [W1_v2, W1_lr, W1_li, W1_gr, W1_gi, W1_v0, W1_v1, W1_hr, W1_hi]
theorem W3_v3_3 : W3 m ρ c (Proc.devRef .tc main_v3_3) = dbr (t m c) (lr m c) (li m c) (hr m c) (hi m c) := by
  refine (W3_of m ρ c main_v3_3 (by decide)).trans ((W2_arr m ρ c 12).trans ((PrepOut.arr0_12 _ c).trans ?_))
  show dbr (exp (W1 m ρ c (Proc.devRef .tc main_v2) : Step)) (W1 m ρ c (Proc.devRef .tc main_arg0)) (W1 m ρ c (Proc.devRef .tc main_arg1)) (W1 m ρ c (Proc.devRef .tc main_arg7)) (W1 m ρ c (Proc.devRef .tc main_arg8)) = _
  rw [W1_v2, W1_lr, W1_li, W1_hr, W1_hi]
theorem W3_v3_4 : W3 m ρ c (Proc.devRef .tc main_v3_4) = dbi (t m c) (lr m c) (li m c) (hr m c) (hi m c) := by
  refine (W3_of m ρ c main_v3_4 (by decide)).trans ((W2_arr m ρ c 13).trans ((PrepOut.arr0_13 _ c).trans ?_))
  show dbi (exp (W1 m ρ c (Proc.devRef .tc main_v2) : Step)) (W1 m ρ c (Proc.devRef .tc main_arg0)) (W1 m ρ c (Proc.devRef .tc main_arg1)) (W1 m ρ c (Proc.devRef .tc main_arg7)) (W1 m ρ c (Proc.devRef .tc main_arg8)) = _
  rw [W1_v2, W1_lr, W1_li, W1_hr, W1_hi]
theorem W3_v4_0 : W3 m ρ c (Proc.devRef .tc main_v4_0) = abr (t m c) (lr m c) (li m c) := by
  refine (W3_arr m ρ c 5).trans ((PrepOut.arr1_5 _ c).trans ?_)
  show abr (exp (W2 m ρ c (Proc.devRef .tc main_v2) : Step)) (W2 m ρ c (Proc.devRef .tc main_arg0)) (W2 m ρ c (Proc.devRef .tc main_arg1)) = _
  rw [W2_v2, W2_lr, W2_li]
theorem W3_v4_1 : W3 m ρ c (Proc.devRef .tc main_v4_1) = abi (t m c) (lr m c) (li m c) := by
  refine (W3_arr m ρ c 6).trans ((PrepOut.arr1_6 _ c).trans ?_)
  show abi (exp (W2 m ρ c (Proc.devRef .tc main_v2) : Step)) (W2 m ρ c (Proc.devRef .tc main_arg0)) (W2 m ρ c (Proc.devRef .tc main_arg1)) = _
  rw [W2_v2, W2_lr, W2_li]
theorem W3_v4_2 : W3 m ρ c (Proc.devRef .tc main_v4_2) = bbr (t m c) (lr m c) (li m c) (br m c) (bi m c) := by
  refine (W3_arr m ρ c 7).trans ((PrepOut.arr1_7 _ c).trans ?_)
  show bbr (exp (W2 m ρ c (Proc.devRef .tc main_v2) : Step)) (W2 m ρ c (Proc.devRef .tc main_arg0)) (W2 m ρ c (Proc.devRef .tc main_arg1)) (W2 m ρ c (Proc.devRef .tc main_v0)) (W2 m ρ c (Proc.devRef .tc main_v1)) = _
  rw [W2_v2, W2_lr, W2_li, W2_v0, W2_v1]
theorem W3_v4_3 : W3 m ρ c (Proc.devRef .tc main_v4_3) = bbi (t m c) (lr m c) (li m c) (br m c) (bi m c) := by
  refine (W3_arr m ρ c 8).trans ((PrepOut.arr1_8 _ c).trans ?_)
  show bbi (exp (W2 m ρ c (Proc.devRef .tc main_v2) : Step)) (W2 m ρ c (Proc.devRef .tc main_arg0)) (W2 m ρ c (Proc.devRef .tc main_arg1)) (W2 m ρ c (Proc.devRef .tc main_v0)) (W2 m ρ c (Proc.devRef .tc main_v1)) = _
  rw [W2_v2, W2_lr, W2_li, W2_v0, W2_v1]

omit c in
/-- The run of the discretisation and of its derivative: nine results, of the arguments it was launched with, and the
    arguments kept. -/
theorem results : θ_run defs (onTc (τ := τ) (main (F := Ideal))) ⟨m, fun _ => 0, ρ⟩ (fun r => ∀ c : Dev nD,
      r.2.mem ((c : Thread nD τ).loc main_v4_0) = abr (t m c) (lr m c) (li m c)
      ∧ r.2.mem ((c : Thread nD τ).loc main_v4_1) = abi (t m c) (lr m c) (li m c)
      ∧ r.2.mem ((c : Thread nD τ).loc main_v4_2) = bbr (t m c) (lr m c) (li m c) (br m c) (bi m c)
      ∧ r.2.mem ((c : Thread nD τ).loc main_v4_3) = bbi (t m c) (lr m c) (li m c) (br m c) (bi m c)
      ∧ r.2.mem ((c : Thread nD τ).loc main_v3_0) = dlr (t m c) (lr m c) (li m c) (gr m c) (gi m c) (A m c) (B m c)
      ∧ r.2.mem ((c : Thread nD τ).loc main_v3_1) = dli (t m c) (lr m c) (li m c) (gr m c) (gi m c) (A m c) (B m c)
      ∧ r.2.mem ((c : Thread nD τ).loc main_v3_2) = dt (t m c) (lr m c) (li m c) (gr m c) (gi m c) (A m c) (B m c)
      ∧ r.2.mem ((c : Thread nD τ).loc main_v3_3) = dbr (t m c) (lr m c) (li m c) (hr m c) (hi m c)
      ∧ r.2.mem ((c : Thread nD τ).loc main_v3_4) = dbi (t m c) (lr m c) (li m c) (hr m c) (hi m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)) :=
  (θ_run defs _ _).mono (fun _ h c =>
    ⟨(h c _ (mem_uc main_v4_0 (by decide))).trans (W3_v4_0 m ρ c),
     (h c _ (mem_uc main_v4_1 (by decide))).trans (W3_v4_1 m ρ c),
     (h c _ (mem_uc main_v4_2 (by decide))).trans (W3_v4_2 m ρ c),
     (h c _ (mem_uc main_v4_3 (by decide))).trans (W3_v4_3 m ρ c),
     (h c _ (mem_uc main_v3_0 (by decide))).trans (W3_v3_0 m ρ c),
     (h c _ (mem_uc main_v3_1 (by decide))).trans (W3_v3_1 m ρ c),
     (h c _ (mem_uc main_v3_2 (by decide))).trans (W3_v3_2 m ρ c),
     (h c _ (mem_uc main_v3_3 (by decide))).trans (W3_v3_3 m ρ c),
     (h c _ (mem_uc main_v3_4 (by decide))).trans (W3_v3_4 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c),
     (h c _ (mem_uc main_arg8 (by decide))).trans (W3_main_arg8 m ρ c)⟩) (run_all m ρ)

end Results

end Cert.Proof.PrepRun

end
-- ==== Proof.PrepHost.lean ====
/-
  The discretisation as the host writes it: its broadcasts, transposes and sums read as the terms of the
  specification.
-/
module

public import proofs.«01_k».proof.Proof.PrepSpec

@[expose] public section

set_option maxRecDepth 16384

noncomputable section

namespace Cert.Proof.PrepHost

open Idealize.ShloMosaic.Ideal
open Idealize.ShloMosaic Idealize.ShloMosaic.ValueIdx Cert.Proof.PrepSpec
open Cert.Proof.Rows hiding spread

/-! ### Pointwise operations -/

theorem host_exp {s : Shape} (x : FVec Ideal s .f32) : Host.exp x = exp x := rfl
theorem host_cos {s : Shape} (x : FVec Ideal s .f32) : Host.cos x = cos x := rfl
theorem host_sin {s : Shape} (x : FVec Ideal s .f32) : Host.sin x = sin x := rfl
theorem host_div {s : Shape} (x y : FVec Ideal s .f32) : Host.divf x y = divf x y := rfl
theorem host_neg {s : Shape} (x : FVec Ideal s .f32) : Host.negf x = neg x := rfl

theorem host_one (h : (⟨0, ![]⟩ : Shape).BroadcastsInDim ⟨2, ![32, 64]⟩ ![]) :
    broadcastInDim ⟨2, ![32, 64]⟩ ![] h (constant (F := Ideal) ⟨0, ![]⟩ .f32 0x3F800000#32) = one := splat _ h

/-! ### The time step -/

/-- A vector over the groups, as a column. -/
def col (x : FVec Ideal ⟨1, ![32]⟩ .f32) : Step := fun i => x (ix1 (i 0))

theorem host_steps (x : FVec Ideal ⟨1, ![32]⟩ .f32) (h : Shape.BroadcastsInDim ⟨2, ![32, 1]⟩ ⟨2, ![32, 64]⟩ ![0, 1])
    (h' : Shape.BroadcastsInDim ⟨1, ![32]⟩ ⟨2, ![32, 1]⟩ ![0]) :
    broadcastInDim ⟨2, ![32, 64]⟩ ![0, 1] h (broadcastInDim ⟨2, ![32, 1]⟩ ![0] h' x) = steps (col x) := by
  rw [Rows.spread x h']
  funext i
  refine broadcastInDim_apply ![0, 1] h _ i (ix2 (i 0) 0) fun a => ?_
  match a with | ⟨0, _⟩ => rfl | ⟨1, _⟩ => rfl

/-! ### Channels last -/

/-- Channels brought to the end. -/
def last (x : Cube) : Last := fun i => x (ix3 (i 2) (i 0) (i 1))
/-- One factor over every channel. -/
def over (f : Mat) : Last := fun i => f (ix2 (i 0) (i 1))

theorem host_last (x : Cube) (h : Shape.Transposes ⟨3, ![16, 32, 64]⟩ [1, 2, 0] ⟨3, ![32, 64, 16]⟩) :
    transpose ⟨3, ![32, 64, 16]⟩ [1, 2, 0] x h = last x := by
  funext i
  refine transpose_apply _ x h i (ix3 (i 2) (i 0) (i 1)) fun a => ?_
  match a with | ⟨0, _⟩ => rfl | ⟨1, _⟩ => rfl | ⟨2, _⟩ => rfl

theorem host_over (f : Mat) (h : Shape.BroadcastsInDim ⟨3, ![32, 64, 1]⟩ ⟨3, ![32, 64, 16]⟩ ![0, 1, 2])
    (h' : Shape.BroadcastsInDim ⟨2, ![32, 64]⟩ ⟨3, ![32, 64, 1]⟩ ![0, 1]) :
    broadcastInDim ⟨3, ![32, 64, 16]⟩ ![0, 1, 2] h (broadcastInDim ⟨3, ![32, 64, 1]⟩ ![0, 1] h' f) = over f := by
  funext i
  refine (broadcastInDim_apply ![0, 1, 2] h _ i (ix3 (i 0) (i 1) 0) fun a => ?_).trans
    (broadcastInDim_apply ![0, 1] h' f _ (ix2 (i 0) (i 1)) fun a => ?_)
  · match a with | ⟨0, _⟩ => rfl | ⟨1, _⟩ => rfl | ⟨2, _⟩ => rfl
  · match a with | ⟨0, _⟩ => rfl | ⟨1, _⟩ => rfl

/-- The sum over the channels, which the host takes in two steps: the second is of one term. -/
theorem host_sum (x : Last) (h : Shape.ReducesTo ⟨3, ![32, 64, 16]⟩ [2] ⟨2, ![32, 64]⟩)
    (h' : Shape.ReducesTo ⟨3, ![32, 64, 1]⟩ [2] ⟨2, ![32, 64]⟩) (hc : Shape.ShapeCasts ⟨2, ![32, 64]⟩ ⟨3, ![32, 64, 1]⟩)
    (hu hv : 0 < (⟨0, ![]⟩ : Shape).numel) :
    Host.reduceAdd (shapeCast ⟨3, ![32, 64, 1]⟩ (Host.reduceAdd x (constant ⟨0, ![]⟩ .f32 0x00000000#32) h hu) hc)
      (constant ⟨0, ![]⟩ .f32 0x00000000#32) h' hv = chan (first x) := by
  funext i
  rw [hostReduceAdd_apply]
  refine (hostReduceAdd_single h' ⟨h'.1, Nat.two_pos, h'.2⟩ _ _ _).trans ?_
  rw [show (constant (F := Ideal) ⟨0, ![]⟩ .f32 0x00000000#32 (Shape.Idx.first hv)) = (0 : EReal) from zero_word, zero_add]
  refine (Fin.sum_univ_one (fun k : Fin 1 => _)).trans ((shapeCast_apply _ hc _ i ?_).trans ?_)
  · rw [Shape.rowMajor_val_two, Shape.rowMajor_val_three]
    show (i 0).val * 64 + (i 1).val = ((i 0).val * 64 + (i 1).val) * 1 + 0
    omega
  rw [hostReduceAdd_apply]
  refine (hostReduceAdd_single h ⟨h.1, Nat.two_pos, h.2⟩ x _ _).trans ?_
  rw [show (constant (F := Ideal) ⟨0, ![]⟩ .f32 0x00000000#32 (Shape.Idx.first hu)) = (0 : EReal) from zero_word, zero_add]
  refine Finset.sum_congr rfl fun k _ => congrArg x ?_
  funext a; match a with | ⟨0, _⟩ => rfl | ⟨1, _⟩ => rfl | ⟨2, _⟩ => rfl

/-! ### Channels to the front again -/

theorem last_eta (x : Cube) (i : (⟨3, ![16, 32, 64]⟩ : Shape).Idx) : x (ix3 (i 0) (i 1) (i 2)) = x i :=
  congrArg x (funext fun a => match a with | ⟨0, _⟩ => rfl | ⟨1, _⟩ => rfl | ⟨2, _⟩ => rfl)

theorem first_last (x : Cube) : first (last x) = x := funext fun i => last_eta x i
theorem first_mul (x y : Last) : first (mulf x y) = mulf (first x) (first y) := rfl
theorem first_add (x y : Last) : first (addf x y) = addf (first x) (first y) := rfl
theorem first_sub (x y : Last) : first (subf x y) = subf (first x) (first y) := rfl
theorem first_neg (x : Last) : first (neg x) = neg (first x) := rfl
theorem first_over (f : Mat) : first (over f) = PrepSpec.spread f := rfl

/-! ### The last sum, over the states -/

theorem host_dt (x y z : Mat) (e : FVec Ideal ⟨1, ![32]⟩ .f32) (h : Shape.ReducesTo ⟨2, ![32, 64]⟩ [1] ⟨1, ![32]⟩)
    (h' : Shape.ReducesTo ⟨2, ![32, 1]⟩ [1] ⟨1, ![32]⟩) (hc : Shape.ShapeCasts ⟨1, ![32]⟩ ⟨2, ![32, 1]⟩) (hu : 0 < (⟨0, ![]⟩ : Shape).numel) :
    shapeCast ⟨2, ![32, 1]⟩ (mulf (Host.reduceAdd (addf (addf
        (shapeCast ⟨2, ![32, 1]⟩ (Host.reduceAdd x (constant ⟨0, ![]⟩ .f32 0x00000000#32) h hu) hc)
        (shapeCast ⟨2, ![32, 1]⟩ (Host.reduceAdd y (constant ⟨0, ![]⟩ .f32 0x00000000#32) h hu) hc))
        (shapeCast ⟨2, ![32, 1]⟩ (Host.reduceAdd z (constant ⟨0, ![]⟩ .f32 0x00000000#32) h hu) hc))
        (constant ⟨0, ![]⟩ .f32 0x00000000#32) h' hu) e) hc
      = fun i => (rowSum x (i 0) + rowSum y (i 0) + rowSum z (i 0)) * col e i := by
  rw [column, Rms.host_row_one, column, column, column, host_row, host_row, host_row]
  rfl

end Cert.Proof.PrepHost

end
-- ==== Proof.PrepRef.lean ====
/-
  The discretisation's reference: its nine results, and the agreement with the two calls.
-/
module

public import proofs.«01_k».proof.Defs
public import proofs.«01_k».proof.Proof.PrepRun
public import proofs.«01_k».proof.Proof.PrepHost
public import proofs.«01_k».proof.Proof.Gen.PrepRefIdeal.Run
public import Idealize.ShloMosaic.Lib.Quiescent

@[expose] public section

set_option maxRecDepth 16384

noncomputable section

namespace Cert.Proof.PrepRef

open Idealize.ShloMosaic.TcCoe Idealize.SL.Sem Idealize.ShloMosaic.Ideal
open Idealize.ShloMosaic hiding ix1 ix2 ix3 eq_ix1 eq_ix2
open Idealize.ShloMosaic.ValueIdx
open Cert.Proof.PrepSpec Cert.Proof.PrepHost

section Reference

open Cert.PrepRefIdeal Cert.PrepRefIdeal.Gen

/-! ### The host's layouts, at the reference's names for the shapes -/

theorem ones : broadcastInDim S32x64 ![] bcast_S_S32x64 (constant (F := Ideal) S_ .f32 0x3F800000#32) = one := host_one _
theorem step (x : FVec Ideal S32 .f32) : broadcastInDim S32x64 ![0, 1] bcast_S32x1_S32x64_0_1 (broadcastInDim S32x1 ![0] bcast_S32_S32x1_0 x)
    = steps (col x) := host_steps x _ _
theorem lasts (x : FVec Ideal S16x32x64 .f32) : transpose S32x64x16 [1, 2, 0] x transposes_S16x32x64_S32x64x16_1_2_0 = last x := host_last x _
theorem firsts (x : FVec Ideal S32x64x16 .f32) : transpose S16x32x64 [2, 0, 1] x transposes_S32x64x16_S16x32x64_2_0_1 = first x := first_eq x _
theorem overs (f : FVec Ideal S32x64 .f32) : broadcastInDim S32x64x16 ![0, 1, 2] bcast_S32x64x1_S32x64x16_0_1_2
    (broadcastInDim S32x64x1 ![0, 1] bcast_S32x64_S32x64x1_0_1 f) = over f := host_over f _ _
theorem sums (x : FVec Ideal S32x64x16 .f32) : Host.reduceAdd (shapeCast S32x64x1 (Host.reduceAdd x (constant S_ .f32 0x00000000#32)
    reducesTo_S32x64x16_S32x64_d2 h_S_) shapeCasts_S32x64_S32x64x1) (constant S_ .f32 0x00000000#32) reducesTo_S32x64x1_S32x64_d2 h_S_ = chan (first x) :=
  host_sum x _ _ _ _ _
theorem times (x y z : FVec Ideal S32x64 .f32) (e : FVec Ideal S32 .f32) :
    shapeCast S32x1 (mulf (Host.reduceAdd (addf (addf
        (shapeCast S32x1 (Host.reduceAdd x (constant S_ .f32 0x00000000#32) reducesTo_S32x64_S32_d1 h_S_) shapeCasts_S32_S32x1)
        (shapeCast S32x1 (Host.reduceAdd y (constant S_ .f32 0x00000000#32) reducesTo_S32x64_S32_d1 h_S_) shapeCasts_S32_S32x1))
        (shapeCast S32x1 (Host.reduceAdd z (constant S_ .f32 0x00000000#32) reducesTo_S32x64_S32_d1 h_S_) shapeCasts_S32_S32x1))
        (constant S_ .f32 0x00000000#32) reducesTo_S32x1_S32_d1 h_S_) e) shapeCasts_S32_S32x1
      = fun i => (Rows.rowSum x (i 0) + Rows.rowSum y (i 0) + Rows.rowSum z (i 0)) * col e i := host_dt x y z e _ _ _ _

variable (m : (ℓ : Loc nD τ sig) → Buf (Elt Ideal) ℓ) (ρ : Dev nD → PrngReg) (c : Dev nD)

abbrev lr : Mat := m ((c : Thread nD τ).loc main_arg0)
abbrev li : Mat := m ((c : Thread nD τ).loc main_arg1)
abbrev t : Step := exp (fun i : S32x1.Idx => (m ((c : Thread nD τ).loc main_arg2) : S32.Idx → EReal) (ix1 (i 0)) : Step)
abbrev br : Cube := first (m ((c : Thread nD τ).loc main_arg3))
abbrev bi : Cube := first (m ((c : Thread nD τ).loc main_arg4))
abbrev gr : Mat := m ((c : Thread nD τ).loc main_arg5)
abbrev gi : Mat := m ((c : Thread nD τ).loc main_arg6)
abbrev hr : Cube := m ((c : Thread nD τ).loc main_arg7)
abbrev hi : Cube := m ((c : Thread nD τ).loc main_arg8)
abbrev A : Mat := dfi (br m c) (bi m c) (hr m c) (hi m c)
abbrev B : Mat := dfr (br m c) (bi m c) (hr m c) (hi m c)

theorem res_v139 : Value.res_main_v139 m c = dlr (t m c) (lr m c) (li m c) (gr m c) (gi m c) (A m c) (B m c) := by
  unfold Value.res_main_v139
  rw [ones]
  erw [step, lasts (hi m c), lasts (hr m c)]
  simp only [sums, host_neg, first_mul, first_neg, first_last]
  rfl
theorem res_v131 : Value.res_main_v131 m c = dli (t m c) (lr m c) (li m c) (gr m c) (gi m c) (A m c) (B m c) := by
  unfold Value.res_main_v131
  rw [ones]
  erw [step, lasts (hi m c), lasts (hr m c)]
  simp only [sums, host_neg, first_mul, first_neg, first_last]
  rfl
theorem res_v144 : Value.res_main_v144 m c = dt (t m c) (lr m c) (li m c) (gr m c) (gi m c) (A m c) (B m c) := by
  unfold Value.res_main_v144
  erw [step, lasts (hi m c), lasts (hr m c)]
  simp only [sums, host_neg, first_mul, first_neg, first_last]
  exact times _ _ _ _

omit c in
theorem results : θ_run defs (onTc (τ := τ) (main (F := Ideal))) ⟨m, fun _ => 0, ρ⟩ (fun r => ∀ c : Dev nD,
      r.2.mem ((c : Thread nD τ).loc main_v9) = abr (t m c) (lr m c) (li m c)
      ∧ r.2.mem ((c : Thread nD τ).loc main_v14) = abi (t m c) (lr m c) (li m c)
      ∧ r.2.mem ((c : Thread nD τ).loc main_v142) = bbr (t m c) (lr m c) (li m c) (br m c) (bi m c)
      ∧ r.2.mem ((c : Thread nD τ).loc main_v143) = bbi (t m c) (lr m c) (li m c) (br m c) (bi m c)
      ∧ r.2.mem ((c : Thread nD τ).loc main_v139) = dlr (t m c) (lr m c) (li m c) (gr m c) (gi m c) (A m c) (B m c)
      ∧ r.2.mem ((c : Thread nD τ).loc main_v131) = dli (t m c) (lr m c) (li m c) (gr m c) (gi m c) (A m c) (B m c)
      ∧ r.2.mem ((c : Thread nD τ).loc main_v144) = dt (t m c) (lr m c) (li m c) (gr m c) (gi m c) (A m c) (B m c)
      ∧ r.2.mem ((c : Thread nD τ).loc main_v145) = dbr (t m c) (lr m c) (li m c) (hr m c) (hi m c)
      ∧ r.2.mem ((c : Thread nD τ).loc main_v146) = dbi (t m c) (lr m c) (li m c) (hr m c) (hi m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)) := by
  refine (θ_run defs _ _).mono (fun _ h c => ?_) (Value.run (F := Ideal) m ρ)
  obtain ⟨h0, h1, h2, h3, h4, h5, h6, h7, h8, hargs⟩ := h c
  erw [step] at h0 h1
  replace h2 := h2.trans (firsts _)
  replace h3 := h3.trans (firsts _)
  replace h7 := h7.trans (firsts _)
  replace h8 := h8.trans (firsts _)
  rw [ones] at h2 h3 h7 h8
  erw [step, overs, overs] at h2 h3
  erw [step, overs, overs, lasts (hi m c), lasts (hr m c)] at h7 h8
  simp only [host_neg, first_add, first_sub, first_mul, first_neg, first_last, first_over] at h2 h3 h7 h8
  exact ⟨h0, h1, h2, h3, h4.trans (res_v139 m c), h5.trans (res_v131 m c), h6.trans (res_v144 m c), h7, h8, hargs⟩

end Reference

/-- The reference terminates, keeps its arguments, and has no counter to leave. -/
theorem reference_frame : Cert.quiescent_PrepRefIdeal (hPrepRefIdeal := Cert.PrepRefIdeal.Gen.facts) :=
  fun m ρ _ => (θ_run Cert.PrepRefIdeal.defs _ _).mono
    (fun r h => ⟨fun c => (h c).2.2.2.2.2.2.2.2.2, sem_eq_zero_of_no_sems (by decide) r.2⟩)
    (Cert.PrepRefIdeal.Value.run (F := Ideal) m ρ)

theorem value : Cert.algebraic_PrepIdeal_PrepRefIdeal (hPrepIdeal := Cert.PrepIdeal.Gen.facts)
    (hPrepRefIdeal := Cert.PrepRefIdeal.Gen.facts) := by
  intro m g m' g' _ hargs
  refine ⟨_, _, _, _, _, _, _, _, _, PrepRun.results m g, (θ_run Cert.PrepRefIdeal.defs _ _).mono (fun r h c => ?_) (results m' g')⟩
  obtain ⟨e0, e1, e2, e3, e4, e5, e6, e7, e8⟩ := hargs c
  have hkeep := (h c).2.2.2.2.2.2.2.2.2
  have h := h c
  unfold A B t lr li gr gi br bi hr hi at h
  rw [e0, e1, e2, e3, e4, e5, e6, e7, e8] at h
  obtain ⟨h0, h1, h2, h3, h4, h5, h6, h7, h8, -⟩ := h
  exact ⟨h0, h1, h2, h3, h4, h5, h6, h7, h8, hkeep⟩

end Cert.Proof.PrepRef

end
-- ==== Proof.AdamSpec.lean ====
/-
  One step of the optimiser, element by element: the moments and the change of a weight, of its gradient; and the
  gradient as the sum of the parts that were exchanged.
-/
module

public import proofs.«01_k».proof.Proof.Rms
public import Idealize.ShloMosaic.Lib.KernelVsHost

@[expose] public section

set_option maxRecDepth 16384

noncomputable section

namespace Cert.Proof.AdamSpec

open Idealize.ShloMosaic Idealize.ShloMosaic.ValueIdx Idealize.ShloMosaic.Ideal Cert.Proof.Rows

section Step

variable {s : Shape} (w g m v : FVec Ideal s .f32)

/-- The first moment. -/
def mom : FVec Ideal s .f32 :=
  addf (mulf (broadcast s (Scalar.ofBits .f32 0x3F666666#32)) m) (mulf (broadcast s (Scalar.ofBits .f32 0x3DCCCCCD#32)) g)
/-- The second moment. -/
def var : FVec Ideal s .f32 :=
  addf (mulf (broadcast s (Scalar.ofBits .f32 0x3F7FBE77#32)) v)
    (mulf (broadcast s (Scalar.ofBits .f32 0x3A83126F#32)) (mulf g g))
/-- The weight's change, of the two moments as they are after the step. -/
def change (m v : FVec Ideal s .f32) : FVec Ideal s .f32 :=
  mulf (broadcast s (Scalar.ofBits .f32 0xBA83126F#32))
    (addf (divf (divf m (broadcast s (Scalar.ofBits .f32 0x3F26BD02#32)))
        (addf (sqrt (divf v (broadcast s (Scalar.ofBits .f32 0x3C231ACC#32)))) (broadcast s (Scalar.ofBits .f32 0x322BCC77#32))))
      (mulf (broadcast s (Scalar.ofBits .f32 0x3C23D70A#32)) w))
def delta : FVec Ideal s .f32 := change w (mom g m) (var g v)

end Step

/-- The sum over the leading axis. -/
def total {n a b : Nat} (x : (⟨3, ![n, a, b]⟩ : Shape).Idx → EReal) : FVec Ideal ⟨2, ![a, b]⟩ .f32 :=
  fun i => ∑ k : Fin n, x (ix3 k (i 0) (i 1))

theorem host_total {n a b : Nat} (x : FVec Ideal ⟨3, ![n, a, b]⟩ .f32) (h : Shape.ReducesTo ⟨3, ![n, a, b]⟩ [0] ⟨2, ![a, b]⟩)
    (hu : 0 < (⟨0, ![]⟩ : Shape).numel) :
    Host.reduceAdd x (constant ⟨0, ![]⟩ .f32 0x00000000#32) h hu = total x := by
  funext i
  rw [hostReduceAdd_apply]
  refine (hostReduceAdd_single h ⟨h.1, Nat.two_pos, h.2⟩ x _ _).trans ?_
  rw [show (constant (F := Ideal) ⟨0, ![]⟩ .f32 0x00000000#32 (Shape.Idx.first hu)) = (0 : EReal) from zero_word, zero_add]
  refine Finset.sum_congr rfl fun k _ => congrArg x ?_
  funext a; match a with | ⟨0, _⟩ => rfl | ⟨1, _⟩ => rfl | ⟨2, _⟩ => rfl

/-- A plane read without its leading axis of one. -/
theorem plane {α : Type} {a b : Nat} (x : (⟨3, ![1, a, b]⟩ : Shape).Idx → α) (h : Shape.ShapeCasts ⟨3, ![1, a, b]⟩ ⟨2, ![a, b]⟩)
    (i : (⟨2, ![a, b]⟩ : Shape).Idx) : shapeCast ⟨2, ![a, b]⟩ x h i = x (ix3 0 (i 0) (i 1)) := by
  refine shapeCast_apply x h i _ ?_
  rw [Shape.rowMajor_val_two, Shape.rowMajor_val_three]
  show (0 * a + (i 0).val) * b + (i 1).val = (i 0).val * b + (i 1).val
  rw [Nat.zero_mul, Nat.zero_add]

/-! ## Three vectors in one array -/

/-- The three, one after another. -/
def Joined (x y z : FVec Ideal ⟨1, ![1024]⟩ .f32) (p : FVec Ideal ⟨1, ![4096]⟩ .f32) : Prop :=
  (∀ k : Fin 1024, p (ix1 ⟨k.val, by omega⟩) = x (ix1 k)) ∧ (∀ k : Fin 1024, p (ix1 ⟨1024 + k.val, by omega⟩) = y (ix1 k))
    ∧ (∀ k : Fin 1024, p (ix1 ⟨2048 + k.val, by omega⟩) = z (ix1 k))

theorem joined (x y z : FVec Ideal ⟨1, ![1024]⟩ .f32) (u : FVec Ideal ⟨0, ![]⟩ .f32)
    (h : Shape.Concatenates [⟨1, ![1024]⟩, ⟨1, ![1024]⟩, ⟨1, ![1024]⟩] ⟨1, ![3072]⟩ 0)
    (h' : Shape.Pads ⟨1, ![3072]⟩ ![0] ![1024] ![0] ⟨1, ![4096]⟩) (hu : 0 < (⟨0, ![]⟩ : Shape).numel) :
    Joined x y z (pad ⟨1, ![4096]⟩ ![0] ![1024] ![0]
      (concatenate ⟨1, ![3072]⟩ 0 [⟨⟨1, ![1024]⟩, x⟩, ⟨⟨1, ![1024]⟩, y⟩, ⟨⟨1, ![1024]⟩, z⟩] h) u h' hu) := by
  have inside (n : Nat) (hn : n < 3072) : pad ⟨1, ![4096]⟩ ![0] ![1024] ![0]
      (concatenate ⟨1, ![3072]⟩ 0 [⟨⟨1, ![1024]⟩, x⟩, ⟨⟨1, ![1024]⟩, y⟩, ⟨⟨1, ![1024]⟩, z⟩] h) u h' hu (ix1 ⟨n, by omega⟩)
      = concatenate ⟨1, ![3072]⟩ 0 [⟨⟨1, ![1024]⟩, x⟩, ⟨⟨1, ![1024]⟩, y⟩, ⟨⟨1, ![1024]⟩, z⟩] h (ix1 ⟨n, hn⟩) := by
    refine pad_apply_of_inside _ _ _ _ u h' hu _ _ fun a => ?_
    match a with | ⟨0, _⟩ => show n = 0 + n * (0 + 1); omega
  refine ⟨fun k => ?_, fun k => ?_, fun k => ?_⟩
  · refine (inside _ (by omega)).trans
      (concatenate_apply_piece (t := ⟨1, ![3072]⟩) 0 [⟨⟨1, ![1024]⟩, x⟩, ⟨⟨1, ![1024]⟩, y⟩, ⟨⟨1, ![1024]⟩, z⟩] h _ 0 (by decide : 0 < 3) _ x rfl rfl 0 rfl (ix1 k) (fun b hb => ?_) ?_)
    · match b with | ⟨0, _⟩ => exact absurd rfl hb
    · show 0 + k.val = k.val; omega
  · refine (inside _ (by omega)).trans
      (concatenate_apply_piece (t := ⟨1, ![3072]⟩) 0 [⟨⟨1, ![1024]⟩, x⟩, ⟨⟨1, ![1024]⟩, y⟩, ⟨⟨1, ![1024]⟩, z⟩] h _ 1 (by decide : 1 < 3) _ y rfl rfl 1024 rfl (ix1 k) (fun b hb => ?_) rfl)
    match b with | ⟨0, _⟩ => exact absurd rfl hb
  · refine (inside _ (by omega)).trans
      (concatenate_apply_piece (t := ⟨1, ![3072]⟩) 0 [⟨⟨1, ![1024]⟩, x⟩, ⟨⟨1, ![1024]⟩, y⟩, ⟨⟨1, ![1024]⟩, z⟩] h _ 2 (by decide : 2 < 3) _ z rfl rfl 2048 rfl (ix1 k) (fun b hb => ?_) rfl)
    match b with | ⟨0, _⟩ => exact absurd rfl hb

theorem first_part {x y z : FVec Ideal ⟨1, ![1024]⟩ .f32} {p : FVec Ideal ⟨1, ![4096]⟩ .f32} (j : Joined x y z p)
    (h : Shape.Slices ⟨1, ![4096]⟩ ![0] ⟨1, ![1024]⟩) : extractStridedSlice ⟨1, ![1024]⟩ ![0] p h = x := by
  funext i
  rw [eq_ix1 i]
  refine (extractStridedSlice_apply _ p h _ (ix1 ⟨(i 0).val, by have := (i 0).isLt; simp at this; omega⟩) fun a => ?_).trans (j.1 (i 0))
  match a with | ⟨0, _⟩ => exact (Nat.zero_add _).symm

theorem second_part {x y z : FVec Ideal ⟨1, ![1024]⟩ .f32} {p : FVec Ideal ⟨1, ![4096]⟩ .f32} (j : Joined x y z p)
    (h : Shape.Slices ⟨1, ![4096]⟩ ![1024] ⟨1, ![1024]⟩) : extractStridedSlice ⟨1, ![1024]⟩ ![1024] p h = y := by
  funext i
  rw [eq_ix1 i]
  refine (extractStridedSlice_apply _ p h _ (ix1 ⟨1024 + (i 0).val, by have := (i 0).isLt; simp at this; omega⟩) fun a => ?_).trans (j.2.1 (i 0))
  match a with | ⟨0, _⟩ => rfl

theorem third_part {x y z : FVec Ideal ⟨1, ![1024]⟩ .f32} {p : FVec Ideal ⟨1, ![4096]⟩ .f32} (j : Joined x y z p)
    (h : Shape.Slices ⟨1, ![4096]⟩ ![2048] ⟨1, ![1024]⟩) : extractStridedSlice ⟨1, ![1024]⟩ ![2048] p h = z := by
  funext i
  rw [eq_ix1 i]
  refine (extractStridedSlice_apply _ p h _ (ix1 ⟨2048 + (i 0).val, by have := (i 0).isLt; simp at this; omega⟩) fun a => ?_).trans (j.2.2 (i 0))
  match a with | ⟨0, _⟩ => rfl

end Cert.Proof.AdamSpec

end
-- ==== Proof.GainsOut.lean ====
/-
  The optimiser's call for the three gains: the body runs once on whole arrays and leaves the sum of the devices' shares,
  the change of the weights and the two moments.
-/
module

public import proofs.«01_k».proof.Proof.AdamSpec
public import proofs.«01_k».proof.Proof.Gen.GainsIdeal.Frame
public import Idealize.ShloMosaic.Lib.Pipeline.ValueKit

@[expose] public section

set_option maxRecDepth 16384

noncomputable section

namespace Cert.Proof.GainsOut

open Cert.GainsIdeal Cert.GainsIdeal.Gen Idealize.ShloMosaic.TcCoe Idealize.SL.Sem
open Idealize.ShloMosaic hiding ix1 ix2 ix3 eq_ix1 eq_ix2
open Idealize.ShloMosaic.ValueIdx Idealize.ShloMosaic.Ideal Cert.Proof.AdamSpec
open Idealize.ShloMosaic.Pipeline (Dat)

/-! ## The body's values -/

section Values

variable (x0 : FVec Ideal S8x32x128 .f32) (x1 x2 x3 : FVec Ideal S32x128 .f32)

/-- Share `k`, read as a plane. -/
theorem share (k : Fin 8) (off : Fin S8x32x128.rank → Nat) (inb : ∀ a, off a + S1x32x128.size a ≤ S8x32x128.size a)
    (h0 : off 0 = k.val) (h1 : off 1 = 0) (h2 : off 2 = 0) (i : S32x128.Idx) :
    shapeCast S32x128 (View.ld (Val := Elt Ideal) (e' := .f32) x0 (Rect.unit (s := S8x32x128) off S1x32x128.size inb) : S1x32x128.Idx → EReal)
      shapeCasts_S1x32x128_S32x128 i = x0 (ix3 k (i 0) (i 1)) := by
  refine (plane _ _ i).trans (congrArg x0 (funext fun a => Fin.ext ?_))
  match a with
  | ⟨0, _⟩ => show off 0 + 1 * 0 = k.val; omega
  | ⟨1, _⟩ => show off 1 + 1 * (i 0).val = (i 0).val; omega
  | ⟨2, _⟩ => show off 2 + 1 * (i 1).val = (i 1).val; omega

theorem sum0 : k0_pay4 (F := Ideal) (View.ld (Val := Elt Ideal) (e' := .f32) x0 r0_0) (View.ld (Val := Elt Ideal) (e' := .f32) x0 r0_1)
    (View.ld (Val := Elt Ideal) (e' := .f32) x0 r0_2) (View.ld (Val := Elt Ideal) (e' := .f32) x0 r0_3) (View.ld (Val := Elt Ideal) (e' := .f32) x0 r0_4)
    (View.ld (Val := Elt Ideal) (e' := .f32) x0 r0_5) (View.ld (Val := Elt Ideal) (e' := .f32) x0 r0_6) (View.ld (Val := Elt Ideal) (e' := .f32) x0 r0_7)
    = total x0 := by
  funext i
  refine Eq.trans ?_ (Fin.sum_univ_eight (fun k : Fin 8 => (x0 (ix3 k (i 0) (i 1)) : EReal))).symm
  exact congrArg₂ (· + ·) (congrArg₂ (· + ·) (congrArg₂ (· + ·) (congrArg₂ (· + ·) (congrArg₂ (· + ·) (congrArg₂ (· + ·) (congrArg₂ (· + ·)
    (share x0 0 _ _ rfl rfl rfl i) (share x0 1 _ _ rfl rfl rfl i)) (share x0 2 _ _ rfl rfl rfl i)) (share x0 3 _ _ rfl rfl rfl i))
    (share x0 4 _ _ rfl rfl rfl i)) (share x0 5 _ _ rfl rfl rfl i)) (share x0 6 _ _ rfl rfl rfl i)) (share x0 7 _ _ rfl rfl rfl i)

theorem pay1 (g x : FVec Ideal S32x128 .f32) : k0_pay1 (F := Ideal) g x = mom g x := rfl
theorem pay2 (g : FVec Ideal S32x128 .f32) : k0_pay2 (F := Ideal) g x3 = var g x3 := by
  unfold k0_pay2; rw [shapeCast_self]; rfl
theorem pay3 (w g x : FVec Ideal S32x128 .f32) : k0_pay3 (F := Ideal) g w x x3 = delta w g x x3 := by
  unfold k0_pay3; rw [pay1, pay2]; rfl
theorem pay5 : k0_pay5 (F := Ideal) x1 = x1 := by unfold k0_pay5; rw [shapeCast_self]
theorem pay6 : k0_pay6 (F := Ideal) x2 = x2 := by unfold k0_pay6; rw [shapeCast_self]
theorem pay7 : k0_pay7 (F := Ideal) x0 x1 x2 x3 = total x0 := sum0 x0
theorem pay8 : k0_pay8 (F := Ideal) x0 x1 x2 x3 = x2 := by
  unfold k0_pay8; rw [View.ld_unit_zero (funext fun a => by match a with | ⟨0, _⟩ => rfl | ⟨1, _⟩ => rfl)]; exact pay6 x2

theorem out4 : out0_4 (F := Ideal) x0 x1 x2 x3 = total x0 := by frame_out; exact sum0 x0
theorem out6 : out0_6 (F := Ideal) x0 x1 x2 x3 = mom (total x0) x2 := by
  frame_out; rw [pay7, pay8, pay1]
theorem out7 : out0_7 (F := Ideal) x0 x1 x2 x3 = var (total x0) x3 := by
  frame_out; rw [pay7, pay2]
theorem out5 : out0_5 (F := Ideal) x0 x1 x2 x3 = delta x1 (total x0) x2 x3 := by
  frame_out; rw [pay7, pay8, pay5, pay3]

end Values

/-! ## The arrays the region leaves -/

variable (m : (ℓ : Loc nD τ sig) → Buf (Elt Ideal) ℓ) (c : Dev nD)

/-- A window that is its whole array reads each element at its own place. -/
theorem place {n k : Nat} (z : n = 0) (size j : Nat) (h : n * size + 1 * j = k) : k = j := by subst z; omega

theorem in0 (t : Fin cfg0.N) : iblk m c 0 t = V m c main_arg0 :=
  funext fun j => congrArg (V m c main_arg0) (funext fun a => Fin.ext (place (n := win0_0.index t a) rfl _ _ rfl))
theorem in1 (t : Fin cfg0.N) : iblk m c 1 t = V m c main_v4 :=
  funext fun j => congrArg (V m c main_v4) (funext fun a => Fin.ext (place (n := win0_1.index t a) rfl _ _ rfl))
theorem in2 (t : Fin cfg0.N) : iblk m c 2 t = V m c main_v9 :=
  funext fun j => congrArg (V m c main_v9) (funext fun a => Fin.ext (place (n := win0_2.index t a) rfl _ _ rfl))
theorem in3 (t : Fin cfg0.N) : iblk m c 3 t = V m c main_v14 :=
  funext fun j => congrArg (V m c main_v14) (funext fun a => Fin.ext (place (n := win0_3.index t a) rfl _ _ rfl))

theorem emb4 (t : Fin cfg0.N) (j : S32x128.Idx) : ((cfg0.win 4).blk t).view.emb j = j :=
  funext fun a => Fin.ext (place (n := win0_4.index t a) rfl _ _ rfl)
theorem emb5 (t : Fin cfg0.N) (j : S32x128.Idx) : ((cfg0.win 5).blk t).view.emb j = j :=
  funext fun a => Fin.ext (place (n := win0_5.index t a) rfl _ _ rfl)
theorem emb6 (t : Fin cfg0.N) (j : S32x128.Idx) : ((cfg0.win 6).blk t).view.emb j = j :=
  funext fun a => Fin.ext (place (n := win0_6.index t a) rfl _ _ rfl)
theorem emb7 (t : Fin cfg0.N) (j : S32x128.Idx) : ((cfg0.win 7).blk t).view.emb j = j :=
  funext fun a => Fin.ext (place (n := win0_7.index t a) rfl _ _ rfl)

/-- The arguments, as the region finds them. -/
abbrev G : FVec Ideal S32x128 .f32 := total (V m c main_arg0 : FVec Ideal S8x32x128 .f32)
abbrev W : FVec Ideal S32x128 .f32 := V m c main_v4
abbrev M : FVec Ideal S32x128 .f32 := V m c main_v9
abbrev U : FVec Ideal S32x128 .f32 := V m c main_v14

theorem arr4 : (dats m 0 c).arrAt 4 cfg0.N = G m c :=
  (dats m 0 c).arrAt_eq_of_cover 4 (G m c) (fun t _ => by
    show (cfg0.win 4).cut (grid0.coords t) ((dats m 0 c).after 4 t) = _
    rw [after0_4, in0, in1, in2, in3, out4]
    exact funext fun j => congrArg (G m c) (emb4 t j).symm)
  fun i => ⟨t0_0, flush0_4 t0_0, by
    have h := ((cfg0.win 4).blk t0_0).view.emb_mem_set i
    rwa [emb4] at h⟩
theorem arr5 : (dats m 0 c).arrAt 5 cfg0.N = delta (W m c) (G m c) (M m c) (U m c) :=
  (dats m 0 c).arrAt_eq_of_cover 5 (delta (W m c) (G m c) (M m c) (U m c)) (fun t _ => by
    show (cfg0.win 5).cut (grid0.coords t) ((dats m 0 c).after 5 t) = _
    rw [after0_5, in0, in1, in2, in3, out5]
    exact funext fun j => congrArg (delta (W m c) (G m c) (M m c) (U m c)) (emb5 t j).symm)
  fun i => ⟨t0_0, flush0_5 t0_0, by
    have h := ((cfg0.win 5).blk t0_0).view.emb_mem_set i
    rwa [emb5] at h⟩
theorem arr6 : (dats m 0 c).arrAt 6 cfg0.N = mom (G m c) (M m c) :=
  (dats m 0 c).arrAt_eq_of_cover 6 (mom (G m c) (M m c)) (fun t _ => by
    show (cfg0.win 6).cut (grid0.coords t) ((dats m 0 c).after 6 t) = _
    rw [after0_6, in0, in1, in2, in3, out6]
    exact funext fun j => congrArg (mom (G m c) (M m c)) (emb6 t j).symm)
  fun i => ⟨t0_0, flush0_6 t0_0, by
    have h := ((cfg0.win 6).blk t0_0).view.emb_mem_set i
    rwa [emb6] at h⟩
theorem arr7 : (dats m 0 c).arrAt 7 cfg0.N = var (G m c) (U m c) :=
  (dats m 0 c).arrAt_eq_of_cover 7 (var (G m c) (U m c)) (fun t _ => by
    show (cfg0.win 7).cut (grid0.coords t) ((dats m 0 c).after 7 t) = _
    rw [after0_7, in0, in1, in2, in3, out7]
    exact funext fun j => congrArg (var (G m c) (U m c)) (emb7 t j).symm)
  fun i => ⟨t0_0, flush0_7 t0_0, by
    have h := ((cfg0.win 7).blk t0_0).view.emb_mem_set i
    rwa [emb7] at h⟩

end Cert.Proof.GainsOut

end
-- ==== Proof.GainsSpec.lean ====
/-
  The three gains' weights and moments, held as one array of 32 rows: reading one of the three back, before or after a
  step of the optimiser; and the last value, the loss.
-/
module

public import proofs.«01_k».proof.Proof.AdamSpec

@[expose] public section

set_option maxRecDepth 16384

noncomputable section

namespace Cert.Proof.GainsSpec

open Idealize.ShloMosaic Idealize.ShloMosaic.ValueIdx Idealize.ShloMosaic.Ideal Cert.Proof.AdamSpec

abbrev Rows := FVec Ideal ⟨2, ![32, 128]⟩ .f32
abbrev Long := FVec Ideal ⟨1, ![4096]⟩ .f32
abbrev Gain := FVec Ideal ⟨1, ![1024]⟩ .f32
abbrev Row := FVec Ideal ⟨2, ![1, 1024]⟩ .f32

theorem rows_long : Shape.ShapeCasts ⟨2, ![32, 128]⟩ ⟨1, ![4096]⟩ := by decide
theorem long_rows : Shape.ShapeCasts ⟨1, ![4096]⟩ ⟨2, ![32, 128]⟩ := by decide
theorem gain_row : Shape.ShapeCasts ⟨1, ![1024]⟩ ⟨2, ![1, 1024]⟩ := by decide
theorem row_gain : Shape.ShapeCasts ⟨2, ![1, 1024]⟩ ⟨1, ![1024]⟩ := by decide
theorem at0 : Shape.Slices ⟨1, ![4096]⟩ ![0] ⟨1, ![1024]⟩ := by decide
theorem at1 : Shape.Slices ⟨1, ![4096]⟩ ![1024] ⟨1, ![1024]⟩ := by decide
theorem at2 : Shape.Slices ⟨1, ![4096]⟩ ![2048] ⟨1, ![1024]⟩ := by decide
theorem at3 : Shape.Slices ⟨1, ![4096]⟩ ![3072] ⟨1, ![1]⟩ := by decide

/-- The values in one row. -/
def long (P : Rows) : Long := shapeCast ⟨1, ![4096]⟩ P rows_long
def one (P : Rows) : Row := shapeCast ⟨2, ![1, 1024]⟩ (extractStridedSlice ⟨1, ![1024]⟩ ![0] (long P) at0) gain_row
def two (P : Rows) : Row := shapeCast ⟨2, ![1, 1024]⟩ (extractStridedSlice ⟨1, ![1024]⟩ ![1024] (long P) at1) gain_row
def three (P : Rows) : Gain := extractStridedSlice ⟨1, ![1024]⟩ ![2048] (long P) at2
def loss (P : Rows) : FVec Ideal ⟨1, ![1]⟩ .f32 := extractStridedSlice ⟨1, ![1]⟩ ![3072] (long P) at3

variable (P Q R S : Rows)

theorem one_mom : one (mom P Q) = mom (one P) (one Q) := rfl
theorem two_mom : two (mom P Q) = mom (two P) (two Q) := rfl
theorem three_mom : three (mom P Q) = mom (three P) (three Q) := rfl
theorem one_var : one (var P Q) = var (one P) (one Q) := rfl
theorem two_var : two (var P Q) = var (two P) (two Q) := rfl
theorem three_var : three (var P Q) = var (three P) (three Q) := rfl
theorem one_change : one (change P Q R) = change (one P) (one Q) (one R) := rfl
theorem two_change : two (change P Q R) = change (two P) (two Q) (two R) := rfl
theorem three_change : three (change P Q R) = change (three P) (three Q) (three R) := rfl
theorem one_delta : one (delta P Q R S) = delta (one P) (one Q) (one R) (one S) := by
  unfold delta; rw [one_change, one_mom, one_var]
theorem two_delta : two (delta P Q R S) = delta (two P) (two Q) (two R) (two S) := by
  unfold delta; rw [two_change, two_mom, two_var]
theorem three_delta : three (delta P Q R S) = delta (three P) (three Q) (three R) (three S) := by
  unfold delta; rw [three_change, three_mom, three_var]

/-! ## The array that holds the three -/

/-- An array of 32 rows that holds two rows and a vector, one after another. -/
def Holds (a b : Row) (z : Gain) (P : Rows) : Prop :=
  Joined (shapeCast ⟨1, ![1024]⟩ a row_gain) (shapeCast ⟨1, ![1024]⟩ b row_gain) z (long P)

theorem holds (a b : Row) (z : Gain) (p : Long) (j : Joined (shapeCast ⟨1, ![1024]⟩ a row_gain) (shapeCast ⟨1, ![1024]⟩ b row_gain) z p) :
    Holds a b z (shapeCast ⟨2, ![32, 128]⟩ p long_rows) := by
  unfold Holds long
  rw [shapeCast_shapeCast]
  exact j

theorem holds_joined (a b : Row) (z : Gain) (x y x' : Gain) (u : FVec Ideal ⟨0, ![]⟩ .f32)
    (h : Shape.Concatenates [⟨1, ![1024]⟩, ⟨1, ![1024]⟩, ⟨1, ![1024]⟩] ⟨1, ![3072]⟩ 0)
    (h' : Shape.Pads ⟨1, ![3072]⟩ ![0] ![1024] ![0] ⟨1, ![4096]⟩) (hu : 0 < (⟨0, ![]⟩ : Shape).numel)
    (ex : x = shapeCast ⟨1, ![1024]⟩ a row_gain) (ey : y = shapeCast ⟨1, ![1024]⟩ b row_gain) (ez : x' = z) :
    Holds a b z (shapeCast ⟨2, ![32, 128]⟩ (pad ⟨1, ![4096]⟩ ![0] ![1024] ![0]
      (concatenate ⟨1, ![3072]⟩ 0 [⟨⟨1, ![1024]⟩, x⟩, ⟨⟨1, ![1024]⟩, y⟩, ⟨⟨1, ![1024]⟩, x'⟩] h) u h' hu) long_rows) := by
  subst ex ey ez
  exact holds _ _ _ _ (joined _ _ _ _ _ _ _)

theorem holds_one {a b : Row} {z : Gain} {P : Rows} (j : Holds a b z P) : one P = a := by
  unfold one
  rw [first_part j, shapeCast_shapeCast]
theorem holds_two {a b : Row} {z : Gain} {P : Rows} (j : Holds a b z P) : two P = b := by
  unfold two
  rw [second_part j, shapeCast_shapeCast]
theorem holds_three {a b : Row} {z : Gain} {P : Rows} (j : Holds a b z P) : three P = z := third_part j _

end Cert.Proof.GainsSpec

end
-- ==== Proof.GainsRun.lean ====
/-
  The optimiser's call for the gains, run: the host joins the arguments, the call leaves four arrays, the host takes the
  results out of them.
-/
module

public import proofs.«01_k».proof.Proof.GainsOut
public import proofs.«01_k».proof.Proof.GainsSpec

@[expose] public section

set_option maxRecDepth 16384

noncomputable section

namespace Cert.Proof.GainsRun

open Cert.GainsIdeal Cert.GainsIdeal.Gen Idealize.ShloMosaic.TcCoe Idealize.SL.Sem
open Idealize.ShloMosaic hiding ix1 ix2 ix3 eq_ix1 eq_ix2
open Idealize.ShloMosaic.ValueIdx Idealize.ShloMosaic.Ideal Cert.Proof.AdamSpec Cert.Proof.GainsSpec
open Idealize.ShloMosaic.Pipeline (Dat)

variable (m : (ℓ : Loc nD τ sig) → Buf (Elt Ideal) ℓ) (ρ : Dev nD → PrngReg) (c : Dev nD)

abbrev sh : FVec Ideal ⟨3, ![8, 32, 128]⟩ .f32 := m ((c : Thread nD τ).loc main_arg0)
abbrev w1 : Row := m ((c : Thread nD τ).loc main_arg1)
abbrev w2 : Row := m ((c : Thread nD τ).loc main_arg2)
abbrev w3 : Gain := m ((c : Thread nD τ).loc main_arg3)
abbrev m1 : Row := m ((c : Thread nD τ).loc main_arg4)
abbrev m2 : Row := m ((c : Thread nD τ).loc main_arg5)
abbrev m3 : Gain := m ((c : Thread nD τ).loc main_arg6)
abbrev u1 : Row := m ((c : Thread nD τ).loc main_arg7)
abbrev u2 : Row := m ((c : Thread nD τ).loc main_arg8)
abbrev u3 : Gain := m ((c : Thread nD τ).loc main_arg9)

/-! ## What the region finds -/

section Joined

variable (L : Valuation τ sig (Elt Ideal))

theorem join_v4 : Holds (L (Proc.devRef .tc main_arg1)) (L (Proc.devRef .tc main_arg2)) (L (Proc.devRef .tc main_arg3))
    (StableHlo.after (List.flatten [hostOps0, hostOps0_1, hostOps0_2, hostOps0_3, hostOps0_4, hostOps0_5, hostOps0_6]) L (Proc.devRef .tc main_v4)) := by
  simp only [hostOps0, hostOps0_1, hostOps0_2, hostOps0_3, hostOps0_4, hostOps0_5, hostOps0_6, List.flatten_cons, List.flatten_nil,
    List.append_nil, List.cons_append, List.nil_append]
  after_results_simp
  refine holds_joined _ _ _ _ _ _ _ concatenates_S1024_S1024_S1024_S3072_d0 pads_S3072_S4096_010240 h_S_ ?_ ?_ ?_
  · show HloOp.result _ _ (Proc.devRef .tc main_v0) = _
    after_results_simp
    rfl
  · show HloOp.result _ _ (Proc.devRef .tc main_v1) = _
    after_results_simp
    rfl
  · show HloOp.result _ _ (Proc.devRef .tc main_arg3) = _
    after_results_simp
theorem join_v9 : Holds (L (Proc.devRef .tc main_arg4)) (L (Proc.devRef .tc main_arg5)) (L (Proc.devRef .tc main_arg6))
    (StableHlo.after (List.flatten [hostOps0, hostOps0_1, hostOps0_2, hostOps0_3, hostOps0_4, hostOps0_5, hostOps0_6]) L (Proc.devRef .tc main_v9)) := by
  simp only [hostOps0, hostOps0_1, hostOps0_2, hostOps0_3, hostOps0_4, hostOps0_5, hostOps0_6, List.flatten_cons, List.flatten_nil,
    List.append_nil, List.cons_append, List.nil_append]
  after_results_simp
  refine holds_joined _ _ _ _ _ _ _ concatenates_S1024_S1024_S1024_S3072_d0 pads_S3072_S4096_010240 h_S_ ?_ ?_ ?_
  · show HloOp.result _ _ (Proc.devRef .tc main_v5) = _
    after_results_simp
    rfl
  · show HloOp.result _ _ (Proc.devRef .tc main_v6) = _
    after_results_simp
    rfl
  · show HloOp.result _ _ (Proc.devRef .tc main_arg6) = _
    after_results_simp
theorem join_v14 : Holds (L (Proc.devRef .tc main_arg7)) (L (Proc.devRef .tc main_arg8)) (L (Proc.devRef .tc main_arg9))
    (StableHlo.after (List.flatten [hostOps0, hostOps0_1, hostOps0_2, hostOps0_3, hostOps0_4, hostOps0_5, hostOps0_6]) L (Proc.devRef .tc main_v14)) := by
  simp only [hostOps0, hostOps0_1, hostOps0_2, hostOps0_3, hostOps0_4, hostOps0_5, hostOps0_6, List.flatten_cons, List.flatten_nil,
    List.append_nil, List.cons_append, List.nil_append]
  after_results_simp
  refine holds_joined _ _ _ _ _ _ _ concatenates_S1024_S1024_S1024_S3072_d0 pads_S3072_S4096_010240 h_S_ ?_ ?_ ?_
  · show HloOp.result _ _ (Proc.devRef .tc main_v10) = _
    after_results_simp
    rfl
  · show HloOp.result _ _ (Proc.devRef .tc main_v11) = _
    after_results_simp
    rfl
  · show HloOp.result _ _ (Proc.devRef .tc main_arg9) = _
    after_results_simp

end Joined

theorem holds_w : Holds (w1 m c) (w2 m c) (w3 m c) (GainsOut.W m c) := join_v4 _
theorem holds_m : Holds (m1 m c) (m2 m c) (m3 m c) (GainsOut.M m c) := join_v9 _
theorem holds_u : Holds (u1 m c) (u2 m c) (u3 m c) (GainsOut.U m c) := join_v14 _

/-! ## What it leaves -/

/-- The memory as the region leaves it. -/
abbrev last : Valuation τ sig (Elt Ideal) := Pipeline.withArrays spec0 c (V0 m c) fun w => (dats m 0 c).arrAt w cfg0.N

theorem last4 : last m c (Proc.devRef .tc main_v15_0) = GainsOut.G m c :=
  (Pipeline.withArrays_arr spec0 launch0.win.arr_inj c _ _ 4).trans (GainsOut.arr4 m c)
theorem last5 : last m c (Proc.devRef .tc main_v15_1) = delta (GainsOut.W m c) (GainsOut.G m c) (GainsOut.M m c) (GainsOut.U m c) :=
  (Pipeline.withArrays_arr spec0 launch0.win.arr_inj c _ _ 5).trans (GainsOut.arr5 m c)
theorem last6 : last m c (Proc.devRef .tc main_v15_2) = mom (GainsOut.G m c) (GainsOut.M m c) :=
  (Pipeline.withArrays_arr spec0 launch0.win.arr_inj c _ _ 6).trans (GainsOut.arr6 m c)
theorem last7 : last m c (Proc.devRef .tc main_v15_3) = var (GainsOut.G m c) (GainsOut.U m c) :=
  (Pipeline.withArrays_arr spec0 launch0.win.arr_inj c _ _ 7).trans (GainsOut.arr7 m c)

variable (L : Valuation τ sig (Elt Ideal))

theorem take18 : StableHlo.after [hostOps1].flatten L (Proc.devRef .tc main_v18) = one (L (Proc.devRef .tc main_v15_0)) := by
  unfold hostOps1
  simp only [List.flatten_cons, List.flatten_nil, List.append_nil]
  after_results_simp
  rfl
theorem take20 : StableHlo.after [hostOps1].flatten L (Proc.devRef .tc main_v20) = two (L (Proc.devRef .tc main_v15_0)) := by
  unfold hostOps1
  simp only [List.flatten_cons, List.flatten_nil, List.append_nil]
  after_results_simp
  rfl
theorem take21 : StableHlo.after [hostOps1].flatten L (Proc.devRef .tc main_v21) = three (L (Proc.devRef .tc main_v15_0)) := by
  unfold hostOps1
  simp only [List.flatten_cons, List.flatten_nil, List.append_nil]
  after_results_simp
  rfl
theorem take26 : StableHlo.after [hostOps1].flatten L (Proc.devRef .tc main_v26) = one (L (Proc.devRef .tc main_v15_1)) := by
  unfold hostOps1
  simp only [List.flatten_cons, List.flatten_nil, List.append_nil]
  after_results_simp
  rfl
theorem take28 : StableHlo.after [hostOps1].flatten L (Proc.devRef .tc main_v28) = two (L (Proc.devRef .tc main_v15_1)) := by
  unfold hostOps1
  simp only [List.flatten_cons, List.flatten_nil, List.append_nil]
  after_results_simp
  rfl
theorem take29 : StableHlo.after [hostOps1].flatten L (Proc.devRef .tc main_v29) = three (L (Proc.devRef .tc main_v15_1)) := by
  unfold hostOps1
  simp only [List.flatten_cons, List.flatten_nil, List.append_nil]
  after_results_simp
  rfl
theorem take34 : StableHlo.after [hostOps1].flatten L (Proc.devRef .tc main_v34) = one (L (Proc.devRef .tc main_v15_2)) := by
  unfold hostOps1
  simp only [List.flatten_cons, List.flatten_nil, List.append_nil]
  after_results_simp
  rfl
theorem take36 : StableHlo.after [hostOps1].flatten L (Proc.devRef .tc main_v36) = two (L (Proc.devRef .tc main_v15_2)) := by
  unfold hostOps1
  simp only [List.flatten_cons, List.flatten_nil, List.append_nil]
  after_results_simp
  rfl
theorem take37 : StableHlo.after [hostOps1].flatten L (Proc.devRef .tc main_v37) = three (L (Proc.devRef .tc main_v15_2)) := by
  unfold hostOps1
  simp only [List.flatten_cons, List.flatten_nil, List.append_nil]
  after_results_simp
  rfl
theorem take42 : StableHlo.after [hostOps1].flatten L (Proc.devRef .tc main_v42) = one (L (Proc.devRef .tc main_v15_3)) := by
  unfold hostOps1
  simp only [List.flatten_cons, List.flatten_nil, List.append_nil]
  after_results_simp
  rfl
theorem take44 : StableHlo.after [hostOps1].flatten L (Proc.devRef .tc main_v44) = two (L (Proc.devRef .tc main_v15_3)) := by
  unfold hostOps1
  simp only [List.flatten_cons, List.flatten_nil, List.append_nil]
  after_results_simp
  rfl
theorem take45 : StableHlo.after [hostOps1].flatten L (Proc.devRef .tc main_v45) = three (L (Proc.devRef .tc main_v15_3)) := by
  unfold hostOps1
  simp only [List.flatten_cons, List.flatten_nil, List.append_nil]
  after_results_simp
  rfl
theorem take48 : StableHlo.after [hostOps1].flatten L (Proc.devRef .tc main_v48) = loss (L (Proc.devRef .tc main_v15_0)) := by
  unfold hostOps1
  simp only [List.flatten_cons, List.flatten_nil, List.append_nil]
  after_results_simp
  exact shapeCast_shapeCast _ _ _

theorem gsum : GainsOut.G m c = total (sh m c) := congrArg total (V_main_arg0 m c)

theorem results : θ_run defs (onTc (τ := τ) (main (F := Ideal))) ⟨m, fun _ => 0, ρ⟩ (fun r => ∀ c : Dev nD,
      r.2.mem ((c : Thread nD τ).loc main_v48) = loss (total (sh m c))
      ∧ r.2.mem ((c : Thread nD τ).loc main_v18) = one (total (sh m c))
      ∧ r.2.mem ((c : Thread nD τ).loc main_v20) = two (total (sh m c))
      ∧ r.2.mem ((c : Thread nD τ).loc main_v21) = three (total (sh m c))
      ∧ r.2.mem ((c : Thread nD τ).loc main_v26) = delta (w1 m c) (one (total (sh m c))) (m1 m c) (u1 m c)
      ∧ r.2.mem ((c : Thread nD τ).loc main_v28) = delta (w2 m c) (two (total (sh m c))) (m2 m c) (u2 m c)
      ∧ r.2.mem ((c : Thread nD τ).loc main_v29) = delta (w3 m c) (three (total (sh m c))) (m3 m c) (u3 m c)
      ∧ r.2.mem ((c : Thread nD τ).loc main_v34) = mom (one (total (sh m c))) (m1 m c)
      ∧ r.2.mem ((c : Thread nD τ).loc main_v36) = mom (two (total (sh m c))) (m2 m c)
      ∧ r.2.mem ((c : Thread nD τ).loc main_v37) = mom (three (total (sh m c))) (m3 m c)
      ∧ r.2.mem ((c : Thread nD τ).loc main_v42) = var (one (total (sh m c))) (u1 m c)
      ∧ r.2.mem ((c : Thread nD τ).loc main_v44) = var (two (total (sh m c))) (u2 m c)
      ∧ r.2.mem ((c : Thread nD τ).loc main_v45) = var (three (total (sh m c))) (u3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)) := by
  refine (θ_run defs _ _).mono (fun r h c => ?_) (run_main m ρ)
  have fin (b : Ref sig .tc) (hb : b ∈ Pipeline.restRefs sig spec0) :
      r.2.mem ((c : Thread nD τ).loc b) = StableHlo.after [hostOps1].flatten (last m c) (Proc.devRef .tc b) := (h c).2 b hb
  have e0 := gsum m c
  have r48 := (fin main_v48 (Pipeline.mem_restRefs_of main_v48 (by decide) (by decide))).trans (take48 (last m c))
  rw [last4, e0] at r48
  have r18 := (fin main_v18 (Pipeline.mem_restRefs_of main_v18 (by decide) (by decide))).trans (take18 (last m c))
  rw [last4, e0] at r18
  have r20 := (fin main_v20 (Pipeline.mem_restRefs_of main_v20 (by decide) (by decide))).trans (take20 (last m c))
  rw [last4, e0] at r20
  have r21 := (fin main_v21 (Pipeline.mem_restRefs_of main_v21 (by decide) (by decide))).trans (take21 (last m c))
  rw [last4, e0] at r21
  have r26 := (fin main_v26 (Pipeline.mem_restRefs_of main_v26 (by decide) (by decide))).trans (take26 (last m c))
  rw [last5, one_delta, holds_one (holds_w m c), holds_one (holds_m m c), holds_one (holds_u m c), e0] at r26
  have r28 := (fin main_v28 (Pipeline.mem_restRefs_of main_v28 (by decide) (by decide))).trans (take28 (last m c))
  rw [last5, two_delta, holds_two (holds_w m c), holds_two (holds_m m c), holds_two (holds_u m c), e0] at r28
  have r29 := (fin main_v29 (Pipeline.mem_restRefs_of main_v29 (by decide) (by decide))).trans (take29 (last m c))
  rw [last5, three_delta, holds_three (holds_w m c), holds_three (holds_m m c), holds_three (holds_u m c), e0] at r29
  have r34 := (fin main_v34 (Pipeline.mem_restRefs_of main_v34 (by decide) (by decide))).trans (take34 (last m c))
  rw [last6, one_mom, holds_one (holds_m m c), e0] at r34
  have r36 := (fin main_v36 (Pipeline.mem_restRefs_of main_v36 (by decide) (by decide))).trans (take36 (last m c))
  rw [last6, two_mom, holds_two (holds_m m c), e0] at r36
  have r37 := (fin main_v37 (Pipeline.mem_restRefs_of main_v37 (by decide) (by decide))).trans (take37 (last m c))
  rw [last6, three_mom, holds_three (holds_m m c), e0] at r37
  have r42 := (fin main_v42 (Pipeline.mem_restRefs_of main_v42 (by decide) (by decide))).trans (take42 (last m c))
  rw [last7, one_var, holds_one (holds_u m c), e0] at r42
  have r44 := (fin main_v44 (Pipeline.mem_restRefs_of main_v44 (by decide) (by decide))).trans (take44 (last m c))
  rw [last7, two_var, holds_two (holds_u m c), e0] at r44
  have r45 := (fin main_v45 (Pipeline.mem_restRefs_of main_v45 (by decide) (by decide))).trans (take45 (last m c))
  rw [last7, three_var, holds_three (holds_u m c), e0] at r45
  refine ⟨r48, r18, r20, r21, r26, r28, r29, r34, r36, r37, r42, r44, r45,
    ((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c)⟩

end Cert.Proof.GainsRun

end
-- ==== Proof.GainsRef.lean ====
/-
  The gains' reference: its thirteen results, and the agreement with the optimiser's call.
-/
module

public import proofs.«01_k».proof.Defs
public import proofs.«01_k».proof.Proof.GainsRun
public import proofs.«01_k».proof.Proof.Gen.GainsRefIdeal.Run
public import Idealize.ShloMosaic.Lib.Quiescent

@[expose] public section

set_option maxRecDepth 16384

noncomputable section

namespace Cert.Proof.GainsRef

open Idealize.ShloMosaic.TcCoe Idealize.SL.Sem Idealize.ShloMosaic.Ideal
open Idealize.ShloMosaic hiding ix1 ix2 ix3 eq_ix1 eq_ix2
open Idealize.ShloMosaic.ValueIdx
open Cert.Proof.AdamSpec Cert.Proof.GainsSpec

section Reference

open Cert.GainsRefIdeal Cert.GainsRefIdeal.Gen

variable (m : (ℓ : Loc nD τ sig) → Buf (Elt Ideal) ℓ) (ρ : Dev nD → PrngReg) (c : Dev nD)

abbrev sh : FVec Ideal ⟨3, ![8, 32, 128]⟩ .f32 := m ((c : Thread nD τ).loc main_arg0)
abbrev w1 : Row := m ((c : Thread nD τ).loc main_arg1)
abbrev w2 : Row := m ((c : Thread nD τ).loc main_arg2)
abbrev w3 : Gain := m ((c : Thread nD τ).loc main_arg3)
abbrev m1 : Row := m ((c : Thread nD τ).loc main_arg4)
abbrev m2 : Row := m ((c : Thread nD τ).loc main_arg5)
abbrev m3 : Gain := m ((c : Thread nD τ).loc main_arg6)
abbrev u1 : Row := m ((c : Thread nD τ).loc main_arg7)
abbrev u2 : Row := m ((c : Thread nD τ).loc main_arg8)
abbrev u3 : Gain := m ((c : Thread nD τ).loc main_arg9)

theorem gsum : Host.reduceAdd (sh m c) (constant S_ .f32 0x00000000#32) reducesTo_S8x32x128_S32x128_d0 h_S_ = total (sh m c) :=
  host_total _ _ _

theorem results : θ_run defs (onTc (τ := τ) (main (F := Ideal))) ⟨m, fun _ => 0, ρ⟩ (fun r => ∀ c : Dev nD,
      r.2.mem ((c : Thread nD τ).loc main_v79) = loss (total (sh m c))
      ∧ r.2.mem ((c : Thread nD τ).loc main_v3) = one (total (sh m c))
      ∧ r.2.mem ((c : Thread nD τ).loc main_v5) = two (total (sh m c))
      ∧ r.2.mem ((c : Thread nD τ).loc main_v6) = three (total (sh m c))
      ∧ r.2.mem ((c : Thread nD τ).loc main_v30) = delta (w1 m c) (one (total (sh m c))) (m1 m c) (u1 m c)
      ∧ r.2.mem ((c : Thread nD τ).loc main_v54) = delta (w2 m c) (two (total (sh m c))) (m2 m c) (u2 m c)
      ∧ r.2.mem ((c : Thread nD τ).loc main_v78) = delta (w3 m c) (three (total (sh m c))) (m3 m c) (u3 m c)
      ∧ r.2.mem ((c : Thread nD τ).loc main_v11) = mom (one (total (sh m c))) (m1 m c)
      ∧ r.2.mem ((c : Thread nD τ).loc main_v35) = mom (two (total (sh m c))) (m2 m c)
      ∧ r.2.mem ((c : Thread nD τ).loc main_v59) = mom (three (total (sh m c))) (m3 m c)
      ∧ r.2.mem ((c : Thread nD τ).loc main_v17) = var (one (total (sh m c))) (u1 m c)
      ∧ r.2.mem ((c : Thread nD τ).loc main_v41) = var (two (total (sh m c))) (u2 m c)
      ∧ r.2.mem ((c : Thread nD τ).loc main_v65) = var (three (total (sh m c))) (u3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)) := by
  refine (θ_run defs _ _).mono (fun _ h c => ?_) (Value.run (F := Ideal) m ρ)
  obtain ⟨h0, h1, h2, h3, h4, h5, h6, h7, h8, h9, h10, h11, h12, hargs⟩ := h c
  have e := gsum m c
  unfold sh at e
  rw [e] at h0 h1 h2 h3 h4 h5 h6 h7 h8 h9 h10 h11 h12
  exact ⟨h0, h1, h2, h3, h4, h5, h6, h7, h8, h9, h10, h11, h12, hargs⟩

end Reference

/-- The reference terminates, keeps its arguments, and has no counter to leave. -/
theorem reference_frame : Cert.quiescent_GainsRefIdeal (hGainsRefIdeal := Cert.GainsRefIdeal.Gen.facts) :=
  fun m ρ _ => (θ_run Cert.GainsRefIdeal.defs _ _).mono
    (fun r h => ⟨fun c => (h c).2.2.2.2.2.2.2.2.2.2.2.2.2, sem_eq_zero_of_no_sems (by decide) r.2⟩)
    (Cert.GainsRefIdeal.Value.run (F := Ideal) m ρ)

theorem value : Cert.algebraic_GainsIdeal_GainsRefIdeal (hGainsIdeal := Cert.GainsIdeal.Gen.facts)
    (hGainsRefIdeal := Cert.GainsRefIdeal.Gen.facts) := by
  intro m g m' g' _ hargs
  refine ⟨_, _, _, _, _, _, _, _, _, _, _, _, _, GainsRun.results m g, (θ_run Cert.GainsRefIdeal.defs _ _).mono (fun r h c => ?_) (results m' g')⟩
  obtain ⟨e0, e1, e2, e3, e4, e5, e6, e7, e8, e9⟩ := hargs c
  have hkeep := (h c).2.2.2.2.2.2.2.2.2.2.2.2.2
  have h := h c
  unfold sh w1 w2 w3 m1 m2 m3 u1 u2 u3 at h
  rw [e0, e1, e2, e3, e4, e5, e6, e7, e8, e9] at h
  obtain ⟨h0, h1, h2, h3, h4, h5, h6, h7, h8, h9, h10, h11, h12, -⟩ := h
  exact ⟨h0, h1, h2, h3, h4, h5, h6, h7, h8, h9, h10, h11, h12, hkeep⟩

end Cert.Proof.GainsRef

end
-- ==== Proof.AdamAll.lean ====
/-
  The optimiser's run on the large weights' shards, read at every buffer.
-/
module

public import proofs.«01_k».proof.Proof.Gen.AdamIdeal.Frame
public import Idealize.ShloMosaic.Lib.Pipeline.ValueKit

@[expose] public section

set_option maxRecDepth 16384

noncomputable section

namespace Cert.Proof.AdamAll

open Cert.AdamIdeal Cert.AdamIdeal.Gen Idealize.ShloMosaic.TcCoe Idealize.ShloMosaic.Tactic
open Idealize.ShloMosaic hiding ix1 ix2 ix3 eq_ix1 eq_ix2
open Idealize.SL Idealize.SL.RA Idealize.SL.BI
open scoped Idealize.SL.BI
open Idealize.SL.BI.BIBase Idealize.SL.BI.Laws Idealize.SL.ProofMode Idealize.SL.Sem
open Idealize.ShloMosaic.Rounds

section Any

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer of every core ends at the fold's last contents: the segments' launch, with the last thread state read
    against the final memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun _ h _ => h)

end Any

end Cert.Proof.AdamAll

end
-- ==== Proof.AdamBig.lean ====
/-
  The optimiser's calls for the large weights, on one block of rows: the gradient as the sum of four parts, and the step
  at one element.
-/
module

public import proofs.«01_k».proof.Proof.AdamSpec
public import Idealize.ShloMosaic.Lib.ValueLayout

@[expose] public section

set_option maxRecDepth 16384

noncomputable section

namespace Cert.Proof.AdamBig

open Idealize.ShloMosaic Idealize.ShloMosaic.ValueIdx Idealize.ShloMosaic.Ideal Cert.Proof.AdamSpec

/-- The sum of four planes, in the order in which a body adds them. -/
def four {a b : Nat} (x0 x1 x2 x3 : (⟨3, ![1, a, b]⟩ : Shape).Idx → EReal) : FVec Ideal ⟨2, ![a, b]⟩ .f32 :=
  fun i => x0 (ix3 0 (i 0) (i 1)) + x1 (ix3 0 (i 0) (i 1)) + x2 (ix3 0 (i 0) (i 1)) + x3 (ix3 0 (i 0) (i 1))

theorem planes {a b : Nat} (x0 x1 x2 x3 : FVec Ideal ⟨3, ![1, a, b]⟩ .bf16) (h : Shape.ShapeCasts ⟨3, ![1, a, b]⟩ ⟨2, ![a, b]⟩)
    (hb : FTy.bits .bf16 < FTy.bits .f32) :
    addf (addf (addf (extf .f32 (shapeCast ⟨2, ![a, b]⟩ x0 h) hb) (extf .f32 (shapeCast ⟨2, ![a, b]⟩ x1 h) hb))
      (extf .f32 (shapeCast ⟨2, ![a, b]⟩ x2 h) hb)) (extf .f32 (shapeCast ⟨2, ![a, b]⟩ x3 h) hb) = four x0 x1 x2 x3 := by
  funext i
  exact congrArg₂ (· + ·) (congrArg₂ (· + ·) (congrArg₂ (· + ·) (plane (α := EReal) x0 h i) (plane (α := EReal) x1 h i))
    (plane (α := EReal) x2 h i)) (plane (α := EReal) x3 h i)

/-- Four planes that are read out of one array add up to its sum. -/
theorem four_eq {a b n d : Nat} (x0 x1 x2 x3 : (⟨3, ![1, a, b]⟩ : Shape).Idx → EReal) (p : (⟨3, ![4, n, d]⟩ : Shape).Idx → EReal)
    (j : (⟨2, ![a, b]⟩ : Shape).Idx) (i : (⟨2, ![n, d]⟩ : Shape).Idx)
    (h0 : x0 (ix3 0 (j 0) (j 1)) = p (ix3 0 (i 0) (i 1))) (h1 : x1 (ix3 0 (j 0) (j 1)) = p (ix3 1 (i 0) (i 1)))
    (h2 : x2 (ix3 0 (j 0) (j 1)) = p (ix3 2 (i 0) (i 1))) (h3 : x3 (ix3 0 (j 0) (j 1)) = p (ix3 3 (i 0) (i 1))) :
    four x0 x1 x2 x3 j = total p i := by
  refine Eq.trans ?_ (Fin.sum_univ_four (fun k : Fin 4 => p (ix3 k (i 0) (i 1)))).symm
  unfold four
  rw [h0, h1, h2, h3]

section Step

variable {s s' : Shape} {w g m v : FVec Ideal s .f32} {w' g' m' v' : FVec Ideal s' .f32} {j : s.Idx} {i : s'.Idx}

theorem mom_at (hg : g j = g' i) (hm : m j = m' i) : mom g m j = mom g' m' i := by
  show (Ideal.ofBits .f32 0x3F666666#32 * m j + Ideal.ofBits .f32 0x3DCCCCCD#32 * g j : EReal) = _
  rw [hg, hm]; rfl
theorem var_at (hg : g j = g' i) (hv : v j = v' i) : var g v j = var g' v' i := by
  show (Ideal.ofBits .f32 0x3F7FBE77#32 * v j + Ideal.ofBits .f32 0x3A83126F#32 * (g j * g j) : EReal) = _
  rw [hg, hv]; rfl
theorem change_at (hw : w j = w' i) (hm : m j = m' i) (hv : v j = v' i) : change w m v j = change w' m' v' i := by
  show change (s := ⟨0, ![]⟩) (fun _ => w j) (fun _ => m j) (fun _ => v j) (fun a => a.elim0) = _
  rw [hw, hm, hv]; rfl
theorem delta_at (hw : w j = w' i) (hg : g j = g' i) (hm : m j = m' i) (hv : v j = v' i) : delta w g m v j = delta w' g' m' v' i :=
  change_at hw (mom_at hg hm) (var_at hg hv)

end Step

/-! ## Equals for equals -/

theorem mom_eq {s : Shape} {g g' m m' : FVec Ideal s .f32} (hg : g = g') (hm : m = m') : mom g m = mom g' m' := by rw [hg, hm]
theorem var_eq {s : Shape} {g g' v v' : FVec Ideal s .f32} (hg : g = g') (hv : v = v') : var g v = var g' v' := by rw [hg, hv]
theorem delta_eq {s : Shape} {w w' g g' m m' v v' : FVec Ideal s .f32} (hw : w = w') (hg : g = g') (hm : m = m') (hv : v = v') :
    delta w g m v = delta w' g' m' v' := by rw [hw, hg, hm, hv]

/-! ## A weight kept the other way round -/

section Swap

variable {a b : Nat}

/-- The transpose. -/
def swap (x : FVec Ideal ⟨2, ![a, b]⟩ .f32) : FVec Ideal ⟨2, ![b, a]⟩ .f32 := fun i => x (ix2 (i 1) (i 0))

theorem swap_eq (x : FVec Ideal ⟨2, ![a, b]⟩ .f32) (h : (⟨2, ![a, b]⟩ : Shape).Transposes [1, 0] ⟨2, ![b, a]⟩) :
    transpose ⟨2, ![b, a]⟩ [1, 0] x h = swap x := by
  funext i; conv_lhs => rw [eq_ix2 i]
  exact transpose_ix2_apply x h (i 0) (i 1)

variable (g : FVec Ideal ⟨2, ![b, a]⟩ .f32) (w m v : FVec Ideal ⟨2, ![a, b]⟩ .f32)

theorem swap_mom : swap (mom g (swap m)) = mom (swap g) m := by
  funext i; exact mom_at rfl (congrArg m (eq_ix2 i).symm)
theorem swap_var : swap (var g (swap v)) = var (swap g) v := by
  funext i; exact var_at rfl (congrArg v (eq_ix2 i).symm)
theorem swap_delta : swap (delta (swap w) g (swap m) (swap v)) = delta w (swap g) m v := by
  funext i; exact delta_at (congrArg w (eq_ix2 i).symm) rfl (congrArg m (eq_ix2 i).symm) (congrArg v (eq_ix2 i).symm)

end Swap

theorem origin : (![0, 0] : Fin 2 → Nat) = fun _ => 0 := funext fun a => by match a with | ⟨0, _⟩ => rfl | ⟨1, _⟩ => rfl
theorem origin3 : (![0, 0, 0] : Fin 3 → Nat) = fun _ => 0 :=
  funext fun a => by match a with | ⟨0, _⟩ => rfl | ⟨1, _⟩ => rfl | ⟨2, _⟩ => rfl

end Cert.Proof.AdamBig

end
-- ==== Proof.StateStep.lean ====
/-
  The optimiser's step on one weight as a statement of its four results, and what carries it from one layout to another.
-/
module

public import proofs.«01_k».proof.Proof.AdamBig
public import Idealize.ShloMosaic.Lib.Pipeline.ValueKit

@[expose] public section

set_option maxRecDepth 16384

noncomputable section

namespace Cert.Proof.StateStep

open Idealize.ShloMosaic hiding ix1 ix2 ix3 eq_ix1 eq_ix2
open Idealize.ShloMosaic.ValueIdx Idealize.ShloMosaic.Ideal Cert.Proof.AdamSpec Cert.Proof.AdamBig

/-- Of the weight `w`, the gradient `g` and the moments `m`, `v`: the gradient, the change and the new moments. -/
def Stepped {s : Shape} (w g m v g' d m' v' : FVec Ideal s .f32) : Prop :=
  g' = g ∧ d = delta w g m v ∧ m' = mom g m ∧ v' = var g v

theorem Stepped.of_eq {s : Shape} {w g m v g' d m' v' w₁ g₁ m₁ v₁ g₁' d₁ m₁' v₁' : FVec Ideal s .f32}
    (h : Stepped w g m v g' d m' v') (hw : w = w₁) (hg : g = g₁) (hm : m = m₁) (hv : v = v₁)
    (ag : g₁' = g') (ad : d₁ = d) (am : m₁' = m') (av : v₁' = v') : Stepped w₁ g₁ m₁ v₁ g₁' d₁ m₁' v₁' := by
  subst hw hg hm hv ag ad am av; exact h

/-- The step from a gradient given in another way. -/
theorem Stepped.of_grad {s : Shape} {w r g m v g' d m' v' : FVec Ideal s .f32} (e : r = g) (h0 : g' = r) (h1 : d = delta w r m v)
    (h2 : m' = mom r m) (h3 : v' = var r v) : Stepped w g m v g' d m' v' := by
  subst e; exact ⟨h0, h1, h2, h3⟩

/-- A step is the same one in another order of the elements. -/
theorem Stepped.map {s t : Shape} (f : FVec Ideal s .f32 → FVec Ideal t .f32) (e : t.Idx → s.Idx) (hf : ∀ x i, f x i = x (e i))
    {w g m v g' d m' v' : FVec Ideal s .f32} (h : Stepped w g m v g' d m' v') :
    Stepped (f w) (f g) (f m) (f v) (f g') (f d) (f m') (f v') := by
  obtain ⟨rfl, rfl, rfl, rfl⟩ := h
  exact ⟨rfl, funext fun i => (hf _ i).trans (delta_at (hf w i) (hf g' i) (hf m i) (hf v i)).symm,
    funext fun i => (hf _ i).trans (mom_at (hf g' i) (hf m i)).symm, funext fun i => (hf _ i).trans (var_at (hf g' i) (hf v i)).symm⟩

/-! ## The eight shares as a body reads them -/

section Eight

variable {a b : Nat} (x : FVec Ideal ⟨3, ![8, a, b]⟩ .f32)

/-- Plane `k`, loaded. -/
abbrev part (k : Nat) (h : ∀ d, (![k, 0, 0] : Fin 3 → Nat) d + (⟨3, ![1, a, b]⟩ : Shape).size d ≤ (⟨3, ![8, a, b]⟩ : Shape).size d)
    (hc : Shape.ShapeCasts ⟨3, ![1, a, b]⟩ ⟨2, ![a, b]⟩) : FVec Ideal ⟨2, ![a, b]⟩ .f32 :=
  shapeCast ⟨2, ![a, b]⟩ (View.ld (Val := Elt Ideal) (e' := .f32) x (Rect.unit (s := ⟨3, ![8, a, b]⟩) ![k, 0, 0] (⟨3, ![1, a, b]⟩ : Shape).size h)
    : (⟨3, ![1, a, b]⟩ : Shape).Idx → EReal) hc

theorem part_at (k : Fin 8) (h hc) (i : (⟨2, ![a, b]⟩ : Shape).Idx) : part x k.val h hc i = x (ix3 k (i 0) (i 1)) := by
  refine (plane _ _ i).trans (congrArg x (funext fun d => Fin.ext ?_))
  match d with
  | ⟨0, _⟩ => show k.val + 1 * 0 = k.val; omega
  | ⟨1, _⟩ => show 0 + 1 * (i 0).val = (i 0).val; omega
  | ⟨2, _⟩ => show 0 + 1 * (i 1).val = (i 1).val; omega

theorem eight (h0 h1 h2 h3 h4 h5 h6 h7 hc) :
    addf (addf (addf (addf (addf (addf (addf (part x 0 h0 hc) (part x 1 h1 hc)) (part x 2 h2 hc)) (part x 3 h3 hc)) (part x 4 h4 hc))
      (part x 5 h5 hc)) (part x 6 h6 hc)) (part x 7 h7 hc) = total x := by
  funext i
  refine Eq.trans ?_ (Fin.sum_univ_eight (fun k : Fin 8 => (x (ix3 k (i 0) (i 1)) : EReal))).symm
  exact congrArg₂ (· + ·) (congrArg₂ (· + ·) (congrArg₂ (· + ·) (congrArg₂ (· + ·) (congrArg₂ (· + ·) (congrArg₂ (· + ·) (congrArg₂ (· + ·)
    (part_at x 0 h0 hc i) (part_at x 1 h1 hc i)) (part_at x 2 h2 hc i)) (part_at x 3 h3 hc i)) (part_at x 4 h4 hc i)) (part_at x 5 h5 hc i))
    (part_at x 6 h6 hc i)) (part_at x 7 h7 hc i)

end Eight

/-- The place of an element of a block that is its whole array. -/
theorem place {n k : Nat} (z : n = 0) (size j : Nat) (h : n * size + 1 * j = k) : k = j := by subst z; omega

/-! ## The layouts of the state-space weights -/

abbrev Rows : Shape := ⟨2, ![512, 64]⟩
abbrev Cube : Shape := ⟨3, ![32, 16, 64]⟩
abbrev Turned : Shape := ⟨3, ![32, 64, 16]⟩

/-- The rows by their block, and back. -/
def rows (x : FVec Ideal Rows .f32) : FVec Ideal Cube .f32 := shapeCast Cube x (by decide)
def flat (x : FVec Ideal Cube .f32) : FVec Ideal Rows .f32 := shapeCast Rows x (by decide)
/-- A block's two axes the other way round, and back. -/
def turn (x : FVec Ideal Cube .f32) : FVec Ideal Turned .f32 := transpose Turned [0, 2, 1] x (by decide)
def unturn (x : FVec Ideal Turned .f32) : FVec Ideal Cube .f32 := transpose Cube [0, 2, 1] x (by decide)

theorem rows_flat (x : FVec Ideal Cube .f32) : rows (flat x) = x := shapeCast_shapeCast _ _ _
theorem turn_unturn (x : FVec Ideal Turned .f32) : turn (unturn x) = x := by
  funext i
  conv_lhs => rw [ValueIdx.eq_ix3 i]
  exact ((transpose_ix3_021_apply (unturn x) _ (i 0) (i 1) (i 2)).trans (transpose_ix3_021_apply x _ (i 0) (i 2) (i 1))).trans
    (congrArg x (ValueIdx.eq_ix3 i).symm)
theorem swap_swap {a b : Nat} (x : FVec Ideal ⟨2, ![a, b]⟩ .f32) : swap (swap x) = x := funext fun i => congrArg x (eq_ix2 i).symm

section Layouts

variable {w g m v g' d m' v' : FVec Ideal Rows .f32} (h : Stepped w g m v g' d m' v')
include h

theorem Stepped.in_rows : Stepped (rows w) (rows g) (rows m) (rows v) (rows g') (rows d) (rows m') (rows v') :=
  h.map rows _ fun _ _ => rfl
theorem Stepped.in_turn : Stepped (turn (rows w)) (turn (rows g)) (turn (rows m)) (turn (rows v)) (turn (rows g')) (turn (rows d))
    (turn (rows m')) (turn (rows v')) :=
  h.map (fun x => turn (rows x)) _ fun _ _ => rfl

end Layouts

end Cert.Proof.StateStep

end
-- ==== Proof.AdamOut0.lean ====
/-
  The optimiser on the input projection's shard: the four arrays it leaves.
-/
module

public import proofs.«01_k».proof.Proof.AdamBig
public import proofs.«01_k».proof.Proof.Gen.AdamIdeal.Frame.Region0
public import Idealize.ShloMosaic.Lib.Pipeline.ValueKit

@[expose] public section

set_option maxRecDepth 16384

noncomputable section

namespace Cert.Proof.AdamOut0

open Cert.AdamIdeal Cert.AdamIdeal.Gen Idealize.ShloMosaic.TcCoe Idealize.SL.Sem
open Idealize.ShloMosaic hiding ix1 ix2 ix3 eq_ix1 eq_ix2
open Idealize.ShloMosaic.ValueIdx Idealize.ShloMosaic.Ideal Cert.Proof.AdamSpec Cert.Proof.AdamBig

section Values

variable (x0 x1 x2 x3 : FVec Ideal S1x304x1024 .bf16) (x4 x5 x6 : FVec Ideal S304x1024 .f32)

theorem pay_g : k0_pay3 (F := Ideal) x0 x1 x2 x3 = four x0 x1 x2 x3 := planes x0 x1 x2 x3 _ _
theorem pay_m : k0_pay4 (F := Ideal) x0 x1 x2 x3 x5 = mom (four x0 x1 x2 x3) x5 := by
  unfold k0_pay4; rw [pay_g]; rw [shapeCast_self]; rfl
theorem pay_v : k0_pay5 (F := Ideal) x0 x1 x2 x3 x6 = var (four x0 x1 x2 x3) x6 := by
  unfold k0_pay5; rw [pay_g]; rw [shapeCast_self]; rfl
theorem out7 : out0_7 (F := Ideal) x0 x1 x2 x3 x4 x5 x6 = four x0 x1 x2 x3 := by frame_out; exact pay_g x0 x1 x2 x3
theorem out9 : out0_9 (F := Ideal) x0 x1 x2 x3 x4 x5 x6 = mom (four x0 x1 x2 x3) x5 := by frame_out; exact pay_m x0 x1 x2 x3 x5
theorem pay_whole : k0_pay8 (F := Ideal) x0 x1 x2 x3 x4 x5 x6 = var (four x0 x1 x2 x3) x6 := by
  unfold k0_pay8
  rw [View.ld_unit_zero origin3, View.ld_unit_zero origin3, View.ld_unit_zero origin3, View.ld_unit_zero origin3, View.ld_unit_zero origin]
  exact pay_v x0 x1 x2 x3 x6
theorem out10 : out0_10 (F := Ideal) x0 x1 x2 x3 x4 x5 x6 = var (four x0 x1 x2 x3) x6 := by frame_out; exact pay_whole x0 x1 x2 x3 x4 x5 x6
theorem out8 : out0_8 (F := Ideal) x0 x1 x2 x3 x4 x5 x6 = delta x4 (four x0 x1 x2 x3) x5 x6 := by
  frame_out; rw [pay_whole]; unfold k0_pay2 k0_pay6; rw [pay_m, shapeCast_self]; rfl

end Values

/-- Where the blocks lie. -/
theorem idx : ∀ t : Fin cfg0.N, win0_0.index t = ![0, t.val, 0] ∧ win0_1.index t = ![1, t.val, 0] ∧ win0_2.index t = ![2, t.val, 0] ∧ win0_3.index t = ![3, t.val, 0]
    ∧ win0_4.index t = ![t.val, 0] ∧ win0_5.index t = ![t.val, 0] ∧ win0_6.index t = ![t.val, 0] ∧ win0_7.index t = ![t.val, 0]
    ∧ win0_8.index t = ![t.val, 0] ∧ win0_9.index t = ![t.val, 0] ∧ win0_10.index t = ![t.val, 0] :=
  (by decide +kernel : ∀ t : Fin grid0.N, _)

variable (V : (c : Dev nD) → (b : Ref sig .tc) → Buf (Elt Ideal) ((c : Thread nD τ).loc b)) (c : Dev nD)

/-- The gradient. -/
abbrev G : FVec Ideal S1216x1024 .f32 := total (V c main_arg0 : S4x1216x1024.Idx → EReal)

/-- The blocks read, at the place of an output's block. -/
theorem reads (t : Fin cfg0.N) (y : S304x1024.Idx) (i : S1216x1024.Idx) (h0 : (i 0).val = t.val * 304 + (y 0).val) (h1 : (i 1).val = (y 1).val) :
    four (a := 304) (b := 1024) (iblk0 V c 0 t) (iblk0 V c 1 t) (iblk0 V c 2 t) (iblk0 V c 3 t) y = G V c i
    ∧ iblk0 V c 4 t y = V c main_v0 i ∧ iblk0 V c 5 t y = V c main_v1 i ∧ iblk0 V c 6 t y = V c main_v2 i := by
  obtain ⟨e0, e1, e2, e3, e4, e5, e6, e7, e8, e9, e10⟩ := idx t
  refine ⟨four_eq _ _ _ _ _ y i ?_ ?_ ?_ ?_, ?_, ?_, ?_⟩ <;> blk_ext [iblk0, e0, e1, e2, e3, e4, e5, e6, h0, h1] <;> rfl

theorem arr7 : (dat0 V c).arrAt 7 cfg0.N = G V c := by
  refine (dat0 V c).arrAt_eq_of_covers 7 _ (by decide +kernel) fun t _ y => ?_
  obtain ⟨e0, e1, e2, e3, e4, e5, e6, e7, e8, e9, e10⟩ := idx t
  obtain ⟨hg, hw, hm, hv⟩ := reads V c t y (((cfg0.win 7).blk t).view.emb y) (by blk_simp [e7]) (by blk_simp [e7])
  show (cfg0.win 7).cut (grid0.coords t) ((dat0 V c).after 7 t) y = _
  rw [after0_7, out7]
  exact hg
theorem arr8 : (dat0 V c).arrAt 8 cfg0.N = delta (V c main_v0 : FVec Ideal S1216x1024 .f32) (G V c) (V c main_v1 : FVec Ideal S1216x1024 .f32) (V c main_v2 : FVec Ideal S1216x1024 .f32) := by
  refine (dat0 V c).arrAt_eq_of_covers 8 _ (by decide +kernel) fun t _ y => ?_
  obtain ⟨e0, e1, e2, e3, e4, e5, e6, e7, e8, e9, e10⟩ := idx t
  obtain ⟨hg, hw, hm, hv⟩ := reads V c t y (((cfg0.win 8).blk t).view.emb y) (by blk_simp [e8]) (by blk_simp [e8])
  show (cfg0.win 8).cut (grid0.coords t) ((dat0 V c).after 8 t) y = _
  rw [after0_8, out8]
  exact delta_at hw hg hm hv
theorem arr9 : (dat0 V c).arrAt 9 cfg0.N = mom (G V c) (V c main_v1 : FVec Ideal S1216x1024 .f32) := by
  refine (dat0 V c).arrAt_eq_of_covers 9 _ (by decide +kernel) fun t _ y => ?_
  obtain ⟨e0, e1, e2, e3, e4, e5, e6, e7, e8, e9, e10⟩ := idx t
  obtain ⟨hg, hw, hm, hv⟩ := reads V c t y (((cfg0.win 9).blk t).view.emb y) (by blk_simp [e9]) (by blk_simp [e9])
  show (cfg0.win 9).cut (grid0.coords t) ((dat0 V c).after 9 t) y = _
  rw [after0_9, out9]
  exact mom_at hg hm
theorem arr10 : (dat0 V c).arrAt 10 cfg0.N = var (G V c) (V c main_v2 : FVec Ideal S1216x1024 .f32) := by
  refine (dat0 V c).arrAt_eq_of_covers 10 _ (by decide +kernel) fun t _ y => ?_
  obtain ⟨e0, e1, e2, e3, e4, e5, e6, e7, e8, e9, e10⟩ := idx t
  obtain ⟨hg, hw, hm, hv⟩ := reads V c t y (((cfg0.win 10).blk t).view.emb y) (by blk_simp [e10]) (by blk_simp [e10])
  show (cfg0.win 10).cut (grid0.coords t) ((dat0 V c).after 10 t) y = _
  rw [after0_10, out10]
  exact var_at hg hv

end Cert.Proof.AdamOut0

end
-- ==== Proof.AdamOut1.lean ====
/-
  The optimiser on the gated unit's shard: the four arrays it leaves.
-/
module

public import proofs.«01_k».proof.Proof.AdamBig
public import proofs.«01_k».proof.Proof.Gen.AdamIdeal.Frame.Region1
public import Idealize.ShloMosaic.Lib.Pipeline.ValueKit

@[expose] public section

set_option maxRecDepth 16384

noncomputable section

namespace Cert.Proof.AdamOut1

open Cert.AdamIdeal Cert.AdamIdeal.Gen Idealize.ShloMosaic.TcCoe Idealize.SL.Sem
open Idealize.ShloMosaic hiding ix1 ix2 ix3 eq_ix1 eq_ix2
open Idealize.ShloMosaic.ValueIdx Idealize.ShloMosaic.Ideal Cert.Proof.AdamSpec Cert.Proof.AdamBig

section Values

variable (x0 x1 x2 x3 : FVec Ideal S1x256x512 .bf16) (x4 x5 x6 : FVec Ideal S256x512 .f32)

theorem pay_g : k1_pay2 (F := Ideal) x0 x1 x2 x3 = four x0 x1 x2 x3 := planes x0 x1 x2 x3 _ _
theorem pay_m : k1_pay3 (F := Ideal) x0 x1 x2 x3 x5 = mom (four x0 x1 x2 x3) x5 := by
  unfold k1_pay3; rw [pay_g]; rfl
theorem pay_v : k1_pay4 (F := Ideal) x0 x1 x2 x3 x6 = var (four x0 x1 x2 x3) x6 := by
  unfold k1_pay4; rw [pay_g]; rfl
theorem out7 : out1_7 (F := Ideal) x0 x1 x2 x3 x4 x5 x6 = four x0 x1 x2 x3 := by frame_out; exact pay_g x0 x1 x2 x3
theorem out9 : out1_9 (F := Ideal) x0 x1 x2 x3 x4 x5 x6 = mom (four x0 x1 x2 x3) x5 := by frame_out; exact pay_m x0 x1 x2 x3 x5
theorem out10 : out1_10 (F := Ideal) x0 x1 x2 x3 x4 x5 x6 = var (four x0 x1 x2 x3) x6 := by frame_out; exact pay_v x0 x1 x2 x3 x6
theorem out8 : out1_8 (F := Ideal) x0 x1 x2 x3 x4 x5 x6 = delta x4 (four x0 x1 x2 x3) x5 x6 := by
  frame_out; unfold k1_pay5 k1_pay6; rw [pay_m, pay_v]; rfl

end Values

/-- Where the blocks lie. -/
theorem idx : ∀ t : Fin cfg1.N, win1_0.index t = ![0, t.val, 0] ∧ win1_1.index t = ![1, t.val, 0] ∧ win1_2.index t = ![2, t.val, 0] ∧ win1_3.index t = ![3, t.val, 0]
    ∧ win1_4.index t = ![t.val, 0] ∧ win1_5.index t = ![t.val, 0] ∧ win1_6.index t = ![t.val, 0] ∧ win1_7.index t = ![t.val, 0]
    ∧ win1_8.index t = ![t.val, 0] ∧ win1_9.index t = ![t.val, 0] ∧ win1_10.index t = ![t.val, 0] :=
  (by decide +kernel : ∀ t : Fin grid1.N, _)

variable (V : (c : Dev nD) → (b : Ref sig .tc) → Buf (Elt Ideal) ((c : Thread nD τ).loc b)) (c : Dev nD)

/-- The gradient. -/
abbrev G : FVec Ideal S512x512 .f32 := total (V c main_arg1 : S4x512x512.Idx → EReal)

/-- The blocks read, at the place of an output's block. -/
theorem reads (t : Fin cfg1.N) (y : S256x512.Idx) (i : S512x512.Idx) (h0 : (i 0).val = t.val * 256 + (y 0).val) (h1 : (i 1).val = (y 1).val) :
    four (a := 256) (b := 512) (iblk1 V c 0 t) (iblk1 V c 1 t) (iblk1 V c 2 t) (iblk1 V c 3 t) y = G V c i
    ∧ iblk1 V c 4 t y = V c main_arg8 i ∧ iblk1 V c 5 t y = V c main_arg15 i ∧ iblk1 V c 6 t y = V c main_arg22 i := by
  obtain ⟨e0, e1, e2, e3, e4, e5, e6, e7, e8, e9, e10⟩ := idx t
  refine ⟨four_eq _ _ _ _ _ y i ?_ ?_ ?_ ?_, ?_, ?_, ?_⟩ <;> blk_ext [iblk1, e0, e1, e2, e3, e4, e5, e6, h0, h1] <;> rfl

theorem arr7 : (dat1 V c).arrAt 7 cfg1.N = G V c := by
  refine (dat1 V c).arrAt_eq_of_covers 7 _ (by decide +kernel) fun t _ y => ?_
  obtain ⟨e0, e1, e2, e3, e4, e5, e6, e7, e8, e9, e10⟩ := idx t
  obtain ⟨hg, hw, hm, hv⟩ := reads V c t y (((cfg1.win 7).blk t).view.emb y) (by blk_simp [e7]) (by blk_simp [e7])
  show (cfg1.win 7).cut (grid1.coords t) ((dat1 V c).after 7 t) y = _
  rw [after1_7, out7]
  exact hg
theorem arr8 : (dat1 V c).arrAt 8 cfg1.N = delta (V c main_arg8 : FVec Ideal S512x512 .f32) (G V c) (V c main_arg15 : FVec Ideal S512x512 .f32) (V c main_arg22 : FVec Ideal S512x512 .f32) := by
  refine (dat1 V c).arrAt_eq_of_covers 8 _ (by decide +kernel) fun t _ y => ?_
  obtain ⟨e0, e1, e2, e3, e4, e5, e6, e7, e8, e9, e10⟩ := idx t
  obtain ⟨hg, hw, hm, hv⟩ := reads V c t y (((cfg1.win 8).blk t).view.emb y) (by blk_simp [e8]) (by blk_simp [e8])
  show (cfg1.win 8).cut (grid1.coords t) ((dat1 V c).after 8 t) y = _
  rw [after1_8, out8]
  exact delta_at hw hg hm hv
theorem arr9 : (dat1 V c).arrAt 9 cfg1.N = mom (G V c) (V c main_arg15 : FVec Ideal S512x512 .f32) := by
  refine (dat1 V c).arrAt_eq_of_covers 9 _ (by decide +kernel) fun t _ y => ?_
  obtain ⟨e0, e1, e2, e3, e4, e5, e6, e7, e8, e9, e10⟩ := idx t
  obtain ⟨hg, hw, hm, hv⟩ := reads V c t y (((cfg1.win 9).blk t).view.emb y) (by blk_simp [e9]) (by blk_simp [e9])
  show (cfg1.win 9).cut (grid1.coords t) ((dat1 V c).after 9 t) y = _
  rw [after1_9, out9]
  exact mom_at hg hm
theorem arr10 : (dat1 V c).arrAt 10 cfg1.N = var (G V c) (V c main_arg22 : FVec Ideal S512x512 .f32) := by
  refine (dat1 V c).arrAt_eq_of_covers 10 _ (by decide +kernel) fun t _ y => ?_
  obtain ⟨e0, e1, e2, e3, e4, e5, e6, e7, e8, e9, e10⟩ := idx t
  obtain ⟨hg, hw, hm, hv⟩ := reads V c t y (((cfg1.win 10).blk t).view.emb y) (by blk_simp [e10]) (by blk_simp [e10])
  show (cfg1.win 10).cut (grid1.coords t) ((dat1 V c).after 10 t) y = _
  rw [after1_10, out10]
  exact var_at hg hv

end Cert.Proof.AdamOut1

end
-- ==== Proof.AdamOut2.lean ====
/-
  The optimiser on the attention's output projection's shard: the four arrays it leaves.
-/
module

public import proofs.«01_k».proof.Proof.AdamBig
public import proofs.«01_k».proof.Proof.Gen.AdamIdeal.Frame.Region2
public import Idealize.ShloMosaic.Lib.Pipeline.ValueKit

@[expose] public section

set_option maxRecDepth 16384

noncomputable section

namespace Cert.Proof.AdamOut2

open Cert.AdamIdeal Cert.AdamIdeal.Gen Idealize.ShloMosaic.TcCoe Idealize.SL.Sem
open Idealize.ShloMosaic hiding ix1 ix2 ix3 eq_ix1 eq_ix2
open Idealize.ShloMosaic.ValueIdx Idealize.ShloMosaic.Ideal Cert.Proof.AdamSpec Cert.Proof.AdamBig

section Values

variable (x0 x1 x2 x3 : FVec Ideal S1x256x256 .bf16) (x4 x5 x6 : FVec Ideal S256x256 .f32)

theorem pay_g : k2_pay2 (F := Ideal) x0 x1 x2 x3 = four x0 x1 x2 x3 := planes x0 x1 x2 x3 _ _
theorem pay_m : k2_pay3 (F := Ideal) x0 x1 x2 x3 x5 = mom (four x0 x1 x2 x3) x5 := by
  unfold k2_pay3; rw [pay_g]; rfl
theorem pay_v : k2_pay4 (F := Ideal) x0 x1 x2 x3 x6 = var (four x0 x1 x2 x3) x6 := by
  unfold k2_pay4; rw [pay_g]; rfl
theorem out7 : out2_7 (F := Ideal) x0 x1 x2 x3 x4 x5 x6 = four x0 x1 x2 x3 := by frame_out; exact pay_g x0 x1 x2 x3
theorem out9 : out2_9 (F := Ideal) x0 x1 x2 x3 x4 x5 x6 = mom (four x0 x1 x2 x3) x5 := by frame_out; exact pay_m x0 x1 x2 x3 x5
theorem out10 : out2_10 (F := Ideal) x0 x1 x2 x3 x4 x5 x6 = var (four x0 x1 x2 x3) x6 := by frame_out; exact pay_v x0 x1 x2 x3 x6
theorem out8 : out2_8 (F := Ideal) x0 x1 x2 x3 x4 x5 x6 = delta x4 (four x0 x1 x2 x3) x5 x6 := by
  frame_out; unfold k2_pay5 k2_pay6; rw [pay_m, pay_v]; rfl

end Values

/-- Where the blocks lie. -/
theorem idx : ∀ t : Fin cfg2.N, win2_0.index t = ![0, t.val, 0] ∧ win2_1.index t = ![1, t.val, 0] ∧ win2_2.index t = ![2, t.val, 0] ∧ win2_3.index t = ![3, t.val, 0]
    ∧ win2_4.index t = ![t.val, 0] ∧ win2_5.index t = ![t.val, 0] ∧ win2_6.index t = ![t.val, 0] ∧ win2_7.index t = ![t.val, 0]
    ∧ win2_8.index t = ![t.val, 0] ∧ win2_9.index t = ![t.val, 0] ∧ win2_10.index t = ![t.val, 0] :=
  (by decide +kernel : ∀ t : Fin grid2.N, _)

variable (V : (c : Dev nD) → (b : Ref sig .tc) → Buf (Elt Ideal) ((c : Thread nD τ).loc b)) (c : Dev nD)

/-- The gradient. -/
abbrev G : FVec Ideal S256x256 .f32 := total (V c main_arg2 : S4x256x256.Idx → EReal)

/-- The blocks read, at the place of an output's block. -/
theorem reads (t : Fin cfg2.N) (y : S256x256.Idx) (i : S256x256.Idx) (h0 : (i 0).val = t.val * 256 + (y 0).val) (h1 : (i 1).val = (y 1).val) :
    four (a := 256) (b := 256) (iblk2 V c 0 t) (iblk2 V c 1 t) (iblk2 V c 2 t) (iblk2 V c 3 t) y = G V c i
    ∧ iblk2 V c 4 t y = V c main_arg9 i ∧ iblk2 V c 5 t y = V c main_arg16 i ∧ iblk2 V c 6 t y = V c main_arg23 i := by
  obtain ⟨e0, e1, e2, e3, e4, e5, e6, e7, e8, e9, e10⟩ := idx t
  refine ⟨four_eq _ _ _ _ _ y i ?_ ?_ ?_ ?_, ?_, ?_, ?_⟩ <;> blk_ext [iblk2, e0, e1, e2, e3, e4, e5, e6, h0, h1] <;> rfl

theorem arr7 : (dat2 V c).arrAt 7 cfg2.N = G V c := by
  refine (dat2 V c).arrAt_eq_of_covers 7 _ (by decide +kernel) fun t _ y => ?_
  obtain ⟨e0, e1, e2, e3, e4, e5, e6, e7, e8, e9, e10⟩ := idx t
  obtain ⟨hg, hw, hm, hv⟩ := reads V c t y (((cfg2.win 7).blk t).view.emb y) (by blk_simp [e7]) (by blk_simp [e7])
  show (cfg2.win 7).cut (grid2.coords t) ((dat2 V c).after 7 t) y = _
  rw [after2_7, out7]
  exact hg
theorem arr8 : (dat2 V c).arrAt 8 cfg2.N = delta (V c main_arg9 : FVec Ideal S256x256 .f32) (G V c) (V c main_arg16 : FVec Ideal S256x256 .f32) (V c main_arg23 : FVec Ideal S256x256 .f32) := by
  refine (dat2 V c).arrAt_eq_of_covers 8 _ (by decide +kernel) fun t _ y => ?_
  obtain ⟨e0, e1, e2, e3, e4, e5, e6, e7, e8, e9, e10⟩ := idx t
  obtain ⟨hg, hw, hm, hv⟩ := reads V c t y (((cfg2.win 8).blk t).view.emb y) (by blk_simp [e8]) (by blk_simp [e8])
  show (cfg2.win 8).cut (grid2.coords t) ((dat2 V c).after 8 t) y = _
  rw [after2_8, out8]
  exact delta_at hw hg hm hv
theorem arr9 : (dat2 V c).arrAt 9 cfg2.N = mom (G V c) (V c main_arg16 : FVec Ideal S256x256 .f32) := by
  refine (dat2 V c).arrAt_eq_of_covers 9 _ (by decide +kernel) fun t _ y => ?_
  obtain ⟨e0, e1, e2, e3, e4, e5, e6, e7, e8, e9, e10⟩ := idx t
  obtain ⟨hg, hw, hm, hv⟩ := reads V c t y (((cfg2.win 9).blk t).view.emb y) (by blk_simp [e9]) (by blk_simp [e9])
  show (cfg2.win 9).cut (grid2.coords t) ((dat2 V c).after 9 t) y = _
  rw [after2_9, out9]
  exact mom_at hg hm
theorem arr10 : (dat2 V c).arrAt 10 cfg2.N = var (G V c) (V c main_arg23 : FVec Ideal S256x256 .f32) := by
  refine (dat2 V c).arrAt_eq_of_covers 10 _ (by decide +kernel) fun t _ y => ?_
  obtain ⟨e0, e1, e2, e3, e4, e5, e6, e7, e8, e9, e10⟩ := idx t
  obtain ⟨hg, hw, hm, hv⟩ := reads V c t y (((cfg2.win 10).blk t).view.emb y) (by blk_simp [e10]) (by blk_simp [e10])
  show (cfg2.win 10).cut (grid2.coords t) ((dat2 V c).after 10 t) y = _
  rw [after2_10, out10]
  exact var_at hg hv

end Cert.Proof.AdamOut2

end
-- ==== Proof.AdamOut3.lean ====
/-
  The optimiser on the output projection's shard: the four arrays it leaves.
-/
module

public import proofs.«01_k».proof.Proof.AdamBig
public import proofs.«01_k».proof.Proof.Gen.AdamIdeal.Frame.Region3
public import Idealize.ShloMosaic.Lib.Pipeline.ValueKit

@[expose] public section

set_option maxRecDepth 16384

noncomputable section

namespace Cert.Proof.AdamOut3

open Cert.AdamIdeal Cert.AdamIdeal.Gen Idealize.ShloMosaic.TcCoe Idealize.SL.Sem
open Idealize.ShloMosaic hiding ix1 ix2 ix3 eq_ix1 eq_ix2
open Idealize.ShloMosaic.ValueIdx Idealize.ShloMosaic.Ideal Cert.Proof.AdamSpec Cert.Proof.AdamBig

section Values

variable (x0 x1 x2 x3 : FVec Ideal S1x256x1024 .bf16) (x4 x5 x6 : FVec Ideal S256x1024 .f32)

theorem pay_g : k3_pay2 (F := Ideal) x0 x1 x2 x3 = four x0 x1 x2 x3 := planes x0 x1 x2 x3 _ _
theorem pay_m : k3_pay3 (F := Ideal) x0 x1 x2 x3 x5 = mom (four x0 x1 x2 x3) x5 := by
  unfold k3_pay3; rw [pay_g]; rfl
theorem pay_v : k3_pay4 (F := Ideal) x0 x1 x2 x3 x6 = var (four x0 x1 x2 x3) x6 := by
  unfold k3_pay4; rw [pay_g]; rfl
theorem out7 : out3_7 (F := Ideal) x0 x1 x2 x3 x4 x5 x6 = four x0 x1 x2 x3 := by frame_out; exact pay_g x0 x1 x2 x3
theorem out9 : out3_9 (F := Ideal) x0 x1 x2 x3 x4 x5 x6 = mom (four x0 x1 x2 x3) x5 := by frame_out; exact pay_m x0 x1 x2 x3 x5
theorem out10 : out3_10 (F := Ideal) x0 x1 x2 x3 x4 x5 x6 = var (four x0 x1 x2 x3) x6 := by frame_out; exact pay_v x0 x1 x2 x3 x6
theorem out8 : out3_8 (F := Ideal) x0 x1 x2 x3 x4 x5 x6 = delta x4 (four x0 x1 x2 x3) x5 x6 := by
  frame_out; unfold k3_pay5 k3_pay6; rw [pay_m, pay_v]; rfl

end Values

/-- Where the blocks lie. -/
theorem idx : ∀ t : Fin cfg3.N, win3_0.index t = ![0, t.val, 0] ∧ win3_1.index t = ![1, t.val, 0] ∧ win3_2.index t = ![2, t.val, 0] ∧ win3_3.index t = ![3, t.val, 0]
    ∧ win3_4.index t = ![t.val, 0] ∧ win3_5.index t = ![t.val, 0] ∧ win3_6.index t = ![t.val, 0] ∧ win3_7.index t = ![t.val, 0]
    ∧ win3_8.index t = ![t.val, 0] ∧ win3_9.index t = ![t.val, 0] ∧ win3_10.index t = ![t.val, 0] :=
  (by decide +kernel : ∀ t : Fin grid3.N, _)

variable (V : (c : Dev nD) → (b : Ref sig .tc) → Buf (Elt Ideal) ((c : Thread nD τ).loc b)) (c : Dev nD)

/-- The gradient. -/
abbrev G : FVec Ideal S256x1024 .f32 := total (V c main_arg3 : S4x256x1024.Idx → EReal)

/-- The blocks read, at the place of an output's block. -/
theorem reads (t : Fin cfg3.N) (y : S256x1024.Idx) (i : S256x1024.Idx) (h0 : (i 0).val = t.val * 256 + (y 0).val) (h1 : (i 1).val = (y 1).val) :
    four (a := 256) (b := 1024) (iblk3 V c 0 t) (iblk3 V c 1 t) (iblk3 V c 2 t) (iblk3 V c 3 t) y = G V c i
    ∧ iblk3 V c 4 t y = V c main_arg10 i ∧ iblk3 V c 5 t y = V c main_arg17 i ∧ iblk3 V c 6 t y = V c main_arg24 i := by
  obtain ⟨e0, e1, e2, e3, e4, e5, e6, e7, e8, e9, e10⟩ := idx t
  refine ⟨four_eq _ _ _ _ _ y i ?_ ?_ ?_ ?_, ?_, ?_, ?_⟩ <;> blk_ext [iblk3, e0, e1, e2, e3, e4, e5, e6, h0, h1] <;> rfl

theorem arr7 : (dat3 V c).arrAt 7 cfg3.N = G V c := by
  refine (dat3 V c).arrAt_eq_of_covers 7 _ (by decide +kernel) fun t _ y => ?_
  obtain ⟨e0, e1, e2, e3, e4, e5, e6, e7, e8, e9, e10⟩ := idx t
  obtain ⟨hg, hw, hm, hv⟩ := reads V c t y (((cfg3.win 7).blk t).view.emb y) (by blk_simp [e7]) (by blk_simp [e7])
  show (cfg3.win 7).cut (grid3.coords t) ((dat3 V c).after 7 t) y = _
  rw [after3_7, out7]
  exact hg
theorem arr8 : (dat3 V c).arrAt 8 cfg3.N = delta (V c main_arg10 : FVec Ideal S256x1024 .f32) (G V c) (V c main_arg17 : FVec Ideal S256x1024 .f32) (V c main_arg24 : FVec Ideal S256x1024 .f32) := by
  refine (dat3 V c).arrAt_eq_of_covers 8 _ (by decide +kernel) fun t _ y => ?_
  obtain ⟨e0, e1, e2, e3, e4, e5, e6, e7, e8, e9, e10⟩ := idx t
  obtain ⟨hg, hw, hm, hv⟩ := reads V c t y (((cfg3.win 8).blk t).view.emb y) (by blk_simp [e8]) (by blk_simp [e8])
  show (cfg3.win 8).cut (grid3.coords t) ((dat3 V c).after 8 t) y = _
  rw [after3_8, out8]
  exact delta_at hw hg hm hv
theorem arr9 : (dat3 V c).arrAt 9 cfg3.N = mom (G V c) (V c main_arg17 : FVec Ideal S256x1024 .f32) := by
  refine (dat3 V c).arrAt_eq_of_covers 9 _ (by decide +kernel) fun t _ y => ?_
  obtain ⟨e0, e1, e2, e3, e4, e5, e6, e7, e8, e9, e10⟩ := idx t
  obtain ⟨hg, hw, hm, hv⟩ := reads V c t y (((cfg3.win 9).blk t).view.emb y) (by blk_simp [e9]) (by blk_simp [e9])
  show (cfg3.win 9).cut (grid3.coords t) ((dat3 V c).after 9 t) y = _
  rw [after3_9, out9]
  exact mom_at hg hm
theorem arr10 : (dat3 V c).arrAt 10 cfg3.N = var (G V c) (V c main_arg24 : FVec Ideal S256x1024 .f32) := by
  refine (dat3 V c).arrAt_eq_of_covers 10 _ (by decide +kernel) fun t _ y => ?_
  obtain ⟨e0, e1, e2, e3, e4, e5, e6, e7, e8, e9, e10⟩ := idx t
  obtain ⟨hg, hw, hm, hv⟩ := reads V c t y (((cfg3.win 10).blk t).view.emb y) (by blk_simp [e10]) (by blk_simp [e10])
  show (cfg3.win 10).cut (grid3.coords t) ((dat3 V c).after 10 t) y = _
  rw [after3_10, out10]
  exact var_at hg hv

end Cert.Proof.AdamOut3

end
-- ==== Proof.AdamOut4.lean ====
/-
  The optimiser on the feed-forward gate's shard: the four arrays it leaves.
-/
module

public import proofs.«01_k».proof.Proof.AdamBig
public import proofs.«01_k».proof.Proof.Gen.AdamIdeal.Frame.Region4
public import Idealize.ShloMosaic.Lib.Pipeline.ValueKit

@[expose] public section

set_option maxRecDepth 16384

noncomputable section

namespace Cert.Proof.AdamOut4

open Cert.AdamIdeal Cert.AdamIdeal.Gen Idealize.ShloMosaic.TcCoe Idealize.SL.Sem
open Idealize.ShloMosaic hiding ix1 ix2 ix3 eq_ix1 eq_ix2
open Idealize.ShloMosaic.ValueIdx Idealize.ShloMosaic.Ideal Cert.Proof.AdamSpec Cert.Proof.AdamBig

section Values

variable (x0 x1 x2 x3 : FVec Ideal S1x352x1024 .bf16) (x4 x5 x6 : FVec Ideal S352x1024 .f32)

theorem pay_g : k4_pay3 (F := Ideal) x0 x1 x2 x3 = four x0 x1 x2 x3 := planes x0 x1 x2 x3 _ _
theorem pay_m : k4_pay4 (F := Ideal) x0 x1 x2 x3 x5 = mom (four x0 x1 x2 x3) x5 := by
  unfold k4_pay4; rw [pay_g]; rw [shapeCast_self]; rfl
theorem pay_v : k4_pay5 (F := Ideal) x0 x1 x2 x3 x6 = var (four x0 x1 x2 x3) x6 := by
  unfold k4_pay5; rw [pay_g]; rw [shapeCast_self]; rfl
theorem out7 : out4_7 (F := Ideal) x0 x1 x2 x3 x4 x5 x6 = four x0 x1 x2 x3 := by frame_out; exact pay_g x0 x1 x2 x3
theorem out9 : out4_9 (F := Ideal) x0 x1 x2 x3 x4 x5 x6 = mom (four x0 x1 x2 x3) x5 := by frame_out; exact pay_m x0 x1 x2 x3 x5
theorem pay_whole : k4_pay8 (F := Ideal) x0 x1 x2 x3 x4 x5 x6 = var (four x0 x1 x2 x3) x6 := by
  unfold k4_pay8
  rw [View.ld_unit_zero origin3, View.ld_unit_zero origin3, View.ld_unit_zero origin3, View.ld_unit_zero origin3, View.ld_unit_zero origin]
  exact pay_v x0 x1 x2 x3 x6
theorem out10 : out4_10 (F := Ideal) x0 x1 x2 x3 x4 x5 x6 = var (four x0 x1 x2 x3) x6 := by frame_out; exact pay_whole x0 x1 x2 x3 x4 x5 x6
theorem out8 : out4_8 (F := Ideal) x0 x1 x2 x3 x4 x5 x6 = delta x4 (four x0 x1 x2 x3) x5 x6 := by
  frame_out; rw [pay_whole]; unfold k4_pay2 k4_pay6; rw [pay_m, shapeCast_self]; rfl

end Values

/-- Where the blocks lie. -/
theorem idx : ∀ t : Fin cfg4.N, win4_0.index t = ![0, t.val, 0] ∧ win4_1.index t = ![1, t.val, 0] ∧ win4_2.index t = ![2, t.val, 0] ∧ win4_3.index t = ![3, t.val, 0]
    ∧ win4_4.index t = ![t.val, 0] ∧ win4_5.index t = ![t.val, 0] ∧ win4_6.index t = ![t.val, 0] ∧ win4_7.index t = ![t.val, 0]
    ∧ win4_8.index t = ![t.val, 0] ∧ win4_9.index t = ![t.val, 0] ∧ win4_10.index t = ![t.val, 0] :=
  (by decide +kernel : ∀ t : Fin grid4.N, _)

variable (V : (c : Dev nD) → (b : Ref sig .tc) → Buf (Elt Ideal) ((c : Thread nD τ).loc b)) (c : Dev nD)

/-- The gradient. -/
abbrev G : FVec Ideal S704x1024 .f32 := total (V c main_arg4 : S4x704x1024.Idx → EReal)

/-- The blocks read, at the place of an output's block. -/
theorem reads (t : Fin cfg4.N) (y : S352x1024.Idx) (i : S704x1024.Idx) (h0 : (i 0).val = t.val * 352 + (y 0).val) (h1 : (i 1).val = (y 1).val) :
    four (a := 352) (b := 1024) (iblk4 V c 0 t) (iblk4 V c 1 t) (iblk4 V c 2 t) (iblk4 V c 3 t) y = G V c i
    ∧ iblk4 V c 4 t y = V c main_v11 i ∧ iblk4 V c 5 t y = V c main_v12 i ∧ iblk4 V c 6 t y = V c main_v13 i := by
  obtain ⟨e0, e1, e2, e3, e4, e5, e6, e7, e8, e9, e10⟩ := idx t
  refine ⟨four_eq _ _ _ _ _ y i ?_ ?_ ?_ ?_, ?_, ?_, ?_⟩ <;> blk_ext [iblk4, e0, e1, e2, e3, e4, e5, e6, h0, h1] <;> rfl

theorem arr7 : (dat4 V c).arrAt 7 cfg4.N = G V c := by
  refine (dat4 V c).arrAt_eq_of_covers 7 _ (by decide +kernel) fun t _ y => ?_
  obtain ⟨e0, e1, e2, e3, e4, e5, e6, e7, e8, e9, e10⟩ := idx t
  obtain ⟨hg, hw, hm, hv⟩ := reads V c t y (((cfg4.win 7).blk t).view.emb y) (by blk_simp [e7]) (by blk_simp [e7])
  show (cfg4.win 7).cut (grid4.coords t) ((dat4 V c).after 7 t) y = _
  rw [after4_7, out7]
  exact hg
theorem arr8 : (dat4 V c).arrAt 8 cfg4.N = delta (V c main_v11 : FVec Ideal S704x1024 .f32) (G V c) (V c main_v12 : FVec Ideal S704x1024 .f32) (V c main_v13 : FVec Ideal S704x1024 .f32) := by
  refine (dat4 V c).arrAt_eq_of_covers 8 _ (by decide +kernel) fun t _ y => ?_
  obtain ⟨e0, e1, e2, e3, e4, e5, e6, e7, e8, e9, e10⟩ := idx t
  obtain ⟨hg, hw, hm, hv⟩ := reads V c t y (((cfg4.win 8).blk t).view.emb y) (by blk_simp [e8]) (by blk_simp [e8])
  show (cfg4.win 8).cut (grid4.coords t) ((dat4 V c).after 8 t) y = _
  rw [after4_8, out8]
  exact delta_at hw hg hm hv
theorem arr9 : (dat4 V c).arrAt 9 cfg4.N = mom (G V c) (V c main_v12 : FVec Ideal S704x1024 .f32) := by
  refine (dat4 V c).arrAt_eq_of_covers 9 _ (by decide +kernel) fun t _ y => ?_
  obtain ⟨e0, e1, e2, e3, e4, e5, e6, e7, e8, e9, e10⟩ := idx t
  obtain ⟨hg, hw, hm, hv⟩ := reads V c t y (((cfg4.win 9).blk t).view.emb y) (by blk_simp [e9]) (by blk_simp [e9])
  show (cfg4.win 9).cut (grid4.coords t) ((dat4 V c).after 9 t) y = _
  rw [after4_9, out9]
  exact mom_at hg hm
theorem arr10 : (dat4 V c).arrAt 10 cfg4.N = var (G V c) (V c main_v13 : FVec Ideal S704x1024 .f32) := by
  refine (dat4 V c).arrAt_eq_of_covers 10 _ (by decide +kernel) fun t _ y => ?_
  obtain ⟨e0, e1, e2, e3, e4, e5, e6, e7, e8, e9, e10⟩ := idx t
  obtain ⟨hg, hw, hm, hv⟩ := reads V c t y (((cfg4.win 10).blk t).view.emb y) (by blk_simp [e10]) (by blk_simp [e10])
  show (cfg4.win 10).cut (grid4.coords t) ((dat4 V c).after 10 t) y = _
  rw [after4_10, out10]
  exact var_at hg hv

end Cert.Proof.AdamOut4

end
-- ==== Proof.AdamOut5.lean ====
/-
  The optimiser on the feed-forward up projection's shard: the four arrays it leaves.
-/
module

public import proofs.«01_k».proof.Proof.AdamBig
public import proofs.«01_k».proof.Proof.Gen.AdamIdeal.Frame.Region5
public import Idealize.ShloMosaic.Lib.Pipeline.ValueKit

@[expose] public section

set_option maxRecDepth 16384

noncomputable section

namespace Cert.Proof.AdamOut5

open Cert.AdamIdeal Cert.AdamIdeal.Gen Idealize.ShloMosaic.TcCoe Idealize.SL.Sem
open Idealize.ShloMosaic hiding ix1 ix2 ix3 eq_ix1 eq_ix2
open Idealize.ShloMosaic.ValueIdx Idealize.ShloMosaic.Ideal Cert.Proof.AdamSpec Cert.Proof.AdamBig

section Values

variable (x0 x1 x2 x3 : FVec Ideal S1x352x1024 .bf16) (x4 x5 x6 : FVec Ideal S352x1024 .f32)

theorem pay_g : k5_pay3 (F := Ideal) x0 x1 x2 x3 = four x0 x1 x2 x3 := planes x0 x1 x2 x3 _ _
theorem pay_m : k5_pay4 (F := Ideal) x0 x1 x2 x3 x5 = mom (four x0 x1 x2 x3) x5 := by
  unfold k5_pay4; rw [pay_g]; rw [shapeCast_self]; rfl
theorem pay_v : k5_pay5 (F := Ideal) x0 x1 x2 x3 x6 = var (four x0 x1 x2 x3) x6 := by
  unfold k5_pay5; rw [pay_g]; rw [shapeCast_self]; rfl
theorem out7 : out5_7 (F := Ideal) x0 x1 x2 x3 x4 x5 x6 = four x0 x1 x2 x3 := by frame_out; exact pay_g x0 x1 x2 x3
theorem out9 : out5_9 (F := Ideal) x0 x1 x2 x3 x4 x5 x6 = mom (four x0 x1 x2 x3) x5 := by frame_out; exact pay_m x0 x1 x2 x3 x5
theorem pay_whole : k5_pay8 (F := Ideal) x0 x1 x2 x3 x4 x5 x6 = var (four x0 x1 x2 x3) x6 := by
  unfold k5_pay8
  rw [View.ld_unit_zero origin3, View.ld_unit_zero origin3, View.ld_unit_zero origin3, View.ld_unit_zero origin3, View.ld_unit_zero origin]
  exact pay_v x0 x1 x2 x3 x6
theorem out10 : out5_10 (F := Ideal) x0 x1 x2 x3 x4 x5 x6 = var (four x0 x1 x2 x3) x6 := by frame_out; exact pay_whole x0 x1 x2 x3 x4 x5 x6
theorem out8 : out5_8 (F := Ideal) x0 x1 x2 x3 x4 x5 x6 = delta x4 (four x0 x1 x2 x3) x5 x6 := by
  frame_out; rw [pay_whole]; unfold k5_pay2 k5_pay6; rw [pay_m, shapeCast_self]; rfl

end Values

/-- Where the blocks lie. -/
theorem idx : ∀ t : Fin cfg5.N, win5_0.index t = ![0, t.val, 0] ∧ win5_1.index t = ![1, t.val, 0] ∧ win5_2.index t = ![2, t.val, 0] ∧ win5_3.index t = ![3, t.val, 0]
    ∧ win5_4.index t = ![t.val, 0] ∧ win5_5.index t = ![t.val, 0] ∧ win5_6.index t = ![t.val, 0] ∧ win5_7.index t = ![t.val, 0]
    ∧ win5_8.index t = ![t.val, 0] ∧ win5_9.index t = ![t.val, 0] ∧ win5_10.index t = ![t.val, 0] :=
  (by decide +kernel : ∀ t : Fin grid5.N, _)

variable (V : (c : Dev nD) → (b : Ref sig .tc) → Buf (Elt Ideal) ((c : Thread nD τ).loc b)) (c : Dev nD)

/-- The gradient. -/
abbrev G : FVec Ideal S704x1024 .f32 := total (V c main_arg5 : S4x704x1024.Idx → EReal)

/-- The blocks read, at the place of an output's block. -/
theorem reads (t : Fin cfg5.N) (y : S352x1024.Idx) (i : S704x1024.Idx) (h0 : (i 0).val = t.val * 352 + (y 0).val) (h1 : (i 1).val = (y 1).val) :
    four (a := 352) (b := 1024) (iblk5 V c 0 t) (iblk5 V c 1 t) (iblk5 V c 2 t) (iblk5 V c 3 t) y = G V c i
    ∧ iblk5 V c 4 t y = V c main_v19 i ∧ iblk5 V c 5 t y = V c main_v20 i ∧ iblk5 V c 6 t y = V c main_v21 i := by
  obtain ⟨e0, e1, e2, e3, e4, e5, e6, e7, e8, e9, e10⟩ := idx t
  refine ⟨four_eq _ _ _ _ _ y i ?_ ?_ ?_ ?_, ?_, ?_, ?_⟩ <;> blk_ext [iblk5, e0, e1, e2, e3, e4, e5, e6, h0, h1] <;> rfl

theorem arr7 : (dat5 V c).arrAt 7 cfg5.N = G V c := by
  refine (dat5 V c).arrAt_eq_of_covers 7 _ (by decide +kernel) fun t _ y => ?_
  obtain ⟨e0, e1, e2, e3, e4, e5, e6, e7, e8, e9, e10⟩ := idx t
  obtain ⟨hg, hw, hm, hv⟩ := reads V c t y (((cfg5.win 7).blk t).view.emb y) (by blk_simp [e7]) (by blk_simp [e7])
  show (cfg5.win 7).cut (grid5.coords t) ((dat5 V c).after 7 t) y = _
  rw [after5_7, out7]
  exact hg
theorem arr8 : (dat5 V c).arrAt 8 cfg5.N = delta (V c main_v19 : FVec Ideal S704x1024 .f32) (G V c) (V c main_v20 : FVec Ideal S704x1024 .f32) (V c main_v21 : FVec Ideal S704x1024 .f32) := by
  refine (dat5 V c).arrAt_eq_of_covers 8 _ (by decide +kernel) fun t _ y => ?_
  obtain ⟨e0, e1, e2, e3, e4, e5, e6, e7, e8, e9, e10⟩ := idx t
  obtain ⟨hg, hw, hm, hv⟩ := reads V c t y (((cfg5.win 8).blk t).view.emb y) (by blk_simp [e8]) (by blk_simp [e8])
  show (cfg5.win 8).cut (grid5.coords t) ((dat5 V c).after 8 t) y = _
  rw [after5_8, out8]
  exact delta_at hw hg hm hv
theorem arr9 : (dat5 V c).arrAt 9 cfg5.N = mom (G V c) (V c main_v20 : FVec Ideal S704x1024 .f32) := by
  refine (dat5 V c).arrAt_eq_of_covers 9 _ (by decide +kernel) fun t _ y => ?_
  obtain ⟨e0, e1, e2, e3, e4, e5, e6, e7, e8, e9, e10⟩ := idx t
  obtain ⟨hg, hw, hm, hv⟩ := reads V c t y (((cfg5.win 9).blk t).view.emb y) (by blk_simp [e9]) (by blk_simp [e9])
  show (cfg5.win 9).cut (grid5.coords t) ((dat5 V c).after 9 t) y = _
  rw [after5_9, out9]
  exact mom_at hg hm
theorem arr10 : (dat5 V c).arrAt 10 cfg5.N = var (G V c) (V c main_v21 : FVec Ideal S704x1024 .f32) := by
  refine (dat5 V c).arrAt_eq_of_covers 10 _ (by decide +kernel) fun t _ y => ?_
  obtain ⟨e0, e1, e2, e3, e4, e5, e6, e7, e8, e9, e10⟩ := idx t
  obtain ⟨hg, hw, hm, hv⟩ := reads V c t y (((cfg5.win 10).blk t).view.emb y) (by blk_simp [e10]) (by blk_simp [e10])
  show (cfg5.win 10).cut (grid5.coords t) ((dat5 V c).after 10 t) y = _
  rw [after5_10, out10]
  exact var_at hg hv

end Cert.Proof.AdamOut5

end
-- ==== Proof.AdamOut6.lean ====
/-
  The optimiser on the feed-forward down projection's shard: the four arrays it leaves.
-/
module

public import proofs.«01_k».proof.Proof.AdamBig
public import proofs.«01_k».proof.Proof.Gen.AdamIdeal.Frame.Region6
public import Idealize.ShloMosaic.Lib.Pipeline.ValueKit

@[expose] public section

set_option maxRecDepth 16384

noncomputable section

namespace Cert.Proof.AdamOut6

open Cert.AdamIdeal Cert.AdamIdeal.Gen Idealize.ShloMosaic.TcCoe Idealize.SL.Sem
open Idealize.ShloMosaic hiding ix1 ix2 ix3 eq_ix1 eq_ix2
open Idealize.ShloMosaic.ValueIdx Idealize.ShloMosaic.Ideal Cert.Proof.AdamSpec Cert.Proof.AdamBig

section Values

variable (x0 x1 x2 x3 : FVec Ideal S1x352x1024 .bf16) (x4 x5 x6 : FVec Ideal S352x1024 .f32)

theorem pay_g : k6_pay2 (F := Ideal) x0 x1 x2 x3 = four x0 x1 x2 x3 := planes x0 x1 x2 x3 _ _
theorem pay_m : k6_pay3 (F := Ideal) x0 x1 x2 x3 x5 = mom (four x0 x1 x2 x3) x5 := by
  unfold k6_pay3; rw [pay_g]; rfl
theorem pay_v : k6_pay4 (F := Ideal) x0 x1 x2 x3 x6 = var (four x0 x1 x2 x3) x6 := by
  unfold k6_pay4; rw [pay_g]; rfl
theorem out7 : out6_7 (F := Ideal) x0 x1 x2 x3 x4 x5 x6 = four x0 x1 x2 x3 := by frame_out; exact pay_g x0 x1 x2 x3
theorem out9 : out6_9 (F := Ideal) x0 x1 x2 x3 x4 x5 x6 = mom (four x0 x1 x2 x3) x5 := by frame_out; exact pay_m x0 x1 x2 x3 x5
theorem out10 : out6_10 (F := Ideal) x0 x1 x2 x3 x4 x5 x6 = var (four x0 x1 x2 x3) x6 := by frame_out; exact pay_v x0 x1 x2 x3 x6
theorem out8 : out6_8 (F := Ideal) x0 x1 x2 x3 x4 x5 x6 = delta x4 (four x0 x1 x2 x3) x5 x6 := by
  frame_out; unfold k6_pay5 k6_pay6; rw [pay_m, pay_v]; rfl

end Values

/-- Where the blocks lie. -/
theorem idx : ∀ t : Fin cfg6.N, win6_0.index t = ![0, t.val, 0] ∧ win6_1.index t = ![1, t.val, 0] ∧ win6_2.index t = ![2, t.val, 0] ∧ win6_3.index t = ![3, t.val, 0]
    ∧ win6_4.index t = ![t.val, 0] ∧ win6_5.index t = ![t.val, 0] ∧ win6_6.index t = ![t.val, 0] ∧ win6_7.index t = ![t.val, 0]
    ∧ win6_8.index t = ![t.val, 0] ∧ win6_9.index t = ![t.val, 0] ∧ win6_10.index t = ![t.val, 0] :=
  (by decide +kernel : ∀ t : Fin grid6.N, _)

variable (V : (c : Dev nD) → (b : Ref sig .tc) → Buf (Elt Ideal) ((c : Thread nD τ).loc b)) (c : Dev nD)

/-- The gradient. -/
abbrev G : FVec Ideal S704x1024 .f32 := total (V c main_arg6 : S4x704x1024.Idx → EReal)

/-- The blocks read, at the place of an output's block. -/
theorem reads (t : Fin cfg6.N) (y : S352x1024.Idx) (i : S704x1024.Idx) (h0 : (i 0).val = t.val * 352 + (y 0).val) (h1 : (i 1).val = (y 1).val) :
    four (a := 352) (b := 1024) (iblk6 V c 0 t) (iblk6 V c 1 t) (iblk6 V c 2 t) (iblk6 V c 3 t) y = G V c i
    ∧ iblk6 V c 4 t y = V c main_arg13 i ∧ iblk6 V c 5 t y = V c main_arg20 i ∧ iblk6 V c 6 t y = V c main_arg27 i := by
  obtain ⟨e0, e1, e2, e3, e4, e5, e6, e7, e8, e9, e10⟩ := idx t
  refine ⟨four_eq _ _ _ _ _ y i ?_ ?_ ?_ ?_, ?_, ?_, ?_⟩ <;> blk_ext [iblk6, e0, e1, e2, e3, e4, e5, e6, h0, h1] <;> rfl

theorem arr7 : (dat6 V c).arrAt 7 cfg6.N = G V c := by
  refine (dat6 V c).arrAt_eq_of_covers 7 _ (by decide +kernel) fun t _ y => ?_
  obtain ⟨e0, e1, e2, e3, e4, e5, e6, e7, e8, e9, e10⟩ := idx t
  obtain ⟨hg, hw, hm, hv⟩ := reads V c t y (((cfg6.win 7).blk t).view.emb y) (by blk_simp [e7]) (by blk_simp [e7])
  show (cfg6.win 7).cut (grid6.coords t) ((dat6 V c).after 7 t) y = _
  rw [after6_7, out7]
  exact hg
theorem arr8 : (dat6 V c).arrAt 8 cfg6.N = delta (V c main_arg13 : FVec Ideal S704x1024 .f32) (G V c) (V c main_arg20 : FVec Ideal S704x1024 .f32) (V c main_arg27 : FVec Ideal S704x1024 .f32) := by
  refine (dat6 V c).arrAt_eq_of_covers 8 _ (by decide +kernel) fun t _ y => ?_
  obtain ⟨e0, e1, e2, e3, e4, e5, e6, e7, e8, e9, e10⟩ := idx t
  obtain ⟨hg, hw, hm, hv⟩ := reads V c t y (((cfg6.win 8).blk t).view.emb y) (by blk_simp [e8]) (by blk_simp [e8])
  show (cfg6.win 8).cut (grid6.coords t) ((dat6 V c).after 8 t) y = _
  rw [after6_8, out8]
  exact delta_at hw hg hm hv
theorem arr9 : (dat6 V c).arrAt 9 cfg6.N = mom (G V c) (V c main_arg20 : FVec Ideal S704x1024 .f32) := by
  refine (dat6 V c).arrAt_eq_of_covers 9 _ (by decide +kernel) fun t _ y => ?_
  obtain ⟨e0, e1, e2, e3, e4, e5, e6, e7, e8, e9, e10⟩ := idx t
  obtain ⟨hg, hw, hm, hv⟩ := reads V c t y (((cfg6.win 9).blk t).view.emb y) (by blk_simp [e9]) (by blk_simp [e9])
  show (cfg6.win 9).cut (grid6.coords t) ((dat6 V c).after 9 t) y = _
  rw [after6_9, out9]
  exact mom_at hg hm
theorem arr10 : (dat6 V c).arrAt 10 cfg6.N = var (G V c) (V c main_arg27 : FVec Ideal S704x1024 .f32) := by
  refine (dat6 V c).arrAt_eq_of_covers 10 _ (by decide +kernel) fun t _ y => ?_
  obtain ⟨e0, e1, e2, e3, e4, e5, e6, e7, e8, e9, e10⟩ := idx t
  obtain ⟨hg, hw, hm, hv⟩ := reads V c t y (((cfg6.win 10).blk t).view.emb y) (by blk_simp [e10]) (by blk_simp [e10])
  show (cfg6.win 10).cut (grid6.coords t) ((dat6 V c).after 10 t) y = _
  rw [after6_10, out10]
  exact var_at hg hv

end Cert.Proof.AdamOut6

end
-- ==== Proof.AdamRun.lean ====
/-
  The optimiser's twenty-eight results of the large weights' shards, followed back through the seven regions and the
  host's transposes to the arguments.
-/
module

public import proofs.«01_k».proof.Proof.AdamAll
public import proofs.«01_k».proof.Proof.StateStep
public import proofs.«01_k».proof.Proof.AdamOut0
public import proofs.«01_k».proof.Proof.AdamOut1
public import proofs.«01_k».proof.Proof.AdamOut2
public import proofs.«01_k».proof.Proof.AdamOut3
public import proofs.«01_k».proof.Proof.AdamOut4
public import proofs.«01_k».proof.Proof.AdamOut5
public import proofs.«01_k».proof.Proof.AdamOut6

@[expose] public section

set_option maxRecDepth 16384

noncomputable section

namespace Cert.Proof.AdamRun

open Cert.AdamIdeal Cert.AdamIdeal.Gen Idealize.ShloMosaic.TcCoe Idealize.ShloMosaic.Tactic Idealize.SL.Sem
open Idealize.ShloMosaic hiding ix1 ix2 ix3 eq_ix1 eq_ix2
open Idealize.ShloMosaic.ValueIdx Cert.Proof.AdamSpec Cert.Proof.AdamBig Cert.Proof.StateStep

section Results

variable (m : (ℓ : Loc nD τ sig) → Buf (Elt Ideal) ℓ) (ρ : Dev nD → PrngReg) (c : Dev nD)

/-! ### The arguments: each weight's gradient, the weight, the two moments -/

abbrev g0 : FVec Ideal ⟨2, ![1024, 1216]⟩ .f32 := swap (total (m ((c : Thread nD τ).loc main_arg0) : (⟨3, ![4, 1216, 1024]⟩ : Shape).Idx → EReal))
abbrev w0 : FVec Ideal ⟨2, ![1024, 1216]⟩ .f32 := m ((c : Thread nD τ).loc main_arg7)
abbrev m0 : FVec Ideal ⟨2, ![1024, 1216]⟩ .f32 := m ((c : Thread nD τ).loc main_arg14)
abbrev u0 : FVec Ideal ⟨2, ![1024, 1216]⟩ .f32 := m ((c : Thread nD τ).loc main_arg21)
abbrev g1 : FVec Ideal ⟨2, ![512, 512]⟩ .f32 := total (m ((c : Thread nD τ).loc main_arg1) : (⟨3, ![4, 512, 512]⟩ : Shape).Idx → EReal)
abbrev w1 : FVec Ideal ⟨2, ![512, 512]⟩ .f32 := m ((c : Thread nD τ).loc main_arg8)
abbrev m1 : FVec Ideal ⟨2, ![512, 512]⟩ .f32 := m ((c : Thread nD τ).loc main_arg15)
abbrev u1 : FVec Ideal ⟨2, ![512, 512]⟩ .f32 := m ((c : Thread nD τ).loc main_arg22)
abbrev g2 : FVec Ideal ⟨2, ![256, 256]⟩ .f32 := total (m ((c : Thread nD τ).loc main_arg2) : (⟨3, ![4, 256, 256]⟩ : Shape).Idx → EReal)
abbrev w2 : FVec Ideal ⟨2, ![256, 256]⟩ .f32 := m ((c : Thread nD τ).loc main_arg9)
abbrev m2 : FVec Ideal ⟨2, ![256, 256]⟩ .f32 := m ((c : Thread nD τ).loc main_arg16)
abbrev u2 : FVec Ideal ⟨2, ![256, 256]⟩ .f32 := m ((c : Thread nD τ).loc main_arg23)
abbrev g3 : FVec Ideal ⟨2, ![256, 1024]⟩ .f32 := total (m ((c : Thread nD τ).loc main_arg3) : (⟨3, ![4, 256, 1024]⟩ : Shape).Idx → EReal)
abbrev w3 : FVec Ideal ⟨2, ![256, 1024]⟩ .f32 := m ((c : Thread nD τ).loc main_arg10)
abbrev m3 : FVec Ideal ⟨2, ![256, 1024]⟩ .f32 := m ((c : Thread nD τ).loc main_arg17)
abbrev u3 : FVec Ideal ⟨2, ![256, 1024]⟩ .f32 := m ((c : Thread nD τ).loc main_arg24)
abbrev g4 : FVec Ideal ⟨2, ![1024, 704]⟩ .f32 := swap (total (m ((c : Thread nD τ).loc main_arg4) : (⟨3, ![4, 704, 1024]⟩ : Shape).Idx → EReal))
abbrev w4 : FVec Ideal ⟨2, ![1024, 704]⟩ .f32 := m ((c : Thread nD τ).loc main_arg11)
abbrev m4 : FVec Ideal ⟨2, ![1024, 704]⟩ .f32 := m ((c : Thread nD τ).loc main_arg18)
abbrev u4 : FVec Ideal ⟨2, ![1024, 704]⟩ .f32 := m ((c : Thread nD τ).loc main_arg25)
abbrev g5 : FVec Ideal ⟨2, ![1024, 704]⟩ .f32 := swap (total (m ((c : Thread nD τ).loc main_arg5) : (⟨3, ![4, 704, 1024]⟩ : Shape).Idx → EReal))
abbrev w5 : FVec Ideal ⟨2, ![1024, 704]⟩ .f32 := m ((c : Thread nD τ).loc main_arg12)
abbrev m5 : FVec Ideal ⟨2, ![1024, 704]⟩ .f32 := m ((c : Thread nD τ).loc main_arg19)
abbrev u5 : FVec Ideal ⟨2, ![1024, 704]⟩ .f32 := m ((c : Thread nD τ).loc main_arg26)
abbrev g6 : FVec Ideal ⟨2, ![704, 1024]⟩ .f32 := total (m ((c : Thread nD τ).loc main_arg6) : (⟨3, ![4, 704, 1024]⟩ : Shape).Idx → EReal)
abbrev w6 : FVec Ideal ⟨2, ![704, 1024]⟩ .f32 := m ((c : Thread nD τ).loc main_arg13)
abbrev m6 : FVec Ideal ⟨2, ![704, 1024]⟩ .f32 := m ((c : Thread nD τ).loc main_arg20)
abbrev u6 : FVec Ideal ⟨2, ![704, 1024]⟩ .f32 := m ((c : Thread nD τ).loc main_arg27)

/-! ### What the host's transposes leave -/

theorem in0 : W1 m ρ c (Proc.devRef .tc main_v0) = swap (a := 1024) (b := 1216) (W0 m ρ c (Proc.devRef .tc main_arg7))
    ∧ W1 m ρ c (Proc.devRef .tc main_v1) = swap (a := 1024) (b := 1216) (W0 m ρ c (Proc.devRef .tc main_arg14))
    ∧ W1 m ρ c (Proc.devRef .tc main_v2) = swap (a := 1024) (b := 1216) (W0 m ρ c (Proc.devRef .tc main_arg21)) := by
  refine ⟨?_, ?_, ?_⟩ <;> refine Eq.trans ?_ (swap_eq (a := 1024) (b := 1216) _ transposes_S1024x1216_S1216x1024_1_0) <;>
    (unfold W1 hostOps0; after_results_simp)
theorem out0 : W3 m ρ c (Proc.devRef .tc main_v4) = swap (a := 1216) (b := 1024) (W2 m ρ c (Proc.devRef .tc main_v3_0))
    ∧ W3 m ρ c (Proc.devRef .tc main_v5) = swap (a := 1216) (b := 1024) (W2 m ρ c (Proc.devRef .tc main_v3_1))
    ∧ W3 m ρ c (Proc.devRef .tc main_v6) = swap (a := 1216) (b := 1024) (W2 m ρ c (Proc.devRef .tc main_v3_2))
    ∧ W3 m ρ c (Proc.devRef .tc main_v7) = swap (a := 1216) (b := 1024) (W2 m ρ c (Proc.devRef .tc main_v3_3)) := by
  refine ⟨?_, ?_, ?_, ?_⟩ <;> refine Eq.trans ?_ (swap_eq (a := 1216) (b := 1024) _ transposes_S1216x1024_S1024x1216_1_0) <;>
    (unfold W3 hostOps1; after_results_simp)
theorem in4 : W7 m ρ c (Proc.devRef .tc main_v11) = swap (a := 1024) (b := 704) (W6 m ρ c (Proc.devRef .tc main_arg11))
    ∧ W7 m ρ c (Proc.devRef .tc main_v12) = swap (a := 1024) (b := 704) (W6 m ρ c (Proc.devRef .tc main_arg18))
    ∧ W7 m ρ c (Proc.devRef .tc main_v13) = swap (a := 1024) (b := 704) (W6 m ρ c (Proc.devRef .tc main_arg25)) := by
  refine ⟨?_, ?_, ?_⟩ <;> refine Eq.trans ?_ (swap_eq (a := 1024) (b := 704) _ transposes_S1024x704_S704x1024_1_0) <;>
    (unfold W7 hostOps4; after_results_simp)
theorem out4 : W9 m ρ c (Proc.devRef .tc main_v15) = swap (a := 704) (b := 1024) (W8 m ρ c (Proc.devRef .tc main_v14_0))
    ∧ W9 m ρ c (Proc.devRef .tc main_v16) = swap (a := 704) (b := 1024) (W8 m ρ c (Proc.devRef .tc main_v14_1))
    ∧ W9 m ρ c (Proc.devRef .tc main_v17) = swap (a := 704) (b := 1024) (W8 m ρ c (Proc.devRef .tc main_v14_2))
    ∧ W9 m ρ c (Proc.devRef .tc main_v18) = swap (a := 704) (b := 1024) (W8 m ρ c (Proc.devRef .tc main_v14_3)) := by
  refine ⟨?_, ?_, ?_, ?_⟩ <;> refine Eq.trans ?_ (swap_eq (a := 704) (b := 1024) _ transposes_S704x1024_S1024x704_1_0) <;>
    (unfold W9 hostOps5; after_results_simp)
theorem in5 : W9 m ρ c (Proc.devRef .tc main_v19) = swap (a := 1024) (b := 704) (W8 m ρ c (Proc.devRef .tc main_arg12))
    ∧ W9 m ρ c (Proc.devRef .tc main_v20) = swap (a := 1024) (b := 704) (W8 m ρ c (Proc.devRef .tc main_arg19))
    ∧ W9 m ρ c (Proc.devRef .tc main_v21) = swap (a := 1024) (b := 704) (W8 m ρ c (Proc.devRef .tc main_arg26)) := by
  refine ⟨?_, ?_, ?_⟩ <;> refine Eq.trans ?_ (swap_eq (a := 1024) (b := 704) _ transposes_S1024x704_S704x1024_1_0) <;>
    (unfold W9 hostOps5; after_results_simp)
theorem out5 : W11 m ρ c (Proc.devRef .tc main_v23) = swap (a := 704) (b := 1024) (W10 m ρ c (Proc.devRef .tc main_v22_0))
    ∧ W11 m ρ c (Proc.devRef .tc main_v24) = swap (a := 704) (b := 1024) (W10 m ρ c (Proc.devRef .tc main_v22_1))
    ∧ W11 m ρ c (Proc.devRef .tc main_v25) = swap (a := 704) (b := 1024) (W10 m ρ c (Proc.devRef .tc main_v22_2))
    ∧ W11 m ρ c (Proc.devRef .tc main_v26) = swap (a := 704) (b := 1024) (W10 m ρ c (Proc.devRef .tc main_v22_3)) := by
  refine ⟨?_, ?_, ?_, ?_⟩ <;> refine Eq.trans ?_ (swap_eq (a := 704) (b := 1024) _ transposes_S704x1024_S1024x704_1_0) <;>
    (unfold W11 hostOps6; after_results_simp)

/-! ### Results that the later calls pass by -/

abbrev L3 : List (Ref sig .tc) := [main_v4, main_v5, main_v6, main_v7]
abbrev L4 : List (Ref sig .tc) := L3 ++ [main_v8_0, main_v8_1, main_v8_2, main_v8_3]
abbrev L5 : List (Ref sig .tc) := L4 ++ [main_v9_0, main_v9_1, main_v9_2, main_v9_3]
abbrev L6 : List (Ref sig .tc) := L5 ++ [main_v10_0, main_v10_1, main_v10_2, main_v10_3]
abbrev L9 : List (Ref sig .tc) := L6 ++ [main_v15, main_v16, main_v17, main_v18]
abbrev L11 : List (Ref sig .tc) := L9 ++ [main_v23, main_v24, main_v25, main_v26]
theorem keep11 : ∀ r ∈ L11, W12 m ρ c (Proc.devRef .tc r) = W11 m ρ c (Proc.devRef .tc r) := fun r h =>
  W12_of m ρ c r ((by decide : ∀ r ∈ L11, ∀ w : Fin cfg6.W, Pipeline.arrRef spec6 w = r → (cfg6.win w).isOut = false) r h)
theorem keep9 : ∀ r ∈ L9, W12 m ρ c (Proc.devRef .tc r) = W9 m ρ c (Proc.devRef .tc r) := fun r h =>
  (keep11 m ρ c r (List.mem_append_left _ h)).trans
    ((W11_of m ρ c r ((by decide : ∀ r ∈ L9, r ∉ hostOps6_W) r h)).trans
    (W10_of m ρ c r ((by decide : ∀ r ∈ L9, ∀ w : Fin cfg5.W, Pipeline.arrRef spec5 w = r → (cfg5.win w).isOut = false) r h)))
theorem keep6 : ∀ r ∈ L6, W12 m ρ c (Proc.devRef .tc r) = W6 m ρ c (Proc.devRef .tc r) := fun r h =>
  (keep9 m ρ c r (List.mem_append_left _ h)).trans
    ((W9_of m ρ c r ((by decide : ∀ r ∈ L6, r ∉ hostOps5_W) r h)).trans
    ((W8_of m ρ c r ((by decide : ∀ r ∈ L6, ∀ w : Fin cfg4.W, Pipeline.arrRef spec4 w = r → (cfg4.win w).isOut = false) r h)).trans
    (W7_of m ρ c r ((by decide : ∀ r ∈ L6, r ∉ hostOps4_W) r h))))
theorem keep5 : ∀ r ∈ L5, W12 m ρ c (Proc.devRef .tc r) = W5 m ρ c (Proc.devRef .tc r) := fun r h =>
  (keep6 m ρ c r (List.mem_append_left _ h)).trans
    (W6_of m ρ c r ((by decide : ∀ r ∈ L5, ∀ w : Fin cfg3.W, Pipeline.arrRef spec3 w = r → (cfg3.win w).isOut = false) r h))
theorem keep4 : ∀ r ∈ L4, W12 m ρ c (Proc.devRef .tc r) = W4 m ρ c (Proc.devRef .tc r) := fun r h =>
  (keep5 m ρ c r (List.mem_append_left _ h)).trans
    (W5_of m ρ c r ((by decide : ∀ r ∈ L4, ∀ w : Fin cfg2.W, Pipeline.arrRef spec2 w = r → (cfg2.win w).isOut = false) r h))
theorem keep3 : ∀ r ∈ L3, W12 m ρ c (Proc.devRef .tc r) = W3 m ρ c (Proc.devRef .tc r) := fun r h =>
  (keep4 m ρ c r (List.mem_append_left _ h)).trans
    (W4_of m ρ c r ((by decide : ∀ r ∈ L3, ∀ w : Fin cfg1.W, Pipeline.arrRef spec1 w = r → (cfg1.win w).isOut = false) r h))

/-! ### The steps -/

theorem step0 : Stepped (w0 m c) (g0 m c) (m0 m c) (u0 m c) (W12 m ρ c (Proc.devRef .tc main_v4)) (W12 m ρ c (Proc.devRef .tc main_v5)) (W12 m ρ c (Proc.devRef .tc main_v6)) (W12 m ρ c (Proc.devRef .tc main_v7)) :=
  ((show Stepped _ _ _ _ _ _ _ _ from ⟨AdamOut0.arr7 (V1 m ρ) c, AdamOut0.arr8 _ c, AdamOut0.arr9 _ c, AdamOut0.arr10 _ c⟩).map (swap (a := 1216) (b := 1024)) _ fun _ _ => rfl).of_eq
    ((congrArg swap ((in0 m ρ c).1.trans (congrArg swap (W0_args m ρ c main_arg7 (by decide))))).trans (swap_swap _)) (congrArg (fun x => swap (total (n := 4) (a := 1216) (b := 1024) x)) (W1_args m ρ c main_arg0 (by decide)))
    ((congrArg swap ((in0 m ρ c).2.1.trans (congrArg swap (W0_args m ρ c main_arg14 (by decide))))).trans (swap_swap _)) ((congrArg swap ((in0 m ρ c).2.2.trans (congrArg swap (W0_args m ρ c main_arg21 (by decide))))).trans (swap_swap _))
    ((keep3 m ρ c main_v4 (by decide)).trans ((out0 m ρ c).1.trans (congrArg swap (W2_arr m ρ c 7))))
    ((keep3 m ρ c main_v5 (by decide)).trans ((out0 m ρ c).2.1.trans (congrArg swap (W2_arr m ρ c 8))))
    ((keep3 m ρ c main_v6 (by decide)).trans ((out0 m ρ c).2.2.1.trans (congrArg swap (W2_arr m ρ c 9))))
    ((keep3 m ρ c main_v7 (by decide)).trans ((out0 m ρ c).2.2.2.trans (congrArg swap (W2_arr m ρ c 10))))
theorem step1 : Stepped (w1 m c) (g1 m c) (m1 m c) (u1 m c) (W12 m ρ c (Proc.devRef .tc main_v8_0)) (W12 m ρ c (Proc.devRef .tc main_v8_1)) (W12 m ρ c (Proc.devRef .tc main_v8_2)) (W12 m ρ c (Proc.devRef .tc main_v8_3)) :=
  (show Stepped _ _ _ _ _ _ _ _ from ⟨AdamOut1.arr7 (V3 m ρ) c, AdamOut1.arr8 _ c, AdamOut1.arr9 _ c, AdamOut1.arr10 _ c⟩).of_eq
    (W3_args m ρ c main_arg8 (by decide)) (congrArg (total (n := 4) (a := 512) (b := 512)) (W3_args m ρ c main_arg1 (by decide)))
    (W3_args m ρ c main_arg15 (by decide)) (W3_args m ρ c main_arg22 (by decide))
    ((keep4 m ρ c main_v8_0 (by decide)).trans ((W4_arr m ρ c 7)))
    ((keep4 m ρ c main_v8_1 (by decide)).trans ((W4_arr m ρ c 8)))
    ((keep4 m ρ c main_v8_2 (by decide)).trans ((W4_arr m ρ c 9)))
    ((keep4 m ρ c main_v8_3 (by decide)).trans ((W4_arr m ρ c 10)))
theorem step2 : Stepped (w2 m c) (g2 m c) (m2 m c) (u2 m c) (W12 m ρ c (Proc.devRef .tc main_v9_0)) (W12 m ρ c (Proc.devRef .tc main_v9_1)) (W12 m ρ c (Proc.devRef .tc main_v9_2)) (W12 m ρ c (Proc.devRef .tc main_v9_3)) :=
  (show Stepped _ _ _ _ _ _ _ _ from ⟨AdamOut2.arr7 (V4 m ρ) c, AdamOut2.arr8 _ c, AdamOut2.arr9 _ c, AdamOut2.arr10 _ c⟩).of_eq
    (W4_args m ρ c main_arg9 (by decide)) (congrArg (total (n := 4) (a := 256) (b := 256)) (W4_args m ρ c main_arg2 (by decide)))
    (W4_args m ρ c main_arg16 (by decide)) (W4_args m ρ c main_arg23 (by decide))
    ((keep5 m ρ c main_v9_0 (by decide)).trans ((W5_arr m ρ c 7)))
    ((keep5 m ρ c main_v9_1 (by decide)).trans ((W5_arr m ρ c 8)))
    ((keep5 m ρ c main_v9_2 (by decide)).trans ((W5_arr m ρ c 9)))
    ((keep5 m ρ c main_v9_3 (by decide)).trans ((W5_arr m ρ c 10)))
theorem step3 : Stepped (w3 m c) (g3 m c) (m3 m c) (u3 m c) (W12 m ρ c (Proc.devRef .tc main_v10_0)) (W12 m ρ c (Proc.devRef .tc main_v10_1)) (W12 m ρ c (Proc.devRef .tc main_v10_2)) (W12 m ρ c (Proc.devRef .tc main_v10_3)) :=
  (show Stepped _ _ _ _ _ _ _ _ from ⟨AdamOut3.arr7 (V5 m ρ) c, AdamOut3.arr8 _ c, AdamOut3.arr9 _ c, AdamOut3.arr10 _ c⟩).of_eq
    (W5_args m ρ c main_arg10 (by decide)) (congrArg (total (n := 4) (a := 256) (b := 1024)) (W5_args m ρ c main_arg3 (by decide)))
    (W5_args m ρ c main_arg17 (by decide)) (W5_args m ρ c main_arg24 (by decide))
    ((keep6 m ρ c main_v10_0 (by decide)).trans ((W6_arr m ρ c 7)))
    ((keep6 m ρ c main_v10_1 (by decide)).trans ((W6_arr m ρ c 8)))
    ((keep6 m ρ c main_v10_2 (by decide)).trans ((W6_arr m ρ c 9)))
    ((keep6 m ρ c main_v10_3 (by decide)).trans ((W6_arr m ρ c 10)))
theorem step4 : Stepped (w4 m c) (g4 m c) (m4 m c) (u4 m c) (W12 m ρ c (Proc.devRef .tc main_v15)) (W12 m ρ c (Proc.devRef .tc main_v16)) (W12 m ρ c (Proc.devRef .tc main_v17)) (W12 m ρ c (Proc.devRef .tc main_v18)) :=
  ((show Stepped _ _ _ _ _ _ _ _ from ⟨AdamOut4.arr7 (V7 m ρ) c, AdamOut4.arr8 _ c, AdamOut4.arr9 _ c, AdamOut4.arr10 _ c⟩).map (swap (a := 704) (b := 1024)) _ fun _ _ => rfl).of_eq
    ((congrArg swap ((in4 m ρ c).1.trans (congrArg swap (W6_args m ρ c main_arg11 (by decide))))).trans (swap_swap _)) (congrArg (fun x => swap (total (n := 4) (a := 704) (b := 1024) x)) (W7_args m ρ c main_arg4 (by decide)))
    ((congrArg swap ((in4 m ρ c).2.1.trans (congrArg swap (W6_args m ρ c main_arg18 (by decide))))).trans (swap_swap _)) ((congrArg swap ((in4 m ρ c).2.2.trans (congrArg swap (W6_args m ρ c main_arg25 (by decide))))).trans (swap_swap _))
    ((keep9 m ρ c main_v15 (by decide)).trans ((out4 m ρ c).1.trans (congrArg swap (W8_arr m ρ c 7))))
    ((keep9 m ρ c main_v16 (by decide)).trans ((out4 m ρ c).2.1.trans (congrArg swap (W8_arr m ρ c 8))))
    ((keep9 m ρ c main_v17 (by decide)).trans ((out4 m ρ c).2.2.1.trans (congrArg swap (W8_arr m ρ c 9))))
    ((keep9 m ρ c main_v18 (by decide)).trans ((out4 m ρ c).2.2.2.trans (congrArg swap (W8_arr m ρ c 10))))
theorem step5 : Stepped (w5 m c) (g5 m c) (m5 m c) (u5 m c) (W12 m ρ c (Proc.devRef .tc main_v23)) (W12 m ρ c (Proc.devRef .tc main_v24)) (W12 m ρ c (Proc.devRef .tc main_v25)) (W12 m ρ c (Proc.devRef .tc main_v26)) :=
  ((show Stepped _ _ _ _ _ _ _ _ from ⟨AdamOut5.arr7 (V9 m ρ) c, AdamOut5.arr8 _ c, AdamOut5.arr9 _ c, AdamOut5.arr10 _ c⟩).map (swap (a := 704) (b := 1024)) _ fun _ _ => rfl).of_eq
    ((congrArg swap ((in5 m ρ c).1.trans (congrArg swap (W8_args m ρ c main_arg12 (by decide))))).trans (swap_swap _)) (congrArg (fun x => swap (total (n := 4) (a := 704) (b := 1024) x)) (W9_args m ρ c main_arg5 (by decide)))
    ((congrArg swap ((in5 m ρ c).2.1.trans (congrArg swap (W8_args m ρ c main_arg19 (by decide))))).trans (swap_swap _)) ((congrArg swap ((in5 m ρ c).2.2.trans (congrArg swap (W8_args m ρ c main_arg26 (by decide))))).trans (swap_swap _))
    ((keep11 m ρ c main_v23 (by decide)).trans ((out5 m ρ c).1.trans (congrArg swap (W10_arr m ρ c 7))))
    ((keep11 m ρ c main_v24 (by decide)).trans ((out5 m ρ c).2.1.trans (congrArg swap (W10_arr m ρ c 8))))
    ((keep11 m ρ c main_v25 (by decide)).trans ((out5 m ρ c).2.2.1.trans (congrArg swap (W10_arr m ρ c 9))))
    ((keep11 m ρ c main_v26 (by decide)).trans ((out5 m ρ c).2.2.2.trans (congrArg swap (W10_arr m ρ c 10))))
theorem step6 : Stepped (w6 m c) (g6 m c) (m6 m c) (u6 m c) (W12 m ρ c (Proc.devRef .tc main_v27_0)) (W12 m ρ c (Proc.devRef .tc main_v27_1)) (W12 m ρ c (Proc.devRef .tc main_v27_2)) (W12 m ρ c (Proc.devRef .tc main_v27_3)) :=
  (show Stepped _ _ _ _ _ _ _ _ from ⟨AdamOut6.arr7 (V11 m ρ) c, AdamOut6.arr8 _ c, AdamOut6.arr9 _ c, AdamOut6.arr10 _ c⟩).of_eq
    (W11_args m ρ c main_arg13 (by decide)) (congrArg (total (n := 4) (a := 704) (b := 1024)) (W11_args m ρ c main_arg6 (by decide)))
    (W11_args m ρ c main_arg20 (by decide)) (W11_args m ρ c main_arg27 (by decide))
    (W12_arr m ρ c 7)
    (W12_arr m ρ c 8)
    (W12_arr m ρ c 9)
    (W12_arr m ρ c 10)

set_option maxHeartbeats 2000000 in
omit c in
/-- The run of the optimiser on the large weights' shards: the step on each of the seven weights, of the arguments it was
    launched with, and the arguments kept. -/
theorem results : θ_run defs (onTc (τ := τ) (main (F := Ideal))) ⟨m, fun _ => 0, ρ⟩ (fun r => ∀ c : Dev nD,
      Stepped (w0 m c) (g0 m c) (m0 m c) (u0 m c) (r.2.mem ((c : Thread nD τ).loc main_v4)) (r.2.mem ((c : Thread nD τ).loc main_v5)) (r.2.mem ((c : Thread nD τ).loc main_v6)) (r.2.mem ((c : Thread nD τ).loc main_v7))
      ∧ Stepped (w1 m c) (g1 m c) (m1 m c) (u1 m c) (r.2.mem ((c : Thread nD τ).loc main_v8_0)) (r.2.mem ((c : Thread nD τ).loc main_v8_1)) (r.2.mem ((c : Thread nD τ).loc main_v8_2)) (r.2.mem ((c : Thread nD τ).loc main_v8_3))
      ∧ Stepped (w2 m c) (g2 m c) (m2 m c) (u2 m c) (r.2.mem ((c : Thread nD τ).loc main_v9_0)) (r.2.mem ((c : Thread nD τ).loc main_v9_1)) (r.2.mem ((c : Thread nD τ).loc main_v9_2)) (r.2.mem ((c : Thread nD τ).loc main_v9_3))
      ∧ Stepped (w3 m c) (g3 m c) (m3 m c) (u3 m c) (r.2.mem ((c : Thread nD τ).loc main_v10_0)) (r.2.mem ((c : Thread nD τ).loc main_v10_1)) (r.2.mem ((c : Thread nD τ).loc main_v10_2)) (r.2.mem ((c : Thread nD τ).loc main_v10_3))
      ∧ Stepped (w4 m c) (g4 m c) (m4 m c) (u4 m c) (r.2.mem ((c : Thread nD τ).loc main_v15)) (r.2.mem ((c : Thread nD τ).loc main_v16)) (r.2.mem ((c : Thread nD τ).loc main_v17)) (r.2.mem ((c : Thread nD τ).loc main_v18))
      ∧ Stepped (w5 m c) (g5 m c) (m5 m c) (u5 m c) (r.2.mem ((c : Thread nD τ).loc main_v23)) (r.2.mem ((c : Thread nD τ).loc main_v24)) (r.2.mem ((c : Thread nD τ).loc main_v25)) (r.2.mem ((c : Thread nD τ).loc main_v26))
      ∧ Stepped (w6 m c) (g6 m c) (m6 m c) (u6 m c) (r.2.mem ((c : Thread nD τ).loc main_v27_0)) (r.2.mem ((c : Thread nD τ).loc main_v27_1)) (r.2.mem ((c : Thread nD τ).loc main_v27_2)) (r.2.mem ((c : Thread nD τ).loc main_v27_3))
      ∧ ∀ a ∈ argRefs, r.2.mem ((c : Thread nD τ).loc a) = m ((c : Thread nD τ).loc a)) :=
  (θ_run defs _ _).mono (fun _ h c =>
    ⟨(step0 m ρ c).of_eq rfl rfl rfl rfl (h c _ (mem_uc main_v4 (by decide))) (h c _ (mem_uc main_v5 (by decide))) (h c _ (mem_uc main_v6 (by decide))) (h c _ (mem_uc main_v7 (by decide))),
     (step1 m ρ c).of_eq rfl rfl rfl rfl (h c _ (mem_uc main_v8_0 (by decide))) (h c _ (mem_uc main_v8_1 (by decide))) (h c _ (mem_uc main_v8_2 (by decide))) (h c _ (mem_uc main_v8_3 (by decide))),
     (step2 m ρ c).of_eq rfl rfl rfl rfl (h c _ (mem_uc main_v9_0 (by decide))) (h c _ (mem_uc main_v9_1 (by decide))) (h c _ (mem_uc main_v9_2 (by decide))) (h c _ (mem_uc main_v9_3 (by decide))),
     (step3 m ρ c).of_eq rfl rfl rfl rfl (h c _ (mem_uc main_v10_0 (by decide))) (h c _ (mem_uc main_v10_1 (by decide))) (h c _ (mem_uc main_v10_2 (by decide))) (h c _ (mem_uc main_v10_3 (by decide))),
     (step4 m ρ c).of_eq rfl rfl rfl rfl (h c _ (mem_uc main_v15 (by decide))) (h c _ (mem_uc main_v16 (by decide))) (h c _ (mem_uc main_v17 (by decide))) (h c _ (mem_uc main_v18 (by decide))),
     (step5 m ρ c).of_eq rfl rfl rfl rfl (h c _ (mem_uc main_v23 (by decide))) (h c _ (mem_uc main_v24 (by decide))) (h c _ (mem_uc main_v25 (by decide))) (h c _ (mem_uc main_v26 (by decide))),
     (step6 m ρ c).of_eq rfl rfl rfl rfl (h c _ (mem_uc main_v27_0 (by decide))) (h c _ (mem_uc main_v27_1 (by decide))) (h c _ (mem_uc main_v27_2 (by decide))) (h c _ (mem_uc main_v27_3 (by decide))),
     fun a ha => (h c _ (mem_uc a ((by decide : ∀ a ∈ argRefs, ¬ (Proc.devRef .tc a : DevRef τ sig).isScoped) a ha))).trans (W12_args m ρ c a ha)⟩) (AdamAll.run_all m ρ)

end Results

end Cert.Proof.AdamRun

end
-- ==== Proof.AdamRef.lean ====
/-
  The large weights' reference: its twenty-eight results, and the agreement with the optimiser's calls.
-/
module

public import proofs.«01_k».proof.Defs
public import proofs.«01_k».proof.Proof.AdamRun
public import proofs.«01_k».proof.Proof.Gen.AdamRefIdeal.Run
public import Idealize.ShloMosaic.Lib.Quiescent

@[expose] public section

set_option maxRecDepth 16384

noncomputable section

namespace Cert.Proof.AdamRef

open Idealize.ShloMosaic.TcCoe Idealize.SL.Sem Idealize.ShloMosaic.Ideal
open Idealize.ShloMosaic hiding ix1 ix2 ix3 eq_ix1 eq_ix2
open Idealize.ShloMosaic.ValueIdx
open Cert.Proof.AdamSpec Cert.Proof.AdamBig Cert.Proof.StateStep

section Reference

open Cert.AdamRefIdeal Cert.AdamRefIdeal.Gen Cert.AdamRefIdeal.Value Idealize.ShloMosaic.StableHlo

variable (m : (ℓ : Loc nD τ sig) → Buf (Elt Ideal) ℓ) (c : Dev nD)

abbrev arg (a : Ref sig .tc) := m ((c : Thread nD τ).loc a)

/-! ### The gradients -/

theorem grad0 : res_main_v2 (launchContents m c) = swap (total (arg m c main_arg0 : (⟨3, ![4, 1216, 1024]⟩ : Shape).Idx → EReal)) :=
  (swap_eq (a := 1216) (b := 1024) _ _).trans (congrArg swap (host_total (n := 4) (a := 1216) (b := 1024) _ _ _))
theorem grad1 : res_main_v28 (launchContents m c) = (total (arg m c main_arg1 : (⟨3, ![4, 512, 512]⟩ : Shape).Idx → EReal)) :=
  host_total (n := 4) (a := 512) (b := 512) _ _ _
theorem grad2 : res_main_v54 (launchContents m c) = (total (arg m c main_arg2 : (⟨3, ![4, 256, 256]⟩ : Shape).Idx → EReal)) :=
  host_total (n := 4) (a := 256) (b := 256) _ _ _
theorem grad3 : res_main_v80 (launchContents m c) = (total (arg m c main_arg3 : (⟨3, ![4, 256, 1024]⟩ : Shape).Idx → EReal)) :=
  host_total (n := 4) (a := 256) (b := 1024) _ _ _
theorem grad4 : res_main_v107 (launchContents m c) = swap (total (arg m c main_arg4 : (⟨3, ![4, 704, 1024]⟩ : Shape).Idx → EReal)) :=
  (swap_eq (a := 704) (b := 1024) _ _).trans (congrArg swap (host_total (n := 4) (a := 704) (b := 1024) _ _ _))
theorem grad5 : res_main_v134 (launchContents m c) = swap (total (arg m c main_arg5 : (⟨3, ![4, 704, 1024]⟩ : Shape).Idx → EReal)) :=
  (swap_eq (a := 704) (b := 1024) _ _).trans (congrArg swap (host_total (n := 4) (a := 704) (b := 1024) _ _ _))
theorem grad6 : res_main_v160 (launchContents m c) = (total (arg m c main_arg6 : (⟨3, ![4, 704, 1024]⟩ : Shape).Idx → EReal)) :=
  host_total (n := 4) (a := 704) (b := 1024) _ _ _

end Reference

/-- The reference terminates, keeps its arguments, and has no counter to leave. -/
theorem reference_frame : Cert.quiescent_AdamRefIdeal (hAdamRefIdeal := Cert.AdamRefIdeal.Gen.facts) :=
  fun m ρ _ => (θ_run Cert.AdamRefIdeal.defs _ _).mono
    (fun r h => ⟨fun c => (h c).2.2.2.2.2.2.2.2.2.2.2.2.2.2.2.2.2.2.2.2.2.2.2.2.2.2.2.2, sem_eq_zero_of_no_sems (by decide) r.2⟩)
    (Cert.AdamRefIdeal.Value.run (F := Ideal) m ρ)

open AdamRun Cert.AdamRefIdeal in
set_option maxHeartbeats 2000000 in
theorem value : Cert.algebraic_AdamIdeal_AdamRefIdeal (hAdamIdeal := Cert.AdamIdeal.Gen.facts)
    (hAdamRefIdeal := Cert.AdamRefIdeal.Gen.facts) := by
  intro m g m' g' _ hargs
  refine ⟨g0 m, fun c => delta (w0 m c) (g0 m c) (m0 m c) (u0 m c), fun c => mom (g0 m c) (m0 m c), fun c => var (g0 m c) (u0 m c),
    g1 m, fun c => delta (w1 m c) (g1 m c) (m1 m c) (u1 m c), fun c => mom (g1 m c) (m1 m c), fun c => var (g1 m c) (u1 m c),
    g2 m, fun c => delta (w2 m c) (g2 m c) (m2 m c) (u2 m c), fun c => mom (g2 m c) (m2 m c), fun c => var (g2 m c) (u2 m c),
    g3 m, fun c => delta (w3 m c) (g3 m c) (m3 m c) (u3 m c), fun c => mom (g3 m c) (m3 m c), fun c => var (g3 m c) (u3 m c),
    g4 m, fun c => delta (w4 m c) (g4 m c) (m4 m c) (u4 m c), fun c => mom (g4 m c) (m4 m c), fun c => var (g4 m c) (u4 m c),
    g5 m, fun c => delta (w5 m c) (g5 m c) (m5 m c) (u5 m c), fun c => mom (g5 m c) (m5 m c), fun c => var (g5 m c) (u5 m c),
    g6 m, fun c => delta (w6 m c) (g6 m c) (m6 m c) (u6 m c), fun c => mom (g6 m c) (m6 m c), fun c => var (g6 m c) (u6 m c),
    (θ_run Cert.AdamIdeal.defs _ _).mono (fun r h c => ?_) (AdamRun.results m g), (θ_run Cert.AdamRefIdeal.defs _ _).mono (fun r h c => ?_) (Cert.AdamRefIdeal.Value.run (F := Ideal) m' g')⟩
  · obtain ⟨⟨h0, h1, h2, h3⟩, ⟨h4, h5, h6, h7⟩, ⟨h8, h9, h10, h11⟩, ⟨h12, h13, h14, h15⟩, ⟨h16, h17, h18, h19⟩, ⟨h20, h21, h22, h23⟩, ⟨h24, h25, h26, h27⟩, hk⟩ := h c
    refine ⟨h0, h1, h2, h3, h4, h5, h6, h7, h8, h9, h10, h11, h12, h13, h14, h15, h16, h17, h18, h19, h20, h21, h22, h23, h24, h25, h26, h27, ?_⟩
    repeat' apply And.intro
    all_goals exact hk _ (by decide)
  obtain ⟨e0, e1, e2, e3, e4, e5, e6, e7, e8, e9, e10, e11, e12, e13, e14, e15, e16, e17, e18, e19, e20, e21, e22, e23, e24, e25, e26, e27⟩ := hargs c
  obtain ⟨h0, h1, h2, h3, h4, h5, h6, h7, h8, h9, h10, h11, h12, h13, h14, h15, h16, h17, h18, h19, h20, h21, h22, h23, h24, h25, h26, h27, hk⟩ := h c
  obtain ⟨h0, h1, h2, h3⟩ := (Stepped.of_grad (s := ⟨2, ![1024, 1216]⟩) (w := arg m' c main_arg7) (m := arg m' c main_arg14) (v := arg m' c main_arg21) (grad0 m' c) h0 h1 h2 h3).of_eq
    e7 (congrArg (fun x : (⟨3, ![4, 1216, 1024]⟩ : Shape).Idx → EReal => swap (total x)) e0) e14 e21 rfl rfl rfl rfl
  obtain ⟨h4, h5, h6, h7⟩ := (Stepped.of_grad (s := ⟨2, ![512, 512]⟩) (w := arg m' c main_arg8) (m := arg m' c main_arg15) (v := arg m' c main_arg22) (grad1 m' c) h4 h5 h6 h7).of_eq
    e8 (congrArg (fun x : (⟨3, ![4, 512, 512]⟩ : Shape).Idx → EReal => (total x)) e1) e15 e22 rfl rfl rfl rfl
  obtain ⟨h8, h9, h10, h11⟩ := (Stepped.of_grad (s := ⟨2, ![256, 256]⟩) (w := arg m' c main_arg9) (m := arg m' c main_arg16) (v := arg m' c main_arg23) (grad2 m' c) h8 h9 h10 h11).of_eq
    e9 (congrArg (fun x : (⟨3, ![4, 256, 256]⟩ : Shape).Idx → EReal => (total x)) e2) e16 e23 rfl rfl rfl rfl
  obtain ⟨h12, h13, h14, h15⟩ := (Stepped.of_grad (s := ⟨2, ![256, 1024]⟩) (w := arg m' c main_arg10) (m := arg m' c main_arg17) (v := arg m' c main_arg24) (grad3 m' c) h12 h13 h14 h15).of_eq
    e10 (congrArg (fun x : (⟨3, ![4, 256, 1024]⟩ : Shape).Idx → EReal => (total x)) e3) e17 e24 rfl rfl rfl rfl
  obtain ⟨h16, h17, h18, h19⟩ := (Stepped.of_grad (s := ⟨2, ![1024, 704]⟩) (w := arg m' c main_arg11) (m := arg m' c main_arg18) (v := arg m' c main_arg25) (grad4 m' c) h16 h17 h18 h19).of_eq
    e11 (congrArg (fun x : (⟨3, ![4, 704, 1024]⟩ : Shape).Idx → EReal => swap (total x)) e4) e18 e25 rfl rfl rfl rfl
  obtain ⟨h20, h21, h22, h23⟩ := (Stepped.of_grad (s := ⟨2, ![1024, 704]⟩) (w := arg m' c main_arg12) (m := arg m' c main_arg19) (v := arg m' c main_arg26) (grad5 m' c) h20 h21 h22 h23).of_eq
    e12 (congrArg (fun x : (⟨3, ![4, 704, 1024]⟩ : Shape).Idx → EReal => swap (total x)) e5) e19 e26 rfl rfl rfl rfl
  obtain ⟨h24, h25, h26, h27⟩ := (Stepped.of_grad (s := ⟨2, ![704, 1024]⟩) (w := arg m' c main_arg13) (m := arg m' c main_arg20) (v := arg m' c main_arg27) (grad6 m' c) h24 h25 h26 h27).of_eq
    e13 (congrArg (fun x : (⟨3, ![4, 704, 1024]⟩ : Shape).Idx → EReal => (total x)) e6) e20 e27 rfl rfl rfl rfl
  exact ⟨h0, h1, h2, h3, h4, h5, h6, h7, h8, h9, h10, h11, h12, h13, h14, h15, h16, h17, h18, h19, h20, h21, h22, h23, h24, h25, h26, h27, hk⟩

end Cert.Proof.AdamRef

end
-- ==== Proof.StateAll.lean ====
/-
  The optimiser's run on the state-space weights, read at every buffer.
-/
module

public import proofs.«01_k».proof.Proof.Gen.StateIdeal.Frame
public import Idealize.ShloMosaic.Lib.Pipeline.ValueKit

@[expose] public section

set_option maxRecDepth 16384

noncomputable section

namespace Cert.Proof.StateAll

open Cert.StateIdeal Cert.StateIdeal.Gen Idealize.ShloMosaic.TcCoe Idealize.ShloMosaic.Tactic
open Idealize.ShloMosaic hiding ix1 ix2 ix3 eq_ix1 eq_ix2
open Idealize.SL Idealize.SL.RA Idealize.SL.BI
open scoped Idealize.SL.BI
open Idealize.SL.BI.BIBase Idealize.SL.BI.Laws Idealize.SL.ProofMode Idealize.SL.Sem
open Idealize.ShloMosaic.Rounds

section Any

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer of every core ends at the fold's last contents: the segments' launch, with the last thread state read
    against the final memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h _ => h)

end Any

end Cert.Proof.StateAll

end
-- ==== Proof.StateOut0.lean ====
/-
  The optimiser on the two decay parts: what one call leaves.
-/
module

public import proofs.«01_k».proof.Proof.StateStep
public import proofs.«01_k».proof.Proof.Gen.StateIdeal.Frame.Region0

@[expose] public section

set_option maxHeartbeats 2000000
set_option maxRecDepth 16384

noncomputable section

namespace Cert.Proof.StateOut0

open Cert.StateIdeal Cert.StateIdeal.Gen Idealize.ShloMosaic.TcCoe Idealize.SL.Sem
open Idealize.ShloMosaic hiding ix1 ix2 ix3 eq_ix1 eq_ix2
open Idealize.ShloMosaic.ValueIdx Idealize.ShloMosaic.Ideal Cert.Proof.AdamSpec Cert.Proof.AdamBig Cert.Proof.StateStep

section Values

variable (x0 : FVec Ideal S8x32x64 .f32) (x1 : FVec Ideal S8x32x64 .f32) (x2 : FVec Ideal S32x64 .f32) (x3 : FVec Ideal S32x64 .f32) (x4 : FVec Ideal S32x64 .f32) (x5 : FVec Ideal S32x64 .f32) (x6 : FVec Ideal S32x64 .f32) (x7 : FVec Ideal S32x64 .f32)

theorem whole0 (x : FVec Ideal S32x64 .f32) : View.ld (Val := Elt Ideal) (e' := .f32) x r0_8 = x := View.ld_unit_zero (Val := Elt Ideal) (e := .f32) origin _ x
theorem sum0 : k0_pay10 (F := Ideal) x0 x1 x2 x3 x4 x5 x6 x7 = total x0 := eight x0 _ _ _ _ _ _ _ _ _
theorem sum1 : k0_pay7 (F := Ideal) (k0_pay11 (F := Ideal) x0 x1 x2 x3 x4 x5 x6 x7) (View.ld x1 r0_2) (View.ld x1 r0_3) (View.ld x1 r0_4) (View.ld x1 r0_5) (View.ld x1 r0_6) (View.ld x1 r0_7) = total x1 := eight x1 _ _ _ _ _ _ _ _ _
theorem outs0 : out0_8 (F := Ideal) x0 x1 x2 x3 x4 x5 x6 x7 = total x0
    ∧ out0_9 (F := Ideal) x0 x1 x2 x3 x4 x5 x6 x7 = delta x2 (total x0) x4 x6
    ∧ out0_10 (F := Ideal) x0 x1 x2 x3 x4 x5 x6 x7 = mom (total x0) x4
    ∧ out0_11 (F := Ideal) x0 x1 x2 x3 x4 x5 x6 x7 = var (total x0) x6 := by
  refine ⟨by frame_out; exact sum0 x0 x1 x2 x3 x4 x5 x6 x7, ?_, ?_, ?_⟩ <;> frame_out <;>
    simp only [k0_pay1, k0_pay3, k0_pay4, k0_pay5, k0_pay8, k0_pay9, k0_pay12, k0_pay13, sum0, whole0, shapeCast_self] <;> rfl
theorem outs1 : out0_12 (F := Ideal) x0 x1 x2 x3 x4 x5 x6 x7 = total x1
    ∧ out0_13 (F := Ideal) x0 x1 x2 x3 x4 x5 x6 x7 = delta x3 (total x1) x5 x7
    ∧ out0_14 (F := Ideal) x0 x1 x2 x3 x4 x5 x6 x7 = mom (total x1) x5
    ∧ out0_15 (F := Ideal) x0 x1 x2 x3 x4 x5 x6 x7 = var (total x1) x7 := by
  refine ⟨by frame_out; exact sum1 x0 x1 x2 x3 x4 x5 x6 x7, ?_, ?_, ?_⟩ <;> frame_out <;>
    simp only [k0_pay1, k0_pay3, k0_pay4, k0_pay5, k0_pay8, k0_pay9, k0_pay12, k0_pay13, sum1, whole0, shapeCast_self] <;> rfl

end Values

variable (V : (c : Dev nD) → (b : Ref sig .tc) → Buf (Elt Ideal) ((c : Thread nD τ).loc b)) (c : Dev nD)

theorem ins (t : Fin cfg0.N) : iblk0 V c 0 t = V c main_arg0
    ∧ iblk0 V c 1 t = V c main_arg1
    ∧ iblk0 V c 2 t = V c main_arg8
    ∧ iblk0 V c 3 t = V c main_arg9
    ∧ iblk0 V c 4 t = V c main_arg16
    ∧ iblk0 V c 5 t = V c main_arg17
    ∧ iblk0 V c 6 t = V c main_arg24
    ∧ iblk0 V c 7 t = V c main_arg25 :=
  ⟨funext fun j => congrArg (V c main_arg0) (funext fun a => Fin.ext (place (n := win0_0.index t a) rfl _ _ rfl)),
    funext fun j => congrArg (V c main_arg1) (funext fun a => Fin.ext (place (n := win0_1.index t a) rfl _ _ rfl)),
    funext fun j => congrArg (V c main_arg8) (funext fun a => Fin.ext (place (n := win0_2.index t a) rfl _ _ rfl)),
    funext fun j => congrArg (V c main_arg9) (funext fun a => Fin.ext (place (n := win0_3.index t a) rfl _ _ rfl)),
    funext fun j => congrArg (V c main_arg16) (funext fun a => Fin.ext (place (n := win0_4.index t a) rfl _ _ rfl)),
    funext fun j => congrArg (V c main_arg17) (funext fun a => Fin.ext (place (n := win0_5.index t a) rfl _ _ rfl)),
    funext fun j => congrArg (V c main_arg24) (funext fun a => Fin.ext (place (n := win0_6.index t a) rfl _ _ rfl)),
    funext fun j => congrArg (V c main_arg25) (funext fun a => Fin.ext (place (n := win0_7.index t a) rfl _ _ rfl))⟩
/-- Each array the block of one call. -/
theorem arrs0 (X : FVec Ideal S32x64 .f32) : ((∀ t, (dat0 V c).after 8 t = X) → (dat0 V c).arrAt 8 cfg0.N = X)
    ∧ ((∀ t, (dat0 V c).after 9 t = X) → (dat0 V c).arrAt 9 cfg0.N = X)
    ∧ ((∀ t, (dat0 V c).after 10 t = X) → (dat0 V c).arrAt 10 cfg0.N = X)
    ∧ ((∀ t, (dat0 V c).after 11 t = X) → (dat0 V c).arrAt 11 cfg0.N = X) :=
  ⟨fun h => (dat0 V c).arrAt_eq_of_covers 8 X (by decide +kernel) fun t _ y => (congrArg (fun z => (cfg0.win 8).cut (grid0.coords t) z y) (h t)).trans
      (congrArg X (funext fun a => (Fin.ext (place (n := win0_8.index t a) rfl _ _ rfl)).symm)),
    fun h => (dat0 V c).arrAt_eq_of_covers 9 X (by decide +kernel) fun t _ y => (congrArg (fun z => (cfg0.win 9).cut (grid0.coords t) z y) (h t)).trans
      (congrArg X (funext fun a => (Fin.ext (place (n := win0_9.index t a) rfl _ _ rfl)).symm)),
    fun h => (dat0 V c).arrAt_eq_of_covers 10 X (by decide +kernel) fun t _ y => (congrArg (fun z => (cfg0.win 10).cut (grid0.coords t) z y) (h t)).trans
      (congrArg X (funext fun a => (Fin.ext (place (n := win0_10.index t a) rfl _ _ rfl)).symm)),
    fun h => (dat0 V c).arrAt_eq_of_covers 11 X (by decide +kernel) fun t _ y => (congrArg (fun z => (cfg0.win 11).cut (grid0.coords t) z y) (h t)).trans
      (congrArg X (funext fun a => (Fin.ext (place (n := win0_11.index t a) rfl _ _ rfl)).symm))⟩

/-- The step that the call takes on weight 0. -/
theorem step0 : Stepped (V c main_arg8 : FVec Ideal S32x64 .f32) (total (V c main_arg0 : S8x32x64.Idx → EReal)) (V c main_arg16 : FVec Ideal S32x64 .f32) (V c main_arg24 : FVec Ideal S32x64 .f32)
    ((dat0 V c).arrAt 8 cfg0.N) ((dat0 V c).arrAt 9 cfg0.N) ((dat0 V c).arrAt 10 cfg0.N) ((dat0 V c).arrAt 11 cfg0.N) := by
  refine ⟨(arrs0 V c _).1 fun t => (after0_8 V c t).trans ?_, (arrs0 V c _).2.1 fun t => (after0_9 V c t).trans ?_, (arrs0 V c _).2.2.1 fun t => (after0_10 V c t).trans ?_, (arrs0 V c _).2.2.2 fun t => (after0_11 V c t).trans ?_⟩ <;>
    obtain ⟨i0, i1, i2, i3, i4, i5, i6, i7⟩ := ins V c t <;> rw [i0, i1, i2, i3, i4, i5, i6, i7]
  · exact (outs0 _ _ _ _ _ _ _ _).1
  · exact (outs0 _ _ _ _ _ _ _ _).2.1
  · exact (outs0 _ _ _ _ _ _ _ _).2.2.1
  · exact (outs0 _ _ _ _ _ _ _ _).2.2.2

/-- Each array the block of one call. -/
theorem arrs1 (X : FVec Ideal S32x64 .f32) : ((∀ t, (dat0 V c).after 12 t = X) → (dat0 V c).arrAt 12 cfg0.N = X)
    ∧ ((∀ t, (dat0 V c).after 13 t = X) → (dat0 V c).arrAt 13 cfg0.N = X)
    ∧ ((∀ t, (dat0 V c).after 14 t = X) → (dat0 V c).arrAt 14 cfg0.N = X)
    ∧ ((∀ t, (dat0 V c).after 15 t = X) → (dat0 V c).arrAt 15 cfg0.N = X) :=
  ⟨fun h => (dat0 V c).arrAt_eq_of_covers 12 X (by decide +kernel) fun t _ y => (congrArg (fun z => (cfg0.win 12).cut (grid0.coords t) z y) (h t)).trans
      (congrArg X (funext fun a => (Fin.ext (place (n := win0_12.index t a) rfl _ _ rfl)).symm)),
    fun h => (dat0 V c).arrAt_eq_of_covers 13 X (by decide +kernel) fun t _ y => (congrArg (fun z => (cfg0.win 13).cut (grid0.coords t) z y) (h t)).trans
      (congrArg X (funext fun a => (Fin.ext (place (n := win0_13.index t a) rfl _ _ rfl)).symm)),
    fun h => (dat0 V c).arrAt_eq_of_covers 14 X (by decide +kernel) fun t _ y => (congrArg (fun z => (cfg0.win 14).cut (grid0.coords t) z y) (h t)).trans
      (congrArg X (funext fun a => (Fin.ext (place (n := win0_14.index t a) rfl _ _ rfl)).symm)),
    fun h => (dat0 V c).arrAt_eq_of_covers 15 X (by decide +kernel) fun t _ y => (congrArg (fun z => (cfg0.win 15).cut (grid0.coords t) z y) (h t)).trans
      (congrArg X (funext fun a => (Fin.ext (place (n := win0_15.index t a) rfl _ _ rfl)).symm))⟩

/-- The step that the call takes on weight 1. -/
theorem step1 : Stepped (V c main_arg9 : FVec Ideal S32x64 .f32) (total (V c main_arg1 : S8x32x64.Idx → EReal)) (V c main_arg17 : FVec Ideal S32x64 .f32) (V c main_arg25 : FVec Ideal S32x64 .f32)
    ((dat0 V c).arrAt 12 cfg0.N) ((dat0 V c).arrAt 13 cfg0.N) ((dat0 V c).arrAt 14 cfg0.N) ((dat0 V c).arrAt 15 cfg0.N) := by
  refine ⟨(arrs1 V c _).1 fun t => (after0_12 V c t).trans ?_, (arrs1 V c _).2.1 fun t => (after0_13 V c t).trans ?_, (arrs1 V c _).2.2.1 fun t => (after0_14 V c t).trans ?_, (arrs1 V c _).2.2.2 fun t => (after0_15 V c t).trans ?_⟩ <;>
    obtain ⟨i0, i1, i2, i3, i4, i5, i6, i7⟩ := ins V c t <;> rw [i0, i1, i2, i3, i4, i5, i6, i7]
  · exact (outs1 _ _ _ _ _ _ _ _).1
  · exact (outs1 _ _ _ _ _ _ _ _).2.1
  · exact (outs1 _ _ _ _ _ _ _ _).2.2.1
  · exact (outs1 _ _ _ _ _ _ _ _).2.2.2

end Cert.Proof.StateOut0

end
-- ==== Proof.StateOut1.lean ====
/-
  The optimiser on the step sizes and the real input maps: what one call leaves.
-/
module

public import proofs.«01_k».proof.Proof.StateStep
public import proofs.«01_k».proof.Proof.Gen.StateIdeal.Frame.Region1

@[expose] public section

set_option maxHeartbeats 2000000
set_option maxRecDepth 16384

noncomputable section

namespace Cert.Proof.StateOut1

open Cert.StateIdeal Cert.StateIdeal.Gen Idealize.ShloMosaic.TcCoe Idealize.SL.Sem
open Idealize.ShloMosaic hiding ix1 ix2 ix3 eq_ix1 eq_ix2
open Idealize.ShloMosaic.ValueIdx Idealize.ShloMosaic.Ideal Cert.Proof.AdamSpec Cert.Proof.AdamBig Cert.Proof.StateStep

section Values

variable (x0 : FVec Ideal S8x1x32 .f32) (x1 : FVec Ideal S8x512x64 .f32) (x2 : FVec Ideal S1x32 .f32) (x3 : FVec Ideal S512x64 .f32) (x4 : FVec Ideal S1x32 .f32) (x5 : FVec Ideal S512x64 .f32) (x6 : FVec Ideal S1x32 .f32) (x7 : FVec Ideal S512x64 .f32)

theorem whole0 (x : FVec Ideal S512x64 .f32) : View.ld (Val := Elt Ideal) (e' := .f32) x r1_17 = x := View.ld_unit_zero (Val := Elt Ideal) (e := .f32) origin _ x
theorem sum0 : k1_pay13 (F := Ideal) x0 x1 x2 x3 x4 x5 x6 x7 = total x0 := eight x0 _ _ _ _ _ _ _ _ _
theorem sum1 : k1_pay8 (F := Ideal) (k1_pay14 (F := Ideal) x0 x1 x2 x3 x4 x5 x6 x7) (View.ld x1 r1_11) (View.ld x1 r1_12) (View.ld x1 r1_13) (View.ld x1 r1_14) (View.ld x1 r1_15) (View.ld x1 r1_16) = total x1 := eight x1 _ _ _ _ _ _ _ _ _
theorem outs0 : out1_8 (F := Ideal) x0 x1 x2 x3 x4 x5 x6 x7 = total x0
    ∧ out1_9 (F := Ideal) x0 x1 x2 x3 x4 x5 x6 x7 = delta x2 (total x0) x4 x6
    ∧ out1_10 (F := Ideal) x0 x1 x2 x3 x4 x5 x6 x7 = mom (total x0) x4
    ∧ out1_11 (F := Ideal) x0 x1 x2 x3 x4 x5 x6 x7 = var (total x0) x6 := by
  refine ⟨by frame_out; exact sum0 x0 x1 x2 x3 x4 x5 x6 x7, ?_, ?_, ?_⟩ <;> frame_out <;>
    simp only [k1_pay1, k1_pay2, k1_pay4, k1_pay5, k1_pay6, k1_pay9, k1_pay10, k1_pay11, k1_pay12, k1_pay15, k1_pay16, k1_pay17, sum0, whole0, shapeCast_self] <;> rfl
theorem outs1 : out1_12 (F := Ideal) x0 x1 x2 x3 x4 x5 x6 x7 = total x1
    ∧ out1_13 (F := Ideal) x0 x1 x2 x3 x4 x5 x6 x7 = delta x3 (total x1) x5 x7
    ∧ out1_14 (F := Ideal) x0 x1 x2 x3 x4 x5 x6 x7 = mom (total x1) x5
    ∧ out1_15 (F := Ideal) x0 x1 x2 x3 x4 x5 x6 x7 = var (total x1) x7 := by
  refine ⟨by frame_out; exact sum1 x0 x1 x2 x3 x4 x5 x6 x7, ?_, ?_, ?_⟩ <;> frame_out <;>
    simp only [k1_pay1, k1_pay2, k1_pay4, k1_pay5, k1_pay6, k1_pay9, k1_pay10, k1_pay11, k1_pay12, k1_pay15, k1_pay16, k1_pay17, sum1, whole0, shapeCast_self] <;> rfl

end Values

variable (V : (c : Dev nD) → (b : Ref sig .tc) → Buf (Elt Ideal) ((c : Thread nD τ).loc b)) (c : Dev nD)

theorem ins (t : Fin cfg1.N) : iblk1 V c 0 t = V c main_arg2
    ∧ iblk1 V c 1 t = V c main_arg3
    ∧ iblk1 V c 2 t = V c main_arg10
    ∧ iblk1 V c 3 t = V c main_v1
    ∧ iblk1 V c 4 t = V c main_arg18
    ∧ iblk1 V c 5 t = V c main_v8
    ∧ iblk1 V c 6 t = V c main_arg26
    ∧ iblk1 V c 7 t = V c main_v15 :=
  ⟨funext fun j => congrArg (V c main_arg2) (funext fun a => Fin.ext (place (n := win1_0.index t a) rfl _ _ rfl)),
    funext fun j => congrArg (V c main_arg3) (funext fun a => Fin.ext (place (n := win1_1.index t a) rfl _ _ rfl)),
    funext fun j => congrArg (V c main_arg10) (funext fun a => Fin.ext (place (n := win1_2.index t a) rfl _ _ rfl)),
    funext fun j => congrArg (V c main_v1) (funext fun a => Fin.ext (place (n := win1_3.index t a) rfl _ _ rfl)),
    funext fun j => congrArg (V c main_arg18) (funext fun a => Fin.ext (place (n := win1_4.index t a) rfl _ _ rfl)),
    funext fun j => congrArg (V c main_v8) (funext fun a => Fin.ext (place (n := win1_5.index t a) rfl _ _ rfl)),
    funext fun j => congrArg (V c main_arg26) (funext fun a => Fin.ext (place (n := win1_6.index t a) rfl _ _ rfl)),
    funext fun j => congrArg (V c main_v15) (funext fun a => Fin.ext (place (n := win1_7.index t a) rfl _ _ rfl))⟩
/-- Each array the block of one call. -/
theorem arrs0 (X : FVec Ideal S1x32 .f32) : ((∀ t, (dat1 V c).after 8 t = X) → (dat1 V c).arrAt 8 cfg1.N = X)
    ∧ ((∀ t, (dat1 V c).after 9 t = X) → (dat1 V c).arrAt 9 cfg1.N = X)
    ∧ ((∀ t, (dat1 V c).after 10 t = X) → (dat1 V c).arrAt 10 cfg1.N = X)
    ∧ ((∀ t, (dat1 V c).after 11 t = X) → (dat1 V c).arrAt 11 cfg1.N = X) :=
  ⟨fun h => (dat1 V c).arrAt_eq_of_covers 8 X (by decide +kernel) fun t _ y => (congrArg (fun z => (cfg1.win 8).cut (grid1.coords t) z y) (h t)).trans
      (congrArg X (funext fun a => (Fin.ext (place (n := win1_8.index t a) rfl _ _ rfl)).symm)),
    fun h => (dat1 V c).arrAt_eq_of_covers 9 X (by decide +kernel) fun t _ y => (congrArg (fun z => (cfg1.win 9).cut (grid1.coords t) z y) (h t)).trans
      (congrArg X (funext fun a => (Fin.ext (place (n := win1_9.index t a) rfl _ _ rfl)).symm)),
    fun h => (dat1 V c).arrAt_eq_of_covers 10 X (by decide +kernel) fun t _ y => (congrArg (fun z => (cfg1.win 10).cut (grid1.coords t) z y) (h t)).trans
      (congrArg X (funext fun a => (Fin.ext (place (n := win1_10.index t a) rfl _ _ rfl)).symm)),
    fun h => (dat1 V c).arrAt_eq_of_covers 11 X (by decide +kernel) fun t _ y => (congrArg (fun z => (cfg1.win 11).cut (grid1.coords t) z y) (h t)).trans
      (congrArg X (funext fun a => (Fin.ext (place (n := win1_11.index t a) rfl _ _ rfl)).symm))⟩

/-- The step that the call takes on weight 0. -/
theorem step0 : Stepped (V c main_arg10 : FVec Ideal S1x32 .f32) (total (V c main_arg2 : S8x1x32.Idx → EReal)) (V c main_arg18 : FVec Ideal S1x32 .f32) (V c main_arg26 : FVec Ideal S1x32 .f32)
    ((dat1 V c).arrAt 8 cfg1.N) ((dat1 V c).arrAt 9 cfg1.N) ((dat1 V c).arrAt 10 cfg1.N) ((dat1 V c).arrAt 11 cfg1.N) := by
  refine ⟨(arrs0 V c _).1 fun t => (after1_8 V c t).trans ?_, (arrs0 V c _).2.1 fun t => (after1_9 V c t).trans ?_, (arrs0 V c _).2.2.1 fun t => (after1_10 V c t).trans ?_, (arrs0 V c _).2.2.2 fun t => (after1_11 V c t).trans ?_⟩ <;>
    obtain ⟨i0, i1, i2, i3, i4, i5, i6, i7⟩ := ins V c t <;> rw [i0, i1, i2, i3, i4, i5, i6, i7]
  · exact (outs0 _ _ _ _ _ _ _ _).1
  · exact (outs0 _ _ _ _ _ _ _ _).2.1
  · exact (outs0 _ _ _ _ _ _ _ _).2.2.1
  · exact (outs0 _ _ _ _ _ _ _ _).2.2.2

/-- Each array the block of one call. -/
theorem arrs1 (X : FVec Ideal S512x64 .f32) : ((∀ t, (dat1 V c).after 12 t = X) → (dat1 V c).arrAt 12 cfg1.N = X)
    ∧ ((∀ t, (dat1 V c).after 13 t = X) → (dat1 V c).arrAt 13 cfg1.N = X)
    ∧ ((∀ t, (dat1 V c).after 14 t = X) → (dat1 V c).arrAt 14 cfg1.N = X)
    ∧ ((∀ t, (dat1 V c).after 15 t = X) → (dat1 V c).arrAt 15 cfg1.N = X) :=
  ⟨fun h => (dat1 V c).arrAt_eq_of_covers 12 X (by decide +kernel) fun t _ y => (congrArg (fun z => (cfg1.win 12).cut (grid1.coords t) z y) (h t)).trans
      (congrArg X (funext fun a => (Fin.ext (place (n := win1_12.index t a) rfl _ _ rfl)).symm)),
    fun h => (dat1 V c).arrAt_eq_of_covers 13 X (by decide +kernel) fun t _ y => (congrArg (fun z => (cfg1.win 13).cut (grid1.coords t) z y) (h t)).trans
      (congrArg X (funext fun a => (Fin.ext (place (n := win1_13.index t a) rfl _ _ rfl)).symm)),
    fun h => (dat1 V c).arrAt_eq_of_covers 14 X (by decide +kernel) fun t _ y => (congrArg (fun z => (cfg1.win 14).cut (grid1.coords t) z y) (h t)).trans
      (congrArg X (funext fun a => (Fin.ext (place (n := win1_14.index t a) rfl _ _ rfl)).symm)),
    fun h => (dat1 V c).arrAt_eq_of_covers 15 X (by decide +kernel) fun t _ y => (congrArg (fun z => (cfg1.win 15).cut (grid1.coords t) z y) (h t)).trans
      (congrArg X (funext fun a => (Fin.ext (place (n := win1_15.index t a) rfl _ _ rfl)).symm))⟩

/-- The step that the call takes on weight 1. -/
theorem step1 : Stepped (V c main_v1 : FVec Ideal S512x64 .f32) (total (V c main_arg3 : S8x512x64.Idx → EReal)) (V c main_v8 : FVec Ideal S512x64 .f32) (V c main_v15 : FVec Ideal S512x64 .f32)
    ((dat1 V c).arrAt 12 cfg1.N) ((dat1 V c).arrAt 13 cfg1.N) ((dat1 V c).arrAt 14 cfg1.N) ((dat1 V c).arrAt 15 cfg1.N) := by
  refine ⟨(arrs1 V c _).1 fun t => (after1_12 V c t).trans ?_, (arrs1 V c _).2.1 fun t => (after1_13 V c t).trans ?_, (arrs1 V c _).2.2.1 fun t => (after1_14 V c t).trans ?_, (arrs1 V c _).2.2.2 fun t => (after1_15 V c t).trans ?_⟩ <;>
    obtain ⟨i0, i1, i2, i3, i4, i5, i6, i7⟩ := ins V c t <;> rw [i0, i1, i2, i3, i4, i5, i6, i7]
  · exact (outs1 _ _ _ _ _ _ _ _).1
  · exact (outs1 _ _ _ _ _ _ _ _).2.1
  · exact (outs1 _ _ _ _ _ _ _ _).2.2.1
  · exact (outs1 _ _ _ _ _ _ _ _).2.2.2

end Cert.Proof.StateOut1

end
-- ==== Proof.StateOut2.lean ====
/-
  The optimiser on the imaginary input maps and the real output maps: what one call leaves.
-/
module

public import proofs.«01_k».proof.Proof.StateStep
public import proofs.«01_k».proof.Proof.Gen.StateIdeal.Frame.Region2

@[expose] public section

set_option maxHeartbeats 2000000
set_option maxRecDepth 16384

noncomputable section

namespace Cert.Proof.StateOut2

open Cert.StateIdeal Cert.StateIdeal.Gen Idealize.ShloMosaic.TcCoe Idealize.SL.Sem
open Idealize.ShloMosaic hiding ix1 ix2 ix3 eq_ix1 eq_ix2
open Idealize.ShloMosaic.ValueIdx Idealize.ShloMosaic.Ideal Cert.Proof.AdamSpec Cert.Proof.AdamBig Cert.Proof.StateStep

section Values

variable (x0 : FVec Ideal S8x512x64 .f32) (x1 : FVec Ideal S8x512x64 .f32) (x2 : FVec Ideal S512x64 .f32) (x3 : FVec Ideal S512x64 .f32) (x4 : FVec Ideal S512x64 .f32) (x5 : FVec Ideal S512x64 .f32) (x6 : FVec Ideal S512x64 .f32) (x7 : FVec Ideal S512x64 .f32)

theorem whole0 (x : FVec Ideal S512x64 .f32) : View.ld (Val := Elt Ideal) (e' := .f32) x r2_8 = x := View.ld_unit_zero (Val := Elt Ideal) (e := .f32) origin _ x
theorem sum0 : k2_pay15 (F := Ideal) x0 x1 x2 x3 x4 x5 x6 x7 = total x0 := eight x0 _ _ _ _ _ _ _ _ _
theorem sum1 : k2_pay10 (F := Ideal) (k2_pay17 (F := Ideal) x0 x1 x2 x3 x4 x5 x6 x7) (View.ld x1 r2_2) (View.ld x1 r2_3) (View.ld x1 r2_4) (View.ld x1 r2_5) (View.ld x1 r2_6) (View.ld x1 r2_7) = total x1 := eight x1 _ _ _ _ _ _ _ _ _
theorem outs0 : out2_8 (F := Ideal) x0 x1 x2 x3 x4 x5 x6 x7 = total x0
    ∧ out2_9 (F := Ideal) x0 x1 x2 x3 x4 x5 x6 x7 = delta x2 (total x0) x4 x6
    ∧ out2_10 (F := Ideal) x0 x1 x2 x3 x4 x5 x6 x7 = mom (total x0) x4
    ∧ out2_11 (F := Ideal) x0 x1 x2 x3 x4 x5 x6 x7 = var (total x0) x6 := by
  refine ⟨by frame_out; exact sum0 x0 x1 x2 x3 x4 x5 x6 x7, ?_, ?_, ?_⟩ <;> frame_out <;>
    simp only [k2_pay1, k2_pay2, k2_pay4, k2_pay5, k2_pay6, k2_pay7, k2_pay8, k2_pay11, k2_pay12, k2_pay13, k2_pay14, k2_pay16, k2_pay18, k2_pay19, k2_pay20, k2_pay21, sum0, whole0, shapeCast_self] <;> rfl
theorem outs1 : out2_12 (F := Ideal) x0 x1 x2 x3 x4 x5 x6 x7 = total x1
    ∧ out2_13 (F := Ideal) x0 x1 x2 x3 x4 x5 x6 x7 = delta x3 (total x1) x5 x7
    ∧ out2_14 (F := Ideal) x0 x1 x2 x3 x4 x5 x6 x7 = mom (total x1) x5
    ∧ out2_15 (F := Ideal) x0 x1 x2 x3 x4 x5 x6 x7 = var (total x1) x7 := by
  refine ⟨by frame_out; exact sum1 x0 x1 x2 x3 x4 x5 x6 x7, ?_, ?_, ?_⟩ <;> frame_out <;>
    simp only [k2_pay1, k2_pay2, k2_pay4, k2_pay5, k2_pay6, k2_pay7, k2_pay8, k2_pay11, k2_pay12, k2_pay13, k2_pay14, k2_pay16, k2_pay18, k2_pay19, k2_pay20, k2_pay21, sum1, whole0, shapeCast_self] <;> rfl

end Values

variable (V : (c : Dev nD) → (b : Ref sig .tc) → Buf (Elt Ideal) ((c : Thread nD τ).loc b)) (c : Dev nD)

theorem ins (t : Fin cfg2.N) : iblk2 V c 0 t = V c main_arg4
    ∧ iblk2 V c 1 t = V c main_arg5
    ∧ iblk2 V c 2 t = V c main_v3
    ∧ iblk2 V c 3 t = V c main_v4
    ∧ iblk2 V c 4 t = V c main_v10
    ∧ iblk2 V c 5 t = V c main_v11
    ∧ iblk2 V c 6 t = V c main_v17
    ∧ iblk2 V c 7 t = V c main_v18 :=
  ⟨funext fun j => congrArg (V c main_arg4) (funext fun a => Fin.ext (place (n := win2_0.index t a) rfl _ _ rfl)),
    funext fun j => congrArg (V c main_arg5) (funext fun a => Fin.ext (place (n := win2_1.index t a) rfl _ _ rfl)),
    funext fun j => congrArg (V c main_v3) (funext fun a => Fin.ext (place (n := win2_2.index t a) rfl _ _ rfl)),
    funext fun j => congrArg (V c main_v4) (funext fun a => Fin.ext (place (n := win2_3.index t a) rfl _ _ rfl)),
    funext fun j => congrArg (V c main_v10) (funext fun a => Fin.ext (place (n := win2_4.index t a) rfl _ _ rfl)),
    funext fun j => congrArg (V c main_v11) (funext fun a => Fin.ext (place (n := win2_5.index t a) rfl _ _ rfl)),
    funext fun j => congrArg (V c main_v17) (funext fun a => Fin.ext (place (n := win2_6.index t a) rfl _ _ rfl)),
    funext fun j => congrArg (V c main_v18) (funext fun a => Fin.ext (place (n := win2_7.index t a) rfl _ _ rfl))⟩
/-- Each array the block of one call. -/
theorem arrs0 (X : FVec Ideal S512x64 .f32) : ((∀ t, (dat2 V c).after 8 t = X) → (dat2 V c).arrAt 8 cfg2.N = X)
    ∧ ((∀ t, (dat2 V c).after 9 t = X) → (dat2 V c).arrAt 9 cfg2.N = X)
    ∧ ((∀ t, (dat2 V c).after 10 t = X) → (dat2 V c).arrAt 10 cfg2.N = X)
    ∧ ((∀ t, (dat2 V c).after 11 t = X) → (dat2 V c).arrAt 11 cfg2.N = X) :=
  ⟨fun h => (dat2 V c).arrAt_eq_of_covers 8 X (by decide +kernel) fun t _ y => (congrArg (fun z => (cfg2.win 8).cut (grid2.coords t) z y) (h t)).trans
      (congrArg X (funext fun a => (Fin.ext (place (n := win2_8.index t a) rfl _ _ rfl)).symm)),
    fun h => (dat2 V c).arrAt_eq_of_covers 9 X (by decide +kernel) fun t _ y => (congrArg (fun z => (cfg2.win 9).cut (grid2.coords t) z y) (h t)).trans
      (congrArg X (funext fun a => (Fin.ext (place (n := win2_9.index t a) rfl _ _ rfl)).symm)),
    fun h => (dat2 V c).arrAt_eq_of_covers 10 X (by decide +kernel) fun t _ y => (congrArg (fun z => (cfg2.win 10).cut (grid2.coords t) z y) (h t)).trans
      (congrArg X (funext fun a => (Fin.ext (place (n := win2_10.index t a) rfl _ _ rfl)).symm)),
    fun h => (dat2 V c).arrAt_eq_of_covers 11 X (by decide +kernel) fun t _ y => (congrArg (fun z => (cfg2.win 11).cut (grid2.coords t) z y) (h t)).trans
      (congrArg X (funext fun a => (Fin.ext (place (n := win2_11.index t a) rfl _ _ rfl)).symm))⟩

/-- The step that the call takes on weight 0. -/
theorem step0 : Stepped (V c main_v3 : FVec Ideal S512x64 .f32) (total (V c main_arg4 : S8x512x64.Idx → EReal)) (V c main_v10 : FVec Ideal S512x64 .f32) (V c main_v17 : FVec Ideal S512x64 .f32)
    ((dat2 V c).arrAt 8 cfg2.N) ((dat2 V c).arrAt 9 cfg2.N) ((dat2 V c).arrAt 10 cfg2.N) ((dat2 V c).arrAt 11 cfg2.N) := by
  refine ⟨(arrs0 V c _).1 fun t => (after2_8 V c t).trans ?_, (arrs0 V c _).2.1 fun t => (after2_9 V c t).trans ?_, (arrs0 V c _).2.2.1 fun t => (after2_10 V c t).trans ?_, (arrs0 V c _).2.2.2 fun t => (after2_11 V c t).trans ?_⟩ <;>
    obtain ⟨i0, i1, i2, i3, i4, i5, i6, i7⟩ := ins V c t <;> rw [i0, i1, i2, i3, i4, i5, i6, i7]
  · exact (outs0 _ _ _ _ _ _ _ _).1
  · exact (outs0 _ _ _ _ _ _ _ _).2.1
  · exact (outs0 _ _ _ _ _ _ _ _).2.2.1
  · exact (outs0 _ _ _ _ _ _ _ _).2.2.2

/-- Each array the block of one call. -/
theorem arrs1 (X : FVec Ideal S512x64 .f32) : ((∀ t, (dat2 V c).after 12 t = X) → (dat2 V c).arrAt 12 cfg2.N = X)
    ∧ ((∀ t, (dat2 V c).after 13 t = X) → (dat2 V c).arrAt 13 cfg2.N = X)
    ∧ ((∀ t, (dat2 V c).after 14 t = X) → (dat2 V c).arrAt 14 cfg2.N = X)
    ∧ ((∀ t, (dat2 V c).after 15 t = X) → (dat2 V c).arrAt 15 cfg2.N = X) :=
  ⟨fun h => (dat2 V c).arrAt_eq_of_covers 12 X (by decide +kernel) fun t _ y => (congrArg (fun z => (cfg2.win 12).cut (grid2.coords t) z y) (h t)).trans
      (congrArg X (funext fun a => (Fin.ext (place (n := win2_12.index t a) rfl _ _ rfl)).symm)),
    fun h => (dat2 V c).arrAt_eq_of_covers 13 X (by decide +kernel) fun t _ y => (congrArg (fun z => (cfg2.win 13).cut (grid2.coords t) z y) (h t)).trans
      (congrArg X (funext fun a => (Fin.ext (place (n := win2_13.index t a) rfl _ _ rfl)).symm)),
    fun h => (dat2 V c).arrAt_eq_of_covers 14 X (by decide +kernel) fun t _ y => (congrArg (fun z => (cfg2.win 14).cut (grid2.coords t) z y) (h t)).trans
      (congrArg X (funext fun a => (Fin.ext (place (n := win2_14.index t a) rfl _ _ rfl)).symm)),
    fun h => (dat2 V c).arrAt_eq_of_covers 15 X (by decide +kernel) fun t _ y => (congrArg (fun z => (cfg2.win 15).cut (grid2.coords t) z y) (h t)).trans
      (congrArg X (funext fun a => (Fin.ext (place (n := win2_15.index t a) rfl _ _ rfl)).symm))⟩

/-- The step that the call takes on weight 1. -/
theorem step1 : Stepped (V c main_v4 : FVec Ideal S512x64 .f32) (total (V c main_arg5 : S8x512x64.Idx → EReal)) (V c main_v11 : FVec Ideal S512x64 .f32) (V c main_v18 : FVec Ideal S512x64 .f32)
    ((dat2 V c).arrAt 12 cfg2.N) ((dat2 V c).arrAt 13 cfg2.N) ((dat2 V c).arrAt 14 cfg2.N) ((dat2 V c).arrAt 15 cfg2.N) := by
  refine ⟨(arrs1 V c _).1 fun t => (after2_12 V c t).trans ?_, (arrs1 V c _).2.1 fun t => (after2_13 V c t).trans ?_, (arrs1 V c _).2.2.1 fun t => (after2_14 V c t).trans ?_, (arrs1 V c _).2.2.2 fun t => (after2_15 V c t).trans ?_⟩ <;>
    obtain ⟨i0, i1, i2, i3, i4, i5, i6, i7⟩ := ins V c t <;> rw [i0, i1, i2, i3, i4, i5, i6, i7]
  · exact (outs1 _ _ _ _ _ _ _ _).1
  · exact (outs1 _ _ _ _ _ _ _ _).2.1
  · exact (outs1 _ _ _ _ _ _ _ _).2.2.1
  · exact (outs1 _ _ _ _ _ _ _ _).2.2.2

end Cert.Proof.StateOut2

end
-- ==== Proof.StateOut3.lean ====
/-
  The optimiser on the imaginary output maps and the skips: what one call leaves.
-/
module

public import proofs.«01_k».proof.Proof.StateStep
public import proofs.«01_k».proof.Proof.Gen.StateIdeal.Frame.Region3

@[expose] public section

set_option maxHeartbeats 2000000
set_option maxRecDepth 16384

noncomputable section

namespace Cert.Proof.StateOut3

open Cert.StateIdeal Cert.StateIdeal.Gen Idealize.ShloMosaic.TcCoe Idealize.SL.Sem
open Idealize.ShloMosaic hiding ix1 ix2 ix3 eq_ix1 eq_ix2
open Idealize.ShloMosaic.ValueIdx Idealize.ShloMosaic.Ideal Cert.Proof.AdamSpec Cert.Proof.AdamBig Cert.Proof.StateStep

section Values

variable (x0 : FVec Ideal S8x512x64 .f32) (x1 : FVec Ideal S8x16x32 .f32) (x2 : FVec Ideal S512x64 .f32) (x3 : FVec Ideal S16x32 .f32) (x4 : FVec Ideal S512x64 .f32) (x5 : FVec Ideal S16x32 .f32) (x6 : FVec Ideal S512x64 .f32) (x7 : FVec Ideal S16x32 .f32)

theorem whole0 (x : FVec Ideal S512x64 .f32) : View.ld (Val := Elt Ideal) (e' := .f32) x r3_8 = x := View.ld_unit_zero (Val := Elt Ideal) (e := .f32) origin _ x
theorem whole1 (x : FVec Ideal S16x32 .f32) : View.ld (Val := Elt Ideal) (e' := .f32) x r3_17 = x := View.ld_unit_zero (Val := Elt Ideal) (e := .f32) origin _ x
theorem sum0 : k3_pay15 (F := Ideal) x0 x1 x2 x3 x4 x5 x6 x7 = total x0 := eight x0 _ _ _ _ _ _ _ _ _
theorem sum1 : k3_pay10 (F := Ideal) (k3_pay17 (F := Ideal) x0 x1 x2 x3 x4 x5 x6 x7) (View.ld x1 r3_11) (View.ld x1 r3_12) (View.ld x1 r3_13) (View.ld x1 r3_14) (View.ld x1 r3_15) (View.ld x1 r3_16) = total x1 := eight x1 _ _ _ _ _ _ _ _ _
theorem outs0 : out3_8 (F := Ideal) x0 x1 x2 x3 x4 x5 x6 x7 = total x0
    ∧ out3_9 (F := Ideal) x0 x1 x2 x3 x4 x5 x6 x7 = delta x2 (total x0) x4 x6
    ∧ out3_10 (F := Ideal) x0 x1 x2 x3 x4 x5 x6 x7 = mom (total x0) x4
    ∧ out3_11 (F := Ideal) x0 x1 x2 x3 x4 x5 x6 x7 = var (total x0) x6 := by
  refine ⟨by frame_out; exact sum0 x0 x1 x2 x3 x4 x5 x6 x7, ?_, ?_, ?_⟩ <;> frame_out <;>
    simp only [k3_pay1, k3_pay2, k3_pay4, k3_pay5, k3_pay6, k3_pay7, k3_pay8, k3_pay11, k3_pay12, k3_pay13, k3_pay14, k3_pay16, k3_pay18, k3_pay19, k3_pay20, k3_pay21, sum0, whole0, whole1, shapeCast_self] <;> rfl
theorem outs1 : out3_12 (F := Ideal) x0 x1 x2 x3 x4 x5 x6 x7 = total x1
    ∧ out3_13 (F := Ideal) x0 x1 x2 x3 x4 x5 x6 x7 = delta x3 (total x1) x5 x7
    ∧ out3_14 (F := Ideal) x0 x1 x2 x3 x4 x5 x6 x7 = mom (total x1) x5
    ∧ out3_15 (F := Ideal) x0 x1 x2 x3 x4 x5 x6 x7 = var (total x1) x7 := by
  refine ⟨by frame_out; exact sum1 x0 x1 x2 x3 x4 x5 x6 x7, ?_, ?_, ?_⟩ <;> frame_out <;>
    simp only [k3_pay1, k3_pay2, k3_pay4, k3_pay5, k3_pay6, k3_pay7, k3_pay8, k3_pay11, k3_pay12, k3_pay13, k3_pay14, k3_pay16, k3_pay18, k3_pay19, k3_pay20, k3_pay21, sum1, whole0, whole1, shapeCast_self] <;> rfl

end Values

variable (V : (c : Dev nD) → (b : Ref sig .tc) → Buf (Elt Ideal) ((c : Thread nD τ).loc b)) (c : Dev nD)

theorem ins (t : Fin cfg3.N) : iblk3 V c 0 t = V c main_arg6
    ∧ iblk3 V c 1 t = V c main_arg7
    ∧ iblk3 V c 2 t = V c main_v5
    ∧ iblk3 V c 3 t = V c main_v6
    ∧ iblk3 V c 4 t = V c main_v12
    ∧ iblk3 V c 5 t = V c main_v13
    ∧ iblk3 V c 6 t = V c main_v19
    ∧ iblk3 V c 7 t = V c main_v20 :=
  ⟨funext fun j => congrArg (V c main_arg6) (funext fun a => Fin.ext (place (n := win3_0.index t a) rfl _ _ rfl)),
    funext fun j => congrArg (V c main_arg7) (funext fun a => Fin.ext (place (n := win3_1.index t a) rfl _ _ rfl)),
    funext fun j => congrArg (V c main_v5) (funext fun a => Fin.ext (place (n := win3_2.index t a) rfl _ _ rfl)),
    funext fun j => congrArg (V c main_v6) (funext fun a => Fin.ext (place (n := win3_3.index t a) rfl _ _ rfl)),
    funext fun j => congrArg (V c main_v12) (funext fun a => Fin.ext (place (n := win3_4.index t a) rfl _ _ rfl)),
    funext fun j => congrArg (V c main_v13) (funext fun a => Fin.ext (place (n := win3_5.index t a) rfl _ _ rfl)),
    funext fun j => congrArg (V c main_v19) (funext fun a => Fin.ext (place (n := win3_6.index t a) rfl _ _ rfl)),
    funext fun j => congrArg (V c main_v20) (funext fun a => Fin.ext (place (n := win3_7.index t a) rfl _ _ rfl))⟩
/-- Each array the block of one call. -/
theorem arrs0 (X : FVec Ideal S512x64 .f32) : ((∀ t, (dat3 V c).after 8 t = X) → (dat3 V c).arrAt 8 cfg3.N = X)
    ∧ ((∀ t, (dat3 V c).after 9 t = X) → (dat3 V c).arrAt 9 cfg3.N = X)
    ∧ ((∀ t, (dat3 V c).after 10 t = X) → (dat3 V c).arrAt 10 cfg3.N = X)
    ∧ ((∀ t, (dat3 V c).after 11 t = X) → (dat3 V c).arrAt 11 cfg3.N = X) :=
  ⟨fun h => (dat3 V c).arrAt_eq_of_covers 8 X (by decide +kernel) fun t _ y => (congrArg (fun z => (cfg3.win 8).cut (grid3.coords t) z y) (h t)).trans
      (congrArg X (funext fun a => (Fin.ext (place (n := win3_8.index t a) rfl _ _ rfl)).symm)),
    fun h => (dat3 V c).arrAt_eq_of_covers 9 X (by decide +kernel) fun t _ y => (congrArg (fun z => (cfg3.win 9).cut (grid3.coords t) z y) (h t)).trans
      (congrArg X (funext fun a => (Fin.ext (place (n := win3_9.index t a) rfl _ _ rfl)).symm)),
    fun h => (dat3 V c).arrAt_eq_of_covers 10 X (by decide +kernel) fun t _ y => (congrArg (fun z => (cfg3.win 10).cut (grid3.coords t) z y) (h t)).trans
      (congrArg X (funext fun a => (Fin.ext (place (n := win3_10.index t a) rfl _ _ rfl)).symm)),
    fun h => (dat3 V c).arrAt_eq_of_covers 11 X (by decide +kernel) fun t _ y => (congrArg (fun z => (cfg3.win 11).cut (grid3.coords t) z y) (h t)).trans
      (congrArg X (funext fun a => (Fin.ext (place (n := win3_11.index t a) rfl _ _ rfl)).symm))⟩

/-- The step that the call takes on weight 0. -/
theorem step0 : Stepped (V c main_v5 : FVec Ideal S512x64 .f32) (total (V c main_arg6 : S8x512x64.Idx → EReal)) (V c main_v12 : FVec Ideal S512x64 .f32) (V c main_v19 : FVec Ideal S512x64 .f32)
    ((dat3 V c).arrAt 8 cfg3.N) ((dat3 V c).arrAt 9 cfg3.N) ((dat3 V c).arrAt 10 cfg3.N) ((dat3 V c).arrAt 11 cfg3.N) := by
  refine ⟨(arrs0 V c _).1 fun t => (after3_8 V c t).trans ?_, (arrs0 V c _).2.1 fun t => (after3_9 V c t).trans ?_, (arrs0 V c _).2.2.1 fun t => (after3_10 V c t).trans ?_, (arrs0 V c _).2.2.2 fun t => (after3_11 V c t).trans ?_⟩ <;>
    obtain ⟨i0, i1, i2, i3, i4, i5, i6, i7⟩ := ins V c t <;> rw [i0, i1, i2, i3, i4, i5, i6, i7]
  · exact (outs0 _ _ _ _ _ _ _ _).1
  · exact (outs0 _ _ _ _ _ _ _ _).2.1
  · exact (outs0 _ _ _ _ _ _ _ _).2.2.1
  · exact (outs0 _ _ _ _ _ _ _ _).2.2.2

/-- Each array the block of one call. -/
theorem arrs1 (X : FVec Ideal S16x32 .f32) : ((∀ t, (dat3 V c).after 12 t = X) → (dat3 V c).arrAt 12 cfg3.N = X)
    ∧ ((∀ t, (dat3 V c).after 13 t = X) → (dat3 V c).arrAt 13 cfg3.N = X)
    ∧ ((∀ t, (dat3 V c).after 14 t = X) → (dat3 V c).arrAt 14 cfg3.N = X)
    ∧ ((∀ t, (dat3 V c).after 15 t = X) → (dat3 V c).arrAt 15 cfg3.N = X) :=
  ⟨fun h => (dat3 V c).arrAt_eq_of_covers 12 X (by decide +kernel) fun t _ y => (congrArg (fun z => (cfg3.win 12).cut (grid3.coords t) z y) (h t)).trans
      (congrArg X (funext fun a => (Fin.ext (place (n := win3_12.index t a) rfl _ _ rfl)).symm)),
    fun h => (dat3 V c).arrAt_eq_of_covers 13 X (by decide +kernel) fun t _ y => (congrArg (fun z => (cfg3.win 13).cut (grid3.coords t) z y) (h t)).trans
      (congrArg X (funext fun a => (Fin.ext (place (n := win3_13.index t a) rfl _ _ rfl)).symm)),
    fun h => (dat3 V c).arrAt_eq_of_covers 14 X (by decide +kernel) fun t _ y => (congrArg (fun z => (cfg3.win 14).cut (grid3.coords t) z y) (h t)).trans
      (congrArg X (funext fun a => (Fin.ext (place (n := win3_14.index t a) rfl _ _ rfl)).symm)),
    fun h => (dat3 V c).arrAt_eq_of_covers 15 X (by decide +kernel) fun t _ y => (congrArg (fun z => (cfg3.win 15).cut (grid3.coords t) z y) (h t)).trans
      (congrArg X (funext fun a => (Fin.ext (place (n := win3_15.index t a) rfl _ _ rfl)).symm))⟩

/-- The step that the call takes on weight 1. -/
theorem step1 : Stepped (V c main_v6 : FVec Ideal S16x32 .f32) (total (V c main_arg7 : S8x16x32.Idx → EReal)) (V c main_v13 : FVec Ideal S16x32 .f32) (V c main_v20 : FVec Ideal S16x32 .f32)
    ((dat3 V c).arrAt 12 cfg3.N) ((dat3 V c).arrAt 13 cfg3.N) ((dat3 V c).arrAt 14 cfg3.N) ((dat3 V c).arrAt 15 cfg3.N) := by
  refine ⟨(arrs1 V c _).1 fun t => (after3_12 V c t).trans ?_, (arrs1 V c _).2.1 fun t => (after3_13 V c t).trans ?_, (arrs1 V c _).2.2.1 fun t => (after3_14 V c t).trans ?_, (arrs1 V c _).2.2.2 fun t => (after3_15 V c t).trans ?_⟩ <;>
    obtain ⟨i0, i1, i2, i3, i4, i5, i6, i7⟩ := ins V c t <;> rw [i0, i1, i2, i3, i4, i5, i6, i7]
  · exact (outs1 _ _ _ _ _ _ _ _).1
  · exact (outs1 _ _ _ _ _ _ _ _).2.1
  · exact (outs1 _ _ _ _ _ _ _ _).2.2.1
  · exact (outs1 _ _ _ _ _ _ _ _).2.2.2

end Cert.Proof.StateOut3

end
-- ==== Proof.StateRun.lean ====
/-
  The optimiser's thirty-two results of the state-space weights, followed back through the four calls and the host's
  reshapes and transposes to the arguments.
-/
module

public import proofs.«01_k».proof.Proof.StateAll
public import proofs.«01_k».proof.Proof.StateOut0
public import proofs.«01_k».proof.Proof.StateOut1
public import proofs.«01_k».proof.Proof.StateOut2
public import proofs.«01_k».proof.Proof.StateOut3

@[expose] public section

set_option maxRecDepth 16384

noncomputable section

namespace Cert.Proof.StateRun

open Cert.StateIdeal Cert.StateIdeal.Gen Idealize.ShloMosaic.TcCoe Idealize.ShloMosaic.Tactic Idealize.SL.Sem
open Idealize.ShloMosaic hiding ix1 ix2 ix3 eq_ix1 eq_ix2
open Idealize.ShloMosaic.ValueIdx Cert.Proof.AdamSpec Cert.Proof.AdamBig Cert.Proof.StateStep

section Results

variable (m : (ℓ : Loc nD τ sig) → Buf (Elt Ideal) ℓ) (ρ : Dev nD → PrngReg) (c : Dev nD)

/-! ### The arguments: each weight's gradient, the weight, the two moments -/

abbrev g0 : FVec Ideal ⟨2, ![32, 64]⟩ .f32 := total (m ((c : Thread nD τ).loc main_arg0) : (⟨3, ![8, 32, 64]⟩ : Shape).Idx → EReal)
abbrev w0 : FVec Ideal ⟨2, ![32, 64]⟩ .f32 := m ((c : Thread nD τ).loc main_arg8)
abbrev m0 : FVec Ideal ⟨2, ![32, 64]⟩ .f32 := m ((c : Thread nD τ).loc main_arg16)
abbrev u0 : FVec Ideal ⟨2, ![32, 64]⟩ .f32 := m ((c : Thread nD τ).loc main_arg24)
abbrev g1 : FVec Ideal ⟨2, ![32, 64]⟩ .f32 := total (m ((c : Thread nD τ).loc main_arg1) : (⟨3, ![8, 32, 64]⟩ : Shape).Idx → EReal)
abbrev w1 : FVec Ideal ⟨2, ![32, 64]⟩ .f32 := m ((c : Thread nD τ).loc main_arg9)
abbrev m1 : FVec Ideal ⟨2, ![32, 64]⟩ .f32 := m ((c : Thread nD τ).loc main_arg17)
abbrev u1 : FVec Ideal ⟨2, ![32, 64]⟩ .f32 := m ((c : Thread nD τ).loc main_arg25)
abbrev g2 : FVec Ideal ⟨2, ![1, 32]⟩ .f32 := total (m ((c : Thread nD τ).loc main_arg2) : (⟨3, ![8, 1, 32]⟩ : Shape).Idx → EReal)
abbrev w2 : FVec Ideal ⟨2, ![1, 32]⟩ .f32 := m ((c : Thread nD τ).loc main_arg10)
abbrev m2 : FVec Ideal ⟨2, ![1, 32]⟩ .f32 := m ((c : Thread nD τ).loc main_arg18)
abbrev u2 : FVec Ideal ⟨2, ![1, 32]⟩ .f32 := m ((c : Thread nD τ).loc main_arg26)
abbrev g3 : FVec Ideal Turned .f32 := turn (rows (total (m ((c : Thread nD τ).loc main_arg3) : (⟨3, ![8, 512, 64]⟩ : Shape).Idx → EReal)))
abbrev w3 : FVec Ideal Turned .f32 := m ((c : Thread nD τ).loc main_arg11)
abbrev m3 : FVec Ideal Turned .f32 := m ((c : Thread nD τ).loc main_arg19)
abbrev u3 : FVec Ideal Turned .f32 := m ((c : Thread nD τ).loc main_arg27)
abbrev g4 : FVec Ideal Turned .f32 := turn (rows (total (m ((c : Thread nD τ).loc main_arg4) : (⟨3, ![8, 512, 64]⟩ : Shape).Idx → EReal)))
abbrev w4 : FVec Ideal Turned .f32 := m ((c : Thread nD τ).loc main_arg12)
abbrev m4 : FVec Ideal Turned .f32 := m ((c : Thread nD τ).loc main_arg20)
abbrev u4 : FVec Ideal Turned .f32 := m ((c : Thread nD τ).loc main_arg28)
abbrev g5 : FVec Ideal Cube .f32 := rows (total (m ((c : Thread nD τ).loc main_arg5) : (⟨3, ![8, 512, 64]⟩ : Shape).Idx → EReal))
abbrev w5 : FVec Ideal Cube .f32 := m ((c : Thread nD τ).loc main_arg13)
abbrev m5 : FVec Ideal Cube .f32 := m ((c : Thread nD τ).loc main_arg21)
abbrev u5 : FVec Ideal Cube .f32 := m ((c : Thread nD τ).loc main_arg29)
abbrev g6 : FVec Ideal Cube .f32 := rows (total (m ((c : Thread nD τ).loc main_arg6) : (⟨3, ![8, 512, 64]⟩ : Shape).Idx → EReal))
abbrev w6 : FVec Ideal Cube .f32 := m ((c : Thread nD τ).loc main_arg14)
abbrev m6 : FVec Ideal Cube .f32 := m ((c : Thread nD τ).loc main_arg22)
abbrev u6 : FVec Ideal Cube .f32 := m ((c : Thread nD τ).loc main_arg30)
abbrev g7 : FVec Ideal ⟨2, ![32, 16]⟩ .f32 := swap (a := 16) (b := 32) (total (m ((c : Thread nD τ).loc main_arg7) : (⟨3, ![8, 16, 32]⟩ : Shape).Idx → EReal))
abbrev w7 : FVec Ideal ⟨2, ![32, 16]⟩ .f32 := m ((c : Thread nD τ).loc main_arg15)
abbrev m7 : FVec Ideal ⟨2, ![32, 16]⟩ .f32 := m ((c : Thread nD τ).loc main_arg23)
abbrev u7 : FVec Ideal ⟨2, ![32, 16]⟩ .f32 := m ((c : Thread nD τ).loc main_arg31)

/-! ### What the host's layouts leave -/

theorem in3 : W1 m ρ c (Proc.devRef .tc main_v1) = flat (unturn (W0 m ρ c (Proc.devRef .tc main_arg11)))
    ∧ W1 m ρ c (Proc.devRef .tc main_v8) = flat (unturn (W0 m ρ c (Proc.devRef .tc main_arg19)))
    ∧ W1 m ρ c (Proc.devRef .tc main_v15) = flat (unturn (W0 m ρ c (Proc.devRef .tc main_arg27))) := by
  refine ⟨?_, ?_, ?_⟩ <;> (unfold W1 hostOps0; after_results_simp; rfl)
theorem out3 : W6 m ρ c (Proc.devRef .tc main_v26) = turn (rows (W5 m ρ c (Proc.devRef .tc main_v22_4)))
    ∧ W6 m ρ c (Proc.devRef .tc main_v28) = turn (rows (W5 m ρ c (Proc.devRef .tc main_v22_5)))
    ∧ W6 m ρ c (Proc.devRef .tc main_v30) = turn (rows (W5 m ρ c (Proc.devRef .tc main_v22_6)))
    ∧ W6 m ρ c (Proc.devRef .tc main_v32) = turn (rows (W5 m ρ c (Proc.devRef .tc main_v22_7))) := by
  refine ⟨?_, ?_, ?_, ?_⟩ <;> (unfold W6 hostOps4; after_results_simp; rfl)
theorem in4 : W1 m ρ c (Proc.devRef .tc main_v3) = flat (unturn (W0 m ρ c (Proc.devRef .tc main_arg12)))
    ∧ W1 m ρ c (Proc.devRef .tc main_v10) = flat (unturn (W0 m ρ c (Proc.devRef .tc main_arg20)))
    ∧ W1 m ρ c (Proc.devRef .tc main_v17) = flat (unturn (W0 m ρ c (Proc.devRef .tc main_arg28))) := by
  refine ⟨?_, ?_, ?_⟩ <;> (unfold W1 hostOps0; after_results_simp; rfl)
theorem out4 : W6 m ρ c (Proc.devRef .tc main_v34) = turn (rows (W5 m ρ c (Proc.devRef .tc main_v23_0)))
    ∧ W6 m ρ c (Proc.devRef .tc main_v36) = turn (rows (W5 m ρ c (Proc.devRef .tc main_v23_1)))
    ∧ W6 m ρ c (Proc.devRef .tc main_v38) = turn (rows (W5 m ρ c (Proc.devRef .tc main_v23_2)))
    ∧ W6 m ρ c (Proc.devRef .tc main_v40) = turn (rows (W5 m ρ c (Proc.devRef .tc main_v23_3))) := by
  refine ⟨?_, ?_, ?_, ?_⟩ <;> (unfold W6 hostOps4; after_results_simp; rfl)
theorem in5 : W1 m ρ c (Proc.devRef .tc main_v4) = flat (W0 m ρ c (Proc.devRef .tc main_arg13))
    ∧ W1 m ρ c (Proc.devRef .tc main_v11) = flat (W0 m ρ c (Proc.devRef .tc main_arg21))
    ∧ W1 m ρ c (Proc.devRef .tc main_v18) = flat (W0 m ρ c (Proc.devRef .tc main_arg29)) := by
  refine ⟨?_, ?_, ?_⟩ <;> (unfold W1 hostOps0; after_results_simp; rfl)
theorem out5 : W6 m ρ c (Proc.devRef .tc main_v41) = rows (W5 m ρ c (Proc.devRef .tc main_v23_4))
    ∧ W6 m ρ c (Proc.devRef .tc main_v42) = rows (W5 m ρ c (Proc.devRef .tc main_v23_5))
    ∧ W6 m ρ c (Proc.devRef .tc main_v43) = rows (W5 m ρ c (Proc.devRef .tc main_v23_6))
    ∧ W6 m ρ c (Proc.devRef .tc main_v44) = rows (W5 m ρ c (Proc.devRef .tc main_v23_7)) := by
  refine ⟨?_, ?_, ?_, ?_⟩ <;> (unfold W6 hostOps4; after_results_simp; rfl)
theorem in6 : W1 m ρ c (Proc.devRef .tc main_v5) = flat (W0 m ρ c (Proc.devRef .tc main_arg14))
    ∧ W1 m ρ c (Proc.devRef .tc main_v12) = flat (W0 m ρ c (Proc.devRef .tc main_arg22))
    ∧ W1 m ρ c (Proc.devRef .tc main_v19) = flat (W0 m ρ c (Proc.devRef .tc main_arg30)) := by
  refine ⟨?_, ?_, ?_⟩ <;> (unfold W1 hostOps0; after_results_simp; rfl)
theorem out6 : W6 m ρ c (Proc.devRef .tc main_v45) = rows (W5 m ρ c (Proc.devRef .tc main_v24_0))
    ∧ W6 m ρ c (Proc.devRef .tc main_v46) = rows (W5 m ρ c (Proc.devRef .tc main_v24_1))
    ∧ W6 m ρ c (Proc.devRef .tc main_v47) = rows (W5 m ρ c (Proc.devRef .tc main_v24_2))
    ∧ W6 m ρ c (Proc.devRef .tc main_v48) = rows (W5 m ρ c (Proc.devRef .tc main_v24_3)) := by
  refine ⟨?_, ?_, ?_, ?_⟩ <;> (unfold W6 hostOps4; after_results_simp; rfl)
theorem in7 : W1 m ρ c (Proc.devRef .tc main_v6) = swap (a := 32) (b := 16) (W0 m ρ c (Proc.devRef .tc main_arg15))
    ∧ W1 m ρ c (Proc.devRef .tc main_v13) = swap (a := 32) (b := 16) (W0 m ρ c (Proc.devRef .tc main_arg23))
    ∧ W1 m ρ c (Proc.devRef .tc main_v20) = swap (a := 32) (b := 16) (W0 m ρ c (Proc.devRef .tc main_arg31)) := by
  refine ⟨?_, ?_, ?_⟩ <;> refine Eq.trans ?_ (swap_eq (a := 32) (b := 16) _ transposes_S32x16_S16x32_1_0) <;>
    (unfold W1 hostOps0; after_results_simp)
theorem out7 : W6 m ρ c (Proc.devRef .tc main_v49) = swap (a := 16) (b := 32) (W5 m ρ c (Proc.devRef .tc main_v24_4))
    ∧ W6 m ρ c (Proc.devRef .tc main_v50) = swap (a := 16) (b := 32) (W5 m ρ c (Proc.devRef .tc main_v24_5))
    ∧ W6 m ρ c (Proc.devRef .tc main_v51) = swap (a := 16) (b := 32) (W5 m ρ c (Proc.devRef .tc main_v24_6))
    ∧ W6 m ρ c (Proc.devRef .tc main_v52) = swap (a := 16) (b := 32) (W5 m ρ c (Proc.devRef .tc main_v24_7)) := by
  refine ⟨?_, ?_, ?_, ?_⟩ <;> refine Eq.trans ?_ (swap_eq (a := 16) (b := 32) _ transposes_S16x32_S32x16_1_0) <;>
    (unfold W6 hostOps4; after_results_simp)

/-! ### What the calls pass by -/

abbrev called0 : List (Ref sig .tc) := [main_v21_0, main_v21_1, main_v21_2, main_v21_3, main_v21_4, main_v21_5, main_v21_6, main_v21_7]
theorem late0 : ∀ r ∈ called0, W5 m ρ c (Proc.devRef .tc r) = W2 m ρ c (Proc.devRef .tc r) := fun r h =>
  (W5_of m ρ c r ((by decide : ∀ r ∈ called0, ∀ w : Fin cfg3.W, Pipeline.arrRef spec3 w = r → (cfg3.win w).isOut = false) r h)).trans
    ((W4_of m ρ c r ((by decide : ∀ r ∈ called0, ∀ w : Fin cfg2.W, Pipeline.arrRef spec2 w = r → (cfg2.win w).isOut = false) r h)).trans
    (W3_of m ρ c r ((by decide : ∀ r ∈ called0, ∀ w : Fin cfg1.W, Pipeline.arrRef spec1 w = r → (cfg1.win w).isOut = false) r h)))
abbrev called1 : List (Ref sig .tc) := [main_v22_0, main_v22_1, main_v22_2, main_v22_3, main_v22_4, main_v22_5, main_v22_6, main_v22_7]
theorem late1 : ∀ r ∈ called1, W5 m ρ c (Proc.devRef .tc r) = W3 m ρ c (Proc.devRef .tc r) := fun r h =>
  (W5_of m ρ c r ((by decide : ∀ r ∈ called1, ∀ w : Fin cfg3.W, Pipeline.arrRef spec3 w = r → (cfg3.win w).isOut = false) r h)).trans
    (W4_of m ρ c r ((by decide : ∀ r ∈ called1, ∀ w : Fin cfg2.W, Pipeline.arrRef spec2 w = r → (cfg2.win w).isOut = false) r h))
abbrev called2 : List (Ref sig .tc) := [main_v23_0, main_v23_1, main_v23_2, main_v23_3, main_v23_4, main_v23_5, main_v23_6, main_v23_7]
theorem late2 : ∀ r ∈ called2, W5 m ρ c (Proc.devRef .tc r) = W4 m ρ c (Proc.devRef .tc r) := fun r h =>
  W5_of m ρ c r ((by decide : ∀ r ∈ called2, ∀ w : Fin cfg3.W, Pipeline.arrRef spec3 w = r → (cfg3.win w).isOut = false) r h)
abbrev used1 : List (Ref sig .tc) := [main_v1, main_v8, main_v15]
theorem early1 : ∀ r ∈ used1, W2 m ρ c (Proc.devRef .tc r) = W1 m ρ c (Proc.devRef .tc r) := fun r h =>
  W2_of m ρ c r ((by decide : ∀ r ∈ used1, ∀ w : Fin cfg0.W, Pipeline.arrRef spec0 w = r → (cfg0.win w).isOut = false) r h)
abbrev used2 : List (Ref sig .tc) := [main_v3, main_v10, main_v17, main_v4, main_v11, main_v18]
theorem early2 : ∀ r ∈ used2, W3 m ρ c (Proc.devRef .tc r) = W1 m ρ c (Proc.devRef .tc r) := fun r h =>
  (W3_of m ρ c r ((by decide : ∀ r ∈ used2, ∀ w : Fin cfg1.W, Pipeline.arrRef spec1 w = r → (cfg1.win w).isOut = false) r h)).trans
    (W2_of m ρ c r ((by decide : ∀ r ∈ used2, ∀ w : Fin cfg0.W, Pipeline.arrRef spec0 w = r → (cfg0.win w).isOut = false) r h))
abbrev used3 : List (Ref sig .tc) := [main_v5, main_v12, main_v19, main_v6, main_v13, main_v20]
theorem early3 : ∀ r ∈ used3, W4 m ρ c (Proc.devRef .tc r) = W1 m ρ c (Proc.devRef .tc r) := fun r h =>
  (W4_of m ρ c r ((by decide : ∀ r ∈ used3, ∀ w : Fin cfg2.W, Pipeline.arrRef spec2 w = r → (cfg2.win w).isOut = false) r h)).trans
    ((W3_of m ρ c r ((by decide : ∀ r ∈ used3, ∀ w : Fin cfg1.W, Pipeline.arrRef spec1 w = r → (cfg1.win w).isOut = false) r h)).trans
    (W2_of m ρ c r ((by decide : ∀ r ∈ used3, ∀ w : Fin cfg0.W, Pipeline.arrRef spec0 w = r → (cfg0.win w).isOut = false) r h)))

/-! ### The steps -/

theorem step0 : Stepped (w0 m c) (g0 m c) (m0 m c) (u0 m c) (W6 m ρ c (Proc.devRef .tc main_v21_0)) (W6 m ρ c (Proc.devRef .tc main_v21_1)) (W6 m ρ c (Proc.devRef .tc main_v21_2)) (W6 m ρ c (Proc.devRef .tc main_v21_3)) :=
  (StateOut0.step0 (V1 m ρ) c).of_eq (W1_args m ρ c main_arg8 (by decide))
    (congrArg (total (n := 8)) (W1_args m ρ c main_arg0 (by decide)))
    (W1_args m ρ c main_arg16 (by decide))
    (W1_args m ρ c main_arg24 (by decide))
    ((W6_of m ρ c main_v21_0 (by decide)).trans ((late0 m ρ c main_v21_0 (by decide)).trans (W2_arr m ρ c 8)))
    ((W6_of m ρ c main_v21_1 (by decide)).trans ((late0 m ρ c main_v21_1 (by decide)).trans (W2_arr m ρ c 9)))
    ((W6_of m ρ c main_v21_2 (by decide)).trans ((late0 m ρ c main_v21_2 (by decide)).trans (W2_arr m ρ c 10)))
    ((W6_of m ρ c main_v21_3 (by decide)).trans ((late0 m ρ c main_v21_3 (by decide)).trans (W2_arr m ρ c 11)))
theorem step1 : Stepped (w1 m c) (g1 m c) (m1 m c) (u1 m c) (W6 m ρ c (Proc.devRef .tc main_v21_4)) (W6 m ρ c (Proc.devRef .tc main_v21_5)) (W6 m ρ c (Proc.devRef .tc main_v21_6)) (W6 m ρ c (Proc.devRef .tc main_v21_7)) :=
  (StateOut0.step1 (V1 m ρ) c).of_eq (W1_args m ρ c main_arg9 (by decide))
    (congrArg (total (n := 8)) (W1_args m ρ c main_arg1 (by decide)))
    (W1_args m ρ c main_arg17 (by decide))
    (W1_args m ρ c main_arg25 (by decide))
    ((W6_of m ρ c main_v21_4 (by decide)).trans ((late0 m ρ c main_v21_4 (by decide)).trans (W2_arr m ρ c 12)))
    ((W6_of m ρ c main_v21_5 (by decide)).trans ((late0 m ρ c main_v21_5 (by decide)).trans (W2_arr m ρ c 13)))
    ((W6_of m ρ c main_v21_6 (by decide)).trans ((late0 m ρ c main_v21_6 (by decide)).trans (W2_arr m ρ c 14)))
    ((W6_of m ρ c main_v21_7 (by decide)).trans ((late0 m ρ c main_v21_7 (by decide)).trans (W2_arr m ρ c 15)))
theorem step2 : Stepped (w2 m c) (g2 m c) (m2 m c) (u2 m c) (W6 m ρ c (Proc.devRef .tc main_v22_0)) (W6 m ρ c (Proc.devRef .tc main_v22_1)) (W6 m ρ c (Proc.devRef .tc main_v22_2)) (W6 m ρ c (Proc.devRef .tc main_v22_3)) :=
  (StateOut1.step0 (V2 m ρ) c).of_eq (W2_args m ρ c main_arg10 (by decide))
    (congrArg (total (n := 8)) (W2_args m ρ c main_arg2 (by decide)))
    (W2_args m ρ c main_arg18 (by decide))
    (W2_args m ρ c main_arg26 (by decide))
    ((W6_of m ρ c main_v22_0 (by decide)).trans ((late1 m ρ c main_v22_0 (by decide)).trans (W3_arr m ρ c 8)))
    ((W6_of m ρ c main_v22_1 (by decide)).trans ((late1 m ρ c main_v22_1 (by decide)).trans (W3_arr m ρ c 9)))
    ((W6_of m ρ c main_v22_2 (by decide)).trans ((late1 m ρ c main_v22_2 (by decide)).trans (W3_arr m ρ c 10)))
    ((W6_of m ρ c main_v22_3 (by decide)).trans ((late1 m ρ c main_v22_3 (by decide)).trans (W3_arr m ρ c 11)))
theorem step3 : Stepped (w3 m c) (g3 m c) (m3 m c) (u3 m c) (W6 m ρ c (Proc.devRef .tc main_v26)) (W6 m ρ c (Proc.devRef .tc main_v28)) (W6 m ρ c (Proc.devRef .tc main_v30)) (W6 m ρ c (Proc.devRef .tc main_v32)) :=
  (StateOut1.step1 (V2 m ρ) c).in_turn.of_eq ((congrArg (fun x => turn (rows x)) ((early1 m ρ c main_v1 (by decide)).trans (in3 m ρ c).1)).trans ((congrArg turn (rows_flat _)).trans (turn_unturn _)))
    (congrArg (fun x => turn (rows (total (n := 8) x))) (W2_args m ρ c main_arg3 (by decide)))
    ((congrArg (fun x => turn (rows x)) ((early1 m ρ c main_v8 (by decide)).trans (in3 m ρ c).2.1)).trans ((congrArg turn (rows_flat _)).trans (turn_unturn _)))
    ((congrArg (fun x => turn (rows x)) ((early1 m ρ c main_v15 (by decide)).trans (in3 m ρ c).2.2)).trans ((congrArg turn (rows_flat _)).trans (turn_unturn _)))
    ((out3 m ρ c).1.trans (congrArg (fun x => turn (rows x)) ((late1 m ρ c main_v22_4 (by decide)).trans (W3_arr m ρ c 12))))
    ((out3 m ρ c).2.1.trans (congrArg (fun x => turn (rows x)) ((late1 m ρ c main_v22_5 (by decide)).trans (W3_arr m ρ c 13))))
    ((out3 m ρ c).2.2.1.trans (congrArg (fun x => turn (rows x)) ((late1 m ρ c main_v22_6 (by decide)).trans (W3_arr m ρ c 14))))
    ((out3 m ρ c).2.2.2.trans (congrArg (fun x => turn (rows x)) ((late1 m ρ c main_v22_7 (by decide)).trans (W3_arr m ρ c 15))))
theorem step4 : Stepped (w4 m c) (g4 m c) (m4 m c) (u4 m c) (W6 m ρ c (Proc.devRef .tc main_v34)) (W6 m ρ c (Proc.devRef .tc main_v36)) (W6 m ρ c (Proc.devRef .tc main_v38)) (W6 m ρ c (Proc.devRef .tc main_v40)) :=
  (StateOut2.step0 (V3 m ρ) c).in_turn.of_eq ((congrArg (fun x => turn (rows x)) ((early2 m ρ c main_v3 (by decide)).trans (in4 m ρ c).1)).trans ((congrArg turn (rows_flat _)).trans (turn_unturn _)))
    (congrArg (fun x => turn (rows (total (n := 8) x))) (W3_args m ρ c main_arg4 (by decide)))
    ((congrArg (fun x => turn (rows x)) ((early2 m ρ c main_v10 (by decide)).trans (in4 m ρ c).2.1)).trans ((congrArg turn (rows_flat _)).trans (turn_unturn _)))
    ((congrArg (fun x => turn (rows x)) ((early2 m ρ c main_v17 (by decide)).trans (in4 m ρ c).2.2)).trans ((congrArg turn (rows_flat _)).trans (turn_unturn _)))
    ((out4 m ρ c).1.trans (congrArg (fun x => turn (rows x)) ((late2 m ρ c main_v23_0 (by decide)).trans (W4_arr m ρ c 8))))
    ((out4 m ρ c).2.1.trans (congrArg (fun x => turn (rows x)) ((late2 m ρ c main_v23_1 (by decide)).trans (W4_arr m ρ c 9))))
    ((out4 m ρ c).2.2.1.trans (congrArg (fun x => turn (rows x)) ((late2 m ρ c main_v23_2 (by decide)).trans (W4_arr m ρ c 10))))
    ((out4 m ρ c).2.2.2.trans (congrArg (fun x => turn (rows x)) ((late2 m ρ c main_v23_3 (by decide)).trans (W4_arr m ρ c 11))))
theorem step5 : Stepped (w5 m c) (g5 m c) (m5 m c) (u5 m c) (W6 m ρ c (Proc.devRef .tc main_v41)) (W6 m ρ c (Proc.devRef .tc main_v42)) (W6 m ρ c (Proc.devRef .tc main_v43)) (W6 m ρ c (Proc.devRef .tc main_v44)) :=
  (StateOut2.step1 (V3 m ρ) c).in_rows.of_eq ((congrArg rows ((early2 m ρ c main_v4 (by decide)).trans (in5 m ρ c).1)).trans (rows_flat _))
    (congrArg (fun x => rows (total (n := 8) x)) (W3_args m ρ c main_arg5 (by decide)))
    ((congrArg rows ((early2 m ρ c main_v11 (by decide)).trans (in5 m ρ c).2.1)).trans (rows_flat _))
    ((congrArg rows ((early2 m ρ c main_v18 (by decide)).trans (in5 m ρ c).2.2)).trans (rows_flat _))
    ((out5 m ρ c).1.trans (congrArg rows ((late2 m ρ c main_v23_4 (by decide)).trans (W4_arr m ρ c 12))))
    ((out5 m ρ c).2.1.trans (congrArg rows ((late2 m ρ c main_v23_5 (by decide)).trans (W4_arr m ρ c 13))))
    ((out5 m ρ c).2.2.1.trans (congrArg rows ((late2 m ρ c main_v23_6 (by decide)).trans (W4_arr m ρ c 14))))
    ((out5 m ρ c).2.2.2.trans (congrArg rows ((late2 m ρ c main_v23_7 (by decide)).trans (W4_arr m ρ c 15))))
theorem step6 : Stepped (w6 m c) (g6 m c) (m6 m c) (u6 m c) (W6 m ρ c (Proc.devRef .tc main_v45)) (W6 m ρ c (Proc.devRef .tc main_v46)) (W6 m ρ c (Proc.devRef .tc main_v47)) (W6 m ρ c (Proc.devRef .tc main_v48)) :=
  (StateOut3.step0 (V4 m ρ) c).in_rows.of_eq ((congrArg rows ((early3 m ρ c main_v5 (by decide)).trans (in6 m ρ c).1)).trans (rows_flat _))
    (congrArg (fun x => rows (total (n := 8) x)) (W4_args m ρ c main_arg6 (by decide)))
    ((congrArg rows ((early3 m ρ c main_v12 (by decide)).trans (in6 m ρ c).2.1)).trans (rows_flat _))
    ((congrArg rows ((early3 m ρ c main_v19 (by decide)).trans (in6 m ρ c).2.2)).trans (rows_flat _))
    ((out6 m ρ c).1.trans (congrArg rows (W5_arr m ρ c 8)))
    ((out6 m ρ c).2.1.trans (congrArg rows (W5_arr m ρ c 9)))
    ((out6 m ρ c).2.2.1.trans (congrArg rows (W5_arr m ρ c 10)))
    ((out6 m ρ c).2.2.2.trans (congrArg rows (W5_arr m ρ c 11)))
theorem step7 : Stepped (w7 m c) (g7 m c) (m7 m c) (u7 m c) (W6 m ρ c (Proc.devRef .tc main_v49)) (W6 m ρ c (Proc.devRef .tc main_v50)) (W6 m ρ c (Proc.devRef .tc main_v51)) (W6 m ρ c (Proc.devRef .tc main_v52)) :=
  ((StateOut3.step1 (V4 m ρ) c).map (swap (a := 16) (b := 32)) _ fun _ _ => rfl).of_eq ((congrArg (swap (a := 16) (b := 32)) ((early3 m ρ c main_v6 (by decide)).trans (in7 m ρ c).1)).trans (swap_swap _))
    (congrArg (fun x => swap (a := 16) (b := 32) (total (n := 8) x)) (W4_args m ρ c main_arg7 (by decide)))
    ((congrArg (swap (a := 16) (b := 32)) ((early3 m ρ c main_v13 (by decide)).trans (in7 m ρ c).2.1)).trans (swap_swap _))
    ((congrArg (swap (a := 16) (b := 32)) ((early3 m ρ c main_v20 (by decide)).trans (in7 m ρ c).2.2)).trans (swap_swap _))
    ((out7 m ρ c).1.trans (congrArg (swap (a := 16) (b := 32)) (W5_arr m ρ c 12)))
    ((out7 m ρ c).2.1.trans (congrArg (swap (a := 16) (b := 32)) (W5_arr m ρ c 13)))
    ((out7 m ρ c).2.2.1.trans (congrArg (swap (a := 16) (b := 32)) (W5_arr m ρ c 14)))
    ((out7 m ρ c).2.2.2.trans (congrArg (swap (a := 16) (b := 32)) (W5_arr m ρ c 15)))

set_option maxHeartbeats 2000000 in
omit c in
/-- The run of the optimiser on the state-space weights: the step on each of the eight weights, of the arguments it was
    launched with, and the arguments kept. -/
theorem results : θ_run defs (onTc (τ := τ) (main (F := Ideal))) ⟨m, fun _ => 0, ρ⟩ (fun r => ∀ c : Dev nD,
      Stepped (w0 m c) (g0 m c) (m0 m c) (u0 m c) (r.2.mem ((c : Thread nD τ).loc main_v21_0)) (r.2.mem ((c : Thread nD τ).loc main_v21_1)) (r.2.mem ((c : Thread nD τ).loc main_v21_2)) (r.2.mem ((c : Thread nD τ).loc main_v21_3))
      ∧ Stepped (w1 m c) (g1 m c) (m1 m c) (u1 m c) (r.2.mem ((c : Thread nD τ).loc main_v21_4)) (r.2.mem ((c : Thread nD τ).loc main_v21_5)) (r.2.mem ((c : Thread nD τ).loc main_v21_6)) (r.2.mem ((c : Thread nD τ).loc main_v21_7))
      ∧ Stepped (w2 m c) (g2 m c) (m2 m c) (u2 m c) (r.2.mem ((c : Thread nD τ).loc main_v22_0)) (r.2.mem ((c : Thread nD τ).loc main_v22_1)) (r.2.mem ((c : Thread nD τ).loc main_v22_2)) (r.2.mem ((c : Thread nD τ).loc main_v22_3))
      ∧ Stepped (w3 m c) (g3 m c) (m3 m c) (u3 m c) (r.2.mem ((c : Thread nD τ).loc main_v26)) (r.2.mem ((c : Thread nD τ).loc main_v28)) (r.2.mem ((c : Thread nD τ).loc main_v30)) (r.2.mem ((c : Thread nD τ).loc main_v32))
      ∧ Stepped (w4 m c) (g4 m c) (m4 m c) (u4 m c) (r.2.mem ((c : Thread nD τ).loc main_v34)) (r.2.mem ((c : Thread nD τ).loc main_v36)) (r.2.mem ((c : Thread nD τ).loc main_v38)) (r.2.mem ((c : Thread nD τ).loc main_v40))
      ∧ Stepped (w5 m c) (g5 m c) (m5 m c) (u5 m c) (r.2.mem ((c : Thread nD τ).loc main_v41)) (r.2.mem ((c : Thread nD τ).loc main_v42)) (r.2.mem ((c : Thread nD τ).loc main_v43)) (r.2.mem ((c : Thread nD τ).loc main_v44))
      ∧ Stepped (w6 m c) (g6 m c) (m6 m c) (u6 m c) (r.2.mem ((c : Thread nD τ).loc main_v45)) (r.2.mem ((c : Thread nD τ).loc main_v46)) (r.2.mem ((c : Thread nD τ).loc main_v47)) (r.2.mem ((c : Thread nD τ).loc main_v48))
      ∧ Stepped (w7 m c) (g7 m c) (m7 m c) (u7 m c) (r.2.mem ((c : Thread nD τ).loc main_v49)) (r.2.mem ((c : Thread nD τ).loc main_v50)) (r.2.mem ((c : Thread nD τ).loc main_v51)) (r.2.mem ((c : Thread nD τ).loc main_v52))
      ∧ ∀ a ∈ argRefs, r.2.mem ((c : Thread nD τ).loc a) = m ((c : Thread nD τ).loc a)) :=
  (θ_run defs _ _).mono (fun _ h c =>
    ⟨(step0 m ρ c).of_eq rfl rfl rfl rfl (h c _ (mem_uc main_v21_0 (by decide))) (h c _ (mem_uc main_v21_1 (by decide))) (h c _ (mem_uc main_v21_2 (by decide))) (h c _ (mem_uc main_v21_3 (by decide))),
     (step1 m ρ c).of_eq rfl rfl rfl rfl (h c _ (mem_uc main_v21_4 (by decide))) (h c _ (mem_uc main_v21_5 (by decide))) (h c _ (mem_uc main_v21_6 (by decide))) (h c _ (mem_uc main_v21_7 (by decide))),
     (step2 m ρ c).of_eq rfl rfl rfl rfl (h c _ (mem_uc main_v22_0 (by decide))) (h c _ (mem_uc main_v22_1 (by decide))) (h c _ (mem_uc main_v22_2 (by decide))) (h c _ (mem_uc main_v22_3 (by decide))),
     (step3 m ρ c).of_eq rfl rfl rfl rfl (h c _ (mem_uc main_v26 (by decide))) (h c _ (mem_uc main_v28 (by decide))) (h c _ (mem_uc main_v30 (by decide))) (h c _ (mem_uc main_v32 (by decide))),
     (step4 m ρ c).of_eq rfl rfl rfl rfl (h c _ (mem_uc main_v34 (by decide))) (h c _ (mem_uc main_v36 (by decide))) (h c _ (mem_uc main_v38 (by decide))) (h c _ (mem_uc main_v40 (by decide))),
     (step5 m ρ c).of_eq rfl rfl rfl rfl (h c _ (mem_uc main_v41 (by decide))) (h c _ (mem_uc main_v42 (by decide))) (h c _ (mem_uc main_v43 (by decide))) (h c _ (mem_uc main_v44 (by decide))),
     (step6 m ρ c).of_eq rfl rfl rfl rfl (h c _ (mem_uc main_v45 (by decide))) (h c _ (mem_uc main_v46 (by decide))) (h c _ (mem_uc main_v47 (by decide))) (h c _ (mem_uc main_v48 (by decide))),
     (step7 m ρ c).of_eq rfl rfl rfl rfl (h c _ (mem_uc main_v49 (by decide))) (h c _ (mem_uc main_v50 (by decide))) (h c _ (mem_uc main_v51 (by decide))) (h c _ (mem_uc main_v52 (by decide))),
     fun a ha => (h c _ (mem_uc a ((by decide : ∀ a ∈ argRefs, ¬ (Proc.devRef .tc a : DevRef τ sig).isScoped) a ha))).trans (W6_args m ρ c a ha)⟩) (StateAll.run_all m ρ)

end Results

end Cert.Proof.StateRun

end
-- ==== Proof.StateRef.lean ====
/-
  The state-space weights' reference: its thirty-two results, and the agreement with the optimiser's calls.
-/
module

public import proofs.«01_k».proof.Defs
public import proofs.«01_k».proof.Proof.StateRun
public import proofs.«01_k».proof.Proof.Gen.StateRefIdeal.Run
public import Idealize.ShloMosaic.Lib.Quiescent

@[expose] public section

set_option maxRecDepth 16384

noncomputable section

namespace Cert.Proof.StateRef

open Idealize.ShloMosaic.TcCoe Idealize.SL.Sem Idealize.ShloMosaic.Ideal
open Idealize.ShloMosaic hiding ix1 ix2 ix3 eq_ix1 eq_ix2
open Idealize.ShloMosaic.ValueIdx
open Cert.Proof.AdamSpec Cert.Proof.AdamBig Cert.Proof.StateStep

section Reference

open Cert.StateRefIdeal Cert.StateRefIdeal.Gen Cert.StateRefIdeal.Value Idealize.ShloMosaic.StableHlo

variable (m : (ℓ : Loc nD τ sig) → Buf (Elt Ideal) ℓ) (c : Dev nD)

abbrev arg (a : Ref sig .tc) := m ((c : Thread nD τ).loc a)

/-! ### The gradients -/

theorem grad0 : res_main_v0 (launchContents m c) = (total (arg m c main_arg0 : (⟨3, ![8, 32, 64]⟩ : Shape).Idx → EReal)) :=
  host_total (n := 8) (a := 32) (b := 64) _ _ _
theorem grad1 : res_main_v25 (launchContents m c) = (total (arg m c main_arg1 : (⟨3, ![8, 32, 64]⟩ : Shape).Idx → EReal)) :=
  host_total (n := 8) (a := 32) (b := 64) _ _ _
theorem grad2 : res_main_v50 (launchContents m c) = (total (arg m c main_arg2 : (⟨3, ![8, 1, 32]⟩ : Shape).Idx → EReal)) :=
  host_total (n := 8) (a := 1) (b := 32) _ _ _
theorem grad3 : res_main_v77 (launchContents m c) = turn (rows (total (arg m c main_arg3 : (⟨3, ![8, 512, 64]⟩ : Shape).Idx → EReal))) :=
  congrArg (fun x => turn (rows x)) (host_total (n := 8) (a := 512) (b := 64) _ _ _)
theorem grad4 : res_main_v104 (launchContents m c) = turn (rows (total (arg m c main_arg4 : (⟨3, ![8, 512, 64]⟩ : Shape).Idx → EReal))) :=
  congrArg (fun x => turn (rows x)) (host_total (n := 8) (a := 512) (b := 64) _ _ _)
theorem grad5 : res_main_v130 (launchContents m c) = rows (total (arg m c main_arg5 : (⟨3, ![8, 512, 64]⟩ : Shape).Idx → EReal)) :=
  congrArg rows (host_total (n := 8) (a := 512) (b := 64) _ _ _)
theorem grad6 : res_main_v156 (launchContents m c) = rows (total (arg m c main_arg6 : (⟨3, ![8, 512, 64]⟩ : Shape).Idx → EReal)) :=
  congrArg rows (host_total (n := 8) (a := 512) (b := 64) _ _ _)
theorem grad7 : res_main_v182 (launchContents m c) = swap (a := 16) (b := 32) (total (arg m c main_arg7 : (⟨3, ![8, 16, 32]⟩ : Shape).Idx → EReal)) :=
  (swap_eq (a := 16) (b := 32) _ _).trans (congrArg swap (host_total (n := 8) (a := 16) (b := 32) _ _ _))

end Reference

/-- The reference terminates, keeps its arguments, and has no counter to leave. -/
theorem reference_frame : Cert.quiescent_StateRefIdeal (hStateRefIdeal := Cert.StateRefIdeal.Gen.facts) :=
  fun m ρ _ => (θ_run Cert.StateRefIdeal.defs _ _).mono
    (fun r h => ⟨fun c => (h c).2.2.2.2.2.2.2.2.2.2.2.2.2.2.2.2.2.2.2.2.2.2.2.2.2.2.2.2.2.2.2.2, sem_eq_zero_of_no_sems (by decide) r.2⟩)
    (Cert.StateRefIdeal.Value.run (F := Ideal) m ρ)

open StateRun Cert.StateRefIdeal in
set_option maxHeartbeats 2000000 in
theorem value : Cert.algebraic_StateIdeal_StateRefIdeal (hStateIdeal := Cert.StateIdeal.Gen.facts)
    (hStateRefIdeal := Cert.StateRefIdeal.Gen.facts) := by
  intro m g m' g' _ hargs
  refine ⟨g0 m, fun c => delta (w0 m c) (g0 m c) (m0 m c) (u0 m c), fun c => mom (g0 m c) (m0 m c), fun c => var (g0 m c) (u0 m c),
    g1 m, fun c => delta (w1 m c) (g1 m c) (m1 m c) (u1 m c), fun c => mom (g1 m c) (m1 m c), fun c => var (g1 m c) (u1 m c),
    g2 m, fun c => delta (w2 m c) (g2 m c) (m2 m c) (u2 m c), fun c => mom (g2 m c) (m2 m c), fun c => var (g2 m c) (u2 m c),
    g3 m, fun c => delta (w3 m c) (g3 m c) (m3 m c) (u3 m c), fun c => mom (g3 m c) (m3 m c), fun c => var (g3 m c) (u3 m c),
    g4 m, fun c => delta (w4 m c) (g4 m c) (m4 m c) (u4 m c), fun c => mom (g4 m c) (m4 m c), fun c => var (g4 m c) (u4 m c),
    g5 m, fun c => delta (w5 m c) (g5 m c) (m5 m c) (u5 m c), fun c => mom (g5 m c) (m5 m c), fun c => var (g5 m c) (u5 m c),
    g6 m, fun c => delta (w6 m c) (g6 m c) (m6 m c) (u6 m c), fun c => mom (g6 m c) (m6 m c), fun c => var (g6 m c) (u6 m c),
    g7 m, fun c => delta (w7 m c) (g7 m c) (m7 m c) (u7 m c), fun c => mom (g7 m c) (m7 m c), fun c => var (g7 m c) (u7 m c),
    (θ_run Cert.StateIdeal.defs _ _).mono (fun r h c => ?_) (StateRun.results m g), (θ_run Cert.StateRefIdeal.defs _ _).mono (fun r h c => ?_) (Cert.StateRefIdeal.Value.run (F := Ideal) m' g')⟩
  · obtain ⟨⟨h0, h1, h2, h3⟩, ⟨h4, h5, h6, h7⟩, ⟨h8, h9, h10, h11⟩, ⟨h12, h13, h14, h15⟩, ⟨h16, h17, h18, h19⟩, ⟨h20, h21, h22, h23⟩, ⟨h24, h25, h26, h27⟩, ⟨h28, h29, h30, h31⟩, hk⟩ := h c
    refine ⟨h0, h1, h2, h3, h4, h5, h6, h7, h8, h9, h10, h11, h12, h13, h14, h15, h16, h17, h18, h19, h20, h21, h22, h23, h24, h25, h26, h27, h28, h29, h30, h31, ?_⟩
    repeat' apply And.intro
    all_goals exact hk _ (by decide)
  obtain ⟨e0, e1, e2, e3, e4, e5, e6, e7, e8, e9, e10, e11, e12, e13, e14, e15, e16, e17, e18, e19, e20, e21, e22, e23, e24, e25, e26, e27, e28, e29, e30, e31⟩ := hargs c
  obtain ⟨h0, h1, h2, h3, h4, h5, h6, h7, h8, h9, h10, h11, h12, h13, h14, h15, h16, h17, h18, h19, h20, h21, h22, h23, h24, h25, h26, h27, h28, h29, h30, h31, hk⟩ := h c
  obtain ⟨h0, h1, h2, h3⟩ := (Stepped.of_grad (s := ⟨2, ![32, 64]⟩) (w := arg m' c main_arg8) (m := arg m' c main_arg16) (v := arg m' c main_arg24) (grad0 m' c) h0 h1 h2 h3).of_eq
    e8 (congrArg (fun x : (⟨3, ![8, 32, 64]⟩ : Shape).Idx → EReal => (total x)) e0) e16 e24 rfl rfl rfl rfl
  obtain ⟨h4, h5, h6, h7⟩ := (Stepped.of_grad (s := ⟨2, ![32, 64]⟩) (w := arg m' c main_arg9) (m := arg m' c main_arg17) (v := arg m' c main_arg25) (grad1 m' c) h4 h5 h6 h7).of_eq
    e9 (congrArg (fun x : (⟨3, ![8, 32, 64]⟩ : Shape).Idx → EReal => (total x)) e1) e17 e25 rfl rfl rfl rfl
  obtain ⟨h8, h9, h10, h11⟩ := (Stepped.of_grad (s := ⟨2, ![1, 32]⟩) (w := arg m' c main_arg10) (m := arg m' c main_arg18) (v := arg m' c main_arg26) (grad2 m' c) h8 h9 h10 h11).of_eq
    e10 (congrArg (fun x : (⟨3, ![8, 1, 32]⟩ : Shape).Idx → EReal => (total x)) e2) e18 e26 rfl rfl rfl rfl
  obtain ⟨h12, h13, h14, h15⟩ := (Stepped.of_grad (s := Turned) (w := arg m' c main_arg11) (m := arg m' c main_arg19) (v := arg m' c main_arg27) (grad3 m' c) h12 h13 h14 h15).of_eq
    e11 (congrArg (fun x : (⟨3, ![8, 512, 64]⟩ : Shape).Idx → EReal => turn (rows (total x))) e3) e19 e27 rfl rfl rfl rfl
  obtain ⟨h16, h17, h18, h19⟩ := (Stepped.of_grad (s := Turned) (w := arg m' c main_arg12) (m := arg m' c main_arg20) (v := arg m' c main_arg28) (grad4 m' c) h16 h17 h18 h19).of_eq
    e12 (congrArg (fun x : (⟨3, ![8, 512, 64]⟩ : Shape).Idx → EReal => turn (rows (total x))) e4) e20 e28 rfl rfl rfl rfl
  obtain ⟨h20, h21, h22, h23⟩ := (Stepped.of_grad (s := Cube) (w := arg m' c main_arg13) (m := arg m' c main_arg21) (v := arg m' c main_arg29) (grad5 m' c) h20 h21 h22 h23).of_eq
    e13 (congrArg (fun x : (⟨3, ![8, 512, 64]⟩ : Shape).Idx → EReal => rows (total x)) e5) e21 e29 rfl rfl rfl rfl
  obtain ⟨h24, h25, h26, h27⟩ := (Stepped.of_grad (s := Cube) (w := arg m' c main_arg14) (m := arg m' c main_arg22) (v := arg m' c main_arg30) (grad6 m' c) h24 h25 h26 h27).of_eq
    e14 (congrArg (fun x : (⟨3, ![8, 512, 64]⟩ : Shape).Idx → EReal => rows (total x)) e6) e22 e30 rfl rfl rfl rfl
  obtain ⟨h28, h29, h30, h31⟩ := (Stepped.of_grad (s := ⟨2, ![32, 16]⟩) (w := arg m' c main_arg15) (m := arg m' c main_arg23) (v := arg m' c main_arg31) (grad7 m' c) h28 h29 h30 h31).of_eq
    e15 (congrArg (fun x : (⟨3, ![8, 16, 32]⟩ : Shape).Idx → EReal => swap (a := 16) (b := 32) (total x)) e7) e23 e31 rfl rfl rfl rfl
  exact ⟨h0, h1, h2, h3, h4, h5, h6, h7, h8, h9, h10, h11, h12, h13, h14, h15, h16, h17, h18, h19, h20, h21, h22, h23, h24, h25, h26, h27, h28, h29, h30, h31, hk⟩

end Cert.Proof.StateRef

end
-- ==== Proof.lean ====
module

public import proofs.«01_k».proof.Proof.Gen.Norm.Frame
public import proofs.«01_k».proof.Proof.Gen.NormIdeal.Value
public import proofs.«01_k».proof.Proof.Gen.NormRefIdeal.Run
public import proofs.«01_k».proof.Proof.Gen.Loss.Frame
public import proofs.«01_k».proof.Proof.Gen.LossIdeal.Value
public import proofs.«01_k».proof.Proof.Gen.LossRefIdeal.Run
public import proofs.«01_k».proof.Proof.Gen.Merge.Frame
public import proofs.«01_k».proof.Proof.Gen.MergeIdeal.Frame
public import proofs.«01_k».proof.Proof.Gen.MergeRefIdeal.Run
public import proofs.«01_k».proof.Proof.Gen.Mix.Frame
public import proofs.«01_k».proof.Proof.Gen.MixIdeal.Value
public import proofs.«01_k».proof.Proof.Gen.MixRefIdeal.Run
public import proofs.«01_k».proof.Proof.Gen.Proj.Frame
public import proofs.«01_k».proof.Proof.Gen.ProjIdeal.Frame
public import proofs.«01_k».proof.Proof.Gen.ProjRefIdeal.Run
public import proofs.«01_k».proof.Proof.Gen.Rope.Frame
public import proofs.«01_k».proof.Proof.Gen.RopeIdeal.Value
public import proofs.«01_k».proof.Proof.Gen.RopeRefIdeal.Run
public import proofs.«01_k».proof.Proof.Gen.Prep.Frame
public import proofs.«01_k».proof.Proof.Gen.PrepIdeal.Frame
public import proofs.«01_k».proof.Proof.Gen.PrepRefIdeal.Run
public import proofs.«01_k».proof.Proof.Gen.Adam.Frame
public import proofs.«01_k».proof.Proof.Gen.State.Frame
public import proofs.«01_k».proof.Proof.Gen.StateIdeal.Frame
public import proofs.«01_k».proof.Proof.Gen.StateRefIdeal.Run
public import proofs.«01_k».proof.Proof.Gen.AdamIdeal.Frame
public import proofs.«01_k».proof.Proof.Gen.AdamRefIdeal.Run
public import proofs.«01_k».proof.Proof.Gen.Gains.Frame
public import proofs.«01_k».proof.Proof.Gen.GainsIdeal.Frame
public import proofs.«01_k».proof.Proof.Gen.GainsRefIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_all_finite
public import proofs.«01_k».proof.Proof.Agree
public import proofs.«01_k».proof.Proof.NormRef
public import proofs.«01_k».proof.Proof.LossRef
public import proofs.«01_k».proof.Proof.MergeRef
public import proofs.«01_k».proof.Proof.MixRef
public import proofs.«01_k».proof.Proof.ProjRef
public import proofs.«01_k».proof.Proof.RopeRef
public import proofs.«01_k».proof.Proof.PrepRef
public import proofs.«01_k».proof.Proof.GainsRef
public import proofs.«01_k».proof.Proof.AdamRef
public import proofs.«01_k».proof.Proof.StateRef
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Norm.Gen.facts, Cert.NormIdeal.Gen.facts, Cert.NormRefIdeal.Gen.facts, Cert.Loss.Gen.facts, Cert.LossIdeal.Gen.facts, Cert.LossRefIdeal.Gen.facts, Cert.Merge.Gen.facts, Cert.MergeIdeal.Gen.facts, Cert.MergeRefIdeal.Gen.facts, Cert.Mix.Gen.facts, Cert.MixIdeal.Gen.facts, Cert.MixRefIdeal.Gen.facts, Cert.Proj.Gen.facts, Cert.ProjIdeal.Gen.facts, Cert.ProjRefIdeal.Gen.facts, Cert.Rope.Gen.facts, Cert.RopeIdeal.Gen.facts, Cert.RopeRefIdeal.Gen.facts, Cert.Prep.Gen.facts, Cert.PrepIdeal.Gen.facts, Cert.PrepRefIdeal.Gen.facts, Cert.Gains.Gen.facts, Cert.GainsIdeal.Gen.facts, Cert.GainsRefIdeal.Gen.facts, Cert.Adam.Gen.facts, Cert.AdamIdeal.Gen.facts, Cert.AdamRefIdeal.Gen.facts, Cert.State.Gen.facts, Cert.StateIdeal.Gen.facts, Cert.StateRefIdeal.Gen.facts, Cert.Pre_all_finite.Gen.facts,
  fun m ρ _ => Cert.Kernel.Gen.frame m ρ, fun m ρ _ => Cert.KernelIdeal.Gen.frame m ρ,
  fun m ρ _ => Cert.KernelIdeal.Gen.frame m ρ, Agree.reference_frame, fun m ρ _ => Agree.reference_frame m ρ trivial,
  fun m ρ _ => Cert.Norm.Gen.frame m ρ, fun m ρ _ => Cert.NormIdeal.Gen.frame m ρ, NormRef.reference_frame,
  fun m ρ _ => Cert.Loss.Gen.frame m ρ, fun m ρ _ => Cert.LossIdeal.Gen.frame m ρ, LossRef.reference_frame,
  fun m ρ _ => Cert.Merge.Gen.frame m ρ, fun m ρ _ => Cert.MergeIdeal.Gen.frame m ρ, MergeRef.reference_frame,
  fun m ρ _ => Cert.Mix.Gen.frame m ρ, fun m ρ _ => Cert.MixIdeal.Gen.frame m ρ, MixRef.reference_frame,
  fun m ρ _ => Cert.Proj.Gen.frame m ρ, fun m ρ _ => Cert.ProjIdeal.Gen.frame m ρ, ProjRef.reference_frame,
  fun m ρ _ => Cert.Rope.Gen.frame m ρ, fun m ρ _ => Cert.RopeIdeal.Gen.frame m ρ, RopeRef.reference_frame,
  fun m ρ _ => Cert.Prep.Gen.frame m ρ, fun m ρ _ => Cert.PrepIdeal.Gen.frame m ρ, PrepRef.reference_frame,
  fun m ρ _ => Cert.Gains.Gen.frame m ρ, fun m ρ _ => Cert.GainsIdeal.Gen.frame m ρ, GainsRef.reference_frame,
  fun m ρ _ => Cert.Adam.Gen.frame m ρ, fun m ρ _ => Cert.AdamIdeal.Gen.frame m ρ, AdamRef.reference_frame,
  fun m ρ _ => Cert.State.Gen.frame m ρ, fun m ρ _ => Cert.StateIdeal.Gen.frame m ρ, StateRef.reference_frame,
  trivial, Agree.value, trivial, NormRef.value, trivial, LossRef.value, trivial, MergeRef.value, trivial, MixRef.value, trivial, ProjRef.value, trivial, RopeRef.value, trivial, PrepRef.value, trivial, GainsRef.value, trivial, AdamRef.value, trivial, StateRef.value⟩

end Cert.Proof

end
